-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S2x9216x1920 : Shape := ⟨3, ![2, 9216, 1920]⟩
abbrev S2x32 : Shape := ⟨2, ![2, 32]⟩
abbrev S1920 : Shape := ⟨1, ![1920]⟩
abbrev S_ : Shape := ⟨0, ![]⟩

class Facts : Prop where
  bcast_S_S2x32 : S_.BroadcastsInDim S2x32 (![] : Fin 0 → Fin S2x32.rank)
  bcast_S_S1920 : S_.BroadcastsInDim S1920 (![] : Fin 0 → Fin S1920.rank)

variable [Facts]

def fn {F : FTy → Type} [FloatOps F] (main_arg0 : FVec F S2x9216x1920 .fp8e4m3) (main_arg1 : FVec F S2x32 .f32) (main_arg2 : FVec F S1920 .f32) (main_arg3 : FVec F S1920 .f32) : IVec S2x32 1 × IVec S1920 1 × IVec S1920 1 :=
  let main_cst : FVec F S_ .f32 := constant S_ .f32 0x00000000#32
  let main_v0 : FVec F S2x32 .f32 := broadcastInDim S2x32 ![] bcast_S_S2x32 main_cst
  let main_v1 : IVec S2x32 1 := cmpf .oge main_arg1 main_v0
  let main_v2 : FVec F S1920 .f32 := Host.absf main_arg2
  let main_cst_0 : FVec F S_ .f32 := constant S_ .f32 0x7CF0BDC2#32
  let main_v3 : FVec F S1920 .f32 := broadcastInDim S1920 ![] bcast_S_S1920 main_cst_0
  let main_v4 : IVec S1920 1 := cmpf .ole main_v2 main_v3
  let main_v5 : FVec F S1920 .f32 := Host.absf main_arg3
  let main_cst_1 : FVec F S_ .f32 := constant S_ .f32 0x7CF0BDC2#32
  let main_v6 : FVec F S1920 .f32 := broadcastInDim S1920 ![] bcast_S_S1920 main_cst_1
  let main_v7 : IVec S1920 1 := cmpf .ole main_v5 main_v6
  (main_v1, main_v4, main_v7)
-- ==== Kernel.lean ====
abbrev S2x9216x1920 : Shape := ⟨3, ![2, 9216, 1920]⟩
abbrev S2x32 : Shape := ⟨2, ![2, 32]⟩
abbrev S1920 : Shape := ⟨1, ![1920]⟩
abbrev S18432x1920 : Shape := ⟨2, ![18432, 1920]⟩
abbrev S1x1920 : Shape := ⟨2, ![1, 1920]⟩
abbrev S1x1 : Shape := ⟨2, ![1, 1]⟩
abbrev S2x16x1920 : Shape := ⟨3, ![2, 16, 1920]⟩
abbrev S2x1920 : Shape := ⟨2, ![2, 1920]⟩
abbrev S72 : Shape := ⟨1, ![72]⟩
abbrev S_ : Shape := ⟨0, ![]⟩
abbrev S1 : Shape := ⟨1, ![1]⟩
abbrev S256x1920 : Shape := ⟨2, ![256, 1920]⟩
abbrev S1920x32 : Shape := ⟨2, ![1920, 32]⟩
abbrev S16x128 : Shape := ⟨2, ![16, 128]⟩
abbrev S1x128 : Shape := ⟨2, ![1, 128]⟩
abbrev S32x128 : Shape := ⟨2, ![32, 128]⟩
abbrev S1x16x128 : Shape := ⟨3, ![1, 16, 128]⟩
abbrev S1x2x32 : Shape := ⟨3, ![1, 2, 32]⟩
abbrev S1x1x1 : Shape := ⟨3, ![1, 1, 1]⟩
abbrev S1x2x1920 : Shape := ⟨3, ![1, 2, 1920]⟩
abbrev S1x2x16x1920 : Shape := ⟨4, ![1, 2, 16, 1920]⟩
abbrev S1x1x1x1 : Shape := ⟨4, ![1, 1, 1, 1]⟩

abbrev nBuf : Space → Nat
  | .hbm => 9
  | .vmem => 11
  | .smem => 1
  | _ => 0

abbrev bufTy : (tb : Table) → Fin (tcTables nBuf tb) → BufTy
  | .hbm, ⟨0, _⟩ => ⟨S2x9216x1920, .fp8e4m3⟩
  | .hbm, ⟨1, _⟩ => ⟨S2x32, .f32⟩
  | .hbm, ⟨2, _⟩ => ⟨S1920, .f32⟩
  | .hbm, ⟨3, _⟩ => ⟨S1920, .f32⟩
  | .hbm, ⟨4, _⟩ => ⟨S18432x1920, .fp8e4m3⟩
  | .hbm, ⟨5, _⟩ => ⟨S1x1920, .f32⟩
  | .hbm, ⟨6, _⟩ => ⟨S1x1920, .f32⟩
  | .hbm, ⟨7, _⟩ => ⟨S18432x1920, .fp8e4m3⟩
  | .hbm, ⟨8, _⟩ => ⟨S1x1, .f32⟩
  | .local _ .vmem, ⟨0, _⟩ => ⟨S2x32, .f32⟩
  | .local _ .vmem, ⟨1, _⟩ => ⟨S1x1920, .f32⟩
  | .local _ .vmem, ⟨2, _⟩ => ⟨S1x1920, .f32⟩
  | .local _ .vmem, ⟨3, _⟩ => ⟨S18432x1920, .fp8e4m3⟩
  | .local _ .vmem, ⟨4, _⟩ => ⟨S2x16x1920, .f32⟩
  | .local _ .vmem, ⟨5, _⟩ => ⟨S2x16x1920, .f32⟩
  | .local _ .vmem, ⟨6, _⟩ => ⟨S2x16x1920, .bf16⟩
  | .local _ .vmem, ⟨7, _⟩ => ⟨S2x1920, .f32⟩
  | .local _ .vmem, ⟨8, _⟩ => ⟨S2x1920, .f32⟩
  | .local _ .vmem, ⟨9, _⟩ => ⟨S2x1920, .f32⟩
  | .local _ .vmem, ⟨10, _⟩ => ⟨S2x32, .f32⟩
  | .local _ .smem, ⟨0, _⟩ => ⟨S1x1, .f32⟩
  | _, _ => ⟨S2x9216x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c72_i32 : BitVec 32 := 72#32
  let v0 : BitVec 32 := Scalar.addi c0_i32 c72_i32
  let c1_i32 : BitVec 32 := 1#32
  ⟨c0_i32, v0, c1_i32⟩
def k0_mult1 (k0_t1 : Fin k0_t1_loop.trips) : BitVec 32 :=
  let c0_i32_152 : BitVec 32 := 0#32
  let c0_i32 : BitVec 32 := 0#32
  let c1_i32 : BitVec 32 := 1#32
  let arg16 : BitVec 32 := Scf.iv c0_i32 c1_i32 k0_t1
  let c1_i32_151 : BitVec 32 := 1#32
  let v274 : BitVec 32 := Scalar.muli arg16 c1_i32_151
  let v275 : BitVec 32 := Scalar.addi c0_i32_152 v274
  let c256_i32 : BitVec 32 := 256#32
  let v276 : BitVec 32 := Scalar.muli v275 c256_i32
  v276
def k0_off1 (k0_t1 : Fin k0_t1_loop.trips) : Fin 1 → Nat :=
  let c0_i32_152 : BitVec 32 := 0#32
  let c0_i32 : BitVec 32 := 0#32
  let c1_i32 : BitVec 32 := 1#32
  let arg16 : BitVec 32 := Scf.iv c0_i32 c1_i32 k0_t1
  let c1_i32_151 : BitVec 32 := 1#32
  let v274 : BitVec 32 := Scalar.muli arg16 c1_i32_151
  let v275 : BitVec 32 := Scalar.addi c0_i32_152 v274
  ![v275.toNat]
def k0_off2 (k0_t1 : Fin k0_t1_loop.trips) : Fin 2 → Nat :=
  let c0_i32_152 : BitVec 32 := 0#32
  let c0_i32 : BitVec 32 := 0#32
  let c1_i32 : BitVec 32 := 1#32
  let arg16 : BitVec 32 := Scf.iv c0_i32 c1_i32 k0_t1
  let c1_i32_151 : BitVec 32 := 1#32
  let v274 : BitVec 32 := Scalar.muli arg16 c1_i32_151
  let v275 : BitVec 32 := Scalar.addi c0_i32_152 v274
  let c256_i32 : BitVec 32 := 256#32
  let v276 : BitVec 32 := Scalar.muli v275 c256_i32
  let v277 : BitVec 32 := v276
  let c0_i32_153 : BitVec 32 := 0#32
  ![v277.toNat, 0]
@[reducible] def k0_t2_loop : Scf.Loop 32 :=
  let c0_i32_18 : BitVec 32 := 0#32
  let c36_i32 : BitVec 32 := 36#32
  let v31 : BitVec 32 := Scalar.addi c0_i32_18 c36_i32
  let c1_i32_19 : BitVec 32 := 1#32
  ⟨c0_i32_18, v31, c1_i32_19⟩
def k0_mult2 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32 : BitVec 32 := 256#32
  let v277 : BitVec 32 := Scalar.muli v276 c256_i32
  v277
def k0_off3 (k0_t2 : Fin k0_t2_loop.trips) : Fin 1 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  ![v276.toNat]
def k0_off4 (k0_t2 : Fin k0_t2_loop.trips) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32 : BitVec 32 := 256#32
  let v277 : BitVec 32 := Scalar.muli v276 c256_i32
  let v278 : BitVec 32 := v277
  let c0_i32_154 : BitVec 32 := 0#32
  ![v278.toNat, 0]
def k0_mult3 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_159 : BitVec 32 := 256#32
  let v290 : BitVec 32 := Scalar.muli v276 c256_i32_159
  let c0_i32_160 : BitVec 32 := 0#32
  let v291 : BitVec 32 := Scalar.addi v290 c0_i32_160
  v291
def k0_off5 (k0_t2 : Fin k0_t2_loop.trips) (c0_i32_160 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_159 : BitVec 32 := 256#32
  let v290 : BitVec 32 := Scalar.muli v276 c256_i32_159
  let v291 : BitVec 32 := Scalar.addi v290 c0_i32_160
  let v292 : BitVec 32 := v291
  let v293 : Index := Scalar.indexCast v292
  let c0_161 : Index := 0#32
  ![v293.toNat, 0]
def k0_mult4 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_162 : BitVec 32 := 256#32
  let v311 : BitVec 32 := Scalar.muli v276 c256_i32_162
  let c32_i32_163 : BitVec 32 := 32#32
  let v312 : BitVec 32 := Scalar.addi v311 c32_i32_163
  v312
def k0_mult5 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_165 : BitVec 32 := 256#32
  let v335 : BitVec 32 := Scalar.muli v276 c256_i32_165
  let c64_i32_166 : BitVec 32 := 64#32
  let v336 : BitVec 32 := Scalar.addi v335 c64_i32_166
  v336
def k0_mult6 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_168 : BitVec 32 := 256#32
  let v359 : BitVec 32 := Scalar.muli v276 c256_i32_168
  let c96_i32 : BitVec 32 := 96#32
  let v360 : BitVec 32 := Scalar.addi v359 c96_i32
  v360
def k0_mult7 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_170 : BitVec 32 := 256#32
  let v383 : BitVec 32 := Scalar.muli v276 c256_i32_170
  let c128_i32_171 : BitVec 32 := 128#32
  let v384 : BitVec 32 := Scalar.addi v383 c128_i32_171
  v384
def k0_mult8 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_173 : BitVec 32 := 256#32
  let v407 : BitVec 32 := Scalar.muli v276 c256_i32_173
  let c160_i32 : BitVec 32 := 160#32
  let v408 : BitVec 32 := Scalar.addi v407 c160_i32
  v408
def k0_mult9 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_175 : BitVec 32 := 256#32
  let v431 : BitVec 32 := Scalar.muli v276 c256_i32_175
  let c192_i32 : BitVec 32 := 192#32
  let v432 : BitVec 32 := Scalar.addi v431 c192_i32
  v432
def k0_mult10 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_177 : BitVec 32 := 256#32
  let v455 : BitVec 32 := Scalar.muli v276 c256_i32_177
  let c224_i32 : BitVec 32 := 224#32
  let v456 : BitVec 32 := Scalar.addi v455 c224_i32
  v456
def k0_mult11 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_200 : BitVec 32 := 256#32
  let v504 : BitVec 32 := Scalar.muli v276 c256_i32_200
  let c0_i32_201 : BitVec 32 := 0#32
  let v505 : BitVec 32 := Scalar.addi v504 c0_i32_201
  v505
def k0_off6 (k0_t2 : Fin k0_t2_loop.trips) (c0_i32_201 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_200 : BitVec 32 := 256#32
  let v504 : BitVec 32 := Scalar.muli v276 c256_i32_200
  let v505 : BitVec 32 := Scalar.addi v504 c0_i32_201
  let v506 : BitVec 32 := v505
  let v507 : Index := Scalar.indexCast v506
  let c128 : Index := 128#32
  ![v507.toNat, 128]
def k0_mult12 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_202 : BitVec 32 := 256#32
  let v525 : BitVec 32 := Scalar.muli v276 c256_i32_202
  let c32_i32_203 : BitVec 32 := 32#32
  let v526 : BitVec 32 := Scalar.addi v525 c32_i32_203
  v526
def k0_mult13 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_205 : BitVec 32 := 256#32
  let v549 : BitVec 32 := Scalar.muli v276 c256_i32_205
  let c64_i32_206 : BitVec 32 := 64#32
  let v550 : BitVec 32 := Scalar.addi v549 c64_i32_206
  v550
def k0_mult14 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_208 : BitVec 32 := 256#32
  let v573 : BitVec 32 := Scalar.muli v276 c256_i32_208
  let c96_i32_209 : BitVec 32 := 96#32
  let v574 : BitVec 32 := Scalar.addi v573 c96_i32_209
  v574
def k0_mult15 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_211 : BitVec 32 := 256#32
  let v597 : BitVec 32 := Scalar.muli v276 c256_i32_211
  let c128_i32_212 : BitVec 32 := 128#32
  let v598 : BitVec 32 := Scalar.addi v597 c128_i32_212
  v598
def k0_mult16 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_214 : BitVec 32 := 256#32
  let v621 : BitVec 32 := Scalar.muli v276 c256_i32_214
  let c160_i32_215 : BitVec 32 := 160#32
  let v622 : BitVec 32 := Scalar.addi v621 c160_i32_215
  v622
def k0_mult17 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_217 : BitVec 32 := 256#32
  let v645 : BitVec 32 := Scalar.muli v276 c256_i32_217
  let c192_i32_218 : BitVec 32 := 192#32
  let v646 : BitVec 32 := Scalar.addi v645 c192_i32_218
  v646
def k0_mult18 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_220 : BitVec 32 := 256#32
  let v669 : BitVec 32 := Scalar.muli v276 c256_i32_220
  let c224_i32_221 : BitVec 32 := 224#32
  let v670 : BitVec 32 := Scalar.addi v669 c224_i32_221
  v670
def k0_mult19 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_244 : BitVec 32 := 256#32
  let v718 : BitVec 32 := Scalar.muli v276 c256_i32_244
  let c0_i32_245 : BitVec 32 := 0#32
  let v719 : BitVec 32 := Scalar.addi v718 c0_i32_245
  v719
def k0_off7 (k0_t2 : Fin k0_t2_loop.trips) (c0_i32_245 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_244 : BitVec 32 := 256#32
  let v718 : BitVec 32 := Scalar.muli v276 c256_i32_244
  let v719 : BitVec 32 := Scalar.addi v718 c0_i32_245
  let v720 : BitVec 32 := v719
  let v721 : Index := Scalar.indexCast v720
  let c256 : Index := 256#32
  ![v721.toNat, 256]
def k0_mult20 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_246 : BitVec 32 := 256#32
  let v739 : BitVec 32 := Scalar.muli v276 c256_i32_246
  let c32_i32_247 : BitVec 32 := 32#32
  let v740 : BitVec 32 := Scalar.addi v739 c32_i32_247
  v740
def k0_mult21 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_249 : BitVec 32 := 256#32
  let v763 : BitVec 32 := Scalar.muli v276 c256_i32_249
  let c64_i32_250 : BitVec 32 := 64#32
  let v764 : BitVec 32 := Scalar.addi v763 c64_i32_250
  v764
def k0_mult22 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_252 : BitVec 32 := 256#32
  let v787 : BitVec 32 := Scalar.muli v276 c256_i32_252
  let c96_i32_253 : BitVec 32 := 96#32
  let v788 : BitVec 32 := Scalar.addi v787 c96_i32_253
  v788
def k0_mult23 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_255 : BitVec 32 := 256#32
  let v811 : BitVec 32 := Scalar.muli v276 c256_i32_255
  let c128_i32_256 : BitVec 32 := 128#32
  let v812 : BitVec 32 := Scalar.addi v811 c128_i32_256
  v812
def k0_mult24 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_258 : BitVec 32 := 256#32
  let v835 : BitVec 32 := Scalar.muli v276 c256_i32_258
  let c160_i32_259 : BitVec 32 := 160#32
  let v836 : BitVec 32 := Scalar.addi v835 c160_i32_259
  v836
def k0_mult25 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_261 : BitVec 32 := 256#32
  let v859 : BitVec 32 := Scalar.muli v276 c256_i32_261
  let c192_i32_262 : BitVec 32 := 192#32
  let v860 : BitVec 32 := Scalar.addi v859 c192_i32_262
  v860
def k0_mult26 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_264 : BitVec 32 := 256#32
  let v883 : BitVec 32 := Scalar.muli v276 c256_i32_264
  let c224_i32_265 : BitVec 32 := 224#32
  let v884 : BitVec 32 := Scalar.addi v883 c224_i32_265
  v884
def k0_mult27 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_288 : BitVec 32 := 256#32
  let v932 : BitVec 32 := Scalar.muli v276 c256_i32_288
  let c0_i32_289 : BitVec 32 := 0#32
  let v933 : BitVec 32 := Scalar.addi v932 c0_i32_289
  v933
def k0_off8 (k0_t2 : Fin k0_t2_loop.trips) (c0_i32_289 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_288 : BitVec 32 := 256#32
  let v932 : BitVec 32 := Scalar.muli v276 c256_i32_288
  let v933 : BitVec 32 := Scalar.addi v932 c0_i32_289
  let v934 : BitVec 32 := v933
  let v935 : Index := Scalar.indexCast v934
  let c384 : Index := 384#32
  ![v935.toNat, 384]
def k0_mult28 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_290 : BitVec 32 := 256#32
  let v953 : BitVec 32 := Scalar.muli v276 c256_i32_290
  let c32_i32_291 : BitVec 32 := 32#32
  let v954 : BitVec 32 := Scalar.addi v953 c32_i32_291
  v954
def k0_mult29 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_293 : BitVec 32 := 256#32
  let v977 : BitVec 32 := Scalar.muli v276 c256_i32_293
  let c64_i32_294 : BitVec 32 := 64#32
  let v978 : BitVec 32 := Scalar.addi v977 c64_i32_294
  v978
def k0_mult30 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_296 : BitVec 32 := 256#32
  let v1001 : BitVec 32 := Scalar.muli v276 c256_i32_296
  let c96_i32_297 : BitVec 32 := 96#32
  let v1002 : BitVec 32 := Scalar.addi v1001 c96_i32_297
  v1002
def k0_mult31 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_299 : BitVec 32 := 256#32
  let v1025 : BitVec 32 := Scalar.muli v276 c256_i32_299
  let c128_i32_300 : BitVec 32 := 128#32
  let v1026 : BitVec 32 := Scalar.addi v1025 c128_i32_300
  v1026
def k0_mult32 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_302 : BitVec 32 := 256#32
  let v1049 : BitVec 32 := Scalar.muli v276 c256_i32_302
  let c160_i32_303 : BitVec 32 := 160#32
  let v1050 : BitVec 32 := Scalar.addi v1049 c160_i32_303
  v1050
def k0_mult33 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_305 : BitVec 32 := 256#32
  let v1073 : BitVec 32 := Scalar.muli v276 c256_i32_305
  let c192_i32_306 : BitVec 32 := 192#32
  let v1074 : BitVec 32 := Scalar.addi v1073 c192_i32_306
  v1074
def k0_mult34 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_308 : BitVec 32 := 256#32
  let v1097 : BitVec 32 := Scalar.muli v276 c256_i32_308
  let c224_i32_309 : BitVec 32 := 224#32
  let v1098 : BitVec 32 := Scalar.addi v1097 c224_i32_309
  v1098
def k0_mult35 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_332 : BitVec 32 := 256#32
  let v1146 : BitVec 32 := Scalar.muli v276 c256_i32_332
  let c0_i32_333 : BitVec 32 := 0#32
  let v1147 : BitVec 32 := Scalar.addi v1146 c0_i32_333
  v1147
def k0_off9 (k0_t2 : Fin k0_t2_loop.trips) (c0_i32_333 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_332 : BitVec 32 := 256#32
  let v1146 : BitVec 32 := Scalar.muli v276 c256_i32_332
  let v1147 : BitVec 32 := Scalar.addi v1146 c0_i32_333
  let v1148 : BitVec 32 := v1147
  let v1149 : Index := Scalar.indexCast v1148
  let c512 : Index := 512#32
  ![v1149.toNat, 512]
def k0_mult36 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_334 : BitVec 32 := 256#32
  let v1167 : BitVec 32 := Scalar.muli v276 c256_i32_334
  let c32_i32_335 : BitVec 32 := 32#32
  let v1168 : BitVec 32 := Scalar.addi v1167 c32_i32_335
  v1168
def k0_mult37 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_337 : BitVec 32 := 256#32
  let v1191 : BitVec 32 := Scalar.muli v276 c256_i32_337
  let c64_i32_338 : BitVec 32 := 64#32
  let v1192 : BitVec 32 := Scalar.addi v1191 c64_i32_338
  v1192
def k0_mult38 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_340 : BitVec 32 := 256#32
  let v1215 : BitVec 32 := Scalar.muli v276 c256_i32_340
  let c96_i32_341 : BitVec 32 := 96#32
  let v1216 : BitVec 32 := Scalar.addi v1215 c96_i32_341
  v1216
def k0_mult39 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_343 : BitVec 32 := 256#32
  let v1239 : BitVec 32 := Scalar.muli v276 c256_i32_343
  let c128_i32_344 : BitVec 32 := 128#32
  let v1240 : BitVec 32 := Scalar.addi v1239 c128_i32_344
  v1240
def k0_mult40 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_346 : BitVec 32 := 256#32
  let v1263 : BitVec 32 := Scalar.muli v276 c256_i32_346
  let c160_i32_347 : BitVec 32 := 160#32
  let v1264 : BitVec 32 := Scalar.addi v1263 c160_i32_347
  v1264
def k0_mult41 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_349 : BitVec 32 := 256#32
  let v1287 : BitVec 32 := Scalar.muli v276 c256_i32_349
  let c192_i32_350 : BitVec 32 := 192#32
  let v1288 : BitVec 32 := Scalar.addi v1287 c192_i32_350
  v1288
def k0_mult42 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_352 : BitVec 32 := 256#32
  let v1311 : BitVec 32 := Scalar.muli v276 c256_i32_352
  let c224_i32_353 : BitVec 32 := 224#32
  let v1312 : BitVec 32 := Scalar.addi v1311 c224_i32_353
  v1312
def k0_mult43 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_376 : BitVec 32 := 256#32
  let v1360 : BitVec 32 := Scalar.muli v276 c256_i32_376
  let c0_i32_377 : BitVec 32 := 0#32
  let v1361 : BitVec 32 := Scalar.addi v1360 c0_i32_377
  v1361
def k0_off10 (k0_t2 : Fin k0_t2_loop.trips) (c0_i32_377 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_376 : BitVec 32 := 256#32
  let v1360 : BitVec 32 := Scalar.muli v276 c256_i32_376
  let v1361 : BitVec 32 := Scalar.addi v1360 c0_i32_377
  let v1362 : BitVec 32 := v1361
  let v1363 : Index := Scalar.indexCast v1362
  let c640 : Index := 640#32
  ![v1363.toNat, 640]
def k0_mult44 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_378 : BitVec 32 := 256#32
  let v1381 : BitVec 32 := Scalar.muli v276 c256_i32_378
  let c32_i32_379 : BitVec 32 := 32#32
  let v1382 : BitVec 32 := Scalar.addi v1381 c32_i32_379
  v1382
def k0_mult45 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_381 : BitVec 32 := 256#32
  let v1405 : BitVec 32 := Scalar.muli v276 c256_i32_381
  let c64_i32_382 : BitVec 32 := 64#32
  let v1406 : BitVec 32 := Scalar.addi v1405 c64_i32_382
  v1406
def k0_mult46 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_384 : BitVec 32 := 256#32
  let v1429 : BitVec 32 := Scalar.muli v276 c256_i32_384
  let c96_i32_385 : BitVec 32 := 96#32
  let v1430 : BitVec 32 := Scalar.addi v1429 c96_i32_385
  v1430
def k0_mult47 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_387 : BitVec 32 := 256#32
  let v1453 : BitVec 32 := Scalar.muli v276 c256_i32_387
  let c128_i32_388 : BitVec 32 := 128#32
  let v1454 : BitVec 32 := Scalar.addi v1453 c128_i32_388
  v1454
def k0_mult48 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_390 : BitVec 32 := 256#32
  let v1477 : BitVec 32 := Scalar.muli v276 c256_i32_390
  let c160_i32_391 : BitVec 32 := 160#32
  let v1478 : BitVec 32 := Scalar.addi v1477 c160_i32_391
  v1478
def k0_mult49 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_393 : BitVec 32 := 256#32
  let v1501 : BitVec 32 := Scalar.muli v276 c256_i32_393
  let c192_i32_394 : BitVec 32 := 192#32
  let v1502 : BitVec 32 := Scalar.addi v1501 c192_i32_394
  v1502
def k0_mult50 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_396 : BitVec 32 := 256#32
  let v1525 : BitVec 32 := Scalar.muli v276 c256_i32_396
  let c224_i32_397 : BitVec 32 := 224#32
  let v1526 : BitVec 32 := Scalar.addi v1525 c224_i32_397
  v1526
def k0_mult51 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_420 : BitVec 32 := 256#32
  let v1574 : BitVec 32 := Scalar.muli v276 c256_i32_420
  let c0_i32_421 : BitVec 32 := 0#32
  let v1575 : BitVec 32 := Scalar.addi v1574 c0_i32_421
  v1575
def k0_off11 (k0_t2 : Fin k0_t2_loop.trips) (c0_i32_421 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_420 : BitVec 32 := 256#32
  let v1574 : BitVec 32 := Scalar.muli v276 c256_i32_420
  let v1575 : BitVec 32 := Scalar.addi v1574 c0_i32_421
  let v1576 : BitVec 32 := v1575
  let v1577 : Index := Scalar.indexCast v1576
  let c768 : Index := 768#32
  ![v1577.toNat, 768]
def k0_mult52 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_422 : BitVec 32 := 256#32
  let v1595 : BitVec 32 := Scalar.muli v276 c256_i32_422
  let c32_i32_423 : BitVec 32 := 32#32
  let v1596 : BitVec 32 := Scalar.addi v1595 c32_i32_423
  v1596
def k0_mult53 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_425 : BitVec 32 := 256#32
  let v1619 : BitVec 32 := Scalar.muli v276 c256_i32_425
  let c64_i32_426 : BitVec 32 := 64#32
  let v1620 : BitVec 32 := Scalar.addi v1619 c64_i32_426
  v1620
def k0_mult54 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_428 : BitVec 32 := 256#32
  let v1643 : BitVec 32 := Scalar.muli v276 c256_i32_428
  let c96_i32_429 : BitVec 32 := 96#32
  let v1644 : BitVec 32 := Scalar.addi v1643 c96_i32_429
  v1644
def k0_mult55 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_431 : BitVec 32 := 256#32
  let v1667 : BitVec 32 := Scalar.muli v276 c256_i32_431
  let c128_i32_432 : BitVec 32 := 128#32
  let v1668 : BitVec 32 := Scalar.addi v1667 c128_i32_432
  v1668
def k0_mult56 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_434 : BitVec 32 := 256#32
  let v1691 : BitVec 32 := Scalar.muli v276 c256_i32_434
  let c160_i32_435 : BitVec 32 := 160#32
  let v1692 : BitVec 32 := Scalar.addi v1691 c160_i32_435
  v1692
def k0_mult57 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_437 : BitVec 32 := 256#32
  let v1715 : BitVec 32 := Scalar.muli v276 c256_i32_437
  let c192_i32_438 : BitVec 32 := 192#32
  let v1716 : BitVec 32 := Scalar.addi v1715 c192_i32_438
  v1716
def k0_mult58 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_440 : BitVec 32 := 256#32
  let v1739 : BitVec 32 := Scalar.muli v276 c256_i32_440
  let c224_i32_441 : BitVec 32 := 224#32
  let v1740 : BitVec 32 := Scalar.addi v1739 c224_i32_441
  v1740
def k0_mult59 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_464 : BitVec 32 := 256#32
  let v1788 : BitVec 32 := Scalar.muli v276 c256_i32_464
  let c0_i32_465 : BitVec 32 := 0#32
  let v1789 : BitVec 32 := Scalar.addi v1788 c0_i32_465
  v1789
def k0_off12 (k0_t2 : Fin k0_t2_loop.trips) (c0_i32_465 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_464 : BitVec 32 := 256#32
  let v1788 : BitVec 32 := Scalar.muli v276 c256_i32_464
  let v1789 : BitVec 32 := Scalar.addi v1788 c0_i32_465
  let v1790 : BitVec 32 := v1789
  let v1791 : Index := Scalar.indexCast v1790
  let c896 : Index := 896#32
  ![v1791.toNat, 896]
def k0_mult60 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_466 : BitVec 32 := 256#32
  let v1809 : BitVec 32 := Scalar.muli v276 c256_i32_466
  let c32_i32_467 : BitVec 32 := 32#32
  let v1810 : BitVec 32 := Scalar.addi v1809 c32_i32_467
  v1810
def k0_mult61 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_469 : BitVec 32 := 256#32
  let v1833 : BitVec 32 := Scalar.muli v276 c256_i32_469
  let c64_i32_470 : BitVec 32 := 64#32
  let v1834 : BitVec 32 := Scalar.addi v1833 c64_i32_470
  v1834
def k0_mult62 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_472 : BitVec 32 := 256#32
  let v1857 : BitVec 32 := Scalar.muli v276 c256_i32_472
  let c96_i32_473 : BitVec 32 := 96#32
  let v1858 : BitVec 32 := Scalar.addi v1857 c96_i32_473
  v1858
def k0_mult63 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_475 : BitVec 32 := 256#32
  let v1881 : BitVec 32 := Scalar.muli v276 c256_i32_475
  let c128_i32_476 : BitVec 32 := 128#32
  let v1882 : BitVec 32 := Scalar.addi v1881 c128_i32_476
  v1882
def k0_mult64 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_478 : BitVec 32 := 256#32
  let v1905 : BitVec 32 := Scalar.muli v276 c256_i32_478
  let c160_i32_479 : BitVec 32 := 160#32
  let v1906 : BitVec 32 := Scalar.addi v1905 c160_i32_479
  v1906
def k0_mult65 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_481 : BitVec 32 := 256#32
  let v1929 : BitVec 32 := Scalar.muli v276 c256_i32_481
  let c192_i32_482 : BitVec 32 := 192#32
  let v1930 : BitVec 32 := Scalar.addi v1929 c192_i32_482
  v1930
def k0_mult66 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_484 : BitVec 32 := 256#32
  let v1953 : BitVec 32 := Scalar.muli v276 c256_i32_484
  let c224_i32_485 : BitVec 32 := 224#32
  let v1954 : BitVec 32 := Scalar.addi v1953 c224_i32_485
  v1954
def k0_mult67 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_508 : BitVec 32 := 256#32
  let v2002 : BitVec 32 := Scalar.muli v276 c256_i32_508
  let c0_i32_509 : BitVec 32 := 0#32
  let v2003 : BitVec 32 := Scalar.addi v2002 c0_i32_509
  v2003
def k0_off13 (k0_t2 : Fin k0_t2_loop.trips) (c0_i32_509 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_508 : BitVec 32 := 256#32
  let v2002 : BitVec 32 := Scalar.muli v276 c256_i32_508
  let v2003 : BitVec 32 := Scalar.addi v2002 c0_i32_509
  let v2004 : BitVec 32 := v2003
  let v2005 : Index := Scalar.indexCast v2004
  let c1024 : Index := 1024#32
  ![v2005.toNat, 1024]
def k0_mult68 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_510 : BitVec 32 := 256#32
  let v2023 : BitVec 32 := Scalar.muli v276 c256_i32_510
  let c32_i32_511 : BitVec 32 := 32#32
  let v2024 : BitVec 32 := Scalar.addi v2023 c32_i32_511
  v2024
def k0_mult69 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_513 : BitVec 32 := 256#32
  let v2047 : BitVec 32 := Scalar.muli v276 c256_i32_513
  let c64_i32_514 : BitVec 32 := 64#32
  let v2048 : BitVec 32 := Scalar.addi v2047 c64_i32_514
  v2048
def k0_mult70 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_516 : BitVec 32 := 256#32
  let v2071 : BitVec 32 := Scalar.muli v276 c256_i32_516
  let c96_i32_517 : BitVec 32 := 96#32
  let v2072 : BitVec 32 := Scalar.addi v2071 c96_i32_517
  v2072
def k0_mult71 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_519 : BitVec 32 := 256#32
  let v2095 : BitVec 32 := Scalar.muli v276 c256_i32_519
  let c128_i32_520 : BitVec 32 := 128#32
  let v2096 : BitVec 32 := Scalar.addi v2095 c128_i32_520
  v2096
def k0_mult72 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_522 : BitVec 32 := 256#32
  let v2119 : BitVec 32 := Scalar.muli v276 c256_i32_522
  let c160_i32_523 : BitVec 32 := 160#32
  let v2120 : BitVec 32 := Scalar.addi v2119 c160_i32_523
  v2120
def k0_mult73 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_525 : BitVec 32 := 256#32
  let v2143 : BitVec 32 := Scalar.muli v276 c256_i32_525
  let c192_i32_526 : BitVec 32 := 192#32
  let v2144 : BitVec 32 := Scalar.addi v2143 c192_i32_526
  v2144
def k0_mult74 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_528 : BitVec 32 := 256#32
  let v2167 : BitVec 32 := Scalar.muli v276 c256_i32_528
  let c224_i32_529 : BitVec 32 := 224#32
  let v2168 : BitVec 32 := Scalar.addi v2167 c224_i32_529
  v2168
def k0_mult75 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_552 : BitVec 32 := 256#32
  let v2216 : BitVec 32 := Scalar.muli v276 c256_i32_552
  let c0_i32_553 : BitVec 32 := 0#32
  let v2217 : BitVec 32 := Scalar.addi v2216 c0_i32_553
  v2217
def k0_off14 (k0_t2 : Fin k0_t2_loop.trips) (c0_i32_553 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_552 : BitVec 32 := 256#32
  let v2216 : BitVec 32 := Scalar.muli v276 c256_i32_552
  let v2217 : BitVec 32 := Scalar.addi v2216 c0_i32_553
  let v2218 : BitVec 32 := v2217
  let v2219 : Index := Scalar.indexCast v2218
  let c1152 : Index := 1152#32
  ![v2219.toNat, 1152]
def k0_mult76 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_554 : BitVec 32 := 256#32
  let v2237 : BitVec 32 := Scalar.muli v276 c256_i32_554
  let c32_i32_555 : BitVec 32 := 32#32
  let v2238 : BitVec 32 := Scalar.addi v2237 c32_i32_555
  v2238
def k0_mult77 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_557 : BitVec 32 := 256#32
  let v2261 : BitVec 32 := Scalar.muli v276 c256_i32_557
  let c64_i32_558 : BitVec 32 := 64#32
  let v2262 : BitVec 32 := Scalar.addi v2261 c64_i32_558
  v2262
def k0_mult78 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_560 : BitVec 32 := 256#32
  let v2285 : BitVec 32 := Scalar.muli v276 c256_i32_560
  let c96_i32_561 : BitVec 32 := 96#32
  let v2286 : BitVec 32 := Scalar.addi v2285 c96_i32_561
  v2286
def k0_mult79 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_563 : BitVec 32 := 256#32
  let v2309 : BitVec 32 := Scalar.muli v276 c256_i32_563
  let c128_i32_564 : BitVec 32 := 128#32
  let v2310 : BitVec 32 := Scalar.addi v2309 c128_i32_564
  v2310
def k0_mult80 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_566 : BitVec 32 := 256#32
  let v2333 : BitVec 32 := Scalar.muli v276 c256_i32_566
  let c160_i32_567 : BitVec 32 := 160#32
  let v2334 : BitVec 32 := Scalar.addi v2333 c160_i32_567
  v2334
def k0_mult81 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_569 : BitVec 32 := 256#32
  let v2357 : BitVec 32 := Scalar.muli v276 c256_i32_569
  let c192_i32_570 : BitVec 32 := 192#32
  let v2358 : BitVec 32 := Scalar.addi v2357 c192_i32_570
  v2358
def k0_mult82 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_572 : BitVec 32 := 256#32
  let v2381 : BitVec 32 := Scalar.muli v276 c256_i32_572
  let c224_i32_573 : BitVec 32 := 224#32
  let v2382 : BitVec 32 := Scalar.addi v2381 c224_i32_573
  v2382
def k0_mult83 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_596 : BitVec 32 := 256#32
  let v2430 : BitVec 32 := Scalar.muli v276 c256_i32_596
  let c0_i32_597 : BitVec 32 := 0#32
  let v2431 : BitVec 32 := Scalar.addi v2430 c0_i32_597
  v2431
def k0_off15 (k0_t2 : Fin k0_t2_loop.trips) (c0_i32_597 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_596 : BitVec 32 := 256#32
  let v2430 : BitVec 32 := Scalar.muli v276 c256_i32_596
  let v2431 : BitVec 32 := Scalar.addi v2430 c0_i32_597
  let v2432 : BitVec 32 := v2431
  let v2433 : Index := Scalar.indexCast v2432
  let c1280 : Index := 1280#32
  ![v2433.toNat, 1280]
def k0_mult84 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_598 : BitVec 32 := 256#32
  let v2451 : BitVec 32 := Scalar.muli v276 c256_i32_598
  let c32_i32_599 : BitVec 32 := 32#32
  let v2452 : BitVec 32 := Scalar.addi v2451 c32_i32_599
  v2452
def k0_mult85 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_601 : BitVec 32 := 256#32
  let v2475 : BitVec 32 := Scalar.muli v276 c256_i32_601
  let c64_i32_602 : BitVec 32 := 64#32
  let v2476 : BitVec 32 := Scalar.addi v2475 c64_i32_602
  v2476
def k0_mult86 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_604 : BitVec 32 := 256#32
  let v2499 : BitVec 32 := Scalar.muli v276 c256_i32_604
  let c96_i32_605 : BitVec 32 := 96#32
  let v2500 : BitVec 32 := Scalar.addi v2499 c96_i32_605
  v2500
def k0_mult87 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_607 : BitVec 32 := 256#32
  let v2523 : BitVec 32 := Scalar.muli v276 c256_i32_607
  let c128_i32_608 : BitVec 32 := 128#32
  let v2524 : BitVec 32 := Scalar.addi v2523 c128_i32_608
  v2524
def k0_mult88 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_610 : BitVec 32 := 256#32
  let v2547 : BitVec 32 := Scalar.muli v276 c256_i32_610
  let c160_i32_611 : BitVec 32 := 160#32
  let v2548 : BitVec 32 := Scalar.addi v2547 c160_i32_611
  v2548
def k0_mult89 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_613 : BitVec 32 := 256#32
  let v2571 : BitVec 32 := Scalar.muli v276 c256_i32_613
  let c192_i32_614 : BitVec 32 := 192#32
  let v2572 : BitVec 32 := Scalar.addi v2571 c192_i32_614
  v2572
def k0_mult90 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_616 : BitVec 32 := 256#32
  let v2595 : BitVec 32 := Scalar.muli v276 c256_i32_616
  let c224_i32_617 : BitVec 32 := 224#32
  let v2596 : BitVec 32 := Scalar.addi v2595 c224_i32_617
  v2596
def k0_mult91 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_640 : BitVec 32 := 256#32
  let v2644 : BitVec 32 := Scalar.muli v276 c256_i32_640
  let c0_i32_641 : BitVec 32 := 0#32
  let v2645 : BitVec 32 := Scalar.addi v2644 c0_i32_641
  v2645
def k0_off16 (k0_t2 : Fin k0_t2_loop.trips) (c0_i32_641 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_640 : BitVec 32 := 256#32
  let v2644 : BitVec 32 := Scalar.muli v276 c256_i32_640
  let v2645 : BitVec 32 := Scalar.addi v2644 c0_i32_641
  let v2646 : BitVec 32 := v2645
  let v2647 : Index := Scalar.indexCast v2646
  let c1408 : Index := 1408#32
  ![v2647.toNat, 1408]
def k0_mult92 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_642 : BitVec 32 := 256#32
  let v2665 : BitVec 32 := Scalar.muli v276 c256_i32_642
  let c32_i32_643 : BitVec 32 := 32#32
  let v2666 : BitVec 32 := Scalar.addi v2665 c32_i32_643
  v2666
def k0_mult93 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_645 : BitVec 32 := 256#32
  let v2689 : BitVec 32 := Scalar.muli v276 c256_i32_645
  let c64_i32_646 : BitVec 32 := 64#32
  let v2690 : BitVec 32 := Scalar.addi v2689 c64_i32_646
  v2690
def k0_mult94 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_648 : BitVec 32 := 256#32
  let v2713 : BitVec 32 := Scalar.muli v276 c256_i32_648
  let c96_i32_649 : BitVec 32 := 96#32
  let v2714 : BitVec 32 := Scalar.addi v2713 c96_i32_649
  v2714
def k0_mult95 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_651 : BitVec 32 := 256#32
  let v2737 : BitVec 32 := Scalar.muli v276 c256_i32_651
  let c128_i32_652 : BitVec 32 := 128#32
  let v2738 : BitVec 32 := Scalar.addi v2737 c128_i32_652
  v2738
def k0_mult96 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_654 : BitVec 32 := 256#32
  let v2761 : BitVec 32 := Scalar.muli v276 c256_i32_654
  let c160_i32_655 : BitVec 32 := 160#32
  let v2762 : BitVec 32 := Scalar.addi v2761 c160_i32_655
  v2762
def k0_mult97 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_657 : BitVec 32 := 256#32
  let v2785 : BitVec 32 := Scalar.muli v276 c256_i32_657
  let c192_i32_658 : BitVec 32 := 192#32
  let v2786 : BitVec 32 := Scalar.addi v2785 c192_i32_658
  v2786
def k0_mult98 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_660 : BitVec 32 := 256#32
  let v2809 : BitVec 32 := Scalar.muli v276 c256_i32_660
  let c224_i32_661 : BitVec 32 := 224#32
  let v2810 : BitVec 32 := Scalar.addi v2809 c224_i32_661
  v2810
def k0_mult99 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_684 : BitVec 32 := 256#32
  let v2858 : BitVec 32 := Scalar.muli v276 c256_i32_684
  let c0_i32_685 : BitVec 32 := 0#32
  let v2859 : BitVec 32 := Scalar.addi v2858 c0_i32_685
  v2859
def k0_off17 (k0_t2 : Fin k0_t2_loop.trips) (c0_i32_685 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_684 : BitVec 32 := 256#32
  let v2858 : BitVec 32 := Scalar.muli v276 c256_i32_684
  let v2859 : BitVec 32 := Scalar.addi v2858 c0_i32_685
  let v2860 : BitVec 32 := v2859
  let v2861 : Index := Scalar.indexCast v2860
  let c1536 : Index := 1536#32
  ![v2861.toNat, 1536]
def k0_mult100 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_686 : BitVec 32 := 256#32
  let v2879 : BitVec 32 := Scalar.muli v276 c256_i32_686
  let c32_i32_687 : BitVec 32 := 32#32
  let v2880 : BitVec 32 := Scalar.addi v2879 c32_i32_687
  v2880
def k0_mult101 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_689 : BitVec 32 := 256#32
  let v2903 : BitVec 32 := Scalar.muli v276 c256_i32_689
  let c64_i32_690 : BitVec 32 := 64#32
  let v2904 : BitVec 32 := Scalar.addi v2903 c64_i32_690
  v2904
def k0_mult102 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_692 : BitVec 32 := 256#32
  let v2927 : BitVec 32 := Scalar.muli v276 c256_i32_692
  let c96_i32_693 : BitVec 32 := 96#32
  let v2928 : BitVec 32 := Scalar.addi v2927 c96_i32_693
  v2928
def k0_mult103 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_695 : BitVec 32 := 256#32
  let v2951 : BitVec 32 := Scalar.muli v276 c256_i32_695
  let c128_i32_696 : BitVec 32 := 128#32
  let v2952 : BitVec 32 := Scalar.addi v2951 c128_i32_696
  v2952
def k0_mult104 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_698 : BitVec 32 := 256#32
  let v2975 : BitVec 32 := Scalar.muli v276 c256_i32_698
  let c160_i32_699 : BitVec 32 := 160#32
  let v2976 : BitVec 32 := Scalar.addi v2975 c160_i32_699
  v2976
def k0_mult105 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_701 : BitVec 32 := 256#32
  let v2999 : BitVec 32 := Scalar.muli v276 c256_i32_701
  let c192_i32_702 : BitVec 32 := 192#32
  let v3000 : BitVec 32 := Scalar.addi v2999 c192_i32_702
  v3000
def k0_mult106 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_704 : BitVec 32 := 256#32
  let v3023 : BitVec 32 := Scalar.muli v276 c256_i32_704
  let c224_i32_705 : BitVec 32 := 224#32
  let v3024 : BitVec 32 := Scalar.addi v3023 c224_i32_705
  v3024
def k0_mult107 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_728 : BitVec 32 := 256#32
  let v3072 : BitVec 32 := Scalar.muli v276 c256_i32_728
  let c0_i32_729 : BitVec 32 := 0#32
  let v3073 : BitVec 32 := Scalar.addi v3072 c0_i32_729
  v3073
def k0_off18 (k0_t2 : Fin k0_t2_loop.trips) (c0_i32_729 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_728 : BitVec 32 := 256#32
  let v3072 : BitVec 32 := Scalar.muli v276 c256_i32_728
  let v3073 : BitVec 32 := Scalar.addi v3072 c0_i32_729
  let v3074 : BitVec 32 := v3073
  let v3075 : Index := Scalar.indexCast v3074
  let c1664 : Index := 1664#32
  ![v3075.toNat, 1664]
def k0_mult108 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_730 : BitVec 32 := 256#32
  let v3093 : BitVec 32 := Scalar.muli v276 c256_i32_730
  let c32_i32_731 : BitVec 32 := 32#32
  let v3094 : BitVec 32 := Scalar.addi v3093 c32_i32_731
  v3094
def k0_mult109 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_733 : BitVec 32 := 256#32
  let v3117 : BitVec 32 := Scalar.muli v276 c256_i32_733
  let c64_i32_734 : BitVec 32 := 64#32
  let v3118 : BitVec 32 := Scalar.addi v3117 c64_i32_734
  v3118
def k0_mult110 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_736 : BitVec 32 := 256#32
  let v3141 : BitVec 32 := Scalar.muli v276 c256_i32_736
  let c96_i32_737 : BitVec 32 := 96#32
  let v3142 : BitVec 32 := Scalar.addi v3141 c96_i32_737
  v3142
def k0_mult111 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_739 : BitVec 32 := 256#32
  let v3165 : BitVec 32 := Scalar.muli v276 c256_i32_739
  let c128_i32_740 : BitVec 32 := 128#32
  let v3166 : BitVec 32 := Scalar.addi v3165 c128_i32_740
  v3166
def k0_mult112 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_742 : BitVec 32 := 256#32
  let v3189 : BitVec 32 := Scalar.muli v276 c256_i32_742
  let c160_i32_743 : BitVec 32 := 160#32
  let v3190 : BitVec 32 := Scalar.addi v3189 c160_i32_743
  v3190
def k0_mult113 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_745 : BitVec 32 := 256#32
  let v3213 : BitVec 32 := Scalar.muli v276 c256_i32_745
  let c192_i32_746 : BitVec 32 := 192#32
  let v3214 : BitVec 32 := Scalar.addi v3213 c192_i32_746
  v3214
def k0_mult114 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_748 : BitVec 32 := 256#32
  let v3237 : BitVec 32 := Scalar.muli v276 c256_i32_748
  let c224_i32_749 : BitVec 32 := 224#32
  let v3238 : BitVec 32 := Scalar.addi v3237 c224_i32_749
  v3238
def k0_mult115 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_772 : BitVec 32 := 256#32
  let v3286 : BitVec 32 := Scalar.muli v276 c256_i32_772
  let c0_i32_773 : BitVec 32 := 0#32
  let v3287 : BitVec 32 := Scalar.addi v3286 c0_i32_773
  v3287
def k0_off19 (k0_t2 : Fin k0_t2_loop.trips) (c0_i32_773 : BitVec 32) : Fin 2 → Nat :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_772 : BitVec 32 := 256#32
  let v3286 : BitVec 32 := Scalar.muli v276 c256_i32_772
  let v3287 : BitVec 32 := Scalar.addi v3286 c0_i32_773
  let v3288 : BitVec 32 := v3287
  let v3289 : Index := Scalar.indexCast v3288
  let c1792 : Index := 1792#32
  ![v3289.toNat, 1792]
def k0_mult116 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_774 : BitVec 32 := 256#32
  let v3307 : BitVec 32 := Scalar.muli v276 c256_i32_774
  let c32_i32_775 : BitVec 32 := 32#32
  let v3308 : BitVec 32 := Scalar.addi v3307 c32_i32_775
  v3308
def k0_mult117 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_777 : BitVec 32 := 256#32
  let v3331 : BitVec 32 := Scalar.muli v276 c256_i32_777
  let c64_i32_778 : BitVec 32 := 64#32
  let v3332 : BitVec 32 := Scalar.addi v3331 c64_i32_778
  v3332
def k0_mult118 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_780 : BitVec 32 := 256#32
  let v3355 : BitVec 32 := Scalar.muli v276 c256_i32_780
  let c96_i32_781 : BitVec 32 := 96#32
  let v3356 : BitVec 32 := Scalar.addi v3355 c96_i32_781
  v3356
def k0_mult119 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_783 : BitVec 32 := 256#32
  let v3379 : BitVec 32 := Scalar.muli v276 c256_i32_783
  let c128_i32_784 : BitVec 32 := 128#32
  let v3380 : BitVec 32 := Scalar.addi v3379 c128_i32_784
  v3380
def k0_mult120 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_786 : BitVec 32 := 256#32
  let v3403 : BitVec 32 := Scalar.muli v276 c256_i32_786
  let c160_i32_787 : BitVec 32 := 160#32
  let v3404 : BitVec 32 := Scalar.addi v3403 c160_i32_787
  v3404
def k0_mult121 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_789 : BitVec 32 := 256#32
  let v3427 : BitVec 32 := Scalar.muli v276 c256_i32_789
  let c192_i32_790 : BitVec 32 := 192#32
  let v3428 : BitVec 32 := Scalar.addi v3427 c192_i32_790
  v3428
def k0_mult122 (k0_t2 : Fin k0_t2_loop.trips) : BitVec 32 :=
  let c0_i32_153 : BitVec 32 := 0#32
  let c0_i32_152 : BitVec 32 := 0#32
  let c0_i32_18 : BitVec 32 := 0#32
  let c1_i32_19 : BitVec 32 := 1#32
  let arg16 : BitVec 32 := Scf.iv c0_i32_18 c1_i32_19 k0_t2
  let c1_i32_151 : BitVec 32 := 1#32
  let v274 : BitVec 32 := Scalar.muli arg16 c1_i32_151
  let v275 : BitVec 32 := Scalar.addi c0_i32_152 v274
  let v276 : BitVec 32 := Scalar.addi c0_i32_153 v275
  let c256_i32_792 : BitVec 32 := 256#32
  let v3451 : BitVec 32 := Scalar.muli v276 c256_i32_792
  let c224_i32_793 : BitVec 32 := 224#32
  let v3452 : BitVec 32 := Scalar.addi v3451 c224_i32_793
  v3452
@[reducible] def k0_t3_loop : Scf.Loop 32 :=
  let c0_i32_21 : BitVec 32 := 0#32
  let c36_i32_22 : BitVec 32 := 36#32
  let v32 : BitVec 32 := Scalar.addi c0_i32_21 c36_i32_22
  let c1_i32_23 : BitVec 32 := 1#32
  ⟨c0_i32_21, v32, c1_i32_23⟩
def k0_mult123 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32 : BitVec 32 := 256#32
  let v277 : BitVec 32 := Scalar.muli v276 c256_i32
  v277
def k0_off20 (k0_t3 : Fin k0_t3_loop.trips) : Fin 1 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  ![v276.toNat]
def k0_off21 (k0_t3 : Fin k0_t3_loop.trips) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32 : BitVec 32 := 256#32
  let v277 : BitVec 32 := Scalar.muli v276 c256_i32
  let v278 : BitVec 32 := v277
  let c0_i32_154 : BitVec 32 := 0#32
  ![v278.toNat, 0]
def k0_mult124 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_159 : BitVec 32 := 256#32
  let v290 : BitVec 32 := Scalar.muli v276 c256_i32_159
  let c0_i32_160 : BitVec 32 := 0#32
  let v291 : BitVec 32 := Scalar.addi v290 c0_i32_160
  v291
def k0_off22 (k0_t3 : Fin k0_t3_loop.trips) (c0_i32_160 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_159 : BitVec 32 := 256#32
  let v290 : BitVec 32 := Scalar.muli v276 c256_i32_159
  let v291 : BitVec 32 := Scalar.addi v290 c0_i32_160
  let v292 : BitVec 32 := v291
  let v293 : Index := Scalar.indexCast v292
  let c0_161 : Index := 0#32
  ![v293.toNat, 0]
def k0_mult125 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_162 : BitVec 32 := 256#32
  let v311 : BitVec 32 := Scalar.muli v276 c256_i32_162
  let c32_i32_163 : BitVec 32 := 32#32
  let v312 : BitVec 32 := Scalar.addi v311 c32_i32_163
  v312
def k0_mult126 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_165 : BitVec 32 := 256#32
  let v335 : BitVec 32 := Scalar.muli v276 c256_i32_165
  let c64_i32_166 : BitVec 32 := 64#32
  let v336 : BitVec 32 := Scalar.addi v335 c64_i32_166
  v336
def k0_mult127 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_168 : BitVec 32 := 256#32
  let v359 : BitVec 32 := Scalar.muli v276 c256_i32_168
  let c96_i32 : BitVec 32 := 96#32
  let v360 : BitVec 32 := Scalar.addi v359 c96_i32
  v360
def k0_mult128 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_170 : BitVec 32 := 256#32
  let v383 : BitVec 32 := Scalar.muli v276 c256_i32_170
  let c128_i32_171 : BitVec 32 := 128#32
  let v384 : BitVec 32 := Scalar.addi v383 c128_i32_171
  v384
def k0_mult129 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_173 : BitVec 32 := 256#32
  let v407 : BitVec 32 := Scalar.muli v276 c256_i32_173
  let c160_i32 : BitVec 32 := 160#32
  let v408 : BitVec 32 := Scalar.addi v407 c160_i32
  v408
def k0_mult130 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_175 : BitVec 32 := 256#32
  let v431 : BitVec 32 := Scalar.muli v276 c256_i32_175
  let c192_i32 : BitVec 32 := 192#32
  let v432 : BitVec 32 := Scalar.addi v431 c192_i32
  v432
def k0_mult131 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_177 : BitVec 32 := 256#32
  let v455 : BitVec 32 := Scalar.muli v276 c256_i32_177
  let c224_i32 : BitVec 32 := 224#32
  let v456 : BitVec 32 := Scalar.addi v455 c224_i32
  v456
def k0_mult132 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_199 : BitVec 32 := 256#32
  let v504 : BitVec 32 := Scalar.muli v276 c256_i32_199
  let c0_i32_200 : BitVec 32 := 0#32
  let v505 : BitVec 32 := Scalar.addi v504 c0_i32_200
  v505
def k0_off23 (k0_t3 : Fin k0_t3_loop.trips) (c0_i32_200 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_199 : BitVec 32 := 256#32
  let v504 : BitVec 32 := Scalar.muli v276 c256_i32_199
  let v505 : BitVec 32 := Scalar.addi v504 c0_i32_200
  let v506 : BitVec 32 := v505
  let v507 : Index := Scalar.indexCast v506
  let c128 : Index := 128#32
  ![v507.toNat, 128]
def k0_mult133 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_201 : BitVec 32 := 256#32
  let v525 : BitVec 32 := Scalar.muli v276 c256_i32_201
  let c32_i32_202 : BitVec 32 := 32#32
  let v526 : BitVec 32 := Scalar.addi v525 c32_i32_202
  v526
def k0_mult134 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_204 : BitVec 32 := 256#32
  let v549 : BitVec 32 := Scalar.muli v276 c256_i32_204
  let c64_i32_205 : BitVec 32 := 64#32
  let v550 : BitVec 32 := Scalar.addi v549 c64_i32_205
  v550
def k0_mult135 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_207 : BitVec 32 := 256#32
  let v573 : BitVec 32 := Scalar.muli v276 c256_i32_207
  let c96_i32_208 : BitVec 32 := 96#32
  let v574 : BitVec 32 := Scalar.addi v573 c96_i32_208
  v574
def k0_mult136 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_210 : BitVec 32 := 256#32
  let v597 : BitVec 32 := Scalar.muli v276 c256_i32_210
  let c128_i32_211 : BitVec 32 := 128#32
  let v598 : BitVec 32 := Scalar.addi v597 c128_i32_211
  v598
def k0_mult137 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_213 : BitVec 32 := 256#32
  let v621 : BitVec 32 := Scalar.muli v276 c256_i32_213
  let c160_i32_214 : BitVec 32 := 160#32
  let v622 : BitVec 32 := Scalar.addi v621 c160_i32_214
  v622
def k0_mult138 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_216 : BitVec 32 := 256#32
  let v645 : BitVec 32 := Scalar.muli v276 c256_i32_216
  let c192_i32_217 : BitVec 32 := 192#32
  let v646 : BitVec 32 := Scalar.addi v645 c192_i32_217
  v646
def k0_mult139 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_219 : BitVec 32 := 256#32
  let v669 : BitVec 32 := Scalar.muli v276 c256_i32_219
  let c224_i32_220 : BitVec 32 := 224#32
  let v670 : BitVec 32 := Scalar.addi v669 c224_i32_220
  v670
def k0_mult140 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_243 : BitVec 32 := 256#32
  let v718 : BitVec 32 := Scalar.muli v276 c256_i32_243
  let c0_i32_244 : BitVec 32 := 0#32
  let v719 : BitVec 32 := Scalar.addi v718 c0_i32_244
  v719
def k0_off24 (k0_t3 : Fin k0_t3_loop.trips) (c0_i32_244 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_243 : BitVec 32 := 256#32
  let v718 : BitVec 32 := Scalar.muli v276 c256_i32_243
  let v719 : BitVec 32 := Scalar.addi v718 c0_i32_244
  let v720 : BitVec 32 := v719
  let v721 : Index := Scalar.indexCast v720
  let c256 : Index := 256#32
  ![v721.toNat, 256]
def k0_mult141 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_245 : BitVec 32 := 256#32
  let v739 : BitVec 32 := Scalar.muli v276 c256_i32_245
  let c32_i32_246 : BitVec 32 := 32#32
  let v740 : BitVec 32 := Scalar.addi v739 c32_i32_246
  v740
def k0_mult142 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_248 : BitVec 32 := 256#32
  let v763 : BitVec 32 := Scalar.muli v276 c256_i32_248
  let c64_i32_249 : BitVec 32 := 64#32
  let v764 : BitVec 32 := Scalar.addi v763 c64_i32_249
  v764
def k0_mult143 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_251 : BitVec 32 := 256#32
  let v787 : BitVec 32 := Scalar.muli v276 c256_i32_251
  let c96_i32_252 : BitVec 32 := 96#32
  let v788 : BitVec 32 := Scalar.addi v787 c96_i32_252
  v788
def k0_mult144 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_254 : BitVec 32 := 256#32
  let v811 : BitVec 32 := Scalar.muli v276 c256_i32_254
  let c128_i32_255 : BitVec 32 := 128#32
  let v812 : BitVec 32 := Scalar.addi v811 c128_i32_255
  v812
def k0_mult145 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_257 : BitVec 32 := 256#32
  let v835 : BitVec 32 := Scalar.muli v276 c256_i32_257
  let c160_i32_258 : BitVec 32 := 160#32
  let v836 : BitVec 32 := Scalar.addi v835 c160_i32_258
  v836
def k0_mult146 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_260 : BitVec 32 := 256#32
  let v859 : BitVec 32 := Scalar.muli v276 c256_i32_260
  let c192_i32_261 : BitVec 32 := 192#32
  let v860 : BitVec 32 := Scalar.addi v859 c192_i32_261
  v860
def k0_mult147 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_263 : BitVec 32 := 256#32
  let v883 : BitVec 32 := Scalar.muli v276 c256_i32_263
  let c224_i32_264 : BitVec 32 := 224#32
  let v884 : BitVec 32 := Scalar.addi v883 c224_i32_264
  v884
def k0_mult148 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_287 : BitVec 32 := 256#32
  let v932 : BitVec 32 := Scalar.muli v276 c256_i32_287
  let c0_i32_288 : BitVec 32 := 0#32
  let v933 : BitVec 32 := Scalar.addi v932 c0_i32_288
  v933
def k0_off25 (k0_t3 : Fin k0_t3_loop.trips) (c0_i32_288 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_287 : BitVec 32 := 256#32
  let v932 : BitVec 32 := Scalar.muli v276 c256_i32_287
  let v933 : BitVec 32 := Scalar.addi v932 c0_i32_288
  let v934 : BitVec 32 := v933
  let v935 : Index := Scalar.indexCast v934
  let c384 : Index := 384#32
  ![v935.toNat, 384]
def k0_mult149 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_289 : BitVec 32 := 256#32
  let v953 : BitVec 32 := Scalar.muli v276 c256_i32_289
  let c32_i32_290 : BitVec 32 := 32#32
  let v954 : BitVec 32 := Scalar.addi v953 c32_i32_290
  v954
def k0_mult150 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_292 : BitVec 32 := 256#32
  let v977 : BitVec 32 := Scalar.muli v276 c256_i32_292
  let c64_i32_293 : BitVec 32 := 64#32
  let v978 : BitVec 32 := Scalar.addi v977 c64_i32_293
  v978
def k0_mult151 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_295 : BitVec 32 := 256#32
  let v1001 : BitVec 32 := Scalar.muli v276 c256_i32_295
  let c96_i32_296 : BitVec 32 := 96#32
  let v1002 : BitVec 32 := Scalar.addi v1001 c96_i32_296
  v1002
def k0_mult152 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_298 : BitVec 32 := 256#32
  let v1025 : BitVec 32 := Scalar.muli v276 c256_i32_298
  let c128_i32_299 : BitVec 32 := 128#32
  let v1026 : BitVec 32 := Scalar.addi v1025 c128_i32_299
  v1026
def k0_mult153 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_301 : BitVec 32 := 256#32
  let v1049 : BitVec 32 := Scalar.muli v276 c256_i32_301
  let c160_i32_302 : BitVec 32 := 160#32
  let v1050 : BitVec 32 := Scalar.addi v1049 c160_i32_302
  v1050
def k0_mult154 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_304 : BitVec 32 := 256#32
  let v1073 : BitVec 32 := Scalar.muli v276 c256_i32_304
  let c192_i32_305 : BitVec 32 := 192#32
  let v1074 : BitVec 32 := Scalar.addi v1073 c192_i32_305
  v1074
def k0_mult155 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_307 : BitVec 32 := 256#32
  let v1097 : BitVec 32 := Scalar.muli v276 c256_i32_307
  let c224_i32_308 : BitVec 32 := 224#32
  let v1098 : BitVec 32 := Scalar.addi v1097 c224_i32_308
  v1098
def k0_mult156 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_331 : BitVec 32 := 256#32
  let v1146 : BitVec 32 := Scalar.muli v276 c256_i32_331
  let c0_i32_332 : BitVec 32 := 0#32
  let v1147 : BitVec 32 := Scalar.addi v1146 c0_i32_332
  v1147
def k0_off26 (k0_t3 : Fin k0_t3_loop.trips) (c0_i32_332 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_331 : BitVec 32 := 256#32
  let v1146 : BitVec 32 := Scalar.muli v276 c256_i32_331
  let v1147 : BitVec 32 := Scalar.addi v1146 c0_i32_332
  let v1148 : BitVec 32 := v1147
  let v1149 : Index := Scalar.indexCast v1148
  let c512 : Index := 512#32
  ![v1149.toNat, 512]
def k0_mult157 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_333 : BitVec 32 := 256#32
  let v1167 : BitVec 32 := Scalar.muli v276 c256_i32_333
  let c32_i32_334 : BitVec 32 := 32#32
  let v1168 : BitVec 32 := Scalar.addi v1167 c32_i32_334
  v1168
def k0_mult158 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_336 : BitVec 32 := 256#32
  let v1191 : BitVec 32 := Scalar.muli v276 c256_i32_336
  let c64_i32_337 : BitVec 32 := 64#32
  let v1192 : BitVec 32 := Scalar.addi v1191 c64_i32_337
  v1192
def k0_mult159 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_339 : BitVec 32 := 256#32
  let v1215 : BitVec 32 := Scalar.muli v276 c256_i32_339
  let c96_i32_340 : BitVec 32 := 96#32
  let v1216 : BitVec 32 := Scalar.addi v1215 c96_i32_340
  v1216
def k0_mult160 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_342 : BitVec 32 := 256#32
  let v1239 : BitVec 32 := Scalar.muli v276 c256_i32_342
  let c128_i32_343 : BitVec 32 := 128#32
  let v1240 : BitVec 32 := Scalar.addi v1239 c128_i32_343
  v1240
def k0_mult161 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_345 : BitVec 32 := 256#32
  let v1263 : BitVec 32 := Scalar.muli v276 c256_i32_345
  let c160_i32_346 : BitVec 32 := 160#32
  let v1264 : BitVec 32 := Scalar.addi v1263 c160_i32_346
  v1264
def k0_mult162 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_348 : BitVec 32 := 256#32
  let v1287 : BitVec 32 := Scalar.muli v276 c256_i32_348
  let c192_i32_349 : BitVec 32 := 192#32
  let v1288 : BitVec 32 := Scalar.addi v1287 c192_i32_349
  v1288
def k0_mult163 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_351 : BitVec 32 := 256#32
  let v1311 : BitVec 32 := Scalar.muli v276 c256_i32_351
  let c224_i32_352 : BitVec 32 := 224#32
  let v1312 : BitVec 32 := Scalar.addi v1311 c224_i32_352
  v1312
def k0_mult164 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_375 : BitVec 32 := 256#32
  let v1360 : BitVec 32 := Scalar.muli v276 c256_i32_375
  let c0_i32_376 : BitVec 32 := 0#32
  let v1361 : BitVec 32 := Scalar.addi v1360 c0_i32_376
  v1361
def k0_off27 (k0_t3 : Fin k0_t3_loop.trips) (c0_i32_376 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_375 : BitVec 32 := 256#32
  let v1360 : BitVec 32 := Scalar.muli v276 c256_i32_375
  let v1361 : BitVec 32 := Scalar.addi v1360 c0_i32_376
  let v1362 : BitVec 32 := v1361
  let v1363 : Index := Scalar.indexCast v1362
  let c640 : Index := 640#32
  ![v1363.toNat, 640]
def k0_mult165 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_377 : BitVec 32 := 256#32
  let v1381 : BitVec 32 := Scalar.muli v276 c256_i32_377
  let c32_i32_378 : BitVec 32 := 32#32
  let v1382 : BitVec 32 := Scalar.addi v1381 c32_i32_378
  v1382
def k0_mult166 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_380 : BitVec 32 := 256#32
  let v1405 : BitVec 32 := Scalar.muli v276 c256_i32_380
  let c64_i32_381 : BitVec 32 := 64#32
  let v1406 : BitVec 32 := Scalar.addi v1405 c64_i32_381
  v1406
def k0_mult167 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_383 : BitVec 32 := 256#32
  let v1429 : BitVec 32 := Scalar.muli v276 c256_i32_383
  let c96_i32_384 : BitVec 32 := 96#32
  let v1430 : BitVec 32 := Scalar.addi v1429 c96_i32_384
  v1430
def k0_mult168 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_386 : BitVec 32 := 256#32
  let v1453 : BitVec 32 := Scalar.muli v276 c256_i32_386
  let c128_i32_387 : BitVec 32 := 128#32
  let v1454 : BitVec 32 := Scalar.addi v1453 c128_i32_387
  v1454
def k0_mult169 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_389 : BitVec 32 := 256#32
  let v1477 : BitVec 32 := Scalar.muli v276 c256_i32_389
  let c160_i32_390 : BitVec 32 := 160#32
  let v1478 : BitVec 32 := Scalar.addi v1477 c160_i32_390
  v1478
def k0_mult170 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_392 : BitVec 32 := 256#32
  let v1501 : BitVec 32 := Scalar.muli v276 c256_i32_392
  let c192_i32_393 : BitVec 32 := 192#32
  let v1502 : BitVec 32 := Scalar.addi v1501 c192_i32_393
  v1502
def k0_mult171 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_395 : BitVec 32 := 256#32
  let v1525 : BitVec 32 := Scalar.muli v276 c256_i32_395
  let c224_i32_396 : BitVec 32 := 224#32
  let v1526 : BitVec 32 := Scalar.addi v1525 c224_i32_396
  v1526
def k0_mult172 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_419 : BitVec 32 := 256#32
  let v1574 : BitVec 32 := Scalar.muli v276 c256_i32_419
  let c0_i32_420 : BitVec 32 := 0#32
  let v1575 : BitVec 32 := Scalar.addi v1574 c0_i32_420
  v1575
def k0_off28 (k0_t3 : Fin k0_t3_loop.trips) (c0_i32_420 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_419 : BitVec 32 := 256#32
  let v1574 : BitVec 32 := Scalar.muli v276 c256_i32_419
  let v1575 : BitVec 32 := Scalar.addi v1574 c0_i32_420
  let v1576 : BitVec 32 := v1575
  let v1577 : Index := Scalar.indexCast v1576
  let c768 : Index := 768#32
  ![v1577.toNat, 768]
def k0_mult173 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_421 : BitVec 32 := 256#32
  let v1595 : BitVec 32 := Scalar.muli v276 c256_i32_421
  let c32_i32_422 : BitVec 32 := 32#32
  let v1596 : BitVec 32 := Scalar.addi v1595 c32_i32_422
  v1596
def k0_mult174 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_424 : BitVec 32 := 256#32
  let v1619 : BitVec 32 := Scalar.muli v276 c256_i32_424
  let c64_i32_425 : BitVec 32 := 64#32
  let v1620 : BitVec 32 := Scalar.addi v1619 c64_i32_425
  v1620
def k0_mult175 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_427 : BitVec 32 := 256#32
  let v1643 : BitVec 32 := Scalar.muli v276 c256_i32_427
  let c96_i32_428 : BitVec 32 := 96#32
  let v1644 : BitVec 32 := Scalar.addi v1643 c96_i32_428
  v1644
def k0_mult176 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_430 : BitVec 32 := 256#32
  let v1667 : BitVec 32 := Scalar.muli v276 c256_i32_430
  let c128_i32_431 : BitVec 32 := 128#32
  let v1668 : BitVec 32 := Scalar.addi v1667 c128_i32_431
  v1668
def k0_mult177 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_433 : BitVec 32 := 256#32
  let v1691 : BitVec 32 := Scalar.muli v276 c256_i32_433
  let c160_i32_434 : BitVec 32 := 160#32
  let v1692 : BitVec 32 := Scalar.addi v1691 c160_i32_434
  v1692
def k0_mult178 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_436 : BitVec 32 := 256#32
  let v1715 : BitVec 32 := Scalar.muli v276 c256_i32_436
  let c192_i32_437 : BitVec 32 := 192#32
  let v1716 : BitVec 32 := Scalar.addi v1715 c192_i32_437
  v1716
def k0_mult179 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_439 : BitVec 32 := 256#32
  let v1739 : BitVec 32 := Scalar.muli v276 c256_i32_439
  let c224_i32_440 : BitVec 32 := 224#32
  let v1740 : BitVec 32 := Scalar.addi v1739 c224_i32_440
  v1740
def k0_mult180 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_463 : BitVec 32 := 256#32
  let v1788 : BitVec 32 := Scalar.muli v276 c256_i32_463
  let c0_i32_464 : BitVec 32 := 0#32
  let v1789 : BitVec 32 := Scalar.addi v1788 c0_i32_464
  v1789
def k0_off29 (k0_t3 : Fin k0_t3_loop.trips) (c0_i32_464 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_463 : BitVec 32 := 256#32
  let v1788 : BitVec 32 := Scalar.muli v276 c256_i32_463
  let v1789 : BitVec 32 := Scalar.addi v1788 c0_i32_464
  let v1790 : BitVec 32 := v1789
  let v1791 : Index := Scalar.indexCast v1790
  let c896 : Index := 896#32
  ![v1791.toNat, 896]
def k0_mult181 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_465 : BitVec 32 := 256#32
  let v1809 : BitVec 32 := Scalar.muli v276 c256_i32_465
  let c32_i32_466 : BitVec 32 := 32#32
  let v1810 : BitVec 32 := Scalar.addi v1809 c32_i32_466
  v1810
def k0_mult182 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_468 : BitVec 32 := 256#32
  let v1833 : BitVec 32 := Scalar.muli v276 c256_i32_468
  let c64_i32_469 : BitVec 32 := 64#32
  let v1834 : BitVec 32 := Scalar.addi v1833 c64_i32_469
  v1834
def k0_mult183 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_471 : BitVec 32 := 256#32
  let v1857 : BitVec 32 := Scalar.muli v276 c256_i32_471
  let c96_i32_472 : BitVec 32 := 96#32
  let v1858 : BitVec 32 := Scalar.addi v1857 c96_i32_472
  v1858
def k0_mult184 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_474 : BitVec 32 := 256#32
  let v1881 : BitVec 32 := Scalar.muli v276 c256_i32_474
  let c128_i32_475 : BitVec 32 := 128#32
  let v1882 : BitVec 32 := Scalar.addi v1881 c128_i32_475
  v1882
def k0_mult185 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_477 : BitVec 32 := 256#32
  let v1905 : BitVec 32 := Scalar.muli v276 c256_i32_477
  let c160_i32_478 : BitVec 32 := 160#32
  let v1906 : BitVec 32 := Scalar.addi v1905 c160_i32_478
  v1906
def k0_mult186 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_480 : BitVec 32 := 256#32
  let v1929 : BitVec 32 := Scalar.muli v276 c256_i32_480
  let c192_i32_481 : BitVec 32 := 192#32
  let v1930 : BitVec 32 := Scalar.addi v1929 c192_i32_481
  v1930
def k0_mult187 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_483 : BitVec 32 := 256#32
  let v1953 : BitVec 32 := Scalar.muli v276 c256_i32_483
  let c224_i32_484 : BitVec 32 := 224#32
  let v1954 : BitVec 32 := Scalar.addi v1953 c224_i32_484
  v1954
def k0_mult188 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_507 : BitVec 32 := 256#32
  let v2002 : BitVec 32 := Scalar.muli v276 c256_i32_507
  let c0_i32_508 : BitVec 32 := 0#32
  let v2003 : BitVec 32 := Scalar.addi v2002 c0_i32_508
  v2003
def k0_off30 (k0_t3 : Fin k0_t3_loop.trips) (c0_i32_508 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_507 : BitVec 32 := 256#32
  let v2002 : BitVec 32 := Scalar.muli v276 c256_i32_507
  let v2003 : BitVec 32 := Scalar.addi v2002 c0_i32_508
  let v2004 : BitVec 32 := v2003
  let v2005 : Index := Scalar.indexCast v2004
  let c1024 : Index := 1024#32
  ![v2005.toNat, 1024]
def k0_mult189 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_509 : BitVec 32 := 256#32
  let v2023 : BitVec 32 := Scalar.muli v276 c256_i32_509
  let c32_i32_510 : BitVec 32 := 32#32
  let v2024 : BitVec 32 := Scalar.addi v2023 c32_i32_510
  v2024
def k0_mult190 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_512 : BitVec 32 := 256#32
  let v2047 : BitVec 32 := Scalar.muli v276 c256_i32_512
  let c64_i32_513 : BitVec 32 := 64#32
  let v2048 : BitVec 32 := Scalar.addi v2047 c64_i32_513
  v2048
def k0_mult191 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_515 : BitVec 32 := 256#32
  let v2071 : BitVec 32 := Scalar.muli v276 c256_i32_515
  let c96_i32_516 : BitVec 32 := 96#32
  let v2072 : BitVec 32 := Scalar.addi v2071 c96_i32_516
  v2072
def k0_mult192 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_518 : BitVec 32 := 256#32
  let v2095 : BitVec 32 := Scalar.muli v276 c256_i32_518
  let c128_i32_519 : BitVec 32 := 128#32
  let v2096 : BitVec 32 := Scalar.addi v2095 c128_i32_519
  v2096
def k0_mult193 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_521 : BitVec 32 := 256#32
  let v2119 : BitVec 32 := Scalar.muli v276 c256_i32_521
  let c160_i32_522 : BitVec 32 := 160#32
  let v2120 : BitVec 32 := Scalar.addi v2119 c160_i32_522
  v2120
def k0_mult194 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_524 : BitVec 32 := 256#32
  let v2143 : BitVec 32 := Scalar.muli v276 c256_i32_524
  let c192_i32_525 : BitVec 32 := 192#32
  let v2144 : BitVec 32 := Scalar.addi v2143 c192_i32_525
  v2144
def k0_mult195 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_527 : BitVec 32 := 256#32
  let v2167 : BitVec 32 := Scalar.muli v276 c256_i32_527
  let c224_i32_528 : BitVec 32 := 224#32
  let v2168 : BitVec 32 := Scalar.addi v2167 c224_i32_528
  v2168
def k0_mult196 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_551 : BitVec 32 := 256#32
  let v2216 : BitVec 32 := Scalar.muli v276 c256_i32_551
  let c0_i32_552 : BitVec 32 := 0#32
  let v2217 : BitVec 32 := Scalar.addi v2216 c0_i32_552
  v2217
def k0_off31 (k0_t3 : Fin k0_t3_loop.trips) (c0_i32_552 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_551 : BitVec 32 := 256#32
  let v2216 : BitVec 32 := Scalar.muli v276 c256_i32_551
  let v2217 : BitVec 32 := Scalar.addi v2216 c0_i32_552
  let v2218 : BitVec 32 := v2217
  let v2219 : Index := Scalar.indexCast v2218
  let c1152 : Index := 1152#32
  ![v2219.toNat, 1152]
def k0_mult197 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_553 : BitVec 32 := 256#32
  let v2237 : BitVec 32 := Scalar.muli v276 c256_i32_553
  let c32_i32_554 : BitVec 32 := 32#32
  let v2238 : BitVec 32 := Scalar.addi v2237 c32_i32_554
  v2238
def k0_mult198 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_556 : BitVec 32 := 256#32
  let v2261 : BitVec 32 := Scalar.muli v276 c256_i32_556
  let c64_i32_557 : BitVec 32 := 64#32
  let v2262 : BitVec 32 := Scalar.addi v2261 c64_i32_557
  v2262
def k0_mult199 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_559 : BitVec 32 := 256#32
  let v2285 : BitVec 32 := Scalar.muli v276 c256_i32_559
  let c96_i32_560 : BitVec 32 := 96#32
  let v2286 : BitVec 32 := Scalar.addi v2285 c96_i32_560
  v2286
def k0_mult200 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_562 : BitVec 32 := 256#32
  let v2309 : BitVec 32 := Scalar.muli v276 c256_i32_562
  let c128_i32_563 : BitVec 32 := 128#32
  let v2310 : BitVec 32 := Scalar.addi v2309 c128_i32_563
  v2310
def k0_mult201 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_565 : BitVec 32 := 256#32
  let v2333 : BitVec 32 := Scalar.muli v276 c256_i32_565
  let c160_i32_566 : BitVec 32 := 160#32
  let v2334 : BitVec 32 := Scalar.addi v2333 c160_i32_566
  v2334
def k0_mult202 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_568 : BitVec 32 := 256#32
  let v2357 : BitVec 32 := Scalar.muli v276 c256_i32_568
  let c192_i32_569 : BitVec 32 := 192#32
  let v2358 : BitVec 32 := Scalar.addi v2357 c192_i32_569
  v2358
def k0_mult203 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_571 : BitVec 32 := 256#32
  let v2381 : BitVec 32 := Scalar.muli v276 c256_i32_571
  let c224_i32_572 : BitVec 32 := 224#32
  let v2382 : BitVec 32 := Scalar.addi v2381 c224_i32_572
  v2382
def k0_mult204 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_595 : BitVec 32 := 256#32
  let v2430 : BitVec 32 := Scalar.muli v276 c256_i32_595
  let c0_i32_596 : BitVec 32 := 0#32
  let v2431 : BitVec 32 := Scalar.addi v2430 c0_i32_596
  v2431
def k0_off32 (k0_t3 : Fin k0_t3_loop.trips) (c0_i32_596 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_595 : BitVec 32 := 256#32
  let v2430 : BitVec 32 := Scalar.muli v276 c256_i32_595
  let v2431 : BitVec 32 := Scalar.addi v2430 c0_i32_596
  let v2432 : BitVec 32 := v2431
  let v2433 : Index := Scalar.indexCast v2432
  let c1280 : Index := 1280#32
  ![v2433.toNat, 1280]
def k0_mult205 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_597 : BitVec 32 := 256#32
  let v2451 : BitVec 32 := Scalar.muli v276 c256_i32_597
  let c32_i32_598 : BitVec 32 := 32#32
  let v2452 : BitVec 32 := Scalar.addi v2451 c32_i32_598
  v2452
def k0_mult206 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_600 : BitVec 32 := 256#32
  let v2475 : BitVec 32 := Scalar.muli v276 c256_i32_600
  let c64_i32_601 : BitVec 32 := 64#32
  let v2476 : BitVec 32 := Scalar.addi v2475 c64_i32_601
  v2476
def k0_mult207 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_603 : BitVec 32 := 256#32
  let v2499 : BitVec 32 := Scalar.muli v276 c256_i32_603
  let c96_i32_604 : BitVec 32 := 96#32
  let v2500 : BitVec 32 := Scalar.addi v2499 c96_i32_604
  v2500
def k0_mult208 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_606 : BitVec 32 := 256#32
  let v2523 : BitVec 32 := Scalar.muli v276 c256_i32_606
  let c128_i32_607 : BitVec 32 := 128#32
  let v2524 : BitVec 32 := Scalar.addi v2523 c128_i32_607
  v2524
def k0_mult209 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_609 : BitVec 32 := 256#32
  let v2547 : BitVec 32 := Scalar.muli v276 c256_i32_609
  let c160_i32_610 : BitVec 32 := 160#32
  let v2548 : BitVec 32 := Scalar.addi v2547 c160_i32_610
  v2548
def k0_mult210 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_612 : BitVec 32 := 256#32
  let v2571 : BitVec 32 := Scalar.muli v276 c256_i32_612
  let c192_i32_613 : BitVec 32 := 192#32
  let v2572 : BitVec 32 := Scalar.addi v2571 c192_i32_613
  v2572
def k0_mult211 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_615 : BitVec 32 := 256#32
  let v2595 : BitVec 32 := Scalar.muli v276 c256_i32_615
  let c224_i32_616 : BitVec 32 := 224#32
  let v2596 : BitVec 32 := Scalar.addi v2595 c224_i32_616
  v2596
def k0_mult212 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_639 : BitVec 32 := 256#32
  let v2644 : BitVec 32 := Scalar.muli v276 c256_i32_639
  let c0_i32_640 : BitVec 32 := 0#32
  let v2645 : BitVec 32 := Scalar.addi v2644 c0_i32_640
  v2645
def k0_off33 (k0_t3 : Fin k0_t3_loop.trips) (c0_i32_640 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_639 : BitVec 32 := 256#32
  let v2644 : BitVec 32 := Scalar.muli v276 c256_i32_639
  let v2645 : BitVec 32 := Scalar.addi v2644 c0_i32_640
  let v2646 : BitVec 32 := v2645
  let v2647 : Index := Scalar.indexCast v2646
  let c1408 : Index := 1408#32
  ![v2647.toNat, 1408]
def k0_mult213 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_641 : BitVec 32 := 256#32
  let v2665 : BitVec 32 := Scalar.muli v276 c256_i32_641
  let c32_i32_642 : BitVec 32 := 32#32
  let v2666 : BitVec 32 := Scalar.addi v2665 c32_i32_642
  v2666
def k0_mult214 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_644 : BitVec 32 := 256#32
  let v2689 : BitVec 32 := Scalar.muli v276 c256_i32_644
  let c64_i32_645 : BitVec 32 := 64#32
  let v2690 : BitVec 32 := Scalar.addi v2689 c64_i32_645
  v2690
def k0_mult215 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_647 : BitVec 32 := 256#32
  let v2713 : BitVec 32 := Scalar.muli v276 c256_i32_647
  let c96_i32_648 : BitVec 32 := 96#32
  let v2714 : BitVec 32 := Scalar.addi v2713 c96_i32_648
  v2714
def k0_mult216 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_650 : BitVec 32 := 256#32
  let v2737 : BitVec 32 := Scalar.muli v276 c256_i32_650
  let c128_i32_651 : BitVec 32 := 128#32
  let v2738 : BitVec 32 := Scalar.addi v2737 c128_i32_651
  v2738
def k0_mult217 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_653 : BitVec 32 := 256#32
  let v2761 : BitVec 32 := Scalar.muli v276 c256_i32_653
  let c160_i32_654 : BitVec 32 := 160#32
  let v2762 : BitVec 32 := Scalar.addi v2761 c160_i32_654
  v2762
def k0_mult218 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_656 : BitVec 32 := 256#32
  let v2785 : BitVec 32 := Scalar.muli v276 c256_i32_656
  let c192_i32_657 : BitVec 32 := 192#32
  let v2786 : BitVec 32 := Scalar.addi v2785 c192_i32_657
  v2786
def k0_mult219 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_659 : BitVec 32 := 256#32
  let v2809 : BitVec 32 := Scalar.muli v276 c256_i32_659
  let c224_i32_660 : BitVec 32 := 224#32
  let v2810 : BitVec 32 := Scalar.addi v2809 c224_i32_660
  v2810
def k0_mult220 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_683 : BitVec 32 := 256#32
  let v2858 : BitVec 32 := Scalar.muli v276 c256_i32_683
  let c0_i32_684 : BitVec 32 := 0#32
  let v2859 : BitVec 32 := Scalar.addi v2858 c0_i32_684
  v2859
def k0_off34 (k0_t3 : Fin k0_t3_loop.trips) (c0_i32_684 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_683 : BitVec 32 := 256#32
  let v2858 : BitVec 32 := Scalar.muli v276 c256_i32_683
  let v2859 : BitVec 32 := Scalar.addi v2858 c0_i32_684
  let v2860 : BitVec 32 := v2859
  let v2861 : Index := Scalar.indexCast v2860
  let c1536 : Index := 1536#32
  ![v2861.toNat, 1536]
def k0_mult221 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_685 : BitVec 32 := 256#32
  let v2879 : BitVec 32 := Scalar.muli v276 c256_i32_685
  let c32_i32_686 : BitVec 32 := 32#32
  let v2880 : BitVec 32 := Scalar.addi v2879 c32_i32_686
  v2880
def k0_mult222 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_688 : BitVec 32 := 256#32
  let v2903 : BitVec 32 := Scalar.muli v276 c256_i32_688
  let c64_i32_689 : BitVec 32 := 64#32
  let v2904 : BitVec 32 := Scalar.addi v2903 c64_i32_689
  v2904
def k0_mult223 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_691 : BitVec 32 := 256#32
  let v2927 : BitVec 32 := Scalar.muli v276 c256_i32_691
  let c96_i32_692 : BitVec 32 := 96#32
  let v2928 : BitVec 32 := Scalar.addi v2927 c96_i32_692
  v2928
def k0_mult224 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_694 : BitVec 32 := 256#32
  let v2951 : BitVec 32 := Scalar.muli v276 c256_i32_694
  let c128_i32_695 : BitVec 32 := 128#32
  let v2952 : BitVec 32 := Scalar.addi v2951 c128_i32_695
  v2952
def k0_mult225 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_697 : BitVec 32 := 256#32
  let v2975 : BitVec 32 := Scalar.muli v276 c256_i32_697
  let c160_i32_698 : BitVec 32 := 160#32
  let v2976 : BitVec 32 := Scalar.addi v2975 c160_i32_698
  v2976
def k0_mult226 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_700 : BitVec 32 := 256#32
  let v2999 : BitVec 32 := Scalar.muli v276 c256_i32_700
  let c192_i32_701 : BitVec 32 := 192#32
  let v3000 : BitVec 32 := Scalar.addi v2999 c192_i32_701
  v3000
def k0_mult227 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_703 : BitVec 32 := 256#32
  let v3023 : BitVec 32 := Scalar.muli v276 c256_i32_703
  let c224_i32_704 : BitVec 32 := 224#32
  let v3024 : BitVec 32 := Scalar.addi v3023 c224_i32_704
  v3024
def k0_mult228 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_727 : BitVec 32 := 256#32
  let v3072 : BitVec 32 := Scalar.muli v276 c256_i32_727
  let c0_i32_728 : BitVec 32 := 0#32
  let v3073 : BitVec 32 := Scalar.addi v3072 c0_i32_728
  v3073
def k0_off35 (k0_t3 : Fin k0_t3_loop.trips) (c0_i32_728 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_727 : BitVec 32 := 256#32
  let v3072 : BitVec 32 := Scalar.muli v276 c256_i32_727
  let v3073 : BitVec 32 := Scalar.addi v3072 c0_i32_728
  let v3074 : BitVec 32 := v3073
  let v3075 : Index := Scalar.indexCast v3074
  let c1664 : Index := 1664#32
  ![v3075.toNat, 1664]
def k0_mult229 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_729 : BitVec 32 := 256#32
  let v3093 : BitVec 32 := Scalar.muli v276 c256_i32_729
  let c32_i32_730 : BitVec 32 := 32#32
  let v3094 : BitVec 32 := Scalar.addi v3093 c32_i32_730
  v3094
def k0_mult230 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_732 : BitVec 32 := 256#32
  let v3117 : BitVec 32 := Scalar.muli v276 c256_i32_732
  let c64_i32_733 : BitVec 32 := 64#32
  let v3118 : BitVec 32 := Scalar.addi v3117 c64_i32_733
  v3118
def k0_mult231 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_735 : BitVec 32 := 256#32
  let v3141 : BitVec 32 := Scalar.muli v276 c256_i32_735
  let c96_i32_736 : BitVec 32 := 96#32
  let v3142 : BitVec 32 := Scalar.addi v3141 c96_i32_736
  v3142
def k0_mult232 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_738 : BitVec 32 := 256#32
  let v3165 : BitVec 32 := Scalar.muli v276 c256_i32_738
  let c128_i32_739 : BitVec 32 := 128#32
  let v3166 : BitVec 32 := Scalar.addi v3165 c128_i32_739
  v3166
def k0_mult233 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_741 : BitVec 32 := 256#32
  let v3189 : BitVec 32 := Scalar.muli v276 c256_i32_741
  let c160_i32_742 : BitVec 32 := 160#32
  let v3190 : BitVec 32 := Scalar.addi v3189 c160_i32_742
  v3190
def k0_mult234 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_744 : BitVec 32 := 256#32
  let v3213 : BitVec 32 := Scalar.muli v276 c256_i32_744
  let c192_i32_745 : BitVec 32 := 192#32
  let v3214 : BitVec 32 := Scalar.addi v3213 c192_i32_745
  v3214
def k0_mult235 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_747 : BitVec 32 := 256#32
  let v3237 : BitVec 32 := Scalar.muli v276 c256_i32_747
  let c224_i32_748 : BitVec 32 := 224#32
  let v3238 : BitVec 32 := Scalar.addi v3237 c224_i32_748
  v3238
def k0_mult236 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_771 : BitVec 32 := 256#32
  let v3286 : BitVec 32 := Scalar.muli v276 c256_i32_771
  let c0_i32_772 : BitVec 32 := 0#32
  let v3287 : BitVec 32 := Scalar.addi v3286 c0_i32_772
  v3287
def k0_off36 (k0_t3 : Fin k0_t3_loop.trips) (c0_i32_772 : BitVec 32) : Fin 2 → Nat :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_771 : BitVec 32 := 256#32
  let v3286 : BitVec 32 := Scalar.muli v276 c256_i32_771
  let v3287 : BitVec 32 := Scalar.addi v3286 c0_i32_772
  let v3288 : BitVec 32 := v3287
  let v3289 : Index := Scalar.indexCast v3288
  let c1792 : Index := 1792#32
  ![v3289.toNat, 1792]
def k0_mult237 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_773 : BitVec 32 := 256#32
  let v3307 : BitVec 32 := Scalar.muli v276 c256_i32_773
  let c32_i32_774 : BitVec 32 := 32#32
  let v3308 : BitVec 32 := Scalar.addi v3307 c32_i32_774
  v3308
def k0_mult238 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_776 : BitVec 32 := 256#32
  let v3331 : BitVec 32 := Scalar.muli v276 c256_i32_776
  let c64_i32_777 : BitVec 32 := 64#32
  let v3332 : BitVec 32 := Scalar.addi v3331 c64_i32_777
  v3332
def k0_mult239 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_779 : BitVec 32 := 256#32
  let v3355 : BitVec 32 := Scalar.muli v276 c256_i32_779
  let c96_i32_780 : BitVec 32 := 96#32
  let v3356 : BitVec 32 := Scalar.addi v3355 c96_i32_780
  v3356
def k0_mult240 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_782 : BitVec 32 := 256#32
  let v3379 : BitVec 32 := Scalar.muli v276 c256_i32_782
  let c128_i32_783 : BitVec 32 := 128#32
  let v3380 : BitVec 32 := Scalar.addi v3379 c128_i32_783
  v3380
def k0_mult241 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_785 : BitVec 32 := 256#32
  let v3403 : BitVec 32 := Scalar.muli v276 c256_i32_785
  let c160_i32_786 : BitVec 32 := 160#32
  let v3404 : BitVec 32 := Scalar.addi v3403 c160_i32_786
  v3404
def k0_mult242 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_788 : BitVec 32 := 256#32
  let v3427 : BitVec 32 := Scalar.muli v276 c256_i32_788
  let c192_i32_789 : BitVec 32 := 192#32
  let v3428 : BitVec 32 := Scalar.addi v3427 c192_i32_789
  v3428
def k0_mult243 (k0_t3 : Fin k0_t3_loop.trips) : BitVec 32 :=
  let c36_i32_153 : BitVec 32 := 36#32
  let c0_i32_152 : BitVec 32 := 0#32
  let c0_i32_21 : BitVec 32 := 0#32
  let c1_i32_23 : BitVec 32 := 1#32
  let arg16 : BitVec 32 := Scf.iv c0_i32_21 c1_i32_23 k0_t3
  let c1_i32_151 : BitVec 32 := 1#32
  let v274 : BitVec 32 := Scalar.muli arg16 c1_i32_151
  let v275 : BitVec 32 := Scalar.addi c0_i32_152 v274
  let v276 : BitVec 32 := Scalar.addi c36_i32_153 v275
  let c256_i32_791 : BitVec 32 := 256#32
  let v3451 : BitVec 32 := Scalar.muli v276 c256_i32_791
  let c224_i32_792 : BitVec 32 := 224#32
  let v3452 : BitVec 32 := Scalar.addi v3451 c224_i32_792
  v3452
@[reducible] def k0_t4_loop : Scf.Loop 32 :=
  let c0_i32_155 : BitVec 32 := 0#32
  let c288_i32 : BitVec 32 := 288#32
  let v278 : BitVec 32 := Scalar.addi c0_i32_155 c288_i32
  let c1_i32_156 : BitVec 32 := 1#32
  ⟨c0_i32_155, v278, c1_i32_156⟩
def k0_mult244 (k0_t4 : Fin k0_t4_loop.trips) : BitVec 32 :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  v291
def k0_off37 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v293 : Index := Scalar.indexCast v292
  let c0_173 : Index := 0#32
  ![v293.toNat, 0]
def k0_off38 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v309 : Index := Scalar.indexCast v292
  let c128 : Index := 128#32
  ![v309.toNat, 128]
def k0_off39 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v325 : Index := Scalar.indexCast v292
  let c256 : Index := 256#32
  ![v325.toNat, 256]
def k0_off40 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v341 : Index := Scalar.indexCast v292
  let c384 : Index := 384#32
  ![v341.toNat, 384]
def k0_off41 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v357 : Index := Scalar.indexCast v292
  let c512 : Index := 512#32
  ![v357.toNat, 512]
def k0_off42 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v373 : Index := Scalar.indexCast v292
  let c640 : Index := 640#32
  ![v373.toNat, 640]
def k0_off43 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v389 : Index := Scalar.indexCast v292
  let c768 : Index := 768#32
  ![v389.toNat, 768]
def k0_off44 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v405 : Index := Scalar.indexCast v292
  let c896 : Index := 896#32
  ![v405.toNat, 896]
def k0_off45 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v421 : Index := Scalar.indexCast v292
  let c1024 : Index := 1024#32
  ![v421.toNat, 1024]
def k0_off46 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v437 : Index := Scalar.indexCast v292
  let c1152 : Index := 1152#32
  ![v437.toNat, 1152]
def k0_off47 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v453 : Index := Scalar.indexCast v292
  let c1280 : Index := 1280#32
  ![v453.toNat, 1280]
def k0_off48 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v469 : Index := Scalar.indexCast v292
  let c1408 : Index := 1408#32
  ![v469.toNat, 1408]
def k0_off49 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v485 : Index := Scalar.indexCast v292
  let c1536 : Index := 1536#32
  ![v485.toNat, 1536]
def k0_off50 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v501 : Index := Scalar.indexCast v292
  let c1664 : Index := 1664#32
  ![v501.toNat, 1664]
def k0_off51 (k0_t4 : Fin k0_t4_loop.trips) : Fin 2 → Nat :=
  let c0_i32_172 : BitVec 32 := 0#32
  let c0_i32_170 : BitVec 32 := 0#32
  let c0_i32_155 : BitVec 32 := 0#32
  let c1_i32_156 : BitVec 32 := 1#32
  let arg16 : BitVec 32 := Scf.iv c0_i32_155 c1_i32_156 k0_t4
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c0_i32_172 v290
  let v292 : BitVec 32 := v291
  let v517 : Index := Scalar.indexCast v292
  let c1792 : Index := 1792#32
  ![v517.toNat, 1792]
@[reducible] def k0_t5_loop : Scf.Loop 32 :=
  let c0_i32_158 : BitVec 32 := 0#32
  let c288_i32_159 : BitVec 32 := 288#32
  let v279 : BitVec 32 := Scalar.addi c0_i32_158 c288_i32_159
  let c1_i32_160 : BitVec 32 := 1#32
  ⟨c0_i32_158, v279, c1_i32_160⟩
def k0_mult245 (k0_t5 : Fin k0_t5_loop.trips) : BitVec 32 :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  v291
def k0_off52 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v293 : Index := Scalar.indexCast v292
  let c0_172 : Index := 0#32
  ![v293.toNat, 0]
def k0_off53 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v309 : Index := Scalar.indexCast v292
  let c128 : Index := 128#32
  ![v309.toNat, 128]
def k0_off54 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v325 : Index := Scalar.indexCast v292
  let c256 : Index := 256#32
  ![v325.toNat, 256]
def k0_off55 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v341 : Index := Scalar.indexCast v292
  let c384 : Index := 384#32
  ![v341.toNat, 384]
def k0_off56 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v357 : Index := Scalar.indexCast v292
  let c512 : Index := 512#32
  ![v357.toNat, 512]
def k0_off57 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v373 : Index := Scalar.indexCast v292
  let c640 : Index := 640#32
  ![v373.toNat, 640]
def k0_off58 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v389 : Index := Scalar.indexCast v292
  let c768 : Index := 768#32
  ![v389.toNat, 768]
def k0_off59 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v405 : Index := Scalar.indexCast v292
  let c896 : Index := 896#32
  ![v405.toNat, 896]
def k0_off60 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v421 : Index := Scalar.indexCast v292
  let c1024 : Index := 1024#32
  ![v421.toNat, 1024]
def k0_off61 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v437 : Index := Scalar.indexCast v292
  let c1152 : Index := 1152#32
  ![v437.toNat, 1152]
def k0_off62 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v453 : Index := Scalar.indexCast v292
  let c1280 : Index := 1280#32
  ![v453.toNat, 1280]
def k0_off63 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v469 : Index := Scalar.indexCast v292
  let c1408 : Index := 1408#32
  ![v469.toNat, 1408]
def k0_off64 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v485 : Index := Scalar.indexCast v292
  let c1536 : Index := 1536#32
  ![v485.toNat, 1536]
def k0_off65 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v501 : Index := Scalar.indexCast v292
  let c1664 : Index := 1664#32
  ![v501.toNat, 1664]
def k0_off66 (k0_t5 : Fin k0_t5_loop.trips) : Fin 2 → Nat :=
  let c9216_i32 : BitVec 32 := 9216#32
  let c0_i32_170 : BitVec 32 := 0#32
  let c0_i32_158 : BitVec 32 := 0#32
  let c1_i32_160 : BitVec 32 := 1#32
  let arg16 : BitVec 32 := Scf.iv c0_i32_158 c1_i32_160 k0_t5
  let c1_i32_169 : BitVec 32 := 1#32
  let v288 : BitVec 32 := Scalar.muli arg16 c1_i32_169
  let v289 : BitVec 32 := Scalar.addi c0_i32_170 v288
  let c32_i32_171 : BitVec 32 := 32#32
  let v290 : BitVec 32 := Scalar.muli v289 c32_i32_171
  let v291 : BitVec 32 := Scalar.addi c9216_i32 v290
  let v292 : BitVec 32 := v291
  let v517 : Index := Scalar.indexCast v292
  let c1792 : Index := 1792#32
  ![v517.toNat, 1792]
@[reducible] def k0_t6_loop : Scf.Loop 32 :=
  let c0_i32_155 : BitVec 32 := 0#32
  let c288_i32 : BitVec 32 := 288#32
  let v278 : BitVec 32 := Scalar.addi c0_i32_155 c288_i32
  let c1_i32_156 : BitVec 32 := 1#32
  ⟨c0_i32_155, v278, c1_i32_156⟩
def k0_mult246 (k0_t6 : Fin k0_t6_loop.trips) : BitVec 32 :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  v289
def k0_off67 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v291 : Index := Scalar.indexCast v290
  let c0_172 : Index := 0#32
  ![v291.toNat, 0]
def k0_off68 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v315 : Index := Scalar.indexCast v290
  let c128 : Index := 128#32
  ![v315.toNat, 128]
def k0_off69 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v339 : Index := Scalar.indexCast v290
  let c256 : Index := 256#32
  ![v339.toNat, 256]
def k0_off70 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v363 : Index := Scalar.indexCast v290
  let c384 : Index := 384#32
  ![v363.toNat, 384]
def k0_off71 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v387 : Index := Scalar.indexCast v290
  let c512 : Index := 512#32
  ![v387.toNat, 512]
def k0_off72 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v411 : Index := Scalar.indexCast v290
  let c640 : Index := 640#32
  ![v411.toNat, 640]
def k0_off73 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v435 : Index := Scalar.indexCast v290
  let c768 : Index := 768#32
  ![v435.toNat, 768]
def k0_off74 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v459 : Index := Scalar.indexCast v290
  let c896 : Index := 896#32
  ![v459.toNat, 896]
def k0_off75 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v483 : Index := Scalar.indexCast v290
  let c1024 : Index := 1024#32
  ![v483.toNat, 1024]
def k0_off76 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v507 : Index := Scalar.indexCast v290
  let c1152 : Index := 1152#32
  ![v507.toNat, 1152]
def k0_off77 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v531 : Index := Scalar.indexCast v290
  let c1280 : Index := 1280#32
  ![v531.toNat, 1280]
def k0_off78 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v555 : Index := Scalar.indexCast v290
  let c1408 : Index := 1408#32
  ![v555.toNat, 1408]
def k0_off79 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v579 : Index := Scalar.indexCast v290
  let c1536 : Index := 1536#32
  ![v579.toNat, 1536]
def k0_off80 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v603 : Index := Scalar.indexCast v290
  let c1664 : Index := 1664#32
  ![v603.toNat, 1664]
def k0_off81 (k0_t6 : Fin k0_t6_loop.trips) : Fin 2 → Nat :=
  let c0_i32_171 : BitVec 32 := 0#32
  let c0_i32_169 : BitVec 32 := 0#32
  let c0_i32_155 : BitVec 32 := 0#32
  let c1_i32_156 : BitVec 32 := 1#32
  let arg16 : BitVec 32 := Scf.iv c0_i32_155 c1_i32_156 k0_t6
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c0_i32_171 v288
  let v290 : BitVec 32 := v289
  let v627 : Index := Scalar.indexCast v290
  let c1792 : Index := 1792#32
  ![v627.toNat, 1792]
@[reducible] def k0_t7_loop : Scf.Loop 32 :=
  let c0_i32_158 : BitVec 32 := 0#32
  let c288_i32_159 : BitVec 32 := 288#32
  let v279 : BitVec 32 := Scalar.addi c0_i32_158 c288_i32_159
  let c1_i32_160 : BitVec 32 := 1#32
  ⟨c0_i32_158, v279, c1_i32_160⟩
def k0_mult247 (k0_t7 : Fin k0_t7_loop.trips) : BitVec 32 :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  v289
def k0_off82 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v291 : Index := Scalar.indexCast v290
  let c0_171 : Index := 0#32
  ![v291.toNat, 0]
def k0_off83 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v315 : Index := Scalar.indexCast v290
  let c128 : Index := 128#32
  ![v315.toNat, 128]
def k0_off84 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v339 : Index := Scalar.indexCast v290
  let c256 : Index := 256#32
  ![v339.toNat, 256]
def k0_off85 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v363 : Index := Scalar.indexCast v290
  let c384 : Index := 384#32
  ![v363.toNat, 384]
def k0_off86 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v387 : Index := Scalar.indexCast v290
  let c512 : Index := 512#32
  ![v387.toNat, 512]
def k0_off87 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v411 : Index := Scalar.indexCast v290
  let c640 : Index := 640#32
  ![v411.toNat, 640]
def k0_off88 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v435 : Index := Scalar.indexCast v290
  let c768 : Index := 768#32
  ![v435.toNat, 768]
def k0_off89 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v459 : Index := Scalar.indexCast v290
  let c896 : Index := 896#32
  ![v459.toNat, 896]
def k0_off90 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v483 : Index := Scalar.indexCast v290
  let c1024 : Index := 1024#32
  ![v483.toNat, 1024]
def k0_off91 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v507 : Index := Scalar.indexCast v290
  let c1152 : Index := 1152#32
  ![v507.toNat, 1152]
def k0_off92 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v531 : Index := Scalar.indexCast v290
  let c1280 : Index := 1280#32
  ![v531.toNat, 1280]
def k0_off93 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v555 : Index := Scalar.indexCast v290
  let c1408 : Index := 1408#32
  ![v555.toNat, 1408]
def k0_off94 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v579 : Index := Scalar.indexCast v290
  let c1536 : Index := 1536#32
  ![v579.toNat, 1536]
def k0_off95 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v603 : Index := Scalar.indexCast v290
  let c1664 : Index := 1664#32
  ![v603.toNat, 1664]
def k0_off96 (k0_t7 : Fin k0_t7_loop.trips) : Fin 2 → Nat :=
  let c9216_i32 : BitVec 32 := 9216#32
  let c0_i32_169 : BitVec 32 := 0#32
  let c0_i32_158 : BitVec 32 := 0#32
  let c1_i32_160 : BitVec 32 := 1#32
  let arg16 : BitVec 32 := Scf.iv c0_i32_158 c1_i32_160 k0_t7
  let c1_i32_168 : BitVec 32 := 1#32
  let v286 : BitVec 32 := Scalar.muli arg16 c1_i32_168
  let v287 : BitVec 32 := Scalar.addi c0_i32_169 v286
  let c32_i32_170 : BitVec 32 := 32#32
  let v288 : BitVec 32 := Scalar.muli v287 c32_i32_170
  let v289 : BitVec 32 := Scalar.addi c9216_i32 v288
  let v290 : BitVec 32 := v289
  let v627 : Index := Scalar.indexCast v290
  let c1792 : Index := 1792#32
  ![v627.toNat, 1792]
@[reducible] def k0_t8_loop : Scf.Loop 32 :=
  let c0_i32_151 : BitVec 32 := 0#32
  let c36_i32_152 : BitVec 32 := 36#32
  let v274 : BitVec 32 := Scalar.addi c0_i32_151 c36_i32_152
  let c1_i32_153 : BitVec 32 := 1#32
  ⟨c0_i32_151, v274, c1_i32_153⟩
def k0_mult248 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32 : BitVec 32 := 256#32
  let v281 : BitVec 32 := Scalar.muli v278 c256_i32
  let c0_i32_166 : BitVec 32 := 0#32
  let v282 : BitVec 32 := Scalar.addi v281 c0_i32_166
  v282
def k0_off97 (k0_t8 : Fin k0_t8_loop.trips) (c0_i32_166 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32 : BitVec 32 := 256#32
  let v281 : BitVec 32 := Scalar.muli v278 c256_i32
  let v282 : BitVec 32 := Scalar.addi v281 c0_i32_166
  let v283 : BitVec 32 := v282
  let v284 : Index := Scalar.indexCast v283
  let c0_167 : Index := 0#32
  ![v284.toNat, 0]
def k0_mult249 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_171 : BitVec 32 := 256#32
  let v304 : BitVec 32 := Scalar.muli v278 c256_i32_171
  let c32_i32_172 : BitVec 32 := 32#32
  let v305 : BitVec 32 := Scalar.addi v304 c32_i32_172
  v305
def k0_mult250 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_177 : BitVec 32 := 256#32
  let v327 : BitVec 32 := Scalar.muli v278 c256_i32_177
  let c64_i32_178 : BitVec 32 := 64#32
  let v328 : BitVec 32 := Scalar.addi v327 c64_i32_178
  v328
def k0_mult251 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_183 : BitVec 32 := 256#32
  let v350 : BitVec 32 := Scalar.muli v278 c256_i32_183
  let c96_i32 : BitVec 32 := 96#32
  let v351 : BitVec 32 := Scalar.addi v350 c96_i32
  v351
def k0_mult252 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_188 : BitVec 32 := 256#32
  let v373 : BitVec 32 := Scalar.muli v278 c256_i32_188
  let c128_i32_189 : BitVec 32 := 128#32
  let v374 : BitVec 32 := Scalar.addi v373 c128_i32_189
  v374
def k0_mult253 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_194 : BitVec 32 := 256#32
  let v396 : BitVec 32 := Scalar.muli v278 c256_i32_194
  let c160_i32 : BitVec 32 := 160#32
  let v397 : BitVec 32 := Scalar.addi v396 c160_i32
  v397
def k0_mult254 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_199 : BitVec 32 := 256#32
  let v419 : BitVec 32 := Scalar.muli v278 c256_i32_199
  let c192_i32 : BitVec 32 := 192#32
  let v420 : BitVec 32 := Scalar.addi v419 c192_i32
  v420
def k0_mult255 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_204 : BitVec 32 := 256#32
  let v442 : BitVec 32 := Scalar.muli v278 c256_i32_204
  let c224_i32 : BitVec 32 := 224#32
  let v443 : BitVec 32 := Scalar.addi v442 c224_i32
  v443
def k0_mult256 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_212 : BitVec 32 := 256#32
  let v467 : BitVec 32 := Scalar.muli v278 c256_i32_212
  let c0_i32_213 : BitVec 32 := 0#32
  let v468 : BitVec 32 := Scalar.addi v467 c0_i32_213
  v468
def k0_off98 (k0_t8 : Fin k0_t8_loop.trips) (c0_i32_213 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_212 : BitVec 32 := 256#32
  let v467 : BitVec 32 := Scalar.muli v278 c256_i32_212
  let v468 : BitVec 32 := Scalar.addi v467 c0_i32_213
  let v469 : BitVec 32 := v468
  let v470 : Index := Scalar.indexCast v469
  let c128_214 : Index := 128#32
  ![v470.toNat, 128]
def k0_mult257 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_218 : BitVec 32 := 256#32
  let v490 : BitVec 32 := Scalar.muli v278 c256_i32_218
  let c32_i32_219 : BitVec 32 := 32#32
  let v491 : BitVec 32 := Scalar.addi v490 c32_i32_219
  v491
def k0_mult258 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_224 : BitVec 32 := 256#32
  let v513 : BitVec 32 := Scalar.muli v278 c256_i32_224
  let c64_i32_225 : BitVec 32 := 64#32
  let v514 : BitVec 32 := Scalar.addi v513 c64_i32_225
  v514
def k0_mult259 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_230 : BitVec 32 := 256#32
  let v536 : BitVec 32 := Scalar.muli v278 c256_i32_230
  let c96_i32_231 : BitVec 32 := 96#32
  let v537 : BitVec 32 := Scalar.addi v536 c96_i32_231
  v537
def k0_mult260 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_236 : BitVec 32 := 256#32
  let v559 : BitVec 32 := Scalar.muli v278 c256_i32_236
  let c128_i32_237 : BitVec 32 := 128#32
  let v560 : BitVec 32 := Scalar.addi v559 c128_i32_237
  v560
def k0_mult261 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_242 : BitVec 32 := 256#32
  let v582 : BitVec 32 := Scalar.muli v278 c256_i32_242
  let c160_i32_243 : BitVec 32 := 160#32
  let v583 : BitVec 32 := Scalar.addi v582 c160_i32_243
  v583
def k0_mult262 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_248 : BitVec 32 := 256#32
  let v605 : BitVec 32 := Scalar.muli v278 c256_i32_248
  let c192_i32_249 : BitVec 32 := 192#32
  let v606 : BitVec 32 := Scalar.addi v605 c192_i32_249
  v606
def k0_mult263 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_254 : BitVec 32 := 256#32
  let v628 : BitVec 32 := Scalar.muli v278 c256_i32_254
  let c224_i32_255 : BitVec 32 := 224#32
  let v629 : BitVec 32 := Scalar.addi v628 c224_i32_255
  v629
def k0_mult264 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_263 : BitVec 32 := 256#32
  let v653 : BitVec 32 := Scalar.muli v278 c256_i32_263
  let c0_i32_264 : BitVec 32 := 0#32
  let v654 : BitVec 32 := Scalar.addi v653 c0_i32_264
  v654
def k0_off99 (k0_t8 : Fin k0_t8_loop.trips) (c0_i32_264 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_263 : BitVec 32 := 256#32
  let v653 : BitVec 32 := Scalar.muli v278 c256_i32_263
  let v654 : BitVec 32 := Scalar.addi v653 c0_i32_264
  let v655 : BitVec 32 := v654
  let v656 : Index := Scalar.indexCast v655
  let c256_265 : Index := 256#32
  ![v656.toNat, 256]
def k0_mult265 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_269 : BitVec 32 := 256#32
  let v676 : BitVec 32 := Scalar.muli v278 c256_i32_269
  let c32_i32_270 : BitVec 32 := 32#32
  let v677 : BitVec 32 := Scalar.addi v676 c32_i32_270
  v677
def k0_mult266 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_275 : BitVec 32 := 256#32
  let v699 : BitVec 32 := Scalar.muli v278 c256_i32_275
  let c64_i32_276 : BitVec 32 := 64#32
  let v700 : BitVec 32 := Scalar.addi v699 c64_i32_276
  v700
def k0_mult267 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_281 : BitVec 32 := 256#32
  let v722 : BitVec 32 := Scalar.muli v278 c256_i32_281
  let c96_i32_282 : BitVec 32 := 96#32
  let v723 : BitVec 32 := Scalar.addi v722 c96_i32_282
  v723
def k0_mult268 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_287 : BitVec 32 := 256#32
  let v745 : BitVec 32 := Scalar.muli v278 c256_i32_287
  let c128_i32_288 : BitVec 32 := 128#32
  let v746 : BitVec 32 := Scalar.addi v745 c128_i32_288
  v746
def k0_mult269 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_293 : BitVec 32 := 256#32
  let v768 : BitVec 32 := Scalar.muli v278 c256_i32_293
  let c160_i32_294 : BitVec 32 := 160#32
  let v769 : BitVec 32 := Scalar.addi v768 c160_i32_294
  v769
def k0_mult270 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_299 : BitVec 32 := 256#32
  let v791 : BitVec 32 := Scalar.muli v278 c256_i32_299
  let c192_i32_300 : BitVec 32 := 192#32
  let v792 : BitVec 32 := Scalar.addi v791 c192_i32_300
  v792
def k0_mult271 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_305 : BitVec 32 := 256#32
  let v814 : BitVec 32 := Scalar.muli v278 c256_i32_305
  let c224_i32_306 : BitVec 32 := 224#32
  let v815 : BitVec 32 := Scalar.addi v814 c224_i32_306
  v815
def k0_mult272 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_314 : BitVec 32 := 256#32
  let v839 : BitVec 32 := Scalar.muli v278 c256_i32_314
  let c0_i32_315 : BitVec 32 := 0#32
  let v840 : BitVec 32 := Scalar.addi v839 c0_i32_315
  v840
def k0_off100 (k0_t8 : Fin k0_t8_loop.trips) (c0_i32_315 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_314 : BitVec 32 := 256#32
  let v839 : BitVec 32 := Scalar.muli v278 c256_i32_314
  let v840 : BitVec 32 := Scalar.addi v839 c0_i32_315
  let v841 : BitVec 32 := v840
  let v842 : Index := Scalar.indexCast v841
  let c384_316 : Index := 384#32
  ![v842.toNat, 384]
def k0_mult273 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_320 : BitVec 32 := 256#32
  let v862 : BitVec 32 := Scalar.muli v278 c256_i32_320
  let c32_i32_321 : BitVec 32 := 32#32
  let v863 : BitVec 32 := Scalar.addi v862 c32_i32_321
  v863
def k0_mult274 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_326 : BitVec 32 := 256#32
  let v885 : BitVec 32 := Scalar.muli v278 c256_i32_326
  let c64_i32_327 : BitVec 32 := 64#32
  let v886 : BitVec 32 := Scalar.addi v885 c64_i32_327
  v886
def k0_mult275 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_332 : BitVec 32 := 256#32
  let v908 : BitVec 32 := Scalar.muli v278 c256_i32_332
  let c96_i32_333 : BitVec 32 := 96#32
  let v909 : BitVec 32 := Scalar.addi v908 c96_i32_333
  v909
def k0_mult276 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_338 : BitVec 32 := 256#32
  let v931 : BitVec 32 := Scalar.muli v278 c256_i32_338
  let c128_i32_339 : BitVec 32 := 128#32
  let v932 : BitVec 32 := Scalar.addi v931 c128_i32_339
  v932
def k0_mult277 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_344 : BitVec 32 := 256#32
  let v954 : BitVec 32 := Scalar.muli v278 c256_i32_344
  let c160_i32_345 : BitVec 32 := 160#32
  let v955 : BitVec 32 := Scalar.addi v954 c160_i32_345
  v955
def k0_mult278 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_350 : BitVec 32 := 256#32
  let v977 : BitVec 32 := Scalar.muli v278 c256_i32_350
  let c192_i32_351 : BitVec 32 := 192#32
  let v978 : BitVec 32 := Scalar.addi v977 c192_i32_351
  v978
def k0_mult279 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_356 : BitVec 32 := 256#32
  let v1000 : BitVec 32 := Scalar.muli v278 c256_i32_356
  let c224_i32_357 : BitVec 32 := 224#32
  let v1001 : BitVec 32 := Scalar.addi v1000 c224_i32_357
  v1001
def k0_mult280 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_365 : BitVec 32 := 256#32
  let v1025 : BitVec 32 := Scalar.muli v278 c256_i32_365
  let c0_i32_366 : BitVec 32 := 0#32
  let v1026 : BitVec 32 := Scalar.addi v1025 c0_i32_366
  v1026
def k0_off101 (k0_t8 : Fin k0_t8_loop.trips) (c0_i32_366 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_365 : BitVec 32 := 256#32
  let v1025 : BitVec 32 := Scalar.muli v278 c256_i32_365
  let v1026 : BitVec 32 := Scalar.addi v1025 c0_i32_366
  let v1027 : BitVec 32 := v1026
  let v1028 : Index := Scalar.indexCast v1027
  let c512_367 : Index := 512#32
  ![v1028.toNat, 512]
def k0_mult281 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_371 : BitVec 32 := 256#32
  let v1048 : BitVec 32 := Scalar.muli v278 c256_i32_371
  let c32_i32_372 : BitVec 32 := 32#32
  let v1049 : BitVec 32 := Scalar.addi v1048 c32_i32_372
  v1049
def k0_mult282 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_377 : BitVec 32 := 256#32
  let v1071 : BitVec 32 := Scalar.muli v278 c256_i32_377
  let c64_i32_378 : BitVec 32 := 64#32
  let v1072 : BitVec 32 := Scalar.addi v1071 c64_i32_378
  v1072
def k0_mult283 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_383 : BitVec 32 := 256#32
  let v1094 : BitVec 32 := Scalar.muli v278 c256_i32_383
  let c96_i32_384 : BitVec 32 := 96#32
  let v1095 : BitVec 32 := Scalar.addi v1094 c96_i32_384
  v1095
def k0_mult284 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_389 : BitVec 32 := 256#32
  let v1117 : BitVec 32 := Scalar.muli v278 c256_i32_389
  let c128_i32_390 : BitVec 32 := 128#32
  let v1118 : BitVec 32 := Scalar.addi v1117 c128_i32_390
  v1118
def k0_mult285 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_395 : BitVec 32 := 256#32
  let v1140 : BitVec 32 := Scalar.muli v278 c256_i32_395
  let c160_i32_396 : BitVec 32 := 160#32
  let v1141 : BitVec 32 := Scalar.addi v1140 c160_i32_396
  v1141
def k0_mult286 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_401 : BitVec 32 := 256#32
  let v1163 : BitVec 32 := Scalar.muli v278 c256_i32_401
  let c192_i32_402 : BitVec 32 := 192#32
  let v1164 : BitVec 32 := Scalar.addi v1163 c192_i32_402
  v1164
def k0_mult287 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_407 : BitVec 32 := 256#32
  let v1186 : BitVec 32 := Scalar.muli v278 c256_i32_407
  let c224_i32_408 : BitVec 32 := 224#32
  let v1187 : BitVec 32 := Scalar.addi v1186 c224_i32_408
  v1187
def k0_mult288 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_416 : BitVec 32 := 256#32
  let v1211 : BitVec 32 := Scalar.muli v278 c256_i32_416
  let c0_i32_417 : BitVec 32 := 0#32
  let v1212 : BitVec 32 := Scalar.addi v1211 c0_i32_417
  v1212
def k0_off102 (k0_t8 : Fin k0_t8_loop.trips) (c0_i32_417 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_416 : BitVec 32 := 256#32
  let v1211 : BitVec 32 := Scalar.muli v278 c256_i32_416
  let v1212 : BitVec 32 := Scalar.addi v1211 c0_i32_417
  let v1213 : BitVec 32 := v1212
  let v1214 : Index := Scalar.indexCast v1213
  let c640_418 : Index := 640#32
  ![v1214.toNat, 640]
def k0_mult289 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_422 : BitVec 32 := 256#32
  let v1234 : BitVec 32 := Scalar.muli v278 c256_i32_422
  let c32_i32_423 : BitVec 32 := 32#32
  let v1235 : BitVec 32 := Scalar.addi v1234 c32_i32_423
  v1235
def k0_mult290 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_428 : BitVec 32 := 256#32
  let v1257 : BitVec 32 := Scalar.muli v278 c256_i32_428
  let c64_i32_429 : BitVec 32 := 64#32
  let v1258 : BitVec 32 := Scalar.addi v1257 c64_i32_429
  v1258
def k0_mult291 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_434 : BitVec 32 := 256#32
  let v1280 : BitVec 32 := Scalar.muli v278 c256_i32_434
  let c96_i32_435 : BitVec 32 := 96#32
  let v1281 : BitVec 32 := Scalar.addi v1280 c96_i32_435
  v1281
def k0_mult292 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_440 : BitVec 32 := 256#32
  let v1303 : BitVec 32 := Scalar.muli v278 c256_i32_440
  let c128_i32_441 : BitVec 32 := 128#32
  let v1304 : BitVec 32 := Scalar.addi v1303 c128_i32_441
  v1304
def k0_mult293 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_446 : BitVec 32 := 256#32
  let v1326 : BitVec 32 := Scalar.muli v278 c256_i32_446
  let c160_i32_447 : BitVec 32 := 160#32
  let v1327 : BitVec 32 := Scalar.addi v1326 c160_i32_447
  v1327
def k0_mult294 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_452 : BitVec 32 := 256#32
  let v1349 : BitVec 32 := Scalar.muli v278 c256_i32_452
  let c192_i32_453 : BitVec 32 := 192#32
  let v1350 : BitVec 32 := Scalar.addi v1349 c192_i32_453
  v1350
def k0_mult295 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_458 : BitVec 32 := 256#32
  let v1372 : BitVec 32 := Scalar.muli v278 c256_i32_458
  let c224_i32_459 : BitVec 32 := 224#32
  let v1373 : BitVec 32 := Scalar.addi v1372 c224_i32_459
  v1373
def k0_mult296 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_467 : BitVec 32 := 256#32
  let v1397 : BitVec 32 := Scalar.muli v278 c256_i32_467
  let c0_i32_468 : BitVec 32 := 0#32
  let v1398 : BitVec 32 := Scalar.addi v1397 c0_i32_468
  v1398
def k0_off103 (k0_t8 : Fin k0_t8_loop.trips) (c0_i32_468 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_467 : BitVec 32 := 256#32
  let v1397 : BitVec 32 := Scalar.muli v278 c256_i32_467
  let v1398 : BitVec 32 := Scalar.addi v1397 c0_i32_468
  let v1399 : BitVec 32 := v1398
  let v1400 : Index := Scalar.indexCast v1399
  let c768_469 : Index := 768#32
  ![v1400.toNat, 768]
def k0_mult297 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_473 : BitVec 32 := 256#32
  let v1420 : BitVec 32 := Scalar.muli v278 c256_i32_473
  let c32_i32_474 : BitVec 32 := 32#32
  let v1421 : BitVec 32 := Scalar.addi v1420 c32_i32_474
  v1421
def k0_mult298 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_479 : BitVec 32 := 256#32
  let v1443 : BitVec 32 := Scalar.muli v278 c256_i32_479
  let c64_i32_480 : BitVec 32 := 64#32
  let v1444 : BitVec 32 := Scalar.addi v1443 c64_i32_480
  v1444
def k0_mult299 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_485 : BitVec 32 := 256#32
  let v1466 : BitVec 32 := Scalar.muli v278 c256_i32_485
  let c96_i32_486 : BitVec 32 := 96#32
  let v1467 : BitVec 32 := Scalar.addi v1466 c96_i32_486
  v1467
def k0_mult300 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_491 : BitVec 32 := 256#32
  let v1489 : BitVec 32 := Scalar.muli v278 c256_i32_491
  let c128_i32_492 : BitVec 32 := 128#32
  let v1490 : BitVec 32 := Scalar.addi v1489 c128_i32_492
  v1490
def k0_mult301 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_497 : BitVec 32 := 256#32
  let v1512 : BitVec 32 := Scalar.muli v278 c256_i32_497
  let c160_i32_498 : BitVec 32 := 160#32
  let v1513 : BitVec 32 := Scalar.addi v1512 c160_i32_498
  v1513
def k0_mult302 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_503 : BitVec 32 := 256#32
  let v1535 : BitVec 32 := Scalar.muli v278 c256_i32_503
  let c192_i32_504 : BitVec 32 := 192#32
  let v1536 : BitVec 32 := Scalar.addi v1535 c192_i32_504
  v1536
def k0_mult303 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_509 : BitVec 32 := 256#32
  let v1558 : BitVec 32 := Scalar.muli v278 c256_i32_509
  let c224_i32_510 : BitVec 32 := 224#32
  let v1559 : BitVec 32 := Scalar.addi v1558 c224_i32_510
  v1559
def k0_mult304 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_518 : BitVec 32 := 256#32
  let v1583 : BitVec 32 := Scalar.muli v278 c256_i32_518
  let c0_i32_519 : BitVec 32 := 0#32
  let v1584 : BitVec 32 := Scalar.addi v1583 c0_i32_519
  v1584
def k0_off104 (k0_t8 : Fin k0_t8_loop.trips) (c0_i32_519 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_518 : BitVec 32 := 256#32
  let v1583 : BitVec 32 := Scalar.muli v278 c256_i32_518
  let v1584 : BitVec 32 := Scalar.addi v1583 c0_i32_519
  let v1585 : BitVec 32 := v1584
  let v1586 : Index := Scalar.indexCast v1585
  let c896_520 : Index := 896#32
  ![v1586.toNat, 896]
def k0_mult305 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_524 : BitVec 32 := 256#32
  let v1606 : BitVec 32 := Scalar.muli v278 c256_i32_524
  let c32_i32_525 : BitVec 32 := 32#32
  let v1607 : BitVec 32 := Scalar.addi v1606 c32_i32_525
  v1607
def k0_mult306 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_530 : BitVec 32 := 256#32
  let v1629 : BitVec 32 := Scalar.muli v278 c256_i32_530
  let c64_i32_531 : BitVec 32 := 64#32
  let v1630 : BitVec 32 := Scalar.addi v1629 c64_i32_531
  v1630
def k0_mult307 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_536 : BitVec 32 := 256#32
  let v1652 : BitVec 32 := Scalar.muli v278 c256_i32_536
  let c96_i32_537 : BitVec 32 := 96#32
  let v1653 : BitVec 32 := Scalar.addi v1652 c96_i32_537
  v1653
def k0_mult308 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_542 : BitVec 32 := 256#32
  let v1675 : BitVec 32 := Scalar.muli v278 c256_i32_542
  let c128_i32_543 : BitVec 32 := 128#32
  let v1676 : BitVec 32 := Scalar.addi v1675 c128_i32_543
  v1676
def k0_mult309 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_548 : BitVec 32 := 256#32
  let v1698 : BitVec 32 := Scalar.muli v278 c256_i32_548
  let c160_i32_549 : BitVec 32 := 160#32
  let v1699 : BitVec 32 := Scalar.addi v1698 c160_i32_549
  v1699
def k0_mult310 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_554 : BitVec 32 := 256#32
  let v1721 : BitVec 32 := Scalar.muli v278 c256_i32_554
  let c192_i32_555 : BitVec 32 := 192#32
  let v1722 : BitVec 32 := Scalar.addi v1721 c192_i32_555
  v1722
def k0_mult311 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_560 : BitVec 32 := 256#32
  let v1744 : BitVec 32 := Scalar.muli v278 c256_i32_560
  let c224_i32_561 : BitVec 32 := 224#32
  let v1745 : BitVec 32 := Scalar.addi v1744 c224_i32_561
  v1745
def k0_mult312 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_569 : BitVec 32 := 256#32
  let v1769 : BitVec 32 := Scalar.muli v278 c256_i32_569
  let c0_i32_570 : BitVec 32 := 0#32
  let v1770 : BitVec 32 := Scalar.addi v1769 c0_i32_570
  v1770
def k0_off105 (k0_t8 : Fin k0_t8_loop.trips) (c0_i32_570 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_569 : BitVec 32 := 256#32
  let v1769 : BitVec 32 := Scalar.muli v278 c256_i32_569
  let v1770 : BitVec 32 := Scalar.addi v1769 c0_i32_570
  let v1771 : BitVec 32 := v1770
  let v1772 : Index := Scalar.indexCast v1771
  let c1024_571 : Index := 1024#32
  ![v1772.toNat, 1024]
def k0_mult313 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_575 : BitVec 32 := 256#32
  let v1792 : BitVec 32 := Scalar.muli v278 c256_i32_575
  let c32_i32_576 : BitVec 32 := 32#32
  let v1793 : BitVec 32 := Scalar.addi v1792 c32_i32_576
  v1793
def k0_mult314 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_581 : BitVec 32 := 256#32
  let v1815 : BitVec 32 := Scalar.muli v278 c256_i32_581
  let c64_i32_582 : BitVec 32 := 64#32
  let v1816 : BitVec 32 := Scalar.addi v1815 c64_i32_582
  v1816
def k0_mult315 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_587 : BitVec 32 := 256#32
  let v1838 : BitVec 32 := Scalar.muli v278 c256_i32_587
  let c96_i32_588 : BitVec 32 := 96#32
  let v1839 : BitVec 32 := Scalar.addi v1838 c96_i32_588
  v1839
def k0_mult316 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_593 : BitVec 32 := 256#32
  let v1861 : BitVec 32 := Scalar.muli v278 c256_i32_593
  let c128_i32_594 : BitVec 32 := 128#32
  let v1862 : BitVec 32 := Scalar.addi v1861 c128_i32_594
  v1862
def k0_mult317 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_599 : BitVec 32 := 256#32
  let v1884 : BitVec 32 := Scalar.muli v278 c256_i32_599
  let c160_i32_600 : BitVec 32 := 160#32
  let v1885 : BitVec 32 := Scalar.addi v1884 c160_i32_600
  v1885
def k0_mult318 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_605 : BitVec 32 := 256#32
  let v1907 : BitVec 32 := Scalar.muli v278 c256_i32_605
  let c192_i32_606 : BitVec 32 := 192#32
  let v1908 : BitVec 32 := Scalar.addi v1907 c192_i32_606
  v1908
def k0_mult319 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_611 : BitVec 32 := 256#32
  let v1930 : BitVec 32 := Scalar.muli v278 c256_i32_611
  let c224_i32_612 : BitVec 32 := 224#32
  let v1931 : BitVec 32 := Scalar.addi v1930 c224_i32_612
  v1931
def k0_mult320 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_620 : BitVec 32 := 256#32
  let v1955 : BitVec 32 := Scalar.muli v278 c256_i32_620
  let c0_i32_621 : BitVec 32 := 0#32
  let v1956 : BitVec 32 := Scalar.addi v1955 c0_i32_621
  v1956
def k0_off106 (k0_t8 : Fin k0_t8_loop.trips) (c0_i32_621 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_620 : BitVec 32 := 256#32
  let v1955 : BitVec 32 := Scalar.muli v278 c256_i32_620
  let v1956 : BitVec 32 := Scalar.addi v1955 c0_i32_621
  let v1957 : BitVec 32 := v1956
  let v1958 : Index := Scalar.indexCast v1957
  let c1152_622 : Index := 1152#32
  ![v1958.toNat, 1152]
def k0_mult321 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_626 : BitVec 32 := 256#32
  let v1978 : BitVec 32 := Scalar.muli v278 c256_i32_626
  let c32_i32_627 : BitVec 32 := 32#32
  let v1979 : BitVec 32 := Scalar.addi v1978 c32_i32_627
  v1979
def k0_mult322 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_632 : BitVec 32 := 256#32
  let v2001 : BitVec 32 := Scalar.muli v278 c256_i32_632
  let c64_i32_633 : BitVec 32 := 64#32
  let v2002 : BitVec 32 := Scalar.addi v2001 c64_i32_633
  v2002
def k0_mult323 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_638 : BitVec 32 := 256#32
  let v2024 : BitVec 32 := Scalar.muli v278 c256_i32_638
  let c96_i32_639 : BitVec 32 := 96#32
  let v2025 : BitVec 32 := Scalar.addi v2024 c96_i32_639
  v2025
def k0_mult324 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_644 : BitVec 32 := 256#32
  let v2047 : BitVec 32 := Scalar.muli v278 c256_i32_644
  let c128_i32_645 : BitVec 32 := 128#32
  let v2048 : BitVec 32 := Scalar.addi v2047 c128_i32_645
  v2048
def k0_mult325 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_650 : BitVec 32 := 256#32
  let v2070 : BitVec 32 := Scalar.muli v278 c256_i32_650
  let c160_i32_651 : BitVec 32 := 160#32
  let v2071 : BitVec 32 := Scalar.addi v2070 c160_i32_651
  v2071
def k0_mult326 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_656 : BitVec 32 := 256#32
  let v2093 : BitVec 32 := Scalar.muli v278 c256_i32_656
  let c192_i32_657 : BitVec 32 := 192#32
  let v2094 : BitVec 32 := Scalar.addi v2093 c192_i32_657
  v2094
def k0_mult327 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_662 : BitVec 32 := 256#32
  let v2116 : BitVec 32 := Scalar.muli v278 c256_i32_662
  let c224_i32_663 : BitVec 32 := 224#32
  let v2117 : BitVec 32 := Scalar.addi v2116 c224_i32_663
  v2117
def k0_mult328 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_671 : BitVec 32 := 256#32
  let v2141 : BitVec 32 := Scalar.muli v278 c256_i32_671
  let c0_i32_672 : BitVec 32 := 0#32
  let v2142 : BitVec 32 := Scalar.addi v2141 c0_i32_672
  v2142
def k0_off107 (k0_t8 : Fin k0_t8_loop.trips) (c0_i32_672 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_671 : BitVec 32 := 256#32
  let v2141 : BitVec 32 := Scalar.muli v278 c256_i32_671
  let v2142 : BitVec 32 := Scalar.addi v2141 c0_i32_672
  let v2143 : BitVec 32 := v2142
  let v2144 : Index := Scalar.indexCast v2143
  let c1280_673 : Index := 1280#32
  ![v2144.toNat, 1280]
def k0_mult329 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_677 : BitVec 32 := 256#32
  let v2164 : BitVec 32 := Scalar.muli v278 c256_i32_677
  let c32_i32_678 : BitVec 32 := 32#32
  let v2165 : BitVec 32 := Scalar.addi v2164 c32_i32_678
  v2165
def k0_mult330 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_683 : BitVec 32 := 256#32
  let v2187 : BitVec 32 := Scalar.muli v278 c256_i32_683
  let c64_i32_684 : BitVec 32 := 64#32
  let v2188 : BitVec 32 := Scalar.addi v2187 c64_i32_684
  v2188
def k0_mult331 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_689 : BitVec 32 := 256#32
  let v2210 : BitVec 32 := Scalar.muli v278 c256_i32_689
  let c96_i32_690 : BitVec 32 := 96#32
  let v2211 : BitVec 32 := Scalar.addi v2210 c96_i32_690
  v2211
def k0_mult332 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_695 : BitVec 32 := 256#32
  let v2233 : BitVec 32 := Scalar.muli v278 c256_i32_695
  let c128_i32_696 : BitVec 32 := 128#32
  let v2234 : BitVec 32 := Scalar.addi v2233 c128_i32_696
  v2234
def k0_mult333 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_701 : BitVec 32 := 256#32
  let v2256 : BitVec 32 := Scalar.muli v278 c256_i32_701
  let c160_i32_702 : BitVec 32 := 160#32
  let v2257 : BitVec 32 := Scalar.addi v2256 c160_i32_702
  v2257
def k0_mult334 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_707 : BitVec 32 := 256#32
  let v2279 : BitVec 32 := Scalar.muli v278 c256_i32_707
  let c192_i32_708 : BitVec 32 := 192#32
  let v2280 : BitVec 32 := Scalar.addi v2279 c192_i32_708
  v2280
def k0_mult335 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_713 : BitVec 32 := 256#32
  let v2302 : BitVec 32 := Scalar.muli v278 c256_i32_713
  let c224_i32_714 : BitVec 32 := 224#32
  let v2303 : BitVec 32 := Scalar.addi v2302 c224_i32_714
  v2303
def k0_mult336 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_722 : BitVec 32 := 256#32
  let v2327 : BitVec 32 := Scalar.muli v278 c256_i32_722
  let c0_i32_723 : BitVec 32 := 0#32
  let v2328 : BitVec 32 := Scalar.addi v2327 c0_i32_723
  v2328
def k0_off108 (k0_t8 : Fin k0_t8_loop.trips) (c0_i32_723 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_722 : BitVec 32 := 256#32
  let v2327 : BitVec 32 := Scalar.muli v278 c256_i32_722
  let v2328 : BitVec 32 := Scalar.addi v2327 c0_i32_723
  let v2329 : BitVec 32 := v2328
  let v2330 : Index := Scalar.indexCast v2329
  let c1408_724 : Index := 1408#32
  ![v2330.toNat, 1408]
def k0_mult337 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_728 : BitVec 32 := 256#32
  let v2350 : BitVec 32 := Scalar.muli v278 c256_i32_728
  let c32_i32_729 : BitVec 32 := 32#32
  let v2351 : BitVec 32 := Scalar.addi v2350 c32_i32_729
  v2351
def k0_mult338 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_734 : BitVec 32 := 256#32
  let v2373 : BitVec 32 := Scalar.muli v278 c256_i32_734
  let c64_i32_735 : BitVec 32 := 64#32
  let v2374 : BitVec 32 := Scalar.addi v2373 c64_i32_735
  v2374
def k0_mult339 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_740 : BitVec 32 := 256#32
  let v2396 : BitVec 32 := Scalar.muli v278 c256_i32_740
  let c96_i32_741 : BitVec 32 := 96#32
  let v2397 : BitVec 32 := Scalar.addi v2396 c96_i32_741
  v2397
def k0_mult340 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_746 : BitVec 32 := 256#32
  let v2419 : BitVec 32 := Scalar.muli v278 c256_i32_746
  let c128_i32_747 : BitVec 32 := 128#32
  let v2420 : BitVec 32 := Scalar.addi v2419 c128_i32_747
  v2420
def k0_mult341 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_752 : BitVec 32 := 256#32
  let v2442 : BitVec 32 := Scalar.muli v278 c256_i32_752
  let c160_i32_753 : BitVec 32 := 160#32
  let v2443 : BitVec 32 := Scalar.addi v2442 c160_i32_753
  v2443
def k0_mult342 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_758 : BitVec 32 := 256#32
  let v2465 : BitVec 32 := Scalar.muli v278 c256_i32_758
  let c192_i32_759 : BitVec 32 := 192#32
  let v2466 : BitVec 32 := Scalar.addi v2465 c192_i32_759
  v2466
def k0_mult343 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_764 : BitVec 32 := 256#32
  let v2488 : BitVec 32 := Scalar.muli v278 c256_i32_764
  let c224_i32_765 : BitVec 32 := 224#32
  let v2489 : BitVec 32 := Scalar.addi v2488 c224_i32_765
  v2489
def k0_mult344 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_773 : BitVec 32 := 256#32
  let v2513 : BitVec 32 := Scalar.muli v278 c256_i32_773
  let c0_i32_774 : BitVec 32 := 0#32
  let v2514 : BitVec 32 := Scalar.addi v2513 c0_i32_774
  v2514
def k0_off109 (k0_t8 : Fin k0_t8_loop.trips) (c0_i32_774 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_773 : BitVec 32 := 256#32
  let v2513 : BitVec 32 := Scalar.muli v278 c256_i32_773
  let v2514 : BitVec 32 := Scalar.addi v2513 c0_i32_774
  let v2515 : BitVec 32 := v2514
  let v2516 : Index := Scalar.indexCast v2515
  let c1536_775 : Index := 1536#32
  ![v2516.toNat, 1536]
def k0_mult345 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_779 : BitVec 32 := 256#32
  let v2536 : BitVec 32 := Scalar.muli v278 c256_i32_779
  let c32_i32_780 : BitVec 32 := 32#32
  let v2537 : BitVec 32 := Scalar.addi v2536 c32_i32_780
  v2537
def k0_mult346 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_785 : BitVec 32 := 256#32
  let v2559 : BitVec 32 := Scalar.muli v278 c256_i32_785
  let c64_i32_786 : BitVec 32 := 64#32
  let v2560 : BitVec 32 := Scalar.addi v2559 c64_i32_786
  v2560
def k0_mult347 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_791 : BitVec 32 := 256#32
  let v2582 : BitVec 32 := Scalar.muli v278 c256_i32_791
  let c96_i32_792 : BitVec 32 := 96#32
  let v2583 : BitVec 32 := Scalar.addi v2582 c96_i32_792
  v2583
def k0_mult348 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_797 : BitVec 32 := 256#32
  let v2605 : BitVec 32 := Scalar.muli v278 c256_i32_797
  let c128_i32_798 : BitVec 32 := 128#32
  let v2606 : BitVec 32 := Scalar.addi v2605 c128_i32_798
  v2606
def k0_mult349 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_803 : BitVec 32 := 256#32
  let v2628 : BitVec 32 := Scalar.muli v278 c256_i32_803
  let c160_i32_804 : BitVec 32 := 160#32
  let v2629 : BitVec 32 := Scalar.addi v2628 c160_i32_804
  v2629
def k0_mult350 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_809 : BitVec 32 := 256#32
  let v2651 : BitVec 32 := Scalar.muli v278 c256_i32_809
  let c192_i32_810 : BitVec 32 := 192#32
  let v2652 : BitVec 32 := Scalar.addi v2651 c192_i32_810
  v2652
def k0_mult351 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_815 : BitVec 32 := 256#32
  let v2674 : BitVec 32 := Scalar.muli v278 c256_i32_815
  let c224_i32_816 : BitVec 32 := 224#32
  let v2675 : BitVec 32 := Scalar.addi v2674 c224_i32_816
  v2675
def k0_mult352 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_824 : BitVec 32 := 256#32
  let v2699 : BitVec 32 := Scalar.muli v278 c256_i32_824
  let c0_i32_825 : BitVec 32 := 0#32
  let v2700 : BitVec 32 := Scalar.addi v2699 c0_i32_825
  v2700
def k0_off110 (k0_t8 : Fin k0_t8_loop.trips) (c0_i32_825 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_824 : BitVec 32 := 256#32
  let v2699 : BitVec 32 := Scalar.muli v278 c256_i32_824
  let v2700 : BitVec 32 := Scalar.addi v2699 c0_i32_825
  let v2701 : BitVec 32 := v2700
  let v2702 : Index := Scalar.indexCast v2701
  let c1664_826 : Index := 1664#32
  ![v2702.toNat, 1664]
def k0_mult353 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_830 : BitVec 32 := 256#32
  let v2722 : BitVec 32 := Scalar.muli v278 c256_i32_830
  let c32_i32_831 : BitVec 32 := 32#32
  let v2723 : BitVec 32 := Scalar.addi v2722 c32_i32_831
  v2723
def k0_mult354 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_836 : BitVec 32 := 256#32
  let v2745 : BitVec 32 := Scalar.muli v278 c256_i32_836
  let c64_i32_837 : BitVec 32 := 64#32
  let v2746 : BitVec 32 := Scalar.addi v2745 c64_i32_837
  v2746
def k0_mult355 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_842 : BitVec 32 := 256#32
  let v2768 : BitVec 32 := Scalar.muli v278 c256_i32_842
  let c96_i32_843 : BitVec 32 := 96#32
  let v2769 : BitVec 32 := Scalar.addi v2768 c96_i32_843
  v2769
def k0_mult356 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_848 : BitVec 32 := 256#32
  let v2791 : BitVec 32 := Scalar.muli v278 c256_i32_848
  let c128_i32_849 : BitVec 32 := 128#32
  let v2792 : BitVec 32 := Scalar.addi v2791 c128_i32_849
  v2792
def k0_mult357 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_854 : BitVec 32 := 256#32
  let v2814 : BitVec 32 := Scalar.muli v278 c256_i32_854
  let c160_i32_855 : BitVec 32 := 160#32
  let v2815 : BitVec 32 := Scalar.addi v2814 c160_i32_855
  v2815
def k0_mult358 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_860 : BitVec 32 := 256#32
  let v2837 : BitVec 32 := Scalar.muli v278 c256_i32_860
  let c192_i32_861 : BitVec 32 := 192#32
  let v2838 : BitVec 32 := Scalar.addi v2837 c192_i32_861
  v2838
def k0_mult359 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_866 : BitVec 32 := 256#32
  let v2860 : BitVec 32 := Scalar.muli v278 c256_i32_866
  let c224_i32_867 : BitVec 32 := 224#32
  let v2861 : BitVec 32 := Scalar.addi v2860 c224_i32_867
  v2861
def k0_mult360 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_875 : BitVec 32 := 256#32
  let v2885 : BitVec 32 := Scalar.muli v278 c256_i32_875
  let c0_i32_876 : BitVec 32 := 0#32
  let v2886 : BitVec 32 := Scalar.addi v2885 c0_i32_876
  v2886
def k0_off111 (k0_t8 : Fin k0_t8_loop.trips) (c0_i32_876 : BitVec 32) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_875 : BitVec 32 := 256#32
  let v2885 : BitVec 32 := Scalar.muli v278 c256_i32_875
  let v2886 : BitVec 32 := Scalar.addi v2885 c0_i32_876
  let v2887 : BitVec 32 := v2886
  let v2888 : Index := Scalar.indexCast v2887
  let c1792_877 : Index := 1792#32
  ![v2888.toNat, 1792]
def k0_mult361 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_881 : BitVec 32 := 256#32
  let v2908 : BitVec 32 := Scalar.muli v278 c256_i32_881
  let c32_i32_882 : BitVec 32 := 32#32
  let v2909 : BitVec 32 := Scalar.addi v2908 c32_i32_882
  v2909
def k0_mult362 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_887 : BitVec 32 := 256#32
  let v2931 : BitVec 32 := Scalar.muli v278 c256_i32_887
  let c64_i32_888 : BitVec 32 := 64#32
  let v2932 : BitVec 32 := Scalar.addi v2931 c64_i32_888
  v2932
def k0_mult363 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_893 : BitVec 32 := 256#32
  let v2954 : BitVec 32 := Scalar.muli v278 c256_i32_893
  let c96_i32_894 : BitVec 32 := 96#32
  let v2955 : BitVec 32 := Scalar.addi v2954 c96_i32_894
  v2955
def k0_mult364 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_899 : BitVec 32 := 256#32
  let v2977 : BitVec 32 := Scalar.muli v278 c256_i32_899
  let c128_i32_900 : BitVec 32 := 128#32
  let v2978 : BitVec 32 := Scalar.addi v2977 c128_i32_900
  v2978
def k0_mult365 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_905 : BitVec 32 := 256#32
  let v3000 : BitVec 32 := Scalar.muli v278 c256_i32_905
  let c160_i32_906 : BitVec 32 := 160#32
  let v3001 : BitVec 32 := Scalar.addi v3000 c160_i32_906
  v3001
def k0_mult366 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_911 : BitVec 32 := 256#32
  let v3023 : BitVec 32 := Scalar.muli v278 c256_i32_911
  let c192_i32_912 : BitVec 32 := 192#32
  let v3024 : BitVec 32 := Scalar.addi v3023 c192_i32_912
  v3024
def k0_mult367 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_917 : BitVec 32 := 256#32
  let v3046 : BitVec 32 := Scalar.muli v278 c256_i32_917
  let c224_i32_918 : BitVec 32 := 224#32
  let v3047 : BitVec 32 := Scalar.addi v3046 c224_i32_918
  v3047
def k0_mult368 (k0_t8 : Fin k0_t8_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_923 : BitVec 32 := 256#32
  let v3069 : BitVec 32 := Scalar.muli v278 c256_i32_923
  v3069
def k0_off112 (k0_t8 : Fin k0_t8_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t8
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_923 : BitVec 32 := 256#32
  let v3069 : BitVec 32 := Scalar.muli v278 c256_i32_923
  let v3070 : BitVec 32 := v3069
  let c0_i32_924 : BitVec 32 := 0#32
  ![v3070.toNat, 0]
@[reducible] def k0_t9_loop : Scf.Loop 32 :=
  let c0_i32_155 : BitVec 32 := 0#32
  let c36_i32_156 : BitVec 32 := 36#32
  let v275 : BitVec 32 := Scalar.addi c0_i32_155 c36_i32_156
  let c1_i32_157 : BitVec 32 := 1#32
  ⟨c0_i32_155, v275, c1_i32_157⟩
def k0_mult369 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32 : BitVec 32 := 256#32
  let v281 : BitVec 32 := Scalar.muli v278 c256_i32
  let c0_i32_165 : BitVec 32 := 0#32
  let v282 : BitVec 32 := Scalar.addi v281 c0_i32_165
  v282
def k0_off113 (k0_t9 : Fin k0_t9_loop.trips) (c0_i32_165 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32 : BitVec 32 := 256#32
  let v281 : BitVec 32 := Scalar.muli v278 c256_i32
  let v282 : BitVec 32 := Scalar.addi v281 c0_i32_165
  let v283 : BitVec 32 := v282
  let v284 : Index := Scalar.indexCast v283
  let c0_166 : Index := 0#32
  ![v284.toNat, 0]
def k0_mult370 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v304 : BitVec 32 := Scalar.muli v278 c256_i32_170
  let c32_i32_171 : BitVec 32 := 32#32
  let v305 : BitVec 32 := Scalar.addi v304 c32_i32_171
  v305
def k0_mult371 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_176 : BitVec 32 := 256#32
  let v327 : BitVec 32 := Scalar.muli v278 c256_i32_176
  let c64_i32_177 : BitVec 32 := 64#32
  let v328 : BitVec 32 := Scalar.addi v327 c64_i32_177
  v328
def k0_mult372 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_182 : BitVec 32 := 256#32
  let v350 : BitVec 32 := Scalar.muli v278 c256_i32_182
  let c96_i32 : BitVec 32 := 96#32
  let v351 : BitVec 32 := Scalar.addi v350 c96_i32
  v351
def k0_mult373 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_187 : BitVec 32 := 256#32
  let v373 : BitVec 32 := Scalar.muli v278 c256_i32_187
  let c128_i32_188 : BitVec 32 := 128#32
  let v374 : BitVec 32 := Scalar.addi v373 c128_i32_188
  v374
def k0_mult374 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_193 : BitVec 32 := 256#32
  let v396 : BitVec 32 := Scalar.muli v278 c256_i32_193
  let c160_i32 : BitVec 32 := 160#32
  let v397 : BitVec 32 := Scalar.addi v396 c160_i32
  v397
def k0_mult375 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_198 : BitVec 32 := 256#32
  let v419 : BitVec 32 := Scalar.muli v278 c256_i32_198
  let c192_i32 : BitVec 32 := 192#32
  let v420 : BitVec 32 := Scalar.addi v419 c192_i32
  v420
def k0_mult376 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_203 : BitVec 32 := 256#32
  let v442 : BitVec 32 := Scalar.muli v278 c256_i32_203
  let c224_i32 : BitVec 32 := 224#32
  let v443 : BitVec 32 := Scalar.addi v442 c224_i32
  v443
def k0_mult377 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_211 : BitVec 32 := 256#32
  let v467 : BitVec 32 := Scalar.muli v278 c256_i32_211
  let c0_i32_212 : BitVec 32 := 0#32
  let v468 : BitVec 32 := Scalar.addi v467 c0_i32_212
  v468
def k0_off114 (k0_t9 : Fin k0_t9_loop.trips) (c0_i32_212 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_211 : BitVec 32 := 256#32
  let v467 : BitVec 32 := Scalar.muli v278 c256_i32_211
  let v468 : BitVec 32 := Scalar.addi v467 c0_i32_212
  let v469 : BitVec 32 := v468
  let v470 : Index := Scalar.indexCast v469
  let c128_213 : Index := 128#32
  ![v470.toNat, 128]
def k0_mult378 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_217 : BitVec 32 := 256#32
  let v490 : BitVec 32 := Scalar.muli v278 c256_i32_217
  let c32_i32_218 : BitVec 32 := 32#32
  let v491 : BitVec 32 := Scalar.addi v490 c32_i32_218
  v491
def k0_mult379 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_223 : BitVec 32 := 256#32
  let v513 : BitVec 32 := Scalar.muli v278 c256_i32_223
  let c64_i32_224 : BitVec 32 := 64#32
  let v514 : BitVec 32 := Scalar.addi v513 c64_i32_224
  v514
def k0_mult380 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_229 : BitVec 32 := 256#32
  let v536 : BitVec 32 := Scalar.muli v278 c256_i32_229
  let c96_i32_230 : BitVec 32 := 96#32
  let v537 : BitVec 32 := Scalar.addi v536 c96_i32_230
  v537
def k0_mult381 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_235 : BitVec 32 := 256#32
  let v559 : BitVec 32 := Scalar.muli v278 c256_i32_235
  let c128_i32_236 : BitVec 32 := 128#32
  let v560 : BitVec 32 := Scalar.addi v559 c128_i32_236
  v560
def k0_mult382 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_241 : BitVec 32 := 256#32
  let v582 : BitVec 32 := Scalar.muli v278 c256_i32_241
  let c160_i32_242 : BitVec 32 := 160#32
  let v583 : BitVec 32 := Scalar.addi v582 c160_i32_242
  v583
def k0_mult383 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_247 : BitVec 32 := 256#32
  let v605 : BitVec 32 := Scalar.muli v278 c256_i32_247
  let c192_i32_248 : BitVec 32 := 192#32
  let v606 : BitVec 32 := Scalar.addi v605 c192_i32_248
  v606
def k0_mult384 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_253 : BitVec 32 := 256#32
  let v628 : BitVec 32 := Scalar.muli v278 c256_i32_253
  let c224_i32_254 : BitVec 32 := 224#32
  let v629 : BitVec 32 := Scalar.addi v628 c224_i32_254
  v629
def k0_mult385 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_262 : BitVec 32 := 256#32
  let v653 : BitVec 32 := Scalar.muli v278 c256_i32_262
  let c0_i32_263 : BitVec 32 := 0#32
  let v654 : BitVec 32 := Scalar.addi v653 c0_i32_263
  v654
def k0_off115 (k0_t9 : Fin k0_t9_loop.trips) (c0_i32_263 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_262 : BitVec 32 := 256#32
  let v653 : BitVec 32 := Scalar.muli v278 c256_i32_262
  let v654 : BitVec 32 := Scalar.addi v653 c0_i32_263
  let v655 : BitVec 32 := v654
  let v656 : Index := Scalar.indexCast v655
  let c256_264 : Index := 256#32
  ![v656.toNat, 256]
def k0_mult386 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_268 : BitVec 32 := 256#32
  let v676 : BitVec 32 := Scalar.muli v278 c256_i32_268
  let c32_i32_269 : BitVec 32 := 32#32
  let v677 : BitVec 32 := Scalar.addi v676 c32_i32_269
  v677
def k0_mult387 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_274 : BitVec 32 := 256#32
  let v699 : BitVec 32 := Scalar.muli v278 c256_i32_274
  let c64_i32_275 : BitVec 32 := 64#32
  let v700 : BitVec 32 := Scalar.addi v699 c64_i32_275
  v700
def k0_mult388 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_280 : BitVec 32 := 256#32
  let v722 : BitVec 32 := Scalar.muli v278 c256_i32_280
  let c96_i32_281 : BitVec 32 := 96#32
  let v723 : BitVec 32 := Scalar.addi v722 c96_i32_281
  v723
def k0_mult389 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_286 : BitVec 32 := 256#32
  let v745 : BitVec 32 := Scalar.muli v278 c256_i32_286
  let c128_i32_287 : BitVec 32 := 128#32
  let v746 : BitVec 32 := Scalar.addi v745 c128_i32_287
  v746
def k0_mult390 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_292 : BitVec 32 := 256#32
  let v768 : BitVec 32 := Scalar.muli v278 c256_i32_292
  let c160_i32_293 : BitVec 32 := 160#32
  let v769 : BitVec 32 := Scalar.addi v768 c160_i32_293
  v769
def k0_mult391 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_298 : BitVec 32 := 256#32
  let v791 : BitVec 32 := Scalar.muli v278 c256_i32_298
  let c192_i32_299 : BitVec 32 := 192#32
  let v792 : BitVec 32 := Scalar.addi v791 c192_i32_299
  v792
def k0_mult392 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_304 : BitVec 32 := 256#32
  let v814 : BitVec 32 := Scalar.muli v278 c256_i32_304
  let c224_i32_305 : BitVec 32 := 224#32
  let v815 : BitVec 32 := Scalar.addi v814 c224_i32_305
  v815
def k0_mult393 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_313 : BitVec 32 := 256#32
  let v839 : BitVec 32 := Scalar.muli v278 c256_i32_313
  let c0_i32_314 : BitVec 32 := 0#32
  let v840 : BitVec 32 := Scalar.addi v839 c0_i32_314
  v840
def k0_off116 (k0_t9 : Fin k0_t9_loop.trips) (c0_i32_314 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_313 : BitVec 32 := 256#32
  let v839 : BitVec 32 := Scalar.muli v278 c256_i32_313
  let v840 : BitVec 32 := Scalar.addi v839 c0_i32_314
  let v841 : BitVec 32 := v840
  let v842 : Index := Scalar.indexCast v841
  let c384_315 : Index := 384#32
  ![v842.toNat, 384]
def k0_mult394 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_319 : BitVec 32 := 256#32
  let v862 : BitVec 32 := Scalar.muli v278 c256_i32_319
  let c32_i32_320 : BitVec 32 := 32#32
  let v863 : BitVec 32 := Scalar.addi v862 c32_i32_320
  v863
def k0_mult395 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_325 : BitVec 32 := 256#32
  let v885 : BitVec 32 := Scalar.muli v278 c256_i32_325
  let c64_i32_326 : BitVec 32 := 64#32
  let v886 : BitVec 32 := Scalar.addi v885 c64_i32_326
  v886
def k0_mult396 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_331 : BitVec 32 := 256#32
  let v908 : BitVec 32 := Scalar.muli v278 c256_i32_331
  let c96_i32_332 : BitVec 32 := 96#32
  let v909 : BitVec 32 := Scalar.addi v908 c96_i32_332
  v909
def k0_mult397 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_337 : BitVec 32 := 256#32
  let v931 : BitVec 32 := Scalar.muli v278 c256_i32_337
  let c128_i32_338 : BitVec 32 := 128#32
  let v932 : BitVec 32 := Scalar.addi v931 c128_i32_338
  v932
def k0_mult398 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_343 : BitVec 32 := 256#32
  let v954 : BitVec 32 := Scalar.muli v278 c256_i32_343
  let c160_i32_344 : BitVec 32 := 160#32
  let v955 : BitVec 32 := Scalar.addi v954 c160_i32_344
  v955
def k0_mult399 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_349 : BitVec 32 := 256#32
  let v977 : BitVec 32 := Scalar.muli v278 c256_i32_349
  let c192_i32_350 : BitVec 32 := 192#32
  let v978 : BitVec 32 := Scalar.addi v977 c192_i32_350
  v978
def k0_mult400 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_355 : BitVec 32 := 256#32
  let v1000 : BitVec 32 := Scalar.muli v278 c256_i32_355
  let c224_i32_356 : BitVec 32 := 224#32
  let v1001 : BitVec 32 := Scalar.addi v1000 c224_i32_356
  v1001
def k0_mult401 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_364 : BitVec 32 := 256#32
  let v1025 : BitVec 32 := Scalar.muli v278 c256_i32_364
  let c0_i32_365 : BitVec 32 := 0#32
  let v1026 : BitVec 32 := Scalar.addi v1025 c0_i32_365
  v1026
def k0_off117 (k0_t9 : Fin k0_t9_loop.trips) (c0_i32_365 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_364 : BitVec 32 := 256#32
  let v1025 : BitVec 32 := Scalar.muli v278 c256_i32_364
  let v1026 : BitVec 32 := Scalar.addi v1025 c0_i32_365
  let v1027 : BitVec 32 := v1026
  let v1028 : Index := Scalar.indexCast v1027
  let c512_366 : Index := 512#32
  ![v1028.toNat, 512]
def k0_mult402 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_370 : BitVec 32 := 256#32
  let v1048 : BitVec 32 := Scalar.muli v278 c256_i32_370
  let c32_i32_371 : BitVec 32 := 32#32
  let v1049 : BitVec 32 := Scalar.addi v1048 c32_i32_371
  v1049
def k0_mult403 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_376 : BitVec 32 := 256#32
  let v1071 : BitVec 32 := Scalar.muli v278 c256_i32_376
  let c64_i32_377 : BitVec 32 := 64#32
  let v1072 : BitVec 32 := Scalar.addi v1071 c64_i32_377
  v1072
def k0_mult404 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_382 : BitVec 32 := 256#32
  let v1094 : BitVec 32 := Scalar.muli v278 c256_i32_382
  let c96_i32_383 : BitVec 32 := 96#32
  let v1095 : BitVec 32 := Scalar.addi v1094 c96_i32_383
  v1095
def k0_mult405 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_388 : BitVec 32 := 256#32
  let v1117 : BitVec 32 := Scalar.muli v278 c256_i32_388
  let c128_i32_389 : BitVec 32 := 128#32
  let v1118 : BitVec 32 := Scalar.addi v1117 c128_i32_389
  v1118
def k0_mult406 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_394 : BitVec 32 := 256#32
  let v1140 : BitVec 32 := Scalar.muli v278 c256_i32_394
  let c160_i32_395 : BitVec 32 := 160#32
  let v1141 : BitVec 32 := Scalar.addi v1140 c160_i32_395
  v1141
def k0_mult407 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_400 : BitVec 32 := 256#32
  let v1163 : BitVec 32 := Scalar.muli v278 c256_i32_400
  let c192_i32_401 : BitVec 32 := 192#32
  let v1164 : BitVec 32 := Scalar.addi v1163 c192_i32_401
  v1164
def k0_mult408 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_406 : BitVec 32 := 256#32
  let v1186 : BitVec 32 := Scalar.muli v278 c256_i32_406
  let c224_i32_407 : BitVec 32 := 224#32
  let v1187 : BitVec 32 := Scalar.addi v1186 c224_i32_407
  v1187
def k0_mult409 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_415 : BitVec 32 := 256#32
  let v1211 : BitVec 32 := Scalar.muli v278 c256_i32_415
  let c0_i32_416 : BitVec 32 := 0#32
  let v1212 : BitVec 32 := Scalar.addi v1211 c0_i32_416
  v1212
def k0_off118 (k0_t9 : Fin k0_t9_loop.trips) (c0_i32_416 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_415 : BitVec 32 := 256#32
  let v1211 : BitVec 32 := Scalar.muli v278 c256_i32_415
  let v1212 : BitVec 32 := Scalar.addi v1211 c0_i32_416
  let v1213 : BitVec 32 := v1212
  let v1214 : Index := Scalar.indexCast v1213
  let c640_417 : Index := 640#32
  ![v1214.toNat, 640]
def k0_mult410 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_421 : BitVec 32 := 256#32
  let v1234 : BitVec 32 := Scalar.muli v278 c256_i32_421
  let c32_i32_422 : BitVec 32 := 32#32
  let v1235 : BitVec 32 := Scalar.addi v1234 c32_i32_422
  v1235
def k0_mult411 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_427 : BitVec 32 := 256#32
  let v1257 : BitVec 32 := Scalar.muli v278 c256_i32_427
  let c64_i32_428 : BitVec 32 := 64#32
  let v1258 : BitVec 32 := Scalar.addi v1257 c64_i32_428
  v1258
def k0_mult412 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_433 : BitVec 32 := 256#32
  let v1280 : BitVec 32 := Scalar.muli v278 c256_i32_433
  let c96_i32_434 : BitVec 32 := 96#32
  let v1281 : BitVec 32 := Scalar.addi v1280 c96_i32_434
  v1281
def k0_mult413 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_439 : BitVec 32 := 256#32
  let v1303 : BitVec 32 := Scalar.muli v278 c256_i32_439
  let c128_i32_440 : BitVec 32 := 128#32
  let v1304 : BitVec 32 := Scalar.addi v1303 c128_i32_440
  v1304
def k0_mult414 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_445 : BitVec 32 := 256#32
  let v1326 : BitVec 32 := Scalar.muli v278 c256_i32_445
  let c160_i32_446 : BitVec 32 := 160#32
  let v1327 : BitVec 32 := Scalar.addi v1326 c160_i32_446
  v1327
def k0_mult415 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_451 : BitVec 32 := 256#32
  let v1349 : BitVec 32 := Scalar.muli v278 c256_i32_451
  let c192_i32_452 : BitVec 32 := 192#32
  let v1350 : BitVec 32 := Scalar.addi v1349 c192_i32_452
  v1350
def k0_mult416 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_457 : BitVec 32 := 256#32
  let v1372 : BitVec 32 := Scalar.muli v278 c256_i32_457
  let c224_i32_458 : BitVec 32 := 224#32
  let v1373 : BitVec 32 := Scalar.addi v1372 c224_i32_458
  v1373
def k0_mult417 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_466 : BitVec 32 := 256#32
  let v1397 : BitVec 32 := Scalar.muli v278 c256_i32_466
  let c0_i32_467 : BitVec 32 := 0#32
  let v1398 : BitVec 32 := Scalar.addi v1397 c0_i32_467
  v1398
def k0_off119 (k0_t9 : Fin k0_t9_loop.trips) (c0_i32_467 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_466 : BitVec 32 := 256#32
  let v1397 : BitVec 32 := Scalar.muli v278 c256_i32_466
  let v1398 : BitVec 32 := Scalar.addi v1397 c0_i32_467
  let v1399 : BitVec 32 := v1398
  let v1400 : Index := Scalar.indexCast v1399
  let c768_468 : Index := 768#32
  ![v1400.toNat, 768]
def k0_mult418 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_472 : BitVec 32 := 256#32
  let v1420 : BitVec 32 := Scalar.muli v278 c256_i32_472
  let c32_i32_473 : BitVec 32 := 32#32
  let v1421 : BitVec 32 := Scalar.addi v1420 c32_i32_473
  v1421
def k0_mult419 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_478 : BitVec 32 := 256#32
  let v1443 : BitVec 32 := Scalar.muli v278 c256_i32_478
  let c64_i32_479 : BitVec 32 := 64#32
  let v1444 : BitVec 32 := Scalar.addi v1443 c64_i32_479
  v1444
def k0_mult420 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_484 : BitVec 32 := 256#32
  let v1466 : BitVec 32 := Scalar.muli v278 c256_i32_484
  let c96_i32_485 : BitVec 32 := 96#32
  let v1467 : BitVec 32 := Scalar.addi v1466 c96_i32_485
  v1467
def k0_mult421 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_490 : BitVec 32 := 256#32
  let v1489 : BitVec 32 := Scalar.muli v278 c256_i32_490
  let c128_i32_491 : BitVec 32 := 128#32
  let v1490 : BitVec 32 := Scalar.addi v1489 c128_i32_491
  v1490
def k0_mult422 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_496 : BitVec 32 := 256#32
  let v1512 : BitVec 32 := Scalar.muli v278 c256_i32_496
  let c160_i32_497 : BitVec 32 := 160#32
  let v1513 : BitVec 32 := Scalar.addi v1512 c160_i32_497
  v1513
def k0_mult423 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_502 : BitVec 32 := 256#32
  let v1535 : BitVec 32 := Scalar.muli v278 c256_i32_502
  let c192_i32_503 : BitVec 32 := 192#32
  let v1536 : BitVec 32 := Scalar.addi v1535 c192_i32_503
  v1536
def k0_mult424 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_508 : BitVec 32 := 256#32
  let v1558 : BitVec 32 := Scalar.muli v278 c256_i32_508
  let c224_i32_509 : BitVec 32 := 224#32
  let v1559 : BitVec 32 := Scalar.addi v1558 c224_i32_509
  v1559
def k0_mult425 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_517 : BitVec 32 := 256#32
  let v1583 : BitVec 32 := Scalar.muli v278 c256_i32_517
  let c0_i32_518 : BitVec 32 := 0#32
  let v1584 : BitVec 32 := Scalar.addi v1583 c0_i32_518
  v1584
def k0_off120 (k0_t9 : Fin k0_t9_loop.trips) (c0_i32_518 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_517 : BitVec 32 := 256#32
  let v1583 : BitVec 32 := Scalar.muli v278 c256_i32_517
  let v1584 : BitVec 32 := Scalar.addi v1583 c0_i32_518
  let v1585 : BitVec 32 := v1584
  let v1586 : Index := Scalar.indexCast v1585
  let c896_519 : Index := 896#32
  ![v1586.toNat, 896]
def k0_mult426 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_523 : BitVec 32 := 256#32
  let v1606 : BitVec 32 := Scalar.muli v278 c256_i32_523
  let c32_i32_524 : BitVec 32 := 32#32
  let v1607 : BitVec 32 := Scalar.addi v1606 c32_i32_524
  v1607
def k0_mult427 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_529 : BitVec 32 := 256#32
  let v1629 : BitVec 32 := Scalar.muli v278 c256_i32_529
  let c64_i32_530 : BitVec 32 := 64#32
  let v1630 : BitVec 32 := Scalar.addi v1629 c64_i32_530
  v1630
def k0_mult428 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_535 : BitVec 32 := 256#32
  let v1652 : BitVec 32 := Scalar.muli v278 c256_i32_535
  let c96_i32_536 : BitVec 32 := 96#32
  let v1653 : BitVec 32 := Scalar.addi v1652 c96_i32_536
  v1653
def k0_mult429 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_541 : BitVec 32 := 256#32
  let v1675 : BitVec 32 := Scalar.muli v278 c256_i32_541
  let c128_i32_542 : BitVec 32 := 128#32
  let v1676 : BitVec 32 := Scalar.addi v1675 c128_i32_542
  v1676
def k0_mult430 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_547 : BitVec 32 := 256#32
  let v1698 : BitVec 32 := Scalar.muli v278 c256_i32_547
  let c160_i32_548 : BitVec 32 := 160#32
  let v1699 : BitVec 32 := Scalar.addi v1698 c160_i32_548
  v1699
def k0_mult431 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_553 : BitVec 32 := 256#32
  let v1721 : BitVec 32 := Scalar.muli v278 c256_i32_553
  let c192_i32_554 : BitVec 32 := 192#32
  let v1722 : BitVec 32 := Scalar.addi v1721 c192_i32_554
  v1722
def k0_mult432 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_559 : BitVec 32 := 256#32
  let v1744 : BitVec 32 := Scalar.muli v278 c256_i32_559
  let c224_i32_560 : BitVec 32 := 224#32
  let v1745 : BitVec 32 := Scalar.addi v1744 c224_i32_560
  v1745
def k0_mult433 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_568 : BitVec 32 := 256#32
  let v1769 : BitVec 32 := Scalar.muli v278 c256_i32_568
  let c0_i32_569 : BitVec 32 := 0#32
  let v1770 : BitVec 32 := Scalar.addi v1769 c0_i32_569
  v1770
def k0_off121 (k0_t9 : Fin k0_t9_loop.trips) (c0_i32_569 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_568 : BitVec 32 := 256#32
  let v1769 : BitVec 32 := Scalar.muli v278 c256_i32_568
  let v1770 : BitVec 32 := Scalar.addi v1769 c0_i32_569
  let v1771 : BitVec 32 := v1770
  let v1772 : Index := Scalar.indexCast v1771
  let c1024_570 : Index := 1024#32
  ![v1772.toNat, 1024]
def k0_mult434 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_574 : BitVec 32 := 256#32
  let v1792 : BitVec 32 := Scalar.muli v278 c256_i32_574
  let c32_i32_575 : BitVec 32 := 32#32
  let v1793 : BitVec 32 := Scalar.addi v1792 c32_i32_575
  v1793
def k0_mult435 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_580 : BitVec 32 := 256#32
  let v1815 : BitVec 32 := Scalar.muli v278 c256_i32_580
  let c64_i32_581 : BitVec 32 := 64#32
  let v1816 : BitVec 32 := Scalar.addi v1815 c64_i32_581
  v1816
def k0_mult436 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_586 : BitVec 32 := 256#32
  let v1838 : BitVec 32 := Scalar.muli v278 c256_i32_586
  let c96_i32_587 : BitVec 32 := 96#32
  let v1839 : BitVec 32 := Scalar.addi v1838 c96_i32_587
  v1839
def k0_mult437 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_592 : BitVec 32 := 256#32
  let v1861 : BitVec 32 := Scalar.muli v278 c256_i32_592
  let c128_i32_593 : BitVec 32 := 128#32
  let v1862 : BitVec 32 := Scalar.addi v1861 c128_i32_593
  v1862
def k0_mult438 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_598 : BitVec 32 := 256#32
  let v1884 : BitVec 32 := Scalar.muli v278 c256_i32_598
  let c160_i32_599 : BitVec 32 := 160#32
  let v1885 : BitVec 32 := Scalar.addi v1884 c160_i32_599
  v1885
def k0_mult439 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_604 : BitVec 32 := 256#32
  let v1907 : BitVec 32 := Scalar.muli v278 c256_i32_604
  let c192_i32_605 : BitVec 32 := 192#32
  let v1908 : BitVec 32 := Scalar.addi v1907 c192_i32_605
  v1908
def k0_mult440 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_610 : BitVec 32 := 256#32
  let v1930 : BitVec 32 := Scalar.muli v278 c256_i32_610
  let c224_i32_611 : BitVec 32 := 224#32
  let v1931 : BitVec 32 := Scalar.addi v1930 c224_i32_611
  v1931
def k0_mult441 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_619 : BitVec 32 := 256#32
  let v1955 : BitVec 32 := Scalar.muli v278 c256_i32_619
  let c0_i32_620 : BitVec 32 := 0#32
  let v1956 : BitVec 32 := Scalar.addi v1955 c0_i32_620
  v1956
def k0_off122 (k0_t9 : Fin k0_t9_loop.trips) (c0_i32_620 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_619 : BitVec 32 := 256#32
  let v1955 : BitVec 32 := Scalar.muli v278 c256_i32_619
  let v1956 : BitVec 32 := Scalar.addi v1955 c0_i32_620
  let v1957 : BitVec 32 := v1956
  let v1958 : Index := Scalar.indexCast v1957
  let c1152_621 : Index := 1152#32
  ![v1958.toNat, 1152]
def k0_mult442 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_625 : BitVec 32 := 256#32
  let v1978 : BitVec 32 := Scalar.muli v278 c256_i32_625
  let c32_i32_626 : BitVec 32 := 32#32
  let v1979 : BitVec 32 := Scalar.addi v1978 c32_i32_626
  v1979
def k0_mult443 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_631 : BitVec 32 := 256#32
  let v2001 : BitVec 32 := Scalar.muli v278 c256_i32_631
  let c64_i32_632 : BitVec 32 := 64#32
  let v2002 : BitVec 32 := Scalar.addi v2001 c64_i32_632
  v2002
def k0_mult444 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_637 : BitVec 32 := 256#32
  let v2024 : BitVec 32 := Scalar.muli v278 c256_i32_637
  let c96_i32_638 : BitVec 32 := 96#32
  let v2025 : BitVec 32 := Scalar.addi v2024 c96_i32_638
  v2025
def k0_mult445 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_643 : BitVec 32 := 256#32
  let v2047 : BitVec 32 := Scalar.muli v278 c256_i32_643
  let c128_i32_644 : BitVec 32 := 128#32
  let v2048 : BitVec 32 := Scalar.addi v2047 c128_i32_644
  v2048
def k0_mult446 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_649 : BitVec 32 := 256#32
  let v2070 : BitVec 32 := Scalar.muli v278 c256_i32_649
  let c160_i32_650 : BitVec 32 := 160#32
  let v2071 : BitVec 32 := Scalar.addi v2070 c160_i32_650
  v2071
def k0_mult447 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_655 : BitVec 32 := 256#32
  let v2093 : BitVec 32 := Scalar.muli v278 c256_i32_655
  let c192_i32_656 : BitVec 32 := 192#32
  let v2094 : BitVec 32 := Scalar.addi v2093 c192_i32_656
  v2094
def k0_mult448 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_661 : BitVec 32 := 256#32
  let v2116 : BitVec 32 := Scalar.muli v278 c256_i32_661
  let c224_i32_662 : BitVec 32 := 224#32
  let v2117 : BitVec 32 := Scalar.addi v2116 c224_i32_662
  v2117
def k0_mult449 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_670 : BitVec 32 := 256#32
  let v2141 : BitVec 32 := Scalar.muli v278 c256_i32_670
  let c0_i32_671 : BitVec 32 := 0#32
  let v2142 : BitVec 32 := Scalar.addi v2141 c0_i32_671
  v2142
def k0_off123 (k0_t9 : Fin k0_t9_loop.trips) (c0_i32_671 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_670 : BitVec 32 := 256#32
  let v2141 : BitVec 32 := Scalar.muli v278 c256_i32_670
  let v2142 : BitVec 32 := Scalar.addi v2141 c0_i32_671
  let v2143 : BitVec 32 := v2142
  let v2144 : Index := Scalar.indexCast v2143
  let c1280_672 : Index := 1280#32
  ![v2144.toNat, 1280]
def k0_mult450 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_676 : BitVec 32 := 256#32
  let v2164 : BitVec 32 := Scalar.muli v278 c256_i32_676
  let c32_i32_677 : BitVec 32 := 32#32
  let v2165 : BitVec 32 := Scalar.addi v2164 c32_i32_677
  v2165
def k0_mult451 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_682 : BitVec 32 := 256#32
  let v2187 : BitVec 32 := Scalar.muli v278 c256_i32_682
  let c64_i32_683 : BitVec 32 := 64#32
  let v2188 : BitVec 32 := Scalar.addi v2187 c64_i32_683
  v2188
def k0_mult452 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_688 : BitVec 32 := 256#32
  let v2210 : BitVec 32 := Scalar.muli v278 c256_i32_688
  let c96_i32_689 : BitVec 32 := 96#32
  let v2211 : BitVec 32 := Scalar.addi v2210 c96_i32_689
  v2211
def k0_mult453 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_694 : BitVec 32 := 256#32
  let v2233 : BitVec 32 := Scalar.muli v278 c256_i32_694
  let c128_i32_695 : BitVec 32 := 128#32
  let v2234 : BitVec 32 := Scalar.addi v2233 c128_i32_695
  v2234
def k0_mult454 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_700 : BitVec 32 := 256#32
  let v2256 : BitVec 32 := Scalar.muli v278 c256_i32_700
  let c160_i32_701 : BitVec 32 := 160#32
  let v2257 : BitVec 32 := Scalar.addi v2256 c160_i32_701
  v2257
def k0_mult455 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_706 : BitVec 32 := 256#32
  let v2279 : BitVec 32 := Scalar.muli v278 c256_i32_706
  let c192_i32_707 : BitVec 32 := 192#32
  let v2280 : BitVec 32 := Scalar.addi v2279 c192_i32_707
  v2280
def k0_mult456 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_712 : BitVec 32 := 256#32
  let v2302 : BitVec 32 := Scalar.muli v278 c256_i32_712
  let c224_i32_713 : BitVec 32 := 224#32
  let v2303 : BitVec 32 := Scalar.addi v2302 c224_i32_713
  v2303
def k0_mult457 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_721 : BitVec 32 := 256#32
  let v2327 : BitVec 32 := Scalar.muli v278 c256_i32_721
  let c0_i32_722 : BitVec 32 := 0#32
  let v2328 : BitVec 32 := Scalar.addi v2327 c0_i32_722
  v2328
def k0_off124 (k0_t9 : Fin k0_t9_loop.trips) (c0_i32_722 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_721 : BitVec 32 := 256#32
  let v2327 : BitVec 32 := Scalar.muli v278 c256_i32_721
  let v2328 : BitVec 32 := Scalar.addi v2327 c0_i32_722
  let v2329 : BitVec 32 := v2328
  let v2330 : Index := Scalar.indexCast v2329
  let c1408_723 : Index := 1408#32
  ![v2330.toNat, 1408]
def k0_mult458 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_727 : BitVec 32 := 256#32
  let v2350 : BitVec 32 := Scalar.muli v278 c256_i32_727
  let c32_i32_728 : BitVec 32 := 32#32
  let v2351 : BitVec 32 := Scalar.addi v2350 c32_i32_728
  v2351
def k0_mult459 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_733 : BitVec 32 := 256#32
  let v2373 : BitVec 32 := Scalar.muli v278 c256_i32_733
  let c64_i32_734 : BitVec 32 := 64#32
  let v2374 : BitVec 32 := Scalar.addi v2373 c64_i32_734
  v2374
def k0_mult460 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_739 : BitVec 32 := 256#32
  let v2396 : BitVec 32 := Scalar.muli v278 c256_i32_739
  let c96_i32_740 : BitVec 32 := 96#32
  let v2397 : BitVec 32 := Scalar.addi v2396 c96_i32_740
  v2397
def k0_mult461 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_745 : BitVec 32 := 256#32
  let v2419 : BitVec 32 := Scalar.muli v278 c256_i32_745
  let c128_i32_746 : BitVec 32 := 128#32
  let v2420 : BitVec 32 := Scalar.addi v2419 c128_i32_746
  v2420
def k0_mult462 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_751 : BitVec 32 := 256#32
  let v2442 : BitVec 32 := Scalar.muli v278 c256_i32_751
  let c160_i32_752 : BitVec 32 := 160#32
  let v2443 : BitVec 32 := Scalar.addi v2442 c160_i32_752
  v2443
def k0_mult463 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_757 : BitVec 32 := 256#32
  let v2465 : BitVec 32 := Scalar.muli v278 c256_i32_757
  let c192_i32_758 : BitVec 32 := 192#32
  let v2466 : BitVec 32 := Scalar.addi v2465 c192_i32_758
  v2466
def k0_mult464 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_763 : BitVec 32 := 256#32
  let v2488 : BitVec 32 := Scalar.muli v278 c256_i32_763
  let c224_i32_764 : BitVec 32 := 224#32
  let v2489 : BitVec 32 := Scalar.addi v2488 c224_i32_764
  v2489
def k0_mult465 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_772 : BitVec 32 := 256#32
  let v2513 : BitVec 32 := Scalar.muli v278 c256_i32_772
  let c0_i32_773 : BitVec 32 := 0#32
  let v2514 : BitVec 32 := Scalar.addi v2513 c0_i32_773
  v2514
def k0_off125 (k0_t9 : Fin k0_t9_loop.trips) (c0_i32_773 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_772 : BitVec 32 := 256#32
  let v2513 : BitVec 32 := Scalar.muli v278 c256_i32_772
  let v2514 : BitVec 32 := Scalar.addi v2513 c0_i32_773
  let v2515 : BitVec 32 := v2514
  let v2516 : Index := Scalar.indexCast v2515
  let c1536_774 : Index := 1536#32
  ![v2516.toNat, 1536]
def k0_mult466 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_778 : BitVec 32 := 256#32
  let v2536 : BitVec 32 := Scalar.muli v278 c256_i32_778
  let c32_i32_779 : BitVec 32 := 32#32
  let v2537 : BitVec 32 := Scalar.addi v2536 c32_i32_779
  v2537
def k0_mult467 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_784 : BitVec 32 := 256#32
  let v2559 : BitVec 32 := Scalar.muli v278 c256_i32_784
  let c64_i32_785 : BitVec 32 := 64#32
  let v2560 : BitVec 32 := Scalar.addi v2559 c64_i32_785
  v2560
def k0_mult468 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_790 : BitVec 32 := 256#32
  let v2582 : BitVec 32 := Scalar.muli v278 c256_i32_790
  let c96_i32_791 : BitVec 32 := 96#32
  let v2583 : BitVec 32 := Scalar.addi v2582 c96_i32_791
  v2583
def k0_mult469 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_796 : BitVec 32 := 256#32
  let v2605 : BitVec 32 := Scalar.muli v278 c256_i32_796
  let c128_i32_797 : BitVec 32 := 128#32
  let v2606 : BitVec 32 := Scalar.addi v2605 c128_i32_797
  v2606
def k0_mult470 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_802 : BitVec 32 := 256#32
  let v2628 : BitVec 32 := Scalar.muli v278 c256_i32_802
  let c160_i32_803 : BitVec 32 := 160#32
  let v2629 : BitVec 32 := Scalar.addi v2628 c160_i32_803
  v2629
def k0_mult471 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_808 : BitVec 32 := 256#32
  let v2651 : BitVec 32 := Scalar.muli v278 c256_i32_808
  let c192_i32_809 : BitVec 32 := 192#32
  let v2652 : BitVec 32 := Scalar.addi v2651 c192_i32_809
  v2652
def k0_mult472 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_814 : BitVec 32 := 256#32
  let v2674 : BitVec 32 := Scalar.muli v278 c256_i32_814
  let c224_i32_815 : BitVec 32 := 224#32
  let v2675 : BitVec 32 := Scalar.addi v2674 c224_i32_815
  v2675
def k0_mult473 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_823 : BitVec 32 := 256#32
  let v2699 : BitVec 32 := Scalar.muli v278 c256_i32_823
  let c0_i32_824 : BitVec 32 := 0#32
  let v2700 : BitVec 32 := Scalar.addi v2699 c0_i32_824
  v2700
def k0_off126 (k0_t9 : Fin k0_t9_loop.trips) (c0_i32_824 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_823 : BitVec 32 := 256#32
  let v2699 : BitVec 32 := Scalar.muli v278 c256_i32_823
  let v2700 : BitVec 32 := Scalar.addi v2699 c0_i32_824
  let v2701 : BitVec 32 := v2700
  let v2702 : Index := Scalar.indexCast v2701
  let c1664_825 : Index := 1664#32
  ![v2702.toNat, 1664]
def k0_mult474 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_829 : BitVec 32 := 256#32
  let v2722 : BitVec 32 := Scalar.muli v278 c256_i32_829
  let c32_i32_830 : BitVec 32 := 32#32
  let v2723 : BitVec 32 := Scalar.addi v2722 c32_i32_830
  v2723
def k0_mult475 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_835 : BitVec 32 := 256#32
  let v2745 : BitVec 32 := Scalar.muli v278 c256_i32_835
  let c64_i32_836 : BitVec 32 := 64#32
  let v2746 : BitVec 32 := Scalar.addi v2745 c64_i32_836
  v2746
def k0_mult476 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_841 : BitVec 32 := 256#32
  let v2768 : BitVec 32 := Scalar.muli v278 c256_i32_841
  let c96_i32_842 : BitVec 32 := 96#32
  let v2769 : BitVec 32 := Scalar.addi v2768 c96_i32_842
  v2769
def k0_mult477 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_847 : BitVec 32 := 256#32
  let v2791 : BitVec 32 := Scalar.muli v278 c256_i32_847
  let c128_i32_848 : BitVec 32 := 128#32
  let v2792 : BitVec 32 := Scalar.addi v2791 c128_i32_848
  v2792
def k0_mult478 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_853 : BitVec 32 := 256#32
  let v2814 : BitVec 32 := Scalar.muli v278 c256_i32_853
  let c160_i32_854 : BitVec 32 := 160#32
  let v2815 : BitVec 32 := Scalar.addi v2814 c160_i32_854
  v2815
def k0_mult479 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_859 : BitVec 32 := 256#32
  let v2837 : BitVec 32 := Scalar.muli v278 c256_i32_859
  let c192_i32_860 : BitVec 32 := 192#32
  let v2838 : BitVec 32 := Scalar.addi v2837 c192_i32_860
  v2838
def k0_mult480 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_865 : BitVec 32 := 256#32
  let v2860 : BitVec 32 := Scalar.muli v278 c256_i32_865
  let c224_i32_866 : BitVec 32 := 224#32
  let v2861 : BitVec 32 := Scalar.addi v2860 c224_i32_866
  v2861
def k0_mult481 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_874 : BitVec 32 := 256#32
  let v2885 : BitVec 32 := Scalar.muli v278 c256_i32_874
  let c0_i32_875 : BitVec 32 := 0#32
  let v2886 : BitVec 32 := Scalar.addi v2885 c0_i32_875
  v2886
def k0_off127 (k0_t9 : Fin k0_t9_loop.trips) (c0_i32_875 : BitVec 32) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_874 : BitVec 32 := 256#32
  let v2885 : BitVec 32 := Scalar.muli v278 c256_i32_874
  let v2886 : BitVec 32 := Scalar.addi v2885 c0_i32_875
  let v2887 : BitVec 32 := v2886
  let v2888 : Index := Scalar.indexCast v2887
  let c1792_876 : Index := 1792#32
  ![v2888.toNat, 1792]
def k0_mult482 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_880 : BitVec 32 := 256#32
  let v2908 : BitVec 32 := Scalar.muli v278 c256_i32_880
  let c32_i32_881 : BitVec 32 := 32#32
  let v2909 : BitVec 32 := Scalar.addi v2908 c32_i32_881
  v2909
def k0_mult483 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_886 : BitVec 32 := 256#32
  let v2931 : BitVec 32 := Scalar.muli v278 c256_i32_886
  let c64_i32_887 : BitVec 32 := 64#32
  let v2932 : BitVec 32 := Scalar.addi v2931 c64_i32_887
  v2932
def k0_mult484 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_892 : BitVec 32 := 256#32
  let v2954 : BitVec 32 := Scalar.muli v278 c256_i32_892
  let c96_i32_893 : BitVec 32 := 96#32
  let v2955 : BitVec 32 := Scalar.addi v2954 c96_i32_893
  v2955
def k0_mult485 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_898 : BitVec 32 := 256#32
  let v2977 : BitVec 32 := Scalar.muli v278 c256_i32_898
  let c128_i32_899 : BitVec 32 := 128#32
  let v2978 : BitVec 32 := Scalar.addi v2977 c128_i32_899
  v2978
def k0_mult486 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_904 : BitVec 32 := 256#32
  let v3000 : BitVec 32 := Scalar.muli v278 c256_i32_904
  let c160_i32_905 : BitVec 32 := 160#32
  let v3001 : BitVec 32 := Scalar.addi v3000 c160_i32_905
  v3001
def k0_mult487 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_910 : BitVec 32 := 256#32
  let v3023 : BitVec 32 := Scalar.muli v278 c256_i32_910
  let c192_i32_911 : BitVec 32 := 192#32
  let v3024 : BitVec 32 := Scalar.addi v3023 c192_i32_911
  v3024
def k0_mult488 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_916 : BitVec 32 := 256#32
  let v3046 : BitVec 32 := Scalar.muli v278 c256_i32_916
  let c224_i32_917 : BitVec 32 := 224#32
  let v3047 : BitVec 32 := Scalar.addi v3046 c224_i32_917
  v3047
def k0_mult489 (k0_t9 : Fin k0_t9_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_922 : BitVec 32 := 256#32
  let v3069 : BitVec 32 := Scalar.muli v278 c256_i32_922
  v3069
def k0_off128 (k0_t9 : Fin k0_t9_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t9
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_922 : BitVec 32 := 256#32
  let v3069 : BitVec 32 := Scalar.muli v278 c256_i32_922
  let v3070 : BitVec 32 := v3069
  let c0_i32_923 : BitVec 32 := 0#32
  ![v3070.toNat, 0]
@[reducible] def k0_t10_loop : Scf.Loop 32 :=
  let c0_i32_151 : BitVec 32 := 0#32
  let c36_i32_152 : BitVec 32 := 36#32
  let v274 : BitVec 32 := Scalar.addi c0_i32_151 c36_i32_152
  let c1_i32_153 : BitVec 32 := 1#32
  ⟨c0_i32_151, v274, c1_i32_153⟩
@[reducible] def k0_t11_loop : Scf.Loop 32 :=
  let c0_i32_162 : BitVec 32 := 0#32
  let c8_i32_163 : BitVec 32 := 8#32
  let v279 : BitVec 32 := Scalar.addi c0_i32_162 c8_i32_163
  let c1_i32_164 : BitVec 32 := 1#32
  ⟨c0_i32_162, v279, c1_i32_164⟩
def k0_mult490 (k0_t10 : Fin k0_t10_loop.trips) (k0_t11 : Fin k0_t11_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  v288
def k0_off129 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v290 : Index := Scalar.indexCast v289
  let c0_172 : Index := 0#32
  ![v290.toNat, 0]
def k0_off130 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v315 : Index := Scalar.indexCast v289
  let c128 : Index := 128#32
  ![v315.toNat, 128]
def k0_off131 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v340 : Index := Scalar.indexCast v289
  let c256 : Index := 256#32
  ![v340.toNat, 256]
def k0_off132 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v365 : Index := Scalar.indexCast v289
  let c384 : Index := 384#32
  ![v365.toNat, 384]
def k0_off133 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v390 : Index := Scalar.indexCast v289
  let c512 : Index := 512#32
  ![v390.toNat, 512]
def k0_off134 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v415 : Index := Scalar.indexCast v289
  let c640 : Index := 640#32
  ![v415.toNat, 640]
def k0_off135 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v440 : Index := Scalar.indexCast v289
  let c768 : Index := 768#32
  ![v440.toNat, 768]
def k0_off136 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v465 : Index := Scalar.indexCast v289
  let c896 : Index := 896#32
  ![v465.toNat, 896]
def k0_off137 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v490 : Index := Scalar.indexCast v289
  let c1024 : Index := 1024#32
  ![v490.toNat, 1024]
def k0_off138 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v515 : Index := Scalar.indexCast v289
  let c1152 : Index := 1152#32
  ![v515.toNat, 1152]
def k0_off139 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v540 : Index := Scalar.indexCast v289
  let c1280 : Index := 1280#32
  ![v540.toNat, 1280]
def k0_off140 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v565 : Index := Scalar.indexCast v289
  let c1408 : Index := 1408#32
  ![v565.toNat, 1408]
def k0_off141 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v590 : Index := Scalar.indexCast v289
  let c1536 : Index := 1536#32
  ![v590.toNat, 1536]
def k0_off142 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v615 : Index := Scalar.indexCast v289
  let c1664 : Index := 1664#32
  ![v615.toNat, 1664]
def k0_off143 (k0_t10 : Fin k0_t10_loop.trips) (k0_t11 : Fin k0_t11_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t11
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v640 : Index := Scalar.indexCast v289
  let c1792 : Index := 1792#32
  ![v640.toNat, 1792]
def k0_mult491 (k0_t10 : Fin k0_t10_loop.trips) : BitVec 32 :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32 : BitVec 32 := 256#32
  let v280 : BitVec 32 := Scalar.muli v278 c256_i32
  v280
def k0_off144 (k0_t10 : Fin k0_t10_loop.trips) : Fin 2 → Nat :=
  let c0_i32_161 : BitVec 32 := 0#32
  let c0_i32_160 : BitVec 32 := 0#32
  let c0_i32_151 : BitVec 32 := 0#32
  let c1_i32_153 : BitVec 32 := 1#32
  let arg16 : BitVec 32 := Scf.iv c0_i32_151 c1_i32_153 k0_t10
  let c1_i32_159 : BitVec 32 := 1#32
  let v276 : BitVec 32 := Scalar.muli arg16 c1_i32_159
  let v277 : BitVec 32 := Scalar.addi c0_i32_160 v276
  let v278 : BitVec 32 := Scalar.addi c0_i32_161 v277
  let c256_i32 : BitVec 32 := 256#32
  let v280 : BitVec 32 := Scalar.muli v278 c256_i32
  let v281 : BitVec 32 := v280
  let c0_i32_166 : BitVec 32 := 0#32
  ![v281.toNat, 0]
@[reducible] def k0_t12_loop : Scf.Loop 32 :=
  let c0_i32_155 : BitVec 32 := 0#32
  let c36_i32_156 : BitVec 32 := 36#32
  let v275 : BitVec 32 := Scalar.addi c0_i32_155 c36_i32_156
  let c1_i32_157 : BitVec 32 := 1#32
  ⟨c0_i32_155, v275, c1_i32_157⟩
@[reducible] def k0_t13_loop : Scf.Loop 32 :=
  let c0_i32_162 : BitVec 32 := 0#32
  let c8_i32_163 : BitVec 32 := 8#32
  let v279 : BitVec 32 := Scalar.addi c0_i32_162 c8_i32_163
  let c1_i32_164 : BitVec 32 := 1#32
  ⟨c0_i32_162, v279, c1_i32_164⟩
def k0_mult492 (k0_t12 : Fin k0_t12_loop.trips) (k0_t13 : Fin k0_t13_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  v288
def k0_off145 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v290 : Index := Scalar.indexCast v289
  let c0_172 : Index := 0#32
  ![v290.toNat, 0]
def k0_off146 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v315 : Index := Scalar.indexCast v289
  let c128 : Index := 128#32
  ![v315.toNat, 128]
def k0_off147 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v340 : Index := Scalar.indexCast v289
  let c256 : Index := 256#32
  ![v340.toNat, 256]
def k0_off148 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v365 : Index := Scalar.indexCast v289
  let c384 : Index := 384#32
  ![v365.toNat, 384]
def k0_off149 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v390 : Index := Scalar.indexCast v289
  let c512 : Index := 512#32
  ![v390.toNat, 512]
def k0_off150 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v415 : Index := Scalar.indexCast v289
  let c640 : Index := 640#32
  ![v415.toNat, 640]
def k0_off151 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v440 : Index := Scalar.indexCast v289
  let c768 : Index := 768#32
  ![v440.toNat, 768]
def k0_off152 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v465 : Index := Scalar.indexCast v289
  let c896 : Index := 896#32
  ![v465.toNat, 896]
def k0_off153 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v490 : Index := Scalar.indexCast v289
  let c1024 : Index := 1024#32
  ![v490.toNat, 1024]
def k0_off154 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v515 : Index := Scalar.indexCast v289
  let c1152 : Index := 1152#32
  ![v515.toNat, 1152]
def k0_off155 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v540 : Index := Scalar.indexCast v289
  let c1280 : Index := 1280#32
  ![v540.toNat, 1280]
def k0_off156 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v565 : Index := Scalar.indexCast v289
  let c1408 : Index := 1408#32
  ![v565.toNat, 1408]
def k0_off157 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v590 : Index := Scalar.indexCast v289
  let c1536 : Index := 1536#32
  ![v590.toNat, 1536]
def k0_off158 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v615 : Index := Scalar.indexCast v289
  let c1664 : Index := 1664#32
  ![v615.toNat, 1664]
def k0_off159 (k0_t12 : Fin k0_t12_loop.trips) (k0_t13 : Fin k0_t13_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32_170 : BitVec 32 := 256#32
  let v286 : BitVec 32 := Scalar.muli v278 c256_i32_170
  let c0_i32_169 : BitVec 32 := 0#32
  let c0_i32_162 : BitVec 32 := 0#32
  let c1_i32_164 : BitVec 32 := 1#32
  let arg17 : BitVec 32 := Scf.iv c0_i32_162 c1_i32_164 k0_t13
  let c1_i32_168 : BitVec 32 := 1#32
  let v284 : BitVec 32 := Scalar.muli arg17 c1_i32_168
  let v285 : BitVec 32 := Scalar.addi c0_i32_169 v284
  let c32_i32_171 : BitVec 32 := 32#32
  let v287 : BitVec 32 := Scalar.muli v285 c32_i32_171
  let v288 : BitVec 32 := Scalar.addi v286 v287
  let v289 : BitVec 32 := v288
  let v640 : Index := Scalar.indexCast v289
  let c1792 : Index := 1792#32
  ![v640.toNat, 1792]
def k0_mult493 (k0_t12 : Fin k0_t12_loop.trips) : BitVec 32 :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32 : BitVec 32 := 256#32
  let v280 : BitVec 32 := Scalar.muli v278 c256_i32
  v280
def k0_off160 (k0_t12 : Fin k0_t12_loop.trips) : Fin 2 → Nat :=
  let c36_i32_161 : BitVec 32 := 36#32
  let c0_i32_160 : BitVec 32 := 0#32
  let c0_i32_155 : BitVec 32 := 0#32
  let c1_i32_157 : BitVec 32 := 1#32
  let arg16 : BitVec 32 := Scf.iv c0_i32_155 c1_i32_157 k0_t12
  let c1_i32_159 : BitVec 32 := 1#32
  let v276 : BitVec 32 := Scalar.muli arg16 c1_i32_159
  let v277 : BitVec 32 := Scalar.addi c0_i32_160 v276
  let v278 : BitVec 32 := Scalar.addi c36_i32_161 v277
  let c256_i32 : BitVec 32 := 256#32
  let v280 : BitVec 32 := Scalar.muli v278 c256_i32
  let v281 : BitVec 32 := v280
  let c0_i32_166 : BitVec 32 := 0#32
  ![v281.toNat, 0]
@[reducible] def k0_t14_loop : Scf.Loop 32 :=
  let c0_i32_147 : BitVec 32 := 0#32
  let c72_i32_148 : BitVec 32 := 72#32
  let v273 : BitVec 32 := Scalar.addi c0_i32_147 c72_i32_148
  let c1_i32_149 : BitVec 32 := 1#32
  ⟨c0_i32_147, v273, c1_i32_149⟩
def k0_mult494 (k0_t14 : Fin k0_t14_loop.trips) : BitVec 32 :=
  let c0_i32_152 : BitVec 32 := 0#32
  let c0_i32_147 : BitVec 32 := 0#32
  let c1_i32_149 : BitVec 32 := 1#32
  let arg16 : BitVec 32 := Scf.iv c0_i32_147 c1_i32_149 k0_t14
  let c1_i32_151 : BitVec 32 := 1#32
  let v274 : BitVec 32 := Scalar.muli arg16 c1_i32_151
  let v275 : BitVec 32 := Scalar.addi c0_i32_152 v274
  let c256_i32 : BitVec 32 := 256#32
  let v276 : BitVec 32 := Scalar.muli v275 c256_i32
  v276
def k0_off161 (k0_t14 : Fin k0_t14_loop.trips) : Fin 2 → Nat :=
  let c0_i32_152 : BitVec 32 := 0#32
  let c0_i32_147 : BitVec 32 := 0#32
  let c1_i32_149 : BitVec 32 := 1#32
  let arg16 : BitVec 32 := Scf.iv c0_i32_147 c1_i32_149 k0_t14
  let c1_i32_151 : BitVec 32 := 1#32
  let v274 : BitVec 32 := Scalar.muli arg16 c1_i32_151
  let v275 : BitVec 32 := Scalar.addi c0_i32_152 v274
  let c256_i32 : BitVec 32 := 256#32
  let v276 : BitVec 32 := Scalar.muli v275 c256_i32
  let v277 : BitVec 32 := v276
  let c0_i32_153 : BitVec 32 := 0#32
  ![v277.toNat, 0]
abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x9216x1920 : Shape := ⟨3, ![2, 9216, 1920]⟩
abbrev S2x32 : Shape := ⟨2, ![2, 32]⟩
abbrev S1920 : Shape := ⟨1, ![1920]⟩
abbrev S18432x1920 : Shape := ⟨2, ![18432, 1920]⟩
abbrev S1x1 : Shape := ⟨2, ![1, 1]⟩
abbrev S2x9216x32x60 : Shape := ⟨4, ![2, 9216, 32, 60]⟩
abbrev S2x1x32x1 : Shape := ⟨4, ![2, 1, 32, 1]⟩
abbrev S1x1x1920 : Shape := ⟨3, ![1, 1, 1920]⟩
abbrev S1x2x9216x1920 : Shape := ⟨4, ![1, 2, 9216, 1920]⟩
abbrev S1 : Shape := ⟨1, ![1]⟩
abbrev S1x1x1x1 : Shape := ⟨4, ![1, 1, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S2x9216x1920, .fp8e4m3⟩
  | .hbm, ⟨1, _⟩ => ⟨S2x32, .f32⟩
  | .hbm, ⟨2, _⟩ => ⟨S1920, .f32⟩
  | .hbm, ⟨3, _⟩ => ⟨S1920, .f32⟩
  | .hbm, ⟨4, _⟩ => ⟨S18432x1920, .fp8e4m3⟩
  | .hbm, ⟨5, _⟩ => ⟨S1x1, .f32⟩
  | .local _ .vmem, ⟨0, _⟩ => ⟨S2x9216x1920, .fp8e4m3⟩
  | .local _ .vmem, ⟨1, _⟩ => ⟨S2x32, .f32⟩
  | .local _ .vmem, ⟨2, _⟩ => ⟨S1920, .f32⟩
  | .local _ .vmem, ⟨3, _⟩ => ⟨S1920, .f32⟩
  | .local _ .vmem, ⟨4, _⟩ => ⟨S18432x1920, .fp8e4m3⟩
  | .local _ .vmem, ⟨5, _⟩ => ⟨S1x1, .f32⟩
  | _, _ => ⟨S2x9216x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x9216x1920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x1920 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
/-
  The kernel of the launch, written once more as a short structured program: the loops over tiles are recursions
  over the list of tiles, and the vectors between the loads and the stores have names. `cc0_eq` says that the
  printed kernel, at the buffers the launch passes it, is this program.
-/
module
public import proofs.«01_k».proof.KernelIdeal
public import Idealize.ShloMosaic.Lib.Tactic
@[expose] public section
noncomputable section
namespace Cert.KernelIdeal.Hand
open Cert.KernelIdeal
open Idealize.ShloMosaic Idealize.SL.Sem Idealize.ShloMosaic.Tactic
variable {F : FTy → Type} [FloatOps F]
variable [Facts]
open Facts₀ Facts

/-- A program of the kernel. -/
abbrev PP (F : FTy → Type) [FloatOps F] (α : Type) := Prog (TpuEff nD τ sig (Elt F) Λ₀ .tc) α

/-- One program after another, along a list. -/
def seqL {α : Type} (f : α → PP F PUnit) : List α → PP F PUnit
  | [] => .ret ⟨⟩
  | a :: l => f a >>= fun _ => seqL f l

def fin8 : List (Fin 8) := [0, 1, 2, 3, 4, 5, 6, 7]
def fin7 : List (Fin 8) := [1, 2, 3, 4, 5, 6, 7]
def fin15 : List (Fin 15) := [0, 1, 2, 3, 4, 5, 6, 7, 8, 9, 10, 11, 12, 13, 14]

/-! ## The buffers and the rectangles of the accesses -/

/-- The input as 18432 rows, the codes, and the scratch buffers: the input's copy, the two sums, the largest signed
    input, the means, gains and biases of each channel, the mean squared deviation of each group. -/
abbrev xM : Memref sig .tc .hbm S18432x1920 .fp8e4m3 := Memref.whole main_v0
abbrev yM : Memref sig .tc .hbm S18432x1920 .fp8e4m3 := Memref.whole main_v3_0
abbrev xV : Memref sig .tc .vmem S18432x1920 .fp8e4m3 := Memref.whole cc0_scratch0
abbrev s1V : Memref sig .tc .vmem S2x16x1920 .f32 := Memref.whole cc0_scratch1
abbrev s2V : Memref sig .tc .vmem S2x16x1920 .f32 := Memref.whole cc0_scratch2
abbrev topV : Memref sig .tc .vmem S2x16x1920 .bf16 := Memref.whole cc0_scratch3
abbrev meanV : Memref sig .tc .vmem S2x1920 .f32 := Memref.whole cc0_scratch4
abbrev gainV : Memref sig .tc .vmem S2x1920 .f32 := Memref.whole cc0_scratch5
abbrev biasV : Memref sig .tc .vmem S2x1920 .f32 := Memref.whole cc0_scratch6
abbrev devV : Memref sig .tc .vmem S2x32 .f32 := Memref.whole cc0_scratch7

abbrev rx (off : Fin 2 → Nat) (inb : ∀ a, off a + S32x128.size a ≤ S18432x1920.size a) : Rect S18432x1920 :=
  Rect.unit (s := S18432x1920) off S32x128.size inb
abbrev rchunk (off : Fin 2 → Nat) (inb : ∀ a, off a + S256x1920.size a ≤ S18432x1920.size a) : Rect S18432x1920 :=
  Rect.unit (s := S18432x1920) off S256x1920.size inb

theorem lane_inb (b : Fin 2) (t : Fin 15) : ∀ a, (![b.val, 128 * t.val] : Fin 2 → Nat) a + S1x128.size a ≤ S2x1920.size a := by
  revert b t; decide
abbrev lane (b : Fin 2) (t : Fin 15) : Rect S2x1920 :=
  Rect.unit (s := S2x1920) ![b.val, 128 * t.val] S1x128.size (lane_inb b t)
theorem tile3_inb (b : Fin 2) (t : Fin 15) : ∀ a, (![b.val, 0, 128 * t.val] : Fin 3 → Nat) a + S1x16x128.size a ≤ S2x16x1920.size a := by
  revert b t; decide
abbrev tile3 (b : Fin 2) (t : Fin 15) : Rect S2x16x1920 :=
  Rect.unit (s := S2x16x1920) ![b.val, 0, 128 * t.val] S1x16x128.size (tile3_inb b t)
theorem tile3_packed (b : Fin 2) (t : Fin 15) : (tile3 b t).PackedRows (EltTy.packing .bf16) :=
  match b, t with
  | 0, 0 => packedbf16_S2x16x1920_S1x16x128_0_0_0
  | 0, 1 => packedbf16_S2x16x1920_S1x16x128_0_0_128
  | 0, 2 => packedbf16_S2x16x1920_S1x16x128_0_0_256
  | 0, 3 => packedbf16_S2x16x1920_S1x16x128_0_0_384
  | 0, 4 => packedbf16_S2x16x1920_S1x16x128_0_0_512
  | 0, 5 => packedbf16_S2x16x1920_S1x16x128_0_0_640
  | 0, 6 => packedbf16_S2x16x1920_S1x16x128_0_0_768
  | 0, 7 => packedbf16_S2x16x1920_S1x16x128_0_0_896
  | 0, 8 => packedbf16_S2x16x1920_S1x16x128_0_0_1024
  | 0, 9 => packedbf16_S2x16x1920_S1x16x128_0_0_1152
  | 0, 10 => packedbf16_S2x16x1920_S1x16x128_0_0_1280
  | 0, 11 => packedbf16_S2x16x1920_S1x16x128_0_0_1408
  | 0, 12 => packedbf16_S2x16x1920_S1x16x128_0_0_1536
  | 0, 13 => packedbf16_S2x16x1920_S1x16x128_0_0_1664
  | 0, 14 => packedbf16_S2x16x1920_S1x16x128_0_0_1792
  | 1, 0 => packedbf16_S2x16x1920_S1x16x128_1_0_0
  | 1, 1 => packedbf16_S2x16x1920_S1x16x128_1_0_128
  | 1, 2 => packedbf16_S2x16x1920_S1x16x128_1_0_256
  | 1, 3 => packedbf16_S2x16x1920_S1x16x128_1_0_384
  | 1, 4 => packedbf16_S2x16x1920_S1x16x128_1_0_512
  | 1, 5 => packedbf16_S2x16x1920_S1x16x128_1_0_640
  | 1, 6 => packedbf16_S2x16x1920_S1x16x128_1_0_768
  | 1, 7 => packedbf16_S2x16x1920_S1x16x128_1_0_896
  | 1, 8 => packedbf16_S2x16x1920_S1x16x128_1_0_1024
  | 1, 9 => packedbf16_S2x16x1920_S1x16x128_1_0_1152
  | 1, 10 => packedbf16_S2x16x1920_S1x16x128_1_0_1280
  | 1, 11 => packedbf16_S2x16x1920_S1x16x128_1_0_1408
  | 1, 12 => packedbf16_S2x16x1920_S1x16x128_1_0_1536
  | 1, 13 => packedbf16_S2x16x1920_S1x16x128_1_0_1664
  | 1, 14 => packedbf16_S2x16x1920_S1x16x128_1_0_1792
abbrev whole3 : Rect S2x16x1920 := Rect.unit (s := S2x16x1920) ![0, 0, 0] S2x16x1920.size inb_S2x16x1920_S2x16x1920_0_0_0
abbrev whole2 : Rect S2x1920 := Rect.unit (s := S2x1920) ![0, 0] S2x1920.size inb_S2x1920_S2x1920_0_0
abbrev wholeG : Rect S2x32 := Rect.unit (s := S2x32) ![0, 0] S2x32.size inb_S2x32_S2x32_0_0
abbrev whole1 : Rect S1x1920 := Rect.unit (s := S1x1920) ![0, 0] S1x1920.size inb_S1x1920_S1x1920_0_0
abbrev wholeS : Rect S1x1 := Rect.unit (s := S1x1) ![0, 0] S1x1.size inb_S1x1_S1x1_0_0

theorem slice1 (t : Fin 15) : S1x1920.Slices ![0, 128 * t.val] S1x128 :=
  match t with
  | 0 => slices_S1x1920_o0_0_S1x128
  | 1 => slices_S1x1920_o0_128_S1x128
  | 2 => slices_S1x1920_o0_256_S1x128
  | 3 => slices_S1x1920_o0_384_S1x128
  | 4 => slices_S1x1920_o0_512_S1x128
  | 5 => slices_S1x1920_o0_640_S1x128
  | 6 => slices_S1x1920_o0_768_S1x128
  | 7 => slices_S1x1920_o0_896_S1x128
  | 8 => slices_S1x1920_o0_1024_S1x128
  | 9 => slices_S1x1920_o0_1152_S1x128
  | 10 => slices_S1x1920_o0_1280_S1x128
  | 11 => slices_S1x1920_o0_1408_S1x128
  | 12 => slices_S1x1920_o0_1536_S1x128
  | 13 => slices_S1x1920_o0_1664_S1x128
  | 14 => slices_S1x1920_o0_1792_S1x128

def off2 (j : Fin k0_t2_loop.trips) (t : Fin 15) (r : Fin 8) : Fin 2 → Nat :=
  match t with
  | 0 => k0_off5 j (BitVec.ofNat 32 (32 * r.val))
  | 1 => k0_off6 j (BitVec.ofNat 32 (32 * r.val))
  | 2 => k0_off7 j (BitVec.ofNat 32 (32 * r.val))
  | 3 => k0_off8 j (BitVec.ofNat 32 (32 * r.val))
  | 4 => k0_off9 j (BitVec.ofNat 32 (32 * r.val))
  | 5 => k0_off10 j (BitVec.ofNat 32 (32 * r.val))
  | 6 => k0_off11 j (BitVec.ofNat 32 (32 * r.val))
  | 7 => k0_off12 j (BitVec.ofNat 32 (32 * r.val))
  | 8 => k0_off13 j (BitVec.ofNat 32 (32 * r.val))
  | 9 => k0_off14 j (BitVec.ofNat 32 (32 * r.val))
  | 10 => k0_off15 j (BitVec.ofNat 32 (32 * r.val))
  | 11 => k0_off16 j (BitVec.ofNat 32 (32 * r.val))
  | 12 => k0_off17 j (BitVec.ofNat 32 (32 * r.val))
  | 13 => k0_off18 j (BitVec.ofNat 32 (32 * r.val))
  | 14 => k0_off19 j (BitVec.ofNat 32 (32 * r.val))
theorem off2_inb (j : Fin k0_t2_loop.trips) (t : Fin 15) (r : Fin 8) : ∀ a, off2 j t r a + S32x128.size a ≤ S18432x1920.size a :=
  match t with
  | 0 => k0_off5_inb j r
  | 1 => k0_off6_inb j r
  | 2 => k0_off7_inb j r
  | 3 => k0_off8_inb j r
  | 4 => k0_off9_inb j r
  | 5 => k0_off10_inb j r
  | 6 => k0_off11_inb j r
  | 7 => k0_off12_inb j r
  | 8 => k0_off13_inb j r
  | 9 => k0_off14_inb j r
  | 10 => k0_off15_inb j r
  | 11 => k0_off16_inb j r
  | 12 => k0_off17_inb j r
  | 13 => k0_off18_inb j r
  | 14 => k0_off19_inb j r

def off3 (j : Fin k0_t3_loop.trips) (t : Fin 15) (r : Fin 8) : Fin 2 → Nat :=
  match t with
  | 0 => k0_off22 j (BitVec.ofNat 32 (32 * r.val))
  | 1 => k0_off23 j (BitVec.ofNat 32 (32 * r.val))
  | 2 => k0_off24 j (BitVec.ofNat 32 (32 * r.val))
  | 3 => k0_off25 j (BitVec.ofNat 32 (32 * r.val))
  | 4 => k0_off26 j (BitVec.ofNat 32 (32 * r.val))
  | 5 => k0_off27 j (BitVec.ofNat 32 (32 * r.val))
  | 6 => k0_off28 j (BitVec.ofNat 32 (32 * r.val))
  | 7 => k0_off29 j (BitVec.ofNat 32 (32 * r.val))
  | 8 => k0_off30 j (BitVec.ofNat 32 (32 * r.val))
  | 9 => k0_off31 j (BitVec.ofNat 32 (32 * r.val))
  | 10 => k0_off32 j (BitVec.ofNat 32 (32 * r.val))
  | 11 => k0_off33 j (BitVec.ofNat 32 (32 * r.val))
  | 12 => k0_off34 j (BitVec.ofNat 32 (32 * r.val))
  | 13 => k0_off35 j (BitVec.ofNat 32 (32 * r.val))
  | 14 => k0_off36 j (BitVec.ofNat 32 (32 * r.val))
theorem off3_inb (j : Fin k0_t3_loop.trips) (t : Fin 15) (r : Fin 8) : ∀ a, off3 j t r a + S32x128.size a ≤ S18432x1920.size a :=
  match t with
  | 0 => k0_off22_inb j r
  | 1 => k0_off23_inb j r
  | 2 => k0_off24_inb j r
  | 3 => k0_off25_inb j r
  | 4 => k0_off26_inb j r
  | 5 => k0_off27_inb j r
  | 6 => k0_off28_inb j r
  | 7 => k0_off29_inb j r
  | 8 => k0_off30_inb j r
  | 9 => k0_off31_inb j r
  | 10 => k0_off32_inb j r
  | 11 => k0_off33_inb j r
  | 12 => k0_off34_inb j r
  | 13 => k0_off35_inb j r
  | 14 => k0_off36_inb j r

def off4 (j : Fin k0_t4_loop.trips) (t : Fin 15) : Fin 2 → Nat :=
  match t with
  | 0 => k0_off37 j
  | 1 => k0_off38 j
  | 2 => k0_off39 j
  | 3 => k0_off40 j
  | 4 => k0_off41 j
  | 5 => k0_off42 j
  | 6 => k0_off43 j
  | 7 => k0_off44 j
  | 8 => k0_off45 j
  | 9 => k0_off46 j
  | 10 => k0_off47 j
  | 11 => k0_off48 j
  | 12 => k0_off49 j
  | 13 => k0_off50 j
  | 14 => k0_off51 j
theorem off4_inb (j : Fin k0_t4_loop.trips) (t : Fin 15) : ∀ a, off4 j t a + S32x128.size a ≤ S18432x1920.size a :=
  match t with
  | 0 => k0_off37_inb j
  | 1 => k0_off38_inb j
  | 2 => k0_off39_inb j
  | 3 => k0_off40_inb j
  | 4 => k0_off41_inb j
  | 5 => k0_off42_inb j
  | 6 => k0_off43_inb j
  | 7 => k0_off44_inb j
  | 8 => k0_off45_inb j
  | 9 => k0_off46_inb j
  | 10 => k0_off47_inb j
  | 11 => k0_off48_inb j
  | 12 => k0_off49_inb j
  | 13 => k0_off50_inb j
  | 14 => k0_off51_inb j

def off5 (j : Fin k0_t5_loop.trips) (t : Fin 15) : Fin 2 → Nat :=
  match t with
  | 0 => k0_off52 j
  | 1 => k0_off53 j
  | 2 => k0_off54 j
  | 3 => k0_off55 j
  | 4 => k0_off56 j
  | 5 => k0_off57 j
  | 6 => k0_off58 j
  | 7 => k0_off59 j
  | 8 => k0_off60 j
  | 9 => k0_off61 j
  | 10 => k0_off62 j
  | 11 => k0_off63 j
  | 12 => k0_off64 j
  | 13 => k0_off65 j
  | 14 => k0_off66 j
theorem off5_inb (j : Fin k0_t5_loop.trips) (t : Fin 15) : ∀ a, off5 j t a + S32x128.size a ≤ S18432x1920.size a :=
  match t with
  | 0 => k0_off52_inb j
  | 1 => k0_off53_inb j
  | 2 => k0_off54_inb j
  | 3 => k0_off55_inb j
  | 4 => k0_off56_inb j
  | 5 => k0_off57_inb j
  | 6 => k0_off58_inb j
  | 7 => k0_off59_inb j
  | 8 => k0_off60_inb j
  | 9 => k0_off61_inb j
  | 10 => k0_off62_inb j
  | 11 => k0_off63_inb j
  | 12 => k0_off64_inb j
  | 13 => k0_off65_inb j
  | 14 => k0_off66_inb j

def off6 (j : Fin k0_t6_loop.trips) (t : Fin 15) : Fin 2 → Nat :=
  match t with
  | 0 => k0_off67 j
  | 1 => k0_off68 j
  | 2 => k0_off69 j
  | 3 => k0_off70 j
  | 4 => k0_off71 j
  | 5 => k0_off72 j
  | 6 => k0_off73 j
  | 7 => k0_off74 j
  | 8 => k0_off75 j
  | 9 => k0_off76 j
  | 10 => k0_off77 j
  | 11 => k0_off78 j
  | 12 => k0_off79 j
  | 13 => k0_off80 j
  | 14 => k0_off81 j
theorem off6_inb (j : Fin k0_t6_loop.trips) (t : Fin 15) : ∀ a, off6 j t a + S32x128.size a ≤ S18432x1920.size a :=
  match t with
  | 0 => k0_off67_inb j
  | 1 => k0_off68_inb j
  | 2 => k0_off69_inb j
  | 3 => k0_off70_inb j
  | 4 => k0_off71_inb j
  | 5 => k0_off72_inb j
  | 6 => k0_off73_inb j
  | 7 => k0_off74_inb j
  | 8 => k0_off75_inb j
  | 9 => k0_off76_inb j
  | 10 => k0_off77_inb j
  | 11 => k0_off78_inb j
  | 12 => k0_off79_inb j
  | 13 => k0_off80_inb j
  | 14 => k0_off81_inb j

def off7 (j : Fin k0_t7_loop.trips) (t : Fin 15) : Fin 2 → Nat :=
  match t with
  | 0 => k0_off82 j
  | 1 => k0_off83 j
  | 2 => k0_off84 j
  | 3 => k0_off85 j
  | 4 => k0_off86 j
  | 5 => k0_off87 j
  | 6 => k0_off88 j
  | 7 => k0_off89 j
  | 8 => k0_off90 j
  | 9 => k0_off91 j
  | 10 => k0_off92 j
  | 11 => k0_off93 j
  | 12 => k0_off94 j
  | 13 => k0_off95 j
  | 14 => k0_off96 j
theorem off7_inb (j : Fin k0_t7_loop.trips) (t : Fin 15) : ∀ a, off7 j t a + S32x128.size a ≤ S18432x1920.size a :=
  match t with
  | 0 => k0_off82_inb j
  | 1 => k0_off83_inb j
  | 2 => k0_off84_inb j
  | 3 => k0_off85_inb j
  | 4 => k0_off86_inb j
  | 5 => k0_off87_inb j
  | 6 => k0_off88_inb j
  | 7 => k0_off89_inb j
  | 8 => k0_off90_inb j
  | 9 => k0_off91_inb j
  | 10 => k0_off92_inb j
  | 11 => k0_off93_inb j
  | 12 => k0_off94_inb j
  | 13 => k0_off95_inb j
  | 14 => k0_off96_inb j

def off8 (j : Fin k0_t8_loop.trips) (t : Fin 15) (r : Fin 8) : Fin 2 → Nat :=
  match t with
  | 0 => k0_off97 j (BitVec.ofNat 32 (32 * r.val))
  | 1 => k0_off98 j (BitVec.ofNat 32 (32 * r.val))
  | 2 => k0_off99 j (BitVec.ofNat 32 (32 * r.val))
  | 3 => k0_off100 j (BitVec.ofNat 32 (32 * r.val))
  | 4 => k0_off101 j (BitVec.ofNat 32 (32 * r.val))
  | 5 => k0_off102 j (BitVec.ofNat 32 (32 * r.val))
  | 6 => k0_off103 j (BitVec.ofNat 32 (32 * r.val))
  | 7 => k0_off104 j (BitVec.ofNat 32 (32 * r.val))
  | 8 => k0_off105 j (BitVec.ofNat 32 (32 * r.val))
  | 9 => k0_off106 j (BitVec.ofNat 32 (32 * r.val))
  | 10 => k0_off107 j (BitVec.ofNat 32 (32 * r.val))
  | 11 => k0_off108 j (BitVec.ofNat 32 (32 * r.val))
  | 12 => k0_off109 j (BitVec.ofNat 32 (32 * r.val))
  | 13 => k0_off110 j (BitVec.ofNat 32 (32 * r.val))
  | 14 => k0_off111 j (BitVec.ofNat 32 (32 * r.val))
theorem off8_inb (j : Fin k0_t8_loop.trips) (t : Fin 15) (r : Fin 8) : ∀ a, off8 j t r a + S32x128.size a ≤ S18432x1920.size a :=
  match t with
  | 0 => k0_off97_inb j r
  | 1 => k0_off98_inb j r
  | 2 => k0_off99_inb j r
  | 3 => k0_off100_inb j r
  | 4 => k0_off101_inb j r
  | 5 => k0_off102_inb j r
  | 6 => k0_off103_inb j r
  | 7 => k0_off104_inb j r
  | 8 => k0_off105_inb j r
  | 9 => k0_off106_inb j r
  | 10 => k0_off107_inb j r
  | 11 => k0_off108_inb j r
  | 12 => k0_off109_inb j r
  | 13 => k0_off110_inb j r
  | 14 => k0_off111_inb j r

theorem off8_packed (j : Fin k0_t8_loop.trips) (t : Fin 15) (r : Fin 8) : (rx (off8 j t r) (off8_inb j t r)).PackedRows (EltTy.packing .fp8e4m3) :=
  match t with
  | 0 => k0_off97_packedfp8e4m3 j r
  | 1 => k0_off98_packedfp8e4m3 j r
  | 2 => k0_off99_packedfp8e4m3 j r
  | 3 => k0_off100_packedfp8e4m3 j r
  | 4 => k0_off101_packedfp8e4m3 j r
  | 5 => k0_off102_packedfp8e4m3 j r
  | 6 => k0_off103_packedfp8e4m3 j r
  | 7 => k0_off104_packedfp8e4m3 j r
  | 8 => k0_off105_packedfp8e4m3 j r
  | 9 => k0_off106_packedfp8e4m3 j r
  | 10 => k0_off107_packedfp8e4m3 j r
  | 11 => k0_off108_packedfp8e4m3 j r
  | 12 => k0_off109_packedfp8e4m3 j r
  | 13 => k0_off110_packedfp8e4m3 j r
  | 14 => k0_off111_packedfp8e4m3 j r

def off9 (j : Fin k0_t9_loop.trips) (t : Fin 15) (r : Fin 8) : Fin 2 → Nat :=
  match t with
  | 0 => k0_off113 j (BitVec.ofNat 32 (32 * r.val))
  | 1 => k0_off114 j (BitVec.ofNat 32 (32 * r.val))
  | 2 => k0_off115 j (BitVec.ofNat 32 (32 * r.val))
  | 3 => k0_off116 j (BitVec.ofNat 32 (32 * r.val))
  | 4 => k0_off117 j (BitVec.ofNat 32 (32 * r.val))
  | 5 => k0_off118 j (BitVec.ofNat 32 (32 * r.val))
  | 6 => k0_off119 j (BitVec.ofNat 32 (32 * r.val))
  | 7 => k0_off120 j (BitVec.ofNat 32 (32 * r.val))
  | 8 => k0_off121 j (BitVec.ofNat 32 (32 * r.val))
  | 9 => k0_off122 j (BitVec.ofNat 32 (32 * r.val))
  | 10 => k0_off123 j (BitVec.ofNat 32 (32 * r.val))
  | 11 => k0_off124 j (BitVec.ofNat 32 (32 * r.val))
  | 12 => k0_off125 j (BitVec.ofNat 32 (32 * r.val))
  | 13 => k0_off126 j (BitVec.ofNat 32 (32 * r.val))
  | 14 => k0_off127 j (BitVec.ofNat 32 (32 * r.val))
theorem off9_inb (j : Fin k0_t9_loop.trips) (t : Fin 15) (r : Fin 8) : ∀ a, off9 j t r a + S32x128.size a ≤ S18432x1920.size a :=
  match t with
  | 0 => k0_off113_inb j r
  | 1 => k0_off114_inb j r
  | 2 => k0_off115_inb j r
  | 3 => k0_off116_inb j r
  | 4 => k0_off117_inb j r
  | 5 => k0_off118_inb j r
  | 6 => k0_off119_inb j r
  | 7 => k0_off120_inb j r
  | 8 => k0_off121_inb j r
  | 9 => k0_off122_inb j r
  | 10 => k0_off123_inb j r
  | 11 => k0_off124_inb j r
  | 12 => k0_off125_inb j r
  | 13 => k0_off126_inb j r
  | 14 => k0_off127_inb j r

theorem off9_packed (j : Fin k0_t9_loop.trips) (t : Fin 15) (r : Fin 8) : (rx (off9 j t r) (off9_inb j t r)).PackedRows (EltTy.packing .fp8e4m3) :=
  match t with
  | 0 => k0_off113_packedfp8e4m3 j r
  | 1 => k0_off114_packedfp8e4m3 j r
  | 2 => k0_off115_packedfp8e4m3 j r
  | 3 => k0_off116_packedfp8e4m3 j r
  | 4 => k0_off117_packedfp8e4m3 j r
  | 5 => k0_off118_packedfp8e4m3 j r
  | 6 => k0_off119_packedfp8e4m3 j r
  | 7 => k0_off120_packedfp8e4m3 j r
  | 8 => k0_off121_packedfp8e4m3 j r
  | 9 => k0_off122_packedfp8e4m3 j r
  | 10 => k0_off123_packedfp8e4m3 j r
  | 11 => k0_off124_packedfp8e4m3 j r
  | 12 => k0_off125_packedfp8e4m3 j r
  | 13 => k0_off126_packedfp8e4m3 j r
  | 14 => k0_off127_packedfp8e4m3 j r

def off10 (j : Fin k0_t10_loop.trips) (k : Fin k0_t11_loop.trips) (t : Fin 15) : Fin 2 → Nat :=
  match t with
  | 0 => k0_off129 j k
  | 1 => k0_off130 j k
  | 2 => k0_off131 j k
  | 3 => k0_off132 j k
  | 4 => k0_off133 j k
  | 5 => k0_off134 j k
  | 6 => k0_off135 j k
  | 7 => k0_off136 j k
  | 8 => k0_off137 j k
  | 9 => k0_off138 j k
  | 10 => k0_off139 j k
  | 11 => k0_off140 j k
  | 12 => k0_off141 j k
  | 13 => k0_off142 j k
  | 14 => k0_off143 j k
theorem off10_inb (j : Fin k0_t10_loop.trips) (k : Fin k0_t11_loop.trips) (t : Fin 15) : ∀ a, off10 j k t a + S32x128.size a ≤ S18432x1920.size a :=
  match t with
  | 0 => k0_off129_inb j k
  | 1 => k0_off130_inb j k
  | 2 => k0_off131_inb j k
  | 3 => k0_off132_inb j k
  | 4 => k0_off133_inb j k
  | 5 => k0_off134_inb j k
  | 6 => k0_off135_inb j k
  | 7 => k0_off136_inb j k
  | 8 => k0_off137_inb j k
  | 9 => k0_off138_inb j k
  | 10 => k0_off139_inb j k
  | 11 => k0_off140_inb j k
  | 12 => k0_off141_inb j k
  | 13 => k0_off142_inb j k
  | 14 => k0_off143_inb j k

theorem off10_packed (j : Fin k0_t10_loop.trips) (k : Fin k0_t11_loop.trips) (t : Fin 15) : (rx (off10 j k t) (off10_inb j k t)).PackedRows (EltTy.packing .fp8e4m3) :=
  match t with
  | 0 => k0_off129_packedfp8e4m3 j k
  | 1 => k0_off130_packedfp8e4m3 j k
  | 2 => k0_off131_packedfp8e4m3 j k
  | 3 => k0_off132_packedfp8e4m3 j k
  | 4 => k0_off133_packedfp8e4m3 j k
  | 5 => k0_off134_packedfp8e4m3 j k
  | 6 => k0_off135_packedfp8e4m3 j k
  | 7 => k0_off136_packedfp8e4m3 j k
  | 8 => k0_off137_packedfp8e4m3 j k
  | 9 => k0_off138_packedfp8e4m3 j k
  | 10 => k0_off139_packedfp8e4m3 j k
  | 11 => k0_off140_packedfp8e4m3 j k
  | 12 => k0_off141_packedfp8e4m3 j k
  | 13 => k0_off142_packedfp8e4m3 j k
  | 14 => k0_off143_packedfp8e4m3 j k

def off12 (j : Fin k0_t12_loop.trips) (k : Fin k0_t13_loop.trips) (t : Fin 15) : Fin 2 → Nat :=
  match t with
  | 0 => k0_off145 j k
  | 1 => k0_off146 j k
  | 2 => k0_off147 j k
  | 3 => k0_off148 j k
  | 4 => k0_off149 j k
  | 5 => k0_off150 j k
  | 6 => k0_off151 j k
  | 7 => k0_off152 j k
  | 8 => k0_off153 j k
  | 9 => k0_off154 j k
  | 10 => k0_off155 j k
  | 11 => k0_off156 j k
  | 12 => k0_off157 j k
  | 13 => k0_off158 j k
  | 14 => k0_off159 j k
theorem off12_inb (j : Fin k0_t12_loop.trips) (k : Fin k0_t13_loop.trips) (t : Fin 15) : ∀ a, off12 j k t a + S32x128.size a ≤ S18432x1920.size a :=
  match t with
  | 0 => k0_off145_inb j k
  | 1 => k0_off146_inb j k
  | 2 => k0_off147_inb j k
  | 3 => k0_off148_inb j k
  | 4 => k0_off149_inb j k
  | 5 => k0_off150_inb j k
  | 6 => k0_off151_inb j k
  | 7 => k0_off152_inb j k
  | 8 => k0_off153_inb j k
  | 9 => k0_off154_inb j k
  | 10 => k0_off155_inb j k
  | 11 => k0_off156_inb j k
  | 12 => k0_off157_inb j k
  | 13 => k0_off158_inb j k
  | 14 => k0_off159_inb j k

theorem off12_packed (j : Fin k0_t12_loop.trips) (k : Fin k0_t13_loop.trips) (t : Fin 15) : (rx (off12 j k t) (off12_inb j k t)).PackedRows (EltTy.packing .fp8e4m3) :=
  match t with
  | 0 => k0_off145_packedfp8e4m3 j k
  | 1 => k0_off146_packedfp8e4m3 j k
  | 2 => k0_off147_packedfp8e4m3 j k
  | 3 => k0_off148_packedfp8e4m3 j k
  | 4 => k0_off149_packedfp8e4m3 j k
  | 5 => k0_off150_packedfp8e4m3 j k
  | 6 => k0_off151_packedfp8e4m3 j k
  | 7 => k0_off152_packedfp8e4m3 j k
  | 8 => k0_off153_packedfp8e4m3 j k
  | 9 => k0_off154_packedfp8e4m3 j k
  | 10 => k0_off155_packedfp8e4m3 j k
  | 11 => k0_off156_packedfp8e4m3 j k
  | 12 => k0_off157_packedfp8e4m3 j k
  | 13 => k0_off158_packedfp8e4m3 j k
  | 14 => k0_off159_packedfp8e4m3 j k

/-! ## The vectors -/

/-- Row by column: is the channel in the group? -/
def onehot : FVec F S1920x32 .f32 :=
  sitofp .f32 (extui 32 (andi
    (cmpi .sge (iota .tc S1920x32 32 [0] iota_S1920x32_d0_w32) (muli (iota .tc S1920x32 32 [1] iota_S1920x32_d1_w32) (broadcast S1920x32 60#32)))
    (cmpi .slt (iota .tc S1920x32 32 [0] iota_S1920x32_d0_w32) (muli (addi (iota .tc S1920x32 32 [1] iota_S1920x32_d1_w32) (broadcast S1920x32 1#32)) (broadcast S1920x32 60#32)))) natLt_1_32)

abbrev row1 (x : Vec F S1x1920 .f32) : FVec F S1x1920 .f32 := shapeCast S1x1920 x shapeCasts_S1x1920_S1x1920

/-- The sign of one lane tile of gamma: minus one where it is negative, one elsewhere. -/
def signv (gm : FVec F S1x1920 .f32) (t : Fin 15) : FVec F S1x128 .bf16 :=
  truncf .bf16 (select (cmpf .olt (extractStridedSlice S1x128 ![0, 128 * t.val] gm (slice1 t)) (broadcast S1x128 (Scalar.ofBits .f32 0x00000000#32)))
    (broadcast S1x128 (Scalar.ofBits .f32 0xBF800000#32)) (broadcast S1x128 (Scalar.ofBits .f32 0x3F800000#32))) bitsLt_bf16_f32

/-- Three running vectors: the sum, the sum of squares, the largest signed value. -/
structure Acc (F : FTy → Type) where
  s1 : FVec F S16x128 .f32
  s2 : FVec F S16x128 .f32
  tp : FVec F S16x128 .bf16

abbrev ones : FVec F S16x128 .f32 := broadcast S16x128 (Scalar.ofBits .f32 0x3F800000#32 : F .f32)
def lo16 (x : Vec F S32x128 .fp8e4m3) : FVec F S16x128 .bf16 := extractStridedSlice S16x128 ![0, 0] (extf .bf16 x bitsLt_fp8e4m3_bf16) slices_S32x128_o0_0_S16x128
def hi16 (x : Vec F S32x128 .fp8e4m3) : FVec F S16x128 .bf16 := extractStridedSlice S16x128 ![16, 0] (extf .bf16 x bitsLt_fp8e4m3_bf16) slices_S32x128_o16_0_S16x128
def accInit (sg : FVec F S1x128 .bf16) (h : FVec F S16x128 .bf16) : Acc F :=
  ⟨mulf (extf .f32 h bitsLt_bf16_f32) ones, mulf (extf .f32 h bitsLt_bf16_f32) (extf .f32 h bitsLt_bf16_f32), mulf h (broadcastTo S16x128 sg broadcasts_S1x128_S16x128)⟩
def accAdd (sg : FVec F S1x128 .bf16) (a : Acc F) (h : FVec F S16x128 .bf16) : Acc F :=
  ⟨addf a.s1 (mulf (extf .f32 h bitsLt_bf16_f32) ones), addf a.s2 (mulf (extf .f32 h bitsLt_bf16_f32) (extf .f32 h bitsLt_bf16_f32)),
    maximumf a.tp (mulf h (broadcastTo S16x128 sg broadcasts_S1x128_S16x128))⟩
def acc0 (sg : FVec F S1x128 .bf16) (x : Vec F S32x128 .fp8e4m3) : Acc F := accAdd sg (accInit sg (lo16 x)) (hi16 x)
def acc1 (sg : FVec F S1x128 .bf16) (a : Acc F) (x : Vec F S32x128 .fp8e4m3) : Acc F := accAdd sg (accAdd sg a (lo16 x)) (hi16 x)

abbrev up (v : Vec F S1x16x128 .f32) : FVec F S16x128 .f32 := shapeCast S16x128 v shapeCasts_S1x16x128_S16x128
abbrev down (v : FVec F S16x128 .f32) : FVec F S1x16x128 .f32 := shapeCast S1x16x128 v shapeCasts_S16x128_S1x16x128
abbrev upB (v : Vec F S1x16x128 .bf16) : FVec F S16x128 .bf16 := shapeCast S16x128 v shapeCasts_S1x16x128_S16x128
abbrev downB (v : FVec F S16x128 .bf16) : FVec F S1x16x128 .bf16 := shapeCast S1x16x128 v shapeCasts_S16x128_S1x16x128

/-- Sums of each channel, and a group's sum over its channels divided by the count. -/
def colsum (s : Vec F S2x16x1920 .f32) : FVec F S2x1920 .f32 := multiReduction .add [1] S2x1920 s 0x00000000#32 reduces_S2x16x1920_S2x1920 (.inl rfl) rfl
def gmean (s : Vec F S2x16x1920 .f32) : FVec F S2x32 .f32 :=
  divf (matmul dot_S2x1920_S1920x32_S2x32_1_0_0_1_n_n (some .fp32) (colsum s) onehot (constant S2x32 .f32 0x00000000#32)) (broadcast S2x32 (Scalar.ofBits .f32 0x49070000#32))
/-- A group's value at each of its channels. -/
def spread (g : FVec F S2x32 .f32) : FVec F S2x1920 .f32 :=
  matmul dot_S2x32_S1920x32_S2x1920_1_1_0_0_n_n (some .fp32) g onehot (constant S2x1920 .f32 0x00000000#32)
def coltop (s : Vec F S2x16x1920 .bf16) : FVec F S2x1920 .f32 :=
  multiReduction .maximumf [1] S2x1920 (extf .f32 s bitsLt_bf16_f32) 0xFF800000#32 reduces_S2x16x1920_S2x1920 (.inl rfl) rfl
def dev1 (m q : FVec F S2x32 .f32) : FVec F S2x32 .f32 := maximumf (subf q (mulf m m)) (broadcast S2x32 (Scalar.ofBits .f32 0x00000000#32))
/-- Is some group's mean square more than 256 times its variance plus epsilon? -/
def illv (sc : Vec F S2x32 .f32) (q d : FVec F S2x32 .f32) : BitVec 1 :=
  Scalar.cmpf .ogt (extractAt ![0, 0, 0] (shapeCast S1x1x1 (multiReduction .maximumf [1, 2] S1 (shapeCast S1x2x32
    (select (cmpf .ogt (mulf (mulf sc sc) q) (mulf (broadcast S2x32 (Scalar.ofBits .f32 0x43800000#32)) (addf (mulf (mulf sc sc) d) (broadcast S2x32 (Scalar.ofBits .f32 0x3727C5AC#32)))))
      (broadcast S2x32 (Scalar.ofBits .f32 0x3F800000#32)) (broadcast S2x32 (Scalar.ofBits .f32 0x00000000#32)) : FVec F S2x32 .f32) shapeCasts_S2x32_S1x2x32) 0xFF800000#32 reduces_S1x2x32_S1 (.inl rfl) rfl) shapeCasts_S1_S1x1x1) inpos_S1x1x1_p0_0_0)
    (Scalar.ofBits .f32 0x00000000#32)
def gainv (sc : Vec F S2x32 .f32) (d : FVec F S2x32 .f32) (gm : FVec F S1x1920 .f32) : FVec F S2x1920 .f32 :=
  mulf (spread (mulf sc (rsqrt (addf (mulf (mulf sc sc) d) (broadcast S2x32 (Scalar.ofBits .f32 0x3727C5AC#32)))))) (broadcastTo S2x1920 gm broadcasts_S1x1920_S2x1920)
def biasv (m g : FVec F S2x1920 .f32) (bt : FVec F S1x1920 .f32) : FVec F S2x1920 .f32 := subf (broadcastTo S2x1920 bt broadcasts_S1x1920_S2x1920) (mulf m g)
/-- The largest output of the channels' largest inputs. -/
def lowv (tp m g : FVec F S2x1920 .f32) (gm bt : FVec F S1x1920 .f32) : F .f32 :=
  let xt : FVec F S2x1920 .f32 := select (broadcastTo S2x1920 (shapeCast S1x1920 (cmpf .olt gm (broadcast S1x1920 (Scalar.ofBits .f32 0x00000000#32))) shapeCasts_S1x1920_S1x1920) broadcasts_S1x1920_S2x1920)
    (subf (broadcast S2x1920 (Scalar.ofBits .f32 0x00000000#32)) tp) tp
  let v : FVec F S2x1920 .f32 := addf (mulf (subf xt m) g) (broadcastTo S2x1920 bt broadcasts_S1x1920_S2x1920)
  extractAt ![0, 0, 0] (shapeCast S1x1x1 (multiReduction .maximumf [1, 2] S1 (shapeCast S1x2x1920 (absf (mulf v (logistic v))) shapeCasts_S2x1920_S1x2x1920) 0xFF800000#32 reduces_S1x2x1920_S1 (.inl rfl) rfl) shapeCasts_S1_S1x1x1) inpos_S1x1x1_p0_0_0
def maxv (s : Vec F S2x16x1920 .f32) : F .f32 :=
  extractAt ![0, 0, 0, 0] (shapeCast S1x1x1x1 (multiReduction .maximumf [1, 2, 3] S1 (shapeCast S1x2x16x1920 s shapeCasts_S2x16x1920_S1x2x16x1920) 0xFF800000#32 reduces_S1x2x16x1920_S1 (.inl rfl) rfl) shapeCasts_S1_S1x1x1x1) inpos_S1x1x1x1_p0_0_0_0

/-- One step of the search for the exponent field: keep the bit where the number is still at least that power of two. -/
def bitStep (t : F .f32) (e bit : BitVec 32) : BitVec 32 :=
  Scalar.select (Scalar.cmpf .oge t (Scalar.ofBits .f32 (Scalar.shli (Scalar.addi e bit) 23#32))) (Scalar.addi e bit) e
def fieldOf (t : F .f32) : BitVec 32 :=
  bitStep t (bitStep t (bitStep t (bitStep t (bitStep t (bitStep t (bitStep t (bitStep t 0#32 128#32) 64#32) 32#32) 16#32) 8#32) 4#32) 2#32) 1#32
def expOf (t : F .f32) : BitVec 32 :=
  Scalar.select (Scalar.ori (Scalar.cmpi .eq (fieldOf t) 0#32) (Scalar.cmpi .eq (fieldOf t) 255#32)) 0#32 (Scalar.subi (fieldOf t) 126#32)
def toGrid (a : F .f32) : F .f32 := Scalar.mulf a (Scalar.ofBits .f32 0x3B124925#32)
def outExp (a : F .f32) : BitVec 32 := Scalar.select (Scalar.cmpf .oeq a (Scalar.ofBits .f32 0x00000000#32)) 0#32 (expOf (toGrid a))
def pow2 (e : BitVec 32) : F .f32 := Scalar.ofBits .f32 (Scalar.shli (Scalar.addi e 127#32) 23#32)

/-- Squared deviations of one tile, added onto a sum. -/
def devSum (m : Vec F S1x128 .f32) (x : Vec F S32x128 .fp8e4m3) (old : Vec F S1x16x128 .f32) : FVec F S16x128 .f32 :=
  let d : FVec F S32x128 .f32 := subf (extf .f32 x bitsLt_fp8e4m3_f32) (broadcastTo S32x128 m broadcasts_S1x128_S32x128)
  addf (up old) (addf (extractStridedSlice S16x128 ![0, 0] (mulf d d) slices_S32x128_o0_0_S16x128) (extractStridedSlice S16x128 ![16, 0] (mulf d d) slices_S32x128_o16_0_S16x128))
/-- The normalised, scaled and shifted tile, from its deviations. -/
def normv (m g : Vec F S1x128 .f32) (bt : FVec F S1x1920 .f32) (t : Fin 15) (x : Vec F S32x128 .fp8e4m3) : FVec F S32x128 .f32 :=
  addf (mulf (subf (extf .f32 x bitsLt_fp8e4m3_f32) (broadcastTo S32x128 m broadcasts_S1x128_S32x128)) (broadcastTo S32x128 g broadcasts_S1x128_S32x128))
    (broadcastTo S32x128 (extractStridedSlice S1x128 ![0, 128 * t.val] bt (slice1 t)) broadcasts_S1x128_S32x128)
def absMax (m g : Vec F S1x128 .f32) (bt : FVec F S1x1920 .f32) (t : Fin 15) (x : Vec F S32x128 .fp8e4m3) (old : Vec F S1x16x128 .f32) : FVec F S16x128 .f32 :=
  let v : FVec F S32x128 .f32 := normv m g bt t x
  let y : FVec F S32x128 .f32 := absf (mulf v (logistic v))
  maximumf (up old) (maximumf (extractStridedSlice S16x128 ![0, 0] y slices_S32x128_o0_0_S16x128) (extractStridedSlice S16x128 ![16, 0] y slices_S32x128_o16_0_S16x128))

/-- The quantised tile. -/
def clipv (inv : F .f32) (v : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf (mulf v (logistic v)) (broadcast S32x128 inv)))) bitsLt_fp8e4m3_f32
def quantv (g h : Vec F S1x128 .f32) (inv : F .f32) (x : Vec F S32x128 .fp8e4m3) : FVec F S32x128 .fp8e4m3 :=
  clipv inv (addf (mulf (extf .f32 x bitsLt_fp8e4m3_f32) (broadcastTo S32x128 g broadcasts_S1x128_S32x128))
    (broadcastTo S32x128 h broadcasts_S1x128_S32x128))

/-! ## The pieces of the program -/

abbrev ldX (off : Fin 2 → Nat) (inb : ∀ a, off a + S32x128.size a ≤ S18432x1920.size a) : PP F (Vec F S32x128 .fp8e4m3) :=
  Prog.lift (.load xV (rx off inb).toLoadRect (View.loadsAt_vmem h_S32x128))
abbrev stX (off : Fin 2 → Nat) (inb : ∀ a, off a + S32x128.size a ≤ S18432x1920.size a) (pk : (rx off inb).PackedRows (EltTy.packing .fp8e4m3))
    (w : FVec F S32x128 .fp8e4m3) : PP F PUnit :=
  Prog.lift (.store xV (rx off inb) (shapeCast S32x128 w shapeCasts_S32x128_S32x128) Finset.univ
    (View.stores_vmem h_S32x128 ((Memref.isWhole_whole _).storeExact_slice rfl _ pk) (fun _ => rfl)) (.inl rfl))
abbrev ld3 (m : Memref sig .tc .vmem S2x16x1920 .f32) (b : Fin 2) (t : Fin 15) : PP F (Vec F S1x16x128 .f32) :=
  Prog.lift (.load m (tile3 b t).toLoadRect (View.loadsAt_vmem h_S1x16x128))
abbrev st3 (m : Memref sig .tc .vmem S2x16x1920 .f32) (b : Fin 2) (t : Fin 15) (w : FVec F S16x128 .f32) : PP F PUnit :=
  Prog.lift (.store m (tile3 b t) (down w) Finset.univ (View.stores_vmem_bits_univ h_S1x16x128 rfl) (.inl rfl))
abbrev ldT (b : Fin 2) (t : Fin 15) : PP F (Vec F S1x16x128 .bf16) :=
  Prog.lift (.load topV (tile3 b t).toLoadRect (View.loadsAt_vmem h_S1x16x128))
abbrev stT (b : Fin 2) (t : Fin 15) (w : FVec F S16x128 .bf16) : PP F PUnit :=
  Prog.lift (.store topV (tile3 b t) (downB w) Finset.univ
    (View.stores_vmem h_S1x16x128 ((Memref.isWhole_whole _).storeExact_slice rfl _ (tile3_packed b t)) (fun _ => rfl)) (.inl rfl))
abbrev ldL (m : Memref sig .tc .vmem S2x1920 .f32) (b : Fin 2) (t : Fin 15) : PP F (Vec F S1x128 .f32) :=
  Prog.lift (.load m (lane b t).toLoadRect (View.loadsAt_vmem h_S1x128))
abbrev ldW3 (m : Memref sig .tc .vmem S2x16x1920 .f32) : PP F (Vec F S2x16x1920 .f32) :=
  Prog.lift (.load m whole3.toLoadRect (View.loadsAt_vmem h_S2x16x1920))
abbrev ldW2 (m : Memref sig .tc .vmem S2x1920 .f32) : PP F (Vec F S2x1920 .f32) :=
  Prog.lift (.load m whole2.toLoadRect (View.loadsAt_vmem h_S2x1920))
abbrev ldG (m : Memref sig .tc .vmem S2x32 .f32) : PP F (Vec F S2x32 .f32) :=
  Prog.lift (.load m wholeG.toLoadRect (View.loadsAt_vmem h_S2x32))

/-- Fill a sum buffer with zeros. -/
def zero3 (m : Memref sig .tc .vmem S2x16x1920 .f32) : PP F PUnit := do
  let _d ← ldW3 m
  Prog.lift (.store m whole3 (shapeCast S2x16x1920 (broadcast S2x16x1920 (Scalar.ofBits .f32 0x00000000#32) : FVec F S2x16x1920 .f32) shapeCasts_S2x16x1920_S2x16x1920) Finset.univ (View.stores_vmem_bits_univ h_S2x16x1920 rfl) (.inl rfl))
def zeroTop : PP F PUnit := do
  let _d ← Prog.lift (.load topV whole3.toLoadRect (View.loadsAt_vmem h_S2x16x1920))
  Prog.lift (.store topV whole3 (shapeCast S2x16x1920 (broadcast S2x16x1920 (Scalar.ofBits .bf16 0xFF80#16) : FVec F S2x16x1920 .bf16) shapeCasts_S2x16x1920_S2x16x1920) Finset.univ
    (View.stores_vmem h_S2x16x1920 ((Memref.isWhole_whole _).storeExact_slice rfl _ packedbf16_S2x16x1920_S2x16x1920_0_0_0) (fun _ => rfl)) (.inl rfl))
def set2 (m : Memref sig .tc .vmem S2x1920 .f32) (w : FVec F S2x1920 .f32) : PP F PUnit := do
  let _d ← ldW2 m
  Prog.lift (.store m whole2 (shapeCast S2x1920 w shapeCasts_S2x1920_S2x1920) Finset.univ (View.stores_vmem_bits_univ h_S2x1920 rfl) (.inl rfl))
def setG (m : Memref sig .tc .vmem S2x32 .f32) (w : FVec F S2x32 .f32) : PP F PUnit := do
  let _d ← ldG m
  Prog.lift (.store m wholeG (shapeCast S2x32 w shapeCasts_S2x32_S2x32) Finset.univ (View.stores_vmem_bits_univ h_S2x32 rfl) (.inl rfl))
def setS (m : Memref sig .tc .smem S1x1 .f32) (w : F .f32) : PP F PUnit := do
  let _d : Elt F .f32 ← smemLoad m wholeS numel1_S1x1 rfl
  Prog.lift (.store m wholeS (fun _ => w) Finset.univ (View.stores_smem_one rfl numel1_S1x1) (.inl rfl))

def inCopy (i : Fin k0_t1_loop.trips) : PP F PUnit :=
  Prog.lift (.enqueueDma (xM.slice (rchunk (k0_off2 i) (k0_off2_inb i)) (fun _ => rfl)) (.here (xV.slice (rchunk (k0_off2 i) (k0_off2_inb i)) (fun _ => rfl)))
    (.dma ((cc0_scratch8.slice (Rect.unit (s := S72) (k0_off1 i) S1.size (k0_off1_inb i))).squeeze S_ squeezes_S1_S_).sem)
    ((Memref.isWhole_whole _).wordExact_slice rfl _ (k0_off2_wordsfp8e4m3 i)) ((Memref.isWhole_whole _).wordExact_slice rfl _ (k0_off2_wordsfp8e4m3 i)) ⟨Or.inl rfl, trivial⟩)
def inWait (offs : Fin 1 → Nat) (inbs : ∀ a, offs a + S1.size a ≤ S72.size a) (off : Fin 2 → Nat) (inb : ∀ a, off a + S256x1920.size a ≤ S18432x1920.size a)
    (ww : (rchunk off inb).WholeWords (EltTy.packing .fp8e4m3)) : PP F PUnit :=
  Prog.lift (.waitDma2 ((cc0_scratch8.slice (Rect.unit (s := S72) offs S1.size inbs)).squeeze S_ squeezes_S1_S_).sem
    (xM.slice (rchunk off inb) (fun _ => rfl)) (xV.slice (rchunk off inb) (fun _ => rfl))
    ((Memref.isWhole_whole _).wordExact_slice rfl _ ww) ((Memref.isWhole_whole _).wordExact_slice rfl _ ww))
def outCopy (off : Fin 2 → Nat) (inb : ∀ a, off a + S256x1920.size a ≤ S18432x1920.size a)
    (ww : (rchunk off inb).WholeWords (EltTy.packing .fp8e4m3)) : PP F PUnit :=
  Prog.lift (.enqueueDma (xV.slice (rchunk off inb) (fun _ => rfl)) (.here (yM.slice (rchunk off inb) (fun _ => rfl))) (.dma cc0_scratch9.sem)
    ((Memref.isWhole_whole _).wordExact_slice rfl _ ww) ((Memref.isWhole_whole _).wordExact_slice rfl _ ww) ⟨Or.inl rfl, trivial⟩)
def outWait (i : Fin k0_t14_loop.trips) : PP F PUnit :=
  Prog.lift (.waitDma2 cc0_scratch9.sem (xV.slice (rchunk (k0_off161 i) (k0_off161_inb i)) (fun _ => rfl)) (yM.slice (rchunk (k0_off161 i) (k0_off161_inb i)) (fun _ => rfl))
    ((Memref.isWhole_whole _).wordExact_slice rfl _ (k0_off161_wordsfp8e4m3 i)) ((Memref.isWhole_whole _).wordExact_slice rfl _ (k0_off161_wordsfp8e4m3 i)))

/-- The running vectors over a list of row blocks. -/
def accL (sg : FVec F S1x128 .bf16) (off : Fin 8 → Fin 2 → Nat) (inb : ∀ r a, off r a + S32x128.size a ≤ S18432x1920.size a) : List (Fin 8) → Acc F → PP F (Acc F)
  | [], a => .ret a
  | r :: l, a => ldX (off r) (inb r) >>= fun x => accL sg off inb l (acc1 sg a x)
def statTile (gm : FVec F S1x1920 .f32) (b : Fin 2) (off : Fin 15 → Fin 8 → Fin 2 → Nat)
    (inb : ∀ t r a, off t r a + S32x128.size a ≤ S18432x1920.size a) (t : Fin 15) : PP F PUnit := do
  let x ← ldX (off t 0) (inb t 0)
  let a ← accL (signv gm t) (off t) (inb t) fin7 (acc0 (signv gm t) x)
  let o ← ld3 s1V b t
  let _d ← ld3 s1V b t
  st3 s1V b t (addf (up o) a.s1)
  let o ← ld3 s2V b t
  let _d ← ld3 s2V b t
  st3 s2V b t (addf (up o) a.s2)
  let o ← ldT b t
  let _d ← ldT b t
  stT b t (maximumf (upB o) a.tp)
def devTile (b : Fin 2) (off : Fin 15 → Fin 2 → Nat) (inb : ∀ t a, off t a + S32x128.size a ≤ S18432x1920.size a) (t : Fin 15) : PP F PUnit := do
  let x ← ldX (off t) (inb t)
  let m ← ldL meanV b t
  let o ← ld3 s2V b t
  let _d ← ld3 s2V b t
  st3 s2V b t (devSum m x o)
def maxTile (bt : FVec F S1x1920 .f32) (b : Fin 2) (off : Fin 15 → Fin 2 → Nat) (inb : ∀ t a, off t a + S32x128.size a ≤ S18432x1920.size a) (t : Fin 15) : PP F PUnit := do
  let x ← ldX (off t) (inb t)
  let m ← ldL meanV b t
  let g ← ldL gainV b t
  let o ← ld3 s1V b t
  let _d ← ld3 s1V b t
  st3 s1V b t (absMax m g bt t x o)
def quantTile (off : Fin 2 → Nat)
    (inb : ∀ a, off a + S32x128.size a ≤ S18432x1920.size a) (pk : (rx off inb).PackedRows (EltTy.packing .fp8e4m3))
    (g h : Vec F S1x128 .f32) (inv : F .f32) : PP F PUnit := do
  let x ← ldX off inb
  let _d ← ldX off inb
  stX off inb pk (quantv g h inv x)
def quantTiles (inv : F .f32) (b : Fin 2) (off : Fin 15 → Fin 8 → Fin 2 → Nat)
    (inb : ∀ t r a, off t r a + S32x128.size a ≤ S18432x1920.size a)
    (pk : ∀ t r, (rx (off t r) (inb t r)).PackedRows (EltTy.packing .fp8e4m3)) : PP F PUnit :=
  seqL (fun t => do
    let g ← ldL gainV b t
    let h ← ldL biasV b t
    seqL (fun r => quantTile (off t r) (inb t r) (pk t r) g h inv) fin8) fin15
def illTile (bt : FVec F S1x1920 .f32) (inv : F .f32) (b : Fin 2) (off : Fin 15 → Fin 2 → Nat) (inb : ∀ t a, off t a + S32x128.size a ≤ S18432x1920.size a)
    (pk : ∀ t, (rx (off t) (inb t)).PackedRows (EltTy.packing .fp8e4m3)) (t : Fin 15) : PP F PUnit := do
  let x ← ldX (off t) (inb t)
  let m ← ldL meanV b t
  let g ← ldL gainV b t
  let _d ← ldX (off t) (inb t)
  stX (off t) (inb t) (pk t) (clipv inv (normv m g bt t x))

def stat2 (gm : FVec F S1x1920 .f32) (j : Fin k0_t2_loop.trips) : PP F PUnit :=
  inWait (k0_off3 j) (k0_off3_inb j) (k0_off4 j) (k0_off4_inb j) (k0_off4_wordsfp8e4m3 j) >>= fun _ => seqL (statTile gm 0 (off2 j) (off2_inb j)) fin15
def stat3 (gm : FVec F S1x1920 .f32) (j : Fin k0_t3_loop.trips) : PP F PUnit :=
  inWait (k0_off20 j) (k0_off20_inb j) (k0_off21 j) (k0_off21_inb j) (k0_off21_wordsfp8e4m3 j) >>= fun _ => seqL (statTile gm 1 (off3 j) (off3_inb j)) fin15
def quant8 (inv : F .f32) (j : Fin k0_t8_loop.trips) : PP F PUnit :=
  quantTiles inv 0 (off8 j) (off8_inb j) (off8_packed j) >>= fun _ => outCopy (k0_off112 j) (k0_off112_inb j) (k0_off112_wordsfp8e4m3 j)
def quant9 (inv : F .f32) (j : Fin k0_t9_loop.trips) : PP F PUnit :=
  quantTiles inv 1 (off9 j) (off9_inb j) (off9_packed j) >>= fun _ => outCopy (k0_off128 j) (k0_off128_inb j) (k0_off128_wordsfp8e4m3 j)
def quant10 (bt : FVec F S1x1920 .f32) (inv : F .f32) (j : Fin k0_t10_loop.trips) : PP F PUnit :=
  (Scf.Loop.for k0_t11_loop k0_t11_ok ⟨⟩ fun k _ => seqL (illTile bt inv 0 (off10 j k) (off10_inb j k) (off10_packed j k)) fin15) >>= fun _ =>
    outCopy (k0_off144 j) (k0_off144_inb j) (k0_off144_wordsfp8e4m3 j)
def quant12 (bt : FVec F S1x1920 .f32) (inv : F .f32) (j : Fin k0_t12_loop.trips) : PP F PUnit :=
  (Scf.Loop.for k0_t13_loop k0_t13_ok ⟨⟩ fun k _ => seqL (illTile bt inv 1 (off12 j k) (off12_inb j k) (off12_packed j k)) fin15) >>= fun _ =>
    outCopy (k0_off160 j) (k0_off160_inb j) (k0_off160_wordsfp8e4m3 j)

/-- The two-pass variance, where some group needs it. -/
def illPart (ill : BitVec 1) : PP F PUnit :=
  if Scalar.cmpi .ne (Scalar.extui ill : BitVec 32) 0#32 = 1#1 then do
    zero3 s2V
    Scf.Loop.for k0_t4_loop k0_t4_ok ⟨⟩ fun j _ => seqL (devTile 0 (off4 j) (off4_inb j)) fin15
    Scf.Loop.for k0_t5_loop k0_t5_ok ⟨⟩ fun j _ => seqL (devTile 1 (off5 j) (off5_inb j)) fin15
    let s ← ldW3 s2V
    setG devV (gmean s)
  else pure ⟨⟩
/-- The exact maximum, where the two bounds have different exponents. -/
def maxPart (arg5 : Memref sig .tc .smem S1x1 .f32) (bt : FVec F S1x1920 .f32) (e1 e2 : BitVec 32) : PP F PUnit :=
  if Scalar.cmpi .ne (Scalar.extui (Scalar.cmpi .ne e1 e2) : BitVec 32) 0#32 = 1#1 then do
    zero3 s1V
    Scf.Loop.for k0_t6_loop k0_t6_ok ⟨⟩ fun j _ => seqL (maxTile bt 0 (off6 j) (off6_inb j)) fin15
    Scf.Loop.for k0_t7_loop k0_t7_ok ⟨⟩ fun j _ => seqL (maxTile bt 1 (off7 j) (off7_inb j)) fin15
    let s ← ldW3 s1V
    setS arg5 (maxv s)
  else pure ⟨⟩
def fastPart (ill : BitVec 1) (inv : F .f32) : PP F PUnit :=
  if Scalar.cmpi .ne (Scalar.extui (Scalar.xori ill 1#1) : BitVec 32) 0#32 = 1#1 then do
    Scf.Loop.for k0_t8_loop k0_t8_ok ⟨⟩ fun j _ => quant8 inv j
    Scf.Loop.for k0_t9_loop k0_t9_ok ⟨⟩ fun j _ => quant9 inv j
    pure ⟨⟩
  else pure ⟨⟩
def slowPart (ill : BitVec 1) (bt : FVec F S1x1920 .f32) (inv : F .f32) : PP F PUnit :=
  if Scalar.cmpi .ne (Scalar.extui ill : BitVec 32) 0#32 = 1#1 then do
    Scf.Loop.for k0_t10_loop k0_t10_ok ⟨⟩ fun j _ => quant10 bt inv j
    Scf.Loop.for k0_t12_loop k0_t12_ok ⟨⟩ fun j _ => quant12 bt inv j
    pure ⟨⟩
  else pure ⟨⟩

/-- The kernel. -/
def model (arg1 : Memref sig .tc .vmem S2x32 .f32) (arg2 : Memref sig .tc .vmem S1x1920 .f32) (arg3 : Memref sig .tc .vmem S1x1920 .f32) (arg5 : Memref sig .tc .smem S1x1 .f32) (harg5 : arg5.IsWhole) : PP F PUnit := do
  Scf.Loop.for k0_t1_loop k0_t1_ok ⟨⟩ fun i _ => inCopy i
  let gm ← Prog.lift (.load arg2 whole1.toLoadRect (View.loadsAt_vmem h_S1x1920))
  let bt ← Prog.lift (.load arg3 whole1.toLoadRect (View.loadsAt_vmem h_S1x1920))
  zero3 s1V
  zero3 s2V
  zeroTop
  Scf.Loop.for k0_t2_loop k0_t2_ok ⟨⟩ fun j _ => stat2 (row1 gm) j
  Scf.Loop.for k0_t3_loop k0_t3_ok ⟨⟩ fun j _ => stat3 (row1 gm) j
  let s1 ← ldW3 s1V
  let s2 ← ldW3 s2V
  let tp ← Prog.lift (.load topV whole3.toLoadRect (View.loadsAt_vmem h_S2x16x1920))
  let sc ← ldG arg1
  setG devV (dev1 (gmean s1) (gmean s2))
  let d ← ldG devV
  set2 meanV (spread (gmean s1))
  illPart (illv sc (gmean s2) d)
  let d' ← ldG devV
  let m ← ldW2 meanV
  set2 gainV (gainv sc d' (row1 gm))
  set2 biasV (biasv m (gainv sc d' (row1 gm)) (row1 bt))
  setS arg5 (lowv (coltop tp) m (gainv sc d' (row1 gm)) (row1 gm) (row1 bt))
  maxPart arg5 (row1 bt) (expOf (toGrid (lowv (coltop tp) m (gainv sc d' (row1 gm)) (row1 gm) (row1 bt))))
    (expOf (toGrid (Scalar.maximumf (lowv (coltop tp) m (gainv sc d' (row1 gm)) (row1 gm) (row1 bt)) (Scalar.ofBits .f32 0x3E8E978D#32))))
  let a : Elt F .f32 ← smemLoad arg5 wholeS numel1_S1x1 rfl
  setS arg5 (pow2 (outExp a))
  fastPart (illv sc (gmean s2) d) (pow2 (Scalar.subi 0#32 (outExp a)))
  slowPart (illv sc (gmean s2) d) (row1 bt) (pow2 (Scalar.subi 0#32 (outExp a)))
  Scf.Loop.for k0_t14_loop k0_t14_ok ⟨⟩ fun i _ => outWait i
  pure ⟨⟩

/-! ## The printed kernel is this program -/

theorem part303_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole)  :
  k0_part303 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = (do
    Scf.Loop.for k0_t1_loop k0_t1_ok ⟨⟩ fun i _ => inCopy i
    let gm ← Prog.lift (.load arg2 whole1.toLoadRect (View.loadsAt_vmem h_S1x1920))
    let bt ← Prog.lift (.load arg3 whole1.toLoadRect (View.loadsAt_vmem h_S1x1920))
    zero3 s1V
    zero3 s2V
    zeroTop
    pure ⟨onehot, row1 gm, row1 bt, ones, 0#32⟩) := by sl_kernel_rfl

theorem part304_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm : FVec F S1x1920 .f32) :
  k0_part304 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm ones 0#32 = (do
    Scf.Loop.for k0_t2_loop k0_t2_ok ⟨⟩ fun j _ => stat2 gm j
    Scf.Loop.for k0_t3_loop k0_t3_ok ⟨⟩ fun j _ => stat3 gm j
    let s1 ← ldW3 s1V
    let s2 ← ldW3 s2V
    let tp ← Prog.lift (.load topV whole3.toLoadRect (View.loadsAt_vmem h_S2x16x1920))
    let sc ← ldG arg1
    setG devV (dev1 (gmean s1) (gmean s2))
    let d ← ldG devV
    pure ⟨coltop tp, sc, gmean s1, mulf sc sc, mulf (mulf sc sc) (gmean s2), mulf (mulf sc sc) d⟩) := by sl_kernel_rfl

theorem part305_flat (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (sc : Vec F S2x32 .f32) (m q : FVec F S2x32 .f32) (d : Vec F S2x32 .f32) :
  k0_part305 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm bt sc m (mulf sc sc) (mulf (mulf sc sc) q) (mulf (mulf sc sc) d) = (do
    set2 meanV (spread m)
    if Scalar.cmpi .ne (Scalar.extui (illv sc q d) : BitVec 32) 0#32 = 1#1 then do
      zero3 s2V
      Scf.Loop.for k0_t4_loop k0_t4_ok ⟨⟩ fun j _ => seqL (devTile 0 (off4 j) (off4_inb j)) fin15
      Scf.Loop.for k0_t5_loop k0_t5_ok ⟨⟩ fun j _ => seqL (devTile 1 (off5 j) (off5_inb j)) fin15
      let s ← ldW3 s2V
      setG devV (gmean s)
      pure ⟨⟩
    else pure ⟨⟩
    let d' ← ldG devV
    let m ← ldW2 meanV
    let _ ← ldW2 gainV
    Prog.lift (.store gainV whole2 (shapeCast S2x1920 (gainv sc d' gm) shapeCasts_S2x1920_S2x1920) Finset.univ (View.stores_vmem_bits_univ h_S2x1920 rfl) (.inl rfl))
    let o ← ldW2 biasV
    pure ⟨illv sc q d, gainv sc d' gm, m, biasv m (gainv sc d' gm) bt, o⟩) := by sl_kernel_rfl

theorem part305_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (sc : Vec F S2x32 .f32) (m q : FVec F S2x32 .f32) (d : Vec F S2x32 .f32) :
  k0_part305 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm bt sc m (mulf sc sc) (mulf (mulf sc sc) q) (mulf (mulf sc sc) d) = (do
    set2 meanV (spread m)
    illPart (illv sc q d)
    let d' ← ldG devV
    let m ← ldW2 meanV
    let _ ← ldW2 gainV
    Prog.lift (.store gainV whole2 (shapeCast S2x1920 (gainv sc d' gm) shapeCasts_S2x1920_S2x1920) Finset.univ (View.stores_vmem_bits_univ h_S2x1920 rfl) (.inl rfl))
    let o ← ldW2 biasV
    pure ⟨illv sc q d, gainv sc d' gm, m, biasv m (gainv sc d' gm) bt, o⟩) := by
  rw [part305_flat]
  simp only [illPart]
  split <;> simp only [bind_assoc, pure_bind]

theorem part306_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (tp g : FVec F S2x1920 .f32) (m : Vec F S2x1920 .f32) (b : FVec F S2x1920 .f32) (o : Vec F S2x1920 .f32) :
  k0_part306 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 gm bt tp g m b o = (do
    Prog.lift (.store biasV whole2 (shapeCast S2x1920 b shapeCasts_S2x1920_S2x1920) Finset.univ (View.stores_vmem_bits_univ h_S2x1920 rfl) (.inl rfl))
    setS arg5 (lowv tp m g gm bt)
    pure ⟨Scalar.maximumf (lowv tp m g gm bt) (Scalar.ofBits .f32 0x3E8E978D#32), toGrid (lowv tp m g gm bt),
      bitStep (toGrid (lowv tp m g gm bt)) (bitStep (toGrid (lowv tp m g gm bt)) (bitStep (toGrid (lowv tp m g gm bt)) 0#32 128#32) 64#32) 32#32,
      Scalar.addi (bitStep (toGrid (lowv tp m g gm bt)) (bitStep (toGrid (lowv tp m g gm bt)) (bitStep (toGrid (lowv tp m g gm bt)) 0#32 128#32) 64#32) 32#32) 16#32,
      Scalar.ofBits .f32 (Scalar.shli (Scalar.addi (bitStep (toGrid (lowv tp m g gm bt)) (bitStep (toGrid (lowv tp m g gm bt)) (bitStep (toGrid (lowv tp m g gm bt)) 0#32 128#32) 64#32) 32#32) 16#32) 23#32)⟩) := by sl_kernel_rfl

theorem part307_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (hi t : F .f32) :
  k0_part307 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 hi t (bitStep t (bitStep t (bitStep t 0#32 128#32) 64#32) 32#32)
      (Scalar.addi (bitStep t (bitStep t (bitStep t 0#32 128#32) 64#32) 32#32) 16#32)
      (Scalar.ofBits .f32 (Scalar.shli (Scalar.addi (bitStep t (bitStep t (bitStep t 0#32 128#32) 64#32) 32#32) 16#32) 23#32)) = (do
    pure ⟨expOf t, toGrid hi, bitStep (toGrid hi) (bitStep (toGrid hi) 0#32 128#32) 64#32, Scalar.addi (bitStep (toGrid hi) (bitStep (toGrid hi) 0#32 128#32) 64#32) 32#32, 23#32⟩) := by sl_kernel_rfl

theorem part308_flat (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (bt : FVec F S1x1920 .f32) (e1 : BitVec 32) (u : F .f32) :
  k0_part308 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 bt e1 u (bitStep u (bitStep u 0#32 128#32) 64#32) (Scalar.addi (bitStep u (bitStep u 0#32 128#32) 64#32) 32#32) 23#32 = (do
    if Scalar.cmpi .ne (Scalar.extui (Scalar.cmpi .ne e1 (expOf u)) : BitVec 32) 0#32 = 1#1 then do
      zero3 s1V
      Scf.Loop.for k0_t6_loop k0_t6_ok ⟨⟩ fun j _ => seqL (maxTile bt 0 (off6 j) (off6_inb j)) fin15
      Scf.Loop.for k0_t7_loop k0_t7_ok ⟨⟩ fun j _ => seqL (maxTile bt 1 (off7 j) (off7_inb j)) fin15
      let s ← ldW3 s1V
      setS arg5 (maxv s)
      pure ⟨⟩
    else pure ⟨⟩
    let a : Elt F .f32 ← smemLoad arg5 wholeS numel1_S1x1 rfl
    pure ⟨Scalar.cmpf .oeq a (Scalar.ofBits .f32 0x00000000#32), toGrid a⟩) := by sl_kernel_rfl

theorem part308_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (bt : FVec F S1x1920 .f32) (e1 : BitVec 32) (u : F .f32) :
  k0_part308 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 bt e1 u (bitStep u (bitStep u 0#32 128#32) 64#32) (Scalar.addi (bitStep u (bitStep u 0#32 128#32) 64#32) 32#32) 23#32 = (do
    maxPart arg5 bt e1 (expOf u)
    let a : Elt F .f32 ← smemLoad arg5 wholeS numel1_S1x1 rfl
    pure ⟨Scalar.cmpf .oeq a (Scalar.ofBits .f32 0x00000000#32), toGrid a⟩) := by
  rw [part308_flat]
  simp only [maxPart]
  split <;> simp only [bind_assoc, pure_bind]

theorem part309_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (t : F .f32) :
  k0_part309 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 t = (do
    pure ⟨fieldOf t, Scalar.cmpi .eq (fieldOf t) 0#32⟩) := by sl_kernel_rfl

/-- The kernel's last window: the scale's store, the quantising loops, the waits. -/
def tailFlat (arg5 : Memref sig .tc .smem S1x1 .f32) (harg5 : arg5.IsWhole) (bt : FVec F S1x1920 .f32) (ill c : BitVec 1) (f : BitVec 32) (c0 : BitVec 1) : PP F PUnit := do
  setS arg5 (pow2 (Scalar.select c 0#32 (Scalar.select (Scalar.ori c0 (Scalar.cmpi .eq f 255#32)) 0#32 (Scalar.subi f 126#32))))
  if Scalar.cmpi .ne (Scalar.extui (Scalar.xori ill 1#1) : BitVec 32) 0#32 = 1#1 then do
    Scf.Loop.for k0_t8_loop k0_t8_ok ⟨⟩ fun j _ => quant8 (pow2 (Scalar.subi 0#32 (Scalar.select c 0#32 (Scalar.select (Scalar.ori c0 (Scalar.cmpi .eq f 255#32)) 0#32 (Scalar.subi f 126#32))))) j
    Scf.Loop.for k0_t9_loop k0_t9_ok ⟨⟩ fun j _ => quant9 (pow2 (Scalar.subi 0#32 (Scalar.select c 0#32 (Scalar.select (Scalar.ori c0 (Scalar.cmpi .eq f 255#32)) 0#32 (Scalar.subi f 126#32))))) j
    pure ⟨⟩
  else pure ⟨⟩
  if Scalar.cmpi .ne (Scalar.extui ill : BitVec 32) 0#32 = 1#1 then do
    Scf.Loop.for k0_t10_loop k0_t10_ok ⟨⟩ fun j _ => quant10 bt (pow2 (Scalar.subi 0#32 (Scalar.select c 0#32 (Scalar.select (Scalar.ori c0 (Scalar.cmpi .eq f 255#32)) 0#32 (Scalar.subi f 126#32))))) j
    Scf.Loop.for k0_t12_loop k0_t12_ok ⟨⟩ fun j _ => quant12 bt (pow2 (Scalar.subi 0#32 (Scalar.select c 0#32 (Scalar.select (Scalar.ori c0 (Scalar.cmpi .eq f 255#32)) 0#32 (Scalar.subi f 126#32))))) j
    pure ⟨⟩
  else pure ⟨⟩
  Scf.Loop.for k0_t14_loop k0_t14_ok ⟨⟩ fun i _ => outWait i
  pure ⟨⟩

theorem tail_eq (arg5 : Memref sig .tc .smem S1x1 .f32) (harg5 : arg5.IsWhole) (bt : FVec F S1x1920 .f32) (ill : BitVec 1) (a : F .f32) :
    tailFlat arg5 harg5 bt ill (Scalar.cmpf .oeq a (Scalar.ofBits .f32 0x00000000#32)) (fieldOf (toGrid a)) (Scalar.cmpi .eq (fieldOf (toGrid a)) 0#32) = (do
      setS arg5 (pow2 (outExp a))
      fastPart ill (pow2 (Scalar.subi 0#32 (outExp a)))
      slowPart ill bt (pow2 (Scalar.subi 0#32 (outExp a)))
      Scf.Loop.for k0_t14_loop k0_t14_ok ⟨⟩ fun i _ => outWait i
      pure ⟨⟩) := by
  have h1 : (Scalar.select (Scalar.cmpf .oeq a (Scalar.ofBits .f32 0x00000000#32)) 0#32 (Scalar.select (Scalar.ori (Scalar.cmpi .eq (fieldOf (toGrid a)) 0#32) (Scalar.cmpi .eq (fieldOf (toGrid a)) 255#32)) 0#32 (Scalar.subi (fieldOf (toGrid a)) 126#32))) = outExp a := rfl
  simp only [tailFlat, h1, fastPart, slowPart]
  split <;> split <;> simp only [bind_assoc, pure_bind]

theorem cc0_struct (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) : cc0_groupnorm_silu_fp8 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = (
    k0_part303 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 >>= fun p => k0_part304 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.1 p.2.1 p.2.2.2.1 p.2.2.2.2 >>= fun q =>
    k0_part305 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.1 p.2.1 p.2.2.1 q.2.1 q.2.2.1 q.2.2.2.1 q.2.2.2.2.1 q.2.2.2.2.2 >>= fun r =>
    k0_part306 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.2.1 p.2.2.1 q.1 r.2.1 r.2.2.1 r.2.2.2.1 r.2.2.2.2 >>= fun s =>
    k0_part307 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 s.1 s.2.1 s.2.2.1 s.2.2.2.1 s.2.2.2.2 >>= fun t =>
    k0_part308 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.2.2.1 t.1 t.2.1 t.2.2.1 t.2.2.2.1 t.2.2.2.2 >>= fun u =>
    k0_part309 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 u.2 >>= fun v => tailFlat arg5 harg5 p.2.2.1 r.1 u.1 v.1 v.2) := by
  sl_kernel_rfl

theorem cc0_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) : cc0_groupnorm_silu_fp8 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = model arg1 arg2 arg3 arg5 harg5 := by
  rw [cc0_struct]
  simp only [part303_eq, bind_assoc, pure_bind, part304_eq, part305_eq, part306_eq, part307_eq, part308_eq, part309_eq, tail_eq]
  simp only [model, set2, bind_assoc, pure_bind]

end Cert.KernelIdeal.Hand
end
end
-- ==== Proof.Offs.lean ====
/-
  Where the accesses of the structured program lie: each printed offset is a multiple of the tile or chunk it names.
-/
module
public import proofs.«01_k».proof.Proof.Model
@[expose] public section
set_option maxRecDepth 100000
noncomputable section
namespace Cert.KernelIdeal.Hand
open Cert.KernelIdeal
open Idealize.ShloMosaic Idealize.SL.Sem

theorem trips1 : k0_t1_loop.trips = 72 := by decide +kernel
theorem trips2 : k0_t2_loop.trips = 36 := by decide +kernel
theorem trips3 : k0_t3_loop.trips = 36 := by decide +kernel
theorem trips4 : k0_t4_loop.trips = 288 := by decide +kernel
theorem trips5 : k0_t5_loop.trips = 288 := by decide +kernel
theorem trips6 : k0_t6_loop.trips = 288 := by decide +kernel
theorem trips7 : k0_t7_loop.trips = 288 := by decide +kernel
theorem trips8 : k0_t8_loop.trips = 36 := by decide +kernel
theorem trips9 : k0_t9_loop.trips = 36 := by decide +kernel
theorem trips10 : k0_t10_loop.trips = 36 := by decide +kernel
theorem trips11 : k0_t11_loop.trips = 8 := by decide +kernel
theorem trips12 : k0_t12_loop.trips = 36 := by decide +kernel
theorem trips13 : k0_t13_loop.trips = 8 := by decide +kernel
theorem trips14 : k0_t14_loop.trips = 72 := by decide +kernel
theorem k0_off2_eq : ∀ j : Fin k0_t1_loop.trips, k0_off2 j = ![256 * (j.val), 0] := by decide +kernel
theorem k0_off4_eq : ∀ j : Fin k0_t2_loop.trips, k0_off4 j = ![256 * (j.val), 0] := by decide +kernel
theorem k0_off21_eq : ∀ j : Fin k0_t3_loop.trips, k0_off21 j = ![256 * (36 + j.val), 0] := by decide +kernel
theorem k0_off112_eq : ∀ j : Fin k0_t8_loop.trips, k0_off112 j = ![256 * (j.val), 0] := by decide +kernel
theorem k0_off128_eq : ∀ j : Fin k0_t9_loop.trips, k0_off128 j = ![256 * (36 + j.val), 0] := by decide +kernel
theorem k0_off144_eq : ∀ j : Fin k0_t10_loop.trips, k0_off144 j = ![256 * (j.val), 0] := by decide +kernel
theorem k0_off160_eq : ∀ j : Fin k0_t12_loop.trips, k0_off160 j = ![256 * (36 + j.val), 0] := by decide +kernel
theorem k0_off161_eq : ∀ j : Fin k0_t14_loop.trips, k0_off161 j = ![256 * (j.val), 0] := by decide +kernel
theorem k0_off1_eq : ∀ j : Fin k0_t1_loop.trips, k0_off1 j = ![j.val] := by decide +kernel
theorem k0_off3_eq : ∀ j : Fin k0_t2_loop.trips, k0_off3 j = ![j.val] := by decide +kernel
theorem k0_off20_eq : ∀ j : Fin k0_t3_loop.trips, k0_off20 j = ![36 + j.val] := by decide +kernel
theorem off2_eq : ∀ (j : Fin k0_t2_loop.trips) (t : Fin 15) (r : Fin 8), off2 j t r = ![256 * (j.val) + 32 * r.val, 128 * t.val] := by decide +kernel
theorem off3_eq : ∀ (j : Fin k0_t3_loop.trips) (t : Fin 15) (r : Fin 8), off3 j t r = ![256 * (36 + j.val) + 32 * r.val, 128 * t.val] := by decide +kernel
theorem off8_eq : ∀ (j : Fin k0_t8_loop.trips) (t : Fin 15) (r : Fin 8), off8 j t r = ![256 * (j.val) + 32 * r.val, 128 * t.val] := by decide +kernel
theorem off9_eq : ∀ (j : Fin k0_t9_loop.trips) (t : Fin 15) (r : Fin 8), off9 j t r = ![256 * (36 + j.val) + 32 * r.val, 128 * t.val] := by decide +kernel
theorem off10_eq : ∀ (j : Fin k0_t10_loop.trips) (k : Fin k0_t11_loop.trips) (t : Fin 15), off10 j k t = ![256 * (j.val) + 32 * k.val, 128 * t.val] := by decide +kernel
theorem off12_eq : ∀ (j : Fin k0_t12_loop.trips) (k : Fin k0_t13_loop.trips) (t : Fin 15), off12 j k t = ![256 * (36 + j.val) + 32 * k.val, 128 * t.val] := by decide +kernel
theorem off4_eq : ∀ (j : Fin k0_t4_loop.trips) (t : Fin 15), off4 j t = ![32 * (j.val), 128 * t.val] := by decide +kernel
theorem off5_eq : ∀ (j : Fin k0_t5_loop.trips) (t : Fin 15), off5 j t = ![32 * (288 + j.val), 128 * t.val] := by decide +kernel
theorem off6_eq : ∀ (j : Fin k0_t6_loop.trips) (t : Fin 15), off6 j t = ![32 * (j.val), 128 * t.val] := by decide +kernel
theorem off7_eq : ∀ (j : Fin k0_t7_loop.trips) (t : Fin 15), off7 j t = ![32 * (288 + j.val), 128 * t.val] := by decide +kernel

end Cert.KernelIdeal.Hand
end
end
-- ==== Proof.Run.lean ====
/-
  The loads and stores of the kernel's buffers, each with what the buffer holds before and after.
-/
module
public import proofs.«01_k».proof.Proof.Offs
public import proofs.«01_k».proof.Proof.Gen.KernelIdeal.Launch
public import Idealize.ShloMosaic.Lib.Pipeline.FrameBody
public import Idealize.ShloMosaic.Lib.Pipeline.FrameValue
public import Idealize.ShloMosaic.Lib.Transfers
public import Idealize.ShloMosaic.Lib.Batch
public import Idealize.ShloMosaic.Lib.Ring
public import Idealize.ShloMosaic.Lib.Tactic
public import Idealize.ShloMosaic.Lib.ValueLayout
public import Idealize.ShloMosaic.Lib.ValueIdxCoords
@[expose] public section
noncomputable section
namespace Cert.KernelIdeal.Hand
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

/-- The weakest precondition of a program of the kernel on core `c`. -/
abbrev WP {α : Type} (c : Dev nD) (p : PP F α) (Q : α → sProp 𝕄) : sProp 𝕄 :=
  wp frame (wpE (defs₀ (F := F)) Variants.none (c : Thread nD τ) none) Set.univ p Q

variable {c : Dev nD}

theorem wp_seq {α β : Type} {p : PP F α} {k : α → PP F β} {Q : β → sProp 𝕄} :
    WP c p (fun a => WP c (k a) Q) ⊢ WP c (p >>= k) Q := by
  show _ ⊢ wp _ _ _ (p >>= k) Q
  rw [wp_bind]

theorem wp_done {α : Type} {a : α} {Q : α → sProp 𝕄} : Q a ⊢ WP c (.ret a) Q := le_wp_ret _ _ _ _ _

/-- A load. -/
theorem ld_wp {cs : CoreSpace} {s : Shape} {e : EltTy} {m : Memref sig .tc cs s e} {r : Rect s} {hl : m.view.LoadsAt r}
    {S : Finset (Idx (m.view.loc (c : Thread nD τ)))} {q : PosShare TreeShare} {f : Buf (Elt F) (m.view.loc (c : Thread nD τ))}
    (hS : (m.access r).set ⊆ S) {Q : (r.shape.Idx → Elt F e) → sProp 𝕄} :
    iprop((m.view.loc (c : Thread nD τ) ↦[S]{q} f) ∗ ((m.view.loc (c : Thread nD τ) ↦[S]{q} f) -∗ Q ((m.access r).read (Elt F) f)))
      ⊢ WP c (Prog.lift (.load m r.toLoadRect hl)) Q := by
  iintro ⟨H, HQ⟩
  iapply (wp_load_rect (defs := defs₀ (F := F)) (m := m) (r := r) (hl := hl) (k := .ret) (q := q) (f := f) Variants.none (c : Thread nD τ) none Set.univ hS) $$ H
  iintro H
  iapply wp_done
  iapply HQ; iexact H

/-- A store, to the contents `g`. -/
theorem st_wp {cs : CoreSpace} {s : Shape} {e : EltTy} {m : Memref sig .tc cs s e} {r : Rect s} {w : r.shape.Idx → Elt F e}
    {hx : (m.access r).Stores Finset.univ} {hm}
    {S : Finset (Idx (m.view.loc (c : Thread nD τ)))} {f : Buf (Elt F) (m.view.loc (c : Thread nD τ))}
    (g : Buf (Elt F) (m.view.loc (c : Thread nD τ)))
    (hS : (m.access r).set ⊆ S) (hg : ∀ i ∈ S, (m.access r).write (Elt F) f w Finset.univ i = g i) {Q : PUnit → sProp 𝕄} :
    iprop((m.view.loc (c : Thread nD τ) ↦[S]{fullShare} f) ∗ ((m.view.loc (c : Thread nD τ) ↦[S]{fullShare} g) -∗ Q ⟨⟩))
      ⊢ WP c (Prog.lift (.store m r w Finset.univ hx hm)) Q := by
  have h := wp_store (defs := defs₀ (F := F)) (m := m) (r := r) (w := w) (hx := hx) (hm := hm) (k := fun _ => .ret ⟨⟩) (f := f) (Γ := PendingWaitsCtx.empty) (Q := Q)
    Variants.none (c : Thread nD τ) none Set.univ (S := S) (by rw [View.setOn_univ]; exact hS)
  refine (sep_mono_r ?_).trans (BI.wand_elim h)
  refine .trans ?_ (wand_mono_right (wp_done (a := PUnit.unit)))
  exact (Entails.of_eq (congrArg (fun P => iprop(P -∗ Q ⟨⟩)) (pointsTo_congr hg).symm))

theorem write_whole {b : Ref sig .tc} {r : Rect b.ty.shape} {f g : Buf (Elt F) ((c : Thread nD τ).loc b)} {w : r.shape.Idx → Elt F b.ty.elt}
    (hin : ∀ k, g (r.emb k) = w k) (hout : ∀ i, i ∉ r.set → g i = f i) (i : Idx ((c : Thread nD τ).loc b)) :
    ((View.whole b).slice r).write (Elt F) f w Finset.univ i = g i := by
  by_cases h : i ∈ r.set
  · rw [← Rect.map_emb_univ] at h
    obtain ⟨k, -, rfl⟩ := Finset.mem_map.mp h
    rw [hin]
    exact View.write_emb_of_mem (v := (View.whole b).slice r) f w (Finset.mem_univ k)
  · rw [hout i h]
    refine View.write_of_not_mem (v := (View.whole b).slice r) f w _ ?_
    rw [View.setOn_univ, View.set_slice_whole]
    exact h

/-! ## The buffers' contents -/

/-- The rows from `lo` to `hi` of an array of 18432 rows. -/
def rows (lo hi : Nat) : Finset S18432x1920.Idx := Finset.univ.filter fun i => lo ≤ (i 0).val ∧ (i 0).val < hi

theorem mem_rows {lo hi : Nat} {i : S18432x1920.Idx} : i ∈ rows lo hi ↔ lo ≤ (i 0).val ∧ (i 0).val < hi := by simp [rows]

abbrev CX (F : FTy → Type) := S18432x1920.Idx → Elt F .fp8e4m3
abbrev C3 (F : FTy → Type) := S2x16x1920.Idx → Elt F .f32
abbrev C3B (F : FTy → Type) := S2x16x1920.Idx → Elt F .bf16

/-- A tile of the input's copy, and the copy with a tile replaced. -/
def getX (off : Fin 2 → Nat) (inb : ∀ a, off a + S32x128.size a ≤ S18432x1920.size a) (X : CX F) : Vec F S32x128 .fp8e4m3 := fun k => X ((rx off inb).emb k)
def putX (off : Fin 2 → Nat) (w : Vec F S32x128 .fp8e4m3) (X : CX F) : CX F := fun i =>
  if h : (off 0 ≤ (i 0).val ∧ (i 0).val < off 0 + 32) ∧ (off 1 ≤ (i 1).val ∧ (i 1).val < off 1 + 128)
  then w (ix2 ⟨(i 0).val - off 0, by omega⟩ ⟨(i 1).val - off 1, by omega⟩) else X i

theorem putX_emb (off : Fin 2 → Nat) (inb : ∀ a, off a + S32x128.size a ≤ S18432x1920.size a) (w : Vec F S32x128 .fp8e4m3) (X : CX F) (k : S32x128.Idx) :
    putX off w X ((rx off inb).emb k) = w k := by
  have e0 : (((rx off inb).emb k) 0).val = off 0 + 1 * (k 0).val := rfl
  have e1 : (((rx off inb).emb k) 1).val = off 1 + 1 * (k 1).val := rfl
  have h0 : (k 0).val < 32 := (k 0).isLt
  have h1 : (k 1).val < 128 := (k 1).isLt
  unfold putX
  rw [dif_pos (by omega)]
  congr 1
  funext a
  match a with
  | ⟨0, _⟩ => exact Fin.ext (by show off 0 + 1 * (k 0).val - off 0 = (k 0).val; omega)
  | ⟨1, _⟩ => exact Fin.ext (by show off 1 + 1 * (k 1).val - off 1 = (k 1).val; omega)

theorem mem_rx {off : Fin 2 → Nat} {inb : ∀ a, off a + S32x128.size a ≤ S18432x1920.size a} {i : S18432x1920.Idx} :
    i ∈ (rx off inb).set ↔ (off 0 ≤ (i 0).val ∧ (i 0).val < off 0 + 32) ∧ (off 1 ≤ (i 1).val ∧ (i 1).val < off 1 + 128) := by
  rw [Rect.mem_set_unit, Fin.forall_fin_two]; rfl

theorem putX_off (off : Fin 2 → Nat) (inb : ∀ a, off a + S32x128.size a ≤ S18432x1920.size a) (w : Vec F S32x128 .fp8e4m3) (X : CX F) (i : S18432x1920.Idx)
    (h : i ∉ (rx off inb).set) : putX off w X i = X i := by
  unfold putX; rw [dif_neg (fun h' => h (mem_rx.mpr h'))]

/-- A lane tile of one image of a sum buffer, and the buffer with the tile replaced. -/
def get3 {α : Type} (b : Fin 2) (t : Fin 15) (A : S2x16x1920.Idx → α) : S1x16x128.Idx → α := fun k => A ((tile3 b t).emb k)
def put3 {α : Type} (b : Fin 2) (t : Fin 15) (w : S16x128.Idx → α) (A : S2x16x1920.Idx → α) : S2x16x1920.Idx → α := fun i =>
  if (i 0).val = b.val ∧ (i 2).val / 128 = t.val then w (ix2 (i 1) ⟨(i 2).val % 128, Nat.mod_lt _ (by omega)⟩) else A i
def getL {α : Type} (b : Fin 2) (t : Fin 15) (A : S2x1920.Idx → α) : S1x128.Idx → α := fun k => A ((lane b t).emb k)

theorem mem_tile3 {b : Fin 2} {t : Fin 15} {i : S2x16x1920.Idx} : i ∈ (tile3 b t).set ↔ (i 0).val = b.val ∧ (i 2).val / 128 = t.val := by
  rw [Rect.mem_set_unit]
  have h1 : (i 1).val < 16 := (i 1).isLt
  constructor
  · intro h
    have a0 : b.val ≤ (i 0).val ∧ (i 0).val < b.val + 1 := h 0
    have a2 : 128 * t.val ≤ (i 2).val ∧ (i 2).val < 128 * t.val + 128 := h 2
    omega
  · rintro ⟨a0, a2⟩ a
    match a with
    | ⟨0, _⟩ => exact (show b.val ≤ (i 0).val ∧ (i 0).val < b.val + 1 by omega)
    | ⟨1, _⟩ => exact (show 0 ≤ (i 1).val ∧ (i 1).val < 0 + 16 by omega)
    | ⟨2, _⟩ => exact (show 128 * t.val ≤ (i 2).val ∧ (i 2).val < 128 * t.val + 128 by omega)

theorem put3_emb {α : Type} (b : Fin 2) (t : Fin 15) (w : S16x128.Idx → α) (A : S2x16x1920.Idx → α) (k : S1x16x128.Idx) :
    put3 b t w A ((tile3 b t).emb k) = shapeCast S1x16x128 w shapeCasts_S16x128_S1x16x128 k := by
  have h0 : (k 0).val < 1 := (k 0).isLt
  have h2 : (k 2).val < 128 := (k 2).isLt
  have e0 : (((tile3 b t).emb k) 0).val = b.val + 1 * (k 0).val := rfl
  have e1 : (((tile3 b t).emb k) 1).val = 0 + 1 * (k 1).val := rfl
  have e2 : (((tile3 b t).emb k) 2).val = 128 * t.val + 1 * (k 2).val := rfl
  unfold put3
  rw [if_pos (by omega), eq_ix3 k]
  refine Eq.trans ?_ (shapeCast_ab_1ab_apply (a := 16) (b := 128) w shapeCasts_S16x128_S1x16x128 (k 0) (k 1) (k 2)).symm
  congr 1
  funext a
  match a with
  | ⟨0, _⟩ => exact Fin.ext (show 0 + 1 * (k 1).val = (k 1).val by omega)
  | ⟨1, _⟩ => exact Fin.ext (show (128 * t.val + 1 * (k 2).val) % 128 = (k 2).val by omega)

theorem put3_off {α : Type} (b : Fin 2) (t : Fin 15) (w : S16x128.Idx → α) (A : S2x16x1920.Idx → α) (i : S2x16x1920.Idx) (h : i ∉ (tile3 b t).set) :
    put3 b t w A i = A i := by unfold put3; rw [if_neg (fun h' => h (mem_tile3.mpr h'))]

/-! ## Loads and stores -/

theorem ldX_wp {off : Fin 2 → Nat} {inb : ∀ a, off a + S32x128.size a ≤ S18432x1920.size a} {lo hi : Nat} (h : lo ≤ off 0 ∧ off 0 + 32 ≤ hi) {X : CX F}
    {Q : Vec F S32x128 .fp8e4m3 → sProp 𝕄} :
    iprop((xV.view.loc (c : Thread nD τ) ↦[rows lo hi]{fullShare} X) ∗ ((xV.view.loc (c : Thread nD τ) ↦[rows lo hi]{fullShare} X) -∗ Q (getX off inb X)))
      ⊢ WP c (ldX off inb) Q :=
  ld_wp (m := xV) (r := rx off inb) (S := rows lo hi) (f := X) (by
    rw [show (xV.access (rx off inb)).set = (rx off inb).set from View.set_slice_whole _ _]
    exact fun i hi' => mem_rows.mpr (by have := mem_rx.mp hi'; omega))

theorem stX_wp {off : Fin 2 → Nat} {inb : ∀ a, off a + S32x128.size a ≤ S18432x1920.size a} {pk} {w : FVec F S32x128 .fp8e4m3}
    {lo hi : Nat} (h : lo ≤ off 0 ∧ off 0 + 32 ≤ hi) {X : CX F} {Q : PUnit → sProp 𝕄} :
    iprop((xV.view.loc (c : Thread nD τ) ↦[rows lo hi]{fullShare} X) ∗ ((xV.view.loc (c : Thread nD τ) ↦[rows lo hi]{fullShare} (putX off w X)) -∗ Q ⟨⟩))
      ⊢ WP c (stX off inb pk w) Q :=
  st_wp (m := xV) (r := rx off inb) (S := rows lo hi) (f := X) (putX off w X) (by
    rw [show (xV.access (rx off inb)).set = (rx off inb).set from View.set_slice_whole _ _]
    exact fun i hi' => mem_rows.mpr (by have := mem_rx.mp hi'; omega))
    (fun i _ => write_whole (b := cc0_scratch0) (fun k => by rw [shapeCast_self]; exact putX_emb off inb w X k) (fun i hi => putX_off off inb w X i hi) i)

/-! ## One lemma for each buffer -/

theorem ld3_s1V {b : Fin 2} {t : Fin 15} {A : C3 F} {Q : Vec F S1x16x128 .f32 → sProp 𝕄} :
    iprop((s1V.view.loc (c : Thread nD τ) ↦{fullShare} A) ∗ ((s1V.view.loc (c : Thread nD τ) ↦{fullShare} A) -∗ Q (get3 b t A))) ⊢ WP c (ld3 s1V b t) Q :=
  ld_wp (m := s1V) (r := tile3 b t) (S := Finset.univ) (f := A) (Finset.subset_univ _)
theorem st3_s1V {b : Fin 2} {t : Fin 15} {w : FVec F S16x128 .f32} {A : C3 F} {Q : PUnit → sProp 𝕄} :
    iprop((s1V.view.loc (c : Thread nD τ) ↦{fullShare} A) ∗ ((s1V.view.loc (c : Thread nD τ) ↦{fullShare} (put3 b t w A)) -∗ Q ⟨⟩)) ⊢ WP c (st3 s1V b t w) Q :=
  st_wp (m := s1V) (r := tile3 b t) (S := Finset.univ) (f := A) (put3 b t w A) (Finset.subset_univ _)
    (fun i _ => write_whole (b := cc0_scratch1) (fun k => put3_emb b t w A k) (fun i hi => put3_off b t w A i hi) i)

theorem ld3_s2V {b : Fin 2} {t : Fin 15} {A : C3 F} {Q : Vec F S1x16x128 .f32 → sProp 𝕄} :
    iprop((s2V.view.loc (c : Thread nD τ) ↦{fullShare} A) ∗ ((s2V.view.loc (c : Thread nD τ) ↦{fullShare} A) -∗ Q (get3 b t A))) ⊢ WP c (ld3 s2V b t) Q :=
  ld_wp (m := s2V) (r := tile3 b t) (S := Finset.univ) (f := A) (Finset.subset_univ _)
theorem st3_s2V {b : Fin 2} {t : Fin 15} {w : FVec F S16x128 .f32} {A : C3 F} {Q : PUnit → sProp 𝕄} :
    iprop((s2V.view.loc (c : Thread nD τ) ↦{fullShare} A) ∗ ((s2V.view.loc (c : Thread nD τ) ↦{fullShare} (put3 b t w A)) -∗ Q ⟨⟩)) ⊢ WP c (st3 s2V b t w) Q :=
  st_wp (m := s2V) (r := tile3 b t) (S := Finset.univ) (f := A) (put3 b t w A) (Finset.subset_univ _)
    (fun i _ => write_whole (b := cc0_scratch2) (fun k => put3_emb b t w A k) (fun i hi => put3_off b t w A i hi) i)

theorem ldT_wp {b : Fin 2} {t : Fin 15} {A : C3B F} {Q : Vec F S1x16x128 .bf16 → sProp 𝕄} :
    iprop((topV.view.loc (c : Thread nD τ) ↦{fullShare} A) ∗ ((topV.view.loc (c : Thread nD τ) ↦{fullShare} A) -∗ Q (get3 b t A))) ⊢ WP c (ldT b t) Q :=
  ld_wp (m := topV) (r := tile3 b t) (S := Finset.univ) (f := A) (Finset.subset_univ _)
theorem stT_wp {b : Fin 2} {t : Fin 15} {w : FVec F S16x128 .bf16} {A : C3B F} {Q : PUnit → sProp 𝕄} :
    iprop((topV.view.loc (c : Thread nD τ) ↦{fullShare} A) ∗ ((topV.view.loc (c : Thread nD τ) ↦{fullShare} (put3 b t w A)) -∗ Q ⟨⟩)) ⊢ WP c (stT b t w) Q :=
  st_wp (m := topV) (r := tile3 b t) (S := Finset.univ) (f := A) (put3 b t w A) (Finset.subset_univ _)
    (fun i _ => write_whole (b := cc0_scratch3) (fun k => put3_emb b t w A k) (fun i hi => put3_off b t w A i hi) i)

theorem ldL_meanV {b : Fin 2} {t : Fin 15} {A : FVec F S2x1920 .f32} {Q : Vec F S1x128 .f32 → sProp 𝕄} :
    iprop((meanV.view.loc (c : Thread nD τ) ↦{fullShare} A) ∗ ((meanV.view.loc (c : Thread nD τ) ↦{fullShare} A) -∗ Q (getL b t A))) ⊢ WP c (ldL meanV b t) Q :=
  ld_wp (m := meanV) (r := lane b t) (S := Finset.univ) (f := A) (Finset.subset_univ _)

theorem ldL_gainV {b : Fin 2} {t : Fin 15} {A : FVec F S2x1920 .f32} {Q : Vec F S1x128 .f32 → sProp 𝕄} :
    iprop((gainV.view.loc (c : Thread nD τ) ↦{fullShare} A) ∗ ((gainV.view.loc (c : Thread nD τ) ↦{fullShare} A) -∗ Q (getL b t A))) ⊢ WP c (ldL gainV b t) Q :=
  ld_wp (m := gainV) (r := lane b t) (S := Finset.univ) (f := A) (Finset.subset_univ _)

theorem ldL_biasV {b : Fin 2} {t : Fin 15} {A : FVec F S2x1920 .f32} {Q : Vec F S1x128 .f32 → sProp 𝕄} :
    iprop((biasV.view.loc (c : Thread nD τ) ↦{fullShare} A) ∗ ((biasV.view.loc (c : Thread nD τ) ↦{fullShare} A) -∗ Q (getL b t A))) ⊢ WP c (ldL biasV b t) Q :=
  ld_wp (m := biasV) (r := lane b t) (S := Finset.univ) (f := A) (Finset.subset_univ _)

/-- A rectangle that starts at zero and has the array's own extents reads the whole array. -/
theorem emb_unit_zero {s : Shape} {off : Fin s.rank → Nat} {inb : ∀ a, off a + s.size a ≤ s.size a} (h : ∀ a, off a = 0) (k : s.Idx) :
    (Rect.unit (s := s) off s.size inb).emb k = k := by
  funext a
  exact Fin.ext (show off a + 1 * (k a).val = (k a).val by rw [h a]; omega)
theorem mem_unit_zero {s : Shape} {off : Fin s.rank → Nat} {inb : ∀ a, off a + s.size a ≤ s.size a} (h : ∀ a, off a = 0) (i : s.Idx) :
    i ∈ (Rect.unit (s := s) off s.size inb).set := by
  rw [Rect.mem_set_unit]; intro a; rw [h a]; exact ⟨Nat.zero_le _, by rw [Nat.zero_add]; exact (i a).isLt⟩
theorem zero3d : ∀ a : Fin 3, (![0, 0, 0] : Fin 3 → Nat) a = 0 := by decide
theorem zero2d : ∀ a : Fin 2, (![0, 0] : Fin 2 → Nat) a = 0 := by decide

theorem ld_s1V {A : C3 F} {Q : C3 F → sProp 𝕄} :
    iprop((s1V.view.loc (c : Thread nD τ) ↦{fullShare} A) ∗ ((s1V.view.loc (c : Thread nD τ) ↦{fullShare} A) -∗ Q A)) ⊢ WP c (ldW3 s1V) Q := by
  have h := ld_wp (c := c) (m := s1V) (r := whole3) (hl := (View.loadsAt_vmem h_S2x16x1920)) (S := Finset.univ) (q := fullShare) (f := A) (Finset.subset_univ _) (Q := Q)
  rwa [show (s1V.access whole3).read (Elt F) A = A from funext fun k => congrArg A (emb_unit_zero zero3d k)] at h

theorem ld_s2V {A : C3 F} {Q : C3 F → sProp 𝕄} :
    iprop((s2V.view.loc (c : Thread nD τ) ↦{fullShare} A) ∗ ((s2V.view.loc (c : Thread nD τ) ↦{fullShare} A) -∗ Q A)) ⊢ WP c (ldW3 s2V) Q := by
  have h := ld_wp (c := c) (m := s2V) (r := whole3) (hl := (View.loadsAt_vmem h_S2x16x1920)) (S := Finset.univ) (q := fullShare) (f := A) (Finset.subset_univ _) (Q := Q)
  rwa [show (s2V.access whole3).read (Elt F) A = A from funext fun k => congrArg A (emb_unit_zero zero3d k)] at h

theorem ld_topV {A : C3B F} {Q : C3B F → sProp 𝕄} :
    iprop((topV.view.loc (c : Thread nD τ) ↦{fullShare} A) ∗ ((topV.view.loc (c : Thread nD τ) ↦{fullShare} A) -∗ Q A)) ⊢ WP c ((Prog.lift (.load topV whole3.toLoadRect (View.loadsAt_vmem h_S2x16x1920)) : PP F (Vec F S2x16x1920 .bf16))) Q := by
  have h := ld_wp (c := c) (m := topV) (r := whole3) (hl := (View.loadsAt_vmem h_S2x16x1920)) (S := Finset.univ) (q := fullShare) (f := A) (Finset.subset_univ _) (Q := Q)
  rwa [show (topV.access whole3).read (Elt F) A = A from funext fun k => congrArg A (emb_unit_zero zero3d k)] at h

theorem ld_meanV {A : FVec F S2x1920 .f32} {Q : FVec F S2x1920 .f32 → sProp 𝕄} :
    iprop((meanV.view.loc (c : Thread nD τ) ↦{fullShare} A) ∗ ((meanV.view.loc (c : Thread nD τ) ↦{fullShare} A) -∗ Q A)) ⊢ WP c (ldW2 meanV) Q := by
  have h := ld_wp (c := c) (m := meanV) (r := whole2) (hl := (View.loadsAt_vmem h_S2x1920)) (S := Finset.univ) (q := fullShare) (f := A) (Finset.subset_univ _) (Q := Q)
  rwa [show (meanV.access whole2).read (Elt F) A = A from funext fun k => congrArg A (emb_unit_zero zero2d k)] at h

theorem ld_gainV {A : FVec F S2x1920 .f32} {Q : FVec F S2x1920 .f32 → sProp 𝕄} :
    iprop((gainV.view.loc (c : Thread nD τ) ↦{fullShare} A) ∗ ((gainV.view.loc (c : Thread nD τ) ↦{fullShare} A) -∗ Q A)) ⊢ WP c (ldW2 gainV) Q := by
  have h := ld_wp (c := c) (m := gainV) (r := whole2) (hl := (View.loadsAt_vmem h_S2x1920)) (S := Finset.univ) (q := fullShare) (f := A) (Finset.subset_univ _) (Q := Q)
  rwa [show (gainV.access whole2).read (Elt F) A = A from funext fun k => congrArg A (emb_unit_zero zero2d k)] at h

theorem ld_biasV {A : FVec F S2x1920 .f32} {Q : FVec F S2x1920 .f32 → sProp 𝕄} :
    iprop((biasV.view.loc (c : Thread nD τ) ↦{fullShare} A) ∗ ((biasV.view.loc (c : Thread nD τ) ↦{fullShare} A) -∗ Q A)) ⊢ WP c (ldW2 biasV) Q := by
  have h := ld_wp (c := c) (m := biasV) (r := whole2) (hl := (View.loadsAt_vmem h_S2x1920)) (S := Finset.univ) (q := fullShare) (f := A) (Finset.subset_univ _) (Q := Q)
  rwa [show (biasV.access whole2).read (Elt F) A = A from funext fun k => congrArg A (emb_unit_zero zero2d k)] at h

theorem ld_devV {A : FVec F S2x32 .f32} {Q : FVec F S2x32 .f32 → sProp 𝕄} :
    iprop((devV.view.loc (c : Thread nD τ) ↦{fullShare} A) ∗ ((devV.view.loc (c : Thread nD τ) ↦{fullShare} A) -∗ Q A)) ⊢ WP c (ldG devV) Q := by
  have h := ld_wp (c := c) (m := devV) (r := wholeG) (hl := (View.loadsAt_vmem h_S2x32)) (S := Finset.univ) (q := fullShare) (f := A) (Finset.subset_univ _) (Q := Q)
  rwa [show (devV.access wholeG).read (Elt F) A = A from funext fun k => congrArg A (emb_unit_zero zero2d k)] at h

theorem zero3_s1V {A : C3 F} {Q : PUnit → sProp 𝕄} :
    iprop((s1V.view.loc (c : Thread nD τ) ↦{fullShare} A) ∗ ((s1V.view.loc (c : Thread nD τ) ↦{fullShare} (broadcast S2x16x1920 (Scalar.ofBits .f32 0x00000000#32) : C3 F)) -∗ Q ⟨⟩)) ⊢ WP c (zero3 s1V) Q := by
  unfold zero3
  iintro ⟨H, HQ⟩
  iapply wp_seq
  iapply ld_s1V
  isplitl [H]; · iexact H
  iintro H
  iapply (st_wp (m := s1V) (r := whole3) (S := Finset.univ) (f := A) (broadcast S2x16x1920 (Scalar.ofBits .f32 0x00000000#32)) (Finset.subset_univ _)
    (fun i _ => write_whole (b := cc0_scratch1) (fun k => by rw [shapeCast_self]; exact congrArg _ (emb_unit_zero zero3d k)) (fun i hi => absurd (mem_unit_zero zero3d i) hi) i))
  isplitl [H]; · iexact H
  iexact HQ

theorem zero3_s2V {A : C3 F} {Q : PUnit → sProp 𝕄} :
    iprop((s2V.view.loc (c : Thread nD τ) ↦{fullShare} A) ∗ ((s2V.view.loc (c : Thread nD τ) ↦{fullShare} (broadcast S2x16x1920 (Scalar.ofBits .f32 0x00000000#32) : C3 F)) -∗ Q ⟨⟩)) ⊢ WP c (zero3 s2V) Q := by
  unfold zero3
  iintro ⟨H, HQ⟩
  iapply wp_seq
  iapply ld_s2V
  isplitl [H]; · iexact H
  iintro H
  iapply (st_wp (m := s2V) (r := whole3) (S := Finset.univ) (f := A) (broadcast S2x16x1920 (Scalar.ofBits .f32 0x00000000#32)) (Finset.subset_univ _)
    (fun i _ => write_whole (b := cc0_scratch2) (fun k => by rw [shapeCast_self]; exact congrArg _ (emb_unit_zero zero3d k)) (fun i hi => absurd (mem_unit_zero zero3d i) hi) i))
  isplitl [H]; · iexact H
  iexact HQ

theorem zeroTop_wp {A : C3B F} {Q : PUnit → sProp 𝕄} :
    iprop((topV.view.loc (c : Thread nD τ) ↦{fullShare} A) ∗ ((topV.view.loc (c : Thread nD τ) ↦{fullShare} (broadcast S2x16x1920 (Scalar.ofBits .bf16 0xFF80#16) : C3B F)) -∗ Q ⟨⟩)) ⊢ WP c (zeroTop) Q := by
  unfold zeroTop
  iintro ⟨H, HQ⟩
  iapply wp_seq
  iapply ld_topV
  isplitl [H]; · iexact H
  iintro H
  iapply (st_wp (m := topV) (r := whole3) (S := Finset.univ) (f := A) (broadcast S2x16x1920 (Scalar.ofBits .bf16 0xFF80#16)) (Finset.subset_univ _)
    (fun i _ => write_whole (b := cc0_scratch3) (fun k => by rw [shapeCast_self]; exact congrArg _ (emb_unit_zero zero3d k)) (fun i hi => absurd (mem_unit_zero zero3d i) hi) i))
  isplitl [H]; · iexact H
  iexact HQ

theorem set_meanV {w : FVec F S2x1920 .f32} {A : FVec F S2x1920 .f32} {Q : PUnit → sProp 𝕄} :
    iprop((meanV.view.loc (c : Thread nD τ) ↦{fullShare} A) ∗ ((meanV.view.loc (c : Thread nD τ) ↦{fullShare} (w : FVec F S2x1920 .f32)) -∗ Q ⟨⟩)) ⊢ WP c (set2 meanV w) Q := by
  unfold set2
  iintro ⟨H, HQ⟩
  iapply wp_seq
  iapply ld_meanV
  isplitl [H]; · iexact H
  iintro H
  iapply (st_wp (m := meanV) (r := whole2) (S := Finset.univ) (f := A) (w) (Finset.subset_univ _)
    (fun i _ => write_whole (b := cc0_scratch4) (fun k => by rw [shapeCast_self]; exact congrArg _ (emb_unit_zero zero2d k)) (fun i hi => absurd (mem_unit_zero zero2d i) hi) i))
  isplitl [H]; · iexact H
  iexact HQ

theorem set_gainV {w : FVec F S2x1920 .f32} {A : FVec F S2x1920 .f32} {Q : PUnit → sProp 𝕄} :
    iprop((gainV.view.loc (c : Thread nD τ) ↦{fullShare} A) ∗ ((gainV.view.loc (c : Thread nD τ) ↦{fullShare} (w : FVec F S2x1920 .f32)) -∗ Q ⟨⟩)) ⊢ WP c (set2 gainV w) Q := by
  unfold set2
  iintro ⟨H, HQ⟩
  iapply wp_seq
  iapply ld_gainV
  isplitl [H]; · iexact H
  iintro H
  iapply (st_wp (m := gainV) (r := whole2) (S := Finset.univ) (f := A) (w) (Finset.subset_univ _)
    (fun i _ => write_whole (b := cc0_scratch5) (fun k => by rw [shapeCast_self]; exact congrArg _ (emb_unit_zero zero2d k)) (fun i hi => absurd (mem_unit_zero zero2d i) hi) i))
  isplitl [H]; · iexact H
  iexact HQ

theorem set_biasV {w : FVec F S2x1920 .f32} {A : FVec F S2x1920 .f32} {Q : PUnit → sProp 𝕄} :
    iprop((biasV.view.loc (c : Thread nD τ) ↦{fullShare} A) ∗ ((biasV.view.loc (c : Thread nD τ) ↦{fullShare} (w : FVec F S2x1920 .f32)) -∗ Q ⟨⟩)) ⊢ WP c (set2 biasV w) Q := by
  unfold set2
  iintro ⟨H, HQ⟩
  iapply wp_seq
  iapply ld_biasV
  isplitl [H]; · iexact H
  iintro H
  iapply (st_wp (m := biasV) (r := whole2) (S := Finset.univ) (f := A) (w) (Finset.subset_univ _)
    (fun i _ => write_whole (b := cc0_scratch6) (fun k => by rw [shapeCast_self]; exact congrArg _ (emb_unit_zero zero2d k)) (fun i hi => absurd (mem_unit_zero zero2d i) hi) i))
  isplitl [H]; · iexact H
  iexact HQ

theorem set_devV {w : FVec F S2x32 .f32} {A : FVec F S2x32 .f32} {Q : PUnit → sProp 𝕄} :
    iprop((devV.view.loc (c : Thread nD τ) ↦{fullShare} A) ∗ ((devV.view.loc (c : Thread nD τ) ↦{fullShare} (w : FVec F S2x32 .f32)) -∗ Q ⟨⟩)) ⊢ WP c (setG devV w) Q := by
  unfold setG
  iintro ⟨H, HQ⟩
  iapply wp_seq
  iapply ld_devV
  isplitl [H]; · iexact H
  iintro H
  iapply (st_wp (m := devV) (r := wholeG) (S := Finset.univ) (f := A) (w) (Finset.subset_univ _)
    (fun i _ => write_whole (b := cc0_scratch7) (fun k => by rw [shapeCast_self]; exact congrArg _ (emb_unit_zero zero2d k)) (fun i hi => absurd (mem_unit_zero zero2d i) hi) i))
  isplitl [H]; · iexact H
  iexact HQ

end Cert.KernelIdeal.Hand
end
end
-- ==== Proof.Tiles.lean ====
/-
  The tiles' loops: what the buffers hold after them, as folds over the tiles in the order the kernel visits them.
-/
module
public import proofs.«01_k».proof.Proof.Run
@[expose] public section
set_option maxRecDepth 8192
noncomputable section
namespace Cert.KernelIdeal.Hand
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

theorem wp_weaken {α : Type} {p : PP F α} {Q Q' : α → sProp 𝕄} : iprop(WP c p Q ∗ (∀ a, Q a -∗ Q' a)) ⊢ WP c p Q' := wp_wand_r _ _ _

/-- A list of programs, by what holds after each. -/
theorem seqL_wp {α σ : Type} (f : α → PP F PUnit) (P : σ → sProp 𝕄) (step : σ → α → σ)
    (h : ∀ s a, P s ⊢ WP c (f a) (fun _ => P (step s a))) (l : List α) (s : σ) : P s ⊢ WP c (seqL f l) (fun _ => P (l.foldl step s)) := by
  induction l generalizing s with
  | nil => exact wp_done (c := c) (a := PUnit.unit) (Q := fun _ => P s)
  | cons a l ih =>
    refine (h s a).trans ?_
    refine .trans ?_ (wp_seq (p := f a) (k := fun _ => seqL f l))
    exact wp_mono _ _ _ fun _ => ih (step s a)

/-- The first `k` steps of a loop of `N` steps. -/
def loopTo {σ : Type} {N : Nat} (step : Fin N → σ → σ) (s : σ) : Nat → σ
  | 0 => s
  | k + 1 => if h : k < N then step ⟨k, h⟩ (loopTo step s k) else loopTo step s k

theorem loopTo_succ {σ : Type} {N : Nat} (step : Fin N → σ → σ) (s : σ) (k : Fin N) : loopTo step s (k.val + 1) = step k (loopTo step s k.val) := by
  rw [loopTo, dif_pos k.isLt]

/-- The three running buffers. -/
structure St (F : FTy → Type) where
  a1 : C3 F
  a2 : C3 F
  tp : C3B F

def stPt (c : Dev nD) (s : St F) : sProp 𝕄 :=
  iprop((s1V.view.loc (c : Thread nD τ) ↦{fullShare} s.a1) ∗ (s2V.view.loc (c : Thread nD τ) ↦{fullShare} s.a2) ∗ (topV.view.loc (c : Thread nD τ) ↦{fullShare} s.tp))
abbrev xPt (c : Dev nD) (lo hi : Nat) (X : CX F) : sProp 𝕄 := iprop(xV.view.loc (c : Thread nD τ) ↦[rows lo hi]{fullShare} X)

/-- The running vectors of a tile over a list of its blocks of rows. -/
def accF (sg : FVec F S1x128 .bf16) (off : Fin 8 → Fin 2 → Nat) (inb : ∀ r a, off r a + S32x128.size a ≤ S18432x1920.size a) (X : CX F) (l : List (Fin 8)) (a : Acc F) : Acc F :=
  l.foldl (fun a r => acc1 sg a (getX (off r) (inb r) X)) a

theorem accL_wp {sg : FVec F S1x128 .bf16} {off : Fin 8 → Fin 2 → Nat} {inb : ∀ r a, off r a + S32x128.size a ≤ S18432x1920.size a} {lo hi : Nat}
    (h : ∀ r, lo ≤ off r 0 ∧ off r 0 + 32 ≤ hi) {X : CX F} (l : List (Fin 8)) (a : Acc F) :
    xPt c lo hi X ⊢ WP c (accL sg off inb l a) (fun v => iprop(⌜v = accF sg off inb X l a⌝ ∗ xPt c lo hi X)) := by
  induction l generalizing a with
  | nil =>
    refine .trans ?_ wp_done
    iintro H
    isplitr
    · ipureintro; rfl
    · iexact H
  | cons r l ih =>
    unfold accL
    iintro H
    iapply wp_seq
    iapply ldX_wp (h r)
    isplitl [H]; · iexact H
    iintro H
    iapply ih; iexact H

def tileAcc (sg : FVec F S1x128 .bf16) (off : Fin 8 → Fin 2 → Nat) (inb : ∀ r a, off r a + S32x128.size a ≤ S18432x1920.size a) (X : CX F) : Acc F :=
  accF sg off inb X fin7 (acc0 sg (getX (off 0) (inb 0) X))

def statStep (gm : FVec F S1x1920 .f32) (b : Fin 2) (off : Fin 15 → Fin 8 → Fin 2 → Nat)
    (inb : ∀ t r a, off t r a + S32x128.size a ≤ S18432x1920.size a) (X : CX F) (s : St F) (t : Fin 15) : St F :=
  ⟨put3 b t (addf (up (get3 b t s.a1)) (tileAcc (signv gm t) (off t) (inb t) X).s1) s.a1,
   put3 b t (addf (up (get3 b t s.a2)) (tileAcc (signv gm t) (off t) (inb t) X).s2) s.a2,
   put3 b t (maximumf (upB (get3 b t s.tp)) (tileAcc (signv gm t) (off t) (inb t) X).tp) s.tp⟩

theorem statTile_wp {gm : FVec F S1x1920 .f32} {b : Fin 2} {off : Fin 15 → Fin 8 → Fin 2 → Nat}
    {inb : ∀ t r a, off t r a + S32x128.size a ≤ S18432x1920.size a} {lo hi : Nat} (h : ∀ t r, lo ≤ off t r 0 ∧ off t r 0 + 32 ≤ hi) {X : CX F} (s : St F) (t : Fin 15) :
    iprop(xPt c lo hi X ∗ stPt c s) ⊢ WP c (statTile gm b off inb t) (fun _ => iprop(xPt c lo hi X ∗ stPt c (statStep gm b off inb X s t))) := by
  unfold statTile stPt
  iintro ⟨HX, H1, H2, H3⟩
  iapply wp_seq; iapply ldX_wp (h t 0); isplitl [HX]; · iexact HX
  iintro HX
  iapply wp_seq
  iapply wp_weaken
  isplitl [HX]
  · iapply accL_wp (h t); iexact HX
  iintro %v ⟨%hv, HX⟩
  subst hv
  iapply wp_seq; iapply ld3_s1V; isplitl [H1]; · iexact H1
  iintro H1
  iapply wp_seq; iapply ld3_s1V; isplitl [H1]; · iexact H1
  iintro H1
  iapply wp_seq; iapply st3_s1V; isplitl [H1]; · iexact H1
  iintro H1
  iapply wp_seq; iapply ld3_s2V; isplitl [H2]; · iexact H2
  iintro H2
  iapply wp_seq; iapply ld3_s2V; isplitl [H2]; · iexact H2
  iintro H2
  iapply wp_seq; iapply st3_s2V; isplitl [H2]; · iexact H2
  iintro H2
  iapply wp_seq; iapply ldT_wp; isplitl [H3]; · iexact H3
  iintro H3
  iapply wp_seq; iapply ldT_wp; isplitl [H3]; · iexact H3
  iintro H3
  iapply stT_wp; isplitl [H3]; · iexact H3
  iintro H3
  isplitl [HX]; · iexact HX
  isplitl [H1]; · iexact H1
  isplitl [H2]; · iexact H2
  iexact H3

def statTiles (gm : FVec F S1x1920 .f32) (b : Fin 2) (off : Fin 15 → Fin 8 → Fin 2 → Nat)
    (inb : ∀ t r a, off t r a + S32x128.size a ≤ S18432x1920.size a) (X : CX F) (s : St F) : St F := fin15.foldl (statStep gm b off inb X) s

theorem statTiles_wp {gm : FVec F S1x1920 .f32} {b : Fin 2} {off : Fin 15 → Fin 8 → Fin 2 → Nat}
    {inb : ∀ t r a, off t r a + S32x128.size a ≤ S18432x1920.size a} {lo hi : Nat} (h : ∀ t r, lo ≤ off t r 0 ∧ off t r 0 + 32 ≤ hi) {X : CX F} (s : St F) :
    iprop(xPt c lo hi X ∗ stPt c s) ⊢ WP c (seqL (statTile gm b off inb) fin15) (fun _ => iprop(xPt c lo hi X ∗ stPt c (statTiles gm b off inb X s))) :=
  seqL_wp _ (fun s => iprop(xPt c lo hi X ∗ stPt c s)) (statStep gm b off inb X) (fun s t => statTile_wp h s t) fin15 s

/-! ## The squared deviations -/

def devStep (b : Fin 2) (off : Fin 15 → Fin 2 → Nat) (inb : ∀ t a, off t a + S32x128.size a ≤ S18432x1920.size a) (X : CX F) (m : FVec F S2x1920 .f32)
    (A : C3 F) (t : Fin 15) : C3 F := put3 b t (devSum (getL b t m) (getX (off t) (inb t) X) (get3 b t A)) A
def devTiles (b : Fin 2) (off : Fin 15 → Fin 2 → Nat) (inb : ∀ t a, off t a + S32x128.size a ≤ S18432x1920.size a) (X : CX F) (m : FVec F S2x1920 .f32)
    (A : C3 F) : C3 F := fin15.foldl (devStep b off inb X m) A
abbrev mPt (c : Dev nD) (m : FVec F S2x1920 .f32) : sProp 𝕄 := iprop(meanV.view.loc (c : Thread nD τ) ↦{fullShare} m)
abbrev gPt (c : Dev nD) (m : FVec F S2x1920 .f32) : sProp 𝕄 := iprop(gainV.view.loc (c : Thread nD τ) ↦{fullShare} m)
abbrev hPt (c : Dev nD) (m : FVec F S2x1920 .f32) : sProp 𝕄 := iprop(biasV.view.loc (c : Thread nD τ) ↦{fullShare} m)
abbrev dPt (c : Dev nD) (m : FVec F S2x32 .f32) : sProp 𝕄 := iprop(devV.view.loc (c : Thread nD τ) ↦{fullShare} m)
abbrev s1Pt (c : Dev nD) (A : C3 F) : sProp 𝕄 := iprop(s1V.view.loc (c : Thread nD τ) ↦{fullShare} A)
abbrev s2Pt (c : Dev nD) (A : C3 F) : sProp 𝕄 := iprop(s2V.view.loc (c : Thread nD τ) ↦{fullShare} A)

theorem devTiles_wp {b : Fin 2} {off : Fin 15 → Fin 2 → Nat} {inb : ∀ t a, off t a + S32x128.size a ≤ S18432x1920.size a} {lo hi : Nat}
    (h : ∀ t, lo ≤ off t 0 ∧ off t 0 + 32 ≤ hi) {X : CX F} {m : FVec F S2x1920 .f32} (A : C3 F) :
    iprop(s2Pt c A ∗ xPt c lo hi X ∗ mPt c m) ⊢ WP c (seqL (devTile b off inb) fin15) (fun _ => iprop(s2Pt c (devTiles b off inb X m A) ∗ xPt c lo hi X ∗ mPt c m)) := by
  refine seqL_wp _ (fun A => iprop(s2Pt c A ∗ xPt c lo hi X ∗ mPt c m)) (devStep b off inb X m) (fun A t => ?_) fin15 A
  unfold devTile
  iintro ⟨H2, HX, HM⟩
  iapply wp_seq; iapply ldX_wp (h t); isplitl [HX]; · iexact HX
  iintro HX
  iapply wp_seq; iapply ldL_meanV; isplitl [HM]; · iexact HM
  iintro HM
  iapply wp_seq; iapply ld3_s2V; isplitl [H2]; · iexact H2
  iintro H2
  iapply wp_seq; iapply ld3_s2V; isplitl [H2]; · iexact H2
  iintro H2
  iapply st3_s2V; isplitl [H2]; · iexact H2
  iintro H2
  isplitl [H2]; · iexact H2
  isplitl [HX]; · iexact HX
  iexact HM

/-! ## The exact maximum -/

def maxStep (bt : FVec F S1x1920 .f32) (b : Fin 2) (off : Fin 15 → Fin 2 → Nat) (inb : ∀ t a, off t a + S32x128.size a ≤ S18432x1920.size a) (X : CX F) (m g : FVec F S2x1920 .f32)
    (A : C3 F) (t : Fin 15) : C3 F := put3 b t (absMax (getL b t m) (getL b t g) bt t (getX (off t) (inb t) X) (get3 b t A)) A
def maxTiles (bt : FVec F S1x1920 .f32) (b : Fin 2) (off : Fin 15 → Fin 2 → Nat) (inb : ∀ t a, off t a + S32x128.size a ≤ S18432x1920.size a) (X : CX F) (m g : FVec F S2x1920 .f32)
    (A : C3 F) : C3 F := fin15.foldl (maxStep bt b off inb X m g) A

theorem maxTiles_wp {bt : FVec F S1x1920 .f32} {b : Fin 2} {off : Fin 15 → Fin 2 → Nat} {inb : ∀ t a, off t a + S32x128.size a ≤ S18432x1920.size a} {lo hi : Nat}
    (h : ∀ t, lo ≤ off t 0 ∧ off t 0 + 32 ≤ hi) {X : CX F} {m g : FVec F S2x1920 .f32} (A : C3 F) :
    iprop(s1Pt c A ∗ xPt c lo hi X ∗ mPt c m ∗ gPt c g) ⊢ WP c (seqL (maxTile bt b off inb) fin15)
      (fun _ => iprop(s1Pt c (maxTiles bt b off inb X m g A) ∗ xPt c lo hi X ∗ mPt c m ∗ gPt c g)) := by
  refine seqL_wp _ (fun A => iprop(s1Pt c A ∗ xPt c lo hi X ∗ mPt c m ∗ gPt c g)) (maxStep bt b off inb X m g) (fun A t => ?_) fin15 A
  unfold maxTile
  iintro ⟨H2, HX, HM, HG⟩
  iapply wp_seq; iapply ldX_wp (h t); isplitl [HX]; · iexact HX
  iintro HX
  iapply wp_seq; iapply ldL_meanV; isplitl [HM]; · iexact HM
  iintro HM
  iapply wp_seq; iapply ldL_gainV; isplitl [HG]; · iexact HG
  iintro HG
  iapply wp_seq; iapply ld3_s1V; isplitl [H2]; · iexact H2
  iintro H2
  iapply wp_seq; iapply ld3_s1V; isplitl [H2]; · iexact H2
  iintro H2
  iapply st3_s1V; isplitl [H2]; · iexact H2
  iintro H2
  isplitl [H2]; · iexact H2
  isplitl [HX]; · iexact HX
  isplitl [HM]; · iexact HM
  iexact HG

/-! ## The quantised tiles -/

def quantStep (g h : Vec F S1x128 .f32) (inv : F .f32) (off : Fin 8 → Fin 2 → Nat) (inb : ∀ r a, off r a + S32x128.size a ≤ S18432x1920.size a) (X : CX F) (r : Fin 8) : CX F :=
  putX (off r) (quantv g h inv (getX (off r) (inb r) X)) X
def quantLane (inv : F .f32) (b : Fin 2) (off : Fin 15 → Fin 8 → Fin 2 → Nat) (inb : ∀ t r a, off t r a + S32x128.size a ≤ S18432x1920.size a) (g h : FVec F S2x1920 .f32)
    (X : CX F) (t : Fin 15) : CX F := fin8.foldl (quantStep (getL b t g) (getL b t h) inv (off t) (inb t)) X
def quantAll (inv : F .f32) (b : Fin 2) (off : Fin 15 → Fin 8 → Fin 2 → Nat) (inb : ∀ t r a, off t r a + S32x128.size a ≤ S18432x1920.size a) (g h : FVec F S2x1920 .f32)
    (X : CX F) : CX F := fin15.foldl (quantLane inv b off inb g h) X

theorem quantLane_wp {g h : Vec F S1x128 .f32} {inv : F .f32} {off : Fin 8 → Fin 2 → Nat} {inb : ∀ r a, off r a + S32x128.size a ≤ S18432x1920.size a} {pk : ∀ r, (rx (off r) (inb r)).PackedRows (EltTy.packing .fp8e4m3)} {lo hi : Nat}
    (hr : ∀ r, lo ≤ off r 0 ∧ off r 0 + 32 ≤ hi) (X : CX F) :
    xPt c lo hi X ⊢ WP c (seqL (fun r => quantTile (off r) (inb r) (pk r) g h inv) fin8) (fun _ => xPt c lo hi (fin8.foldl (quantStep g h inv off inb) X)) := by
  refine seqL_wp _ (fun X => xPt c lo hi X) (quantStep g h inv off inb) (fun X r => ?_) fin8 X
  unfold quantTile
  iintro HX
  iapply wp_seq; iapply ldX_wp (hr r); isplitl [HX]; · iexact HX
  iintro HX
  iapply wp_seq; iapply ldX_wp (hr r); isplitl [HX]; · iexact HX
  iintro HX
  iapply stX_wp (hr r); isplitl [HX]; · iexact HX
  iintro HX; iexact HX

theorem quantTiles_wp {inv : F .f32} {b : Fin 2} {off : Fin 15 → Fin 8 → Fin 2 → Nat} {inb : ∀ t r a, off t r a + S32x128.size a ≤ S18432x1920.size a} {pk} {lo hi : Nat}
    (hr : ∀ t r, lo ≤ off t r 0 ∧ off t r 0 + 32 ≤ hi) {g h : FVec F S2x1920 .f32} (X : CX F) :
    iprop(xPt c lo hi X ∗ gPt c g ∗ hPt c h) ⊢ WP c (quantTiles inv b off inb pk)
      (fun _ => iprop(xPt c lo hi (quantAll inv b off inb g h X) ∗ gPt c g ∗ hPt c h)) := by
  refine seqL_wp _ (fun X => iprop(xPt c lo hi X ∗ gPt c g ∗ hPt c h)) (quantLane inv b off inb g h) (fun X t => ?_) fin15 X
  iintro ⟨HX, HG, HH⟩
  iapply wp_seq; iapply ldL_gainV; isplitl [HG]; · iexact HG
  iintro HG
  iapply wp_seq; iapply ldL_biasV; isplitl [HH]; · iexact HH
  iintro HH
  iapply wp_weaken
  isplitl [HX]
  · iapply quantLane_wp (hr t); iexact HX
  iintro %_ HX
  isplitl [HX]; · iexact HX
  isplitl [HG]; · iexact HG
  iexact HH

def illStep (bt : FVec F S1x1920 .f32) (inv : F .f32) (b : Fin 2) (off : Fin 15 → Fin 2 → Nat) (inb : ∀ t a, off t a + S32x128.size a ≤ S18432x1920.size a) (m g : FVec F S2x1920 .f32)
    (X : CX F) (t : Fin 15) : CX F := putX (off t) (clipv inv (normv (getL b t m) (getL b t g) bt t (getX (off t) (inb t) X))) X
def illTiles (bt : FVec F S1x1920 .f32) (inv : F .f32) (b : Fin 2) (off : Fin 15 → Fin 2 → Nat) (inb : ∀ t a, off t a + S32x128.size a ≤ S18432x1920.size a) (m g : FVec F S2x1920 .f32)
    (X : CX F) : CX F := fin15.foldl (illStep bt inv b off inb m g) X

theorem illTiles_wp {bt : FVec F S1x1920 .f32} {inv : F .f32} {b : Fin 2} {off : Fin 15 → Fin 2 → Nat} {inb : ∀ t a, off t a + S32x128.size a ≤ S18432x1920.size a} {pk} {lo hi : Nat}
    (hr : ∀ t, lo ≤ off t 0 ∧ off t 0 + 32 ≤ hi) {m g : FVec F S2x1920 .f32} (X : CX F) :
    iprop(xPt c lo hi X ∗ mPt c m ∗ gPt c g) ⊢ WP c (seqL (illTile bt inv b off inb pk) fin15)
      (fun _ => iprop(xPt c lo hi (illTiles bt inv b off inb m g X) ∗ mPt c m ∗ gPt c g)) := by
  refine seqL_wp _ (fun X => iprop(xPt c lo hi X ∗ mPt c m ∗ gPt c g)) (illStep bt inv b off inb m g) (fun X t => ?_) fin15 X
  unfold illTile
  iintro ⟨HX, HM, HG⟩
  iapply wp_seq; iapply ldX_wp (hr t); isplitl [HX]; · iexact HX
  iintro HX
  iapply wp_seq; iapply ldL_meanV; isplitl [HM]; · iexact HM
  iintro HM
  iapply wp_seq; iapply ldL_gainV; isplitl [HG]; · iexact HG
  iintro HG
  iapply wp_seq; iapply ldX_wp (hr t); isplitl [HX]; · iexact HX
  iintro HX
  iapply stX_wp (hr t); isplitl [HX]; · iexact HX
  iintro HX
  isplitl [HX]; · iexact HX
  isplitl [HM]; · iexact HM
  iexact HG

end Cert.KernelIdeal.Hand
end
end
-- ==== Proof.Dma.lean ====
/-
  The copies in and out: the chunks of rows, their semaphores, what a copy leaves.
-/
module
public import proofs.«01_k».proof.Proof.Tiles
@[expose] public section
set_option maxRecDepth 8192
noncomputable section
namespace Cert.KernelIdeal.Hand
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-! ## Chunks of rows -/

theorem chunk_set {off : Fin 2 → Nat} {inb : ∀ a, off a + S256x1920.size a ≤ S18432x1920.size a} {J : Nat} (h : off = ![256 * J, 0]) :
    (rchunk off inb).set = rows (256 * J) (256 * (J + 1)) := by
  subst h
  ext i
  rw [Rect.mem_set_unit, mem_rows]
  have h1 : (i 1).val < 1920 := (i 1).isLt
  constructor
  · intro h
    have a0 : 256 * J ≤ (i 0).val ∧ (i 0).val < 256 * J + 256 := h 0
    omega
  · rintro ⟨a0, a2⟩ a
    match a with
    | ⟨0, _⟩ => show 256 * J ≤ (i 0).val ∧ (i 0).val < 256 * J + 256; omega
    | ⟨1, _⟩ => show 0 ≤ (i 1).val ∧ (i 1).val < 0 + 1920; omega

theorem rows_union {a b d : Nat} (h : a ≤ b) (h' : b ≤ d) : rows a b ∪ rows b d = rows a d := by
  ext i; rw [Finset.mem_union, mem_rows, mem_rows, mem_rows]; omega
theorem rows_disjoint {a b d : Nat} : Disjoint (rows a b) (rows b d) := by
  rw [Finset.disjoint_left]; intro i h h'; rw [mem_rows] at h h'; omega
theorem rows_all : rows 0 18432 = Finset.univ := by
  ext i; rw [mem_rows]; have : (i 0).val < 18432 := (i 0).isLt; simp [this]
theorem rows_empty {a : Nat} : rows a a = ∅ := by
  ext i; rw [mem_rows]; simp

abbrev xmPt (c : Dev nD) (lo hi : Nat) (X : CX F) : sProp 𝕄 := iprop(xM.view.loc (c : Thread nD τ) ↦[rows lo hi]{fullShare} X)
abbrev ymPt (c : Dev nD) (lo hi : Nat) (X : CX F) : sProp 𝕄 := iprop(yM.view.loc (c : Thread nD τ) ↦[rows lo hi]{fullShare} X)

theorem xPt_split {a b d : Nat} (h : a ≤ b) (h' : b ≤ d) (X : CX F) : (xPt c a d X : sProp 𝕄) ⊣⊢ iprop(xPt c a b X ∗ xPt c b d X) := by
  show (xV.view.loc (c : Thread nD τ) ↦[rows a d]{fullShare} X) ⊣⊢ _
  rw [← rows_union h h']; exact pointsTo_union rows_disjoint
theorem xmPt_split {a b d : Nat} (h : a ≤ b) (h' : b ≤ d) (X : CX F) : (xmPt c a d X : sProp 𝕄) ⊣⊢ iprop(xmPt c a b X ∗ xmPt c b d X) := by
  show (xM.view.loc (c : Thread nD τ) ↦[rows a d]{fullShare} X) ⊣⊢ _
  rw [← rows_union h h']; exact pointsTo_union rows_disjoint
theorem ymPt_split {a b d : Nat} (h : a ≤ b) (h' : b ≤ d) (X : CX F) : (ymPt c a d X : sProp 𝕄) ⊣⊢ iprop(ymPt c a b X ∗ ymPt c b d X) := by
  show (yM.view.loc (c : Thread nD τ) ↦[rows a d]{fullShare} X) ⊣⊢ _
  rw [← rows_union h h']; exact pointsTo_union rows_disjoint
theorem xPt_congr {a b : Nat} {X Y : CX F} (h : ∀ i, a ≤ (i 0).val → (i 0).val < b → X i = Y i) : (xPt c a b X : sProp 𝕄) = xPt c a b Y :=
  pointsTo_congr fun i hi => h i (mem_rows.mp hi).1 (mem_rows.mp hi).2
theorem ymPt_congr {a b : Nat} {X Y : CX F} (h : ∀ i, a ≤ (i 0).val → (i 0).val < b → X i = Y i) : (ymPt c a b X : sProp 𝕄) = ymPt c a b Y :=
  pointsTo_congr fun i hi => h i (mem_rows.mp hi).1 (mem_rows.mp hi).2

/-! ## Semaphores -/

/-- The semaphore of the input's chunk `J`, and the one of the copies out. -/
def inSem (J : Nat) (h : J < 72) : DmaSem sig := ⟨4 + J, by show 4 + J < 77; omega⟩
def outSem : DmaSem sig := ⟨76, by show 76 < 77; omega⟩

theorem inSem_eq {off : Fin 1 → Nat} {inb : ∀ a, off a + S1.size a ≤ S72.size a} {J : Nat} (hJ : J < 72) (h : off = ![J]) :
    ((cc0_scratch8.slice (Rect.unit (s := S72) off S1.size inb)).squeeze S_ squeezes_S1_S_).sem = inSem J hJ := by
  subst h
  refine Fin.ext ?_
  show 4 + ((S72.rowMajor _ : Fin _) : Nat) = 4 + J
  congr 1
  rw [Shape.rowMajor_val_one]
  show J + 1 * (Shape.reshapeEquiv _ _ 0 : Fin _).val = J
  have h1 : ∀ (k : S1.Idx), J + 1 * (k 0).val = J := fun k => by have : (k 0).val < 1 := (k 0).isLt; omega
  exact h1 _

theorem outSem_eq : (cc0_scratch9.sem : DmaSem sig) = outSem := by
  refine Fin.ext ?_
  show 76 + ((S_.rowMajor _ : Fin _) : Nat) = 76
  exact congrArg (76 + ·) (Shape.rowMajorPi_zero _ _)

/-! ## What a copy leaves -/

abbrev xC (off : Fin 2 → Nat) (inb : ∀ a, off a + S256x1920.size a ≤ S18432x1920.size a) := xV.slice (rchunk off inb) (fun _ => rfl)
abbrev mC (off : Fin 2 → Nat) (inb : ∀ a, off a + S256x1920.size a ≤ S18432x1920.size a) := xM.slice (rchunk off inb) (fun _ => rfl)
abbrev yC (off : Fin 2 → Nat) (inb : ∀ a, off a + S256x1920.size a ≤ S18432x1920.size a) := yM.slice (rchunk off inb) (fun _ => rfl)

theorem landed_x {off : Fin 2 → Nat} {inb : ∀ a, off a + S256x1920.size a ≤ S18432x1920.size a} {f X : CX F} {i : S18432x1920.Idx} (hi : i ∈ (rchunk off inb).set) :
    (xC off inb).view.write (Elt F) f (ReadAs.same.apply ((mC off inb).view.read (Elt F) X)) Finset.univ i = X i := by
  rw [← Rect.map_emb_univ] at hi
  obtain ⟨k, -, rfl⟩ := Finset.mem_map.mp hi
  exact View.write_emb_of_mem (v := (xC off inb).view) f _ (Finset.mem_univ k)
theorem landed_y {off : Fin 2 → Nat} {inb : ∀ a, off a + S256x1920.size a ≤ S18432x1920.size a} {f X : CX F} {i : S18432x1920.Idx} (hi : i ∈ (rchunk off inb).set) :
    (yC off inb).view.write (Elt F) f (ReadAs.same.apply ((xC off inb).view.read (Elt F) X)) Finset.univ i = X i := by
  rw [← Rect.map_emb_univ] at hi
  obtain ⟨k, -, rfl⟩ := Finset.mem_map.mp hi
  exact View.write_emb_of_mem (v := (yC off inb).view) f _ (Finset.mem_univ k)

theorem xC_set {off : Fin 2 → Nat} {inb : ∀ a, off a + S256x1920.size a ≤ S18432x1920.size a} : (xC off inb).view.set = (rchunk off inb).set := View.set_slice_whole _ _
theorem mC_set {off : Fin 2 → Nat} {inb : ∀ a, off a + S256x1920.size a ≤ S18432x1920.size a} : (mC off inb).view.set = (rchunk off inb).set := View.set_slice_whole _ _
theorem yC_set {off : Fin 2 → Nat} {inb : ∀ a, off a + S256x1920.size a ≤ S18432x1920.size a} : (yC off inb).view.set = (rchunk off inb).set := View.set_slice_whole _ _

/-- What one copy moves, in the semaphore's units. -/
def chunkN : ℕ := (xC ![0, 0] (by intro a; match a with | ⟨0, _⟩ => (show 0 + 256 ≤ 18432; omega) | ⟨1, _⟩ => (show 0 + 1920 ≤ 1920; omega))).view.dmaCredit
theorem chunkN_pos : 0 < chunkN := by decide
theorem units_lt {k N : ℕ} (hN : 0 < N) (h : k < 71) : k * N + N < N * 72 := by
  rw [← Nat.succ_mul, Nat.mul_comm]; exact Nat.mul_lt_mul_of_pos_left (by omega) hN
theorem units_eq {k N : ℕ} (h : k = 71) : k * N + N = N * 72 := by rw [← Nat.succ_mul, Nat.mul_comm, h]

abbrev EC : UEmb Counters 𝕄 := countersEmb (U := Pipeline.UD sig nD τ)

/-- The copy of the input's chunk `J` in flight. -/
abbrev inFlight (c : Dev nD) (X : CX F) (J : Fin 72) : sProp 𝕄 :=
  Transfers.Flight EC (c : Thread nD τ) (.dma (inSem J.val J.isLt)) () chunkN
    iprop(xPt c (256 * J.val) (256 * (J.val + 1)) X ∗ xmPt c (256 * J.val) (256 * (J.val + 1)) X)

theorem inCopy_wp {i : Fin k0_t1_loop.trips} (hi : i.val < 72) {f X : CX F} {Q : PUnit → sProp 𝕄} :
    iprop(xmPt c (256 * i.val) (256 * (i.val + 1)) X ∗ xPt c (256 * i.val) (256 * (i.val + 1)) f ∗ semVal ((c : Thread nD τ), SemLoc.dma (inSem i.val hi)) 0
      ∗ (inFlight c X ⟨i.val, hi⟩ -∗ Q ⟨⟩)) ⊢ WP c (inCopy (F := F) i) Q := by
  have hset := chunk_set (inb := k0_off2_inb i) (k0_off2_eq i)
  have hsem := inSem_eq (inb := k0_off1_inb i) hi (k0_off1_eq i)
  have h := Transfers.wp_dmaLocal (EC (F := F)) (defs := defs₀ (F := F)) (Q := Q) Variants.none (c : Thread nD τ) none
    (src := mC (k0_off2 i) (k0_off2_inb i)) (dst := xC (k0_off2 i) (k0_off2_inb i)) (via := .same)
    (sm := .dma ((cc0_scratch8.slice (Rect.unit (s := S72) (k0_off1 i) S1.size (k0_off1_inb i))).squeeze S_ squeezes_S1_S_).sem)
    (hsrc := ((Memref.isWhole_whole _).wordExact_slice rfl _ (k0_off2_wordsfp8e4m3 i))) (hdst := ((Memref.isWhole_whole _).wordExact_slice rfl _ (k0_off2_wordsfp8e4m3 i)))
    (hsem := ⟨Or.inl rfl, trivial⟩) (k := fun _ => .ret ⟨⟩) (q := fullShare) (fs := X) (fd := f) (Sd := (xC (k0_off2 i) (k0_off2_inb i)).view.set) () chunkN rfl chunkN_pos subset_rfl
  have hx : ((xC (k0_off2 i) (k0_off2_inb i)).view.loc (c : Thread nD τ) ↦[(xC (k0_off2 i) (k0_off2_inb i)).view.set]{fullShare}
      (xC (k0_off2 i) (k0_off2_inb i)).view.write (Elt F) f (ReadAs.same.apply ((mC (k0_off2 i) (k0_off2_inb i)).view.read (Elt F) X)) Finset.univ : sProp 𝕄)
      = xPt c (256 * i.val) (256 * (i.val + 1)) X := by
    rw [pointsTo_congr (g := X) (fun j hj => landed_x (by rw [xC_set] at hj; exact hj)), xC_set, hset]
  have e1 : ((mC (k0_off2 i) (k0_off2_inb i)).view.loc (c : Thread nD τ) ↦[(mC (k0_off2 i) (k0_off2_inb i)).view.set]{fullShare} X : sProp 𝕄) = xmPt c (256 * i.val) (256 * (i.val + 1)) X := by
    rw [mC_set, hset]
  have e2 : ((xC (k0_off2 i) (k0_off2_inb i)).view.loc (c : Thread nD τ) ↦[(xC (k0_off2 i) (k0_off2_inb i)).view.set]{fullShare} f : sProp 𝕄) = xPt c (256 * i.val) (256 * (i.val + 1)) f := by
    rw [xC_set, hset]
  rw [hx, e1, e2] at h
  unfold inFlight
  rw [← hsem]
  unfold inCopy
  iintro ⟨HM, HX, HS, HQ⟩
  iapply h $$ [HM HX HS]
  · isplitl [HM]; · iexact HM
    isplitl [HX]; · iexact HX
    iexact HS
  iintro HF
  iapply wp_done
  iapply HQ; iexact HF

theorem inWait_wp {J : Nat} (hJ : J < 72) {offs : Fin 1 → Nat} {inbs : ∀ a, offs a + S1.size a ≤ S72.size a} {off : Fin 2 → Nat} {inb : ∀ a, off a + S256x1920.size a ≤ S18432x1920.size a}
    {ww : (rchunk off inb).WholeWords (EltTy.packing .fp8e4m3)} (hs : offs = ![J]) {X : CX F} {W : Waits sig Unit} {Q : PUnit → sProp 𝕄} :
    iprop(inFlight c X ⟨J, hJ⟩ ∗ owes (c : Thread nD τ) 0 W
      ∗ (iprop((xPt c (256 * J) (256 * (J + 1)) X ∗ xmPt c (256 * J) (256 * (J + 1)) X) ∗ semVal ((c : Thread nD τ), SemLoc.dma (inSem J hJ)) 0
          ∗ owes (c : Thread nD τ) 0 (insert (SemLoc.dma (inSem J hJ), ()) W)) -∗ Q ⟨⟩)) ⊢ WP c (inWait (F := F) offs inbs off inb ww) Q := by
  have hsem := inSem_eq (inb := inbs) hJ hs
  have h := Transfers.wp_waitLocal (EC (F := F)) (defs := defs₀ (F := F)) (Q := Q) Variants.none (c : Thread nD τ) none
    (sem := ((cc0_scratch8.slice (Rect.unit (s := S72) offs S1.size inbs)).squeeze S_ squeezes_S1_S_).sem) (srcw := mC off inb) (dstw := xC off inb)
    (hsrc := ((Memref.isWhole_whole _).wordExact_slice rfl _ ww)) (hdst := ((Memref.isWhole_whole _).wordExact_slice rfl _ ww))
    (k := fun _ => .ret ⟨⟩) () (N := chunkN) rfl
    (D := iprop(xPt c (256 * J) (256 * (J + 1)) X ∗ xmPt c (256 * J) (256 * (J + 1)) X)) (W := W)
  unfold inFlight
  rw [← hsem]
  unfold inWait
  iintro ⟨HF, HO, HQ⟩
  iapply h $$ [HF HO]
  · isplitl [HF]; · iexact HF
    iexact HO
  iintro H
  iapply wp_done
  iapply HQ; iexact H

/-! ## The copies out -/

/-- What the copies out deliver: each chunk of the result and of the copy in memory, both at `G`. -/
def outD (c : Dev nD) (G : CX F) (J : Fin 72) : sProp 𝕄 :=
  iprop(ymPt c (256 * J.val) (256 * (J.val + 1)) G ∗ xPt c (256 * J.val) (256 * (J.val + 1)) G)
instance outD_storable (G : CX F) (J : Fin 72) : Storable (upEmb : UEmb _ 𝕄) (outD c G J) := by unfold outD; infer_instance
abbrev outBatch (c : Dev nD) (G : CX F) (k u : ℕ) : sProp 𝕄 := Transfers.Batch EC (c : Thread nD τ) (SemLoc.dma cc0_scratch9.sem) () chunkN (outD c G) k u

theorem outCopy_wp {J : Nat} (hJ : J < 72) {off : Fin 2 → Nat} {inb : ∀ a, off a + S256x1920.size a ≤ S18432x1920.size a}
    {ww : (rchunk off inb).WholeWords (EltTy.packing .fp8e4m3)} (ho : off = ![256 * J, 0]) {X f G : CX F}
    (hG : ∀ i : S18432x1920.Idx, 256 * J ≤ (i 0).val → (i 0).val < 256 * (J + 1) → X i = G i) {Q : PUnit → sProp 𝕄} :
    iprop(outBatch c G J 0 ∗ xPt c (256 * J) (256 * (J + 1)) X ∗ ymPt c (256 * J) (256 * (J + 1)) f ∗ (outBatch c G (J + 1) 0 -∗ Q ⟨⟩))
      ⊢ WP c (outCopy (F := F) off inb ww) Q := by
  have hset := chunk_set (inb := inb) ho
  have e1 : ((xC off inb).view.loc (c : Thread nD τ) ↦[(xC off inb).view.set]{fullShare} X : sProp 𝕄) = xPt c (256 * J) (256 * (J + 1)) X := by
    rw [xC_set, hset]
  have e2 : ((yC off inb).view.loc (c : Thread nD τ) ↦[(yC off inb).view.set]{fullShare} f : sProp 𝕄) = ymPt c (256 * J) (256 * (J + 1)) f := by
    rw [yC_set, hset]
  have hx : ((yC off inb).view.loc (c : Thread nD τ) ↦[(yC off inb).view.set]{fullShare}
      (yC off inb).view.write (Elt F) f (ReadAs.same.apply ((xC off inb).view.read (Elt F) X)) Finset.univ : sProp 𝕄)
      = ymPt c (256 * J) (256 * (J + 1)) X := by
    rw [pointsTo_congr (g := X) (fun j hj => landed_y (by rw [yC_set] at hj; exact hj)), yC_set, hset]
  have h := Transfers.wp_dmaBatch (EC (F := F)) (defs := defs₀ (F := F)) (Q := Q) Variants.none (c : Thread nD τ) none
    (src := xC off inb) (dst := yC off inb) (via := .same) (sm := .dma cc0_scratch9.sem)
    (hsrc := ((Memref.isWhole_whole _).wordExact_slice rfl _ ww)) (hdst := ((Memref.isWhole_whole _).wordExact_slice rfl _ ww))
    (hsem := ⟨Or.inl rfl, trivial⟩) (k := fun _ => .ret ⟨⟩) (q := fullShare) (fs := X) (fd := f) (Sd := (yC off inb).view.set) (D := outD c G) (j := J) (u := 0)
    () chunkN rfl subset_rfl hJ (Nat.zero_le _) (by
      rw [hx, e1, xPt_congr hG, ymPt_congr hG]; exact .rfl)
  rw [e1, e2] at h
  unfold outCopy
  iintro ⟨HB, HX, HY, HQ⟩
  iapply h $$ [HB HX HY]
  · isplitl [HX]; · iexact HX
    isplitl [HY]; · iexact HY
    iexact HB
  iintro HF
  iapply wp_done
  iapply HQ; iexact HF

abbrev OW (c : Dev nD) : sProp 𝕄 := iprop(∃ W, owes (c : Thread nD τ) 0 W)

theorem outWait_wp {G : CX F} {i : Fin k0_t14_loop.trips} {u : ℕ} (hu : u + chunkN < chunkN * 72) :
    iprop(outBatch c G 72 u ∗ OW c) ⊢ WP c (outWait (F := F) i) (fun _ => iprop(outBatch c G 72 (u + chunkN) ∗ OW c)) := by
  have h := fun W : Waits sig Unit => Transfers.wp_waitBatch (EC (F := F)) (defs := defs₀ (F := F)) (Q := fun _ => iprop(outBatch c G 72 (u + chunkN) ∗ OW c)) Variants.none (c : Thread nD τ) none
    (sem := cc0_scratch9.sem) (srcw := xC (k0_off161 i) (k0_off161_inb i)) (dstw := yC (k0_off161 i) (k0_off161_inb i))
    (hsrc := ((Memref.isWhole_whole _).wordExact_slice rfl _ (k0_off161_wordsfp8e4m3 i))) (hdst := ((Memref.isWhole_whole _).wordExact_slice rfl _ (k0_off161_wordsfp8e4m3 i)))
    (k := fun _ => .ret (⟨⟩ : PUnit)) () (N := chunkN) rfl (D := outD c G) (u := u) hu (W := W)
  unfold outWait
  iintro ⟨HB, %W, HO⟩
  iapply h W $$ [HB HO]
  · isplitl [HB]; · iexact HB
    iexact HO
  iintro ⟨HB, HO⟩
  iapply wp_done
  isplitl [HB]; · iexact HB
  iexists _; iexact HO

theorem outLast_wp {G : CX F} {i : Fin k0_t14_loop.trips} {u : ℕ} (hu : u + chunkN = chunkN * 72) :
    iprop(outBatch c G 72 u ∗ OW c)
      ⊢ WP c (outWait (F := F) i) (fun _ => iprop(bigSep Finset.univ (outD c G) ∗ semVal ((c : Thread nD τ), SemLoc.dma cc0_scratch9.sem) 0 ∗ OW c)) := by
  have h := fun W : Waits sig Unit => Transfers.wp_waitBatchLast (EC (F := F)) (defs := defs₀ (F := F))
    (Q := fun _ => iprop(bigSep Finset.univ (outD c G) ∗ semVal ((c : Thread nD τ), SemLoc.dma cc0_scratch9.sem) 0 ∗ OW c)) Variants.none (c : Thread nD τ) none
    (sem := cc0_scratch9.sem) (srcw := xC (k0_off161 i) (k0_off161_inb i)) (dstw := yC (k0_off161 i) (k0_off161_inb i))
    (hsrc := ((Memref.isWhole_whole _).wordExact_slice rfl _ (k0_off161_wordsfp8e4m3 i))) (hdst := ((Memref.isWhole_whole _).wordExact_slice rfl _ (k0_off161_wordsfp8e4m3 i)))
    (k := fun _ => .ret (⟨⟩ : PUnit)) () (N := chunkN) rfl chunkN_pos (D := outD c G) (u := u) hu (W := W)
  unfold outWait
  iintro ⟨HB, %W, HO⟩
  iapply h W $$ [HB HO]
  · isplitl [HB]; · iexact HB
    iexact HO
  iintro ⟨HB, HS, HO⟩
  iapply wp_done
  isplitl [HB]; · iexact HB
  isplitl [HS]; · iexact HS
  iexists _; iexact HO

/-! ## The staged buffers -/

theorem ldO_wp {cs : CoreSpace} {s : Shape} {e : EltTy} {m : Memref sig .tc cs s e} {r : Rect s} {hl : m.view.LoadsAt r}
    {q : PosShare TreeShare} {d : s.Idx → Elt F e} {Q : (r.shape.Idx → Elt F e) → sProp 𝕄} :
    iprop(owns (c : Thread nD τ) m q d ∗ (owns (c : Thread nD τ) m q d -∗ Q (fun k => d (r.emb k)))) ⊢ WP c (Prog.lift (.load m r.toLoadRect hl)) Q := by
  unfold owns
  iintro ⟨⟨%f, %hf, H⟩, HQ⟩
  iapply (ld_wp (m := m) (r := r) (hl := hl) (View.set_slice_subset _ _))
  isplitl [H]; · iexact H
  iintro H
  rw [show (m.access r).read (Elt F) f = fun k => d (r.emb k) from by subst hf; rfl]
  iapply HQ
  iexists f
  isplitr
  · ipureintro; exact hf
  iexact H

theorem one_idx (a b : S1x1.Idx) : a = b := by
  funext k
  match k with
  | ⟨0, _⟩ => exact Fin.ext (by have h1 : (a 0).val < 1 := (a 0).isLt; have h2 : (b 0).val < 1 := (b 0).isLt; show (a 0).val = (b 0).val; omega)
  | ⟨1, _⟩ => exact Fin.ext (by have h1 : (a 1).val < 1 := (a 1).isLt; have h2 : (b 1).val < 1 := (b 1).isLt; show (a 1).val = (b 1).val; omega)

theorem ldS_wp {m : Memref sig .tc .smem S1x1 .f32} {q : PosShare TreeShare} {d : S1x1.Idx → Elt F .f32} {Q : Elt F .f32 → sProp 𝕄} :
    iprop(owns (c : Thread nD τ) m q d ∗ (owns (c : Thread nD τ) m q d -∗ Q (d (ix2 0 0)))) ⊢ WP c (smemLoad m wholeS numel1_S1x1 rfl : PP F (Elt F .f32)) Q := by
  unfold owns
  iintro ⟨⟨%f, %hf, H⟩, HQ⟩
  have h := wp_smemLoadElt (defs := defs₀ (F := F)) (m := m) (r := wholeS) (k := .ret) (q := q) (f := f) (Γ := PendingWaitsCtx.empty) (Q := Q)
    (hw := View.loads_smem_one rfl numel1_S1x1) (x := Shape.Idx.first (numel1_S1x1 ▸ Nat.one_pos)) (S := m.view.set)
    Variants.none (c : Thread nD τ) none Set.univ (View.set_slice_subset _ _)
  iapply h $$ H
  iintro H
  iapply wp_done
  rw [show ∀ x, (m.access wholeS).read (Elt F) f x = d (ix2 0 0) from fun x => by
    subst hf
    show m.view.read (Elt F) f (wholeS.emb x) = _
    exact congrArg _ (one_idx _ _)]
  iapply HQ
  iexists f
  isplitr
  · ipureintro; exact hf
  iexact H

theorem setS_wp {m : Memref sig .tc .smem S1x1 .f32} {d : S1x1.Idx → Elt F .f32} {w : F .f32} {Q : PUnit → sProp 𝕄} :
    iprop(owns (c : Thread nD τ) m fullShare d ∗ (owns (c : Thread nD τ) m fullShare (fun _ => w) -∗ Q ⟨⟩)) ⊢ WP c (setS m w) Q := by
  unfold setS
  iintro ⟨H, HQ⟩
  iapply wp_seq; iapply ldS_wp; isplitl [H]; · iexact H
  unfold owns
  iintro ⟨%f, %hf, H⟩
  iapply (st_wp (m := m) (r := wholeS) ((m.access wholeS).write (Elt F) f (fun _ => w) Finset.univ) (View.set_slice_subset _ _) (fun _ _ => rfl))
  isplitl [H]; · iexact H
  iintro H
  iapply HQ
  iexists _
  isplitr
  rotate_left
  · iexact H
  · ipureintro
    funext k
    show m.view.read (Elt F) ((m.access wholeS).write (Elt F) f (fun _ => w) Finset.univ) k = w
    rw [← emb_unit_zero (s := S1x1) (off := ![0, 0]) (inb := inb_S1x1_S1x1_0_0) zero2d k]
    exact congrFun (View.read_write_univ (v := m.access wholeS) f (fun _ => w)) k

/-- A loop, by an invariant. -/
theorem loop_wp {l : Scf.Loop 32} {hok : l.OK} {body : Fin l.trips → PUnit → PP F PUnit} (I : Nat → sProp 𝕄)
    (h : ∀ k : Fin l.trips, I k.val ⊢ WP c (body k ⟨⟩) (fun _ => I (k.val + 1))) : I 0 ⊢ WP c (Scf.Loop.for l hok ⟨⟩ body) (fun _ => I l.trips) := by
  refine .trans ?_ (Scf.wp_for frame (wpE (defs₀ (F := F)) Variants.none (c : Thread nD τ) none) Set.univ l.lb l.ub l.st hok ⟨⟩ body (fun k _ => I k) (fun k _ => h k))
  iintro H
  isplitl [H]; · iexact H
  iintro %_ H; iexact H

end Cert.KernelIdeal.Hand
end
end
-- ==== Proof.Loops.lean ====
/-
  The kernel's loops, each with what the buffers hold before and after.
-/
module
public import proofs.«01_k».proof.Proof.Dma
@[expose] public section
set_option maxRecDepth 8192
noncomputable section
namespace Cert.KernelIdeal.Hand
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-- A counted loop whose number of trips is known. -/
theorem loop_to {c : Dev nD} {l : Scf.Loop 32} {hok : l.OK} {body : Fin l.trips → PUnit → PP F PUnit} {N : Nat} (hN : l.trips = N) (I : Nat → sProp 𝕄)
    (h : ∀ k : Fin l.trips, I k.val ⊢ WP c (body k ⟨⟩) (fun _ => I (k.val + 1))) :
    I 0 ⊢ WP c (Scf.Loop.for l hok ⟨⟩ body) (fun _ => I N) := by
  subst hN; exact loop_wp I h

/-! ## What the buffers hold at each stage -/

abbrev zeroA : C3 F := broadcast S2x16x1920 (Scalar.ofBits .f32 0x00000000#32)
def St.init : St F := ⟨zeroA, zeroA, broadcast S2x16x1920 (Scalar.ofBits .bf16 0xFF80#16)⟩
def stats0 (gm : FVec F S1x1920 .f32) (X : CX F) : Nat → St F := loopTo (fun j s => statTiles gm 0 (off2 j) (off2_inb j) X s) St.init
def stats1 (gm : FVec F S1x1920 .f32) (X : CX F) : Nat → St F := loopTo (fun j s => statTiles gm 1 (off3 j) (off3_inb j) X s) (stats0 gm X 36)
def devs0 (X : CX F) (m : FVec F S2x1920 .f32) : Nat → C3 F := loopTo (fun j A => devTiles 0 (off4 j) (off4_inb j) X m A) zeroA
def devs1 (X : CX F) (m : FVec F S2x1920 .f32) : Nat → C3 F := loopTo (fun j A => devTiles 1 (off5 j) (off5_inb j) X m A) (devs0 X m 288)
def maxs0 (bt : FVec F S1x1920 .f32) (X : CX F) (m g : FVec F S2x1920 .f32) : Nat → C3 F := loopTo (fun j A => maxTiles bt 0 (off6 j) (off6_inb j) X m g A) zeroA
def maxs1 (bt : FVec F S1x1920 .f32) (X : CX F) (m g : FVec F S2x1920 .f32) : Nat → C3 F := loopTo (fun j A => maxTiles bt 1 (off7 j) (off7_inb j) X m g A) (maxs0 bt X m g 288)
def fast0 (inv : F .f32) (g h : FVec F S2x1920 .f32) (X : CX F) : Nat → CX F := loopTo (fun j X => quantAll inv 0 (off8 j) (off8_inb j) g h X) X
def fast1 (inv : F .f32) (g h : FVec F S2x1920 .f32) (X : CX F) : Nat → CX F := loopTo (fun j X => quantAll inv 1 (off9 j) (off9_inb j) g h X) (fast0 inv g h X 36)
def rowsIll0 (bt : FVec F S1x1920 .f32) (inv : F .f32) (m g : FVec F S2x1920 .f32) (j : Fin k0_t10_loop.trips) (X : CX F) : Nat → CX F :=
  loopTo (fun k X => illTiles bt inv 0 (off10 j k) (off10_inb j k) m g X) X
def rowsIll1 (bt : FVec F S1x1920 .f32) (inv : F .f32) (m g : FVec F S2x1920 .f32) (j : Fin k0_t12_loop.trips) (X : CX F) : Nat → CX F :=
  loopTo (fun k X => illTiles bt inv 1 (off12 j k) (off12_inb j k) m g X) X
def slow0 (bt : FVec F S1x1920 .f32) (inv : F .f32) (m g : FVec F S2x1920 .f32) (X : CX F) : Nat → CX F := loopTo (fun j X => rowsIll0 bt inv m g j X 8) X
def slow1 (bt : FVec F S1x1920 .f32) (inv : F .f32) (m g : FVec F S2x1920 .f32) (X : CX F) : Nat → CX F := loopTo (fun j X => rowsIll1 bt inv m g j X 8) (slow0 bt inv m g X 36)

theorem loopTo_zero {σ : Type} {N : Nat} (step : Fin N → σ → σ) (s : σ) : loopTo step s 0 = s := rfl
theorem stats1_zero (gm : FVec F S1x1920 .f32) (X : CX F) : stats1 gm X 0 = stats0 gm X 36 := by unfold stats1; exact loopTo_zero _ _
theorem devs1_zero (X : CX F) (m : FVec F S2x1920 .f32) : devs1 X m 0 = devs0 X m 288 := by unfold devs1; exact loopTo_zero _ _
theorem maxs1_zero (bt : FVec F S1x1920 .f32) (X : CX F) (m g : FVec F S2x1920 .f32) : maxs1 bt X m g 0 = maxs0 bt X m g 288 := by unfold maxs1; exact loopTo_zero _ _
theorem fast1_zero (inv : F .f32) (g h : FVec F S2x1920 .f32) (X : CX F) : fast1 inv g h X 0 = fast0 inv g h X 36 := by unfold fast1; exact loopTo_zero _ _
theorem slow1_zero (bt : FVec F S1x1920 .f32) (inv : F .f32) (m g : FVec F S2x1920 .f32) (X : CX F) : slow1 bt inv m g X 0 = slow0 bt inv m g X 36 := by unfold slow1; exact loopTo_zero _ _

/-- Every chunk of rows as the loops leave it when it is copied out. -/
def chunked (A B : Nat → CX F) : CX F := fun i => if (i 0).val / 256 < 36 then A ((i 0).val / 256 + 1) i else B ((i 0).val / 256 - 36 + 1) i

theorem chunked_lo {A B : Nat → CX F} {J : Nat} (hJ : J < 36) (i : S18432x1920.Idx) (h : 256 * J ≤ (i 0).val) (h' : (i 0).val < 256 * (J + 1)) : A (J + 1) i = chunked A B i := by
  have e : (i 0).val / 256 = J := by omega
  unfold chunked; rw [e, if_pos hJ]
theorem chunked_hi {A B : Nat → CX F} {J : Nat} (i : S18432x1920.Idx) (h : 256 * (36 + J) ≤ (i 0).val) (h' : (i 0).val < 256 * (36 + J + 1)) : B (J + 1) i = chunked A B i := by
  have e : (i 0).val / 256 = 36 + J := by omega
  unfold chunked; rw [e, if_neg (by omega), Nat.add_sub_cancel_left]

theorem range_last {k : Nat} (hk : k < 72) (Φ : Fin 72 → sProp 𝕄) : bigSep (Ring.rangeSet 72 0 (k + 1)) Φ = iprop(Φ ⟨k, hk⟩ ∗ bigSep (Ring.rangeSet 72 0 k) Φ) :=
  Ring.bigSep_rangeSet_last (lo := 0) (hi := k + 1) (Nat.succ_pos _) hk

/-! ## The copies in -/

abbrev sems (c : Dev nD) (J : Fin 72) : sProp 𝕄 := semVal ((c : Thread nD τ), SemLoc.dma (inSem J.val J.isLt)) 0

theorem inCopies_wp {f X : CX F} :
    iprop(xPt c 0 18432 f ∗ xmPt c 0 18432 X ∗ bigSep Finset.univ (sems c)) ⊢ WP c (Scf.Loop.for k0_t1_loop k0_t1_ok ⟨⟩ fun i _ => inCopy (F := F) i) (fun _ => bigSep Finset.univ (inFlight c X)) := by
  have h := loop_to trips1 (c := c) (l := k0_t1_loop) (hok := k0_t1_ok) (body := fun i _ => inCopy (F := F) i)
    (fun k => iprop(xPt c (256 * k) 18432 f ∗ xmPt c (256 * k) 18432 X ∗ bigSep (Ring.rangeSet 72 k 72) (sems c) ∗ bigSep (Ring.rangeSet 72 0 k) (inFlight c X))) (fun k => by
      have hk : k.val < 72 := trips1 ▸ k.isLt
      rw [Ring.bigSep_rangeSet_head (hi := 72) hk hk, range_last hk]
      iintro ⟨HX, HM, ⟨HS, HSS⟩, HF⟩
      ihave HX := (xPt_split (c := c) (a := 256 * k.val) (b := 256 * (k.val + 1)) (d := 18432) (by omega) (by omega) f).1 $$ HX
      icases HX with ⟨HX, HXR⟩
      ihave HM := (xmPt_split (c := c) (a := 256 * k.val) (b := 256 * (k.val + 1)) (d := 18432) (by omega) (by omega) X).1 $$ HM
      icases HM with ⟨HM, HMR⟩
      iapply inCopy_wp hk
      isplitl [HM]; · iexact HM
      isplitl [HX]; · iexact HX
      isplitl [HS]; · iexact HS
      iintro HN
      isplitl [HXR]; · iexact HXR
      isplitl [HMR]; · iexact HMR
      isplitl [HSS]; · iexact HSS
      isplitl [HN]; · iexact HN
      iexact HF)
  rw [Ring.rangeSet_univ] at h
  refine .trans ?_ (h.trans (wp_mono _ _ _ fun _ => ?_))
  · rw [Ring.bigSep_rangeSet_empty (le_refl 0)]
    iintro ⟨HX, HM, HS⟩
    isplitl [HX]; · iexact HX
    isplitl [HM]; · iexact HM
    isplitl [HS]; · iexact HS
    iempintro
  · iintro ⟨-, -, -, H⟩; iexact H

/-! ## The statistics -/

def Ist (c : Dev nD) (X : CX F) (J : Nat) (s : St F) : sProp 𝕄 :=
  iprop(bigSep (Ring.rangeSet 72 J 72) (inFlight c X) ∗ bigSep (Ring.rangeSet 72 0 J) (sems c) ∗ xPt c 0 (256 * J) X ∗ xmPt c 0 (256 * J) X ∗ OW c ∗ stPt c s)

theorem stat_wp {J : Nat} (hJ : J < 72) {offs : Fin 1 → Nat} {inbs : ∀ a, offs a + S1.size a ≤ S72.size a} {co : Fin 2 → Nat} {cinb : ∀ a, co a + S256x1920.size a ≤ S18432x1920.size a}
    {ww : (rchunk co cinb).WholeWords (EltTy.packing .fp8e4m3)} (hs : offs = ![J])
    {gm : FVec F S1x1920 .f32} {b : Fin 2} {off : Fin 15 → Fin 8 → Fin 2 → Nat}
    {inb : ∀ t r a, off t r a + S32x128.size a ≤ S18432x1920.size a} (h : ∀ t r, off t r 0 = 256 * J + 32 * r.val) {X : CX F} (s : St F) :
    Ist c X J s ⊢ WP c (inWait offs inbs co cinb ww >>= fun _ => seqL (statTile gm b off inb) fin15) (fun _ => Ist c X (J + 1) (statTiles gm b off inb X s)) := by
  unfold Ist
  rw [Ring.bigSep_rangeSet_head (hi := 72) hJ hJ, range_last hJ]
  iintro ⟨⟨HF, HFF⟩, HSS, HX, HM, ⟨%W, HO⟩, HT⟩
  iapply wp_seq
  iapply inWait_wp hJ hs
  isplitl [HF]; · iexact HF
  isplitl [HO]; · iexact HO
  iintro ⟨⟨HX1, HM1⟩, HS, HO⟩
  ihave HX := (xPt_split (c := c) (a := 0) (b := 256 * J) (d := 256 * (J + 1)) (by omega) (by omega) X).2 $$ [HX HX1]
  · isplitl [HX]; · iexact HX
    iexact HX1
  ihave HM := (xmPt_split (c := c) (a := 0) (b := 256 * J) (d := 256 * (J + 1)) (by omega) (by omega) X).2 $$ [HM HM1]
  · isplitl [HM]; · iexact HM
    iexact HM1
  iapply wp_weaken
  isplitl [HX HT]
  · iapply (statTiles_wp (lo := 0) (hi := 256 * (J + 1)) (fun t r => by rw [h]; have := r.isLt; omega) s)
    isplitl [HX]; · iexact HX
    iexact HT
  iintro %_ ⟨HX, HT⟩
  isplitl [HFF]; · iexact HFF
  isplitl [HS HSS]
  · isplitl [HS]; · iexact HS
    iexact HSS
  isplitl [HX]; · iexact HX
  isplitl [HM]; · iexact HM
  isplitl [HO]; · iexists _; iexact HO
  iexact HT

theorem stats0_wp {gm : FVec F S1x1920 .f32} {X : CX F} :
    Ist c X 0 St.init ⊢ WP c (Scf.Loop.for k0_t2_loop k0_t2_ok ⟨⟩ fun j _ => stat2 gm j) (fun _ => Ist c X 36 (stats0 gm X 36)) := by
  have h := loop_to trips2 (c := c) (l := k0_t2_loop) (hok := k0_t2_ok) (body := fun j _ => stat2 gm j) (fun k => Ist c X k (stats0 gm X k)) (fun k => by
    have hk : k.val < 36 := trips2 ▸ k.isLt
    rw [show stats0 gm X (k.val + 1) = _ from loopTo_succ _ _ k]
    exact stat_wp (by omega) (k0_off3_eq k) (fun t r => by rw [off2_eq]; rfl) _)
  exact h
theorem stats1_wp {gm : FVec F S1x1920 .f32} {X : CX F} :
    Ist c X 36 (stats0 gm X 36) ⊢ WP c (Scf.Loop.for k0_t3_loop k0_t3_ok ⟨⟩ fun j _ => stat3 gm j) (fun _ => Ist c X 72 (stats1 gm X 36)) := by
  have h := loop_to trips3 (c := c) (l := k0_t3_loop) (hok := k0_t3_ok) (body := fun j _ => stat3 gm j) (fun k => Ist c X (36 + k) (stats1 gm X k)) (fun k => by
    have hk : k.val < 36 := trips3 ▸ k.isLt
    rw [show stats1 gm X (k.val + 1) = _ from loopTo_succ _ _ k]
    exact stat_wp (by omega) (k0_off20_eq k) (fun t r => by rw [off3_eq]; rfl) _)
  exact h

/-! ## The two guarded passes over the input -/

abbrev on (w : BitVec 1) : Prop := Scalar.cmpi .ne (Scalar.extui w : BitVec 32) 0#32 = 1#1
def devOf (ill : BitVec 1) (X : CX F) (m : FVec F S2x1920 .f32) (d : FVec F S2x32 .f32) : FVec F S2x32 .f32 := if on ill then gmean (devs1 X m 288) else d

theorem off_lt {off : Fin 15 → Fin 2 → Nat} {J : Nat} (hJ : J < 576) (h : ∀ t, off t 0 = 32 * J) (t : Fin 15) : 0 ≤ off t 0 ∧ off t 0 + 32 ≤ 18432 := by rw [h]; omega

theorem illPart_wp {ill : BitVec 1} {X : CX F} {m : FVec F S2x1920 .f32} {A : C3 F} {d : FVec F S2x32 .f32} :
    iprop(xPt c 0 18432 X ∗ mPt c m ∗ s2Pt c A ∗ dPt c d) ⊢ WP c (illPart ill) (fun _ => iprop(xPt c 0 18432 X ∗ mPt c m ∗ (∃ A, s2Pt c A) ∗ dPt c (devOf ill X m d))) := by
  unfold illPart devOf
  by_cases hi : on ill
  · rw [if_pos hi, if_pos hi]
    have h4 := loop_to trips4 (c := c) (l := k0_t4_loop) (hok := k0_t4_ok) (body := fun j _ => seqL (devTile (F := F) 0 (off4 j) (off4_inb j)) fin15)
      (fun k => iprop(s2Pt c (devs0 X m k) ∗ xPt c 0 18432 X ∗ mPt c m)) (fun k => by
        have hk : k.val < 288 := trips4 ▸ k.isLt
        rw [show devs0 X m (k.val + 1) = _ from loopTo_succ _ _ k]
        exact devTiles_wp (off_lt (J := k.val) (by omega) (fun t => by rw [off4_eq]; rfl)) _)
    have h5 := loop_to trips5 (c := c) (l := k0_t5_loop) (hok := k0_t5_ok) (body := fun j _ => seqL (devTile (F := F) 1 (off5 j) (off5_inb j)) fin15)
      (fun k => iprop(s2Pt c (devs1 X m k) ∗ xPt c 0 18432 X ∗ mPt c m)) (fun k => by
        have hk : k.val < 288 := trips5 ▸ k.isLt
        rw [show devs1 X m (k.val + 1) = _ from loopTo_succ _ _ k]
        exact devTiles_wp (off_lt (J := 288 + k.val) (by omega) (fun t => by rw [off5_eq]; rfl)) _)
    rw [devs1_zero] at h5
    iintro ⟨HX, HM, H2, HD⟩
    iapply wp_seq; iapply zero3_s2V; isplitl [H2]; · iexact H2
    iintro H2
    iapply wp_seq; iapply wp_weaken
    isplitl [HX HM H2]
    · iapply h4
      isplitl [H2]; · iexact H2
      isplitl [HX]; · iexact HX
      iexact HM
    iintro %_ H
    iapply wp_seq; iapply wp_weaken
    isplitl [H]
    · iapply h5; iexact H
    iintro %_ ⟨H2, HX, HM⟩
    iapply wp_seq; iapply ld_s2V; isplitl [H2]; · iexact H2
    iintro H2
    iapply set_devV; isplitl [HD]; · iexact HD
    iintro HD
    isplitl [HX]; · iexact HX
    isplitl [HM]; · iexact HM
    isplitl [H2]; · iexists _; iexact H2
    iexact HD
  · rw [if_neg hi, if_neg hi]
    iintro ⟨HX, HM, H2, HD⟩
    iapply wp_done
    isplitl [HX]; · iexact HX
    isplitl [HM]; · iexact HM
    isplitl [H2]; · iexists _; iexact H2
    iexact HD

def maxOf (e1 e2 : BitVec 32) (low : F .f32) (bt : FVec F S1x1920 .f32) (X : CX F) (m g : FVec F S2x1920 .f32) : F .f32 :=
  if on (Scalar.cmpi .ne e1 e2) then maxv (maxs1 bt X m g 288) else low

theorem maxPart_wp {arg5 : Memref sig .tc .smem S1x1 .f32} {e1 e2 : BitVec 32} {low : F .f32} {bt : FVec F S1x1920 .f32} {X : CX F} {m g : FVec F S2x1920 .f32} {A : C3 F} :
    iprop(xPt c 0 18432 X ∗ mPt c m ∗ gPt c g ∗ s1Pt c A ∗ owns (c : Thread nD τ) arg5 fullShare (fun _ => low))
      ⊢ WP c (maxPart arg5 bt e1 e2) (fun _ => iprop(xPt c 0 18432 X ∗ mPt c m ∗ gPt c g ∗ (∃ A, s1Pt c A) ∗ owns (c : Thread nD τ) arg5 fullShare (fun _ => maxOf e1 e2 low bt X m g))) := by
  unfold maxPart maxOf
  by_cases hi : on (Scalar.cmpi .ne e1 e2)
  · rw [if_pos hi, if_pos hi]
    have h6 := loop_to trips6 (c := c) (l := k0_t6_loop) (hok := k0_t6_ok) (body := fun j _ => seqL (maxTile (F := F) bt 0 (off6 j) (off6_inb j)) fin15)
      (fun k => iprop(s1Pt c (maxs0 bt X m g k) ∗ xPt c 0 18432 X ∗ mPt c m ∗ gPt c g)) (fun k => by
        have hk : k.val < 288 := trips6 ▸ k.isLt
        rw [show maxs0 bt X m g (k.val + 1) = _ from loopTo_succ _ _ k]
        exact maxTiles_wp (off_lt (J := k.val) (by omega) (fun t => by rw [off6_eq]; rfl)) _)
    have h7 := loop_to trips7 (c := c) (l := k0_t7_loop) (hok := k0_t7_ok) (body := fun j _ => seqL (maxTile (F := F) bt 1 (off7 j) (off7_inb j)) fin15)
      (fun k => iprop(s1Pt c (maxs1 bt X m g k) ∗ xPt c 0 18432 X ∗ mPt c m ∗ gPt c g)) (fun k => by
        have hk : k.val < 288 := trips7 ▸ k.isLt
        rw [show maxs1 bt X m g (k.val + 1) = _ from loopTo_succ _ _ k]
        exact maxTiles_wp (off_lt (J := 288 + k.val) (by omega) (fun t => by rw [off7_eq]; rfl)) _)
    rw [maxs1_zero] at h7
    iintro ⟨HX, HM, HG, H1, HA⟩
    iapply wp_seq; iapply zero3_s1V; isplitl [H1]; · iexact H1
    iintro H1
    iapply wp_seq; iapply wp_weaken
    isplitl [HX HM HG H1]
    · iapply h6
      isplitl [H1]; · iexact H1
      isplitl [HX]; · iexact HX
      isplitl [HM]; · iexact HM
      iexact HG
    iintro %_ H
    iapply wp_seq; iapply wp_weaken
    isplitl [H]
    · iapply h7; iexact H
    iintro %_ ⟨H1, HX, HM, HG⟩
    iapply wp_seq; iapply ld_s1V; isplitl [H1]; · iexact H1
    iintro H1
    iapply setS_wp; isplitl [HA]; · iexact HA
    iintro HA
    isplitl [HX]; · iexact HX
    isplitl [HM]; · iexact HM
    isplitl [HG]; · iexact HG
    isplitl [H1]; · iexists _; iexact H1
    iexact HA
  · rw [if_neg hi, if_neg hi]
    iintro ⟨HX, HM, HG, H1, HA⟩
    iapply wp_done
    isplitl [HX]; · iexact HX
    isplitl [HM]; · iexact HM
    isplitl [HG]; · iexact HG
    isplitl [H1]; · iexists _; iexact H1
    iexact HA

/-! ## The result's chunks -/

def Iq (c : Dev nD) (G f : CX F) (m g h : FVec F S2x1920 .f32) (J : Nat) (X : CX F) : sProp 𝕄 :=
  iprop(outBatch c G J 0 ∗ xPt c (256 * J) 18432 X ∗ ymPt c (256 * J) 18432 f ∗ mPt c m ∗ gPt c g ∗ hPt c h)

theorem lend_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    (hG : ∀ i : S18432x1920.Idx, 256 * J ≤ (i 0).val → (i 0).val < 256 * (J + 1) → X i = G i) :
    Iq c G f m g h J X ⊢ WP c (outCopy (F := F) co cinb ww) (fun _ => Iq c G f m g h (J + 1) X) := by
  unfold Iq
  iintro ⟨HB, HX, HY, HM, HG, HH⟩
  ihave HX := (xPt_split (c := c) (a := 256 * J) (b := 256 * (J + 1)) (d := 18432) (by omega) (by omega) X).1 $$ HX
  icases HX with ⟨HX, HXR⟩
  ihave HY := (ymPt_split (c := c) (a := 256 * J) (b := 256 * (J + 1)) (d := 18432) (by omega) (by omega) f).1 $$ HY
  icases HY with ⟨HY, HYR⟩
  iapply outCopy_wp hJ ho hG
  isplitl [HB]; · iexact HB
  isplitl [HX]; · iexact HX
  isplitl [HY]; · iexact HY
  iintro HB
  isplitl [HB]; · iexact HB
  isplitl [HXR]; · iexact HXR
  isplitl [HYR]; · iexact HYR
  isplitl [HM]; · iexact HM
  isplitl [HG]; · iexact HG
  iexact HH

theorem quant_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    {inv : F .f32} {b : Fin 2} {off : Fin 15 → Fin 8 → Fin 2 → Nat} {inb : ∀ t r a, off t r a + S32x128.size a ≤ S18432x1920.size a}
    {pk : ∀ t r, (rx (off t r) (inb t r)).PackedRows (EltTy.packing .fp8e4m3)} (hoff : ∀ t r, off t r 0 = 256 * J + 32 * r.val)
    (hG : ∀ i : S18432x1920.Idx, 256 * J ≤ (i 0).val → (i 0).val < 256 * (J + 1) → quantAll inv b off inb g h X i = G i) :
    Iq c G f m g h J X ⊢ WP c (quantTiles inv b off inb pk >>= fun _ => outCopy (F := F) co cinb ww) (fun _ => Iq c G f m g h (J + 1) (quantAll inv b off inb g h X)) := by
  iintro H
  iapply wp_seq
  iapply wp_weaken
  unfold Iq
  icases H with ⟨HB, HX, HY, HM, HG, HH⟩
  isplitl [HX HG HH]
  · iapply (quantTiles_wp (lo := 256 * J) (hi := 18432) (fun t r => by rw [hoff]; have := r.isLt; omega) X)
    isplitl [HX]; · iexact HX
    isplitl [HG]; · iexact HG
    iexact HH
  iintro %_ ⟨HX, HG, HH⟩
  iapply (lend_wp hJ ho hG)
  unfold Iq
  isplitl [HB]; · iexact HB
  isplitl [HX]; · iexact HX
  isplitl [HY]; · iexact HY
  isplitl [HM]; · iexact HM
  isplitl [HG]; · iexact HG
  iexact HH

theorem ill_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    {bt : FVec F S1x1920 .f32} {inv : F .f32} {b : Fin 2} {l : Scf.Loop 32} {hok : l.OK} (hl : l.trips = 8)
    {off : Fin l.trips → Fin 15 → Fin 2 → Nat} {inb : ∀ k t a, off k t a + S32x128.size a ≤ S18432x1920.size a}
    {pk : ∀ k t, (rx (off k t) (inb k t)).PackedRows (EltTy.packing .fp8e4m3)} (hoff : ∀ k t, off k t 0 = 256 * J + 32 * k.val)
    (hG : ∀ i : S18432x1920.Idx, 256 * J ≤ (i 0).val → (i 0).val < 256 * (J + 1) → loopTo (fun k X => illTiles bt inv b (off k) (inb k) m g X) X 8 i = G i) :
    Iq c G f m g h J X ⊢ WP c ((Scf.Loop.for l hok ⟨⟩ fun k _ => seqL (illTile bt inv b (off k) (inb k) (pk k)) fin15) >>= fun _ => outCopy (F := F) co cinb ww)
      (fun _ => Iq c G f m g h (J + 1) (loopTo (fun k X => illTiles bt inv b (off k) (inb k) m g X) X 8)) := by
  have h11 := loop_to hl (c := c) (l := l) (hok := hok) (body := fun k _ => seqL (illTile bt inv b (off k) (inb k) (pk k)) fin15)
    (fun k => iprop(xPt c (256 * J) 18432 (loopTo (fun k X => illTiles bt inv b (off k) (inb k) m g X) X k) ∗ mPt c m ∗ gPt c g)) (fun k => by
      have hk : k.val < 8 := hl ▸ k.isLt
      rw [loopTo_succ _ _ k]
      exact illTiles_wp (fun t => by rw [hoff]; omega) _)
  iintro H
  iapply wp_seq
  iapply wp_weaken
  unfold Iq
  icases H with ⟨HB, HX, HY, HM, HG, HH⟩
  isplitl [HX HG HM]
  · iapply h11
    isplitl [HX]; · iexact HX
    isplitl [HM]; · iexact HM
    iexact HG
  iintro %_ ⟨HX, HM, HG⟩
  iapply (lend_wp hJ ho hG)
  unfold Iq
  isplitl [HB]; · iexact HB
  isplitl [HX]; · iexact HX
  isplitl [HY]; · iexact HY
  isplitl [HM]; · iexact HM
  isplitl [HG]; · iexact HG
  iexact HH

/-- The result's codes. -/
def codesOf (ill : BitVec 1) (bt : FVec F S1x1920 .f32) (inv : F .f32) (m g h : FVec F S2x1920 .f32) (X : CX F) : CX F :=
  if on ill then chunked (slow0 bt inv m g X) (slow1 bt inv m g X) else chunked (fast0 inv g h X) (fast1 inv g h X)

theorem fast_wp {f : CX F} {m g h : FVec F S2x1920 .f32} {X : CX F} {inv : F .f32} {ill : BitVec 1} (hi : on (Scalar.xori ill 1#1)) :
    Iq c (chunked (fast0 inv g h X) (fast1 inv g h X)) f m g h 0 X ⊢ WP c (fastPart ill inv) (fun _ => iprop(∃ Y, Iq c (chunked (fast0 inv g h X) (fast1 inv g h X)) f m g h 72 Y)) := by
  have h8 := loop_to trips8 (c := c) (l := k0_t8_loop) (hok := k0_t8_ok) (body := fun j _ => quant8 inv j)
    (fun k => Iq c (chunked (fast0 inv g h X) (fast1 inv g h X)) f m g h k (fast0 inv g h X k)) (fun k => by
      have hk : k.val < 36 := trips8 ▸ k.isLt
      have e : fast0 inv g h X (k.val + 1) = quantAll inv 0 (off8 k) (off8_inb k) g h (fast0 inv g h X k.val) := loopTo_succ _ _ k
      rw [e]
      exact quant_wp (by omega) (k0_off112_eq k) (fun t r => by rw [off8_eq]; rfl) (fun i a b => by rw [← e]; exact chunked_lo hk i a b))
  have h9 := loop_to trips9 (c := c) (l := k0_t9_loop) (hok := k0_t9_ok) (body := fun j _ => quant9 inv j)
    (fun k => Iq c (chunked (fast0 inv g h X) (fast1 inv g h X)) f m g h (36 + k) (fast1 inv g h X k)) (fun k => by
      have hk : k.val < 36 := trips9 ▸ k.isLt
      have e : fast1 inv g h X (k.val + 1) = quantAll inv 1 (off9 k) (off9_inb k) g h (fast1 inv g h X k.val) := loopTo_succ _ _ k
      rw [e]
      exact quant_wp (by omega) (k0_off128_eq k) (fun t r => by rw [off9_eq]; rfl) (fun i a b => by rw [← e]; exact chunked_hi i a b))
  rw [fast1_zero, Nat.add_zero] at h9
  unfold fastPart
  rw [if_pos hi]
  iintro H
  iapply wp_seq; iapply wp_weaken
  isplitl [H]
  · iapply h8; iexact H
  iintro %_ H
  iapply wp_seq; iapply wp_weaken
  isplitl [H]
  · iapply h9; iexact H
  iintro %_ H
  iapply wp_done
  iexists _; iexact H

theorem slow_wp {f : CX F} {m g h : FVec F S2x1920 .f32} {X : CX F} {bt : FVec F S1x1920 .f32} {inv : F .f32} {ill : BitVec 1} (hi : on ill) :
    Iq c (chunked (slow0 bt inv m g X) (slow1 bt inv m g X)) f m g h 0 X ⊢ WP c (slowPart ill bt inv) (fun _ => iprop(∃ Y, Iq c (chunked (slow0 bt inv m g X) (slow1 bt inv m g X)) f m g h 72 Y)) := by
  have h10 := loop_to trips10 (c := c) (l := k0_t10_loop) (hok := k0_t10_ok) (body := fun j _ => quant10 bt inv j)
    (fun k => Iq c (chunked (slow0 bt inv m g X) (slow1 bt inv m g X)) f m g h k (slow0 bt inv m g X k)) (fun k => by
      have hk : k.val < 36 := trips10 ▸ k.isLt
      have e : slow0 bt inv m g X (k.val + 1) = rowsIll0 bt inv m g k (slow0 bt inv m g X k.val) 8 := loopTo_succ _ _ k
      rw [e]
      exact ill_wp (by omega) (k0_off144_eq k) trips11 (fun a t => by rw [off10_eq]; rfl) (fun i a b => (congrFun e i).symm.trans (chunked_lo hk i a b)))
  have h12 := loop_to trips12 (c := c) (l := k0_t12_loop) (hok := k0_t12_ok) (body := fun j _ => quant12 bt inv j)
    (fun k => Iq c (chunked (slow0 bt inv m g X) (slow1 bt inv m g X)) f m g h (36 + k) (slow1 bt inv m g X k)) (fun k => by
      have hk : k.val < 36 := trips12 ▸ k.isLt
      have e : slow1 bt inv m g X (k.val + 1) = rowsIll1 bt inv m g k (slow1 bt inv m g X k.val) 8 := loopTo_succ _ _ k
      rw [e]
      exact ill_wp (by omega) (k0_off160_eq k) trips13 (fun a t => by rw [off12_eq]; rfl) (fun i a b => (congrFun e i).symm.trans (chunked_hi i a b)))
  rw [slow1_zero, Nat.add_zero] at h12
  unfold slowPart
  rw [if_pos hi]
  iintro H
  iapply wp_seq; iapply wp_weaken
  isplitl [H]
  · iapply h10; iexact H
  iintro %_ H
  iapply wp_seq; iapply wp_weaken
  isplitl [H]
  · iapply h12; iexact H
  iintro %_ H
  iapply wp_done
  iexists _; iexact H

theorem on_cases (ill : BitVec 1) : (on ill ∧ ¬ on (Scalar.xori ill 1#1)) ∨ (¬ on ill ∧ on (Scalar.xori ill 1#1)) := by revert ill; decide

/-- The two forms of the quantising pass: one of them runs. -/
theorem codes_wp {f : CX F} {m g h : FVec F S2x1920 .f32} {X : CX F} {bt : FVec F S1x1920 .f32} {inv : F .f32} {ill : BitVec 1} :
    Iq c (codesOf ill bt inv m g h X) f m g h 0 X ⊢ WP c (fastPart ill inv) (fun _ => WP c (slowPart ill bt inv) (fun _ => iprop(∃ Y, Iq c (codesOf ill bt inv m g h X) f m g h 72 Y))) := by
  unfold codesOf
  rcases on_cases ill with ⟨h1, h2⟩ | ⟨h1, h2⟩
  · rw [if_pos h1]
    unfold fastPart
    rw [if_neg h2]
    exact (slow_wp h1).trans (wp_done (c := c) (a := PUnit.unit) (Q := fun _ => _))
  · rw [if_neg h1]
    unfold slowPart
    rw [if_neg h1]
    exact (fast_wp h2).trans (wp_mono _ _ _ fun _ => wp_done (c := c) (a := PUnit.unit) (Q := fun _ => _))

/-! ## The last waits -/

theorem waits_wp {G : CX F} : iprop(outBatch c G 72 0 ∗ OW c) ⊢ WP c (Scf.Loop.for k0_t14_loop k0_t14_ok ⟨⟩ fun i _ => outWait (F := F) i)
    (fun _ => iprop(bigSep Finset.univ (outD c G) ∗ semVal ((c : Thread nD τ), SemLoc.dma cc0_scratch9.sem) 0 ∗ OW c)) := by
  have h := loop_to trips14 (c := c) (l := k0_t14_loop) (hok := k0_t14_ok) (body := fun i _ => outWait (F := F) i)
    (fun k => if k < 72 then iprop(outBatch c G 72 (k * chunkN) ∗ OW c) else iprop(bigSep Finset.univ (outD c G) ∗ semVal ((c : Thread nD τ), SemLoc.dma cc0_scratch9.sem) 0 ∗ OW c)) (fun k => by
      have hk : k.val < 72 := trips14 ▸ k.isLt
      rw [if_pos hk]
      by_cases h71 : k.val < 71
      · rw [if_pos (by omega), Nat.succ_mul]
        exact outWait_wp (units_lt chunkN_pos h71)
      · rw [if_neg (by omega)]
        exact outLast_wp (units_eq (by omega)))
  rw [if_pos (by omega), if_neg (by omega), Nat.zero_mul] at h
  exact h

theorem joined {G : CX F} (k : Nat) (hk : k ≤ 72) : bigSep (Ring.rangeSet 72 0 k) (outD c G) ⊢ iprop(ymPt c 0 (256 * k) G ∗ xPt c 0 (256 * k) G) := by
  induction k with
  | zero =>
    rw [Ring.bigSep_rangeSet_empty (le_refl 0)]
    show _ ⊢ iprop((yM.view.loc (c : Thread nD τ) ↦[rows 0 (256 * 0)]{fullShare} G) ∗ (xV.view.loc (c : Thread nD τ) ↦[rows 0 (256 * 0)]{fullShare} G))
    rw [Nat.mul_zero, rows_empty, pointsTo_empty, pointsTo_empty]
    iintro -
    isplitl [] <;> iempintro
  | succ k ih =>
    rw [range_last hk]
    iintro ⟨HD, H⟩
    ihave H := (ih (by omega)) $$ H
    unfold outD
    icases H with ⟨HY, HX⟩
    icases HD with ⟨HY1, HX1⟩
    isplitl [HY HY1]
    · iapply (ymPt_split (c := c) (a := 0) (b := 256 * k) (d := 256 * (k + 1)) (by omega) (by omega) G).2
      isplitl [HY]; · iexact HY
      iexact HY1
    · iapply (xPt_split (c := c) (a := 0) (b := 256 * k) (d := 256 * (k + 1)) (by omega) (by omega) G).2
      isplitl [HX]; · iexact HX
      iexact HX1

end Cert.KernelIdeal.Hand
end
end
-- ==== Proof.Body.lean ====
/-
  The kernel's whole run: its results as functions of its operands, and the triple.
-/
module
public import proofs.«01_k».proof.Proof.Loops
@[expose] public section
set_option maxRecDepth 8192
noncomputable section
namespace Cert.KernelIdeal.Hand
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-! ## The results as functions of the kernel's operands -/

section Outputs
variable (sc : FVec F S2x32 .f32) (gm bt : FVec F S1x1920 .f32) (s : St F) (X : CX F)

/-- The deviations' second moment, from the sums. -/
def kD : FVec F S2x32 .f32 := dev1 (gmean s.a1) (gmean s.a2)
/-- Whether the variance is to be recomputed from the deviations. -/
def kIll : BitVec 1 := illv sc (gmean s.a2) (kD s)
def kMean : FVec F S2x1920 .f32 := spread (gmean s.a1)
def kDev : FVec F S2x32 .f32 := devOf (kIll sc s) X (kMean s) (kD s)
def kGain : FVec F S2x1920 .f32 := gainv sc (kDev sc s X) gm
def kBias : FVec F S2x1920 .f32 := biasv (kMean s) (kGain sc gm s X) bt
/-- The greatest activation read off the extremes. -/
def kLow : F .f32 := lowv (coltop s.tp) (kMean s) (kGain sc gm s X) gm bt
/-- The greatest magnitude of the result, from the extremes' `low`, mean and gain. -/
def topOf (low : F .f32) (bt : FVec F S1x1920 .f32) (X : CX F) (m g : FVec F S2x1920 .f32) : F .f32 :=
  maxOf (expOf (toGrid low)) (expOf (toGrid (Scalar.maximumf low (Scalar.ofBits .f32 0x3E8E978D#32)))) low bt X m g
def kTop : F .f32 := topOf (kLow sc gm bt s X) bt X (kMean s) (kGain sc gm s X)
/-- The codes from the greatest magnitude. -/
def codesAt (ill : BitVec 1) (bt : FVec F S1x1920 .f32) (a : F .f32) (m g h : FVec F S2x1920 .f32) (X : CX F) : CX F :=
  codesOf ill bt (pow2 (Scalar.subi 0#32 (outExp a))) m g h X
def kCodes : CX F := codesAt (kIll sc s) bt (kTop sc gm bt s X) (kMean s) (kGain sc gm s X) (kBias sc gm bt s X) X
def kScale : F .f32 := pow2 (outExp (kTop sc gm bt s X))
end Outputs

/-! ## The kernel in three parts -/

def tailP (ill : BitVec 1) (bt : FVec F S1x1920 .f32) (arg5 : Memref sig .tc .smem S1x1 .f32) : PP F PUnit := do
  let a : Elt F .f32 ← smemLoad arg5 wholeS numel1_S1x1 rfl
  setS arg5 (pow2 (outExp a))
  fastPart ill (pow2 (Scalar.subi 0#32 (outExp a)))
  slowPart ill bt (pow2 (Scalar.subi 0#32 (outExp a)))
  Scf.Loop.for k0_t14_loop k0_t14_ok ⟨⟩ fun i _ => outWait i
  pure ⟨⟩

def midP (gm bt : FVec F S1x1920 .f32) (arg1 : Memref sig .tc .vmem S2x32 .f32) (arg5 : Memref sig .tc .smem S1x1 .f32) : PP F PUnit := do
  let s1 ← ldW3 s1V
  let s2 ← ldW3 s2V
  let tp ← Prog.lift (.load topV whole3.toLoadRect (View.loadsAt_vmem h_S2x16x1920))
  let sc ← ldG arg1
  setG devV (dev1 (gmean s1) (gmean s2))
  let d ← ldG devV
  set2 meanV (spread (gmean s1))
  illPart (illv sc (gmean s2) d)
  let d' ← ldG devV
  let m ← ldW2 meanV
  set2 gainV (gainv sc d' gm)
  set2 biasV (biasv m (gainv sc d' gm) bt)
  setS arg5 (lowv (coltop tp) m (gainv sc d' gm) gm bt)
  maxPart arg5 bt (expOf (toGrid (lowv (coltop tp) m (gainv sc d' gm) gm bt)))
    (expOf (toGrid (Scalar.maximumf (lowv (coltop tp) m (gainv sc d' gm) gm bt) (Scalar.ofBits .f32 0x3E8E978D#32))))
  tailP (illv sc (gmean s2) d) bt arg5

theorem model_eq (arg1 : Memref sig .tc .vmem S2x32 .f32) (arg2 arg3 : Memref sig .tc .vmem S1x1920 .f32) (arg5 : Memref sig .tc .smem S1x1 .f32) (harg5 : arg5.IsWhole) :
    model (F := F) arg1 arg2 arg3 arg5 harg5 = (do
      Scf.Loop.for k0_t1_loop k0_t1_ok ⟨⟩ fun i _ => inCopy i
      let gm ← Prog.lift (.load arg2 whole1.toLoadRect (View.loadsAt_vmem h_S1x1920))
      let bt ← Prog.lift (.load arg3 whole1.toLoadRect (View.loadsAt_vmem h_S1x1920))
      zero3 s1V
      zero3 s2V
      zeroTop
      Scf.Loop.for k0_t2_loop k0_t2_ok ⟨⟩ fun j _ => stat2 (row1 gm) j
      Scf.Loop.for k0_t3_loop k0_t3_ok ⟨⟩ fun j _ => stat3 (row1 gm) j
      midP (row1 gm) (row1 bt) arg1 arg5) := rfl

/-! ## The triples -/

theorem xPt_all {c : Dev nD} {Y : CX F} : (xPt c 0 18432 Y) = iprop(((c : Thread nD τ).loc cc0_scratch0) ↦{fullShare} Y) := by
  unfold xPt; rw [rows_all]
abbrev outQ (c : Dev nD) : sProp 𝕄 := semVal ((c : Thread nD τ), SemLoc.dma cc0_scratch9.sem) 0

theorem joined_all {G : CX F} : bigSep Finset.univ (outD c G) ⊢ iprop(ymPt c 0 18432 G ∗ xPt c 0 18432 G) := by
  have h := joined (c := c) (G := G) 72 (le_refl 72)
  rw [Ring.rangeSet_univ] at h
  exact h

theorem tail_wp {ill : BitVec 1} {bt : FVec F S1x1920 .f32} {arg5 : Memref sig .tc .smem S1x1 .f32} {a : F .f32} {m g h : FVec F S2x1920 .f32} {X f : CX F} :
    iprop(owns (c : Thread nD τ) arg5 fullShare (fun _ => a) ∗ xPt c 0 18432 X ∗ ymPt c 0 18432 f ∗ mPt c m ∗ gPt c g ∗ hPt c h ∗ outQ c ∗ OW c)
      ⊢ WP c (tailP ill bt arg5) (fun _ => iprop(owns (c : Thread nD τ) arg5 fullShare (fun _ => pow2 (outExp a)) ∗ (∃ Y, xPt c 0 18432 Y)
          ∗ ymPt c 0 18432 (codesAt ill bt a m g h X) ∗ mPt c m ∗ gPt c g ∗ hPt c h ∗ outQ c ∗ OW c)) := by
  unfold tailP codesAt
  iintro ⟨H5, HX, HYM, HM, HG, HH, HQ, HO⟩
  iapply wp_seq; iapply ldS_wp; isplitl [H5]; · iexact H5
  iintro H5
  iapply wp_seq; iapply setS_wp; isplitl [H5]; · iexact H5
  iintro H5
  imod (Transfers.batch_alloc' (Lvl := ℕ) (countersEmb (U := Pipeline.UD sig nD τ)) (c : Thread nD τ) () chunkN
    (outD c (codesOf ill bt (pow2 (Scalar.subi 0#32 (outExp a))) m g h X)) (sm := SemLoc.dma cc0_scratch9.sem) (E := Set.univ)) $$ HQ with HB
  iapply wp_seq; iapply wp_weaken
  isplitl [HB HX HYM HM HG HH]
  · iapply (codes_wp (f := f) (m := m) (g := g) (h := h) (X := X))
    unfold Iq
    rw [Nat.mul_zero]
    isplitl [HB]; · iexact HB
    isplitl [HX]; · iexact HX
    isplitl [HYM]; · iexact HYM
    isplitl [HM]; · iexact HM
    isplitl [HG]; · iexact HG
    iexact HH
  iintro %_ H
  iapply wp_seq; iapply wp_weaken
  isplitl [H]; · iexact H
  iintro %_ ⟨%Y, H⟩
  unfold Iq
  icases H with ⟨HB, -, -, HM, HG, HH⟩
  iapply wp_seq; iapply wp_weaken
  isplitl [HB HO]
  · iapply waits_wp
    isplitl [HB]; · iexact HB
    iexact HO
  iintro %_ ⟨HOUT, HQ, HO⟩
  ihave HOUT := joined_all $$ HOUT
  icases HOUT with ⟨HYM, HX⟩
  iapply wp_done
  isplitl [H5]; · iexact H5
  isplitl [HX]; · iexists _; iexact HX
  isplitl [HYM]; · iexact HYM
  isplitl [HM]; · iexact HM
  isplitl [HG]; · iexact HG
  isplitl [HH]; · iexact HH
  isplitl [HQ]; · iexact HQ
  iexact HO

theorem groups_eq' (w : FVec F S2x32 .f32) : (fun k => w (wholeG.emb k)) = w := funext fun k => congrArg w (emb_unit_zero zero2d k)
theorem row_eq' (w : FVec F S1x1920 .f32) : (fun k => w (whole1.emb k)) = w := funext fun k => congrArg w (emb_unit_zero zero2d k)

theorem mid_wp {sc : FVec F S2x32 .f32} {gm bt : FVec F S1x1920 .f32} {arg1 : Memref sig .tc .vmem S2x32 .f32} {arg5 : Memref sig .tc .smem S1x1 .f32}
    {d5 : S1x1.Idx → Elt F .f32} {s : St F} {X f : CX F} :
    iprop(stPt c s ∗ owns (c : Thread nD τ) arg1 fullShare sc ∗ owns (c : Thread nD τ) arg5 fullShare d5 ∗ xPt c 0 18432 X ∗ ymPt c 0 18432 f
        ∗ (∃ m, mPt c m) ∗ (∃ g, gPt c g) ∗ (∃ h, hPt c h) ∗ (∃ d, dPt c d) ∗ outQ c ∗ OW c)
      ⊢ WP c (midP gm bt arg1 arg5) (fun _ => iprop((∃ f, s1Pt c f) ∗ (∃ f, s2Pt c f) ∗ (∃ f, topV.view.loc (c : Thread nD τ) ↦{fullShare} f)
          ∗ owns (c : Thread nD τ) arg1 fullShare sc ∗ owns (c : Thread nD τ) arg5 fullShare (fun _ => kScale sc gm bt s X) ∗ (∃ Y, xPt c 0 18432 Y)
          ∗ ymPt c 0 18432 (kCodes sc gm bt s X) ∗ (∃ m, mPt c m) ∗ (∃ g, gPt c g) ∗ (∃ h, hPt c h) ∗ (∃ d, dPt c d) ∗ outQ c ∗ OW c)) := by
  unfold midP stPt
  iintro ⟨⟨H1, H2, HT⟩, HSC, H5, HX, HYM, ⟨%m, HM⟩, ⟨%g, HG⟩, ⟨%h, HH⟩, ⟨%d, HD⟩, HQ, HO⟩
  iapply wp_seq; iapply ld_s1V; isplitl [H1]; · iexact H1
  iintro H1
  iapply wp_seq; iapply ld_s2V; isplitl [H2]; · iexact H2
  iintro H2
  iapply wp_seq; iapply ld_topV; isplitl [HT]; · iexact HT
  iintro HT
  iapply wp_seq; iapply ldO_wp; isplitl [HSC]; · iexact HSC
  iintro HSC
  rw [groups_eq']
  iapply wp_seq; iapply set_devV; isplitl [HD]; · iexact HD
  iintro HD
  iapply wp_seq; iapply ld_devV; isplitl [HD]; · iexact HD
  iintro HD
  iapply wp_seq; iapply set_meanV; isplitl [HM]; · iexact HM
  iintro HM
  iapply wp_seq; iapply wp_weaken
  isplitl [HX HM H2 HD]
  · iapply illPart_wp
    isplitl [HX]; · iexact HX
    isplitl [HM]; · iexact HM
    isplitl [H2]; · iexact H2
    iexact HD
  iintro %_ ⟨HX, HM, H2, HD⟩
  iapply wp_seq; iapply ld_devV; isplitl [HD]; · iexact HD
  iintro HD
  iapply wp_seq; iapply ld_meanV; isplitl [HM]; · iexact HM
  iintro HM
  iapply wp_seq; iapply set_gainV; isplitl [HG]; · iexact HG
  iintro HG
  iapply wp_seq; iapply set_biasV; isplitl [HH]; · iexact HH
  iintro HH
  iapply wp_seq; iapply setS_wp; isplitl [H5]; · iexact H5
  iintro H5
  iapply wp_seq; iapply wp_weaken
  isplitl [HX HM HG H1 H5]
  · iapply maxPart_wp
    isplitl [HX]; · iexact HX
    isplitl [HM]; · iexact HM
    isplitl [HG]; · iexact HG
    isplitl [H1]; · iexact H1
    iexact H5
  iintro %_ ⟨HX, HM, HG, H1, H5⟩
  iapply wp_weaken
  isplitl [H5 HX HYM HM HG HH HQ HO]
  · iapply tail_wp
    isplitl [H5]; · iexact H5
    isplitl [HX]; · iexact HX
    isplitl [HYM]; · iexact HYM
    isplitl [HM]; · iexact HM
    isplitl [HG]; · iexact HG
    isplitl [HH]; · iexact HH
    isplitl [HQ]; · iexact HQ
    iexact HO
  iintro %_ ⟨H5, HX, HYM, HM, HG, HH, HQ, HO⟩
  isplitl [H1]; · iexact H1
  isplitl [H2]; · iexact H2
  isplitl [HT]; · iexists _; iexact HT
  isplitl [HSC]; · iexact HSC
  isplitl [H5]; · iexact H5
  isplitl [HX]; · iexact HX
  isplitl [HYM]; · iexact HYM
  isplitl [HM]; · iexists _; iexact HM
  isplitl [HG]; · iexists _; iexact HG
  isplitl [HH]; · iexists _; iexact HH
  isplitl [HD]; · iexists _; iexact HD
  isplitl [HQ]; · iexact HQ
  iexact HO

/-- The scratch buffers, at anything. -/
def scr (c : Dev nD) : sProp 𝕄 :=
  iprop((∃ f, xPt c 0 18432 f)
    ∗ (∃ f, s1Pt c f) ∗ (∃ f, s2Pt c f) ∗ (∃ f, topV.view.loc (c : Thread nD τ) ↦{fullShare} f) ∗ (∃ f, mPt c f) ∗ (∃ f, gPt c f) ∗ (∃ f, hPt c f) ∗ (∃ f, dPt c f))

theorem Ist_first {X : CX F} {s : St F} : iprop(bigSep Finset.univ (inFlight c X) ∗ OW c ∗ stPt c s) ⊢ Ist c X 0 s := by
  unfold Ist
  rw [Ring.rangeSet_univ, Ring.bigSep_rangeSet_empty (le_refl 0), Nat.mul_zero]
  unfold xPt xmPt
  rw [rows_empty, pointsTo_empty, pointsTo_empty]
  iintro ⟨HF, HO, HT⟩
  isplitl [HF]; · iexact HF
  isplitl []; · iempintro
  isplitl []; · iempintro
  isplitl []; · iempintro
  isplitl [HO]; · iexact HO
  iexact HT
theorem Ist_last {X : CX F} {s : St F} : Ist c X 72 s ⊢ iprop(bigSep Finset.univ (sems c) ∗ xPt c 0 18432 X ∗ xmPt c 0 18432 X ∗ OW c ∗ stPt c s) := by
  unfold Ist
  rw [Ring.rangeSet_univ]
  iintro ⟨-, H⟩
  iexact H

/-- What the sums and extremes hold after the input has been read. -/
def kSt (gm : FVec F S1x1920 .f32) (X : CX F) : St F := stats1 gm X 36
theorem stats1_wp' {gm : FVec F S1x1920 .f32} {X : CX F} :
    Ist c X 36 (stats0 gm X 36) ⊢ WP c (Scf.Loop.for k0_t3_loop k0_t3_ok ⟨⟩ fun j _ => stat3 gm j) (fun _ => Ist c X 72 (kSt gm X)) := stats1_wp

theorem model_wp {sc : FVec F S2x32 .f32} {gm bt : FVec F S1x1920 .f32} {arg1 : Memref sig .tc .vmem S2x32 .f32} {arg2 arg3 : Memref sig .tc .vmem S1x1920 .f32}
    {arg5 : Memref sig .tc .smem S1x1 .f32} {harg5 : arg5.IsWhole} {d5 : S1x1.Idx → Elt F .f32} {X f : CX F} :
    iprop(owns (c : Thread nD τ) arg1 fullShare sc ∗ owns (c : Thread nD τ) arg2 fullShare gm ∗ owns (c : Thread nD τ) arg3 fullShare bt ∗ owns (c : Thread nD τ) arg5 fullShare d5
        ∗ xmPt c 0 18432 X ∗ ymPt c 0 18432 f ∗ scr c ∗ bigSep Finset.univ (sems c) ∗ outQ c ∗ OW c)
      ⊢ WP c (model arg1 arg2 arg3 arg5 harg5) (fun _ => iprop(owns (c : Thread nD τ) arg1 fullShare sc ∗ owns (c : Thread nD τ) arg2 fullShare gm ∗ owns (c : Thread nD τ) arg3 fullShare bt
        ∗ owns (c : Thread nD τ) arg5 fullShare (fun _ => kScale sc (row1 gm) (row1 bt) (kSt (row1 gm) X) X)
        ∗ xmPt c 0 18432 X ∗ ymPt c 0 18432 (kCodes sc (row1 gm) (row1 bt) (kSt (row1 gm) X) X) ∗ scr c ∗ bigSep Finset.univ (sems c) ∗ outQ c ∗ OW c)) := by
  rw [model_eq]
  unfold scr
  iintro ⟨HSC, HGM, HBT, H5, HXM, HYM, ⟨⟨%x0, HX⟩, ⟨%a1, H1⟩, ⟨%a2, H2⟩, ⟨%a3, HT⟩, HM, HG, HH, HD⟩, HS, HQ, HO⟩
  iapply wp_seq; iapply wp_weaken
  isplitl [HX HXM HS]
  · iapply inCopies_wp
    isplitl [HX]; · iexact HX
    isplitl [HXM]; · iexact HXM
    iexact HS
  iintro %_ HF
  iapply wp_seq; iapply ldO_wp; isplitl [HGM]; · iexact HGM
  iintro HGM
  rw [row_eq']
  iapply wp_seq; iapply ldO_wp; isplitl [HBT]; · iexact HBT
  iintro HBT
  rw [row_eq']
  iapply wp_seq; iapply zero3_s1V; isplitl [H1]; · iexact H1
  iintro H1
  iapply wp_seq; iapply zero3_s2V; isplitl [H2]; · iexact H2
  iintro H2
  iapply wp_seq; iapply zeroTop_wp; isplitl [HT]; · iexact HT
  iintro HT
  ihave HST := (show iprop((s1V.view.loc (c : Thread nD τ) ↦{fullShare} (broadcast S2x16x1920 (Scalar.ofBits .f32 0x00000000#32) : C3 F)) ∗ (s2V.view.loc (c : Thread nD τ) ↦{fullShare} (broadcast S2x16x1920 (Scalar.ofBits .f32 0x00000000#32) : C3 F))
      ∗ (topV.view.loc (c : Thread nD τ) ↦{fullShare} (broadcast S2x16x1920 (Scalar.ofBits .bf16 0xFF80#16) : C3B F))) ⊢ stPt c (St.init (F := F)) from .rfl) $$ [H1 H2 HT]
  · isplitl [H1]; · iexact H1
    isplitl [H2]; · iexact H2
    iexact HT
  iapply wp_seq; iapply wp_weaken
  isplitl [HF HO HST]
  · iapply stats0_wp
    iapply Ist_first
    isplitl [HF]; · iexact HF
    isplitl [HO]; · iexact HO
    iexact HST
  iintro %_ H
  iapply wp_seq; iapply wp_weaken
  isplitl [H]
  · iapply stats1_wp'; iexact H
  iintro %_ H
  ihave H := Ist_last $$ H
  icases H with ⟨HS, HX, HXM, HO, HST⟩
  iapply wp_weaken
  isplitl [HST HSC H5 HX HYM HM HG HH HD HQ HO]
  · iapply mid_wp
    isplitl [HST]; · iexact HST
    isplitl [HSC]; · iexact HSC
    isplitl [H5]; · iexact H5
    isplitl [HX]; · iexact HX
    isplitl [HYM]; · iexact HYM
    isplitl [HM]; · iexact HM
    isplitl [HG]; · iexact HG
    isplitl [HH]; · iexact HH
    isplitl [HD]; · iexact HD
    isplitl [HQ]; · iexact HQ
    iexact HO
  iintro %_ ⟨H1, H2, HT, HSC, H5, HX, HYM, HM, HG, HH, HD, HQ, HO⟩
  isplitl [HSC]; · iexact HSC
  isplitl [HGM]; · iexact HGM
  isplitl [HBT]; · iexact HBT
  isplitl [H5]; · iexact H5
  isplitl [HXM]; · iexact HXM
  isplitl [HYM]; · iexact HYM
  isplitl [HX H1 H2 HT HM HG HH HD]
  · isplitl [HX]; · iexact HX
    isplitl [H1]; · iexact H1
    isplitl [H2]; · iexact H2
    isplitl [HT]; · iexact HT
    isplitl [HM]; · iexact HM
    isplitl [HG]; · iexact HG
    isplitl [HH]; · iexact HH
    iexact HD
  isplitl [HS]; · iexact HS
  isplitl [HQ]; · iexact HQ
  iexact HO

end Cert.KernelIdeal.Hand
end
end
-- ==== Proof.Frame.lean ====
/-
  The kernel's program run whole: its arguments unchanged, every semaphore back at zero, and what its two results hold.
-/
module
public import proofs.«01_k».proof.Proof.Body
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers and semaphores the body uses beside the staged operands -/

/-- The body's own semaphores: one per chunk copied in, and one for the copies out. -/
def osem0 : Fin 72 ⊕ Unit → SemLoc sig
  | .inl j => SemLoc.dma (inSem j.val j.isLt)
  | .inr _ => SemLoc.dma outSem
theorem ownSemFacts0 : Pipeline.OwnSemFacts spec0 osem0 := by decide +kernel

theorem ownSems_eq (c : Dev nD) :
    (Pipeline.ownSems0 (Ix := Unit) (Name := ℕ) (U := Pipeline.UD sig nD τ) (Lvl := ℕ) (Val := Elt F) (τ := τ) osem0 c : sProp 𝕄)
      = iprop(bigSep Finset.univ (sems c) ∗ outQ c) := by
  unfold Pipeline.ownSems0
  rw [BI.bigSep_univ_sum, BI.bigSep_univ_of_subsingleton ()]
  unfold outQ
  rw [outSem_eq]
  rfl

/-- The array read by the copies in, and the result written by the copies out. -/
def H0 : Finset (Ref sig .tc) := {main_v0}
def R0 : Finset (Ref sig .tc) := {main_v3_0}
theorem H0_sub : H0 ⊆ Pipeline.restRefs sig spec0 := by decide
theorem R0_sub : R0 ⊆ Pipeline.restRefs sig spec0 \ H0 := by decide

theorem xmPt_all {c : Dev nD} {Y : CX F} : (xmPt c 0 18432 Y) = iprop(((c : Thread nD τ).loc main_v0) ↦{fullShare} Y) := by
  unfold xmPt; rw [rows_all]
theorem ymPt_all {c : Dev nD} {Y : CX F} : (ymPt c 0 18432 Y) = iprop(((c : Thread nD τ).loc main_v3_0) ↦{fullShare} Y) := by
  unfold ymPt; rw [rows_all]

theorem scr_eq (c : Dev nD) : (Pipeline.scopedRest (Ix := Unit) (Name := ℕ) (U := Pipeline.UD sig nD τ) (Lvl := ℕ) (Val := Elt F) spec0 c : sProp 𝕄) = scr c := by
  rw [scopedRest0_eq]
  unfold scr xPt
  rw [rows_all]
  rfl

theorem Phi_eq (G : (c : Dev nD) → (b : Ref sig .tc) → Buf (Elt F) ((c.tc : Thread nD τ).loc b)) (c : Dev nD) :
    (Pipeline.ΦDRG osem0 spec0 H0 R0 (V m) G c : sProp 𝕄)
      = iprop(scr c ∗ (∃ r, prngReg c r) ∗ iprop(bigSep Finset.univ (sems c) ∗ outQ c) ∗ xmPt c 0 18432 (V m c main_v0) ∗ ymPt c 0 18432 (G c main_v3_0)) := by
  rw [Pipeline.ΦDRG_eq, scr_eq, ownSems_eq, xmPt_all, ymPt_all]
  unfold Pipeline.routed H0 R0
  rw [bigSep_singleton, bigSep_singleton]

/-! ## The proof data -/

abbrev opS (c : Dev nD) (t : Fin cfg0.N) : FVec F S2x32 .f32 := iblk m c 0 t
abbrev opG (c : Dev nD) (t : Fin cfg0.N) : FVec F S1x1920 .f32 := iblk m c 1 t
abbrev opB (c : Dev nD) (t : Fin cfg0.N) : FVec F S1x1920 .f32 := iblk m c 2 t
abbrev opX (c : Dev nD) : CX F := V m c main_v0

/-- The two results. -/
def outCodes (c : Dev nD) (t : Fin cfg0.N) : CX F :=
  kCodes (opS m c t) (row1 (opG m c t)) (row1 (opB m c t)) (kSt (row1 (opG m c t)) (opX m c)) (opX m c)
def outScale (c : Dev nD) (t : Fin cfg0.N) : F .f32 :=
  kScale (opS m c t) (row1 (opG m c t)) (row1 (opB m c t)) (kSt (row1 (opG m c t)) (opX m c)) (opX m c)

/-- What the unstaged buffers hold at the end. -/
def endV (c : Dev nD) : (b : Ref sig .tc) → Buf (Elt F) ((c.tc : Thread nD τ).loc b) := Function.update (V m c) main_v3_0 (outCodes m c t0_0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => outScale m c t
  Φ t := Pipeline.ΦDRG osem0 spec0 H0 R0 (V m) (if t = 0 then V m else endV m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fun _ => outScale m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

abbrev ms0 (t : Fin cfg0.N) : Memref sig .tc .vmem S2x32 .f32 := win0_0.stage (cfg0.slots t 0)
abbrev ms1 (t : Fin cfg0.N) : Memref sig .tc .vmem S1x1920 .f32 := win0_1.stage (cfg0.slots t 1)
abbrev ms2 (t : Fin cfg0.N) : Memref sig .tc .vmem S1x1920 .f32 := win0_2.stage (cfg0.slots t 2)
abbrev ms3 (t : Fin cfg0.N) : Memref sig .tc .smem S1x1 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem Phi_first (c : Dev nD) (t : Fin cfg0.N) : (dats m 0 c).Φ t.castSucc = Pipeline.ΦDRG osem0 spec0 H0 R0 (V m) (V m) c := by
  rw [show t.castSucc = 0 by rw [fin_N0 t]; rfl]; dsimp only [dats]; rw [if_pos rfl]
theorem Phi_last (c : Dev nD) (t : Fin cfg0.N) : (dats m 0 c).Φ t.succ = Pipeline.ΦDRG osem0 spec0 H0 R0 (V m) (endV m) c := by
  dsimp only [dats]; rw [if_neg (Fin.succ_ne_zero t)]
theorem endV_self (c : Dev nD) (t : Fin cfg0.N) : endV m c main_v3_0 = outCodes m c t := by
  rw [fin_N0 t]; unfold endV; rw [Function.update_self]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, Phi_eq, Phi_eq, endV_self m c t, after0_0, after0_1, after0_2, after0_3]
  unfold Dat.owesAt Pipeline.owesWithin
  rw [show (dats m 0 c).owed t.castSucc = 0 from rfl, show (dats m 0 c).owed t.succ = 0 from rfl]
  have h := fun d5 => model_wp (c := c) (d5 := d5) (sc := opS m c t) (gm := opG m c t) (bt := opB m c t) (arg1 := ms0 t) (arg2 := ms1 t) (arg3 := ms2 t) (arg5 := ms3 t) (harg5 := hstage0_3 0)
    (X := opX m c) (f := V m c main_v3_0)
  simp only [← cc0_eq (ms0 t) (hstage0_0 0) (ms1 t) (hstage0_1 0) (ms2 t) (hstage0_2 0) (ms3 t) (hstage0_3 0)] at h
  iintro ⟨⟨HS, Hg, ⟨HQ, HR⟩, HX, HY⟩, ⟨%W, -, HW⟩, ⟨%d0, H0⟩, ⟨%d1, H1⟩, ⟨%d2, H2⟩, ⟨%d3, H3⟩⟩
  rw [before0_0, before0_1, before0_2]
  iapply wp_weaken
  isplitl [HS HQ HR HX HY HW H0 H1 H2 H3]
  · iapply h
    isplitl [H0]; · iexact H0
    isplitl [H1]; · iexact H1
    isplitl [H2]; · iexact H2
    isplitl [H3]; · iexact H3
    isplitl [HX]; · iexact HX
    isplitl [HY]; · iexact HY
    isplitl [HS]; · iexact HS
    isplitl [HQ]; · iexact HQ
    isplitl [HR]; · iexact HR
    iexists W; iexact HW
  iintro %_ ⟨H0, H1, H2, H3, HX, HY, HS, HQ, HR, ⟨%W', HW⟩⟩
  isplitl [HS Hg HQ HR HX HY]
  · isplitl [HS]; · iexact HS
    isplitl [Hg]; · iexact Hg
    isplitl [HQ HR]
    · isplitl [HQ]; · iexact HQ
      iexact HR
    isplitl [HX]; · iexact HX
    iexact HY
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame, the results -/

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (endV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := endV m)
    (hin := fun c => Entails.of_eq (Phi_first m c t0_0).symm) (hout := fun c => Entails.of_eq (Phi_last m c t0_0)) (hQ' := fun _ h => h)

/-- The frame and the results. -/
theorem results : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3_0) = outCodes m c t0_0
      ∧ r.2.mem ((c.tc : Thread nD τ).loc main_v3_1) = (dats m 0 c).arrAt 3 (Fin.last cfg0.N))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      (h.1.written c (by decide)).trans (endV_self m c t0_0),
      (h.1.toR c).1 3⟩, h.2⟩) (run_main m ρ)

/-- The frame: the run ends, the arguments are unchanged, every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (results m ρ)

end Cert.KernelIdeal.Hand
end
end
-- ==== Proof.KModel.lean ====
/-
  The kernel of the launch, written once more as a short structured program: the loops over tiles are recursions
  over the list of tiles, and the vectors between the loads and the stores have names. `cc0_eq` says that the
  printed kernel, at the buffers the launch passes it, is this program.
-/
module
public import proofs.«01_k».proof.Kernel
public import Idealize.ShloMosaic.Lib.Tactic
@[expose] public section
noncomputable section
namespace Cert.Kernel.Hand
open Cert.Kernel
open Idealize.ShloMosaic Idealize.SL.Sem Idealize.ShloMosaic.Tactic
variable {F : FTy → Type} [FloatOps F]
variable [Facts]
open Facts₀ Facts

/-- A program of the kernel. -/
abbrev PP (F : FTy → Type) [FloatOps F] (α : Type) := Prog (TpuEff nD τ sig (Elt F) Λ₀ .tc) α

/-- One program after another, along a list. -/
def seqL {α : Type} (f : α → PP F PUnit) : List α → PP F PUnit
  | [] => .ret ⟨⟩
  | a :: l => f a >>= fun _ => seqL f l

def fin8 : List (Fin 8) := [0, 1, 2, 3, 4, 5, 6, 7]
def fin7 : List (Fin 8) := [1, 2, 3, 4, 5, 6, 7]
def fin15 : List (Fin 15) := [0, 1, 2, 3, 4, 5, 6, 7, 8, 9, 10, 11, 12, 13, 14]

/-! ## The buffers and the rectangles of the accesses -/

/-- The input as 18432 rows, the codes, and the scratch buffers: the input's copy, the two sums, the largest signed
    input, the means, gains and biases of each channel, the mean squared deviation of each group. -/
abbrev xM : Memref sig .tc .hbm S18432x1920 .fp8e4m3 := Memref.whole main_v0
abbrev yM : Memref sig .tc .hbm S18432x1920 .fp8e4m3 := Memref.whole main_v3_0
abbrev xV : Memref sig .tc .vmem S18432x1920 .fp8e4m3 := Memref.whole cc0_scratch0
abbrev s1V : Memref sig .tc .vmem S2x16x1920 .f32 := Memref.whole cc0_scratch1
abbrev s2V : Memref sig .tc .vmem S2x16x1920 .f32 := Memref.whole cc0_scratch2
abbrev topV : Memref sig .tc .vmem S2x16x1920 .bf16 := Memref.whole cc0_scratch3
abbrev meanV : Memref sig .tc .vmem S2x1920 .f32 := Memref.whole cc0_scratch4
abbrev gainV : Memref sig .tc .vmem S2x1920 .f32 := Memref.whole cc0_scratch5
abbrev biasV : Memref sig .tc .vmem S2x1920 .f32 := Memref.whole cc0_scratch6
abbrev devV : Memref sig .tc .vmem S2x32 .f32 := Memref.whole cc0_scratch7

abbrev rx (off : Fin 2 → Nat) (inb : ∀ a, off a + S32x128.size a ≤ S18432x1920.size a) : Rect S18432x1920 :=
  Rect.unit (s := S18432x1920) off S32x128.size inb
abbrev rchunk (off : Fin 2 → Nat) (inb : ∀ a, off a + S256x1920.size a ≤ S18432x1920.size a) : Rect S18432x1920 :=
  Rect.unit (s := S18432x1920) off S256x1920.size inb

theorem lane_inb (b : Fin 2) (t : Fin 15) : ∀ a, (![b.val, 128 * t.val] : Fin 2 → Nat) a + S1x128.size a ≤ S2x1920.size a := by
  revert b t; decide
abbrev lane (b : Fin 2) (t : Fin 15) : Rect S2x1920 :=
  Rect.unit (s := S2x1920) ![b.val, 128 * t.val] S1x128.size (lane_inb b t)
theorem tile3_inb (b : Fin 2) (t : Fin 15) : ∀ a, (![b.val, 0, 128 * t.val] : Fin 3 → Nat) a + S1x16x128.size a ≤ S2x16x1920.size a := by
  revert b t; decide
abbrev tile3 (b : Fin 2) (t : Fin 15) : Rect S2x16x1920 :=
  Rect.unit (s := S2x16x1920) ![b.val, 0, 128 * t.val] S1x16x128.size (tile3_inb b t)
theorem tile3_packed (b : Fin 2) (t : Fin 15) : (tile3 b t).PackedRows (EltTy.packing .bf16) :=
  match b, t with
  | 0, 0 => packedbf16_S2x16x1920_S1x16x128_0_0_0
  | 0, 1 => packedbf16_S2x16x1920_S1x16x128_0_0_128
  | 0, 2 => packedbf16_S2x16x1920_S1x16x128_0_0_256
  | 0, 3 => packedbf16_S2x16x1920_S1x16x128_0_0_384
  | 0, 4 => packedbf16_S2x16x1920_S1x16x128_0_0_512
  | 0, 5 => packedbf16_S2x16x1920_S1x16x128_0_0_640
  | 0, 6 => packedbf16_S2x16x1920_S1x16x128_0_0_768
  | 0, 7 => packedbf16_S2x16x1920_S1x16x128_0_0_896
  | 0, 8 => packedbf16_S2x16x1920_S1x16x128_0_0_1024
  | 0, 9 => packedbf16_S2x16x1920_S1x16x128_0_0_1152
  | 0, 10 => packedbf16_S2x16x1920_S1x16x128_0_0_1280
  | 0, 11 => packedbf16_S2x16x1920_S1x16x128_0_0_1408
  | 0, 12 => packedbf16_S2x16x1920_S1x16x128_0_0_1536
  | 0, 13 => packedbf16_S2x16x1920_S1x16x128_0_0_1664
  | 0, 14 => packedbf16_S2x16x1920_S1x16x128_0_0_1792
  | 1, 0 => packedbf16_S2x16x1920_S1x16x128_1_0_0
  | 1, 1 => packedbf16_S2x16x1920_S1x16x128_1_0_128
  | 1, 2 => packedbf16_S2x16x1920_S1x16x128_1_0_256
  | 1, 3 => packedbf16_S2x16x1920_S1x16x128_1_0_384
  | 1, 4 => packedbf16_S2x16x1920_S1x16x128_1_0_512
  | 1, 5 => packedbf16_S2x16x1920_S1x16x128_1_0_640
  | 1, 6 => packedbf16_S2x16x1920_S1x16x128_1_0_768
  | 1, 7 => packedbf16_S2x16x1920_S1x16x128_1_0_896
  | 1, 8 => packedbf16_S2x16x1920_S1x16x128_1_0_1024
  | 1, 9 => packedbf16_S2x16x1920_S1x16x128_1_0_1152
  | 1, 10 => packedbf16_S2x16x1920_S1x16x128_1_0_1280
  | 1, 11 => packedbf16_S2x16x1920_S1x16x128_1_0_1408
  | 1, 12 => packedbf16_S2x16x1920_S1x16x128_1_0_1536
  | 1, 13 => packedbf16_S2x16x1920_S1x16x128_1_0_1664
  | 1, 14 => packedbf16_S2x16x1920_S1x16x128_1_0_1792
abbrev whole3 : Rect S2x16x1920 := Rect.unit (s := S2x16x1920) ![0, 0, 0] S2x16x1920.size inb_S2x16x1920_S2x16x1920_0_0_0
abbrev whole2 : Rect S2x1920 := Rect.unit (s := S2x1920) ![0, 0] S2x1920.size inb_S2x1920_S2x1920_0_0
abbrev wholeG : Rect S2x32 := Rect.unit (s := S2x32) ![0, 0] S2x32.size inb_S2x32_S2x32_0_0
abbrev whole1 : Rect S1x1920 := Rect.unit (s := S1x1920) ![0, 0] S1x1920.size inb_S1x1920_S1x1920_0_0
abbrev wholeS : Rect S1x1 := Rect.unit (s := S1x1) ![0, 0] S1x1.size inb_S1x1_S1x1_0_0

theorem slice1 (t : Fin 15) : S1x1920.Slices ![0, 128 * t.val] S1x128 :=
  match t with
  | 0 => slices_S1x1920_o0_0_S1x128
  | 1 => slices_S1x1920_o0_128_S1x128
  | 2 => slices_S1x1920_o0_256_S1x128
  | 3 => slices_S1x1920_o0_384_S1x128
  | 4 => slices_S1x1920_o0_512_S1x128
  | 5 => slices_S1x1920_o0_640_S1x128
  | 6 => slices_S1x1920_o0_768_S1x128
  | 7 => slices_S1x1920_o0_896_S1x128
  | 8 => slices_S1x1920_o0_1024_S1x128
  | 9 => slices_S1x1920_o0_1152_S1x128
  | 10 => slices_S1x1920_o0_1280_S1x128
  | 11 => slices_S1x1920_o0_1408_S1x128
  | 12 => slices_S1x1920_o0_1536_S1x128
  | 13 => slices_S1x1920_o0_1664_S1x128
  | 14 => slices_S1x1920_o0_1792_S1x128

def off2 (j : Fin k0_t2_loop.trips) (t : Fin 15) (r : Fin 8) : Fin 2 → Nat :=
  match t with
  | 0 => k0_off5 j (BitVec.ofNat 32 (32 * r.val))
  | 1 => k0_off6 j (BitVec.ofNat 32 (32 * r.val))
  | 2 => k0_off7 j (BitVec.ofNat 32 (32 * r.val))
  | 3 => k0_off8 j (BitVec.ofNat 32 (32 * r.val))
  | 4 => k0_off9 j (BitVec.ofNat 32 (32 * r.val))
  | 5 => k0_off10 j (BitVec.ofNat 32 (32 * r.val))
  | 6 => k0_off11 j (BitVec.ofNat 32 (32 * r.val))
  | 7 => k0_off12 j (BitVec.ofNat 32 (32 * r.val))
  | 8 => k0_off13 j (BitVec.ofNat 32 (32 * r.val))
  | 9 => k0_off14 j (BitVec.ofNat 32 (32 * r.val))
  | 10 => k0_off15 j (BitVec.ofNat 32 (32 * r.val))
  | 11 => k0_off16 j (BitVec.ofNat 32 (32 * r.val))
  | 12 => k0_off17 j (BitVec.ofNat 32 (32 * r.val))
  | 13 => k0_off18 j (BitVec.ofNat 32 (32 * r.val))
  | 14 => k0_off19 j (BitVec.ofNat 32 (32 * r.val))
theorem off2_inb (j : Fin k0_t2_loop.trips) (t : Fin 15) (r : Fin 8) : ∀ a, off2 j t r a + S32x128.size a ≤ S18432x1920.size a :=
  match t with
  | 0 => k0_off5_inb j r
  | 1 => k0_off6_inb j r
  | 2 => k0_off7_inb j r
  | 3 => k0_off8_inb j r
  | 4 => k0_off9_inb j r
  | 5 => k0_off10_inb j r
  | 6 => k0_off11_inb j r
  | 7 => k0_off12_inb j r
  | 8 => k0_off13_inb j r
  | 9 => k0_off14_inb j r
  | 10 => k0_off15_inb j r
  | 11 => k0_off16_inb j r
  | 12 => k0_off17_inb j r
  | 13 => k0_off18_inb j r
  | 14 => k0_off19_inb j r

def off3 (j : Fin k0_t3_loop.trips) (t : Fin 15) (r : Fin 8) : Fin 2 → Nat :=
  match t with
  | 0 => k0_off22 j (BitVec.ofNat 32 (32 * r.val))
  | 1 => k0_off23 j (BitVec.ofNat 32 (32 * r.val))
  | 2 => k0_off24 j (BitVec.ofNat 32 (32 * r.val))
  | 3 => k0_off25 j (BitVec.ofNat 32 (32 * r.val))
  | 4 => k0_off26 j (BitVec.ofNat 32 (32 * r.val))
  | 5 => k0_off27 j (BitVec.ofNat 32 (32 * r.val))
  | 6 => k0_off28 j (BitVec.ofNat 32 (32 * r.val))
  | 7 => k0_off29 j (BitVec.ofNat 32 (32 * r.val))
  | 8 => k0_off30 j (BitVec.ofNat 32 (32 * r.val))
  | 9 => k0_off31 j (BitVec.ofNat 32 (32 * r.val))
  | 10 => k0_off32 j (BitVec.ofNat 32 (32 * r.val))
  | 11 => k0_off33 j (BitVec.ofNat 32 (32 * r.val))
  | 12 => k0_off34 j (BitVec.ofNat 32 (32 * r.val))
  | 13 => k0_off35 j (BitVec.ofNat 32 (32 * r.val))
  | 14 => k0_off36 j (BitVec.ofNat 32 (32 * r.val))
theorem off3_inb (j : Fin k0_t3_loop.trips) (t : Fin 15) (r : Fin 8) : ∀ a, off3 j t r a + S32x128.size a ≤ S18432x1920.size a :=
  match t with
  | 0 => k0_off22_inb j r
  | 1 => k0_off23_inb j r
  | 2 => k0_off24_inb j r
  | 3 => k0_off25_inb j r
  | 4 => k0_off26_inb j r
  | 5 => k0_off27_inb j r
  | 6 => k0_off28_inb j r
  | 7 => k0_off29_inb j r
  | 8 => k0_off30_inb j r
  | 9 => k0_off31_inb j r
  | 10 => k0_off32_inb j r
  | 11 => k0_off33_inb j r
  | 12 => k0_off34_inb j r
  | 13 => k0_off35_inb j r
  | 14 => k0_off36_inb j r

def off4 (j : Fin k0_t4_loop.trips) (t : Fin 15) : Fin 2 → Nat :=
  match t with
  | 0 => k0_off37 j
  | 1 => k0_off38 j
  | 2 => k0_off39 j
  | 3 => k0_off40 j
  | 4 => k0_off41 j
  | 5 => k0_off42 j
  | 6 => k0_off43 j
  | 7 => k0_off44 j
  | 8 => k0_off45 j
  | 9 => k0_off46 j
  | 10 => k0_off47 j
  | 11 => k0_off48 j
  | 12 => k0_off49 j
  | 13 => k0_off50 j
  | 14 => k0_off51 j
theorem off4_inb (j : Fin k0_t4_loop.trips) (t : Fin 15) : ∀ a, off4 j t a + S32x128.size a ≤ S18432x1920.size a :=
  match t with
  | 0 => k0_off37_inb j
  | 1 => k0_off38_inb j
  | 2 => k0_off39_inb j
  | 3 => k0_off40_inb j
  | 4 => k0_off41_inb j
  | 5 => k0_off42_inb j
  | 6 => k0_off43_inb j
  | 7 => k0_off44_inb j
  | 8 => k0_off45_inb j
  | 9 => k0_off46_inb j
  | 10 => k0_off47_inb j
  | 11 => k0_off48_inb j
  | 12 => k0_off49_inb j
  | 13 => k0_off50_inb j
  | 14 => k0_off51_inb j

def off5 (j : Fin k0_t5_loop.trips) (t : Fin 15) : Fin 2 → Nat :=
  match t with
  | 0 => k0_off52 j
  | 1 => k0_off53 j
  | 2 => k0_off54 j
  | 3 => k0_off55 j
  | 4 => k0_off56 j
  | 5 => k0_off57 j
  | 6 => k0_off58 j
  | 7 => k0_off59 j
  | 8 => k0_off60 j
  | 9 => k0_off61 j
  | 10 => k0_off62 j
  | 11 => k0_off63 j
  | 12 => k0_off64 j
  | 13 => k0_off65 j
  | 14 => k0_off66 j
theorem off5_inb (j : Fin k0_t5_loop.trips) (t : Fin 15) : ∀ a, off5 j t a + S32x128.size a ≤ S18432x1920.size a :=
  match t with
  | 0 => k0_off52_inb j
  | 1 => k0_off53_inb j
  | 2 => k0_off54_inb j
  | 3 => k0_off55_inb j
  | 4 => k0_off56_inb j
  | 5 => k0_off57_inb j
  | 6 => k0_off58_inb j
  | 7 => k0_off59_inb j
  | 8 => k0_off60_inb j
  | 9 => k0_off61_inb j
  | 10 => k0_off62_inb j
  | 11 => k0_off63_inb j
  | 12 => k0_off64_inb j
  | 13 => k0_off65_inb j
  | 14 => k0_off66_inb j

def off6 (j : Fin k0_t6_loop.trips) (t : Fin 15) : Fin 2 → Nat :=
  match t with
  | 0 => k0_off67 j
  | 1 => k0_off68 j
  | 2 => k0_off69 j
  | 3 => k0_off70 j
  | 4 => k0_off71 j
  | 5 => k0_off72 j
  | 6 => k0_off73 j
  | 7 => k0_off74 j
  | 8 => k0_off75 j
  | 9 => k0_off76 j
  | 10 => k0_off77 j
  | 11 => k0_off78 j
  | 12 => k0_off79 j
  | 13 => k0_off80 j
  | 14 => k0_off81 j
theorem off6_inb (j : Fin k0_t6_loop.trips) (t : Fin 15) : ∀ a, off6 j t a + S32x128.size a ≤ S18432x1920.size a :=
  match t with
  | 0 => k0_off67_inb j
  | 1 => k0_off68_inb j
  | 2 => k0_off69_inb j
  | 3 => k0_off70_inb j
  | 4 => k0_off71_inb j
  | 5 => k0_off72_inb j
  | 6 => k0_off73_inb j
  | 7 => k0_off74_inb j
  | 8 => k0_off75_inb j
  | 9 => k0_off76_inb j
  | 10 => k0_off77_inb j
  | 11 => k0_off78_inb j
  | 12 => k0_off79_inb j
  | 13 => k0_off80_inb j
  | 14 => k0_off81_inb j

def off7 (j : Fin k0_t7_loop.trips) (t : Fin 15) : Fin 2 → Nat :=
  match t with
  | 0 => k0_off82 j
  | 1 => k0_off83 j
  | 2 => k0_off84 j
  | 3 => k0_off85 j
  | 4 => k0_off86 j
  | 5 => k0_off87 j
  | 6 => k0_off88 j
  | 7 => k0_off89 j
  | 8 => k0_off90 j
  | 9 => k0_off91 j
  | 10 => k0_off92 j
  | 11 => k0_off93 j
  | 12 => k0_off94 j
  | 13 => k0_off95 j
  | 14 => k0_off96 j
theorem off7_inb (j : Fin k0_t7_loop.trips) (t : Fin 15) : ∀ a, off7 j t a + S32x128.size a ≤ S18432x1920.size a :=
  match t with
  | 0 => k0_off82_inb j
  | 1 => k0_off83_inb j
  | 2 => k0_off84_inb j
  | 3 => k0_off85_inb j
  | 4 => k0_off86_inb j
  | 5 => k0_off87_inb j
  | 6 => k0_off88_inb j
  | 7 => k0_off89_inb j
  | 8 => k0_off90_inb j
  | 9 => k0_off91_inb j
  | 10 => k0_off92_inb j
  | 11 => k0_off93_inb j
  | 12 => k0_off94_inb j
  | 13 => k0_off95_inb j
  | 14 => k0_off96_inb j

def off8 (j : Fin k0_t8_loop.trips) (t : Fin 15) (r : Fin 8) : Fin 2 → Nat :=
  match t with
  | 0 => k0_off97 j (BitVec.ofNat 32 (32 * r.val))
  | 1 => k0_off98 j (BitVec.ofNat 32 (32 * r.val))
  | 2 => k0_off99 j (BitVec.ofNat 32 (32 * r.val))
  | 3 => k0_off100 j (BitVec.ofNat 32 (32 * r.val))
  | 4 => k0_off101 j (BitVec.ofNat 32 (32 * r.val))
  | 5 => k0_off102 j (BitVec.ofNat 32 (32 * r.val))
  | 6 => k0_off103 j (BitVec.ofNat 32 (32 * r.val))
  | 7 => k0_off104 j (BitVec.ofNat 32 (32 * r.val))
  | 8 => k0_off105 j (BitVec.ofNat 32 (32 * r.val))
  | 9 => k0_off106 j (BitVec.ofNat 32 (32 * r.val))
  | 10 => k0_off107 j (BitVec.ofNat 32 (32 * r.val))
  | 11 => k0_off108 j (BitVec.ofNat 32 (32 * r.val))
  | 12 => k0_off109 j (BitVec.ofNat 32 (32 * r.val))
  | 13 => k0_off110 j (BitVec.ofNat 32 (32 * r.val))
  | 14 => k0_off111 j (BitVec.ofNat 32 (32 * r.val))
theorem off8_inb (j : Fin k0_t8_loop.trips) (t : Fin 15) (r : Fin 8) : ∀ a, off8 j t r a + S32x128.size a ≤ S18432x1920.size a :=
  match t with
  | 0 => k0_off97_inb j r
  | 1 => k0_off98_inb j r
  | 2 => k0_off99_inb j r
  | 3 => k0_off100_inb j r
  | 4 => k0_off101_inb j r
  | 5 => k0_off102_inb j r
  | 6 => k0_off103_inb j r
  | 7 => k0_off104_inb j r
  | 8 => k0_off105_inb j r
  | 9 => k0_off106_inb j r
  | 10 => k0_off107_inb j r
  | 11 => k0_off108_inb j r
  | 12 => k0_off109_inb j r
  | 13 => k0_off110_inb j r
  | 14 => k0_off111_inb j r

theorem off8_packed (j : Fin k0_t8_loop.trips) (t : Fin 15) (r : Fin 8) : (rx (off8 j t r) (off8_inb j t r)).PackedRows (EltTy.packing .fp8e4m3) :=
  match t with
  | 0 => k0_off97_packedfp8e4m3 j r
  | 1 => k0_off98_packedfp8e4m3 j r
  | 2 => k0_off99_packedfp8e4m3 j r
  | 3 => k0_off100_packedfp8e4m3 j r
  | 4 => k0_off101_packedfp8e4m3 j r
  | 5 => k0_off102_packedfp8e4m3 j r
  | 6 => k0_off103_packedfp8e4m3 j r
  | 7 => k0_off104_packedfp8e4m3 j r
  | 8 => k0_off105_packedfp8e4m3 j r
  | 9 => k0_off106_packedfp8e4m3 j r
  | 10 => k0_off107_packedfp8e4m3 j r
  | 11 => k0_off108_packedfp8e4m3 j r
  | 12 => k0_off109_packedfp8e4m3 j r
  | 13 => k0_off110_packedfp8e4m3 j r
  | 14 => k0_off111_packedfp8e4m3 j r

def off9 (j : Fin k0_t9_loop.trips) (t : Fin 15) (r : Fin 8) : Fin 2 → Nat :=
  match t with
  | 0 => k0_off113 j (BitVec.ofNat 32 (32 * r.val))
  | 1 => k0_off114 j (BitVec.ofNat 32 (32 * r.val))
  | 2 => k0_off115 j (BitVec.ofNat 32 (32 * r.val))
  | 3 => k0_off116 j (BitVec.ofNat 32 (32 * r.val))
  | 4 => k0_off117 j (BitVec.ofNat 32 (32 * r.val))
  | 5 => k0_off118 j (BitVec.ofNat 32 (32 * r.val))
  | 6 => k0_off119 j (BitVec.ofNat 32 (32 * r.val))
  | 7 => k0_off120 j (BitVec.ofNat 32 (32 * r.val))
  | 8 => k0_off121 j (BitVec.ofNat 32 (32 * r.val))
  | 9 => k0_off122 j (BitVec.ofNat 32 (32 * r.val))
  | 10 => k0_off123 j (BitVec.ofNat 32 (32 * r.val))
  | 11 => k0_off124 j (BitVec.ofNat 32 (32 * r.val))
  | 12 => k0_off125 j (BitVec.ofNat 32 (32 * r.val))
  | 13 => k0_off126 j (BitVec.ofNat 32 (32 * r.val))
  | 14 => k0_off127 j (BitVec.ofNat 32 (32 * r.val))
theorem off9_inb (j : Fin k0_t9_loop.trips) (t : Fin 15) (r : Fin 8) : ∀ a, off9 j t r a + S32x128.size a ≤ S18432x1920.size a :=
  match t with
  | 0 => k0_off113_inb j r
  | 1 => k0_off114_inb j r
  | 2 => k0_off115_inb j r
  | 3 => k0_off116_inb j r
  | 4 => k0_off117_inb j r
  | 5 => k0_off118_inb j r
  | 6 => k0_off119_inb j r
  | 7 => k0_off120_inb j r
  | 8 => k0_off121_inb j r
  | 9 => k0_off122_inb j r
  | 10 => k0_off123_inb j r
  | 11 => k0_off124_inb j r
  | 12 => k0_off125_inb j r
  | 13 => k0_off126_inb j r
  | 14 => k0_off127_inb j r

theorem off9_packed (j : Fin k0_t9_loop.trips) (t : Fin 15) (r : Fin 8) : (rx (off9 j t r) (off9_inb j t r)).PackedRows (EltTy.packing .fp8e4m3) :=
  match t with
  | 0 => k0_off113_packedfp8e4m3 j r
  | 1 => k0_off114_packedfp8e4m3 j r
  | 2 => k0_off115_packedfp8e4m3 j r
  | 3 => k0_off116_packedfp8e4m3 j r
  | 4 => k0_off117_packedfp8e4m3 j r
  | 5 => k0_off118_packedfp8e4m3 j r
  | 6 => k0_off119_packedfp8e4m3 j r
  | 7 => k0_off120_packedfp8e4m3 j r
  | 8 => k0_off121_packedfp8e4m3 j r
  | 9 => k0_off122_packedfp8e4m3 j r
  | 10 => k0_off123_packedfp8e4m3 j r
  | 11 => k0_off124_packedfp8e4m3 j r
  | 12 => k0_off125_packedfp8e4m3 j r
  | 13 => k0_off126_packedfp8e4m3 j r
  | 14 => k0_off127_packedfp8e4m3 j r

def off10 (j : Fin k0_t10_loop.trips) (k : Fin k0_t11_loop.trips) (t : Fin 15) : Fin 2 → Nat :=
  match t with
  | 0 => k0_off129 j k
  | 1 => k0_off130 j k
  | 2 => k0_off131 j k
  | 3 => k0_off132 j k
  | 4 => k0_off133 j k
  | 5 => k0_off134 j k
  | 6 => k0_off135 j k
  | 7 => k0_off136 j k
  | 8 => k0_off137 j k
  | 9 => k0_off138 j k
  | 10 => k0_off139 j k
  | 11 => k0_off140 j k
  | 12 => k0_off141 j k
  | 13 => k0_off142 j k
  | 14 => k0_off143 j k
theorem off10_inb (j : Fin k0_t10_loop.trips) (k : Fin k0_t11_loop.trips) (t : Fin 15) : ∀ a, off10 j k t a + S32x128.size a ≤ S18432x1920.size a :=
  match t with
  | 0 => k0_off129_inb j k
  | 1 => k0_off130_inb j k
  | 2 => k0_off131_inb j k
  | 3 => k0_off132_inb j k
  | 4 => k0_off133_inb j k
  | 5 => k0_off134_inb j k
  | 6 => k0_off135_inb j k
  | 7 => k0_off136_inb j k
  | 8 => k0_off137_inb j k
  | 9 => k0_off138_inb j k
  | 10 => k0_off139_inb j k
  | 11 => k0_off140_inb j k
  | 12 => k0_off141_inb j k
  | 13 => k0_off142_inb j k
  | 14 => k0_off143_inb j k

theorem off10_packed (j : Fin k0_t10_loop.trips) (k : Fin k0_t11_loop.trips) (t : Fin 15) : (rx (off10 j k t) (off10_inb j k t)).PackedRows (EltTy.packing .fp8e4m3) :=
  match t with
  | 0 => k0_off129_packedfp8e4m3 j k
  | 1 => k0_off130_packedfp8e4m3 j k
  | 2 => k0_off131_packedfp8e4m3 j k
  | 3 => k0_off132_packedfp8e4m3 j k
  | 4 => k0_off133_packedfp8e4m3 j k
  | 5 => k0_off134_packedfp8e4m3 j k
  | 6 => k0_off135_packedfp8e4m3 j k
  | 7 => k0_off136_packedfp8e4m3 j k
  | 8 => k0_off137_packedfp8e4m3 j k
  | 9 => k0_off138_packedfp8e4m3 j k
  | 10 => k0_off139_packedfp8e4m3 j k
  | 11 => k0_off140_packedfp8e4m3 j k
  | 12 => k0_off141_packedfp8e4m3 j k
  | 13 => k0_off142_packedfp8e4m3 j k
  | 14 => k0_off143_packedfp8e4m3 j k

def off12 (j : Fin k0_t12_loop.trips) (k : Fin k0_t13_loop.trips) (t : Fin 15) : Fin 2 → Nat :=
  match t with
  | 0 => k0_off145 j k
  | 1 => k0_off146 j k
  | 2 => k0_off147 j k
  | 3 => k0_off148 j k
  | 4 => k0_off149 j k
  | 5 => k0_off150 j k
  | 6 => k0_off151 j k
  | 7 => k0_off152 j k
  | 8 => k0_off153 j k
  | 9 => k0_off154 j k
  | 10 => k0_off155 j k
  | 11 => k0_off156 j k
  | 12 => k0_off157 j k
  | 13 => k0_off158 j k
  | 14 => k0_off159 j k
theorem off12_inb (j : Fin k0_t12_loop.trips) (k : Fin k0_t13_loop.trips) (t : Fin 15) : ∀ a, off12 j k t a + S32x128.size a ≤ S18432x1920.size a :=
  match t with
  | 0 => k0_off145_inb j k
  | 1 => k0_off146_inb j k
  | 2 => k0_off147_inb j k
  | 3 => k0_off148_inb j k
  | 4 => k0_off149_inb j k
  | 5 => k0_off150_inb j k
  | 6 => k0_off151_inb j k
  | 7 => k0_off152_inb j k
  | 8 => k0_off153_inb j k
  | 9 => k0_off154_inb j k
  | 10 => k0_off155_inb j k
  | 11 => k0_off156_inb j k
  | 12 => k0_off157_inb j k
  | 13 => k0_off158_inb j k
  | 14 => k0_off159_inb j k

theorem off12_packed (j : Fin k0_t12_loop.trips) (k : Fin k0_t13_loop.trips) (t : Fin 15) : (rx (off12 j k t) (off12_inb j k t)).PackedRows (EltTy.packing .fp8e4m3) :=
  match t with
  | 0 => k0_off145_packedfp8e4m3 j k
  | 1 => k0_off146_packedfp8e4m3 j k
  | 2 => k0_off147_packedfp8e4m3 j k
  | 3 => k0_off148_packedfp8e4m3 j k
  | 4 => k0_off149_packedfp8e4m3 j k
  | 5 => k0_off150_packedfp8e4m3 j k
  | 6 => k0_off151_packedfp8e4m3 j k
  | 7 => k0_off152_packedfp8e4m3 j k
  | 8 => k0_off153_packedfp8e4m3 j k
  | 9 => k0_off154_packedfp8e4m3 j k
  | 10 => k0_off155_packedfp8e4m3 j k
  | 11 => k0_off156_packedfp8e4m3 j k
  | 12 => k0_off157_packedfp8e4m3 j k
  | 13 => k0_off158_packedfp8e4m3 j k
  | 14 => k0_off159_packedfp8e4m3 j k

/-! ## The vectors -/

/-- Row by column: is the channel in the group? -/
def onehot : FVec F S1920x32 .f32 :=
  sitofp .f32 (extui 32 (andi
    (cmpi .sge (iota .tc S1920x32 32 [0] iota_S1920x32_d0_w32) (muli (iota .tc S1920x32 32 [1] iota_S1920x32_d1_w32) (broadcast S1920x32 60#32)))
    (cmpi .slt (iota .tc S1920x32 32 [0] iota_S1920x32_d0_w32) (muli (addi (iota .tc S1920x32 32 [1] iota_S1920x32_d1_w32) (broadcast S1920x32 1#32)) (broadcast S1920x32 60#32)))) natLt_1_32)

abbrev row1 (x : Vec F S1x1920 .f32) : FVec F S1x1920 .f32 := shapeCast S1x1920 x shapeCasts_S1x1920_S1x1920

/-- The sign of one lane tile of gamma: minus one where it is negative, one elsewhere. -/
def signv (gm : FVec F S1x1920 .f32) (t : Fin 15) : FVec F S1x128 .bf16 :=
  truncf .bf16 (select (cmpf .olt (extractStridedSlice S1x128 ![0, 128 * t.val] gm (slice1 t)) (broadcast S1x128 (Scalar.ofBits .f32 0x00000000#32)))
    (broadcast S1x128 (Scalar.ofBits .f32 0xBF800000#32)) (broadcast S1x128 (Scalar.ofBits .f32 0x3F800000#32))) bitsLt_bf16_f32

/-- Three running vectors: the sum, the sum of squares, the largest signed value. -/
structure Acc (F : FTy → Type) where
  s1 : FVec F S16x128 .f32
  s2 : FVec F S16x128 .f32
  tp : FVec F S16x128 .bf16

abbrev ones : FVec F S16x128 .f32 := broadcast S16x128 (Scalar.ofBits .f32 0x3F800000#32 : F .f32)
def lo16 (x : Vec F S32x128 .fp8e4m3) : FVec F S16x128 .bf16 := extractStridedSlice S16x128 ![0, 0] (extf .bf16 x bitsLt_fp8e4m3_bf16) slices_S32x128_o0_0_S16x128
def hi16 (x : Vec F S32x128 .fp8e4m3) : FVec F S16x128 .bf16 := extractStridedSlice S16x128 ![16, 0] (extf .bf16 x bitsLt_fp8e4m3_bf16) slices_S32x128_o16_0_S16x128
def accInit (sg : FVec F S1x128 .bf16) (h : FVec F S16x128 .bf16) : Acc F :=
  ⟨mulf (extf .f32 h bitsLt_bf16_f32) ones, mulf (extf .f32 h bitsLt_bf16_f32) (extf .f32 h bitsLt_bf16_f32), mulf h (broadcastTo S16x128 sg broadcasts_S1x128_S16x128)⟩
def accAdd (sg : FVec F S1x128 .bf16) (a : Acc F) (h : FVec F S16x128 .bf16) : Acc F :=
  ⟨addf a.s1 (mulf (extf .f32 h bitsLt_bf16_f32) ones), addf a.s2 (mulf (extf .f32 h bitsLt_bf16_f32) (extf .f32 h bitsLt_bf16_f32)),
    maximumf a.tp (mulf h (broadcastTo S16x128 sg broadcasts_S1x128_S16x128))⟩
def acc0 (sg : FVec F S1x128 .bf16) (x : Vec F S32x128 .fp8e4m3) : Acc F := accAdd sg (accInit sg (lo16 x)) (hi16 x)
def acc1 (sg : FVec F S1x128 .bf16) (a : Acc F) (x : Vec F S32x128 .fp8e4m3) : Acc F := accAdd sg (accAdd sg a (lo16 x)) (hi16 x)

abbrev up (v : Vec F S1x16x128 .f32) : FVec F S16x128 .f32 := shapeCast S16x128 v shapeCasts_S1x16x128_S16x128
abbrev down (v : FVec F S16x128 .f32) : FVec F S1x16x128 .f32 := shapeCast S1x16x128 v shapeCasts_S16x128_S1x16x128
abbrev upB (v : Vec F S1x16x128 .bf16) : FVec F S16x128 .bf16 := shapeCast S16x128 v shapeCasts_S1x16x128_S16x128
abbrev downB (v : FVec F S16x128 .bf16) : FVec F S1x16x128 .bf16 := shapeCast S1x16x128 v shapeCasts_S16x128_S1x16x128

/-- Sums of each channel, and a group's sum over its channels divided by the count. -/
def colsum (s : Vec F S2x16x1920 .f32) : FVec F S2x1920 .f32 := multiReduction .add [1] S2x1920 s 0x00000000#32 reduces_S2x16x1920_S2x1920 (.inl rfl) rfl
def gmean (s : Vec F S2x16x1920 .f32) : FVec F S2x32 .f32 :=
  divf (matmul dot_S2x1920_S1920x32_S2x32_1_0_0_1_n_n (some .fp32) (colsum s) onehot (constant S2x32 .f32 0x00000000#32)) (broadcast S2x32 (Scalar.ofBits .f32 0x49070000#32))
/-- A group's value at each of its channels. -/
def spread (g : FVec F S2x32 .f32) : FVec F S2x1920 .f32 :=
  matmul dot_S2x32_S1920x32_S2x1920_1_1_0_0_n_n (some .fp32) g onehot (constant S2x1920 .f32 0x00000000#32)
def coltop (s : Vec F S2x16x1920 .bf16) : FVec F S2x1920 .f32 :=
  multiReduction .maximumf [1] S2x1920 (extf .f32 s bitsLt_bf16_f32) 0xFF800000#32 reduces_S2x16x1920_S2x1920 (.inl rfl) rfl
def dev1 (m q : FVec F S2x32 .f32) : FVec F S2x32 .f32 := maximumf (subf q (mulf m m)) (broadcast S2x32 (Scalar.ofBits .f32 0x00000000#32))
/-- Is some group's mean square more than 256 times its variance plus epsilon? -/
def illv (sc : Vec F S2x32 .f32) (q d : FVec F S2x32 .f32) : BitVec 1 :=
  Scalar.cmpf .ogt (extractAt ![0, 0, 0] (shapeCast S1x1x1 (multiReduction .maximumf [1, 2] S1 (shapeCast S1x2x32
    (select (cmpf .ogt (mulf (mulf sc sc) q) (mulf (broadcast S2x32 (Scalar.ofBits .f32 0x43800000#32)) (addf (mulf (mulf sc sc) d) (broadcast S2x32 (Scalar.ofBits .f32 0x3727C5AC#32)))))
      (broadcast S2x32 (Scalar.ofBits .f32 0x3F800000#32)) (broadcast S2x32 (Scalar.ofBits .f32 0x00000000#32)) : FVec F S2x32 .f32) shapeCasts_S2x32_S1x2x32) 0xFF800000#32 reduces_S1x2x32_S1 (.inl rfl) rfl) shapeCasts_S1_S1x1x1) inpos_S1x1x1_p0_0_0)
    (Scalar.ofBits .f32 0x00000000#32)
def gainv (sc : Vec F S2x32 .f32) (d : FVec F S2x32 .f32) (gm : FVec F S1x1920 .f32) : FVec F S2x1920 .f32 :=
  mulf (spread (mulf sc (rsqrt (addf (mulf (mulf sc sc) d) (broadcast S2x32 (Scalar.ofBits .f32 0x3727C5AC#32)))))) (broadcastTo S2x1920 gm broadcasts_S1x1920_S2x1920)
def biasv (m g : FVec F S2x1920 .f32) (bt : FVec F S1x1920 .f32) : FVec F S2x1920 .f32 := subf (broadcastTo S2x1920 bt broadcasts_S1x1920_S2x1920) (mulf m g)
/-- The largest output of the channels' largest inputs. -/
def lowv (tp m g : FVec F S2x1920 .f32) (gm bt : FVec F S1x1920 .f32) : F .f32 :=
  let xt : FVec F S2x1920 .f32 := select (broadcastTo S2x1920 (shapeCast S1x1920 (cmpf .olt gm (broadcast S1x1920 (Scalar.ofBits .f32 0x00000000#32))) shapeCasts_S1x1920_S1x1920) broadcasts_S1x1920_S2x1920)
    (subf (broadcast S2x1920 (Scalar.ofBits .f32 0x00000000#32)) tp) tp
  let v : FVec F S2x1920 .f32 := addf (mulf (subf xt m) g) (broadcastTo S2x1920 bt broadcasts_S1x1920_S2x1920)
  extractAt ![0, 0, 0] (shapeCast S1x1x1 (multiReduction .maximumf [1, 2] S1 (shapeCast S1x2x1920 (absf (mulf v (logistic v))) shapeCasts_S2x1920_S1x2x1920) 0xFF800000#32 reduces_S1x2x1920_S1 (.inl rfl) rfl) shapeCasts_S1_S1x1x1) inpos_S1x1x1_p0_0_0
def maxv (s : Vec F S2x16x1920 .f32) : F .f32 :=
  extractAt ![0, 0, 0, 0] (shapeCast S1x1x1x1 (multiReduction .maximumf [1, 2, 3] S1 (shapeCast S1x2x16x1920 s shapeCasts_S2x16x1920_S1x2x16x1920) 0xFF800000#32 reduces_S1x2x16x1920_S1 (.inl rfl) rfl) shapeCasts_S1_S1x1x1x1) inpos_S1x1x1x1_p0_0_0_0

/-- One step of the search for the exponent field: keep the bit where the number is still at least that power of two. -/
def bitStep (t : F .f32) (e bit : BitVec 32) : BitVec 32 :=
  Scalar.select (Scalar.cmpf .oge t (Scalar.ofBits .f32 (Scalar.shli (Scalar.addi e bit) 23#32))) (Scalar.addi e bit) e
def fieldOf (t : F .f32) : BitVec 32 :=
  bitStep t (bitStep t (bitStep t (bitStep t (bitStep t (bitStep t (bitStep t (bitStep t 0#32 128#32) 64#32) 32#32) 16#32) 8#32) 4#32) 2#32) 1#32
def expOf (t : F .f32) : BitVec 32 :=
  Scalar.select (Scalar.ori (Scalar.cmpi .eq (fieldOf t) 0#32) (Scalar.cmpi .eq (fieldOf t) 255#32)) 0#32 (Scalar.subi (fieldOf t) 126#32)
def toGrid (a : F .f32) : F .f32 := Scalar.mulf a (Scalar.ofBits .f32 0x3B124925#32)
def outExp (a : F .f32) : BitVec 32 := Scalar.select (Scalar.cmpf .oeq a (Scalar.ofBits .f32 0x00000000#32)) 0#32 (expOf (toGrid a))
def pow2 (e : BitVec 32) : F .f32 := Scalar.ofBits .f32 (Scalar.shli (Scalar.addi e 127#32) 23#32)

/-- Squared deviations of one tile, added onto a sum. -/
def devSum (m : Vec F S1x128 .f32) (x : Vec F S32x128 .fp8e4m3) (old : Vec F S1x16x128 .f32) : FVec F S16x128 .f32 :=
  let d : FVec F S32x128 .f32 := subf (extf .f32 x bitsLt_fp8e4m3_f32) (broadcastTo S32x128 m broadcasts_S1x128_S32x128)
  addf (up old) (addf (extractStridedSlice S16x128 ![0, 0] (mulf d d) slices_S32x128_o0_0_S16x128) (extractStridedSlice S16x128 ![16, 0] (mulf d d) slices_S32x128_o16_0_S16x128))
/-- The normalised, scaled and shifted tile, from its deviations. -/
def normv (m g : Vec F S1x128 .f32) (bt : FVec F S1x1920 .f32) (t : Fin 15) (x : Vec F S32x128 .fp8e4m3) : FVec F S32x128 .f32 :=
  addf (mulf (subf (extf .f32 x bitsLt_fp8e4m3_f32) (broadcastTo S32x128 m broadcasts_S1x128_S32x128)) (broadcastTo S32x128 g broadcasts_S1x128_S32x128))
    (broadcastTo S32x128 (extractStridedSlice S1x128 ![0, 128 * t.val] bt (slice1 t)) broadcasts_S1x128_S32x128)
def absMax (m g : Vec F S1x128 .f32) (bt : FVec F S1x1920 .f32) (t : Fin 15) (x : Vec F S32x128 .fp8e4m3) (old : Vec F S1x16x128 .f32) : FVec F S16x128 .f32 :=
  let v : FVec F S32x128 .f32 := normv m g bt t x
  let y : FVec F S32x128 .f32 := absf (mulf v (logistic v))
  maximumf (up old) (maximumf (extractStridedSlice S16x128 ![0, 0] y slices_S32x128_o0_0_S16x128) (extractStridedSlice S16x128 ![16, 0] y slices_S32x128_o16_0_S16x128))

/-- The quantised tile. -/
def clipv (inv : F .f32) (v : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf (mulf v (logistic v)) (broadcast S32x128 inv)))) bitsLt_fp8e4m3_f32
def quantv (g h : Vec F S1x128 .f32) (inv : F .f32) (x : Vec F S32x128 .fp8e4m3) : FVec F S32x128 .fp8e4m3 :=
  clipv inv (addf (mulf (extf .f32 x bitsLt_fp8e4m3_f32) (broadcastTo S32x128 g broadcasts_S1x128_S32x128))
    (broadcastTo S32x128 h broadcasts_S1x128_S32x128))

/-! ## The pieces of the program -/

abbrev ldX (off : Fin 2 → Nat) (inb : ∀ a, off a + S32x128.size a ≤ S18432x1920.size a) : PP F (Vec F S32x128 .fp8e4m3) :=
  Prog.lift (.load xV (rx off inb).toLoadRect (View.loadsAt_vmem h_S32x128))
abbrev stX (off : Fin 2 → Nat) (inb : ∀ a, off a + S32x128.size a ≤ S18432x1920.size a) (pk : (rx off inb).PackedRows (EltTy.packing .fp8e4m3))
    (w : FVec F S32x128 .fp8e4m3) : PP F PUnit :=
  Prog.lift (.store xV (rx off inb) (shapeCast S32x128 w shapeCasts_S32x128_S32x128) Finset.univ
    (View.stores_vmem h_S32x128 ((Memref.isWhole_whole _).storeExact_slice rfl _ pk) (fun _ => rfl)) (.inl rfl))
abbrev ld3 (m : Memref sig .tc .vmem S2x16x1920 .f32) (b : Fin 2) (t : Fin 15) : PP F (Vec F S1x16x128 .f32) :=
  Prog.lift (.load m (tile3 b t).toLoadRect (View.loadsAt_vmem h_S1x16x128))
abbrev st3 (m : Memref sig .tc .vmem S2x16x1920 .f32) (b : Fin 2) (t : Fin 15) (w : FVec F S16x128 .f32) : PP F PUnit :=
  Prog.lift (.store m (tile3 b t) (down w) Finset.univ (View.stores_vmem_bits_univ h_S1x16x128 rfl) (.inl rfl))
abbrev ldT (b : Fin 2) (t : Fin 15) : PP F (Vec F S1x16x128 .bf16) :=
  Prog.lift (.load topV (tile3 b t).toLoadRect (View.loadsAt_vmem h_S1x16x128))
abbrev stT (b : Fin 2) (t : Fin 15) (w : FVec F S16x128 .bf16) : PP F PUnit :=
  Prog.lift (.store topV (tile3 b t) (downB w) Finset.univ
    (View.stores_vmem h_S1x16x128 ((Memref.isWhole_whole _).storeExact_slice rfl _ (tile3_packed b t)) (fun _ => rfl)) (.inl rfl))
abbrev ldL (m : Memref sig .tc .vmem S2x1920 .f32) (b : Fin 2) (t : Fin 15) : PP F (Vec F S1x128 .f32) :=
  Prog.lift (.load m (lane b t).toLoadRect (View.loadsAt_vmem h_S1x128))
abbrev ldW3 (m : Memref sig .tc .vmem S2x16x1920 .f32) : PP F (Vec F S2x16x1920 .f32) :=
  Prog.lift (.load m whole3.toLoadRect (View.loadsAt_vmem h_S2x16x1920))
abbrev ldW2 (m : Memref sig .tc .vmem S2x1920 .f32) : PP F (Vec F S2x1920 .f32) :=
  Prog.lift (.load m whole2.toLoadRect (View.loadsAt_vmem h_S2x1920))
abbrev ldG (m : Memref sig .tc .vmem S2x32 .f32) : PP F (Vec F S2x32 .f32) :=
  Prog.lift (.load m wholeG.toLoadRect (View.loadsAt_vmem h_S2x32))

/-- Fill a sum buffer with zeros. -/
def zero3 (m : Memref sig .tc .vmem S2x16x1920 .f32) : PP F PUnit := do
  let _d ← ldW3 m
  Prog.lift (.store m whole3 (shapeCast S2x16x1920 (broadcast S2x16x1920 (Scalar.ofBits .f32 0x00000000#32) : FVec F S2x16x1920 .f32) shapeCasts_S2x16x1920_S2x16x1920) Finset.univ (View.stores_vmem_bits_univ h_S2x16x1920 rfl) (.inl rfl))
def zeroTop : PP F PUnit := do
  let _d ← Prog.lift (.load topV whole3.toLoadRect (View.loadsAt_vmem h_S2x16x1920))
  Prog.lift (.store topV whole3 (shapeCast S2x16x1920 (broadcast S2x16x1920 (Scalar.ofBits .bf16 0xFF80#16) : FVec F S2x16x1920 .bf16) shapeCasts_S2x16x1920_S2x16x1920) Finset.univ
    (View.stores_vmem h_S2x16x1920 ((Memref.isWhole_whole _).storeExact_slice rfl _ packedbf16_S2x16x1920_S2x16x1920_0_0_0) (fun _ => rfl)) (.inl rfl))
def set2 (m : Memref sig .tc .vmem S2x1920 .f32) (w : FVec F S2x1920 .f32) : PP F PUnit := do
  let _d ← ldW2 m
  Prog.lift (.store m whole2 (shapeCast S2x1920 w shapeCasts_S2x1920_S2x1920) Finset.univ (View.stores_vmem_bits_univ h_S2x1920 rfl) (.inl rfl))
def setG (m : Memref sig .tc .vmem S2x32 .f32) (w : FVec F S2x32 .f32) : PP F PUnit := do
  let _d ← ldG m
  Prog.lift (.store m wholeG (shapeCast S2x32 w shapeCasts_S2x32_S2x32) Finset.univ (View.stores_vmem_bits_univ h_S2x32 rfl) (.inl rfl))
def setS (m : Memref sig .tc .smem S1x1 .f32) (w : F .f32) : PP F PUnit := do
  let _d : Elt F .f32 ← smemLoad m wholeS numel1_S1x1 rfl
  Prog.lift (.store m wholeS (fun _ => w) Finset.univ (View.stores_smem_one rfl numel1_S1x1) (.inl rfl))

def inCopy (i : Fin k0_t1_loop.trips) : PP F PUnit :=
  Prog.lift (.enqueueDma (xM.slice (rchunk (k0_off2 i) (k0_off2_inb i)) (fun _ => rfl)) (.here (xV.slice (rchunk (k0_off2 i) (k0_off2_inb i)) (fun _ => rfl)))
    (.dma ((cc0_scratch8.slice (Rect.unit (s := S72) (k0_off1 i) S1.size (k0_off1_inb i))).squeeze S_ squeezes_S1_S_).sem)
    ((Memref.isWhole_whole _).wordExact_slice rfl _ (k0_off2_wordsfp8e4m3 i)) ((Memref.isWhole_whole _).wordExact_slice rfl _ (k0_off2_wordsfp8e4m3 i)) ⟨Or.inl rfl, trivial⟩)
def inWait (offs : Fin 1 → Nat) (inbs : ∀ a, offs a + S1.size a ≤ S72.size a) (off : Fin 2 → Nat) (inb : ∀ a, off a + S256x1920.size a ≤ S18432x1920.size a)
    (ww : (rchunk off inb).WholeWords (EltTy.packing .fp8e4m3)) : PP F PUnit :=
  Prog.lift (.waitDma2 ((cc0_scratch8.slice (Rect.unit (s := S72) offs S1.size inbs)).squeeze S_ squeezes_S1_S_).sem
    (xM.slice (rchunk off inb) (fun _ => rfl)) (xV.slice (rchunk off inb) (fun _ => rfl))
    ((Memref.isWhole_whole _).wordExact_slice rfl _ ww) ((Memref.isWhole_whole _).wordExact_slice rfl _ ww))
def outCopy (off : Fin 2 → Nat) (inb : ∀ a, off a + S256x1920.size a ≤ S18432x1920.size a)
    (ww : (rchunk off inb).WholeWords (EltTy.packing .fp8e4m3)) : PP F PUnit :=
  Prog.lift (.enqueueDma (xV.slice (rchunk off inb) (fun _ => rfl)) (.here (yM.slice (rchunk off inb) (fun _ => rfl))) (.dma cc0_scratch9.sem)
    ((Memref.isWhole_whole _).wordExact_slice rfl _ ww) ((Memref.isWhole_whole _).wordExact_slice rfl _ ww) ⟨Or.inl rfl, trivial⟩)
def outWait (i : Fin k0_t14_loop.trips) : PP F PUnit :=
  Prog.lift (.waitDma2 cc0_scratch9.sem (xV.slice (rchunk (k0_off161 i) (k0_off161_inb i)) (fun _ => rfl)) (yM.slice (rchunk (k0_off161 i) (k0_off161_inb i)) (fun _ => rfl))
    ((Memref.isWhole_whole _).wordExact_slice rfl _ (k0_off161_wordsfp8e4m3 i)) ((Memref.isWhole_whole _).wordExact_slice rfl _ (k0_off161_wordsfp8e4m3 i)))

/-- The running vectors over a list of row blocks. -/
def accL (sg : FVec F S1x128 .bf16) (off : Fin 8 → Fin 2 → Nat) (inb : ∀ r a, off r a + S32x128.size a ≤ S18432x1920.size a) : List (Fin 8) → Acc F → PP F (Acc F)
  | [], a => .ret a
  | r :: l, a => ldX (off r) (inb r) >>= fun x => accL sg off inb l (acc1 sg a x)
def statTile (gm : FVec F S1x1920 .f32) (b : Fin 2) (off : Fin 15 → Fin 8 → Fin 2 → Nat)
    (inb : ∀ t r a, off t r a + S32x128.size a ≤ S18432x1920.size a) (t : Fin 15) : PP F PUnit := do
  let x ← ldX (off t 0) (inb t 0)
  let a ← accL (signv gm t) (off t) (inb t) fin7 (acc0 (signv gm t) x)
  let o ← ld3 s1V b t
  let _d ← ld3 s1V b t
  st3 s1V b t (addf (up o) a.s1)
  let o ← ld3 s2V b t
  let _d ← ld3 s2V b t
  st3 s2V b t (addf (up o) a.s2)
  let o ← ldT b t
  let _d ← ldT b t
  stT b t (maximumf (upB o) a.tp)
def devTile (b : Fin 2) (off : Fin 15 → Fin 2 → Nat) (inb : ∀ t a, off t a + S32x128.size a ≤ S18432x1920.size a) (t : Fin 15) : PP F PUnit := do
  let x ← ldX (off t) (inb t)
  let m ← ldL meanV b t
  let o ← ld3 s2V b t
  let _d ← ld3 s2V b t
  st3 s2V b t (devSum m x o)
def maxTile (bt : FVec F S1x1920 .f32) (b : Fin 2) (off : Fin 15 → Fin 2 → Nat) (inb : ∀ t a, off t a + S32x128.size a ≤ S18432x1920.size a) (t : Fin 15) : PP F PUnit := do
  let x ← ldX (off t) (inb t)
  let m ← ldL meanV b t
  let g ← ldL gainV b t
  let o ← ld3 s1V b t
  let _d ← ld3 s1V b t
  st3 s1V b t (absMax m g bt t x o)
def quantTile (off : Fin 2 → Nat)
    (inb : ∀ a, off a + S32x128.size a ≤ S18432x1920.size a) (pk : (rx off inb).PackedRows (EltTy.packing .fp8e4m3))
    (g h : Vec F S1x128 .f32) (inv : F .f32) : PP F PUnit := do
  let x ← ldX off inb
  let _d ← ldX off inb
  stX off inb pk (quantv g h inv x)
def quantTiles (inv : F .f32) (b : Fin 2) (off : Fin 15 → Fin 8 → Fin 2 → Nat)
    (inb : ∀ t r a, off t r a + S32x128.size a ≤ S18432x1920.size a)
    (pk : ∀ t r, (rx (off t r) (inb t r)).PackedRows (EltTy.packing .fp8e4m3)) : PP F PUnit :=
  seqL (fun t => do
    let g ← ldL gainV b t
    let h ← ldL biasV b t
    seqL (fun r => quantTile (off t r) (inb t r) (pk t r) g h inv) fin8) fin15
def illTile (bt : FVec F S1x1920 .f32) (inv : F .f32) (b : Fin 2) (off : Fin 15 → Fin 2 → Nat) (inb : ∀ t a, off t a + S32x128.size a ≤ S18432x1920.size a)
    (pk : ∀ t, (rx (off t) (inb t)).PackedRows (EltTy.packing .fp8e4m3)) (t : Fin 15) : PP F PUnit := do
  let x ← ldX (off t) (inb t)
  let m ← ldL meanV b t
  let g ← ldL gainV b t
  let _d ← ldX (off t) (inb t)
  stX (off t) (inb t) (pk t) (clipv inv (normv m g bt t x))

def stat2 (gm : FVec F S1x1920 .f32) (j : Fin k0_t2_loop.trips) : PP F PUnit :=
  inWait (k0_off3 j) (k0_off3_inb j) (k0_off4 j) (k0_off4_inb j) (k0_off4_wordsfp8e4m3 j) >>= fun _ => seqL (statTile gm 0 (off2 j) (off2_inb j)) fin15
def stat3 (gm : FVec F S1x1920 .f32) (j : Fin k0_t3_loop.trips) : PP F PUnit :=
  inWait (k0_off20 j) (k0_off20_inb j) (k0_off21 j) (k0_off21_inb j) (k0_off21_wordsfp8e4m3 j) >>= fun _ => seqL (statTile gm 1 (off3 j) (off3_inb j)) fin15
def quant8 (inv : F .f32) (j : Fin k0_t8_loop.trips) : PP F PUnit :=
  quantTiles inv 0 (off8 j) (off8_inb j) (off8_packed j) >>= fun _ => outCopy (k0_off112 j) (k0_off112_inb j) (k0_off112_wordsfp8e4m3 j)
def quant9 (inv : F .f32) (j : Fin k0_t9_loop.trips) : PP F PUnit :=
  quantTiles inv 1 (off9 j) (off9_inb j) (off9_packed j) >>= fun _ => outCopy (k0_off128 j) (k0_off128_inb j) (k0_off128_wordsfp8e4m3 j)
def quant10 (bt : FVec F S1x1920 .f32) (inv : F .f32) (j : Fin k0_t10_loop.trips) : PP F PUnit :=
  (Scf.Loop.for k0_t11_loop k0_t11_ok ⟨⟩ fun k _ => seqL (illTile bt inv 0 (off10 j k) (off10_inb j k) (off10_packed j k)) fin15) >>= fun _ =>
    outCopy (k0_off144 j) (k0_off144_inb j) (k0_off144_wordsfp8e4m3 j)
def quant12 (bt : FVec F S1x1920 .f32) (inv : F .f32) (j : Fin k0_t12_loop.trips) : PP F PUnit :=
  (Scf.Loop.for k0_t13_loop k0_t13_ok ⟨⟩ fun k _ => seqL (illTile bt inv 1 (off12 j k) (off12_inb j k) (off12_packed j k)) fin15) >>= fun _ =>
    outCopy (k0_off160 j) (k0_off160_inb j) (k0_off160_wordsfp8e4m3 j)

/-- The two-pass variance, where some group needs it. -/
def illPart (ill : BitVec 1) : PP F PUnit :=
  if Scalar.cmpi .ne (Scalar.extui ill : BitVec 32) 0#32 = 1#1 then do
    zero3 s2V
    Scf.Loop.for k0_t4_loop k0_t4_ok ⟨⟩ fun j _ => seqL (devTile 0 (off4 j) (off4_inb j)) fin15
    Scf.Loop.for k0_t5_loop k0_t5_ok ⟨⟩ fun j _ => seqL (devTile 1 (off5 j) (off5_inb j)) fin15
    let s ← ldW3 s2V
    setG devV (gmean s)
  else pure ⟨⟩
/-- The exact maximum, where the two bounds have different exponents. -/
def maxPart (arg5 : Memref sig .tc .smem S1x1 .f32) (bt : FVec F S1x1920 .f32) (e1 e2 : BitVec 32) : PP F PUnit :=
  if Scalar.cmpi .ne (Scalar.extui (Scalar.cmpi .ne e1 e2) : BitVec 32) 0#32 = 1#1 then do
    zero3 s1V
    Scf.Loop.for k0_t6_loop k0_t6_ok ⟨⟩ fun j _ => seqL (maxTile bt 0 (off6 j) (off6_inb j)) fin15
    Scf.Loop.for k0_t7_loop k0_t7_ok ⟨⟩ fun j _ => seqL (maxTile bt 1 (off7 j) (off7_inb j)) fin15
    let s ← ldW3 s1V
    setS arg5 (maxv s)
  else pure ⟨⟩
def fastPart (ill : BitVec 1) (inv : F .f32) : PP F PUnit :=
  if Scalar.cmpi .ne (Scalar.extui (Scalar.xori ill 1#1) : BitVec 32) 0#32 = 1#1 then do
    Scf.Loop.for k0_t8_loop k0_t8_ok ⟨⟩ fun j _ => quant8 inv j
    Scf.Loop.for k0_t9_loop k0_t9_ok ⟨⟩ fun j _ => quant9 inv j
    pure ⟨⟩
  else pure ⟨⟩
def slowPart (ill : BitVec 1) (bt : FVec F S1x1920 .f32) (inv : F .f32) : PP F PUnit :=
  if Scalar.cmpi .ne (Scalar.extui ill : BitVec 32) 0#32 = 1#1 then do
    Scf.Loop.for k0_t10_loop k0_t10_ok ⟨⟩ fun j _ => quant10 bt inv j
    Scf.Loop.for k0_t12_loop k0_t12_ok ⟨⟩ fun j _ => quant12 bt inv j
    pure ⟨⟩
  else pure ⟨⟩

/-- The kernel. -/
def model (arg1 : Memref sig .tc .vmem S2x32 .f32) (arg2 : Memref sig .tc .vmem S1x1920 .f32) (arg3 : Memref sig .tc .vmem S1x1920 .f32) (arg5 : Memref sig .tc .smem S1x1 .f32) (harg5 : arg5.IsWhole) : PP F PUnit := do
  Scf.Loop.for k0_t1_loop k0_t1_ok ⟨⟩ fun i _ => inCopy i
  let gm ← Prog.lift (.load arg2 whole1.toLoadRect (View.loadsAt_vmem h_S1x1920))
  let bt ← Prog.lift (.load arg3 whole1.toLoadRect (View.loadsAt_vmem h_S1x1920))
  zero3 s1V
  zero3 s2V
  zeroTop
  Scf.Loop.for k0_t2_loop k0_t2_ok ⟨⟩ fun j _ => stat2 (row1 gm) j
  Scf.Loop.for k0_t3_loop k0_t3_ok ⟨⟩ fun j _ => stat3 (row1 gm) j
  let s1 ← ldW3 s1V
  let s2 ← ldW3 s2V
  let tp ← Prog.lift (.load topV whole3.toLoadRect (View.loadsAt_vmem h_S2x16x1920))
  let sc ← ldG arg1
  setG devV (dev1 (gmean s1) (gmean s2))
  let d ← ldG devV
  set2 meanV (spread (gmean s1))
  illPart (illv sc (gmean s2) d)
  let d' ← ldG devV
  let m ← ldW2 meanV
  set2 gainV (gainv sc d' (row1 gm))
  set2 biasV (biasv m (gainv sc d' (row1 gm)) (row1 bt))
  setS arg5 (lowv (coltop tp) m (gainv sc d' (row1 gm)) (row1 gm) (row1 bt))
  maxPart arg5 (row1 bt) (expOf (toGrid (lowv (coltop tp) m (gainv sc d' (row1 gm)) (row1 gm) (row1 bt))))
    (expOf (toGrid (Scalar.maximumf (lowv (coltop tp) m (gainv sc d' (row1 gm)) (row1 gm) (row1 bt)) (Scalar.ofBits .f32 0x3E8E978D#32))))
  let a : Elt F .f32 ← smemLoad arg5 wholeS numel1_S1x1 rfl
  setS arg5 (pow2 (outExp a))
  fastPart (illv sc (gmean s2) d) (pow2 (Scalar.subi 0#32 (outExp a)))
  slowPart (illv sc (gmean s2) d) (row1 bt) (pow2 (Scalar.subi 0#32 (outExp a)))
  Scf.Loop.for k0_t14_loop k0_t14_ok ⟨⟩ fun i _ => outWait i
  pure ⟨⟩

/-! ## The printed kernel is this program -/

theorem part303_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole)  :
  k0_part303 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = (do
    Scf.Loop.for k0_t1_loop k0_t1_ok ⟨⟩ fun i _ => inCopy i
    let gm ← Prog.lift (.load arg2 whole1.toLoadRect (View.loadsAt_vmem h_S1x1920))
    let bt ← Prog.lift (.load arg3 whole1.toLoadRect (View.loadsAt_vmem h_S1x1920))
    zero3 s1V
    zero3 s2V
    zeroTop
    pure ⟨onehot, row1 gm, row1 bt, ones, 0#32⟩) := by sl_kernel_rfl

theorem part304_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm : FVec F S1x1920 .f32) :
  k0_part304 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm ones 0#32 = (do
    Scf.Loop.for k0_t2_loop k0_t2_ok ⟨⟩ fun j _ => stat2 gm j
    Scf.Loop.for k0_t3_loop k0_t3_ok ⟨⟩ fun j _ => stat3 gm j
    let s1 ← ldW3 s1V
    let s2 ← ldW3 s2V
    let tp ← Prog.lift (.load topV whole3.toLoadRect (View.loadsAt_vmem h_S2x16x1920))
    let sc ← ldG arg1
    setG devV (dev1 (gmean s1) (gmean s2))
    let d ← ldG devV
    pure ⟨coltop tp, sc, gmean s1, mulf sc sc, mulf (mulf sc sc) (gmean s2), mulf (mulf sc sc) d⟩) := by sl_kernel_rfl

theorem part305_flat (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (sc : Vec F S2x32 .f32) (m q : FVec F S2x32 .f32) (d : Vec F S2x32 .f32) :
  k0_part305 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm bt sc m (mulf sc sc) (mulf (mulf sc sc) q) (mulf (mulf sc sc) d) = (do
    set2 meanV (spread m)
    if Scalar.cmpi .ne (Scalar.extui (illv sc q d) : BitVec 32) 0#32 = 1#1 then do
      zero3 s2V
      Scf.Loop.for k0_t4_loop k0_t4_ok ⟨⟩ fun j _ => seqL (devTile 0 (off4 j) (off4_inb j)) fin15
      Scf.Loop.for k0_t5_loop k0_t5_ok ⟨⟩ fun j _ => seqL (devTile 1 (off5 j) (off5_inb j)) fin15
      let s ← ldW3 s2V
      setG devV (gmean s)
      pure ⟨⟩
    else pure ⟨⟩
    let d' ← ldG devV
    let m ← ldW2 meanV
    let _ ← ldW2 gainV
    Prog.lift (.store gainV whole2 (shapeCast S2x1920 (gainv sc d' gm) shapeCasts_S2x1920_S2x1920) Finset.univ (View.stores_vmem_bits_univ h_S2x1920 rfl) (.inl rfl))
    let o ← ldW2 biasV
    pure ⟨illv sc q d, gainv sc d' gm, m, biasv m (gainv sc d' gm) bt, o⟩) := by sl_kernel_rfl

theorem part305_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (sc : Vec F S2x32 .f32) (m q : FVec F S2x32 .f32) (d : Vec F S2x32 .f32) :
  k0_part305 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 onehot gm bt sc m (mulf sc sc) (mulf (mulf sc sc) q) (mulf (mulf sc sc) d) = (do
    set2 meanV (spread m)
    illPart (illv sc q d)
    let d' ← ldG devV
    let m ← ldW2 meanV
    let _ ← ldW2 gainV
    Prog.lift (.store gainV whole2 (shapeCast S2x1920 (gainv sc d' gm) shapeCasts_S2x1920_S2x1920) Finset.univ (View.stores_vmem_bits_univ h_S2x1920 rfl) (.inl rfl))
    let o ← ldW2 biasV
    pure ⟨illv sc q d, gainv sc d' gm, m, biasv m (gainv sc d' gm) bt, o⟩) := by
  rw [part305_flat]
  simp only [illPart]
  split <;> simp only [bind_assoc, pure_bind]

theorem part306_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (gm bt : FVec F S1x1920 .f32) (tp g : FVec F S2x1920 .f32) (m : Vec F S2x1920 .f32) (b : FVec F S2x1920 .f32) (o : Vec F S2x1920 .f32) :
  k0_part306 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 gm bt tp g m b o = (do
    Prog.lift (.store biasV whole2 (shapeCast S2x1920 b shapeCasts_S2x1920_S2x1920) Finset.univ (View.stores_vmem_bits_univ h_S2x1920 rfl) (.inl rfl))
    setS arg5 (lowv tp m g gm bt)
    pure ⟨Scalar.maximumf (lowv tp m g gm bt) (Scalar.ofBits .f32 0x3E8E978D#32), toGrid (lowv tp m g gm bt),
      bitStep (toGrid (lowv tp m g gm bt)) (bitStep (toGrid (lowv tp m g gm bt)) (bitStep (toGrid (lowv tp m g gm bt)) 0#32 128#32) 64#32) 32#32,
      Scalar.addi (bitStep (toGrid (lowv tp m g gm bt)) (bitStep (toGrid (lowv tp m g gm bt)) (bitStep (toGrid (lowv tp m g gm bt)) 0#32 128#32) 64#32) 32#32) 16#32,
      Scalar.ofBits .f32 (Scalar.shli (Scalar.addi (bitStep (toGrid (lowv tp m g gm bt)) (bitStep (toGrid (lowv tp m g gm bt)) (bitStep (toGrid (lowv tp m g gm bt)) 0#32 128#32) 64#32) 32#32) 16#32) 23#32)⟩) := by sl_kernel_rfl

theorem part307_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (hi t : F .f32) :
  k0_part307 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 hi t (bitStep t (bitStep t (bitStep t 0#32 128#32) 64#32) 32#32)
      (Scalar.addi (bitStep t (bitStep t (bitStep t 0#32 128#32) 64#32) 32#32) 16#32)
      (Scalar.ofBits .f32 (Scalar.shli (Scalar.addi (bitStep t (bitStep t (bitStep t 0#32 128#32) 64#32) 32#32) 16#32) 23#32)) = (do
    pure ⟨expOf t, toGrid hi, bitStep (toGrid hi) (bitStep (toGrid hi) 0#32 128#32) 64#32, Scalar.addi (bitStep (toGrid hi) (bitStep (toGrid hi) 0#32 128#32) 64#32) 32#32, 23#32⟩) := by sl_kernel_rfl

theorem part308_flat (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (bt : FVec F S1x1920 .f32) (e1 : BitVec 32) (u : F .f32) :
  k0_part308 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 bt e1 u (bitStep u (bitStep u 0#32 128#32) 64#32) (Scalar.addi (bitStep u (bitStep u 0#32 128#32) 64#32) 32#32) 23#32 = (do
    if Scalar.cmpi .ne (Scalar.extui (Scalar.cmpi .ne e1 (expOf u)) : BitVec 32) 0#32 = 1#1 then do
      zero3 s1V
      Scf.Loop.for k0_t6_loop k0_t6_ok ⟨⟩ fun j _ => seqL (maxTile bt 0 (off6 j) (off6_inb j)) fin15
      Scf.Loop.for k0_t7_loop k0_t7_ok ⟨⟩ fun j _ => seqL (maxTile bt 1 (off7 j) (off7_inb j)) fin15
      let s ← ldW3 s1V
      setS arg5 (maxv s)
      pure ⟨⟩
    else pure ⟨⟩
    let a : Elt F .f32 ← smemLoad arg5 wholeS numel1_S1x1 rfl
    pure ⟨Scalar.cmpf .oeq a (Scalar.ofBits .f32 0x00000000#32), toGrid a⟩) := by sl_kernel_rfl

theorem part308_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (bt : FVec F S1x1920 .f32) (e1 : BitVec 32) (u : F .f32) :
  k0_part308 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 bt e1 u (bitStep u (bitStep u 0#32 128#32) 64#32) (Scalar.addi (bitStep u (bitStep u 0#32 128#32) 64#32) 32#32) 23#32 = (do
    maxPart arg5 bt e1 (expOf u)
    let a : Elt F .f32 ← smemLoad arg5 wholeS numel1_S1x1 rfl
    pure ⟨Scalar.cmpf .oeq a (Scalar.ofBits .f32 0x00000000#32), toGrid a⟩) := by
  rw [part308_flat]
  simp only [maxPart]
  split <;> simp only [bind_assoc, pure_bind]

theorem part309_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) (t : F .f32) :
  k0_part309 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 t = (do
    pure ⟨fieldOf t, Scalar.cmpi .eq (fieldOf t) 0#32⟩) := by sl_kernel_rfl

/-- The kernel's last window: the scale's store, the quantising loops, the waits. -/
def tailFlat (arg5 : Memref sig .tc .smem S1x1 .f32) (harg5 : arg5.IsWhole) (bt : FVec F S1x1920 .f32) (ill c : BitVec 1) (f : BitVec 32) (c0 : BitVec 1) : PP F PUnit := do
  setS arg5 (pow2 (Scalar.select c 0#32 (Scalar.select (Scalar.ori c0 (Scalar.cmpi .eq f 255#32)) 0#32 (Scalar.subi f 126#32))))
  if Scalar.cmpi .ne (Scalar.extui (Scalar.xori ill 1#1) : BitVec 32) 0#32 = 1#1 then do
    Scf.Loop.for k0_t8_loop k0_t8_ok ⟨⟩ fun j _ => quant8 (pow2 (Scalar.subi 0#32 (Scalar.select c 0#32 (Scalar.select (Scalar.ori c0 (Scalar.cmpi .eq f 255#32)) 0#32 (Scalar.subi f 126#32))))) j
    Scf.Loop.for k0_t9_loop k0_t9_ok ⟨⟩ fun j _ => quant9 (pow2 (Scalar.subi 0#32 (Scalar.select c 0#32 (Scalar.select (Scalar.ori c0 (Scalar.cmpi .eq f 255#32)) 0#32 (Scalar.subi f 126#32))))) j
    pure ⟨⟩
  else pure ⟨⟩
  if Scalar.cmpi .ne (Scalar.extui ill : BitVec 32) 0#32 = 1#1 then do
    Scf.Loop.for k0_t10_loop k0_t10_ok ⟨⟩ fun j _ => quant10 bt (pow2 (Scalar.subi 0#32 (Scalar.select c 0#32 (Scalar.select (Scalar.ori c0 (Scalar.cmpi .eq f 255#32)) 0#32 (Scalar.subi f 126#32))))) j
    Scf.Loop.for k0_t12_loop k0_t12_ok ⟨⟩ fun j _ => quant12 bt (pow2 (Scalar.subi 0#32 (Scalar.select c 0#32 (Scalar.select (Scalar.ori c0 (Scalar.cmpi .eq f 255#32)) 0#32 (Scalar.subi f 126#32))))) j
    pure ⟨⟩
  else pure ⟨⟩
  Scf.Loop.for k0_t14_loop k0_t14_ok ⟨⟩ fun i _ => outWait i
  pure ⟨⟩

theorem tail_eq (arg5 : Memref sig .tc .smem S1x1 .f32) (harg5 : arg5.IsWhole) (bt : FVec F S1x1920 .f32) (ill : BitVec 1) (a : F .f32) :
    tailFlat arg5 harg5 bt ill (Scalar.cmpf .oeq a (Scalar.ofBits .f32 0x00000000#32)) (fieldOf (toGrid a)) (Scalar.cmpi .eq (fieldOf (toGrid a)) 0#32) = (do
      setS arg5 (pow2 (outExp a))
      fastPart ill (pow2 (Scalar.subi 0#32 (outExp a)))
      slowPart ill bt (pow2 (Scalar.subi 0#32 (outExp a)))
      Scf.Loop.for k0_t14_loop k0_t14_ok ⟨⟩ fun i _ => outWait i
      pure ⟨⟩) := by
  have h1 : (Scalar.select (Scalar.cmpf .oeq a (Scalar.ofBits .f32 0x00000000#32)) 0#32 (Scalar.select (Scalar.ori (Scalar.cmpi .eq (fieldOf (toGrid a)) 0#32) (Scalar.cmpi .eq (fieldOf (toGrid a)) 255#32)) 0#32 (Scalar.subi (fieldOf (toGrid a)) 126#32))) = outExp a := rfl
  simp only [tailFlat, h1, fastPart, slowPart]
  split <;> split <;> simp only [bind_assoc, pure_bind]

theorem cc0_struct (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) : cc0_groupnorm_silu_fp8 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = (
    k0_part303 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 >>= fun p => k0_part304 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.1 p.2.1 p.2.2.2.1 p.2.2.2.2 >>= fun q =>
    k0_part305 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.1 p.2.1 p.2.2.1 q.2.1 q.2.2.1 q.2.2.2.1 q.2.2.2.2.1 q.2.2.2.2.2 >>= fun r =>
    k0_part306 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.2.1 p.2.2.1 q.1 r.2.1 r.2.2.1 r.2.2.2.1 r.2.2.2.2 >>= fun s =>
    k0_part307 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 s.1 s.2.1 s.2.2.1 s.2.2.2.1 s.2.2.2.2 >>= fun t =>
    k0_part308 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 p.2.2.1 t.1 t.2.1 t.2.2.1 t.2.2.2.1 t.2.2.2.2 >>= fun u =>
    k0_part309 xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 u.2 >>= fun v => tailFlat arg5 harg5 p.2.2.1 r.1 u.1 v.1 v.2) := by
  sl_kernel_rfl

theorem cc0_eq (arg1 : Memref sig .tc .vmem S2x32 .f32) (harg1 : arg1.IsWhole) (arg2 : Memref sig .tc .vmem S1x1920 .f32) (harg2 : arg2.IsWhole) (arg3 : Memref sig .tc .vmem S1x1920 .f32) (harg3 : arg3.IsWhole) (arg5 : Memref sig .tc .smem S1x1 .f32) (harg5 : arg5.IsWhole) : cc0_groupnorm_silu_fp8 (F := F) xM (Memref.isWhole_whole _) arg1 harg1 arg2 harg2 arg3 harg3 yM (Memref.isWhole_whole _) arg5 harg5 xV (Memref.isWhole_whole _) s1V (Memref.isWhole_whole _) s2V (Memref.isWhole_whole _) topV (Memref.isWhole_whole _) meanV (Memref.isWhole_whole _) gainV (Memref.isWhole_whole _) biasV (Memref.isWhole_whole _) devV (Memref.isWhole_whole _) cc0_scratch8 cc0_scratch9 = model arg1 arg2 arg3 arg5 harg5 := by
  rw [cc0_struct]
  simp only [part303_eq, bind_assoc, pure_bind, part304_eq, part305_eq, part306_eq, part307_eq, part308_eq, part309_eq, tail_eq]
  simp only [model, set2, bind_assoc, pure_bind]

end Cert.Kernel.Hand
end
end
-- ==== Proof.KOffs.lean ====
/-
  Where the accesses of the structured program lie: each printed offset is a multiple of the tile or chunk it names.
-/
module
public import proofs.«01_k».proof.Proof.KModel
@[expose] public section
set_option maxRecDepth 100000
noncomputable section
namespace Cert.Kernel.Hand
open Cert.Kernel
open Idealize.ShloMosaic Idealize.SL.Sem

theorem trips1 : k0_t1_loop.trips = 72 := by decide +kernel
theorem trips2 : k0_t2_loop.trips = 36 := by decide +kernel
theorem trips3 : k0_t3_loop.trips = 36 := by decide +kernel
theorem trips4 : k0_t4_loop.trips = 288 := by decide +kernel
theorem trips5 : k0_t5_loop.trips = 288 := by decide +kernel
theorem trips6 : k0_t6_loop.trips = 288 := by decide +kernel
theorem trips7 : k0_t7_loop.trips = 288 := by decide +kernel
theorem trips8 : k0_t8_loop.trips = 36 := by decide +kernel
theorem trips9 : k0_t9_loop.trips = 36 := by decide +kernel
theorem trips10 : k0_t10_loop.trips = 36 := by decide +kernel
theorem trips11 : k0_t11_loop.trips = 8 := by decide +kernel
theorem trips12 : k0_t12_loop.trips = 36 := by decide +kernel
theorem trips13 : k0_t13_loop.trips = 8 := by decide +kernel
theorem trips14 : k0_t14_loop.trips = 72 := by decide +kernel
theorem k0_off2_eq : ∀ j : Fin k0_t1_loop.trips, k0_off2 j = ![256 * (j.val), 0] := by decide +kernel
theorem k0_off4_eq : ∀ j : Fin k0_t2_loop.trips, k0_off4 j = ![256 * (j.val), 0] := by decide +kernel
theorem k0_off21_eq : ∀ j : Fin k0_t3_loop.trips, k0_off21 j = ![256 * (36 + j.val), 0] := by decide +kernel
theorem k0_off112_eq : ∀ j : Fin k0_t8_loop.trips, k0_off112 j = ![256 * (j.val), 0] := by decide +kernel
theorem k0_off128_eq : ∀ j : Fin k0_t9_loop.trips, k0_off128 j = ![256 * (36 + j.val), 0] := by decide +kernel
theorem k0_off144_eq : ∀ j : Fin k0_t10_loop.trips, k0_off144 j = ![256 * (j.val), 0] := by decide +kernel
theorem k0_off160_eq : ∀ j : Fin k0_t12_loop.trips, k0_off160 j = ![256 * (36 + j.val), 0] := by decide +kernel
theorem k0_off161_eq : ∀ j : Fin k0_t14_loop.trips, k0_off161 j = ![256 * (j.val), 0] := by decide +kernel
theorem k0_off1_eq : ∀ j : Fin k0_t1_loop.trips, k0_off1 j = ![j.val] := by decide +kernel
theorem k0_off3_eq : ∀ j : Fin k0_t2_loop.trips, k0_off3 j = ![j.val] := by decide +kernel
theorem k0_off20_eq : ∀ j : Fin k0_t3_loop.trips, k0_off20 j = ![36 + j.val] := by decide +kernel
theorem off2_eq : ∀ (j : Fin k0_t2_loop.trips) (t : Fin 15) (r : Fin 8), off2 j t r = ![256 * (j.val) + 32 * r.val, 128 * t.val] := by decide +kernel
theorem off3_eq : ∀ (j : Fin k0_t3_loop.trips) (t : Fin 15) (r : Fin 8), off3 j t r = ![256 * (36 + j.val) + 32 * r.val, 128 * t.val] := by decide +kernel
theorem off8_eq : ∀ (j : Fin k0_t8_loop.trips) (t : Fin 15) (r : Fin 8), off8 j t r = ![256 * (j.val) + 32 * r.val, 128 * t.val] := by decide +kernel
theorem off9_eq : ∀ (j : Fin k0_t9_loop.trips) (t : Fin 15) (r : Fin 8), off9 j t r = ![256 * (36 + j.val) + 32 * r.val, 128 * t.val] := by decide +kernel
theorem off10_eq : ∀ (j : Fin k0_t10_loop.trips) (k : Fin k0_t11_loop.trips) (t : Fin 15), off10 j k t = ![256 * (j.val) + 32 * k.val, 128 * t.val] := by decide +kernel
theorem off12_eq : ∀ (j : Fin k0_t12_loop.trips) (k : Fin k0_t13_loop.trips) (t : Fin 15), off12 j k t = ![256 * (36 + j.val) + 32 * k.val, 128 * t.val] := by decide +kernel
theorem off4_eq : ∀ (j : Fin k0_t4_loop.trips) (t : Fin 15), off4 j t = ![32 * (j.val), 128 * t.val] := by decide +kernel
theorem off5_eq : ∀ (j : Fin k0_t5_loop.trips) (t : Fin 15), off5 j t = ![32 * (288 + j.val), 128 * t.val] := by decide +kernel
theorem off6_eq : ∀ (j : Fin k0_t6_loop.trips) (t : Fin 15), off6 j t = ![32 * (j.val), 128 * t.val] := by decide +kernel
theorem off7_eq : ∀ (j : Fin k0_t7_loop.trips) (t : Fin 15), off7 j t = ![32 * (288 + j.val), 128 * t.val] := by decide +kernel

end Cert.Kernel.Hand
end
end
-- ==== Proof.KRun.lean ====
/-
  The loads and stores of the kernel's buffers, each with what the buffer holds before and after.
-/
module
public import proofs.«01_k».proof.Proof.KOffs
public import proofs.«01_k».proof.Proof.Gen.Kernel.Launch
public import Idealize.ShloMosaic.Lib.Pipeline.FrameBody
public import Idealize.ShloMosaic.Lib.Pipeline.FrameValue
public import Idealize.ShloMosaic.Lib.Transfers
public import Idealize.ShloMosaic.Lib.Batch
public import Idealize.ShloMosaic.Lib.Ring
public import Idealize.ShloMosaic.Lib.Tactic
public import Idealize.ShloMosaic.Lib.ValueLayout
public import Idealize.ShloMosaic.Lib.ValueIdxCoords
@[expose] public section
noncomputable section
namespace Cert.Kernel.Hand
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

/-- The weakest precondition of a program of the kernel on core `c`. -/
abbrev WP {α : Type} (c : Dev nD) (p : PP F α) (Q : α → sProp 𝕄) : sProp 𝕄 :=
  wp frame (wpE (defs₀ (F := F)) Variants.none (c : Thread nD τ) none) Set.univ p Q

variable {c : Dev nD}

theorem wp_seq {α β : Type} {p : PP F α} {k : α → PP F β} {Q : β → sProp 𝕄} :
    WP c p (fun a => WP c (k a) Q) ⊢ WP c (p >>= k) Q := by
  show _ ⊢ wp _ _ _ (p >>= k) Q
  rw [wp_bind]

theorem wp_done {α : Type} {a : α} {Q : α → sProp 𝕄} : Q a ⊢ WP c (.ret a) Q := le_wp_ret _ _ _ _ _

/-- A load. -/
theorem ld_wp {cs : CoreSpace} {s : Shape} {e : EltTy} {m : Memref sig .tc cs s e} {r : Rect s} {hl : m.view.LoadsAt r}
    {S : Finset (Idx (m.view.loc (c : Thread nD τ)))} {q : PosShare TreeShare} {f : Buf (Elt F) (m.view.loc (c : Thread nD τ))}
    (hS : (m.access r).set ⊆ S) {Q : (r.shape.Idx → Elt F e) → sProp 𝕄} :
    iprop((m.view.loc (c : Thread nD τ) ↦[S]{q} f) ∗ ((m.view.loc (c : Thread nD τ) ↦[S]{q} f) -∗ Q ((m.access r).read (Elt F) f)))
      ⊢ WP c (Prog.lift (.load m r.toLoadRect hl)) Q := by
  iintro ⟨H, HQ⟩
  iapply (wp_load_rect (defs := defs₀ (F := F)) (m := m) (r := r) (hl := hl) (k := .ret) (q := q) (f := f) Variants.none (c : Thread nD τ) none Set.univ hS) $$ H
  iintro H
  iapply wp_done
  iapply HQ; iexact H

/-- A store, to the contents `g`. -/
theorem st_wp {cs : CoreSpace} {s : Shape} {e : EltTy} {m : Memref sig .tc cs s e} {r : Rect s} {w : r.shape.Idx → Elt F e}
    {hx : (m.access r).Stores Finset.univ} {hm}
    {S : Finset (Idx (m.view.loc (c : Thread nD τ)))} {f : Buf (Elt F) (m.view.loc (c : Thread nD τ))}
    (g : Buf (Elt F) (m.view.loc (c : Thread nD τ)))
    (hS : (m.access r).set ⊆ S) (hg : ∀ i ∈ S, (m.access r).write (Elt F) f w Finset.univ i = g i) {Q : PUnit → sProp 𝕄} :
    iprop((m.view.loc (c : Thread nD τ) ↦[S]{fullShare} f) ∗ ((m.view.loc (c : Thread nD τ) ↦[S]{fullShare} g) -∗ Q ⟨⟩))
      ⊢ WP c (Prog.lift (.store m r w Finset.univ hx hm)) Q := by
  have h := wp_store (defs := defs₀ (F := F)) (m := m) (r := r) (w := w) (hx := hx) (hm := hm) (k := fun _ => .ret ⟨⟩) (f := f) (Γ := PendingWaitsCtx.empty) (Q := Q)
    Variants.none (c : Thread nD τ) none Set.univ (S := S) (by rw [View.setOn_univ]; exact hS)
  refine (sep_mono_r ?_).trans (BI.wand_elim h)
  refine .trans ?_ (wand_mono_right (wp_done (a := PUnit.unit)))
  exact (Entails.of_eq (congrArg (fun P => iprop(P -∗ Q ⟨⟩)) (pointsTo_congr hg).symm))

theorem write_whole {b : Ref sig .tc} {r : Rect b.ty.shape} {f g : Buf (Elt F) ((c : Thread nD τ).loc b)} {w : r.shape.Idx → Elt F b.ty.elt}
    (hin : ∀ k, g (r.emb k) = w k) (hout : ∀ i, i ∉ r.set → g i = f i) (i : Idx ((c : Thread nD τ).loc b)) :
    ((View.whole b).slice r).write (Elt F) f w Finset.univ i = g i := by
  by_cases h : i ∈ r.set
  · rw [← Rect.map_emb_univ] at h
    obtain ⟨k, -, rfl⟩ := Finset.mem_map.mp h
    rw [hin]
    exact View.write_emb_of_mem (v := (View.whole b).slice r) f w (Finset.mem_univ k)
  · rw [hout i h]
    refine View.write_of_not_mem (v := (View.whole b).slice r) f w _ ?_
    rw [View.setOn_univ, View.set_slice_whole]
    exact h

/-! ## The buffers' contents -/

/-- The rows from `lo` to `hi` of an array of 18432 rows. -/
def rows (lo hi : Nat) : Finset S18432x1920.Idx := Finset.univ.filter fun i => lo ≤ (i 0).val ∧ (i 0).val < hi

theorem mem_rows {lo hi : Nat} {i : S18432x1920.Idx} : i ∈ rows lo hi ↔ lo ≤ (i 0).val ∧ (i 0).val < hi := by simp [rows]

abbrev CX (F : FTy → Type) := S18432x1920.Idx → Elt F .fp8e4m3
abbrev C3 (F : FTy → Type) := S2x16x1920.Idx → Elt F .f32
abbrev C3B (F : FTy → Type) := S2x16x1920.Idx → Elt F .bf16

/-- A tile of the input's copy, and the copy with a tile replaced. -/
def getX (off : Fin 2 → Nat) (inb : ∀ a, off a + S32x128.size a ≤ S18432x1920.size a) (X : CX F) : Vec F S32x128 .fp8e4m3 := fun k => X ((rx off inb).emb k)
def putX (off : Fin 2 → Nat) (w : Vec F S32x128 .fp8e4m3) (X : CX F) : CX F := fun i =>
  if h : (off 0 ≤ (i 0).val ∧ (i 0).val < off 0 + 32) ∧ (off 1 ≤ (i 1).val ∧ (i 1).val < off 1 + 128)
  then w (ix2 ⟨(i 0).val - off 0, by omega⟩ ⟨(i 1).val - off 1, by omega⟩) else X i

theorem putX_emb (off : Fin 2 → Nat) (inb : ∀ a, off a + S32x128.size a ≤ S18432x1920.size a) (w : Vec F S32x128 .fp8e4m3) (X : CX F) (k : S32x128.Idx) :
    putX off w X ((rx off inb).emb k) = w k := by
  have e0 : (((rx off inb).emb k) 0).val = off 0 + 1 * (k 0).val := rfl
  have e1 : (((rx off inb).emb k) 1).val = off 1 + 1 * (k 1).val := rfl
  have h0 : (k 0).val < 32 := (k 0).isLt
  have h1 : (k 1).val < 128 := (k 1).isLt
  unfold putX
  rw [dif_pos (by omega)]
  congr 1
  funext a
  match a with
  | ⟨0, _⟩ => exact Fin.ext (by show off 0 + 1 * (k 0).val - off 0 = (k 0).val; omega)
  | ⟨1, _⟩ => exact Fin.ext (by show off 1 + 1 * (k 1).val - off 1 = (k 1).val; omega)

theorem mem_rx {off : Fin 2 → Nat} {inb : ∀ a, off a + S32x128.size a ≤ S18432x1920.size a} {i : S18432x1920.Idx} :
    i ∈ (rx off inb).set ↔ (off 0 ≤ (i 0).val ∧ (i 0).val < off 0 + 32) ∧ (off 1 ≤ (i 1).val ∧ (i 1).val < off 1 + 128) := by
  rw [Rect.mem_set_unit, Fin.forall_fin_two]; rfl

theorem putX_off (off : Fin 2 → Nat) (inb : ∀ a, off a + S32x128.size a ≤ S18432x1920.size a) (w : Vec F S32x128 .fp8e4m3) (X : CX F) (i : S18432x1920.Idx)
    (h : i ∉ (rx off inb).set) : putX off w X i = X i := by
  unfold putX; rw [dif_neg (fun h' => h (mem_rx.mpr h'))]

/-- A lane tile of one image of a sum buffer, and the buffer with the tile replaced. -/
def get3 {α : Type} (b : Fin 2) (t : Fin 15) (A : S2x16x1920.Idx → α) : S1x16x128.Idx → α := fun k => A ((tile3 b t).emb k)
def put3 {α : Type} (b : Fin 2) (t : Fin 15) (w : S16x128.Idx → α) (A : S2x16x1920.Idx → α) : S2x16x1920.Idx → α := fun i =>
  if (i 0).val = b.val ∧ (i 2).val / 128 = t.val then w (ix2 (i 1) ⟨(i 2).val % 128, Nat.mod_lt _ (by omega)⟩) else A i
def getL {α : Type} (b : Fin 2) (t : Fin 15) (A : S2x1920.Idx → α) : S1x128.Idx → α := fun k => A ((lane b t).emb k)

theorem mem_tile3 {b : Fin 2} {t : Fin 15} {i : S2x16x1920.Idx} : i ∈ (tile3 b t).set ↔ (i 0).val = b.val ∧ (i 2).val / 128 = t.val := by
  rw [Rect.mem_set_unit]
  have h1 : (i 1).val < 16 := (i 1).isLt
  constructor
  · intro h
    have a0 : b.val ≤ (i 0).val ∧ (i 0).val < b.val + 1 := h 0
    have a2 : 128 * t.val ≤ (i 2).val ∧ (i 2).val < 128 * t.val + 128 := h 2
    omega
  · rintro ⟨a0, a2⟩ a
    match a with
    | ⟨0, _⟩ => exact (show b.val ≤ (i 0).val ∧ (i 0).val < b.val + 1 by omega)
    | ⟨1, _⟩ => exact (show 0 ≤ (i 1).val ∧ (i 1).val < 0 + 16 by omega)
    | ⟨2, _⟩ => exact (show 128 * t.val ≤ (i 2).val ∧ (i 2).val < 128 * t.val + 128 by omega)

theorem put3_emb {α : Type} (b : Fin 2) (t : Fin 15) (w : S16x128.Idx → α) (A : S2x16x1920.Idx → α) (k : S1x16x128.Idx) :
    put3 b t w A ((tile3 b t).emb k) = shapeCast S1x16x128 w shapeCasts_S16x128_S1x16x128 k := by
  have h0 : (k 0).val < 1 := (k 0).isLt
  have h2 : (k 2).val < 128 := (k 2).isLt
  have e0 : (((tile3 b t).emb k) 0).val = b.val + 1 * (k 0).val := rfl
  have e1 : (((tile3 b t).emb k) 1).val = 0 + 1 * (k 1).val := rfl
  have e2 : (((tile3 b t).emb k) 2).val = 128 * t.val + 1 * (k 2).val := rfl
  unfold put3
  rw [if_pos (by omega), eq_ix3 k]
  refine Eq.trans ?_ (shapeCast_ab_1ab_apply (a := 16) (b := 128) w shapeCasts_S16x128_S1x16x128 (k 0) (k 1) (k 2)).symm
  congr 1
  funext a
  match a with
  | ⟨0, _⟩ => exact Fin.ext (show 0 + 1 * (k 1).val = (k 1).val by omega)
  | ⟨1, _⟩ => exact Fin.ext (show (128 * t.val + 1 * (k 2).val) % 128 = (k 2).val by omega)

theorem put3_off {α : Type} (b : Fin 2) (t : Fin 15) (w : S16x128.Idx → α) (A : S2x16x1920.Idx → α) (i : S2x16x1920.Idx) (h : i ∉ (tile3 b t).set) :
    put3 b t w A i = A i := by unfold put3; rw [if_neg (fun h' => h (mem_tile3.mpr h'))]

/-! ## Loads and stores -/

theorem ldX_wp {off : Fin 2 → Nat} {inb : ∀ a, off a + S32x128.size a ≤ S18432x1920.size a} {lo hi : Nat} (h : lo ≤ off 0 ∧ off 0 + 32 ≤ hi) {X : CX F}
    {Q : Vec F S32x128 .fp8e4m3 → sProp 𝕄} :
    iprop((xV.view.loc (c : Thread nD τ) ↦[rows lo hi]{fullShare} X) ∗ ((xV.view.loc (c : Thread nD τ) ↦[rows lo hi]{fullShare} X) -∗ Q (getX off inb X)))
      ⊢ WP c (ldX off inb) Q :=
  ld_wp (m := xV) (r := rx off inb) (S := rows lo hi) (f := X) (by
    rw [show (xV.access (rx off inb)).set = (rx off inb).set from View.set_slice_whole _ _]
    exact fun i hi' => mem_rows.mpr (by have := mem_rx.mp hi'; omega))

theorem stX_wp {off : Fin 2 → Nat} {inb : ∀ a, off a + S32x128.size a ≤ S18432x1920.size a} {pk} {w : FVec F S32x128 .fp8e4m3}
    {lo hi : Nat} (h : lo ≤ off 0 ∧ off 0 + 32 ≤ hi) {X : CX F} {Q : PUnit → sProp 𝕄} :
    iprop((xV.view.loc (c : Thread nD τ) ↦[rows lo hi]{fullShare} X) ∗ ((xV.view.loc (c : Thread nD τ) ↦[rows lo hi]{fullShare} (putX off w X)) -∗ Q ⟨⟩))
      ⊢ WP c (stX off inb pk w) Q :=
  st_wp (m := xV) (r := rx off inb) (S := rows lo hi) (f := X) (putX off w X) (by
    rw [show (xV.access (rx off inb)).set = (rx off inb).set from View.set_slice_whole _ _]
    exact fun i hi' => mem_rows.mpr (by have := mem_rx.mp hi'; omega))
    (fun i _ => write_whole (b := cc0_scratch0) (fun k => by rw [shapeCast_self]; exact putX_emb off inb w X k) (fun i hi => putX_off off inb w X i hi) i)

/-! ## One lemma for each buffer -/

theorem ld3_s1V {b : Fin 2} {t : Fin 15} {A : C3 F} {Q : Vec F S1x16x128 .f32 → sProp 𝕄} :
    iprop((s1V.view.loc (c : Thread nD τ) ↦{fullShare} A) ∗ ((s1V.view.loc (c : Thread nD τ) ↦{fullShare} A) -∗ Q (get3 b t A))) ⊢ WP c (ld3 s1V b t) Q :=
  ld_wp (m := s1V) (r := tile3 b t) (S := Finset.univ) (f := A) (Finset.subset_univ _)
theorem st3_s1V {b : Fin 2} {t : Fin 15} {w : FVec F S16x128 .f32} {A : C3 F} {Q : PUnit → sProp 𝕄} :
    iprop((s1V.view.loc (c : Thread nD τ) ↦{fullShare} A) ∗ ((s1V.view.loc (c : Thread nD τ) ↦{fullShare} (put3 b t w A)) -∗ Q ⟨⟩)) ⊢ WP c (st3 s1V b t w) Q :=
  st_wp (m := s1V) (r := tile3 b t) (S := Finset.univ) (f := A) (put3 b t w A) (Finset.subset_univ _)
    (fun i _ => write_whole (b := cc0_scratch1) (fun k => put3_emb b t w A k) (fun i hi => put3_off b t w A i hi) i)

theorem ld3_s2V {b : Fin 2} {t : Fin 15} {A : C3 F} {Q : Vec F S1x16x128 .f32 → sProp 𝕄} :
    iprop((s2V.view.loc (c : Thread nD τ) ↦{fullShare} A) ∗ ((s2V.view.loc (c : Thread nD τ) ↦{fullShare} A) -∗ Q (get3 b t A))) ⊢ WP c (ld3 s2V b t) Q :=
  ld_wp (m := s2V) (r := tile3 b t) (S := Finset.univ) (f := A) (Finset.subset_univ _)
theorem st3_s2V {b : Fin 2} {t : Fin 15} {w : FVec F S16x128 .f32} {A : C3 F} {Q : PUnit → sProp 𝕄} :
    iprop((s2V.view.loc (c : Thread nD τ) ↦{fullShare} A) ∗ ((s2V.view.loc (c : Thread nD τ) ↦{fullShare} (put3 b t w A)) -∗ Q ⟨⟩)) ⊢ WP c (st3 s2V b t w) Q :=
  st_wp (m := s2V) (r := tile3 b t) (S := Finset.univ) (f := A) (put3 b t w A) (Finset.subset_univ _)
    (fun i _ => write_whole (b := cc0_scratch2) (fun k => put3_emb b t w A k) (fun i hi => put3_off b t w A i hi) i)

theorem ldT_wp {b : Fin 2} {t : Fin 15} {A : C3B F} {Q : Vec F S1x16x128 .bf16 → sProp 𝕄} :
    iprop((topV.view.loc (c : Thread nD τ) ↦{fullShare} A) ∗ ((topV.view.loc (c : Thread nD τ) ↦{fullShare} A) -∗ Q (get3 b t A))) ⊢ WP c (ldT b t) Q :=
  ld_wp (m := topV) (r := tile3 b t) (S := Finset.univ) (f := A) (Finset.subset_univ _)
theorem stT_wp {b : Fin 2} {t : Fin 15} {w : FVec F S16x128 .bf16} {A : C3B F} {Q : PUnit → sProp 𝕄} :
    iprop((topV.view.loc (c : Thread nD τ) ↦{fullShare} A) ∗ ((topV.view.loc (c : Thread nD τ) ↦{fullShare} (put3 b t w A)) -∗ Q ⟨⟩)) ⊢ WP c (stT b t w) Q :=
  st_wp (m := topV) (r := tile3 b t) (S := Finset.univ) (f := A) (put3 b t w A) (Finset.subset_univ _)
    (fun i _ => write_whole (b := cc0_scratch3) (fun k => put3_emb b t w A k) (fun i hi => put3_off b t w A i hi) i)

theorem ldL_meanV {b : Fin 2} {t : Fin 15} {A : FVec F S2x1920 .f32} {Q : Vec F S1x128 .f32 → sProp 𝕄} :
    iprop((meanV.view.loc (c : Thread nD τ) ↦{fullShare} A) ∗ ((meanV.view.loc (c : Thread nD τ) ↦{fullShare} A) -∗ Q (getL b t A))) ⊢ WP c (ldL meanV b t) Q :=
  ld_wp (m := meanV) (r := lane b t) (S := Finset.univ) (f := A) (Finset.subset_univ _)

theorem ldL_gainV {b : Fin 2} {t : Fin 15} {A : FVec F S2x1920 .f32} {Q : Vec F S1x128 .f32 → sProp 𝕄} :
    iprop((gainV.view.loc (c : Thread nD τ) ↦{fullShare} A) ∗ ((gainV.view.loc (c : Thread nD τ) ↦{fullShare} A) -∗ Q (getL b t A))) ⊢ WP c (ldL gainV b t) Q :=
  ld_wp (m := gainV) (r := lane b t) (S := Finset.univ) (f := A) (Finset.subset_univ _)

theorem ldL_biasV {b : Fin 2} {t : Fin 15} {A : FVec F S2x1920 .f32} {Q : Vec F S1x128 .f32 → sProp 𝕄} :
    iprop((biasV.view.loc (c : Thread nD τ) ↦{fullShare} A) ∗ ((biasV.view.loc (c : Thread nD τ) ↦{fullShare} A) -∗ Q (getL b t A))) ⊢ WP c (ldL biasV b t) Q :=
  ld_wp (m := biasV) (r := lane b t) (S := Finset.univ) (f := A) (Finset.subset_univ _)

/-- A rectangle that starts at zero and has the array's own extents reads the whole array. -/
theorem emb_unit_zero {s : Shape} {off : Fin s.rank → Nat} {inb : ∀ a, off a + s.size a ≤ s.size a} (h : ∀ a, off a = 0) (k : s.Idx) :
    (Rect.unit (s := s) off s.size inb).emb k = k := by
  funext a
  exact Fin.ext (show off a + 1 * (k a).val = (k a).val by rw [h a]; omega)
theorem mem_unit_zero {s : Shape} {off : Fin s.rank → Nat} {inb : ∀ a, off a + s.size a ≤ s.size a} (h : ∀ a, off a = 0) (i : s.Idx) :
    i ∈ (Rect.unit (s := s) off s.size inb).set := by
  rw [Rect.mem_set_unit]; intro a; rw [h a]; exact ⟨Nat.zero_le _, by rw [Nat.zero_add]; exact (i a).isLt⟩
theorem zero3d : ∀ a : Fin 3, (![0, 0, 0] : Fin 3 → Nat) a = 0 := by decide
theorem zero2d : ∀ a : Fin 2, (![0, 0] : Fin 2 → Nat) a = 0 := by decide

theorem ld_s1V {A : C3 F} {Q : C3 F → sProp 𝕄} :
    iprop((s1V.view.loc (c : Thread nD τ) ↦{fullShare} A) ∗ ((s1V.view.loc (c : Thread nD τ) ↦{fullShare} A) -∗ Q A)) ⊢ WP c (ldW3 s1V) Q := by
  have h := ld_wp (c := c) (m := s1V) (r := whole3) (hl := (View.loadsAt_vmem h_S2x16x1920)) (S := Finset.univ) (q := fullShare) (f := A) (Finset.subset_univ _) (Q := Q)
  rwa [show (s1V.access whole3).read (Elt F) A = A from funext fun k => congrArg A (emb_unit_zero zero3d k)] at h

theorem ld_s2V {A : C3 F} {Q : C3 F → sProp 𝕄} :
    iprop((s2V.view.loc (c : Thread nD τ) ↦{fullShare} A) ∗ ((s2V.view.loc (c : Thread nD τ) ↦{fullShare} A) -∗ Q A)) ⊢ WP c (ldW3 s2V) Q := by
  have h := ld_wp (c := c) (m := s2V) (r := whole3) (hl := (View.loadsAt_vmem h_S2x16x1920)) (S := Finset.univ) (q := fullShare) (f := A) (Finset.subset_univ _) (Q := Q)
  rwa [show (s2V.access whole3).read (Elt F) A = A from funext fun k => congrArg A (emb_unit_zero zero3d k)] at h

theorem ld_topV {A : C3B F} {Q : C3B F → sProp 𝕄} :
    iprop((topV.view.loc (c : Thread nD τ) ↦{fullShare} A) ∗ ((topV.view.loc (c : Thread nD τ) ↦{fullShare} A) -∗ Q A)) ⊢ WP c ((Prog.lift (.load topV whole3.toLoadRect (View.loadsAt_vmem h_S2x16x1920)) : PP F (Vec F S2x16x1920 .bf16))) Q := by
  have h := ld_wp (c := c) (m := topV) (r := whole3) (hl := (View.loadsAt_vmem h_S2x16x1920)) (S := Finset.univ) (q := fullShare) (f := A) (Finset.subset_univ _) (Q := Q)
  rwa [show (topV.access whole3).read (Elt F) A = A from funext fun k => congrArg A (emb_unit_zero zero3d k)] at h

theorem ld_meanV {A : FVec F S2x1920 .f32} {Q : FVec F S2x1920 .f32 → sProp 𝕄} :
    iprop((meanV.view.loc (c : Thread nD τ) ↦{fullShare} A) ∗ ((meanV.view.loc (c : Thread nD τ) ↦{fullShare} A) -∗ Q A)) ⊢ WP c (ldW2 meanV) Q := by
  have h := ld_wp (c := c) (m := meanV) (r := whole2) (hl := (View.loadsAt_vmem h_S2x1920)) (S := Finset.univ) (q := fullShare) (f := A) (Finset.subset_univ _) (Q := Q)
  rwa [show (meanV.access whole2).read (Elt F) A = A from funext fun k => congrArg A (emb_unit_zero zero2d k)] at h

theorem ld_gainV {A : FVec F S2x1920 .f32} {Q : FVec F S2x1920 .f32 → sProp 𝕄} :
    iprop((gainV.view.loc (c : Thread nD τ) ↦{fullShare} A) ∗ ((gainV.view.loc (c : Thread nD τ) ↦{fullShare} A) -∗ Q A)) ⊢ WP c (ldW2 gainV) Q := by
  have h := ld_wp (c := c) (m := gainV) (r := whole2) (hl := (View.loadsAt_vmem h_S2x1920)) (S := Finset.univ) (q := fullShare) (f := A) (Finset.subset_univ _) (Q := Q)
  rwa [show (gainV.access whole2).read (Elt F) A = A from funext fun k => congrArg A (emb_unit_zero zero2d k)] at h

theorem ld_biasV {A : FVec F S2x1920 .f32} {Q : FVec F S2x1920 .f32 → sProp 𝕄} :
    iprop((biasV.view.loc (c : Thread nD τ) ↦{fullShare} A) ∗ ((biasV.view.loc (c : Thread nD τ) ↦{fullShare} A) -∗ Q A)) ⊢ WP c (ldW2 biasV) Q := by
  have h := ld_wp (c := c) (m := biasV) (r := whole2) (hl := (View.loadsAt_vmem h_S2x1920)) (S := Finset.univ) (q := fullShare) (f := A) (Finset.subset_univ _) (Q := Q)
  rwa [show (biasV.access whole2).read (Elt F) A = A from funext fun k => congrArg A (emb_unit_zero zero2d k)] at h

theorem ld_devV {A : FVec F S2x32 .f32} {Q : FVec F S2x32 .f32 → sProp 𝕄} :
    iprop((devV.view.loc (c : Thread nD τ) ↦{fullShare} A) ∗ ((devV.view.loc (c : Thread nD τ) ↦{fullShare} A) -∗ Q A)) ⊢ WP c (ldG devV) Q := by
  have h := ld_wp (c := c) (m := devV) (r := wholeG) (hl := (View.loadsAt_vmem h_S2x32)) (S := Finset.univ) (q := fullShare) (f := A) (Finset.subset_univ _) (Q := Q)
  rwa [show (devV.access wholeG).read (Elt F) A = A from funext fun k => congrArg A (emb_unit_zero zero2d k)] at h

theorem zero3_s1V {A : C3 F} {Q : PUnit → sProp 𝕄} :
    iprop((s1V.view.loc (c : Thread nD τ) ↦{fullShare} A) ∗ ((s1V.view.loc (c : Thread nD τ) ↦{fullShare} (broadcast S2x16x1920 (Scalar.ofBits .f32 0x00000000#32) : C3 F)) -∗ Q ⟨⟩)) ⊢ WP c (zero3 s1V) Q := by
  unfold zero3
  iintro ⟨H, HQ⟩
  iapply wp_seq
  iapply ld_s1V
  isplitl [H]; · iexact H
  iintro H
  iapply (st_wp (m := s1V) (r := whole3) (S := Finset.univ) (f := A) (broadcast S2x16x1920 (Scalar.ofBits .f32 0x00000000#32)) (Finset.subset_univ _)
    (fun i _ => write_whole (b := cc0_scratch1) (fun k => by rw [shapeCast_self]; exact congrArg _ (emb_unit_zero zero3d k)) (fun i hi => absurd (mem_unit_zero zero3d i) hi) i))
  isplitl [H]; · iexact H
  iexact HQ

theorem zero3_s2V {A : C3 F} {Q : PUnit → sProp 𝕄} :
    iprop((s2V.view.loc (c : Thread nD τ) ↦{fullShare} A) ∗ ((s2V.view.loc (c : Thread nD τ) ↦{fullShare} (broadcast S2x16x1920 (Scalar.ofBits .f32 0x00000000#32) : C3 F)) -∗ Q ⟨⟩)) ⊢ WP c (zero3 s2V) Q := by
  unfold zero3
  iintro ⟨H, HQ⟩
  iapply wp_seq
  iapply ld_s2V
  isplitl [H]; · iexact H
  iintro H
  iapply (st_wp (m := s2V) (r := whole3) (S := Finset.univ) (f := A) (broadcast S2x16x1920 (Scalar.ofBits .f32 0x00000000#32)) (Finset.subset_univ _)
    (fun i _ => write_whole (b := cc0_scratch2) (fun k => by rw [shapeCast_self]; exact congrArg _ (emb_unit_zero zero3d k)) (fun i hi => absurd (mem_unit_zero zero3d i) hi) i))
  isplitl [H]; · iexact H
  iexact HQ

theorem zeroTop_wp {A : C3B F} {Q : PUnit → sProp 𝕄} :
    iprop((topV.view.loc (c : Thread nD τ) ↦{fullShare} A) ∗ ((topV.view.loc (c : Thread nD τ) ↦{fullShare} (broadcast S2x16x1920 (Scalar.ofBits .bf16 0xFF80#16) : C3B F)) -∗ Q ⟨⟩)) ⊢ WP c (zeroTop) Q := by
  unfold zeroTop
  iintro ⟨H, HQ⟩
  iapply wp_seq
  iapply ld_topV
  isplitl [H]; · iexact H
  iintro H
  iapply (st_wp (m := topV) (r := whole3) (S := Finset.univ) (f := A) (broadcast S2x16x1920 (Scalar.ofBits .bf16 0xFF80#16)) (Finset.subset_univ _)
    (fun i _ => write_whole (b := cc0_scratch3) (fun k => by rw [shapeCast_self]; exact congrArg _ (emb_unit_zero zero3d k)) (fun i hi => absurd (mem_unit_zero zero3d i) hi) i))
  isplitl [H]; · iexact H
  iexact HQ

theorem set_meanV {w : FVec F S2x1920 .f32} {A : FVec F S2x1920 .f32} {Q : PUnit → sProp 𝕄} :
    iprop((meanV.view.loc (c : Thread nD τ) ↦{fullShare} A) ∗ ((meanV.view.loc (c : Thread nD τ) ↦{fullShare} (w : FVec F S2x1920 .f32)) -∗ Q ⟨⟩)) ⊢ WP c (set2 meanV w) Q := by
  unfold set2
  iintro ⟨H, HQ⟩
  iapply wp_seq
  iapply ld_meanV
  isplitl [H]; · iexact H
  iintro H
  iapply (st_wp (m := meanV) (r := whole2) (S := Finset.univ) (f := A) (w) (Finset.subset_univ _)
    (fun i _ => write_whole (b := cc0_scratch4) (fun k => by rw [shapeCast_self]; exact congrArg _ (emb_unit_zero zero2d k)) (fun i hi => absurd (mem_unit_zero zero2d i) hi) i))
  isplitl [H]; · iexact H
  iexact HQ

theorem set_gainV {w : FVec F S2x1920 .f32} {A : FVec F S2x1920 .f32} {Q : PUnit → sProp 𝕄} :
    iprop((gainV.view.loc (c : Thread nD τ) ↦{fullShare} A) ∗ ((gainV.view.loc (c : Thread nD τ) ↦{fullShare} (w : FVec F S2x1920 .f32)) -∗ Q ⟨⟩)) ⊢ WP c (set2 gainV w) Q := by
  unfold set2
  iintro ⟨H, HQ⟩
  iapply wp_seq
  iapply ld_gainV
  isplitl [H]; · iexact H
  iintro H
  iapply (st_wp (m := gainV) (r := whole2) (S := Finset.univ) (f := A) (w) (Finset.subset_univ _)
    (fun i _ => write_whole (b := cc0_scratch5) (fun k => by rw [shapeCast_self]; exact congrArg _ (emb_unit_zero zero2d k)) (fun i hi => absurd (mem_unit_zero zero2d i) hi) i))
  isplitl [H]; · iexact H
  iexact HQ

theorem set_biasV {w : FVec F S2x1920 .f32} {A : FVec F S2x1920 .f32} {Q : PUnit → sProp 𝕄} :
    iprop((biasV.view.loc (c : Thread nD τ) ↦{fullShare} A) ∗ ((biasV.view.loc (c : Thread nD τ) ↦{fullShare} (w : FVec F S2x1920 .f32)) -∗ Q ⟨⟩)) ⊢ WP c (set2 biasV w) Q := by
  unfold set2
  iintro ⟨H, HQ⟩
  iapply wp_seq
  iapply ld_biasV
  isplitl [H]; · iexact H
  iintro H
  iapply (st_wp (m := biasV) (r := whole2) (S := Finset.univ) (f := A) (w) (Finset.subset_univ _)
    (fun i _ => write_whole (b := cc0_scratch6) (fun k => by rw [shapeCast_self]; exact congrArg _ (emb_unit_zero zero2d k)) (fun i hi => absurd (mem_unit_zero zero2d i) hi) i))
  isplitl [H]; · iexact H
  iexact HQ

theorem set_devV {w : FVec F S2x32 .f32} {A : FVec F S2x32 .f32} {Q : PUnit → sProp 𝕄} :
    iprop((devV.view.loc (c : Thread nD τ) ↦{fullShare} A) ∗ ((devV.view.loc (c : Thread nD τ) ↦{fullShare} (w : FVec F S2x32 .f32)) -∗ Q ⟨⟩)) ⊢ WP c (setG devV w) Q := by
  unfold setG
  iintro ⟨H, HQ⟩
  iapply wp_seq
  iapply ld_devV
  isplitl [H]; · iexact H
  iintro H
  iapply (st_wp (m := devV) (r := wholeG) (S := Finset.univ) (f := A) (w) (Finset.subset_univ _)
    (fun i _ => write_whole (b := cc0_scratch7) (fun k => by rw [shapeCast_self]; exact congrArg _ (emb_unit_zero zero2d k)) (fun i hi => absurd (mem_unit_zero zero2d i) hi) i))
  isplitl [H]; · iexact H
  iexact HQ

end Cert.Kernel.Hand
end
end
-- ==== Proof.KTiles.lean ====
/-
  The tiles' loops: what the buffers hold after them, as folds over the tiles in the order the kernel visits them.
-/
module
public import proofs.«01_k».proof.Proof.KRun
@[expose] public section
set_option maxRecDepth 8192
noncomputable section
namespace Cert.Kernel.Hand
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

theorem wp_weaken {α : Type} {p : PP F α} {Q Q' : α → sProp 𝕄} : iprop(WP c p Q ∗ (∀ a, Q a -∗ Q' a)) ⊢ WP c p Q' := wp_wand_r _ _ _

/-- A list of programs, by what holds after each. -/
theorem seqL_wp {α σ : Type} (f : α → PP F PUnit) (P : σ → sProp 𝕄) (step : σ → α → σ)
    (h : ∀ s a, P s ⊢ WP c (f a) (fun _ => P (step s a))) (l : List α) (s : σ) : P s ⊢ WP c (seqL f l) (fun _ => P (l.foldl step s)) := by
  induction l generalizing s with
  | nil => exact wp_done (c := c) (a := PUnit.unit) (Q := fun _ => P s)
  | cons a l ih =>
    refine (h s a).trans ?_
    refine .trans ?_ (wp_seq (p := f a) (k := fun _ => seqL f l))
    exact wp_mono _ _ _ fun _ => ih (step s a)

/-- The first `k` steps of a loop of `N` steps. -/
def loopTo {σ : Type} {N : Nat} (step : Fin N → σ → σ) (s : σ) : Nat → σ
  | 0 => s
  | k + 1 => if h : k < N then step ⟨k, h⟩ (loopTo step s k) else loopTo step s k

theorem loopTo_succ {σ : Type} {N : Nat} (step : Fin N → σ → σ) (s : σ) (k : Fin N) : loopTo step s (k.val + 1) = step k (loopTo step s k.val) := by
  rw [loopTo, dif_pos k.isLt]

/-- The three running buffers. -/
structure St (F : FTy → Type) where
  a1 : C3 F
  a2 : C3 F
  tp : C3B F

def stPt (c : Dev nD) (s : St F) : sProp 𝕄 :=
  iprop((s1V.view.loc (c : Thread nD τ) ↦{fullShare} s.a1) ∗ (s2V.view.loc (c : Thread nD τ) ↦{fullShare} s.a2) ∗ (topV.view.loc (c : Thread nD τ) ↦{fullShare} s.tp))
abbrev xPt (c : Dev nD) (lo hi : Nat) (X : CX F) : sProp 𝕄 := iprop(xV.view.loc (c : Thread nD τ) ↦[rows lo hi]{fullShare} X)

/-- The running vectors of a tile over a list of its blocks of rows. -/
def accF (sg : FVec F S1x128 .bf16) (off : Fin 8 → Fin 2 → Nat) (inb : ∀ r a, off r a + S32x128.size a ≤ S18432x1920.size a) (X : CX F) (l : List (Fin 8)) (a : Acc F) : Acc F :=
  l.foldl (fun a r => acc1 sg a (getX (off r) (inb r) X)) a

theorem accL_wp {sg : FVec F S1x128 .bf16} {off : Fin 8 → Fin 2 → Nat} {inb : ∀ r a, off r a + S32x128.size a ≤ S18432x1920.size a} {lo hi : Nat}
    (h : ∀ r, lo ≤ off r 0 ∧ off r 0 + 32 ≤ hi) {X : CX F} (l : List (Fin 8)) (a : Acc F) :
    xPt c lo hi X ⊢ WP c (accL sg off inb l a) (fun v => iprop(⌜v = accF sg off inb X l a⌝ ∗ xPt c lo hi X)) := by
  induction l generalizing a with
  | nil =>
    refine .trans ?_ wp_done
    iintro H
    isplitr
    · ipureintro; rfl
    · iexact H
  | cons r l ih =>
    unfold accL
    iintro H
    iapply wp_seq
    iapply ldX_wp (h r)
    isplitl [H]; · iexact H
    iintro H
    iapply ih; iexact H

def tileAcc (sg : FVec F S1x128 .bf16) (off : Fin 8 → Fin 2 → Nat) (inb : ∀ r a, off r a + S32x128.size a ≤ S18432x1920.size a) (X : CX F) : Acc F :=
  accF sg off inb X fin7 (acc0 sg (getX (off 0) (inb 0) X))

def statStep (gm : FVec F S1x1920 .f32) (b : Fin 2) (off : Fin 15 → Fin 8 → Fin 2 → Nat)
    (inb : ∀ t r a, off t r a + S32x128.size a ≤ S18432x1920.size a) (X : CX F) (s : St F) (t : Fin 15) : St F :=
  ⟨put3 b t (addf (up (get3 b t s.a1)) (tileAcc (signv gm t) (off t) (inb t) X).s1) s.a1,
   put3 b t (addf (up (get3 b t s.a2)) (tileAcc (signv gm t) (off t) (inb t) X).s2) s.a2,
   put3 b t (maximumf (upB (get3 b t s.tp)) (tileAcc (signv gm t) (off t) (inb t) X).tp) s.tp⟩

theorem statTile_wp {gm : FVec F S1x1920 .f32} {b : Fin 2} {off : Fin 15 → Fin 8 → Fin 2 → Nat}
    {inb : ∀ t r a, off t r a + S32x128.size a ≤ S18432x1920.size a} {lo hi : Nat} (h : ∀ t r, lo ≤ off t r 0 ∧ off t r 0 + 32 ≤ hi) {X : CX F} (s : St F) (t : Fin 15) :
    iprop(xPt c lo hi X ∗ stPt c s) ⊢ WP c (statTile gm b off inb t) (fun _ => iprop(xPt c lo hi X ∗ stPt c (statStep gm b off inb X s t))) := by
  unfold statTile stPt
  iintro ⟨HX, H1, H2, H3⟩
  iapply wp_seq; iapply ldX_wp (h t 0); isplitl [HX]; · iexact HX
  iintro HX
  iapply wp_seq
  iapply wp_weaken
  isplitl [HX]
  · iapply accL_wp (h t); iexact HX
  iintro %v ⟨%hv, HX⟩
  subst hv
  iapply wp_seq; iapply ld3_s1V; isplitl [H1]; · iexact H1
  iintro H1
  iapply wp_seq; iapply ld3_s1V; isplitl [H1]; · iexact H1
  iintro H1
  iapply wp_seq; iapply st3_s1V; isplitl [H1]; · iexact H1
  iintro H1
  iapply wp_seq; iapply ld3_s2V; isplitl [H2]; · iexact H2
  iintro H2
  iapply wp_seq; iapply ld3_s2V; isplitl [H2]; · iexact H2
  iintro H2
  iapply wp_seq; iapply st3_s2V; isplitl [H2]; · iexact H2
  iintro H2
  iapply wp_seq; iapply ldT_wp; isplitl [H3]; · iexact H3
  iintro H3
  iapply wp_seq; iapply ldT_wp; isplitl [H3]; · iexact H3
  iintro H3
  iapply stT_wp; isplitl [H3]; · iexact H3
  iintro H3
  isplitl [HX]; · iexact HX
  isplitl [H1]; · iexact H1
  isplitl [H2]; · iexact H2
  iexact H3

def statTiles (gm : FVec F S1x1920 .f32) (b : Fin 2) (off : Fin 15 → Fin 8 → Fin 2 → Nat)
    (inb : ∀ t r a, off t r a + S32x128.size a ≤ S18432x1920.size a) (X : CX F) (s : St F) : St F := fin15.foldl (statStep gm b off inb X) s

theorem statTiles_wp {gm : FVec F S1x1920 .f32} {b : Fin 2} {off : Fin 15 → Fin 8 → Fin 2 → Nat}
    {inb : ∀ t r a, off t r a + S32x128.size a ≤ S18432x1920.size a} {lo hi : Nat} (h : ∀ t r, lo ≤ off t r 0 ∧ off t r 0 + 32 ≤ hi) {X : CX F} (s : St F) :
    iprop(xPt c lo hi X ∗ stPt c s) ⊢ WP c (seqL (statTile gm b off inb) fin15) (fun _ => iprop(xPt c lo hi X ∗ stPt c (statTiles gm b off inb X s))) :=
  seqL_wp _ (fun s => iprop(xPt c lo hi X ∗ stPt c s)) (statStep gm b off inb X) (fun s t => statTile_wp h s t) fin15 s

/-! ## The squared deviations -/

def devStep (b : Fin 2) (off : Fin 15 → Fin 2 → Nat) (inb : ∀ t a, off t a + S32x128.size a ≤ S18432x1920.size a) (X : CX F) (m : FVec F S2x1920 .f32)
    (A : C3 F) (t : Fin 15) : C3 F := put3 b t (devSum (getL b t m) (getX (off t) (inb t) X) (get3 b t A)) A
def devTiles (b : Fin 2) (off : Fin 15 → Fin 2 → Nat) (inb : ∀ t a, off t a + S32x128.size a ≤ S18432x1920.size a) (X : CX F) (m : FVec F S2x1920 .f32)
    (A : C3 F) : C3 F := fin15.foldl (devStep b off inb X m) A
abbrev mPt (c : Dev nD) (m : FVec F S2x1920 .f32) : sProp 𝕄 := iprop(meanV.view.loc (c : Thread nD τ) ↦{fullShare} m)
abbrev gPt (c : Dev nD) (m : FVec F S2x1920 .f32) : sProp 𝕄 := iprop(gainV.view.loc (c : Thread nD τ) ↦{fullShare} m)
abbrev hPt (c : Dev nD) (m : FVec F S2x1920 .f32) : sProp 𝕄 := iprop(biasV.view.loc (c : Thread nD τ) ↦{fullShare} m)
abbrev dPt (c : Dev nD) (m : FVec F S2x32 .f32) : sProp 𝕄 := iprop(devV.view.loc (c : Thread nD τ) ↦{fullShare} m)
abbrev s1Pt (c : Dev nD) (A : C3 F) : sProp 𝕄 := iprop(s1V.view.loc (c : Thread nD τ) ↦{fullShare} A)
abbrev s2Pt (c : Dev nD) (A : C3 F) : sProp 𝕄 := iprop(s2V.view.loc (c : Thread nD τ) ↦{fullShare} A)

theorem devTiles_wp {b : Fin 2} {off : Fin 15 → Fin 2 → Nat} {inb : ∀ t a, off t a + S32x128.size a ≤ S18432x1920.size a} {lo hi : Nat}
    (h : ∀ t, lo ≤ off t 0 ∧ off t 0 + 32 ≤ hi) {X : CX F} {m : FVec F S2x1920 .f32} (A : C3 F) :
    iprop(s2Pt c A ∗ xPt c lo hi X ∗ mPt c m) ⊢ WP c (seqL (devTile b off inb) fin15) (fun _ => iprop(s2Pt c (devTiles b off inb X m A) ∗ xPt c lo hi X ∗ mPt c m)) := by
  refine seqL_wp _ (fun A => iprop(s2Pt c A ∗ xPt c lo hi X ∗ mPt c m)) (devStep b off inb X m) (fun A t => ?_) fin15 A
  unfold devTile
  iintro ⟨H2, HX, HM⟩
  iapply wp_seq; iapply ldX_wp (h t); isplitl [HX]; · iexact HX
  iintro HX
  iapply wp_seq; iapply ldL_meanV; isplitl [HM]; · iexact HM
  iintro HM
  iapply wp_seq; iapply ld3_s2V; isplitl [H2]; · iexact H2
  iintro H2
  iapply wp_seq; iapply ld3_s2V; isplitl [H2]; · iexact H2
  iintro H2
  iapply st3_s2V; isplitl [H2]; · iexact H2
  iintro H2
  isplitl [H2]; · iexact H2
  isplitl [HX]; · iexact HX
  iexact HM

/-! ## The exact maximum -/

def maxStep (bt : FVec F S1x1920 .f32) (b : Fin 2) (off : Fin 15 → Fin 2 → Nat) (inb : ∀ t a, off t a + S32x128.size a ≤ S18432x1920.size a) (X : CX F) (m g : FVec F S2x1920 .f32)
    (A : C3 F) (t : Fin 15) : C3 F := put3 b t (absMax (getL b t m) (getL b t g) bt t (getX (off t) (inb t) X) (get3 b t A)) A
def maxTiles (bt : FVec F S1x1920 .f32) (b : Fin 2) (off : Fin 15 → Fin 2 → Nat) (inb : ∀ t a, off t a + S32x128.size a ≤ S18432x1920.size a) (X : CX F) (m g : FVec F S2x1920 .f32)
    (A : C3 F) : C3 F := fin15.foldl (maxStep bt b off inb X m g) A

theorem maxTiles_wp {bt : FVec F S1x1920 .f32} {b : Fin 2} {off : Fin 15 → Fin 2 → Nat} {inb : ∀ t a, off t a + S32x128.size a ≤ S18432x1920.size a} {lo hi : Nat}
    (h : ∀ t, lo ≤ off t 0 ∧ off t 0 + 32 ≤ hi) {X : CX F} {m g : FVec F S2x1920 .f32} (A : C3 F) :
    iprop(s1Pt c A ∗ xPt c lo hi X ∗ mPt c m ∗ gPt c g) ⊢ WP c (seqL (maxTile bt b off inb) fin15)
      (fun _ => iprop(s1Pt c (maxTiles bt b off inb X m g A) ∗ xPt c lo hi X ∗ mPt c m ∗ gPt c g)) := by
  refine seqL_wp _ (fun A => iprop(s1Pt c A ∗ xPt c lo hi X ∗ mPt c m ∗ gPt c g)) (maxStep bt b off inb X m g) (fun A t => ?_) fin15 A
  unfold maxTile
  iintro ⟨H2, HX, HM, HG⟩
  iapply wp_seq; iapply ldX_wp (h t); isplitl [HX]; · iexact HX
  iintro HX
  iapply wp_seq; iapply ldL_meanV; isplitl [HM]; · iexact HM
  iintro HM
  iapply wp_seq; iapply ldL_gainV; isplitl [HG]; · iexact HG
  iintro HG
  iapply wp_seq; iapply ld3_s1V; isplitl [H2]; · iexact H2
  iintro H2
  iapply wp_seq; iapply ld3_s1V; isplitl [H2]; · iexact H2
  iintro H2
  iapply st3_s1V; isplitl [H2]; · iexact H2
  iintro H2
  isplitl [H2]; · iexact H2
  isplitl [HX]; · iexact HX
  isplitl [HM]; · iexact HM
  iexact HG

/-! ## The quantised tiles -/

def quantStep (g h : Vec F S1x128 .f32) (inv : F .f32) (off : Fin 8 → Fin 2 → Nat) (inb : ∀ r a, off r a + S32x128.size a ≤ S18432x1920.size a) (X : CX F) (r : Fin 8) : CX F :=
  putX (off r) (quantv g h inv (getX (off r) (inb r) X)) X
def quantLane (inv : F .f32) (b : Fin 2) (off : Fin 15 → Fin 8 → Fin 2 → Nat) (inb : ∀ t r a, off t r a + S32x128.size a ≤ S18432x1920.size a) (g h : FVec F S2x1920 .f32)
    (X : CX F) (t : Fin 15) : CX F := fin8.foldl (quantStep (getL b t g) (getL b t h) inv (off t) (inb t)) X
def quantAll (inv : F .f32) (b : Fin 2) (off : Fin 15 → Fin 8 → Fin 2 → Nat) (inb : ∀ t r a, off t r a + S32x128.size a ≤ S18432x1920.size a) (g h : FVec F S2x1920 .f32)
    (X : CX F) : CX F := fin15.foldl (quantLane inv b off inb g h) X

theorem quantLane_wp {g h : Vec F S1x128 .f32} {inv : F .f32} {off : Fin 8 → Fin 2 → Nat} {inb : ∀ r a, off r a + S32x128.size a ≤ S18432x1920.size a} {pk : ∀ r, (rx (off r) (inb r)).PackedRows (EltTy.packing .fp8e4m3)} {lo hi : Nat}
    (hr : ∀ r, lo ≤ off r 0 ∧ off r 0 + 32 ≤ hi) (X : CX F) :
    xPt c lo hi X ⊢ WP c (seqL (fun r => quantTile (off r) (inb r) (pk r) g h inv) fin8) (fun _ => xPt c lo hi (fin8.foldl (quantStep g h inv off inb) X)) := by
  refine seqL_wp _ (fun X => xPt c lo hi X) (quantStep g h inv off inb) (fun X r => ?_) fin8 X
  unfold quantTile
  iintro HX
  iapply wp_seq; iapply ldX_wp (hr r); isplitl [HX]; · iexact HX
  iintro HX
  iapply wp_seq; iapply ldX_wp (hr r); isplitl [HX]; · iexact HX
  iintro HX
  iapply stX_wp (hr r); isplitl [HX]; · iexact HX
  iintro HX; iexact HX

theorem quantTiles_wp {inv : F .f32} {b : Fin 2} {off : Fin 15 → Fin 8 → Fin 2 → Nat} {inb : ∀ t r a, off t r a + S32x128.size a ≤ S18432x1920.size a} {pk} {lo hi : Nat}
    (hr : ∀ t r, lo ≤ off t r 0 ∧ off t r 0 + 32 ≤ hi) {g h : FVec F S2x1920 .f32} (X : CX F) :
    iprop(xPt c lo hi X ∗ gPt c g ∗ hPt c h) ⊢ WP c (quantTiles inv b off inb pk)
      (fun _ => iprop(xPt c lo hi (quantAll inv b off inb g h X) ∗ gPt c g ∗ hPt c h)) := by
  refine seqL_wp _ (fun X => iprop(xPt c lo hi X ∗ gPt c g ∗ hPt c h)) (quantLane inv b off inb g h) (fun X t => ?_) fin15 X
  iintro ⟨HX, HG, HH⟩
  iapply wp_seq; iapply ldL_gainV; isplitl [HG]; · iexact HG
  iintro HG
  iapply wp_seq; iapply ldL_biasV; isplitl [HH]; · iexact HH
  iintro HH
  iapply wp_weaken
  isplitl [HX]
  · iapply quantLane_wp (hr t); iexact HX
  iintro %_ HX
  isplitl [HX]; · iexact HX
  isplitl [HG]; · iexact HG
  iexact HH

def illStep (bt : FVec F S1x1920 .f32) (inv : F .f32) (b : Fin 2) (off : Fin 15 → Fin 2 → Nat) (inb : ∀ t a, off t a + S32x128.size a ≤ S18432x1920.size a) (m g : FVec F S2x1920 .f32)
    (X : CX F) (t : Fin 15) : CX F := putX (off t) (clipv inv (normv (getL b t m) (getL b t g) bt t (getX (off t) (inb t) X))) X
def illTiles (bt : FVec F S1x1920 .f32) (inv : F .f32) (b : Fin 2) (off : Fin 15 → Fin 2 → Nat) (inb : ∀ t a, off t a + S32x128.size a ≤ S18432x1920.size a) (m g : FVec F S2x1920 .f32)
    (X : CX F) : CX F := fin15.foldl (illStep bt inv b off inb m g) X

theorem illTiles_wp {bt : FVec F S1x1920 .f32} {inv : F .f32} {b : Fin 2} {off : Fin 15 → Fin 2 → Nat} {inb : ∀ t a, off t a + S32x128.size a ≤ S18432x1920.size a} {pk} {lo hi : Nat}
    (hr : ∀ t, lo ≤ off t 0 ∧ off t 0 + 32 ≤ hi) {m g : FVec F S2x1920 .f32} (X : CX F) :
    iprop(xPt c lo hi X ∗ mPt c m ∗ gPt c g) ⊢ WP c (seqL (illTile bt inv b off inb pk) fin15)
      (fun _ => iprop(xPt c lo hi (illTiles bt inv b off inb m g X) ∗ mPt c m ∗ gPt c g)) := by
  refine seqL_wp _ (fun X => iprop(xPt c lo hi X ∗ mPt c m ∗ gPt c g)) (illStep bt inv b off inb m g) (fun X t => ?_) fin15 X
  unfold illTile
  iintro ⟨HX, HM, HG⟩
  iapply wp_seq; iapply ldX_wp (hr t); isplitl [HX]; · iexact HX
  iintro HX
  iapply wp_seq; iapply ldL_meanV; isplitl [HM]; · iexact HM
  iintro HM
  iapply wp_seq; iapply ldL_gainV; isplitl [HG]; · iexact HG
  iintro HG
  iapply wp_seq; iapply ldX_wp (hr t); isplitl [HX]; · iexact HX
  iintro HX
  iapply stX_wp (hr t); isplitl [HX]; · iexact HX
  iintro HX
  isplitl [HX]; · iexact HX
  isplitl [HM]; · iexact HM
  iexact HG

end Cert.Kernel.Hand
end
end
-- ==== Proof.KDma.lean ====
/-
  The copies in and out: the chunks of rows, their semaphores, what a copy leaves.
-/
module
public import proofs.«01_k».proof.Proof.KTiles
@[expose] public section
set_option maxRecDepth 8192
noncomputable section
namespace Cert.Kernel.Hand
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-! ## Chunks of rows -/

theorem chunk_set {off : Fin 2 → Nat} {inb : ∀ a, off a + S256x1920.size a ≤ S18432x1920.size a} {J : Nat} (h : off = ![256 * J, 0]) :
    (rchunk off inb).set = rows (256 * J) (256 * (J + 1)) := by
  subst h
  ext i
  rw [Rect.mem_set_unit, mem_rows]
  have h1 : (i 1).val < 1920 := (i 1).isLt
  constructor
  · intro h
    have a0 : 256 * J ≤ (i 0).val ∧ (i 0).val < 256 * J + 256 := h 0
    omega
  · rintro ⟨a0, a2⟩ a
    match a with
    | ⟨0, _⟩ => show 256 * J ≤ (i 0).val ∧ (i 0).val < 256 * J + 256; omega
    | ⟨1, _⟩ => show 0 ≤ (i 1).val ∧ (i 1).val < 0 + 1920; omega

theorem rows_union {a b d : Nat} (h : a ≤ b) (h' : b ≤ d) : rows a b ∪ rows b d = rows a d := by
  ext i; rw [Finset.mem_union, mem_rows, mem_rows, mem_rows]; omega
theorem rows_disjoint {a b d : Nat} : Disjoint (rows a b) (rows b d) := by
  rw [Finset.disjoint_left]; intro i h h'; rw [mem_rows] at h h'; omega
theorem rows_all : rows 0 18432 = Finset.univ := by
  ext i; rw [mem_rows]; have : (i 0).val < 18432 := (i 0).isLt; simp [this]
theorem rows_empty {a : Nat} : rows a a = ∅ := by
  ext i; rw [mem_rows]; simp

abbrev xmPt (c : Dev nD) (lo hi : Nat) (X : CX F) : sProp 𝕄 := iprop(xM.view.loc (c : Thread nD τ) ↦[rows lo hi]{fullShare} X)
abbrev ymPt (c : Dev nD) (lo hi : Nat) (X : CX F) : sProp 𝕄 := iprop(yM.view.loc (c : Thread nD τ) ↦[rows lo hi]{fullShare} X)

theorem xPt_split {a b d : Nat} (h : a ≤ b) (h' : b ≤ d) (X : CX F) : (xPt c a d X : sProp 𝕄) ⊣⊢ iprop(xPt c a b X ∗ xPt c b d X) := by
  show (xV.view.loc (c : Thread nD τ) ↦[rows a d]{fullShare} X) ⊣⊢ _
  rw [← rows_union h h']; exact pointsTo_union rows_disjoint
theorem xmPt_split {a b d : Nat} (h : a ≤ b) (h' : b ≤ d) (X : CX F) : (xmPt c a d X : sProp 𝕄) ⊣⊢ iprop(xmPt c a b X ∗ xmPt c b d X) := by
  show (xM.view.loc (c : Thread nD τ) ↦[rows a d]{fullShare} X) ⊣⊢ _
  rw [← rows_union h h']; exact pointsTo_union rows_disjoint
theorem ymPt_split {a b d : Nat} (h : a ≤ b) (h' : b ≤ d) (X : CX F) : (ymPt c a d X : sProp 𝕄) ⊣⊢ iprop(ymPt c a b X ∗ ymPt c b d X) := by
  show (yM.view.loc (c : Thread nD τ) ↦[rows a d]{fullShare} X) ⊣⊢ _
  rw [← rows_union h h']; exact pointsTo_union rows_disjoint
theorem xPt_congr {a b : Nat} {X Y : CX F} (h : ∀ i, a ≤ (i 0).val → (i 0).val < b → X i = Y i) : (xPt c a b X : sProp 𝕄) = xPt c a b Y :=
  pointsTo_congr fun i hi => h i (mem_rows.mp hi).1 (mem_rows.mp hi).2
theorem ymPt_congr {a b : Nat} {X Y : CX F} (h : ∀ i, a ≤ (i 0).val → (i 0).val < b → X i = Y i) : (ymPt c a b X : sProp 𝕄) = ymPt c a b Y :=
  pointsTo_congr fun i hi => h i (mem_rows.mp hi).1 (mem_rows.mp hi).2

/-! ## Semaphores -/

/-- The semaphore of the input's chunk `J`, and the one of the copies out. -/
def inSem (J : Nat) (h : J < 72) : DmaSem sig := ⟨4 + J, by show 4 + J < 77; omega⟩
def outSem : DmaSem sig := ⟨76, by show 76 < 77; omega⟩

theorem inSem_eq {off : Fin 1 → Nat} {inb : ∀ a, off a + S1.size a ≤ S72.size a} {J : Nat} (hJ : J < 72) (h : off = ![J]) :
    ((cc0_scratch8.slice (Rect.unit (s := S72) off S1.size inb)).squeeze S_ squeezes_S1_S_).sem = inSem J hJ := by
  subst h
  refine Fin.ext ?_
  show 4 + ((S72.rowMajor _ : Fin _) : Nat) = 4 + J
  congr 1
  rw [Shape.rowMajor_val_one]
  show J + 1 * (Shape.reshapeEquiv _ _ 0 : Fin _).val = J
  have h1 : ∀ (k : S1.Idx), J + 1 * (k 0).val = J := fun k => by have : (k 0).val < 1 := (k 0).isLt; omega
  exact h1 _

theorem outSem_eq : (cc0_scratch9.sem : DmaSem sig) = outSem := by
  refine Fin.ext ?_
  show 76 + ((S_.rowMajor _ : Fin _) : Nat) = 76
  exact congrArg (76 + ·) (Shape.rowMajorPi_zero _ _)

/-! ## What a copy leaves -/

abbrev xC (off : Fin 2 → Nat) (inb : ∀ a, off a + S256x1920.size a ≤ S18432x1920.size a) := xV.slice (rchunk off inb) (fun _ => rfl)
abbrev mC (off : Fin 2 → Nat) (inb : ∀ a, off a + S256x1920.size a ≤ S18432x1920.size a) := xM.slice (rchunk off inb) (fun _ => rfl)
abbrev yC (off : Fin 2 → Nat) (inb : ∀ a, off a + S256x1920.size a ≤ S18432x1920.size a) := yM.slice (rchunk off inb) (fun _ => rfl)

theorem landed_x {off : Fin 2 → Nat} {inb : ∀ a, off a + S256x1920.size a ≤ S18432x1920.size a} {f X : CX F} {i : S18432x1920.Idx} (hi : i ∈ (rchunk off inb).set) :
    (xC off inb).view.write (Elt F) f (ReadAs.same.apply ((mC off inb).view.read (Elt F) X)) Finset.univ i = X i := by
  rw [← Rect.map_emb_univ] at hi
  obtain ⟨k, -, rfl⟩ := Finset.mem_map.mp hi
  exact View.write_emb_of_mem (v := (xC off inb).view) f _ (Finset.mem_univ k)
theorem landed_y {off : Fin 2 → Nat} {inb : ∀ a, off a + S256x1920.size a ≤ S18432x1920.size a} {f X : CX F} {i : S18432x1920.Idx} (hi : i ∈ (rchunk off inb).set) :
    (yC off inb).view.write (Elt F) f (ReadAs.same.apply ((xC off inb).view.read (Elt F) X)) Finset.univ i = X i := by
  rw [← Rect.map_emb_univ] at hi
  obtain ⟨k, -, rfl⟩ := Finset.mem_map.mp hi
  exact View.write_emb_of_mem (v := (yC off inb).view) f _ (Finset.mem_univ k)

theorem xC_set {off : Fin 2 → Nat} {inb : ∀ a, off a + S256x1920.size a ≤ S18432x1920.size a} : (xC off inb).view.set = (rchunk off inb).set := View.set_slice_whole _ _
theorem mC_set {off : Fin 2 → Nat} {inb : ∀ a, off a + S256x1920.size a ≤ S18432x1920.size a} : (mC off inb).view.set = (rchunk off inb).set := View.set_slice_whole _ _
theorem yC_set {off : Fin 2 → Nat} {inb : ∀ a, off a + S256x1920.size a ≤ S18432x1920.size a} : (yC off inb).view.set = (rchunk off inb).set := View.set_slice_whole _ _

/-- What one copy moves, in the semaphore's units. -/
def chunkN : ℕ := (xC ![0, 0] (by intro a; match a with | ⟨0, _⟩ => (show 0 + 256 ≤ 18432; omega) | ⟨1, _⟩ => (show 0 + 1920 ≤ 1920; omega))).view.dmaCredit
theorem chunkN_pos : 0 < chunkN := by decide
theorem units_lt {k N : ℕ} (hN : 0 < N) (h : k < 71) : k * N + N < N * 72 := by
  rw [← Nat.succ_mul, Nat.mul_comm]; exact Nat.mul_lt_mul_of_pos_left (by omega) hN
theorem units_eq {k N : ℕ} (h : k = 71) : k * N + N = N * 72 := by rw [← Nat.succ_mul, Nat.mul_comm, h]

abbrev EC : UEmb Counters 𝕄 := countersEmb (U := Pipeline.UD sig nD τ)

/-- The copy of the input's chunk `J` in flight. -/
abbrev inFlight (c : Dev nD) (X : CX F) (J : Fin 72) : sProp 𝕄 :=
  Transfers.Flight EC (c : Thread nD τ) (.dma (inSem J.val J.isLt)) () chunkN
    iprop(xPt c (256 * J.val) (256 * (J.val + 1)) X ∗ xmPt c (256 * J.val) (256 * (J.val + 1)) X)

theorem inCopy_wp {i : Fin k0_t1_loop.trips} (hi : i.val < 72) {f X : CX F} {Q : PUnit → sProp 𝕄} :
    iprop(xmPt c (256 * i.val) (256 * (i.val + 1)) X ∗ xPt c (256 * i.val) (256 * (i.val + 1)) f ∗ semVal ((c : Thread nD τ), SemLoc.dma (inSem i.val hi)) 0
      ∗ (inFlight c X ⟨i.val, hi⟩ -∗ Q ⟨⟩)) ⊢ WP c (inCopy (F := F) i) Q := by
  have hset := chunk_set (inb := k0_off2_inb i) (k0_off2_eq i)
  have hsem := inSem_eq (inb := k0_off1_inb i) hi (k0_off1_eq i)
  have h := Transfers.wp_dmaLocal (EC (F := F)) (defs := defs₀ (F := F)) (Q := Q) Variants.none (c : Thread nD τ) none
    (src := mC (k0_off2 i) (k0_off2_inb i)) (dst := xC (k0_off2 i) (k0_off2_inb i)) (via := .same)
    (sm := .dma ((cc0_scratch8.slice (Rect.unit (s := S72) (k0_off1 i) S1.size (k0_off1_inb i))).squeeze S_ squeezes_S1_S_).sem)
    (hsrc := ((Memref.isWhole_whole _).wordExact_slice rfl _ (k0_off2_wordsfp8e4m3 i))) (hdst := ((Memref.isWhole_whole _).wordExact_slice rfl _ (k0_off2_wordsfp8e4m3 i)))
    (hsem := ⟨Or.inl rfl, trivial⟩) (k := fun _ => .ret ⟨⟩) (q := fullShare) (fs := X) (fd := f) (Sd := (xC (k0_off2 i) (k0_off2_inb i)).view.set) () chunkN rfl chunkN_pos subset_rfl
  have hx : ((xC (k0_off2 i) (k0_off2_inb i)).view.loc (c : Thread nD τ) ↦[(xC (k0_off2 i) (k0_off2_inb i)).view.set]{fullShare}
      (xC (k0_off2 i) (k0_off2_inb i)).view.write (Elt F) f (ReadAs.same.apply ((mC (k0_off2 i) (k0_off2_inb i)).view.read (Elt F) X)) Finset.univ : sProp 𝕄)
      = xPt c (256 * i.val) (256 * (i.val + 1)) X := by
    rw [pointsTo_congr (g := X) (fun j hj => landed_x (by rw [xC_set] at hj; exact hj)), xC_set, hset]
  have e1 : ((mC (k0_off2 i) (k0_off2_inb i)).view.loc (c : Thread nD τ) ↦[(mC (k0_off2 i) (k0_off2_inb i)).view.set]{fullShare} X : sProp 𝕄) = xmPt c (256 * i.val) (256 * (i.val + 1)) X := by
    rw [mC_set, hset]
  have e2 : ((xC (k0_off2 i) (k0_off2_inb i)).view.loc (c : Thread nD τ) ↦[(xC (k0_off2 i) (k0_off2_inb i)).view.set]{fullShare} f : sProp 𝕄) = xPt c (256 * i.val) (256 * (i.val + 1)) f := by
    rw [xC_set, hset]
  rw [hx, e1, e2] at h
  unfold inFlight
  rw [← hsem]
  unfold inCopy
  iintro ⟨HM, HX, HS, HQ⟩
  iapply h $$ [HM HX HS]
  · isplitl [HM]; · iexact HM
    isplitl [HX]; · iexact HX
    iexact HS
  iintro HF
  iapply wp_done
  iapply HQ; iexact HF

theorem inWait_wp {J : Nat} (hJ : J < 72) {offs : Fin 1 → Nat} {inbs : ∀ a, offs a + S1.size a ≤ S72.size a} {off : Fin 2 → Nat} {inb : ∀ a, off a + S256x1920.size a ≤ S18432x1920.size a}
    {ww : (rchunk off inb).WholeWords (EltTy.packing .fp8e4m3)} (hs : offs = ![J]) {X : CX F} {W : Waits sig Unit} {Q : PUnit → sProp 𝕄} :
    iprop(inFlight c X ⟨J, hJ⟩ ∗ owes (c : Thread nD τ) 0 W
      ∗ (iprop((xPt c (256 * J) (256 * (J + 1)) X ∗ xmPt c (256 * J) (256 * (J + 1)) X) ∗ semVal ((c : Thread nD τ), SemLoc.dma (inSem J hJ)) 0
          ∗ owes (c : Thread nD τ) 0 (insert (SemLoc.dma (inSem J hJ), ()) W)) -∗ Q ⟨⟩)) ⊢ WP c (inWait (F := F) offs inbs off inb ww) Q := by
  have hsem := inSem_eq (inb := inbs) hJ hs
  have h := Transfers.wp_waitLocal (EC (F := F)) (defs := defs₀ (F := F)) (Q := Q) Variants.none (c : Thread nD τ) none
    (sem := ((cc0_scratch8.slice (Rect.unit (s := S72) offs S1.size inbs)).squeeze S_ squeezes_S1_S_).sem) (srcw := mC off inb) (dstw := xC off inb)
    (hsrc := ((Memref.isWhole_whole _).wordExact_slice rfl _ ww)) (hdst := ((Memref.isWhole_whole _).wordExact_slice rfl _ ww))
    (k := fun _ => .ret ⟨⟩) () (N := chunkN) rfl
    (D := iprop(xPt c (256 * J) (256 * (J + 1)) X ∗ xmPt c (256 * J) (256 * (J + 1)) X)) (W := W)
  unfold inFlight
  rw [← hsem]
  unfold inWait
  iintro ⟨HF, HO, HQ⟩
  iapply h $$ [HF HO]
  · isplitl [HF]; · iexact HF
    iexact HO
  iintro H
  iapply wp_done
  iapply HQ; iexact H

/-! ## The copies out -/

/-- What the copies out deliver: each chunk of the result and of the copy in memory, both at `G`. -/
def outD (c : Dev nD) (G : CX F) (J : Fin 72) : sProp 𝕄 :=
  iprop(ymPt c (256 * J.val) (256 * (J.val + 1)) G ∗ xPt c (256 * J.val) (256 * (J.val + 1)) G)
instance outD_storable (G : CX F) (J : Fin 72) : Storable (upEmb : UEmb _ 𝕄) (outD c G J) := by unfold outD; infer_instance
abbrev outBatch (c : Dev nD) (G : CX F) (k u : ℕ) : sProp 𝕄 := Transfers.Batch EC (c : Thread nD τ) (SemLoc.dma cc0_scratch9.sem) () chunkN (outD c G) k u

theorem outCopy_wp {J : Nat} (hJ : J < 72) {off : Fin 2 → Nat} {inb : ∀ a, off a + S256x1920.size a ≤ S18432x1920.size a}
    {ww : (rchunk off inb).WholeWords (EltTy.packing .fp8e4m3)} (ho : off = ![256 * J, 0]) {X f G : CX F}
    (hG : ∀ i : S18432x1920.Idx, 256 * J ≤ (i 0).val → (i 0).val < 256 * (J + 1) → X i = G i) {Q : PUnit → sProp 𝕄} :
    iprop(outBatch c G J 0 ∗ xPt c (256 * J) (256 * (J + 1)) X ∗ ymPt c (256 * J) (256 * (J + 1)) f ∗ (outBatch c G (J + 1) 0 -∗ Q ⟨⟩))
      ⊢ WP c (outCopy (F := F) off inb ww) Q := by
  have hset := chunk_set (inb := inb) ho
  have e1 : ((xC off inb).view.loc (c : Thread nD τ) ↦[(xC off inb).view.set]{fullShare} X : sProp 𝕄) = xPt c (256 * J) (256 * (J + 1)) X := by
    rw [xC_set, hset]
  have e2 : ((yC off inb).view.loc (c : Thread nD τ) ↦[(yC off inb).view.set]{fullShare} f : sProp 𝕄) = ymPt c (256 * J) (256 * (J + 1)) f := by
    rw [yC_set, hset]
  have hx : ((yC off inb).view.loc (c : Thread nD τ) ↦[(yC off inb).view.set]{fullShare}
      (yC off inb).view.write (Elt F) f (ReadAs.same.apply ((xC off inb).view.read (Elt F) X)) Finset.univ : sProp 𝕄)
      = ymPt c (256 * J) (256 * (J + 1)) X := by
    rw [pointsTo_congr (g := X) (fun j hj => landed_y (by rw [yC_set] at hj; exact hj)), yC_set, hset]
  have h := Transfers.wp_dmaBatch (EC (F := F)) (defs := defs₀ (F := F)) (Q := Q) Variants.none (c : Thread nD τ) none
    (src := xC off inb) (dst := yC off inb) (via := .same) (sm := .dma cc0_scratch9.sem)
    (hsrc := ((Memref.isWhole_whole _).wordExact_slice rfl _ ww)) (hdst := ((Memref.isWhole_whole _).wordExact_slice rfl _ ww))
    (hsem := ⟨Or.inl rfl, trivial⟩) (k := fun _ => .ret ⟨⟩) (q := fullShare) (fs := X) (fd := f) (Sd := (yC off inb).view.set) (D := outD c G) (j := J) (u := 0)
    () chunkN rfl subset_rfl hJ (Nat.zero_le _) (by
      rw [hx, e1, xPt_congr hG, ymPt_congr hG]; exact .rfl)
  rw [e1, e2] at h
  unfold outCopy
  iintro ⟨HB, HX, HY, HQ⟩
  iapply h $$ [HB HX HY]
  · isplitl [HX]; · iexact HX
    isplitl [HY]; · iexact HY
    iexact HB
  iintro HF
  iapply wp_done
  iapply HQ; iexact HF

abbrev OW (c : Dev nD) : sProp 𝕄 := iprop(∃ W, owes (c : Thread nD τ) 0 W)

theorem outWait_wp {G : CX F} {i : Fin k0_t14_loop.trips} {u : ℕ} (hu : u + chunkN < chunkN * 72) :
    iprop(outBatch c G 72 u ∗ OW c) ⊢ WP c (outWait (F := F) i) (fun _ => iprop(outBatch c G 72 (u + chunkN) ∗ OW c)) := by
  have h := fun W : Waits sig Unit => Transfers.wp_waitBatch (EC (F := F)) (defs := defs₀ (F := F)) (Q := fun _ => iprop(outBatch c G 72 (u + chunkN) ∗ OW c)) Variants.none (c : Thread nD τ) none
    (sem := cc0_scratch9.sem) (srcw := xC (k0_off161 i) (k0_off161_inb i)) (dstw := yC (k0_off161 i) (k0_off161_inb i))
    (hsrc := ((Memref.isWhole_whole _).wordExact_slice rfl _ (k0_off161_wordsfp8e4m3 i))) (hdst := ((Memref.isWhole_whole _).wordExact_slice rfl _ (k0_off161_wordsfp8e4m3 i)))
    (k := fun _ => .ret (⟨⟩ : PUnit)) () (N := chunkN) rfl (D := outD c G) (u := u) hu (W := W)
  unfold outWait
  iintro ⟨HB, %W, HO⟩
  iapply h W $$ [HB HO]
  · isplitl [HB]; · iexact HB
    iexact HO
  iintro ⟨HB, HO⟩
  iapply wp_done
  isplitl [HB]; · iexact HB
  iexists _; iexact HO

theorem outLast_wp {G : CX F} {i : Fin k0_t14_loop.trips} {u : ℕ} (hu : u + chunkN = chunkN * 72) :
    iprop(outBatch c G 72 u ∗ OW c)
      ⊢ WP c (outWait (F := F) i) (fun _ => iprop(bigSep Finset.univ (outD c G) ∗ semVal ((c : Thread nD τ), SemLoc.dma cc0_scratch9.sem) 0 ∗ OW c)) := by
  have h := fun W : Waits sig Unit => Transfers.wp_waitBatchLast (EC (F := F)) (defs := defs₀ (F := F))
    (Q := fun _ => iprop(bigSep Finset.univ (outD c G) ∗ semVal ((c : Thread nD τ), SemLoc.dma cc0_scratch9.sem) 0 ∗ OW c)) Variants.none (c : Thread nD τ) none
    (sem := cc0_scratch9.sem) (srcw := xC (k0_off161 i) (k0_off161_inb i)) (dstw := yC (k0_off161 i) (k0_off161_inb i))
    (hsrc := ((Memref.isWhole_whole _).wordExact_slice rfl _ (k0_off161_wordsfp8e4m3 i))) (hdst := ((Memref.isWhole_whole _).wordExact_slice rfl _ (k0_off161_wordsfp8e4m3 i)))
    (k := fun _ => .ret (⟨⟩ : PUnit)) () (N := chunkN) rfl chunkN_pos (D := outD c G) (u := u) hu (W := W)
  unfold outWait
  iintro ⟨HB, %W, HO⟩
  iapply h W $$ [HB HO]
  · isplitl [HB]; · iexact HB
    iexact HO
  iintro ⟨HB, HS, HO⟩
  iapply wp_done
  isplitl [HB]; · iexact HB
  isplitl [HS]; · iexact HS
  iexists _; iexact HO

/-! ## The staged buffers -/

theorem ldO_wp {cs : CoreSpace} {s : Shape} {e : EltTy} {m : Memref sig .tc cs s e} {r : Rect s} {hl : m.view.LoadsAt r}
    {q : PosShare TreeShare} {d : s.Idx → Elt F e} {Q : (r.shape.Idx → Elt F e) → sProp 𝕄} :
    iprop(owns (c : Thread nD τ) m q d ∗ (owns (c : Thread nD τ) m q d -∗ Q (fun k => d (r.emb k)))) ⊢ WP c (Prog.lift (.load m r.toLoadRect hl)) Q := by
  unfold owns
  iintro ⟨⟨%f, %hf, H⟩, HQ⟩
  iapply (ld_wp (m := m) (r := r) (hl := hl) (View.set_slice_subset _ _))
  isplitl [H]; · iexact H
  iintro H
  rw [show (m.access r).read (Elt F) f = fun k => d (r.emb k) from by subst hf; rfl]
  iapply HQ
  iexists f
  isplitr
  · ipureintro; exact hf
  iexact H

theorem one_idx (a b : S1x1.Idx) : a = b := by
  funext k
  match k with
  | ⟨0, _⟩ => exact Fin.ext (by have h1 : (a 0).val < 1 := (a 0).isLt; have h2 : (b 0).val < 1 := (b 0).isLt; show (a 0).val = (b 0).val; omega)
  | ⟨1, _⟩ => exact Fin.ext (by have h1 : (a 1).val < 1 := (a 1).isLt; have h2 : (b 1).val < 1 := (b 1).isLt; show (a 1).val = (b 1).val; omega)

theorem ldS_wp {m : Memref sig .tc .smem S1x1 .f32} {q : PosShare TreeShare} {d : S1x1.Idx → Elt F .f32} {Q : Elt F .f32 → sProp 𝕄} :
    iprop(owns (c : Thread nD τ) m q d ∗ (owns (c : Thread nD τ) m q d -∗ Q (d (ix2 0 0)))) ⊢ WP c (smemLoad m wholeS numel1_S1x1 rfl : PP F (Elt F .f32)) Q := by
  unfold owns
  iintro ⟨⟨%f, %hf, H⟩, HQ⟩
  have h := wp_smemLoadElt (defs := defs₀ (F := F)) (m := m) (r := wholeS) (k := .ret) (q := q) (f := f) (Γ := PendingWaitsCtx.empty) (Q := Q)
    (hw := View.loads_smem_one rfl numel1_S1x1) (x := Shape.Idx.first (numel1_S1x1 ▸ Nat.one_pos)) (S := m.view.set)
    Variants.none (c : Thread nD τ) none Set.univ (View.set_slice_subset _ _)
  iapply h $$ H
  iintro H
  iapply wp_done
  rw [show ∀ x, (m.access wholeS).read (Elt F) f x = d (ix2 0 0) from fun x => by
    subst hf
    show m.view.read (Elt F) f (wholeS.emb x) = _
    exact congrArg _ (one_idx _ _)]
  iapply HQ
  iexists f
  isplitr
  · ipureintro; exact hf
  iexact H

theorem setS_wp {m : Memref sig .tc .smem S1x1 .f32} {d : S1x1.Idx → Elt F .f32} {w : F .f32} {Q : PUnit → sProp 𝕄} :
    iprop(owns (c : Thread nD τ) m fullShare d ∗ (owns (c : Thread nD τ) m fullShare (fun _ => w) -∗ Q ⟨⟩)) ⊢ WP c (setS m w) Q := by
  unfold setS
  iintro ⟨H, HQ⟩
  iapply wp_seq; iapply ldS_wp; isplitl [H]; · iexact H
  unfold owns
  iintro ⟨%f, %hf, H⟩
  iapply (st_wp (m := m) (r := wholeS) ((m.access wholeS).write (Elt F) f (fun _ => w) Finset.univ) (View.set_slice_subset _ _) (fun _ _ => rfl))
  isplitl [H]; · iexact H
  iintro H
  iapply HQ
  iexists _
  isplitr
  rotate_left
  · iexact H
  · ipureintro
    funext k
    show m.view.read (Elt F) ((m.access wholeS).write (Elt F) f (fun _ => w) Finset.univ) k = w
    rw [← emb_unit_zero (s := S1x1) (off := ![0, 0]) (inb := inb_S1x1_S1x1_0_0) zero2d k]
    exact congrFun (View.read_write_univ (v := m.access wholeS) f (fun _ => w)) k

/-- A loop, by an invariant. -/
theorem loop_wp {l : Scf.Loop 32} {hok : l.OK} {body : Fin l.trips → PUnit → PP F PUnit} (I : Nat → sProp 𝕄)
    (h : ∀ k : Fin l.trips, I k.val ⊢ WP c (body k ⟨⟩) (fun _ => I (k.val + 1))) : I 0 ⊢ WP c (Scf.Loop.for l hok ⟨⟩ body) (fun _ => I l.trips) := by
  refine .trans ?_ (Scf.wp_for frame (wpE (defs₀ (F := F)) Variants.none (c : Thread nD τ) none) Set.univ l.lb l.ub l.st hok ⟨⟩ body (fun k _ => I k) (fun k _ => h k))
  iintro H
  isplitl [H]; · iexact H
  iintro %_ H; iexact H

end Cert.Kernel.Hand
end
end
-- ==== Proof.KLoops.lean ====
/-
  The kernel's loops, each with what the buffers hold before and after.
-/
module
public import proofs.«01_k».proof.Proof.KDma
@[expose] public section
set_option maxRecDepth 8192
noncomputable section
namespace Cert.Kernel.Hand
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-- A counted loop whose number of trips is known. -/
theorem loop_to {c : Dev nD} {l : Scf.Loop 32} {hok : l.OK} {body : Fin l.trips → PUnit → PP F PUnit} {N : Nat} (hN : l.trips = N) (I : Nat → sProp 𝕄)
    (h : ∀ k : Fin l.trips, I k.val ⊢ WP c (body k ⟨⟩) (fun _ => I (k.val + 1))) :
    I 0 ⊢ WP c (Scf.Loop.for l hok ⟨⟩ body) (fun _ => I N) := by
  subst hN; exact loop_wp I h

/-! ## What the buffers hold at each stage -/

abbrev zeroA : C3 F := broadcast S2x16x1920 (Scalar.ofBits .f32 0x00000000#32)
def St.init : St F := ⟨zeroA, zeroA, broadcast S2x16x1920 (Scalar.ofBits .bf16 0xFF80#16)⟩
def stats0 (gm : FVec F S1x1920 .f32) (X : CX F) : Nat → St F := loopTo (fun j s => statTiles gm 0 (off2 j) (off2_inb j) X s) St.init
def stats1 (gm : FVec F S1x1920 .f32) (X : CX F) : Nat → St F := loopTo (fun j s => statTiles gm 1 (off3 j) (off3_inb j) X s) (stats0 gm X 36)
def devs0 (X : CX F) (m : FVec F S2x1920 .f32) : Nat → C3 F := loopTo (fun j A => devTiles 0 (off4 j) (off4_inb j) X m A) zeroA
def devs1 (X : CX F) (m : FVec F S2x1920 .f32) : Nat → C3 F := loopTo (fun j A => devTiles 1 (off5 j) (off5_inb j) X m A) (devs0 X m 288)
def maxs0 (bt : FVec F S1x1920 .f32) (X : CX F) (m g : FVec F S2x1920 .f32) : Nat → C3 F := loopTo (fun j A => maxTiles bt 0 (off6 j) (off6_inb j) X m g A) zeroA
def maxs1 (bt : FVec F S1x1920 .f32) (X : CX F) (m g : FVec F S2x1920 .f32) : Nat → C3 F := loopTo (fun j A => maxTiles bt 1 (off7 j) (off7_inb j) X m g A) (maxs0 bt X m g 288)
def fast0 (inv : F .f32) (g h : FVec F S2x1920 .f32) (X : CX F) : Nat → CX F := loopTo (fun j X => quantAll inv 0 (off8 j) (off8_inb j) g h X) X
def fast1 (inv : F .f32) (g h : FVec F S2x1920 .f32) (X : CX F) : Nat → CX F := loopTo (fun j X => quantAll inv 1 (off9 j) (off9_inb j) g h X) (fast0 inv g h X 36)
def rowsIll0 (bt : FVec F S1x1920 .f32) (inv : F .f32) (m g : FVec F S2x1920 .f32) (j : Fin k0_t10_loop.trips) (X : CX F) : Nat → CX F :=
  loopTo (fun k X => illTiles bt inv 0 (off10 j k) (off10_inb j k) m g X) X
def rowsIll1 (bt : FVec F S1x1920 .f32) (inv : F .f32) (m g : FVec F S2x1920 .f32) (j : Fin k0_t12_loop.trips) (X : CX F) : Nat → CX F :=
  loopTo (fun k X => illTiles bt inv 1 (off12 j k) (off12_inb j k) m g X) X
def slow0 (bt : FVec F S1x1920 .f32) (inv : F .f32) (m g : FVec F S2x1920 .f32) (X : CX F) : Nat → CX F := loopTo (fun j X => rowsIll0 bt inv m g j X 8) X
def slow1 (bt : FVec F S1x1920 .f32) (inv : F .f32) (m g : FVec F S2x1920 .f32) (X : CX F) : Nat → CX F := loopTo (fun j X => rowsIll1 bt inv m g j X 8) (slow0 bt inv m g X 36)

theorem loopTo_zero {σ : Type} {N : Nat} (step : Fin N → σ → σ) (s : σ) : loopTo step s 0 = s := rfl
theorem stats1_zero (gm : FVec F S1x1920 .f32) (X : CX F) : stats1 gm X 0 = stats0 gm X 36 := by unfold stats1; exact loopTo_zero _ _
theorem devs1_zero (X : CX F) (m : FVec F S2x1920 .f32) : devs1 X m 0 = devs0 X m 288 := by unfold devs1; exact loopTo_zero _ _
theorem maxs1_zero (bt : FVec F S1x1920 .f32) (X : CX F) (m g : FVec F S2x1920 .f32) : maxs1 bt X m g 0 = maxs0 bt X m g 288 := by unfold maxs1; exact loopTo_zero _ _
theorem fast1_zero (inv : F .f32) (g h : FVec F S2x1920 .f32) (X : CX F) : fast1 inv g h X 0 = fast0 inv g h X 36 := by unfold fast1; exact loopTo_zero _ _
theorem slow1_zero (bt : FVec F S1x1920 .f32) (inv : F .f32) (m g : FVec F S2x1920 .f32) (X : CX F) : slow1 bt inv m g X 0 = slow0 bt inv m g X 36 := by unfold slow1; exact loopTo_zero _ _

/-- Every chunk of rows as the loops leave it when it is copied out. -/
def chunked (A B : Nat → CX F) : CX F := fun i => if (i 0).val / 256 < 36 then A ((i 0).val / 256 + 1) i else B ((i 0).val / 256 - 36 + 1) i

theorem chunked_lo {A B : Nat → CX F} {J : Nat} (hJ : J < 36) (i : S18432x1920.Idx) (h : 256 * J ≤ (i 0).val) (h' : (i 0).val < 256 * (J + 1)) : A (J + 1) i = chunked A B i := by
  have e : (i 0).val / 256 = J := by omega
  unfold chunked; rw [e, if_pos hJ]
theorem chunked_hi {A B : Nat → CX F} {J : Nat} (i : S18432x1920.Idx) (h : 256 * (36 + J) ≤ (i 0).val) (h' : (i 0).val < 256 * (36 + J + 1)) : B (J + 1) i = chunked A B i := by
  have e : (i 0).val / 256 = 36 + J := by omega
  unfold chunked; rw [e, if_neg (by omega), Nat.add_sub_cancel_left]

theorem range_last {k : Nat} (hk : k < 72) (Φ : Fin 72 → sProp 𝕄) : bigSep (Ring.rangeSet 72 0 (k + 1)) Φ = iprop(Φ ⟨k, hk⟩ ∗ bigSep (Ring.rangeSet 72 0 k) Φ) :=
  Ring.bigSep_rangeSet_last (lo := 0) (hi := k + 1) (Nat.succ_pos _) hk

/-! ## The copies in -/

abbrev sems (c : Dev nD) (J : Fin 72) : sProp 𝕄 := semVal ((c : Thread nD τ), SemLoc.dma (inSem J.val J.isLt)) 0

theorem inCopies_wp {f X : CX F} :
    iprop(xPt c 0 18432 f ∗ xmPt c 0 18432 X ∗ bigSep Finset.univ (sems c)) ⊢ WP c (Scf.Loop.for k0_t1_loop k0_t1_ok ⟨⟩ fun i _ => inCopy (F := F) i) (fun _ => bigSep Finset.univ (inFlight c X)) := by
  have h := loop_to trips1 (c := c) (l := k0_t1_loop) (hok := k0_t1_ok) (body := fun i _ => inCopy (F := F) i)
    (fun k => iprop(xPt c (256 * k) 18432 f ∗ xmPt c (256 * k) 18432 X ∗ bigSep (Ring.rangeSet 72 k 72) (sems c) ∗ bigSep (Ring.rangeSet 72 0 k) (inFlight c X))) (fun k => by
      have hk : k.val < 72 := trips1 ▸ k.isLt
      rw [Ring.bigSep_rangeSet_head (hi := 72) hk hk, range_last hk]
      iintro ⟨HX, HM, ⟨HS, HSS⟩, HF⟩
      ihave HX := (xPt_split (c := c) (a := 256 * k.val) (b := 256 * (k.val + 1)) (d := 18432) (by omega) (by omega) f).1 $$ HX
      icases HX with ⟨HX, HXR⟩
      ihave HM := (xmPt_split (c := c) (a := 256 * k.val) (b := 256 * (k.val + 1)) (d := 18432) (by omega) (by omega) X).1 $$ HM
      icases HM with ⟨HM, HMR⟩
      iapply inCopy_wp hk
      isplitl [HM]; · iexact HM
      isplitl [HX]; · iexact HX
      isplitl [HS]; · iexact HS
      iintro HN
      isplitl [HXR]; · iexact HXR
      isplitl [HMR]; · iexact HMR
      isplitl [HSS]; · iexact HSS
      isplitl [HN]; · iexact HN
      iexact HF)
  rw [Ring.rangeSet_univ] at h
  refine .trans ?_ (h.trans (wp_mono _ _ _ fun _ => ?_))
  · rw [Ring.bigSep_rangeSet_empty (le_refl 0)]
    iintro ⟨HX, HM, HS⟩
    isplitl [HX]; · iexact HX
    isplitl [HM]; · iexact HM
    isplitl [HS]; · iexact HS
    iempintro
  · iintro ⟨-, -, -, H⟩; iexact H

/-! ## The statistics -/

def Ist (c : Dev nD) (X : CX F) (J : Nat) (s : St F) : sProp 𝕄 :=
  iprop(bigSep (Ring.rangeSet 72 J 72) (inFlight c X) ∗ bigSep (Ring.rangeSet 72 0 J) (sems c) ∗ xPt c 0 (256 * J) X ∗ xmPt c 0 (256 * J) X ∗ OW c ∗ stPt c s)

theorem stat_wp {J : Nat} (hJ : J < 72) {offs : Fin 1 → Nat} {inbs : ∀ a, offs a + S1.size a ≤ S72.size a} {co : Fin 2 → Nat} {cinb : ∀ a, co a + S256x1920.size a ≤ S18432x1920.size a}
    {ww : (rchunk co cinb).WholeWords (EltTy.packing .fp8e4m3)} (hs : offs = ![J])
    {gm : FVec F S1x1920 .f32} {b : Fin 2} {off : Fin 15 → Fin 8 → Fin 2 → Nat}
    {inb : ∀ t r a, off t r a + S32x128.size a ≤ S18432x1920.size a} (h : ∀ t r, off t r 0 = 256 * J + 32 * r.val) {X : CX F} (s : St F) :
    Ist c X J s ⊢ WP c (inWait offs inbs co cinb ww >>= fun _ => seqL (statTile gm b off inb) fin15) (fun _ => Ist c X (J + 1) (statTiles gm b off inb X s)) := by
  unfold Ist
  rw [Ring.bigSep_rangeSet_head (hi := 72) hJ hJ, range_last hJ]
  iintro ⟨⟨HF, HFF⟩, HSS, HX, HM, ⟨%W, HO⟩, HT⟩
  iapply wp_seq
  iapply inWait_wp hJ hs
  isplitl [HF]; · iexact HF
  isplitl [HO]; · iexact HO
  iintro ⟨⟨HX1, HM1⟩, HS, HO⟩
  ihave HX := (xPt_split (c := c) (a := 0) (b := 256 * J) (d := 256 * (J + 1)) (by omega) (by omega) X).2 $$ [HX HX1]
  · isplitl [HX]; · iexact HX
    iexact HX1
  ihave HM := (xmPt_split (c := c) (a := 0) (b := 256 * J) (d := 256 * (J + 1)) (by omega) (by omega) X).2 $$ [HM HM1]
  · isplitl [HM]; · iexact HM
    iexact HM1
  iapply wp_weaken
  isplitl [HX HT]
  · iapply (statTiles_wp (lo := 0) (hi := 256 * (J + 1)) (fun t r => by rw [h]; have := r.isLt; omega) s)
    isplitl [HX]; · iexact HX
    iexact HT
  iintro %_ ⟨HX, HT⟩
  isplitl [HFF]; · iexact HFF
  isplitl [HS HSS]
  · isplitl [HS]; · iexact HS
    iexact HSS
  isplitl [HX]; · iexact HX
  isplitl [HM]; · iexact HM
  isplitl [HO]; · iexists _; iexact HO
  iexact HT

theorem stats0_wp {gm : FVec F S1x1920 .f32} {X : CX F} :
    Ist c X 0 St.init ⊢ WP c (Scf.Loop.for k0_t2_loop k0_t2_ok ⟨⟩ fun j _ => stat2 gm j) (fun _ => Ist c X 36 (stats0 gm X 36)) := by
  have h := loop_to trips2 (c := c) (l := k0_t2_loop) (hok := k0_t2_ok) (body := fun j _ => stat2 gm j) (fun k => Ist c X k (stats0 gm X k)) (fun k => by
    have hk : k.val < 36 := trips2 ▸ k.isLt
    rw [show stats0 gm X (k.val + 1) = _ from loopTo_succ _ _ k]
    exact stat_wp (by omega) (k0_off3_eq k) (fun t r => by rw [off2_eq]; rfl) _)
  exact h
theorem stats1_wp {gm : FVec F S1x1920 .f32} {X : CX F} :
    Ist c X 36 (stats0 gm X 36) ⊢ WP c (Scf.Loop.for k0_t3_loop k0_t3_ok ⟨⟩ fun j _ => stat3 gm j) (fun _ => Ist c X 72 (stats1 gm X 36)) := by
  have h := loop_to trips3 (c := c) (l := k0_t3_loop) (hok := k0_t3_ok) (body := fun j _ => stat3 gm j) (fun k => Ist c X (36 + k) (stats1 gm X k)) (fun k => by
    have hk : k.val < 36 := trips3 ▸ k.isLt
    rw [show stats1 gm X (k.val + 1) = _ from loopTo_succ _ _ k]
    exact stat_wp (by omega) (k0_off20_eq k) (fun t r => by rw [off3_eq]; rfl) _)
  exact h

/-! ## The two guarded passes over the input -/

abbrev on (w : BitVec 1) : Prop := Scalar.cmpi .ne (Scalar.extui w : BitVec 32) 0#32 = 1#1
def devOf (ill : BitVec 1) (X : CX F) (m : FVec F S2x1920 .f32) (d : FVec F S2x32 .f32) : FVec F S2x32 .f32 := if on ill then gmean (devs1 X m 288) else d

theorem off_lt {off : Fin 15 → Fin 2 → Nat} {J : Nat} (hJ : J < 576) (h : ∀ t, off t 0 = 32 * J) (t : Fin 15) : 0 ≤ off t 0 ∧ off t 0 + 32 ≤ 18432 := by rw [h]; omega

theorem illPart_wp {ill : BitVec 1} {X : CX F} {m : FVec F S2x1920 .f32} {A : C3 F} {d : FVec F S2x32 .f32} :
    iprop(xPt c 0 18432 X ∗ mPt c m ∗ s2Pt c A ∗ dPt c d) ⊢ WP c (illPart ill) (fun _ => iprop(xPt c 0 18432 X ∗ mPt c m ∗ (∃ A, s2Pt c A) ∗ dPt c (devOf ill X m d))) := by
  unfold illPart devOf
  by_cases hi : on ill
  · rw [if_pos hi, if_pos hi]
    have h4 := loop_to trips4 (c := c) (l := k0_t4_loop) (hok := k0_t4_ok) (body := fun j _ => seqL (devTile (F := F) 0 (off4 j) (off4_inb j)) fin15)
      (fun k => iprop(s2Pt c (devs0 X m k) ∗ xPt c 0 18432 X ∗ mPt c m)) (fun k => by
        have hk : k.val < 288 := trips4 ▸ k.isLt
        rw [show devs0 X m (k.val + 1) = _ from loopTo_succ _ _ k]
        exact devTiles_wp (off_lt (J := k.val) (by omega) (fun t => by rw [off4_eq]; rfl)) _)
    have h5 := loop_to trips5 (c := c) (l := k0_t5_loop) (hok := k0_t5_ok) (body := fun j _ => seqL (devTile (F := F) 1 (off5 j) (off5_inb j)) fin15)
      (fun k => iprop(s2Pt c (devs1 X m k) ∗ xPt c 0 18432 X ∗ mPt c m)) (fun k => by
        have hk : k.val < 288 := trips5 ▸ k.isLt
        rw [show devs1 X m (k.val + 1) = _ from loopTo_succ _ _ k]
        exact devTiles_wp (off_lt (J := 288 + k.val) (by omega) (fun t => by rw [off5_eq]; rfl)) _)
    rw [devs1_zero] at h5
    iintro ⟨HX, HM, H2, HD⟩
    iapply wp_seq; iapply zero3_s2V; isplitl [H2]; · iexact H2
    iintro H2
    iapply wp_seq; iapply wp_weaken
    isplitl [HX HM H2]
    · iapply h4
      isplitl [H2]; · iexact H2
      isplitl [HX]; · iexact HX
      iexact HM
    iintro %_ H
    iapply wp_seq; iapply wp_weaken
    isplitl [H]
    · iapply h5; iexact H
    iintro %_ ⟨H2, HX, HM⟩
    iapply wp_seq; iapply ld_s2V; isplitl [H2]; · iexact H2
    iintro H2
    iapply set_devV; isplitl [HD]; · iexact HD
    iintro HD
    isplitl [HX]; · iexact HX
    isplitl [HM]; · iexact HM
    isplitl [H2]; · iexists _; iexact H2
    iexact HD
  · rw [if_neg hi, if_neg hi]
    iintro ⟨HX, HM, H2, HD⟩
    iapply wp_done
    isplitl [HX]; · iexact HX
    isplitl [HM]; · iexact HM
    isplitl [H2]; · iexists _; iexact H2
    iexact HD

def maxOf (e1 e2 : BitVec 32) (low : F .f32) (bt : FVec F S1x1920 .f32) (X : CX F) (m g : FVec F S2x1920 .f32) : F .f32 :=
  if on (Scalar.cmpi .ne e1 e2) then maxv (maxs1 bt X m g 288) else low

theorem maxPart_wp {arg5 : Memref sig .tc .smem S1x1 .f32} {e1 e2 : BitVec 32} {low : F .f32} {bt : FVec F S1x1920 .f32} {X : CX F} {m g : FVec F S2x1920 .f32} {A : C3 F} :
    iprop(xPt c 0 18432 X ∗ mPt c m ∗ gPt c g ∗ s1Pt c A ∗ owns (c : Thread nD τ) arg5 fullShare (fun _ => low))
      ⊢ WP c (maxPart arg5 bt e1 e2) (fun _ => iprop(xPt c 0 18432 X ∗ mPt c m ∗ gPt c g ∗ (∃ A, s1Pt c A) ∗ owns (c : Thread nD τ) arg5 fullShare (fun _ => maxOf e1 e2 low bt X m g))) := by
  unfold maxPart maxOf
  by_cases hi : on (Scalar.cmpi .ne e1 e2)
  · rw [if_pos hi, if_pos hi]
    have h6 := loop_to trips6 (c := c) (l := k0_t6_loop) (hok := k0_t6_ok) (body := fun j _ => seqL (maxTile (F := F) bt 0 (off6 j) (off6_inb j)) fin15)
      (fun k => iprop(s1Pt c (maxs0 bt X m g k) ∗ xPt c 0 18432 X ∗ mPt c m ∗ gPt c g)) (fun k => by
        have hk : k.val < 288 := trips6 ▸ k.isLt
        rw [show maxs0 bt X m g (k.val + 1) = _ from loopTo_succ _ _ k]
        exact maxTiles_wp (off_lt (J := k.val) (by omega) (fun t => by rw [off6_eq]; rfl)) _)
    have h7 := loop_to trips7 (c := c) (l := k0_t7_loop) (hok := k0_t7_ok) (body := fun j _ => seqL (maxTile (F := F) bt 1 (off7 j) (off7_inb j)) fin15)
      (fun k => iprop(s1Pt c (maxs1 bt X m g k) ∗ xPt c 0 18432 X ∗ mPt c m ∗ gPt c g)) (fun k => by
        have hk : k.val < 288 := trips7 ▸ k.isLt
        rw [show maxs1 bt X m g (k.val + 1) = _ from loopTo_succ _ _ k]
        exact maxTiles_wp (off_lt (J := 288 + k.val) (by omega) (fun t => by rw [off7_eq]; rfl)) _)
    rw [maxs1_zero] at h7
    iintro ⟨HX, HM, HG, H1, HA⟩
    iapply wp_seq; iapply zero3_s1V; isplitl [H1]; · iexact H1
    iintro H1
    iapply wp_seq; iapply wp_weaken
    isplitl [HX HM HG H1]
    · iapply h6
      isplitl [H1]; · iexact H1
      isplitl [HX]; · iexact HX
      isplitl [HM]; · iexact HM
      iexact HG
    iintro %_ H
    iapply wp_seq; iapply wp_weaken
    isplitl [H]
    · iapply h7; iexact H
    iintro %_ ⟨H1, HX, HM, HG⟩
    iapply wp_seq; iapply ld_s1V; isplitl [H1]; · iexact H1
    iintro H1
    iapply setS_wp; isplitl [HA]; · iexact HA
    iintro HA
    isplitl [HX]; · iexact HX
    isplitl [HM]; · iexact HM
    isplitl [HG]; · iexact HG
    isplitl [H1]; · iexists _; iexact H1
    iexact HA
  · rw [if_neg hi, if_neg hi]
    iintro ⟨HX, HM, HG, H1, HA⟩
    iapply wp_done
    isplitl [HX]; · iexact HX
    isplitl [HM]; · iexact HM
    isplitl [HG]; · iexact HG
    isplitl [H1]; · iexists _; iexact H1
    iexact HA

/-! ## The result's chunks -/

def Iq (c : Dev nD) (G f : CX F) (m g h : FVec F S2x1920 .f32) (J : Nat) (X : CX F) : sProp 𝕄 :=
  iprop(outBatch c G J 0 ∗ xPt c (256 * J) 18432 X ∗ ymPt c (256 * J) 18432 f ∗ mPt c m ∗ gPt c g ∗ hPt c h)

theorem lend_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    (hG : ∀ i : S18432x1920.Idx, 256 * J ≤ (i 0).val → (i 0).val < 256 * (J + 1) → X i = G i) :
    Iq c G f m g h J X ⊢ WP c (outCopy (F := F) co cinb ww) (fun _ => Iq c G f m g h (J + 1) X) := by
  unfold Iq
  iintro ⟨HB, HX, HY, HM, HG, HH⟩
  ihave HX := (xPt_split (c := c) (a := 256 * J) (b := 256 * (J + 1)) (d := 18432) (by omega) (by omega) X).1 $$ HX
  icases HX with ⟨HX, HXR⟩
  ihave HY := (ymPt_split (c := c) (a := 256 * J) (b := 256 * (J + 1)) (d := 18432) (by omega) (by omega) f).1 $$ HY
  icases HY with ⟨HY, HYR⟩
  iapply outCopy_wp hJ ho hG
  isplitl [HB]; · iexact HB
  isplitl [HX]; · iexact HX
  isplitl [HY]; · iexact HY
  iintro HB
  isplitl [HB]; · iexact HB
  isplitl [HXR]; · iexact HXR
  isplitl [HYR]; · iexact HYR
  isplitl [HM]; · iexact HM
  isplitl [HG]; · iexact HG
  iexact HH

theorem quant_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    {inv : F .f32} {b : Fin 2} {off : Fin 15 → Fin 8 → Fin 2 → Nat} {inb : ∀ t r a, off t r a + S32x128.size a ≤ S18432x1920.size a}
    {pk : ∀ t r, (rx (off t r) (inb t r)).PackedRows (EltTy.packing .fp8e4m3)} (hoff : ∀ t r, off t r 0 = 256 * J + 32 * r.val)
    (hG : ∀ i : S18432x1920.Idx, 256 * J ≤ (i 0).val → (i 0).val < 256 * (J + 1) → quantAll inv b off inb g h X i = G i) :
    Iq c G f m g h J X ⊢ WP c (quantTiles inv b off inb pk >>= fun _ => outCopy (F := F) co cinb ww) (fun _ => Iq c G f m g h (J + 1) (quantAll inv b off inb g h X)) := by
  iintro H
  iapply wp_seq
  iapply wp_weaken
  unfold Iq
  icases H with ⟨HB, HX, HY, HM, HG, HH⟩
  isplitl [HX HG HH]
  · iapply (quantTiles_wp (lo := 256 * J) (hi := 18432) (fun t r => by rw [hoff]; have := r.isLt; omega) X)
    isplitl [HX]; · iexact HX
    isplitl [HG]; · iexact HG
    iexact HH
  iintro %_ ⟨HX, HG, HH⟩
  iapply (lend_wp hJ ho hG)
  unfold Iq
  isplitl [HB]; · iexact HB
  isplitl [HX]; · iexact HX
  isplitl [HY]; · iexact HY
  isplitl [HM]; · iexact HM
  isplitl [HG]; · iexact HG
  iexact HH

theorem ill_wp {J : Nat} (hJ : J < 72) {co : Fin 2 → Nat} {cinb : ∀ a, co a + S256x1920.size a ≤ S18432x1920.size a}
    {ww : (rchunk co cinb).WholeWords (EltTy.packing .fp8e4m3)} (ho : co = ![256 * J, 0]) {G f : CX F} {m g h : FVec F S2x1920 .f32} {X : CX F}
    {bt : FVec F S1x1920 .f32} {inv : F .f32} {b : Fin 2} {l : Scf.Loop 32} {hok : l.OK} (hl : l.trips = 8)
    {off : Fin l.trips → Fin 15 → Fin 2 → Nat} {inb : ∀ k t a, off k t a + S32x128.size a ≤ S18432x1920.size a}
    {pk : ∀ k t, (rx (off k t) (inb k t)).PackedRows (EltTy.packing .fp8e4m3)} (hoff : ∀ k t, off k t 0 = 256 * J + 32 * k.val)
    (hG : ∀ i : S18432x1920.Idx, 256 * J ≤ (i 0).val → (i 0).val < 256 * (J + 1) → loopTo (fun k X => illTiles bt inv b (off k) (inb k) m g X) X 8 i = G i) :
    Iq c G f m g h J X ⊢ WP c ((Scf.Loop.for l hok ⟨⟩ fun k _ => seqL (illTile bt inv b (off k) (inb k) (pk k)) fin15) >>= fun _ => outCopy (F := F) co cinb ww)
      (fun _ => Iq c G f m g h (J + 1) (loopTo (fun k X => illTiles bt inv b (off k) (inb k) m g X) X 8)) := by
  have h11 := loop_to hl (c := c) (l := l) (hok := hok) (body := fun k _ => seqL (illTile bt inv b (off k) (inb k) (pk k)) fin15)
    (fun k => iprop(xPt c (256 * J) 18432 (loopTo (fun k X => illTiles bt inv b (off k) (inb k) m g X) X k) ∗ mPt c m ∗ gPt c g)) (fun k => by
      have hk : k.val < 8 := hl ▸ k.isLt
      rw [loopTo_succ _ _ k]
      exact illTiles_wp (fun t => by rw [hoff]; omega) _)
  iintro H
  iapply wp_seq
  iapply wp_weaken
  unfold Iq
  icases H with ⟨HB, HX, HY, HM, HG, HH⟩
  isplitl [HX HG HM]
  · iapply h11
    isplitl [HX]; · iexact HX
    isplitl [HM]; · iexact HM
    iexact HG
  iintro %_ ⟨HX, HM, HG⟩
  iapply (lend_wp hJ ho hG)
  unfold Iq
  isplitl [HB]; · iexact HB
  isplitl [HX]; · iexact HX
  isplitl [HY]; · iexact HY
  isplitl [HM]; · iexact HM
  isplitl [HG]; · iexact HG
  iexact HH

/-- The result's codes. -/
def codesOf (ill : BitVec 1) (bt : FVec F S1x1920 .f32) (inv : F .f32) (m g h : FVec F S2x1920 .f32) (X : CX F) : CX F :=
  if on ill then chunked (slow0 bt inv m g X) (slow1 bt inv m g X) else chunked (fast0 inv g h X) (fast1 inv g h X)

theorem fast_wp {f : CX F} {m g h : FVec F S2x1920 .f32} {X : CX F} {inv : F .f32} {ill : BitVec 1} (hi : on (Scalar.xori ill 1#1)) :
    Iq c (chunked (fast0 inv g h X) (fast1 inv g h X)) f m g h 0 X ⊢ WP c (fastPart ill inv) (fun _ => iprop(∃ Y, Iq c (chunked (fast0 inv g h X) (fast1 inv g h X)) f m g h 72 Y)) := by
  have h8 := loop_to trips8 (c := c) (l := k0_t8_loop) (hok := k0_t8_ok) (body := fun j _ => quant8 inv j)
    (fun k => Iq c (chunked (fast0 inv g h X) (fast1 inv g h X)) f m g h k (fast0 inv g h X k)) (fun k => by
      have hk : k.val < 36 := trips8 ▸ k.isLt
      have e : fast0 inv g h X (k.val + 1) = quantAll inv 0 (off8 k) (off8_inb k) g h (fast0 inv g h X k.val) := loopTo_succ _ _ k
      rw [e]
      exact quant_wp (by omega) (k0_off112_eq k) (fun t r => by rw [off8_eq]; rfl) (fun i a b => by rw [← e]; exact chunked_lo hk i a b))
  have h9 := loop_to trips9 (c := c) (l := k0_t9_loop) (hok := k0_t9_ok) (body := fun j _ => quant9 inv j)
    (fun k => Iq c (chunked (fast0 inv g h X) (fast1 inv g h X)) f m g h (36 + k) (fast1 inv g h X k)) (fun k => by
      have hk : k.val < 36 := trips9 ▸ k.isLt
      have e : fast1 inv g h X (k.val + 1) = quantAll inv 1 (off9 k) (off9_inb k) g h (fast1 inv g h X k.val) := loopTo_succ _ _ k
      rw [e]
      exact quant_wp (by omega) (k0_off128_eq k) (fun t r => by rw [off9_eq]; rfl) (fun i a b => by rw [← e]; exact chunked_hi i a b))
  rw [fast1_zero, Nat.add_zero] at h9
  unfold fastPart
  rw [if_pos hi]
  iintro H
  iapply wp_seq; iapply wp_weaken
  isplitl [H]
  · iapply h8; iexact H
  iintro %_ H
  iapply wp_seq; iapply wp_weaken
  isplitl [H]
  · iapply h9; iexact H
  iintro %_ H
  iapply wp_done
  iexists _; iexact H

theorem slow_wp {f : CX F} {m g h : FVec F S2x1920 .f32} {X : CX F} {bt : FVec F S1x1920 .f32} {inv : F .f32} {ill : BitVec 1} (hi : on ill) :
    Iq c (chunked (slow0 bt inv m g X) (slow1 bt inv m g X)) f m g h 0 X ⊢ WP c (slowPart ill bt inv) (fun _ => iprop(∃ Y, Iq c (chunked (slow0 bt inv m g X) (slow1 bt inv m g X)) f m g h 72 Y)) := by
  have h10 := loop_to trips10 (c := c) (l := k0_t10_loop) (hok := k0_t10_ok) (body := fun j _ => quant10 bt inv j)
    (fun k => Iq c (chunked (slow0 bt inv m g X) (slow1 bt inv m g X)) f m g h k (slow0 bt inv m g X k)) (fun k => by
      have hk : k.val < 36 := trips10 ▸ k.isLt
      have e : slow0 bt inv m g X (k.val + 1) = rowsIll0 bt inv m g k (slow0 bt inv m g X k.val) 8 := loopTo_succ _ _ k
      rw [e]
      exact ill_wp (by omega) (k0_off144_eq k) trips11 (fun a t => by rw [off10_eq]; rfl) (fun i a b => (congrFun e i).symm.trans (chunked_lo hk i a b)))
  have h12 := loop_to trips12 (c := c) (l := k0_t12_loop) (hok := k0_t12_ok) (body := fun j _ => quant12 bt inv j)
    (fun k => Iq c (chunked (slow0 bt inv m g X) (slow1 bt inv m g X)) f m g h (36 + k) (slow1 bt inv m g X k)) (fun k => by
      have hk : k.val < 36 := trips12 ▸ k.isLt
      have e : slow1 bt inv m g X (k.val + 1) = rowsIll1 bt inv m g k (slow1 bt inv m g X k.val) 8 := loopTo_succ _ _ k
      rw [e]
      exact ill_wp (by omega) (k0_off160_eq k) trips13 (fun a t => by rw [off12_eq]; rfl) (fun i a b => (congrFun e i).symm.trans (chunked_hi i a b)))
  rw [slow1_zero, Nat.add_zero] at h12
  unfold slowPart
  rw [if_pos hi]
  iintro H
  iapply wp_seq; iapply wp_weaken
  isplitl [H]
  · iapply h10; iexact H
  iintro %_ H
  iapply wp_seq; iapply wp_weaken
  isplitl [H]
  · iapply h12; iexact H
  iintro %_ H
  iapply wp_done
  iexists _; iexact H

theorem on_cases (ill : BitVec 1) : (on ill ∧ ¬ on (Scalar.xori ill 1#1)) ∨ (¬ on ill ∧ on (Scalar.xori ill 1#1)) := by revert ill; decide

/-- The two forms of the quantising pass: one of them runs. -/
theorem codes_wp {f : CX F} {m g h : FVec F S2x1920 .f32} {X : CX F} {bt : FVec F S1x1920 .f32} {inv : F .f32} {ill : BitVec 1} :
    Iq c (codesOf ill bt inv m g h X) f m g h 0 X ⊢ WP c (fastPart ill inv) (fun _ => WP c (slowPart ill bt inv) (fun _ => iprop(∃ Y, Iq c (codesOf ill bt inv m g h X) f m g h 72 Y))) := by
  unfold codesOf
  rcases on_cases ill with ⟨h1, h2⟩ | ⟨h1, h2⟩
  · rw [if_pos h1]
    unfold fastPart
    rw [if_neg h2]
    exact (slow_wp h1).trans (wp_done (c := c) (a := PUnit.unit) (Q := fun _ => _))
  · rw [if_neg h1]
    unfold slowPart
    rw [if_neg h1]
    exact (fast_wp h2).trans (wp_mono _ _ _ fun _ => wp_done (c := c) (a := PUnit.unit) (Q := fun _ => _))

/-! ## The last waits -/

theorem waits_wp {G : CX F} : iprop(outBatch c G 72 0 ∗ OW c) ⊢ WP c (Scf.Loop.for k0_t14_loop k0_t14_ok ⟨⟩ fun i _ => outWait (F := F) i)
    (fun _ => iprop(bigSep Finset.univ (outD c G) ∗ semVal ((c : Thread nD τ), SemLoc.dma cc0_scratch9.sem) 0 ∗ OW c)) := by
  have h := loop_to trips14 (c := c) (l := k0_t14_loop) (hok := k0_t14_ok) (body := fun i _ => outWait (F := F) i)
    (fun k => if k < 72 then iprop(outBatch c G 72 (k * chunkN) ∗ OW c) else iprop(bigSep Finset.univ (outD c G) ∗ semVal ((c : Thread nD τ), SemLoc.dma cc0_scratch9.sem) 0 ∗ OW c)) (fun k => by
      have hk : k.val < 72 := trips14 ▸ k.isLt
      rw [if_pos hk]
      by_cases h71 : k.val < 71
      · rw [if_pos (by omega), Nat.succ_mul]
        exact outWait_wp (units_lt chunkN_pos h71)
      · rw [if_neg (by omega)]
        exact outLast_wp (units_eq (by omega)))
  rw [if_pos (by omega), if_neg (by omega), Nat.zero_mul] at h
  exact h

theorem joined {G : CX F} (k : Nat) (hk : k ≤ 72) : bigSep (Ring.rangeSet 72 0 k) (outD c G) ⊢ iprop(ymPt c 0 (256 * k) G ∗ xPt c 0 (256 * k) G) := by
  induction k with
  | zero =>
    rw [Ring.bigSep_rangeSet_empty (le_refl 0)]
    show _ ⊢ iprop((yM.view.loc (c : Thread nD τ) ↦[rows 0 (256 * 0)]{fullShare} G) ∗ (xV.view.loc (c : Thread nD τ) ↦[rows 0 (256 * 0)]{fullShare} G))
    rw [Nat.mul_zero, rows_empty, pointsTo_empty, pointsTo_empty]
    iintro -
    isplitl [] <;> iempintro
  | succ k ih =>
    rw [range_last hk]
    iintro ⟨HD, H⟩
    ihave H := (ih (by omega)) $$ H
    unfold outD
    icases H with ⟨HY, HX⟩
    icases HD with ⟨HY1, HX1⟩
    isplitl [HY HY1]
    · iapply (ymPt_split (c := c) (a := 0) (b := 256 * k) (d := 256 * (k + 1)) (by omega) (by omega) G).2
      isplitl [HY]; · iexact HY
      iexact HY1
    · iapply (xPt_split (c := c) (a := 0) (b := 256 * k) (d := 256 * (k + 1)) (by omega) (by omega) G).2
      isplitl [HX]; · iexact HX
      iexact HX1

end Cert.Kernel.Hand
end
end
-- ==== Proof.KBody.lean ====
/-
  The kernel's whole run: its results as functions of its operands, and the triple.
-/
module
public import proofs.«01_k».proof.Proof.KLoops
@[expose] public section
set_option maxRecDepth 8192
noncomputable section
namespace Cert.Kernel.Hand
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
variable [Facts]
open Facts₀ Facts

local notation "𝕄" => MT nD τ sig Unit (Elt F) ℕ (Pipeline.UD sig nD τ) ℕ

variable {c : Dev nD}

/-! ## The results as functions of the kernel's operands -/

section Outputs
variable (sc : FVec F S2x32 .f32) (gm bt : FVec F S1x1920 .f32) (s : St F) (X : CX F)

/-- The deviations' second moment, from the sums. -/
def kD : FVec F S2x32 .f32 := dev1 (gmean s.a1) (gmean s.a2)
/-- Whether the variance is to be recomputed from the deviations. -/
def kIll : BitVec 1 := illv sc (gmean s.a2) (kD s)
def kMean : FVec F S2x1920 .f32 := spread (gmean s.a1)
def kDev : FVec F S2x32 .f32 := devOf (kIll sc s) X (kMean s) (kD s)
def kGain : FVec F S2x1920 .f32 := gainv sc (kDev sc s X) gm
def kBias : FVec F S2x1920 .f32 := biasv (kMean s) (kGain sc gm s X) bt
/-- The greatest activation read off the extremes. -/
def kLow : F .f32 := lowv (coltop s.tp) (kMean s) (kGain sc gm s X) gm bt
/-- The greatest magnitude of the result, from the extremes' `low`, mean and gain. -/
def topOf (low : F .f32) (bt : FVec F S1x1920 .f32) (X : CX F) (m g : FVec F S2x1920 .f32) : F .f32 :=
  maxOf (expOf (toGrid low)) (expOf (toGrid (Scalar.maximumf low (Scalar.ofBits .f32 0x3E8E978D#32)))) low bt X m g
def kTop : F .f32 := topOf (kLow sc gm bt s X) bt X (kMean s) (kGain sc gm s X)
/-- The codes from the greatest magnitude. -/
def codesAt (ill : BitVec 1) (bt : FVec F S1x1920 .f32) (a : F .f32) (m g h : FVec F S2x1920 .f32) (X : CX F) : CX F :=
  codesOf ill bt (pow2 (Scalar.subi 0#32 (outExp a))) m g h X
def kCodes : CX F := codesAt (kIll sc s) bt (kTop sc gm bt s X) (kMean s) (kGain sc gm s X) (kBias sc gm bt s X) X
def kScale : F .f32 := pow2 (outExp (kTop sc gm bt s X))
end Outputs

/-! ## The kernel in three parts -/

def tailP (ill : BitVec 1) (bt : FVec F S1x1920 .f32) (arg5 : Memref sig .tc .smem S1x1 .f32) : PP F PUnit := do
  let a : Elt F .f32 ← smemLoad arg5 wholeS numel1_S1x1 rfl
  setS arg5 (pow2 (outExp a))
  fastPart ill (pow2 (Scalar.subi 0#32 (outExp a)))
  slowPart ill bt (pow2 (Scalar.subi 0#32 (outExp a)))
  Scf.Loop.for k0_t14_loop k0_t14_ok ⟨⟩ fun i _ => outWait i
  pure ⟨⟩

def midP (gm bt : FVec F S1x1920 .f32) (arg1 : Memref sig .tc .vmem S2x32 .f32) (arg5 : Memref sig .tc .smem S1x1 .f32) : PP F PUnit := do
  let s1 ← ldW3 s1V
  let s2 ← ldW3 s2V
  let tp ← Prog.lift (.load topV whole3.toLoadRect (View.loadsAt_vmem h_S2x16x1920))
  let sc ← ldG arg1
  setG devV (dev1 (gmean s1) (gmean s2))
  let d ← ldG devV
  set2 meanV (spread (gmean s1))
  illPart (illv sc (gmean s2) d)
  let d' ← ldG devV
  let m ← ldW2 meanV
  set2 gainV (gainv sc d' gm)
  set2 biasV (biasv m (gainv sc d' gm) bt)
  setS arg5 (lowv (coltop tp) m (gainv sc d' gm) gm bt)
  maxPart arg5 bt (expOf (toGrid (lowv (coltop tp) m (gainv sc d' gm) gm bt)))
    (expOf (toGrid (Scalar.maximumf (lowv (coltop tp) m (gainv sc d' gm) gm bt) (Scalar.ofBits .f32 0x3E8E978D#32))))
  tailP (illv sc (gmean s2) d) bt arg5

theorem model_eq (arg1 : Memref sig .tc .vmem S2x32 .f32) (arg2 arg3 : Memref sig .tc .vmem S1x1920 .f32) (arg5 : Memref sig .tc .smem S1x1 .f32) (harg5 : arg5.IsWhole) :
    model (F := F) arg1 arg2 arg3 arg5 harg5 = (do
      Scf.Loop.for k0_t1_loop k0_t1_ok ⟨⟩ fun i _ => inCopy i
      let gm ← Prog.lift (.load arg2 whole1.toLoadRect (View.loadsAt_vmem h_S1x1920))
      let bt ← Prog.lift (.load arg3 whole1.toLoadRect (View.loadsAt_vmem h_S1x1920))
      zero3 s1V
      zero3 s2V
      zeroTop
      Scf.Loop.for k0_t2_loop k0_t2_ok ⟨⟩ fun j _ => stat2 (row1 gm) j
      Scf.Loop.for k0_t3_loop k0_t3_ok ⟨⟩ fun j _ => stat3 (row1 gm) j
      midP (row1 gm) (row1 bt) arg1 arg5) := rfl

/-! ## The triples -/

theorem xPt_all {c : Dev nD} {Y : CX F} : (xPt c 0 18432 Y) = iprop(((c : Thread nD τ).loc cc0_scratch0) ↦{fullShare} Y) := by
  unfold xPt; rw [rows_all]
abbrev outQ (c : Dev nD) : sProp 𝕄 := semVal ((c : Thread nD τ), SemLoc.dma cc0_scratch9.sem) 0

theorem joined_all {G : CX F} : bigSep Finset.univ (outD c G) ⊢ iprop(ymPt c 0 18432 G ∗ xPt c 0 18432 G) := by
  have h := joined (c := c) (G := G) 72 (le_refl 72)
  rw [Ring.rangeSet_univ] at h
  exact h

theorem tail_wp {ill : BitVec 1} {bt : FVec F S1x1920 .f32} {arg5 : Memref sig .tc .smem S1x1 .f32} {a : F .f32} {m g h : FVec F S2x1920 .f32} {X f : CX F} :
    iprop(owns (c : Thread nD τ) arg5 fullShare (fun _ => a) ∗ xPt c 0 18432 X ∗ ymPt c 0 18432 f ∗ mPt c m ∗ gPt c g ∗ hPt c h ∗ outQ c ∗ OW c)
      ⊢ WP c (tailP ill bt arg5) (fun _ => iprop(owns (c : Thread nD τ) arg5 fullShare (fun _ => pow2 (outExp a)) ∗ (∃ Y, xPt c 0 18432 Y)
          ∗ ymPt c 0 18432 (codesAt ill bt a m g h X) ∗ mPt c m ∗ gPt c g ∗ hPt c h ∗ outQ c ∗ OW c)) := by
  unfold tailP codesAt
  iintro ⟨H5, HX, HYM, HM, HG, HH, HQ, HO⟩
  iapply wp_seq; iapply ldS_wp; isplitl [H5]; · iexact H5
  iintro H5
  iapply wp_seq; iapply setS_wp; isplitl [H5]; · iexact H5
  iintro H5
  imod (Transfers.batch_alloc' (Lvl := ℕ) (countersEmb (U := Pipeline.UD sig nD τ)) (c : Thread nD τ) () chunkN
    (outD c (codesOf ill bt (pow2 (Scalar.subi 0#32 (outExp a))) m g h X)) (sm := SemLoc.dma cc0_scratch9.sem) (E := Set.univ)) $$ HQ with HB
  iapply wp_seq; iapply wp_weaken
  isplitl [HB HX HYM HM HG HH]
  · iapply (codes_wp (f := f) (m := m) (g := g) (h := h) (X := X))
    unfold Iq
    rw [Nat.mul_zero]
    isplitl [HB]; · iexact HB
    isplitl [HX]; · iexact HX
    isplitl [HYM]; · iexact HYM
    isplitl [HM]; · iexact HM
    isplitl [HG]; · iexact HG
    iexact HH
  iintro %_ H
  iapply wp_seq; iapply wp_weaken
  isplitl [H]; · iexact H
  iintro %_ ⟨%Y, H⟩
  unfold Iq
  icases H with ⟨HB, -, -, HM, HG, HH⟩
  iapply wp_seq; iapply wp_weaken
  isplitl [HB HO]
  · iapply waits_wp
    isplitl [HB]; · iexact HB
    iexact HO
  iintro %_ ⟨HOUT, HQ, HO⟩
  ihave HOUT := joined_all $$ HOUT
  icases HOUT with ⟨HYM, HX⟩
  iapply wp_done
  isplitl [H5]; · iexact H5
  isplitl [HX]; · iexists _; iexact HX
  isplitl [HYM]; · iexact HYM
  isplitl [HM]; · iexact HM
  isplitl [HG]; · iexact HG
  isplitl [HH]; · iexact HH
  isplitl [HQ]; · iexact HQ
  iexact HO

theorem groups_eq' (w : FVec F S2x32 .f32) : (fun k => w (wholeG.emb k)) = w := funext fun k => congrArg w (emb_unit_zero zero2d k)
theorem row_eq' (w : FVec F S1x1920 .f32) : (fun k => w (whole1.emb k)) = w := funext fun k => congrArg w (emb_unit_zero zero2d k)

theorem mid_wp {sc : FVec F S2x32 .f32} {gm bt : FVec F S1x1920 .f32} {arg1 : Memref sig .tc .vmem S2x32 .f32} {arg5 : Memref sig .tc .smem S1x1 .f32}
    {d5 : S1x1.Idx → Elt F .f32} {s : St F} {X f : CX F} :
    iprop(stPt c s ∗ owns (c : Thread nD τ) arg1 fullShare sc ∗ owns (c : Thread nD τ) arg5 fullShare d5 ∗ xPt c 0 18432 X ∗ ymPt c 0 18432 f
        ∗ (∃ m, mPt c m) ∗ (∃ g, gPt c g) ∗ (∃ h, hPt c h) ∗ (∃ d, dPt c d) ∗ outQ c ∗ OW c)
      ⊢ WP c (midP gm bt arg1 arg5) (fun _ => iprop((∃ f, s1Pt c f) ∗ (∃ f, s2Pt c f) ∗ (∃ f, topV.view.loc (c : Thread nD τ) ↦{fullShare} f)
          ∗ owns (c : Thread nD τ) arg1 fullShare sc ∗ owns (c : Thread nD τ) arg5 fullShare (fun _ => kScale sc gm bt s X) ∗ (∃ Y, xPt c 0 18432 Y)
          ∗ ymPt c 0 18432 (kCodes sc gm bt s X) ∗ (∃ m, mPt c m) ∗ (∃ g, gPt c g) ∗ (∃ h, hPt c h) ∗ (∃ d, dPt c d) ∗ outQ c ∗ OW c)) := by
  unfold midP stPt
  iintro ⟨⟨H1, H2, HT⟩, HSC, H5, HX, HYM, ⟨%m, HM⟩, ⟨%g, HG⟩, ⟨%h, HH⟩, ⟨%d, HD⟩, HQ, HO⟩
  iapply wp_seq; iapply ld_s1V; isplitl [H1]; · iexact H1
  iintro H1
  iapply wp_seq; iapply ld_s2V; isplitl [H2]; · iexact H2
  iintro H2
  iapply wp_seq; iapply ld_topV; isplitl [HT]; · iexact HT
  iintro HT
  iapply wp_seq; iapply ldO_wp; isplitl [HSC]; · iexact HSC
  iintro HSC
  rw [groups_eq']
  iapply wp_seq; iapply set_devV; isplitl [HD]; · iexact HD
  iintro HD
  iapply wp_seq; iapply ld_devV; isplitl [HD]; · iexact HD
  iintro HD
  iapply wp_seq; iapply set_meanV; isplitl [HM]; · iexact HM
  iintro HM
  iapply wp_seq; iapply wp_weaken
  isplitl [HX HM H2 HD]
  · iapply illPart_wp
    isplitl [HX]; · iexact HX
    isplitl [HM]; · iexact HM
    isplitl [H2]; · iexact H2
    iexact HD
  iintro %_ ⟨HX, HM, H2, HD⟩
  iapply wp_seq; iapply ld_devV; isplitl [HD]; · iexact HD
  iintro HD
  iapply wp_seq; iapply ld_meanV; isplitl [HM]; · iexact HM
  iintro HM
  iapply wp_seq; iapply set_gainV; isplitl [HG]; · iexact HG
  iintro HG
  iapply wp_seq; iapply set_biasV; isplitl [HH]; · iexact HH
  iintro HH
  iapply wp_seq; iapply setS_wp; isplitl [H5]; · iexact H5
  iintro H5
  iapply wp_seq; iapply wp_weaken
  isplitl [HX HM HG H1 H5]
  · iapply maxPart_wp
    isplitl [HX]; · iexact HX
    isplitl [HM]; · iexact HM
    isplitl [HG]; · iexact HG
    isplitl [H1]; · iexact H1
    iexact H5
  iintro %_ ⟨HX, HM, HG, H1, H5⟩
  iapply wp_weaken
  isplitl [H5 HX HYM HM HG HH HQ HO]
  · iapply tail_wp
    isplitl [H5]; · iexact H5
    isplitl [HX]; · iexact HX
    isplitl [HYM]; · iexact HYM
    isplitl [HM]; · iexact HM
    isplitl [HG]; · iexact HG
    isplitl [HH]; · iexact HH
    isplitl [HQ]; · iexact HQ
    iexact HO
  iintro %_ ⟨H5, HX, HYM, HM, HG, HH, HQ, HO⟩
  isplitl [H1]; · iexact H1
  isplitl [H2]; · iexact H2
  isplitl [HT]; · iexists _; iexact HT
  isplitl [HSC]; · iexact HSC
  isplitl [H5]; · iexact H5
  isplitl [HX]; · iexact HX
  isplitl [HYM]; · iexact HYM
  isplitl [HM]; · iexists _; iexact HM
  isplitl [HG]; · iexists _; iexact HG
  isplitl [HH]; · iexists _; iexact HH
  isplitl [HD]; · iexists _; iexact HD
  isplitl [HQ]; · iexact HQ
  iexact HO

/-- The scratch buffers, at anything. -/
def scr (c : Dev nD) : sProp 𝕄 :=
  iprop((∃ f, xPt c 0 18432 f)
    ∗ (∃ f, s1Pt c f) ∗ (∃ f, s2Pt c f) ∗ (∃ f, topV.view.loc (c : Thread nD τ) ↦{fullShare} f) ∗ (∃ f, mPt c f) ∗ (∃ f, gPt c f) ∗ (∃ f, hPt c f) ∗ (∃ f, dPt c f))

theorem Ist_first {X : CX F} {s : St F} : iprop(bigSep Finset.univ (inFlight c X) ∗ OW c ∗ stPt c s) ⊢ Ist c X 0 s := by
  unfold Ist
  rw [Ring.rangeSet_univ, Ring.bigSep_rangeSet_empty (le_refl 0), Nat.mul_zero]
  unfold xPt xmPt
  rw [rows_empty, pointsTo_empty, pointsTo_empty]
  iintro ⟨HF, HO, HT⟩
  isplitl [HF]; · iexact HF
  isplitl []; · iempintro
  isplitl []; · iempintro
  isplitl []; · iempintro
  isplitl [HO]; · iexact HO
  iexact HT
theorem Ist_last {X : CX F} {s : St F} : Ist c X 72 s ⊢ iprop(bigSep Finset.univ (sems c) ∗ xPt c 0 18432 X ∗ xmPt c 0 18432 X ∗ OW c ∗ stPt c s) := by
  unfold Ist
  rw [Ring.rangeSet_univ]
  iintro ⟨-, H⟩
  iexact H

/-- What the sums and extremes hold after the input has been read. -/
def kSt (gm : FVec F S1x1920 .f32) (X : CX F) : St F := stats1 gm X 36
theorem stats1_wp' {gm : FVec F S1x1920 .f32} {X : CX F} :
    Ist c X 36 (stats0 gm X 36) ⊢ WP c (Scf.Loop.for k0_t3_loop k0_t3_ok ⟨⟩ fun j _ => stat3 gm j) (fun _ => Ist c X 72 (kSt gm X)) := stats1_wp

theorem model_wp {sc : FVec F S2x32 .f32} {gm bt : FVec F S1x1920 .f32} {arg1 : Memref sig .tc .vmem S2x32 .f32} {arg2 arg3 : Memref sig .tc .vmem S1x1920 .f32}
    {arg5 : Memref sig .tc .smem S1x1 .f32} {harg5 : arg5.IsWhole} {d5 : S1x1.Idx → Elt F .f32} {X f : CX F} :
    iprop(owns (c : Thread nD τ) arg1 fullShare sc ∗ owns (c : Thread nD τ) arg2 fullShare gm ∗ owns (c : Thread nD τ) arg3 fullShare bt ∗ owns (c : Thread nD τ) arg5 fullShare d5
        ∗ xmPt c 0 18432 X ∗ ymPt c 0 18432 f ∗ scr c ∗ bigSep Finset.univ (sems c) ∗ outQ c ∗ OW c)
      ⊢ WP c (model arg1 arg2 arg3 arg5 harg5) (fun _ => iprop(owns (c : Thread nD τ) arg1 fullShare sc ∗ owns (c : Thread nD τ) arg2 fullShare gm ∗ owns (c : Thread nD τ) arg3 fullShare bt
        ∗ owns (c : Thread nD τ) arg5 fullShare (fun _ => kScale sc (row1 gm) (row1 bt) (kSt (row1 gm) X) X)
        ∗ xmPt c 0 18432 X ∗ ymPt c 0 18432 (kCodes sc (row1 gm) (row1 bt) (kSt (row1 gm) X) X) ∗ scr c ∗ bigSep Finset.univ (sems c) ∗ outQ c ∗ OW c)) := by
  rw [model_eq]
  unfold scr
  iintro ⟨HSC, HGM, HBT, H5, HXM, HYM, ⟨⟨%x0, HX⟩, ⟨%a1, H1⟩, ⟨%a2, H2⟩, ⟨%a3, HT⟩, HM, HG, HH, HD⟩, HS, HQ, HO⟩
  iapply wp_seq; iapply wp_weaken
  isplitl [HX HXM HS]
  · iapply inCopies_wp
    isplitl [HX]; · iexact HX
    isplitl [HXM]; · iexact HXM
    iexact HS
  iintro %_ HF
  iapply wp_seq; iapply ldO_wp; isplitl [HGM]; · iexact HGM
  iintro HGM
  rw [row_eq']
  iapply wp_seq; iapply ldO_wp; isplitl [HBT]; · iexact HBT
  iintro HBT
  rw [row_eq']
  iapply wp_seq; iapply zero3_s1V; isplitl [H1]; · iexact H1
  iintro H1
  iapply wp_seq; iapply zero3_s2V; isplitl [H2]; · iexact H2
  iintro H2
  iapply wp_seq; iapply zeroTop_wp; isplitl [HT]; · iexact HT
  iintro HT
  ihave HST := (show iprop((s1V.view.loc (c : Thread nD τ) ↦{fullShare} (broadcast S2x16x1920 (Scalar.ofBits .f32 0x00000000#32) : C3 F)) ∗ (s2V.view.loc (c : Thread nD τ) ↦{fullShare} (broadcast S2x16x1920 (Scalar.ofBits .f32 0x00000000#32) : C3 F))
      ∗ (topV.view.loc (c : Thread nD τ) ↦{fullShare} (broadcast S2x16x1920 (Scalar.ofBits .bf16 0xFF80#16) : C3B F))) ⊢ stPt c (St.init (F := F)) from .rfl) $$ [H1 H2 HT]
  · isplitl [H1]; · iexact H1
    isplitl [H2]; · iexact H2
    iexact HT
  iapply wp_seq; iapply wp_weaken
  isplitl [HF HO HST]
  · iapply stats0_wp
    iapply Ist_first
    isplitl [HF]; · iexact HF
    isplitl [HO]; · iexact HO
    iexact HST
  iintro %_ H
  iapply wp_seq; iapply wp_weaken
  isplitl [H]
  · iapply stats1_wp'; iexact H
  iintro %_ H
  ihave H := Ist_last $$ H
  icases H with ⟨HS, HX, HXM, HO, HST⟩
  iapply wp_weaken
  isplitl [HST HSC H5 HX HYM HM HG HH HD HQ HO]
  · iapply mid_wp
    isplitl [HST]; · iexact HST
    isplitl [HSC]; · iexact HSC
    isplitl [H5]; · iexact H5
    isplitl [HX]; · iexact HX
    isplitl [HYM]; · iexact HYM
    isplitl [HM]; · iexact HM
    isplitl [HG]; · iexact HG
    isplitl [HH]; · iexact HH
    isplitl [HD]; · iexact HD
    isplitl [HQ]; · iexact HQ
    iexact HO
  iintro %_ ⟨H1, H2, HT, HSC, H5, HX, HYM, HM, HG, HH, HD, HQ, HO⟩
  isplitl [HSC]; · iexact HSC
  isplitl [HGM]; · iexact HGM
  isplitl [HBT]; · iexact HBT
  isplitl [H5]; · iexact H5
  isplitl [HXM]; · iexact HXM
  isplitl [HYM]; · iexact HYM
  isplitl [HX H1 H2 HT HM HG HH HD]
  · isplitl [HX]; · iexact HX
    isplitl [H1]; · iexact H1
    isplitl [H2]; · iexact H2
    isplitl [HT]; · iexact HT
    isplitl [HM]; · iexact HM
    isplitl [HG]; · iexact HG
    isplitl [HH]; · iexact HH
    iexact HD
  isplitl [HS]; · iexact HS
  isplitl [HQ]; · iexact HQ
  iexact HO

end Cert.Kernel.Hand
end
end
-- ==== Proof.KFrame.lean ====
/-
  The kernel's program run whole: its arguments unchanged, every semaphore back at zero, and what its two results hold.
-/
module
public import proofs.«01_k».proof.Proof.KBody
public import proofs.«01_k».proof.Proof.Gen.Kernel
public import proofs.«01_k».proof.Proof.Gen.Kernel.Launch
public import proofs.«01_k».proof.Proof.Gen.Kernel.Points
public import proofs.«01_k».proof.Proof.Gen.Kernel.Frame
public import Idealize.ShloMosaic.Lib.Pipeline.FrameValue
@[expose] public section
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers and semaphores the body uses beside the staged operands -/

/-- The body's own semaphores: one per chunk copied in, and one for the copies out. -/
def osem0 : Fin 72 ⊕ Unit → SemLoc sig
  | .inl j => SemLoc.dma (inSem j.val j.isLt)
  | .inr _ => SemLoc.dma outSem
theorem ownSemFacts0 : Pipeline.OwnSemFacts spec0 osem0 := by decide +kernel

theorem ownSems_eq (c : Dev nD) :
    (Pipeline.ownSems0 (Ix := Unit) (Name := ℕ) (U := Pipeline.UD sig nD τ) (Lvl := ℕ) (Val := Elt F) (τ := τ) osem0 c : sProp 𝕄)
      = iprop(bigSep Finset.univ (sems c) ∗ outQ c) := by
  unfold Pipeline.ownSems0
  rw [BI.bigSep_univ_sum, BI.bigSep_univ_of_subsingleton ()]
  unfold outQ
  rw [outSem_eq]
  rfl

/-- The array read by the copies in, and the result written by the copies out. -/
def H0 : Finset (Ref sig .tc) := {main_v0}
def R0 : Finset (Ref sig .tc) := {main_v3_0}
theorem H0_sub : H0 ⊆ Pipeline.restRefs sig spec0 := by decide
theorem R0_sub : R0 ⊆ Pipeline.restRefs sig spec0 \ H0 := by decide

theorem xmPt_all {c : Dev nD} {Y : CX F} : (xmPt c 0 18432 Y) = iprop(((c : Thread nD τ).loc main_v0) ↦{fullShare} Y) := by
  unfold xmPt; rw [rows_all]
theorem ymPt_all {c : Dev nD} {Y : CX F} : (ymPt c 0 18432 Y) = iprop(((c : Thread nD τ).loc main_v3_0) ↦{fullShare} Y) := by
  unfold ymPt; rw [rows_all]

theorem scr_eq (c : Dev nD) : (Pipeline.scopedRest (Ix := Unit) (Name := ℕ) (U := Pipeline.UD sig nD τ) (Lvl := ℕ) (Val := Elt F) spec0 c : sProp 𝕄) = scr c := by
  rw [scopedRest0_eq]
  unfold scr xPt
  rw [rows_all]
  rfl

theorem Phi_eq (G : (c : Dev nD) → (b : Ref sig .tc) → Buf (Elt F) ((c.tc : Thread nD τ).loc b)) (c : Dev nD) :
    (Pipeline.ΦDRG osem0 spec0 H0 R0 (V m) G c : sProp 𝕄)
      = iprop(scr c ∗ (∃ r, prngReg c r) ∗ iprop(bigSep Finset.univ (sems c) ∗ outQ c) ∗ xmPt c 0 18432 (V m c main_v0) ∗ ymPt c 0 18432 (G c main_v3_0)) := by
  rw [Pipeline.ΦDRG_eq, scr_eq, ownSems_eq, xmPt_all, ymPt_all]
  unfold Pipeline.routed H0 R0
  rw [bigSep_singleton, bigSep_singleton]

/-! ## The proof data -/

abbrev opS (c : Dev nD) (t : Fin cfg0.N) : FVec F S2x32 .f32 := iblk m c 0 t
abbrev opG (c : Dev nD) (t : Fin cfg0.N) : FVec F S1x1920 .f32 := iblk m c 1 t
abbrev opB (c : Dev nD) (t : Fin cfg0.N) : FVec F S1x1920 .f32 := iblk m c 2 t
abbrev opX (c : Dev nD) : CX F := V m c main_v0

/-- The two results. -/
def outCodes (c : Dev nD) (t : Fin cfg0.N) : CX F :=
  kCodes (opS m c t) (row1 (opG m c t)) (row1 (opB m c t)) (kSt (row1 (opG m c t)) (opX m c)) (opX m c)
def outScale (c : Dev nD) (t : Fin cfg0.N) : F .f32 :=
  kScale (opS m c t) (row1 (opG m c t)) (row1 (opB m c t)) (kSt (row1 (opG m c t)) (opX m c)) (opX m c)

/-- What the unstaged buffers hold at the end. -/
def endV (c : Dev nD) : (b : Ref sig .tc) → Buf (Elt F) ((c.tc : Thread nD τ).loc b) := Function.update (V m c) main_v3_0 (outCodes m c t0_0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => outScale m c t
  Φ t := Pipeline.ΦDRG osem0 spec0 H0 R0 (V m) (if t = 0 then V m else endV m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fun _ => outScale m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

abbrev ms0 (t : Fin cfg0.N) : Memref sig .tc .vmem S2x32 .f32 := win0_0.stage (cfg0.slots t 0)
abbrev ms1 (t : Fin cfg0.N) : Memref sig .tc .vmem S1x1920 .f32 := win0_1.stage (cfg0.slots t 1)
abbrev ms2 (t : Fin cfg0.N) : Memref sig .tc .vmem S1x1920 .f32 := win0_2.stage (cfg0.slots t 2)
abbrev ms3 (t : Fin cfg0.N) : Memref sig .tc .smem S1x1 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem Phi_first (c : Dev nD) (t : Fin cfg0.N) : (dats m 0 c).Φ t.castSucc = Pipeline.ΦDRG osem0 spec0 H0 R0 (V m) (V m) c := by
  rw [show t.castSucc = 0 by rw [fin_N0 t]; rfl]; dsimp only [dats]; rw [if_pos rfl]
theorem Phi_last (c : Dev nD) (t : Fin cfg0.N) : (dats m 0 c).Φ t.succ = Pipeline.ΦDRG osem0 spec0 H0 R0 (V m) (endV m) c := by
  dsimp only [dats]; rw [if_neg (Fin.succ_ne_zero t)]
theorem endV_self (c : Dev nD) (t : Fin cfg0.N) : endV m c main_v3_0 = outCodes m c t := by
  rw [fin_N0 t]; unfold endV; rw [Function.update_self]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, Phi_eq, Phi_eq, endV_self m c t, after0_0, after0_1, after0_2, after0_3]
  unfold Dat.owesAt Pipeline.owesWithin
  rw [show (dats m 0 c).owed t.castSucc = 0 from rfl, show (dats m 0 c).owed t.succ = 0 from rfl]
  have h := fun d5 => model_wp (c := c) (d5 := d5) (sc := opS m c t) (gm := opG m c t) (bt := opB m c t) (arg1 := ms0 t) (arg2 := ms1 t) (arg3 := ms2 t) (arg5 := ms3 t) (harg5 := hstage0_3 0)
    (X := opX m c) (f := V m c main_v3_0)
  simp only [← cc0_eq (ms0 t) (hstage0_0 0) (ms1 t) (hstage0_1 0) (ms2 t) (hstage0_2 0) (ms3 t) (hstage0_3 0)] at h
  iintro ⟨⟨HS, Hg, ⟨HQ, HR⟩, HX, HY⟩, ⟨%W, -, HW⟩, ⟨%d0, H0⟩, ⟨%d1, H1⟩, ⟨%d2, H2⟩, ⟨%d3, H3⟩⟩
  rw [before0_0, before0_1, before0_2]
  iapply wp_weaken
  isplitl [HS HQ HR HX HY HW H0 H1 H2 H3]
  · iapply h
    isplitl [H0]; · iexact H0
    isplitl [H1]; · iexact H1
    isplitl [H2]; · iexact H2
    isplitl [H3]; · iexact H3
    isplitl [HX]; · iexact HX
    isplitl [HY]; · iexact HY
    isplitl [HS]; · iexact HS
    isplitl [HQ]; · iexact HQ
    isplitl [HR]; · iexact HR
    iexists W; iexact HW
  iintro %_ ⟨H0, H1, H2, H3, HX, HY, HS, HQ, HR, ⟨%W', HW⟩⟩
  isplitl [HS Hg HQ HR HX HY]
  · isplitl [HS]; · iexact HS
    isplitl [Hg]; · iexact Hg
    isplitl [HQ HR]
    · isplitl [HQ]; · iexact HQ
      iexact HR
    isplitl [HX]; · iexact HX
    iexact HY
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame, the results -/

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (endV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := endV m)
    (hin := fun c => Entails.of_eq (Phi_first m c t0_0).symm) (hout := fun c => Entails.of_eq (Phi_last m c t0_0)) (hQ' := fun _ h => h)

/-- The frame and the results. -/
theorem results : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3_0) = outCodes m c t0_0
      ∧ r.2.mem ((c.tc : Thread nD τ).loc main_v3_1) = (dats m 0 c).arrAt 3 (Fin.last cfg0.N))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      (h.1.written c (by decide)).trans (endV_self m c t0_0),
      (h.1.toR c).1 3⟩, h.2⟩) (run_main m ρ)

/-- The frame: the run ends, the arguments are unchanged, every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (results m ρ)

end Cert.Kernel.Hand
end
end
-- ==== Proof.Norm.lean ====
/-
  The arithmetic of one group, over the extended reals: normalising from the mean and mean square of the codes, with the
  scale put into the gain, is normalising the scaled codes.
-/
module
public import Idealize.ShloMosaic.PureOps.Ideal
@[expose] public section
noncomputable section
namespace Cert.Num
open Idealize.ShloMosaic

variable {ι : Type} [Fintype ι]

theorem coe_sum (f : ι → ℝ) (t : Finset ι) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- A number that is an infinity. -/
def Inf (a : EReal) : Prop := a = ⊤ ∨ a = ⊥

theorem inf_or (a : EReal) : Inf a ∨ ∃ r : ℝ, a = (r : EReal) := by
  induction a using EReal.rec with
  | bot => exact .inl (.inr rfl)
  | coe r => exact .inr ⟨r, rfl⟩
  | top => exact .inl (.inl rfl)

theorem inf_add_left {a : EReal} (b : EReal) (h : Inf a) : Inf (a + b) := by
  rcases h with rfl | rfl
  · induction b using EReal.rec with
    | bot => exact .inr rfl
    | coe r => exact .inl (EReal.top_add_coe r)
    | top => exact .inl rfl
  · exact .inr (EReal.bot_add b)

theorem inf_add_right {a : EReal} (b : EReal) (h : Inf a) : Inf (b + a) := by rw [add_comm]; exact inf_add_left b h

theorem inf_neg {a : EReal} (h : Inf a) : Inf (-a) := by rcases h with rfl | rfl <;> simp [Inf]

theorem inf_sub_right {a : EReal} (b : EReal) (h : Inf a) : Inf (b - a) := by rw [sub_eq_add_neg]; exact inf_add_right b (inf_neg h)

theorem inf_mul_self {a : EReal} (h : Inf a) : a * a = ⊤ := by rcases h with rfl | rfl <;> simp

theorem inf_mul_pos {a : EReal} {r : ℝ} (hr : 0 < r) (h : Inf a) : Inf (a * r) := by
  rcases h with rfl | rfl
  · exact .inl (EReal.top_mul_coe_of_pos hr)
  · exact .inr (EReal.bot_mul_coe_of_pos hr)

theorem inf_sum {f : ι → EReal} {i : ι} (h : Inf (f i)) : Inf (∑ i, f i) := by
  classical
  rw [← Finset.add_sum_erase _ _ (Finset.mem_univ i)]
  exact inf_add_left _ h

theorem mul_self_nonneg' (a : EReal) : 0 ≤ a * a := by
  rcases inf_or a with h | ⟨r, rfl⟩
  · rw [inf_mul_self h]; exact le_top
  · rw [← EReal.coe_mul]; exact_mod_cast mul_self_nonneg r

theorem sum_sq_top {f : ι → EReal} {i : ι} (h : Inf (f i)) : ∑ i, f i * f i = ⊤ := by
  classical
  rw [← Finset.add_sum_erase _ _ (Finset.mem_univ i), inf_mul_self h]
  have : (0 : EReal) ≤ ∑ x ∈ Finset.univ.erase i, f x * f x := Finset.sum_nonneg fun j _ => mul_self_nonneg' (f j)
  exact EReal.top_add_of_ne_bot fun e => by rw [e] at this; exact absurd this (by simp)

variable (N : ℝ) (eps : ℝ) (x : ι → EReal) (s : EReal) (γ β : EReal)

/-- The mean and the mean square. -/
def mean : EReal := Ideal.div (∑ i, x i) N
def sq : EReal := Ideal.div (∑ i, x i * x i) N
/-- The variance, by the mean square and by the squared deviations. -/
def d1 : EReal := max (sq N x - mean N x * mean N x) 0
def d2 : EReal := Ideal.div (∑ i, (x i - mean N x) * (x i - mean N x)) N
/-- Is the mean square too large for the first? -/
def bad : Prop := (256 : ℝ) * (s * s * d1 N x + eps) < s * s * sq N x
def gain (d : EReal) : EReal := s * Ideal.rsqrt (s * s * d + eps) * γ
def vSlow (d : EReal) (i : ι) : EReal := (x i - mean N x) * gain eps s γ d + β
def vFast (d : EReal) (i : ι) : EReal := x i * gain eps s γ d + (β - mean N x * gain eps s γ d)
/-- The reference's. -/
def rMean : EReal := Ideal.div (∑ i, x i * s) N
def rVar : EReal := Ideal.div (∑ i, (x i * s - rMean N x s) * (x i * s - rMean N x s)) N
def vRef (i : ι) : EReal := (x i * s - rMean N x s) * Ideal.rsqrt (rVar N x s + eps) * γ + β

variable {N eps x}

theorem div_inf {a : EReal} (hN : 0 < N) (h : Inf a) : Inf (Ideal.div a N) := by
  rw [Ideal.div_coe hN.ne']
  exact inf_mul_pos (one_div_pos.mpr hN) h

theorem div_top (hN : 0 < N) : Ideal.div ⊤ N = ⊤ := by
  rw [Ideal.div_coe hN.ne']
  exact EReal.top_mul_coe_of_pos (one_div_pos.mpr hN)

theorem div_real (hN : 0 < N) (a : ℝ) : Ideal.div (a : EReal) N = ((a / N : ℝ) : EReal) := by
  rw [Ideal.div_coe hN.ne', ← EReal.coe_mul, mul_one_div]

theorem rsqrt_pos {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

/-- Some code infinite: every output is the shift. -/
theorem group_inf (hN : 0 < N) (heps : 0 < eps) {s γ β : ℝ} (hs : 0 ≤ s) {i : ι} (hi : Inf (x i)) (d : EReal)
    (hd : (d = d1 N x ∧ ¬ bad N eps x s) ∨ d = d2 N x) (j : ι) :
    vRef N eps x s γ β j = β ∧ vSlow N eps x s γ β d j = β ∧ vFast N eps x s γ β d j = β := by
  rcases hs.eq_or_lt with rfl | hs
  · have hg : gain eps ((0 : ℝ) : EReal) γ d = 0 := by unfold gain; simp
    have hm : rMean N x ((0 : ℝ) : EReal) = 0 := by
      unfold rMean
      simp only [EReal.coe_zero, mul_zero, Finset.sum_const_zero]
      rw [← EReal.coe_zero, div_real hN, zero_div]
    refine ⟨?_, ?_, ?_⟩
    · unfold vRef; rw [hm]; simp
    · unfold vSlow; rw [hg]; simp
    · unfold vFast; rw [hg]; simp
  have hss : (0 : ℝ) < s * s := mul_pos hs hs
  have hm : Inf (mean N x) := div_inf hN (inf_sum hi)
  have hsq : sq N x = ⊤ := by unfold sq; rw [sum_sq_top hi, div_top hN]
  have hd1 : d1 N x = 0 := by unfold d1; rw [hsq, inf_mul_self hm]; simp
  have hbad : bad N eps x s := by
    unfold bad
    rw [hsq, hd1, ← EReal.coe_mul, EReal.coe_mul_top_of_pos hss, mul_zero, zero_add, ← EReal.coe_mul]
    exact EReal.coe_lt_top _
  have hd2 : d2 N x = ⊤ := by
    unfold d2; rw [sum_sq_top (i := i) (inf_sub_right (x i) hm), div_top hN]
  have hd : d = ⊤ := by
    rcases hd with ⟨_, h⟩ | h
    · exact absurd hbad h
    · rw [h, hd2]
  have hr : Ideal.rsqrt (⊤ : EReal) = 0 := rfl
  have hg : gain eps (s : EReal) γ d = 0 := by
    unfold gain
    rw [hd, ← EReal.coe_mul, EReal.coe_mul_top_of_pos hss, EReal.top_add_coe, hr]; simp
  have hrm : Inf (rMean N x s) := div_inf hN (inf_sum (i := i) (inf_mul_pos hs hi))
  have hrv : rVar N x s = ⊤ := by
    unfold rVar; rw [sum_sq_top (i := i) (inf_sub_right _ hrm), div_top hN]
  refine ⟨?_, ?_, ?_⟩
  · unfold vRef; rw [hrv, EReal.top_add_coe, hr]; simp
  · unfold vSlow; rw [hg]; simp
  · unfold vFast; rw [hg]; simp

/-- Every code finite: the normalised values are real, bounded, and in the order of the codes. -/
theorem group_fin (hN : 0 < N) (hc : (Fintype.card ι : ℝ) = N) (hN6 : N ≤ 1000 * 1000) (heps : 0 < eps) {s : ℝ} (hs : 0 ≤ s) (X : ι → ℝ) (hX : ∀ i, x i = X i) (d : EReal)
    (hd : d = d1 N x ∨ d = d2 N x) :
    ∃ h : ι → ℝ, (∀ i, |h i| ≤ 1000) ∧ (∀ i j, x i ≤ x j → h i ≤ h j) ∧
      ∀ (γ β : ℝ) i, vRef N eps x s γ β i = ((h i * γ + β : ℝ) : EReal) ∧ vSlow N eps x s γ β d i = ((h i * γ + β : ℝ) : EReal) ∧ vFast N eps x s γ β d i = ((h i * γ + β : ℝ) : EReal) := by
  obtain rfl : x = fun i => (X i : EReal) := funext hX
  set m : ℝ := (∑ i, X i) / N with hm
  set D : ℝ := (∑ i, (X i - m) * (X i - m)) / N with hD
  have hD0 : 0 ≤ D := div_nonneg (Finset.sum_nonneg fun i _ => mul_self_nonneg _) hN.le
  have em : mean N (fun i => (X i : EReal)) = m := by unfold mean; rw [← coe_sum, div_real hN]
  have eq : sq N (fun i => (X i : EReal)) = ((∑ i, X i * X i) / N : ℝ) := by
    unfold sq; simp only [← EReal.coe_mul]; rw [← coe_sum, div_real hN]
  have e2 : d2 N (fun i => (X i : EReal)) = D := by
    unfold d2; rw [em]; simp only [← EReal.coe_sub, ← EReal.coe_mul]; rw [← coe_sum, div_real hN]
  have hvar : (∑ i, X i * X i) / N - m * m = D := by
    have h1 : ∑ i, (X i - m) * (X i - m) = ∑ i, X i * X i - 2 * m * ∑ i, X i + N * (m * m) := by
      rw [← hc, ← nsmul_eq_mul, ← Finset.card_univ, ← Finset.sum_const, Finset.mul_sum, ← Finset.sum_sub_distrib, ← Finset.sum_add_distrib]
      exact Finset.sum_congr rfl fun i _ => by ring
    have h2 : ∑ i, X i = N * m := by rw [hm]; field_simp
    rw [hD, h1, h2]; field_simp; ring
  have e1 : d1 N (fun i => (X i : EReal)) = D := by
    unfold d1; rw [em, eq, ← EReal.coe_mul, ← EReal.coe_sub, hvar]
    exact max_eq_left (by exact_mod_cast hD0)
  have ed : d = D := by rcases hd with h | h <;> rw [h] <;> assumption
  set V : ℝ := s * s * D + eps with hV
  have hV0 : 0 < V := by have := mul_nonneg (mul_nonneg hs hs) hD0; linarith
  set R : ℝ := (Real.sqrt V)⁻¹ with hR
  have hR0 : 0 ≤ R := inv_nonneg.mpr (Real.sqrt_nonneg V)
  have hRR : R * R * V = 1 := by
    have := Real.mul_self_sqrt hV0.le
    have h0 : Real.sqrt V ≠ 0 := (Real.sqrt_pos.mpr hV0).ne'
    rw [hR]; field_simp; rw [pow_two]; exact this.symm
  have eg : ∀ γ : ℝ, gain eps (s : EReal) γ d = ((s * R * γ : ℝ) : EReal) := by
    intro γ; unfold gain
    rw [ed, ← EReal.coe_mul, ← EReal.coe_mul, ← EReal.coe_add, rsqrt_pos hV0, ← EReal.coe_mul, ← EReal.coe_mul]
  have erm : rMean N (fun i => (X i : EReal)) s = ((m * s : ℝ) : EReal) := by
    unfold rMean; simp only [← EReal.coe_mul]; rw [← coe_sum, div_real hN, ← Finset.sum_mul, hm]; congr 1; ring
  have erv : rVar N (fun i => (X i : EReal)) s = ((s * s * D : ℝ) : EReal) := by
    unfold rVar; rw [erm]; simp only [← EReal.coe_mul, ← EReal.coe_sub]; rw [← coe_sum, div_real hN]
    congr 1
    rw [hD, mul_div_assoc', Finset.mul_sum]
    congr 1
    exact Finset.sum_congr rfl fun i _ => by ring
  refine ⟨fun i => (X i - m) * s * R, fun i => ?_, fun i j hij => ?_, fun γ β i => ⟨?_, ?_, ?_⟩⟩
  · have h1 : (X i - m) * (X i - m) ≤ N * D := by
      have : N * D = ∑ i, (X i - m) * (X i - m) := by rw [hD]; field_simp
      rw [this]
      exact Finset.single_le_sum (f := fun i => (X i - m) * (X i - m)) (fun j _ => mul_self_nonneg _) (Finset.mem_univ i)
    have h2 : ((X i - m) * s * R) * ((X i - m) * s * R) ≤ 1000 * 1000 := by
      have h3 : s * s * ((X i - m) * (X i - m)) ≤ N * V := by
        calc s * s * ((X i - m) * (X i - m)) ≤ s * s * (N * D) := mul_le_mul_of_nonneg_left h1 (mul_self_nonneg s)
          _ ≤ N * V := by rw [hV]; nlinarith
      calc ((X i - m) * s * R) * ((X i - m) * s * R) = R * R * (s * s * ((X i - m) * (X i - m))) := by ring
        _ ≤ R * R * (N * V) := mul_le_mul_of_nonneg_left h3 (mul_self_nonneg R)
        _ = N := by rw [show R * R * (N * V) = R * R * V * N by ring, hRR, one_mul]
        _ ≤ 1000 * 1000 := hN6
    by_contra hcon
    rw [not_le] at hcon
    rw [← abs_mul_abs_self] at h2
    nlinarith
  · have : X i ≤ X j := EReal.coe_le_coe_iff.mp hij
    exact mul_le_mul_of_nonneg_right (mul_le_mul_of_nonneg_right (by linarith) hs) hR0
  · unfold vRef
    rw [erm, erv, ← EReal.coe_add, rsqrt_pos hV0, ← EReal.coe_mul, ← EReal.coe_sub, ← EReal.coe_mul, ← EReal.coe_mul, ← EReal.coe_add]
    congr 1; rw [← hR]; ring
  · unfold vSlow
    rw [eg, em, ← EReal.coe_sub, ← EReal.coe_mul, ← EReal.coe_add]
    congr 1; ring
  · unfold vFast
    rw [eg, em, ← EReal.coe_mul, ← EReal.coe_mul, ← EReal.coe_sub, ← EReal.coe_add]
    congr 1; ring

/-- ONE GROUP: what both compute is `h i * γ + β` for one bounded `h` in the order of the codes. -/
theorem group (hN : 0 < N) (hc : (Fintype.card ι : ℝ) = N) (hN6 : N ≤ 1000 * 1000) (heps : 0 < eps) {s : ℝ} (hs : 0 ≤ s) (d : EReal)
    (hd : (d = d1 N x ∧ ¬ bad N eps x s) ∨ d = d2 N x) :
    ∃ h : ι → ℝ, (∀ i, |h i| ≤ 1000) ∧ (∀ i j, x i ≤ x j → h i ≤ h j) ∧
      ∀ (γ β : ℝ) i, vRef N eps x s γ β i = ((h i * γ + β : ℝ) : EReal) ∧ vSlow N eps x s γ β d i = ((h i * γ + β : ℝ) : EReal) ∧ vFast N eps x s γ β d i = ((h i * γ + β : ℝ) : EReal) := by
  by_cases hi : ∃ i, Inf (x i)
  · obtain ⟨i, hi⟩ := hi
    refine ⟨fun _ => 0, fun _ => by simp, fun _ _ _ => le_refl _, fun γ β j => ?_⟩
    simpa using group_inf hN heps hs hi d hd j
  · have : ∀ i, ∃ r : ℝ, x i = (r : EReal) := fun i => (inf_or (x i)).resolve_left fun h => hi ⟨i, h⟩
    choose X hX using this
    exact group_fin hN hc hN6 heps hs X hX d (hd.imp_left And.left)

end Cert.Num
end
end
-- ==== Proof.Top.lean ====
/-
  The greatest of finitely many extended reals, and the two reductions that the library does not read at an index.
-/
module
public import Idealize.ShloMosaic.Lib.Pointwise
@[expose] public section
noncomputable section
namespace Cert.Num
open Idealize.ShloMosaic

/-- `a` is the greatest of the values of `f`. -/
def IsTop {ι : Type} (f : ι → EReal) (a : EReal) : Prop := (∀ i, f i ≤ a) ∧ ∃ i, a = f i

theorem IsTop.unique {ι : Type} {f : ι → EReal} {a b : EReal} (h : IsTop f a) (h' : IsTop f b) : a = b := by
  obtain ⟨i, hi⟩ := h.2
  obtain ⟨j, hj⟩ := h'.2
  exact le_antisymm (hi ▸ h'.1 i) (hj ▸ h.1 j)

theorem fold_top {ι : Type} [Fintype ι] [Nonempty ι] (f : ι → EReal) : IsTop f ((Finset.univ : Finset ι).fold max (⊥ : EReal) f) := by
  have hs : (Finset.univ : Finset ι).fold max (⊥ : EReal) f = Finset.univ.sup f := rfl
  rw [hs]
  refine ⟨fun i => Finset.le_sup (Finset.mem_univ i), ?_⟩
  obtain ⟨i, _, hi⟩ := Finset.exists_mem_eq_sup (Finset.univ : Finset ι) Finset.univ_nonempty f
  exact ⟨i, hi⟩

theorem bits_bot : Ideal.ofBits .f32 0xFF800000#32 = ⊥ := by simp [Ideal.ofBits, Ideal.ieee]

/-- A reduction by maximum into one element. -/
theorem max_total {s t : Shape} {axes : List (Fin s.rank)} (src : FVec Ideal s .f32) (h : s.Reduces axes t) (ht : ∀ b, t.size b = 1)
    [Nonempty s.Idx] (hφ : FKind.Formats .f32) (hacc : (0xFF800000#32 : BitVec 32) = FKind.maximumf.neutral .f32 hφ) (j : t.Idx) :
    IsTop src (multiReduction .maximumf axes t src 0xFF800000#32 h hφ hacc j) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [multiReduction_maximumf_eq_fold]
  rw [Finset.filter_true_of_mem fun i _ => funext fun b => Fin.ext (by
    have := (h.drop i b).isLt; have := (j b).isLt; have := ht b; omega)]
  have := fold_top (fun i => (src i : EReal))
  rw [← bits_bot] at this
  exact this

theorem IsTop.of_ix4 {a b c d : Nat} {Y : (⟨4, ![a, b, c, d]⟩ : Shape).Idx → EReal} {m : Fin b × Fin c × Fin d → EReal} (z : Fin a)
    (e : ∀ z i j k, Y (ix4 z i j k) = m (i, j, k)) {A : EReal} (h : IsTop Y A) : IsTop m A := by
  refine ⟨fun p => ?_, ?_⟩
  · rw [← e z p.1 p.2.1 p.2.2]; exact h.1 _
  · obtain ⟨i, hi⟩ := h.2
    exact ⟨(i 1, i 2, i 3), hi.trans ((congrArg Y (eq_ix4 i)).trans (e (i 0) (i 1) (i 2) (i 3)))⟩

theorem IsTop.of_ix3 {a b c : Nat} {Y : (⟨3, ![a, b, c]⟩ : Shape).Idx → EReal} {m : Fin b × Fin c → EReal} (z : Fin a)
    (e : ∀ z i j, Y (ix3 z i j) = m (i, j)) {A : EReal} (h : IsTop Y A) : IsTop m A := by
  refine ⟨fun p => ?_, ?_⟩
  · rw [← e z p.1 p.2]; exact h.1 _
  · obtain ⟨i, hi⟩ := h.2
    exact ⟨(i 1, i 2), hi.trans ((congrArg Y (eq_ix3 i)).trans (e (i 0) (i 1) (i 2)))⟩

/-- A sum over the rows and the channels of each group. -/
theorem sum_13 {n0 n1 n2 n3 : Nat} (h : (⟨4, ![n0, n1, n2, n3]⟩ : Shape).Reduces [1, 3] ⟨2, ![n0, n2]⟩) (v : (⟨4, ![n0, n1, n2, n3]⟩ : Shape).Idx → EReal) (a : Fin n0) (b : Fin n2) :
    Ideal.reduceAdd h v (ix2 a b) = ∑ p : Fin n1 × Fin n3, v (ix4 a p.1 b p.2) := by
  unfold Ideal.reduceAdd
  refine Finset.sum_filter_eq_sum_of_fiber _ (fun k : Fin n1 × Fin n3 => ix4 a k.1 b k.2)
    (fun _ _ e => Prod.ext (congrFun e 1) (congrFun e 3)) (fun i => ?_) v
  constructor
  · intro e
    refine ⟨(i 1, i 3), ?_⟩
    funext c; apply Fin.ext
    match c with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext c
    apply Fin.ext
    match c with
    | ⟨0, _⟩ => rfl
    | ⟨1, _⟩ => rfl

end Cert.Num
end
end
-- ==== Proof.Spec.lean ====
/-
  The values both programs compute, over the extended reals: the constants, the groups, the activation.
-/
module
public import proofs.«01_k».proof.Proof.Norm
public import proofs.«01_k».proof.Proof.Top
@[expose] public section
noncomputable section
namespace Cert.Num
open Idealize.ShloMosaic

/-! ## The constants -/

theorem bits_N : Ideal.ofBits .f32 0x49070000#32 = ((552960 : ℝ) : EReal) := by
  simp [Ideal.ofBits, Ideal.ieee]; norm_cast; norm_num
/-- The epsilon under the root. -/
def epsR : ℝ := 10995116 / 2 ^ 40
theorem epsR_pos : 0 < epsR := by unfold epsR; norm_num
theorem bits_eps : Ideal.ofBits .f32 0x3727C5AC#32 = (epsR : EReal) := by
  unfold epsR; simp [Ideal.ofBits, Ideal.ieee]; norm_cast
theorem bits_256 : Ideal.ofBits .f32 0x43800000#32 = ((256 : ℝ) : EReal) := by
  simp [Ideal.ofBits, Ideal.ieee]; norm_cast; norm_num
theorem bits_2 : Ideal.ofBits .f32 0x40000000#32 = ((2 : ℝ) : EReal) := by
  simp [Ideal.ofBits, Ideal.ieee]; norm_cast; norm_num
theorem bits_1 : Ideal.ofBits .f32 0x3F800000#32 = 1 := by
  simp [Ideal.ofBits, Ideal.ieee]; norm_cast; norm_num
theorem bits_tiny : Ideal.ofBits .f32 0x00800000#32 = (((2 : ℝ) ^ (-126 : ℤ) : ℝ) : EReal) := by
  simp [Ideal.ofBits, Ideal.ieee]; rw [← EReal.coe_mul]; congr 1; norm_num
theorem bits_grid : Ideal.ofBits .f32 0x3B124925#32 = ((9586981 / 2 ^ 32 : ℝ) : EReal) := by
  simp [Ideal.ofBits, Ideal.ieee]; norm_cast
theorem bits_c : Ideal.ofBits .f32 0x3E8E978D#32 = ((9344909 / 2 ^ 25 : ℝ) : EReal) := by
  simp [Ideal.ofBits, Ideal.ieee]; norm_cast
theorem bits_m1 : Ideal.ofBits .f32 0xBF800000#32 = -1 := by
  simp [Ideal.ofBits, Ideal.ieee]; norm_cast; norm_num
theorem bits_botB : Ideal.ofBits .bf16 0xFF80#16 = ⊥ := by simp [Ideal.ofBits, Ideal.ieee]

/-! ## The activation -/

/-- The activation. -/
def silu (v : EReal) : EReal := v * Ideal.logistic v
/-- A channel of a group, a channel's group and its place in it. -/
def ch (g : Fin 32) (q : Fin 60) : Fin 1920 := ⟨g.val * 60 + q.val, by omega⟩
def grp (c : Fin 1920) : Fin 32 := ⟨c.val / 60, by omega⟩
def plc (c : Fin 1920) : Fin 60 := ⟨c.val % 60, by omega⟩
theorem ch_grp (c : Fin 1920) : ch (grp c) (plc c) = c := Fin.ext (by show c.val / 60 * 60 + c.val % 60 = c.val; omega)
/-- The rows and places of one group. -/
abbrev Grp := Fin 9216 × Fin 60
theorem card_grp : (Fintype.card Grp : ℝ) = 552960 := by
  rw [Fintype.card_prod, Fintype.card_fin, Fintype.card_fin]; norm_num
/-- The codes of one group. -/
def xg (x : Fin 2 → Fin 9216 → Fin 1920 → EReal) (b : Fin 2) (g : Fin 32) : Grp → EReal := fun p => x b p.1 (ch g p.2)
end Cert.Num
end
end
-- ==== Proof.Vecs.lean ====
/-
  The kernel's vectors, element by element, over the extended reals.
-/
module
public import proofs.«01_k».proof.Proof.Loops
public import proofs.«01_k».proof.Proof.Spec
@[expose] public section
set_option maxRecDepth 8192
noncomputable section
namespace Cert.KernelIdeal.Hand
open Cert.KernelIdeal Cert.Num
open Idealize.ShloMosaic
variable [Facts]
open Facts₀ Facts

theorem mul60 : ∀ g : Fin 32, IntOp.muli (BitVec.ofNat 32 g.val) 60#32 = BitVec.ofNat 32 (g.val * 60) ∧ IntOp.muli (IntOp.addi (BitVec.ofNat 32 g.val) 1#32) 60#32 = BitVec.ofNat 32 ((g.val + 1) * 60) := by decide +kernel

theorem toInt_small {n : Nat} (h : n < 100000) : (BitVec.ofNat 32 n).toInt = n := by
  rw [BitVec.toInt_eq_toNat_cond, BitVec.toNat_ofNat, Nat.mod_eq_of_lt (by omega)]; split <;> omega

theorem sge_small {n m : Nat} (hn : n < 100000) (hm : m < 100000) : IntOp.cmpi .sge (BitVec.ofNat 32 n) (BitVec.ofNat 32 m) = BitVec.ofBool (decide (m ≤ n)) := by
  show BitVec.ofBool (decide ((BitVec.ofNat 32 m).toInt ≤ (BitVec.ofNat 32 n).toInt)) = _
  rw [toInt_small hn, toInt_small hm]
  congr 1
  simp
theorem slt_small {n m : Nat} (hn : n < 100000) (hm : m < 100000) : IntOp.cmpi .slt (BitVec.ofNat 32 n) (BitVec.ofNat 32 m) = BitVec.ofBool (decide (n < m)) := by
  show BitVec.ofBool (decide ((BitVec.ofNat 32 n).toInt < (BitVec.ofNat 32 m).toInt)) = _
  rw [toInt_small hn, toInt_small hm]
  congr 1
  simp

theorem onehot_eq (c : Fin 1920) (g : Fin 32) : (onehot (F := Ideal) (ix2 c g) : EReal) = if grp c = g then 1 else 0 := by
  pointwise [onehot]
  rw [(mul60 g).1, (mul60 g).2, sge_small (by omega) (by omega), slt_small (by omega) (by omega)]
  have e : (g.val * 60 ≤ c.val ∧ c.val < (g.val + 1) * 60) ↔ grp c = g :=
    ⟨fun h => Fin.ext (show c.val / 60 = g.val by omega), fun h => by have : c.val / 60 = g.val := congrArg Fin.val h; omega⟩
  by_cases h : grp c = g
  · rw [if_pos h, decide_eq_true (e.mpr h).1, decide_eq_true (e.mpr h).2]
    show (((BitVec.setWidth 32 1#1).toInt : ℝ) : EReal) = 1
    norm_num
  · rw [if_neg h]
    have h' : ¬ (g.val * 60 ≤ c.val) ∨ ¬ (c.val < (g.val + 1) * 60) := by
      by_contra hh; push Not at hh; exact h (e.mp hh)
    rcases h' with h' | h' <;> rw [decide_eq_false h']
    · rw [show ∀ x : BitVec 1, IntOp.andi (BitVec.ofBool false) x = 0#1 by decide]
      show (((BitVec.setWidth 32 0#1).toInt : ℝ) : EReal) = 0
      norm_num
    · rw [show ∀ x : BitVec 1, IntOp.andi x (BitVec.ofBool false) = 0#1 by decide]
      show (((BitVec.setWidth 32 0#1).toInt : ℝ) : EReal) = 0
      norm_num

theorem spread_eq (G : FVec Ideal S2x32 .f32) (b : Fin 2) (c : Fin 1920) : (spread G (ix2 b c) : EReal) = G (ix2 b (grp c)) := by
  pointwise [spread]
  simp only [onehot_eq]
  rw [Finset.sum_eq_single (grp c)]
  · rw [if_pos rfl, mul_one]
  · intro g _ hg
    rw [if_neg (Ne.symm hg), mul_zero]
  · intro h; exact absurd (Finset.mem_univ _) h

theorem sum_group (f : Fin 1920 → EReal) (g : Fin 32) : ∑ c, f c * (if grp c = g then 1 else 0) = ∑ q : Fin 60, f (ch g q) := by
  have e : ∀ c, f c * (if grp c = g then (1 : EReal) else 0) = if grp c = g then f c else 0 := fun c => by split <;> simp
  simp only [e]
  rw [← Finset.sum_filter]
  symm
  refine Finset.sum_nbij' (fun q => ch g q) plc ?_ ?_ ?_ ?_ ?_
  · intro q _
    rw [Finset.mem_filter]
    exact ⟨Finset.mem_univ _, Fin.ext (show (g.val * 60 + q.val) / 60 = g.val by omega)⟩
  · intro c _; exact Finset.mem_univ _
  · intro q _; exact Fin.ext (show (g.val * 60 + q.val) % 60 = q.val by omega)
  · intro c hc
    rw [Finset.mem_filter] at hc
    rw [← hc.2]; exact ch_grp c
  · intro q _; rfl

/-- A group's mean of what the rows of its channels sum to. -/
theorem gmean_eq (s : FVec Ideal S2x16x1920 .f32) (b : Fin 2) (g : Fin 32) (y : Fin 9216 → Fin 1920 → EReal)
    (h : ∀ c, ∑ i : Fin 16, (s (ix3 b i c) : EReal) = ∑ r, y r c) :
    (gmean (F := Ideal) s (ix2 b g) : EReal) = Ideal.div (∑ p : Grp, y p.1 (ch g p.2)) (552960 : ℝ) := by
  pointwise [gmean, colsum]
  simp only [onehot_eq, h]
  rw [sum_group (fun c => ∑ r, y r c), bits_N, Finset.sum_comm, Fintype.sum_prod_type]

theorem on_ofBool (p : Prop) [Decidable p] : on (BitVec.ofBool (decide p)) ↔ p := by
  by_cases h : p
  · rw [decide_eq_true h]; exact ⟨fun _ => h, fun _ => by decide⟩
  · rw [decide_eq_false h]; exact ⟨fun e => absurd e (by decide), fun e => absurd e h⟩

theorem fold_max_le {ι : Type} [Fintype ι] (f : ι → EReal) (z : EReal) : (Finset.univ : Finset ι).fold max (⊥ : EReal) f ≤ z ↔ ∀ i, f i ≤ z := by
  rw [show (Finset.univ : Finset ι).fold max (⊥ : EReal) f = Finset.univ.sup f from rfl, Finset.sup_le_iff]; simp

theorem coltop_le (s : FVec Ideal S2x16x1920 .bf16) (b : Fin 2) (c : Fin 1920) (z : EReal) :
    (coltop (F := Ideal) s (ix2 b c) : EReal) ≤ z ↔ ∀ i : Fin 16, (s (ix3 b i c) : EReal) ≤ z := by
  pointwise [coltop]
  rw [bits_bot, fold_max_le]

theorem gainv_eq (sc : Vec Ideal S2x32 .f32) (d : FVec Ideal S2x32 .f32) (gm : FVec Ideal S1x1920 .f32) (b : Fin 2) (c : Fin 1920) :
    (gainv sc d gm (ix2 b c) : EReal) = gain epsR (sc (ix2 b (grp c))) (gm (ix2 0 c)) (d (ix2 b (grp c))) := by
  pointwise [gainv]
  rw [spread_eq]
  pointwise []
  rw [bits_eps]
  rfl

theorem biasv_eq (m g : FVec Ideal S2x1920 .f32) (bt : FVec Ideal S1x1920 .f32) (b : Fin 2) (c : Fin 1920) :
    (biasv m g bt (ix2 b c) : EReal) = bt (ix2 0 c) - m (ix2 b c) * g (ix2 b c) := by
  pointwise [biasv]

theorem dev1_eq (m q : FVec Ideal S2x32 .f32) (b : Fin 2) (g : Fin 32) :
    (dev1 m q (ix2 b g) : EReal) = max (q (ix2 b g) - m (ix2 b g) * m (ix2 b g)) 0 := by
  pointwise [dev1]

/-- Is some group's mean square too large? -/
theorem illv_on (sc : Vec Ideal S2x32 .f32) (q d : FVec Ideal S2x32 .f32) : on (illv sc q d) ↔
    ∃ b g, (256 : ℝ) * ((sc (ix2 b g) * sc (ix2 b g) : EReal) * d (ix2 b g) + (epsR : EReal)) < (sc (ix2 b g) * sc (ix2 b g) : EReal) * q (ix2 b g) := by
  have e : ∀ (z : Fin 1) b g, (shapeCast S1x2x32 (select (cmpf .ogt (mulf (mulf sc sc) q) (mulf (broadcast S2x32 (Scalar.ofBits .f32 0x43800000#32)) (addf (mulf (mulf sc sc) d) (broadcast S2x32 (Scalar.ofBits .f32 0x3727C5AC#32)))))
      (broadcast S2x32 (Scalar.ofBits .f32 0x3F800000#32)) (broadcast S2x32 (Scalar.ofBits .f32 0x00000000#32)) : FVec Ideal S2x32 .f32) shapeCasts_S2x32_S1x2x32 (ix3 z b g) : EReal)
      = if (256 : ℝ) * ((sc (ix2 b g) * sc (ix2 b g) : EReal) * d (ix2 b g) + (epsR : EReal)) < (sc (ix2 b g) * sc (ix2 b g) : EReal) * q (ix2 b g) then 1 else 0 := by
    intro z b g
    pointwise []
    rw [bits_eps, bits_256]
  unfold illv
  generalize shapeCast S1x2x32 (select (cmpf .ogt (mulf (mulf sc sc) q) (mulf (broadcast S2x32 (Scalar.ofBits .f32 0x43800000#32)) (addf (mulf (mulf sc sc) d) (broadcast S2x32 (Scalar.ofBits .f32 0x3727C5AC#32)))))
      (broadcast S2x32 (Scalar.ofBits .f32 0x3F800000#32)) (broadcast S2x32 (Scalar.ofBits .f32 0x00000000#32)) : FVec Ideal S2x32 .f32) shapeCasts_S2x32_S1x2x32 = Y at e
  haveI : Nonempty S1x2x32.Idx := ⟨ix3 0 0 0⟩
  have h := max_total Y reduces_S1x2x32_S1 (fun b => by match b with | ⟨0, _⟩ => rfl) (.inl rfl) rfl (ix1 0)
  generalize multiReduction .maximumf [1, 2] S1 Y 0xFF800000#32 reduces_S1x2x32_S1 (.inl rfl) rfl = w at h
  have h := IsTop.of_ix3 (m := fun k : Fin 2 × Fin 32 => if (256 : ℝ) * ((sc (ix2 k.1 k.2) * sc (ix2 k.1 k.2) : EReal) * d (ix2 k.1 k.2) + (epsR : EReal)) < (sc (ix2 k.1 k.2) * sc (ix2 k.1 k.2) : EReal) * q (ix2 k.1 k.2) then 1 else 0) 0 e h
  have ew : (extractAt ![0, 0, 0] (shapeCast S1x1x1 w shapeCasts_S1_S1x1x1) inpos_S1x1x1_p0_0_0 : EReal) = w (ix1 0) := by pointwise []
  have e0 : Ideal.ofBits .f32 0x00000000#32 = 0 := by simp [Ideal.ofBits, Ideal.ieee]
  show on (BitVec.ofBool (decide (Ideal.ofBits .f32 0x00000000#32 < extractAt ![0, 0, 0] (shapeCast S1x1x1 w shapeCasts_S1_S1x1x1) inpos_S1x1x1_p0_0_0))) ↔ _
  rw [on_ofBool, ew, e0]
  constructor
  · intro hp
    obtain ⟨⟨b, g⟩, hi⟩ := h.2
    rw [hi] at hp
    refine ⟨b, g, ?_⟩
    by_contra hn
    simp only at hp
    rw [if_neg hn] at hp
    exact absurd hp (lt_irrefl _)
  · rintro ⟨b, g, hh⟩
    have := h.1 (b, g)
    simp only at this
    rw [if_pos hh] at this
    exact lt_of_lt_of_le zero_lt_one this

/-- The value at a channel's extreme. -/
def lowAt (tp m g : FVec Ideal S2x1920 .f32) (gm bt : FVec Ideal S1x1920 .f32) (k : Fin 2 × Fin 1920) : EReal :=
  ((if (gm (ix2 0 k.2) : EReal) < 0 then 0 - (tp (ix2 k.1 k.2) : EReal) else tp (ix2 k.1 k.2)) - m (ix2 k.1 k.2)) * g (ix2 k.1 k.2) + bt (ix2 0 k.2)

theorem lowv_top (tp m g : FVec Ideal S2x1920 .f32) (gm bt : FVec Ideal S1x1920 .f32) :
    IsTop (fun k => max (silu (lowAt tp m g gm bt k)) (-silu (lowAt tp m g gm bt k))) (lowv tp m g gm bt) := by
  have hv : ∀ b c, (addf (mulf (subf (select (broadcastTo S2x1920 (shapeCast S1x1920 (cmpf .olt gm (broadcast S1x1920 (Scalar.ofBits .f32 0x00000000#32))) shapeCasts_S1x1920_S1x1920) broadcasts_S1x1920_S2x1920)
    (subf (broadcast S2x1920 (Scalar.ofBits .f32 0x00000000#32)) tp) tp) m) g) (broadcastTo S2x1920 bt broadcasts_S1x1920_S2x1920) : FVec Ideal S2x1920 .f32) (ix2 b c) = lowAt tp m g gm bt (b, c) := by
    intro b c
    pointwise [lowAt]
  unfold lowv
  dsimp only
  generalize (addf (mulf (subf (select (broadcastTo S2x1920 (shapeCast S1x1920 (cmpf .olt gm (broadcast S1x1920 (Scalar.ofBits .f32 0x00000000#32))) shapeCasts_S1x1920_S1x1920) broadcasts_S1x1920_S2x1920)
    (subf (broadcast S2x1920 (Scalar.ofBits .f32 0x00000000#32)) tp) tp) m) g) (broadcastTo S2x1920 bt broadcasts_S1x1920_S2x1920) : FVec Ideal S2x1920 .f32) = v at hv
  have e : ∀ (z : Fin 1) b c, (shapeCast S1x2x1920 (absf (mulf v (logistic v))) shapeCasts_S2x1920_S1x2x1920 (ix3 z b c) : EReal) = max (silu (lowAt tp m g gm bt (b, c))) (-silu (lowAt tp m g gm bt (b, c))) := by
    intro z b c
    rw [← hv]
    pointwise []
    rfl
  generalize shapeCast S1x2x1920 (absf (mulf v (logistic v))) shapeCasts_S2x1920_S1x2x1920 = Y at e
  haveI : Nonempty S1x2x1920.Idx := ⟨ix3 0 0 0⟩
  have h := max_total Y reduces_S1x2x1920_S1 (fun b => by match b with | ⟨0, _⟩ => rfl) (.inl rfl) rfl (ix1 0)
  generalize multiReduction .maximumf [1, 2] S1 Y 0xFF800000#32 reduces_S1x2x1920_S1 (.inl rfl) rfl = w at h
  have ew : (extractAt ![0, 0, 0] (shapeCast S1x1x1 w shapeCasts_S1_S1x1x1) inpos_S1x1x1_p0_0_0 : EReal) = w (ix1 0) := by pointwise []
  rw [ew]
  exact IsTop.of_ix3 0 e h

theorem maxv_top (s : FVec Ideal S2x16x1920 .f32) : IsTop (fun k : Fin 2 × Fin 16 × Fin 1920 => (s (ix3 k.1 k.2.1 k.2.2) : EReal)) (maxv (F := Ideal) s) := by
  have e : ∀ (z : Fin 1) b i c, (shapeCast S1x2x16x1920 s shapeCasts_S2x16x1920_S1x2x16x1920 (ix4 z b i c) : EReal) = s (ix3 b i c) := by
    intro z b i c
    pointwise []
  unfold maxv
  generalize shapeCast S1x2x16x1920 s shapeCasts_S2x16x1920_S1x2x16x1920 = Y at e
  haveI : Nonempty S1x2x16x1920.Idx := ⟨ix4 0 0 0 0⟩
  have h := max_total Y reduces_S1x2x16x1920_S1 (fun b => by match b with | ⟨0, _⟩ => rfl) (.inl rfl) rfl (ix1 0)
  generalize multiReduction .maximumf [1, 2, 3] S1 Y 0xFF800000#32 reduces_S1x2x16x1920_S1 (.inl rfl) rfl = w at h
  have ew : (extractAt ![0, 0, 0, 0] (shapeCast S1x1x1x1 w shapeCasts_S1_S1x1x1x1) inpos_S1x1x1x1_p0_0_0_0 : EReal) = w (ix1 0) := by pointwise []
  rw [ew]
  exact IsTop.of_ix4 0 e h

end Cert.KernelIdeal.Hand
end
end
-- ==== Proof.Cells.lean ====
/-
  The running buffers of the kernel, element by element, over the extended reals.
-/
module
public import proofs.«01_k».proof.Proof.Loops
public import proofs.«01_k».proof.Proof.Spec
@[expose] public section
set_option maxRecDepth 8192
noncomputable section
namespace Cert.KernelIdeal.Hand
open Cert.KernelIdeal Cert.Num
open Idealize.ShloMosaic
variable [Facts]
open Facts₀ Facts

/-! ## Folds and loops seen at one element -/

section Folds
variable {σ τ : Type}

theorem fold_once (step : σ → τ → σ) (cell : σ → EReal) (φ : EReal → EReal) (p : τ → Prop) (h : ∀ s t, (p t → cell (step s t) = φ (cell s)) ∧ (¬ p t → cell (step s t) = cell s))
    (hp : ∀ a b, p a → p b → a = b) (l : List τ) (hl : l.Nodup) (s : σ) :
    ((∃ t ∈ l, p t) → cell (l.foldl step s) = φ (cell s)) ∧ ((∀ t ∈ l, ¬ p t) → cell (l.foldl step s) = cell s) := by
  induction l generalizing s with
  | nil => exact ⟨fun ⟨t, ht, _⟩ => absurd ht (by simp), fun _ => rfl⟩
  | cons t l ih =>
    obtain ⟨h1, h2⟩ := List.nodup_cons.mp hl
    obtain ⟨i1, i2⟩ := ih h2 (step s t)
    rw [List.foldl_cons]
    by_cases pt : p t
    · have e := i2 fun t' ht' pt' => h1 (hp t t' pt pt' ▸ ht')
      exact ⟨fun _ => e.trans ((h s t).1 pt), fun hn => absurd pt (hn t (by simp))⟩
    · constructor
      · rintro ⟨t', ht', pt'⟩
        rcases List.mem_cons.mp ht' with rfl | ht'
        · exact absurd pt' pt
        · rw [i1 ⟨t', ht', pt'⟩, (h s t).2 pt]
      · intro hn
        rw [i2 fun t' ht' => hn t' (by simp [ht']), (h s t).2 pt]

theorem loop_once {N : Nat} (step : Fin N → σ → σ) (cell : σ → EReal) (φ : EReal → EReal) (Q : Nat)
    (h : ∀ (k : Fin N) s, (Q = k.val → cell (step k s) = φ (cell s)) ∧ (Q ≠ k.val → cell (step k s) = cell s)) (s : σ) (k : Nat) (hk : k ≤ N) :
    (Q < k → cell (loopTo step s k) = φ (cell s)) ∧ (k ≤ Q → cell (loopTo step s k) = cell s) := by
  induction k with
  | zero => exact ⟨fun h => absurd h (by omega), fun _ => by rw [loopTo_zero]⟩
  | succ k ih =>
    obtain ⟨i1, i2⟩ := ih (by omega)
    have e := loopTo_succ step s ⟨k, by omega⟩
    simp only at e
    rw [e]
    obtain ⟨h1, h2⟩ := h ⟨k, by omega⟩ (loopTo step s k)
    constructor
    · intro hq
      rcases Nat.lt_or_ge Q k with hq' | hq'
      · rw [h2 (by simp only; omega), i1 hq']
      · rw [h1 (by simp only; omega), i2 hq']
    · intro hq
      rw [h2 (by simp only; omega), i2 (by omega)]

theorem loop_same {N : Nat} (step : Fin N → σ → σ) (cell : σ → EReal) (h : ∀ (k : Fin N) s, cell (step k s) = cell s) (s : σ) (k : Nat) (hk : k ≤ N) :
    cell (loopTo step s k) = cell s := by
  induction k with
  | zero => rw [loopTo_zero]
  | succ k ih =>
    have e := loopTo_succ step s ⟨k, by omega⟩
    simp only at e
    rw [e, h, ih (by omega)]

theorem loop_sum {N : Nat} (step : Fin N → σ → σ) (cell : σ → EReal) (D : Nat → EReal) (h : ∀ (k : Fin N) s, cell (step k s) = cell s + D k.val) (s : σ) (k : Nat) (hk : k ≤ N) :
    cell (loopTo step s k) = cell s + ∑ j ∈ Finset.range k, D j := by
  induction k with
  | zero => rw [loopTo_zero, Finset.sum_range_zero, add_zero]
  | succ k ih =>
    have e := loopTo_succ step s ⟨k, by omega⟩
    simp only at e
    rw [e, h, ih (by omega), Finset.sum_range_succ, add_assoc]

theorem loop_le {N : Nat} (step : Fin N → σ → σ) (cell : σ → EReal) (z : EReal) (D : Nat → Prop) (h : ∀ (k : Fin N) s, cell (step k s) ≤ z ↔ cell s ≤ z ∧ D k.val)
    (s : σ) (k : Nat) (hk : k ≤ N) : cell (loopTo step s k) ≤ z ↔ cell s ≤ z ∧ ∀ j < k, D j := by
  induction k with
  | zero => rw [loopTo_zero]; simp
  | succ k ih =>
    have e := loopTo_succ step s ⟨k, by omega⟩
    simp only at e
    rw [e, h, ih (by omega), Nat.forall_lt_succ_right, and_assoc]
end Folds

theorem sum_8 (P : Nat → EReal) (k : Nat) : ∑ j ∈ Finset.range k, ∑ r : Fin 8, P (8 * j + r.val) = ∑ q ∈ Finset.range (8 * k), P q := by
  induction k with
  | zero => rfl
  | succ k ih => rw [Finset.sum_range_succ, ih, Nat.mul_succ, Finset.sum_range_add, Finset.sum_range (fun i => P (8 * k + i))]

theorem sum_32 (Y : Nat → EReal) (n : Nat) : ∑ i : Fin 16, ∑ q ∈ Finset.range n, (Y (32 * q + i.val) + Y (32 * q + 16 + i.val)) = ∑ p ∈ Finset.range (32 * n), Y p := by
  induction n with
  | zero => simp
  | succ n ih =>
    simp only [Finset.sum_range_succ]
    rw [Finset.sum_add_distrib, ih, Nat.mul_succ, Finset.sum_range_add, Finset.sum_add_distrib]
    congr 1
    rw [show Finset.range 32 = Finset.range (16 + 16) from rfl, Finset.sum_range_add, Finset.sum_range, Finset.sum_range (fun x => Y (32 * n + (16 + x)))]
    simp only [add_assoc]

/-! ## One lane tile of the buffers -/

theorem get3_apply {α : Type} (b : Fin 2) (t : Fin 15) (A : S2x16x1920.Idx → α) (i : Fin 16) (l : Fin 128) :
    get3 b t A (ix3 0 i l) = A (ix3 b i ⟨128 * t.val + l.val, by omega⟩) := by
  unfold get3
  congr 1
  funext a
  match a with
  | ⟨0, _⟩ => exact Fin.ext (show b.val + 1 * 0 = b.val by omega)
  | ⟨1, _⟩ => exact Fin.ext (show 0 + 1 * i.val = i.val by omega)
  | ⟨2, _⟩ => exact Fin.ext (show 128 * t.val + 1 * l.val = 128 * t.val + l.val by omega)

theorem getL_apply {α : Type} (b : Fin 2) (t : Fin 15) (A : S2x1920.Idx → α) (l : Fin 128) :
    getL b t A (ix2 0 l) = A (ix2 b ⟨128 * t.val + l.val, by omega⟩) := by
  unfold getL
  congr 1
  funext a
  match a with
  | ⟨0, _⟩ => exact Fin.ext (show b.val + 1 * 0 = b.val by omega)
  | ⟨1, _⟩ => exact Fin.ext (show 128 * t.val + 1 * l.val = 128 * t.val + l.val by omega)

/-- A column of the codes, by the row's number. -/
def xn (X : CX Ideal) (c : Fin 1920) (p : Nat) : EReal := if h : p < 18432 then X (ix2 ⟨p, h⟩ c) else 0

theorem getX_apply {off : Fin 2 → Nat} (inb : ∀ a, off a + S32x128.size a ≤ S18432x1920.size a) (X : CX Ideal) (i : Fin 32) (l : Fin 128) {ro : Nat} {t : Fin 15}
    (h : off = ![ro, 128 * t.val]) : getX off inb X (ix2 i l) = xn X ⟨128 * t.val + l.val, by omega⟩ (ro + i.val) := by
  subst h
  have h0 : ro + 32 ≤ 18432 := inb 0
  unfold getX xn
  rw [dif_pos (by omega)]
  congr 1
  funext a
  match a with
  | ⟨0, _⟩ => exact Fin.ext (show ro + 1 * i.val = ro + i.val by omega)
  | ⟨1, _⟩ => exact Fin.ext (show 128 * t.val + 1 * l.val = 128 * t.val + l.val by omega)

/-- A buffer of which every lane tile of one image is replaced. -/
def upd {α : Type} (b : Fin 2) (W : Fin 15 → (S1x16x128.Idx → α) → S16x128.Idx → α) (l : List (Fin 15)) (A : S2x16x1920.Idx → α) : S2x16x1920.Idx → α :=
  l.foldl (fun A t => put3 b t (W t (get3 b t A)) A) A

theorem put3_apply {α : Type} (b : Fin 2) (t : Fin 15) (w : S16x128.Idx → α) (A : S2x16x1920.Idx → α) (i : Fin 16) (l : Fin 128) :
    put3 b t w A (ix3 b i ⟨128 * t.val + l.val, by omega⟩) = w (ix2 i l) := by
  unfold put3
  rw [if_pos ⟨rfl, show (128 * t.val + l.val) / 128 = t.val by omega⟩]
  congr 1
  funext a
  match a with
  | ⟨0, _⟩ => rfl
  | ⟨1, _⟩ => exact Fin.ext (show (128 * t.val + l.val) % 128 = l.val by omega)

theorem put3_lane {α : Type} (b b' : Fin 2) (t t' : Fin 15) (w : S16x128.Idx → α) (A : S2x16x1920.Idx → α) (i : Fin 16) (l : Fin 128) (h : b' ≠ b ∨ t' ≠ t) :
    put3 b t w A (ix3 b' i ⟨128 * t'.val + l.val, by omega⟩) = A (ix3 b' i ⟨128 * t'.val + l.val, by omega⟩) := by
  unfold put3
  rw [if_neg]
  rintro ⟨h1, h2⟩
  have h2' : (128 * t'.val + l.val) / 128 = t.val := h2
  rcases h with h | h
  · exact h (Fin.ext h1)
  · exact h (Fin.ext (by omega))

theorem upd_other {α : Type} {b b' : Fin 2} (hb : b' ≠ b) (W : Fin 15 → (S1x16x128.Idx → α) → S16x128.Idx → α) (L : List (Fin 15)) (A : S2x16x1920.Idx → α) (t' : Fin 15) (i : Fin 16) (l : Fin 128) :
    upd b W L A (ix3 b' i ⟨128 * t'.val + l.val, by omega⟩) = A (ix3 b' i ⟨128 * t'.val + l.val, by omega⟩) := by
  unfold upd
  induction L generalizing A with
  | nil => rfl
  | cons t L ih => rw [List.foldl_cons, ih, put3_lane _ _ _ _ _ _ _ _ (.inl hb)]

theorem upd_tile {α : Type} {b : Fin 2} (W : Fin 15 → (S1x16x128.Idx → α) → S16x128.Idx → α) (L : List (Fin 15)) (hL : L.Nodup) (A : S2x16x1920.Idx → α) (t' : Fin 15) (i : Fin 16) (l : Fin 128) :
    (t' ∉ L → ∀ (i : Fin 16) (l : Fin 128), upd b W L A (ix3 b i ⟨128 * t'.val + l.val, by omega⟩) = A (ix3 b i ⟨128 * t'.val + l.val, by omega⟩)) ∧
    (t' ∈ L → upd b W L A (ix3 b i ⟨128 * t'.val + l.val, by omega⟩) = W t' (get3 b t' A) (ix2 i l)) := by
  unfold upd
  induction L generalizing A with
  | nil => exact ⟨fun _ _ _ => rfl, fun h => absurd h (by simp)⟩
  | cons t L ih =>
    obtain ⟨h1, h2⟩ := List.nodup_cons.mp hL
    obtain ⟨i1, i2⟩ := ih h2 (put3 b t (W t (get3 b t A)) A)
    constructor
    · intro hn i l
      have : t' ≠ t ∧ t' ∉ L := by simpa using hn
      rw [List.foldl_cons, i1 this.2, put3_lane _ _ _ _ _ _ _ _ (.inr this.1)]
    · intro hm
      rw [List.foldl_cons]
      by_cases e : t' = t
      · subst e
        rw [i1 h1, put3_apply]
      · rw [i2 (by simpa [e] using hm)]
        congr 1
        funext k
        have hk : ∃ (u : Fin 16) (w : Fin 128), k = ix3 0 u w := ⟨k 1, k 2, (eq_ix3 k).trans (congrArg (fun z : Fin 1 => ix3 z (k 1) (k 2)) (Subsingleton.elim (α := Fin 1) _ _))⟩
        obtain ⟨u, w, rfl⟩ := hk
        rw [get3_apply, get3_apply, put3_lane _ _ _ _ _ _ _ _ (.inr e)]

theorem fin15_mem (t : Fin 15) : t ∈ fin15 := by revert t; decide
theorem fin15_nodup : fin15.Nodup := by decide

theorem upd_all {α : Type} {b : Fin 2} (W : Fin 15 → (S1x16x128.Idx → α) → S16x128.Idx → α) (A : S2x16x1920.Idx → α) (t : Fin 15) (i : Fin 16) (l : Fin 128) :
    upd b W fin15 A (ix3 b i ⟨128 * t.val + l.val, by omega⟩) = W t (get3 b t A) (ix2 i l) := (upd_tile W fin15 fin15_nodup A t i l).2 (fin15_mem t)

end Cert.KernelIdeal.Hand
end
end
-- ==== Proof.Stats.lean ====
/-
  What the kernel's running sums and maxima come to, over the extended reals.
-/
module
public import proofs.«01_k».proof.Proof.Cells
@[expose] public section
set_option maxRecDepth 8192
noncomputable section
namespace Cert.KernelIdeal.Hand
open Cert.KernelIdeal Cert.Num
open Idealize.ShloMosaic
variable [Facts]
open Facts₀ Facts

theorem acc1_s1 (sg : FVec Ideal S1x128 .bf16) (a : Acc Ideal) (x : Vec Ideal S32x128 .fp8e4m3) (i : Fin 16) (l : Fin 128) :
    ((acc1 sg a x).s1 (ix2 i l) : EReal) = a.s1 (ix2 i l) + (x (ix2 ⟨i.val, by omega⟩ l) + x (ix2 ⟨16 + i.val, by omega⟩ l)) := by
  pointwise [acc1, accAdd, lo16, hi16]
  rw [add_assoc]
theorem acc1_s2 (sg : FVec Ideal S1x128 .bf16) (a : Acc Ideal) (x : Vec Ideal S32x128 .fp8e4m3) (i : Fin 16) (l : Fin 128) :
    ((acc1 sg a x).s2 (ix2 i l) : EReal) = a.s2 (ix2 i l) + (x (ix2 ⟨i.val, by omega⟩ l) * x (ix2 ⟨i.val, by omega⟩ l) + x (ix2 ⟨16 + i.val, by omega⟩ l) * x (ix2 ⟨16 + i.val, by omega⟩ l)) := by
  pointwise [acc1, accAdd, lo16, hi16]
  rw [add_assoc]
theorem acc1_tp (sg : FVec Ideal S1x128 .bf16) (a : Acc Ideal) (x : Vec Ideal S32x128 .fp8e4m3) (i : Fin 16) (l : Fin 128) (z : EReal) :
    ((acc1 sg a x).tp (ix2 i l) : EReal) ≤ z ↔ (a.tp (ix2 i l) : EReal) ≤ z ∧ ((x (ix2 ⟨i.val, by omega⟩ l) : EReal) * sg (ix2 0 l) ≤ z ∧ (x (ix2 ⟨16 + i.val, by omega⟩ l) : EReal) * sg (ix2 0 l) ≤ z) := by
  pointwise [acc1, accAdd, lo16, hi16]
  rw [max_le_iff, max_le_iff, and_assoc]
theorem acc0_s1 (sg : FVec Ideal S1x128 .bf16) (x : Vec Ideal S32x128 .fp8e4m3) (i : Fin 16) (l : Fin 128) :
    ((acc0 sg x).s1 (ix2 i l) : EReal) = x (ix2 ⟨i.val, by omega⟩ l) + x (ix2 ⟨16 + i.val, by omega⟩ l) := by
  pointwise [acc0, accInit, accAdd, lo16, hi16]
theorem acc0_s2 (sg : FVec Ideal S1x128 .bf16) (x : Vec Ideal S32x128 .fp8e4m3) (i : Fin 16) (l : Fin 128) :
    ((acc0 sg x).s2 (ix2 i l) : EReal) = x (ix2 ⟨i.val, by omega⟩ l) * x (ix2 ⟨i.val, by omega⟩ l) + x (ix2 ⟨16 + i.val, by omega⟩ l) * x (ix2 ⟨16 + i.val, by omega⟩ l) := by
  pointwise [acc0, accInit, accAdd, lo16, hi16]
theorem acc0_tp (sg : FVec Ideal S1x128 .bf16) (x : Vec Ideal S32x128 .fp8e4m3) (i : Fin 16) (l : Fin 128) (z : EReal) :
    ((acc0 sg x).tp (ix2 i l) : EReal) ≤ z ↔ ((x (ix2 ⟨i.val, by omega⟩ l) : EReal) * sg (ix2 0 l) ≤ z ∧ (x (ix2 ⟨16 + i.val, by omega⟩ l) : EReal) * sg (ix2 0 l) ≤ z) := by
  pointwise [acc0, accInit, accAdd, lo16, hi16]
  rw [max_le_iff]

section Tile
variable {sg : FVec Ideal S1x128 .bf16} {off : Fin 8 → Fin 2 → Nat} {inb : ∀ r a, off r a + S32x128.size a ≤ S18432x1920.size a} {X : CX Ideal} {ro : Nat} {t : Fin 15}
  (h : ∀ r : Fin 8, off r = ![ro + 32 * r.val, 128 * t.val]) (i : Fin 16) (l : Fin 128)
include h

theorem tile_s1 : ((tileAcc sg off inb X).s1 (ix2 i l) : EReal) = ∑ r : Fin 8, (xn X ⟨128 * t.val + l.val, by omega⟩ (ro + 32 * r.val + i.val) + xn X ⟨128 * t.val + l.val, by omega⟩ (ro + 32 * r.val + (16 + i.val))) := by
  simp only [tileAcc, accF, fin7, List.foldl_cons, List.foldl_nil, acc1_s1, acc0_s1, getX_apply _ _ _ _ (h _), Fin.sum_univ_eight]
theorem tile_s2 : ((tileAcc sg off inb X).s2 (ix2 i l) : EReal) = ∑ r : Fin 8, (xn X ⟨128 * t.val + l.val, by omega⟩ (ro + 32 * r.val + i.val) * xn X ⟨128 * t.val + l.val, by omega⟩ (ro + 32 * r.val + i.val)
    + xn X ⟨128 * t.val + l.val, by omega⟩ (ro + 32 * r.val + (16 + i.val)) * xn X ⟨128 * t.val + l.val, by omega⟩ (ro + 32 * r.val + (16 + i.val))) := by
  simp only [tileAcc, accF, fin7, List.foldl_cons, List.foldl_nil, acc1_s2, acc0_s2, getX_apply _ _ _ _ (h _), Fin.sum_univ_eight]
theorem tile_tp (z : EReal) : ((tileAcc sg off inb X).tp (ix2 i l) : EReal) ≤ z ↔ ∀ r : Fin 8, (xn X ⟨128 * t.val + l.val, by omega⟩ (ro + 32 * r.val + i.val) * sg (ix2 0 l) ≤ z
    ∧ xn X ⟨128 * t.val + l.val, by omega⟩ (ro + 32 * r.val + (16 + i.val)) * sg (ix2 0 l) ≤ z) := by
  simp only [tileAcc, accF, fin7, List.foldl_cons, List.foldl_nil, acc1_tp, acc0_tp, getX_apply _ _ _ _ (h _)]
  constructor
  · rintro ⟨⟨⟨⟨⟨⟨⟨h0, h1⟩, h2⟩, h3⟩, h4⟩, h5⟩, h6⟩, h7⟩ r
    fin_cases r <;> assumption
  · intro hr
    exact ⟨⟨⟨⟨⟨⟨⟨hr 0, hr 1⟩, hr 2⟩, hr 3⟩, hr 4⟩, hr 5⟩, hr 6⟩, hr 7⟩
end Tile

section Step
variable {gm : FVec Ideal S1x1920 .f32} {b : Fin 2} {off : Fin 15 → Fin 8 → Fin 2 → Nat} {inb : ∀ t r a, off t r a + S32x128.size a ≤ S18432x1920.size a} {X : CX Ideal}

theorem statTiles_upd (L : List (Fin 15)) (s : St Ideal) :
    (L.foldl (statStep gm b off inb X) s).a1 = upd b (fun t v => addf (up v) (tileAcc (signv gm t) (off t) (inb t) X).s1) L s.a1
    ∧ (L.foldl (statStep gm b off inb X) s).a2 = upd b (fun t v => addf (up v) (tileAcc (signv gm t) (off t) (inb t) X).s2) L s.a2
    ∧ (L.foldl (statStep gm b off inb X) s).tp = upd b (fun t v => maximumf (upB v) (tileAcc (signv gm t) (off t) (inb t) X).tp) L s.tp := by
  induction L generalizing s with
  | nil => exact ⟨rfl, rfl, rfl⟩
  | cons t L ih => exact ih (statStep gm b off inb X s t)

variable {ro : Nat} (h : ∀ t r, off t r = ![ro + 32 * r.val, 128 * t.val]) (s : St Ideal) (i : Fin 16) (c : Fin 1920)

theorem col_split (c : Fin 1920) : ∃ (t : Fin 15) (l : Fin 128), c = ⟨128 * t.val + l.val, by omega⟩ :=
  ⟨⟨c.val / 128, by omega⟩, ⟨c.val % 128, by omega⟩, Fin.ext (show c.val = 128 * (c.val / 128) + c.val % 128 by omega)⟩

/-- The sign of a channel's scale. -/
def sgn (gm : FVec Ideal S1x1920 .f32) (c : Fin 1920) : EReal := if (gm (ix2 0 c) : EReal) < 0 then -1 else 1

theorem signv_eq (t : Fin 15) (l : Fin 128) : (signv gm t (ix2 0 l) : EReal) = sgn gm ⟨128 * t.val + l.val, by omega⟩ := by
  pointwise [signv]
  rw [bits_m1]
  rfl

include h in
theorem stat_a1 : ((statTiles gm b off inb X s).a1 (ix3 b i c) : EReal) = s.a1 (ix3 b i c) + ∑ r : Fin 8, (xn X c (ro + 32 * r.val + i.val) + xn X c (ro + 32 * r.val + (16 + i.val))) := by
  obtain ⟨t, l, rfl⟩ := col_split c
  unfold statTiles
  rw [(statTiles_upd fin15 s).1, upd_all, ← tile_s1 (sg := signv gm t) (inb := inb t) (h t), ← get3_apply b t s.a1]
  generalize get3 b t s.a1 = v
  generalize (tileAcc (signv gm t) (off t) (inb t) X).s1 = w
  pointwise []

include h in
theorem stat_a2 : ((statTiles gm b off inb X s).a2 (ix3 b i c) : EReal) = s.a2 (ix3 b i c) + ∑ r : Fin 8, (xn X c (ro + 32 * r.val + i.val) * xn X c (ro + 32 * r.val + i.val)
    + xn X c (ro + 32 * r.val + (16 + i.val)) * xn X c (ro + 32 * r.val + (16 + i.val))) := by
  obtain ⟨t, l, rfl⟩ := col_split c
  unfold statTiles
  rw [(statTiles_upd fin15 s).2.1, upd_all, ← tile_s2 (sg := signv gm t) (inb := inb t) (h t), ← get3_apply b t s.a2]
  generalize get3 b t s.a2 = v
  generalize (tileAcc (signv gm t) (off t) (inb t) X).s2 = w
  pointwise []

include h in
theorem stat_tp (z : EReal) : ((statTiles gm b off inb X s).tp (ix3 b i c) : EReal) ≤ z ↔ (s.tp (ix3 b i c) : EReal) ≤ z ∧ ∀ r : Fin 8, (xn X c (ro + 32 * r.val + i.val) * sgn gm c ≤ z
    ∧ xn X c (ro + 32 * r.val + (16 + i.val)) * sgn gm c ≤ z) := by
  obtain ⟨t, l, rfl⟩ := col_split c
  unfold statTiles
  rw [(statTiles_upd fin15 s).2.2, upd_all, ← signv_eq, ← tile_tp (sg := signv gm t) (inb := inb t) (h t), ← get3_apply b t s.tp]
  generalize get3 b t s.tp = v
  generalize (tileAcc (signv gm t) (off t) (inb t) X).tp = w
  pointwise []
  exact max_le_iff

theorem stat_other {b' : Fin 2} (hb : b' ≠ b) : (statTiles gm b off inb X s).a1 (ix3 b' i c) = s.a1 (ix3 b' i c)
    ∧ (statTiles gm b off inb X s).a2 (ix3 b' i c) = s.a2 (ix3 b' i c) ∧ (statTiles gm b off inb X s).tp (ix3 b' i c) = s.tp (ix3 b' i c) := by
  obtain ⟨t, l, rfl⟩ := col_split c
  unfold statTiles
  rw [(statTiles_upd fin15 s).1, (statTiles_upd fin15 s).2.1, (statTiles_upd fin15 s).2.2, upd_other hb, upd_other hb, upd_other hb]
  exact ⟨rfl, rfl, rfl⟩
end Step

end Cert.KernelIdeal.Hand
end
end
-- ==== Proof.Totals.lean ====
/-
  The kernel's sums and maxima after all the loops, over the extended reals.
-/
module
public import proofs.«01_k».proof.Proof.Stats
@[expose] public section
set_option maxRecDepth 8192
noncomputable section
namespace Cert.KernelIdeal.Hand
open Cert.KernelIdeal Cert.Num
open Idealize.ShloMosaic
variable [Facts]
open Facts₀ Facts

theorem bits_0 : Ideal.ofBits .f32 0x00000000#32 = 0 := by simp [Ideal.ofBits, Ideal.ieee]

/-- The codes by image, row and channel. -/
def xr (X : CX Ideal) (b : Fin 2) (r : Fin 9216) (c : Fin 1920) : EReal := X (ix2 ⟨9216 * b.val + r.val, by omega⟩ c)

theorem xn_xr (X : CX Ideal) (b : Fin 2) (r : Fin 9216) (c : Fin 1920) : xn X c (9216 * b.val + r.val) = xr X b r c := by
  unfold xn xr; rw [dif_pos (by omega)]

theorem sum_rows (f : EReal → EReal) (X : CX Ideal) (b : Fin 2) (c : Fin 1920) :
    ∑ i : Fin 16, ∑ q ∈ Finset.range 288, (f (xn X c (9216 * b.val + (32 * q + i.val))) + f (xn X c (9216 * b.val + (32 * q + 16 + i.val)))) = ∑ r : Fin 9216, f (xr X b r c) := by
  rw [sum_32 (fun p => f (xn X c (9216 * b.val + p))), Finset.sum_range]
  simp only [xn_xr]

section Stat
variable (gm : FVec Ideal S1x1920 .f32) (X : CX Ideal)

/-- A running sum of a function of the codes. -/
theorem stats_sum (pr : St Ideal → C3 Ideal) (f : EReal → EReal)
    (hs : ∀ (b : Fin 2) (off : Fin 15 → Fin 8 → Fin 2 → Nat) (inb : ∀ t r a, off t r a + S32x128.size a ≤ S18432x1920.size a) (ro : Nat)
      (h : ∀ t r, off t r = ![ro + 32 * r.val, 128 * t.val]) (s : St Ideal) (i : Fin 16) (c : Fin 1920),
      (pr (statTiles gm b off inb X s) (ix3 b i c) : EReal) = pr s (ix3 b i c) + ∑ r : Fin 8, (f (xn X c (ro + 32 * r.val + i.val)) + f (xn X c (ro + 32 * r.val + (16 + i.val)))))
    (ho : ∀ (b b' : Fin 2) (off : Fin 15 → Fin 8 → Fin 2 → Nat) (inb : ∀ t r a, off t r a + S32x128.size a ≤ S18432x1920.size a) (s : St Ideal) (i : Fin 16) (c : Fin 1920), b' ≠ b →
      pr (statTiles gm b off inb X s) (ix3 b' i c) = pr s (ix3 b' i c))
    (h0 : ∀ (b : Fin 2) (i : Fin 16) (c : Fin 1920), (pr St.init (ix3 b i c) : EReal) = 0) (b : Fin 2) (c : Fin 1920) :
    ∑ i : Fin 16, (pr (stats1 gm X 36) (ix3 b i c) : EReal) = ∑ r : Fin 9216, f (xr X b r c) := by
  rw [← sum_rows]
  refine Finset.sum_congr rfl fun i _ => ?_
  have key : ∀ b : Fin 2, ∑ j ∈ Finset.range 36, ∑ r : Fin 8, (f (xn X c (256 * (36 * b.val + j) + 32 * r.val + i.val)) + f (xn X c (256 * (36 * b.val + j) + 32 * r.val + (16 + i.val))))
      = ∑ q ∈ Finset.range 288, (f (xn X c (9216 * b.val + (32 * q + i.val))) + f (xn X c (9216 * b.val + (32 * q + 16 + i.val)))) := by
    intro b
    rw [show Finset.range 288 = Finset.range (8 * 36) from rfl, ← sum_8 (fun q => f (xn X c (9216 * b.val + (32 * q + i.val))) + f (xn X c (9216 * b.val + (32 * q + 16 + i.val))))]
    refine Finset.sum_congr rfl fun j _ => Finset.sum_congr rfl fun r _ => ?_
    congr 3 <;> omega
  rw [← key b]
  have e0 : ∀ b : Fin 2, (pr (stats0 gm X 36) (ix3 b i c) : EReal) = if b = 0 then ∑ j ∈ Finset.range 36, ∑ r : Fin 8, (f (xn X c (256 * (36 * 0 + j) + 32 * r.val + i.val)) + f (xn X c (256 * (36 * 0 + j) + 32 * r.val + (16 + i.val)))) else 0 := by
    intro b
    unfold stats0
    split
    · rename_i hb; subst hb
      rw [loop_sum _ (fun s => (pr s (ix3 0 i c) : EReal)) (fun j => ∑ r : Fin 8, (f (xn X c (256 * (36 * 0 + j) + 32 * r.val + i.val)) + f (xn X c (256 * (36 * 0 + j) + 32 * r.val + (16 + i.val))))) (fun k s => by
        have := hs 0 (off2 k) (off2_inb k) (256 * (36 * 0 + k.val)) (fun t r => by rw [off2_eq, Nat.mul_zero, Nat.zero_add]) s i c
        exact this) _ 36 trips2.ge, h0, zero_add]
    · rename_i hb
      rw [loop_same _ (fun s => (pr s (ix3 b i c) : EReal)) (fun k s => ho 0 b (off2 k) (off2_inb k) s i c hb) _ 36 trips2.ge, h0]
  unfold stats1
  by_cases hb : b = 1
  · subst hb
    rw [loop_sum _ (fun s => (pr s (ix3 1 i c) : EReal)) (fun j => ∑ r : Fin 8, (f (xn X c (256 * (36 * 1 + j) + 32 * r.val + i.val)) + f (xn X c (256 * (36 * 1 + j) + 32 * r.val + (16 + i.val))))) (fun k s => by
        have := hs 1 (off3 k) (off3_inb k) (256 * (36 * 1 + k.val)) (fun t r => by rw [off3_eq, Nat.mul_one]) s i c
        exact this) _ 36 trips3.ge, e0, if_neg (by decide), zero_add]
    rfl
  · have hb0 : b = 0 := by omega
    subst hb0
    rw [loop_same _ (fun s => (pr s (ix3 0 i c) : EReal)) (fun k s => ho 1 0 (off3 k) (off3_inb k) s i c (by decide)) _ 36 trips3.ge, e0, if_pos rfl]
    rfl

theorem a1_sum (b : Fin 2) (c : Fin 1920) : ∑ i : Fin 16, ((stats1 gm X 36).a1 (ix3 b i c) : EReal) = ∑ r : Fin 9216, xr X b r c :=
  stats_sum gm X (fun s => s.a1) (fun x => x) (fun b off inb ro h s i c => stat_a1 h s i c) (fun b b' off inb s i c hb => (stat_other s i c hb).1) (fun b i c => bits_0) b c
theorem a2_sum (b : Fin 2) (c : Fin 1920) : ∑ i : Fin 16, ((stats1 gm X 36).a2 (ix3 b i c) : EReal) = ∑ r : Fin 9216, xr X b r c * xr X b r c :=
  stats_sum gm X (fun s => s.a2) (fun x => x * x) (fun b off inb ro h s i c => stat_a2 h s i c) (fun b b' off inb s i c hb => (stat_other s i c hb).2.1) (fun b i c => bits_0) b c

theorem all_rows (p : EReal → Prop) (b : Fin 2) (c : Fin 1920) :
    (∀ i : Fin 16, ∀ q < 288, p (xn X c (9216 * b.val + (32 * q + i.val))) ∧ p (xn X c (9216 * b.val + (32 * q + 16 + i.val)))) ↔ ∀ r : Fin 9216, p (xr X b r c) := by
  constructor
  · intro h r
    rw [← xn_xr]
    have := h ⟨r.val % 16, by omega⟩ (r.val / 32) (by omega)
    simp only at this
    by_cases e : r.val % 32 < 16
    · rw [show 9216 * b.val + r.val = 9216 * b.val + (32 * (r.val / 32) + r.val % 16) by omega]; exact this.1
    · rw [show 9216 * b.val + r.val = 9216 * b.val + (32 * (r.val / 32) + 16 + r.val % 16) by omega]; exact this.2
  · intro h i q hq
    have h1 := h ⟨32 * q + i.val, by omega⟩
    have h2 := h ⟨32 * q + 16 + i.val, by omega⟩
    rw [← xn_xr] at h1 h2
    exact ⟨h1, h2⟩

theorem tp_le (b : Fin 2) (c : Fin 1920) (z : EReal) : (∀ i : Fin 16, ((stats1 gm X 36).tp (ix3 b i c) : EReal) ≤ z) ↔ ∀ r : Fin 9216, xr X b r c * sgn gm c ≤ z := by
  rw [← all_rows X (fun x => x * sgn gm c ≤ z) b c]
  refine forall_congr' fun i => ?_
  have key : ∀ b : Fin 2, (∀ j < 36, ∀ r : Fin 8, xn X c (256 * (36 * b.val + j) + 32 * r.val + i.val) * sgn gm c ≤ z ∧ xn X c (256 * (36 * b.val + j) + 32 * r.val + (16 + i.val)) * sgn gm c ≤ z)
      ↔ ∀ q < 288, xn X c (9216 * b.val + (32 * q + i.val)) * sgn gm c ≤ z ∧ xn X c (9216 * b.val + (32 * q + 16 + i.val)) * sgn gm c ≤ z := by
    intro b
    constructor
    · intro h q hq
      have := h (q / 8) (by omega) ⟨q % 8, by omega⟩
      simp only at this
      rw [show 256 * (36 * b.val + q / 8) + 32 * (q % 8) + i.val = 9216 * b.val + (32 * q + i.val) by omega,
        show 256 * (36 * b.val + q / 8) + 32 * (q % 8) + (16 + i.val) = 9216 * b.val + (32 * q + 16 + i.val) by omega] at this
      exact this
    · intro h j hj r
      have := h (8 * j + r.val) (by omega)
      rw [show 9216 * b.val + (32 * (8 * j + r.val) + i.val) = 256 * (36 * b.val + j) + 32 * r.val + i.val by omega,
        show 9216 * b.val + (32 * (8 * j + r.val) + 16 + i.val) = 256 * (36 * b.val + j) + 32 * r.val + (16 + i.val) by omega] at this
      exact this
  rw [← key b]
  have hbot : ∀ b : Fin 2, ((St.init (F := Ideal)).tp (ix3 b i c) : EReal) ≤ z := fun b => by
    show Ideal.ofBits .bf16 0xFF80#16 ≤ z
    rw [bits_botB]; exact bot_le
  unfold stats1
  by_cases hb : b = 1
  · subst hb
    rw [loop_le _ (fun s => (s.tp (ix3 1 i c) : EReal)) z (fun j => ∀ r : Fin 8, xn X c (256 * (36 * 1 + j) + 32 * r.val + i.val) * sgn gm c ≤ z ∧ xn X c (256 * (36 * 1 + j) + 32 * r.val + (16 + i.val)) * sgn gm c ≤ z) (fun k s =>
        stat_tp (off := off3 k) (inb := off3_inb k) (ro := 256 * (36 * 1 + k.val)) (fun t r => by rw [off3_eq, Nat.mul_one]) s i c z) _ 36 trips3.ge]
    unfold stats0
    rw [loop_same _ (fun s => (s.tp (ix3 1 i c) : EReal)) (fun k s => (stat_other s i c (by decide)).2.2) _ 36 trips2.ge]
    exact ⟨fun h => h.2, fun h => ⟨hbot 1, h⟩⟩
  · have hb0 : b = 0 := by omega
    subst hb0
    rw [loop_same _ (fun s => (s.tp (ix3 0 i c) : EReal)) (fun k s => (stat_other s i c (by decide)).2.2) _ 36 trips3.ge]
    unfold stats0
    rw [loop_le _ (fun s => (s.tp (ix3 0 i c) : EReal)) z (fun j => ∀ r : Fin 8, xn X c (256 * (36 * 0 + j) + 32 * r.val + i.val) * sgn gm c ≤ z ∧ xn X c (256 * (36 * 0 + j) + 32 * r.val + (16 + i.val)) * sgn gm c ≤ z) (fun k s =>
        stat_tp (off := off2 k) (inb := off2_inb k) (ro := 256 * (36 * 0 + k.val)) (fun t r => by rw [off2_eq, Nat.mul_zero, Nat.zero_add]) s i c z) _ 36 trips2.ge]
    exact ⟨fun h => h.2, fun h => ⟨hbot 0, h⟩⟩
end Stat

/-! ## The deviations and the exact maximum -/

section Dev
variable {b : Fin 2} {off : Fin 15 → Fin 2 → Nat} {inb : ∀ t a, off t a + S32x128.size a ≤ S18432x1920.size a} {X : CX Ideal} {m g : FVec Ideal S2x1920 .f32} {bt : FVec Ideal S1x1920 .f32}
  {ro : Nat} (h : ∀ t, off t = ![ro, 128 * t.val]) (A : C3 Ideal) (i : Fin 16) (c : Fin 1920)

include h in
theorem dev_cell : (devTiles b off inb X m A (ix3 b i c) : EReal) = A (ix3 b i c) + ((xn X c (ro + i.val) - m (ix2 b c)) * (xn X c (ro + i.val) - m (ix2 b c))
    + (xn X c (ro + (16 + i.val)) - m (ix2 b c)) * (xn X c (ro + (16 + i.val)) - m (ix2 b c))) := by
  obtain ⟨t, l, rfl⟩ := col_split c
  have e : devTiles b off inb X m A = upd b (fun t v => devSum (getL b t m) (getX (off t) (inb t) X) v) fin15 A := rfl
  rw [e, upd_all, ← get3_apply b t A, ← getL_apply b t m]
  have h1 := getX_apply (inb t) X ⟨i.val, by omega⟩ l (h t)
  have h2 := getX_apply (inb t) X ⟨16 + i.val, by omega⟩ l (h t)
  simp only at h1 h2
  rw [← h1, ← h2]
  generalize get3 b t A = v
  generalize getL b t m = mm
  generalize getX (off t) (inb t) X = x
  pointwise [devSum]

theorem dev_other {b' : Fin 2} (hb : b' ≠ b) : devTiles b off inb X m A (ix3 b' i c) = A (ix3 b' i c) := by
  obtain ⟨t, l, rfl⟩ := col_split c
  have e : devTiles b off inb X m A = upd b (fun t v => devSum (getL b t m) (getX (off t) (inb t) X) v) fin15 A := rfl
  rw [e, upd_other hb]

/-- The magnitude of the activation of one normalised code. -/
def absE (v : EReal) : EReal := max (silu v) (-silu v)

include h in
theorem max_cell (z : EReal) : (maxTiles bt b off inb X m g A (ix3 b i c) : EReal) ≤ z ↔ (A (ix3 b i c) : EReal) ≤ z ∧
    absE ((xn X c (ro + i.val) - m (ix2 b c)) * g (ix2 b c) + bt (ix2 0 c)) ≤ z ∧ absE ((xn X c (ro + (16 + i.val)) - m (ix2 b c)) * g (ix2 b c) + bt (ix2 0 c)) ≤ z := by
  obtain ⟨t, l, rfl⟩ := col_split c
  have e : maxTiles bt b off inb X m g A = upd b (fun t v => absMax (getL b t m) (getL b t g) bt t (getX (off t) (inb t) X) v) fin15 A := rfl
  rw [e, upd_all, ← get3_apply b t A, ← getL_apply b t m, ← getL_apply b t g]
  have h1 := getX_apply (inb t) X ⟨i.val, by omega⟩ l (h t)
  have h2 := getX_apply (inb t) X ⟨16 + i.val, by omega⟩ l (h t)
  simp only at h1 h2
  rw [← h1, ← h2]
  generalize get3 b t A = v
  generalize getL b t m = mm
  generalize getL b t g = gg
  generalize getX (off t) (inb t) X = x
  pointwise [absMax, normv]
  rw [max_le_iff, max_le_iff]
  rfl

theorem max_other {b' : Fin 2} (hb : b' ≠ b) : maxTiles bt b off inb X m g A (ix3 b' i c) = A (ix3 b' i c) := by
  obtain ⟨t, l, rfl⟩ := col_split c
  have e : maxTiles bt b off inb X m g A = upd b (fun t v => absMax (getL b t m) (getL b t g) bt t (getX (off t) (inb t) X) v) fin15 A := rfl
  rw [e, upd_other hb]
end Dev

theorem dev_sum (X : CX Ideal) (m : FVec Ideal S2x1920 .f32) (b : Fin 2) (c : Fin 1920) :
    ∑ i : Fin 16, (devs1 X m 288 (ix3 b i c) : EReal) = ∑ r : Fin 9216, (xr X b r c - m (ix2 b c)) * (xr X b r c - m (ix2 b c)) := by
  rw [← sum_rows (fun x => (x - m (ix2 b c)) * (x - m (ix2 b c)))]
  refine Finset.sum_congr rfl fun i _ => ?_
  unfold devs1
  by_cases hb : b = 1
  · subst hb
    rw [loop_sum _ (fun A : C3 Ideal => (A (ix3 1 i c) : EReal)) (fun q => (xn X c (9216 * 1 + (32 * q + i.val)) - m (ix2 1 c)) * (xn X c (9216 * 1 + (32 * q + i.val)) - m (ix2 1 c))
      + (xn X c (9216 * 1 + (32 * q + 16 + i.val)) - m (ix2 1 c)) * (xn X c (9216 * 1 + (32 * q + 16 + i.val)) - m (ix2 1 c))) (fun k s => by
        rw [show 9216 * 1 + (32 * k.val + i.val) = 32 * (288 + k.val) + i.val by omega, show 9216 * 1 + (32 * k.val + 16 + i.val) = 32 * (288 + k.val) + (16 + i.val) by omega]
        exact dev_cell (off := off5 k) (inb := off5_inb k) (off5_eq k) s i c) _ 288 trips5.ge]
    unfold devs0
    rw [loop_same _ (fun A : C3 Ideal => (A (ix3 1 i c) : EReal)) (fun k s => dev_other s i c (by decide)) _ 288 trips4.ge]
    rw [show ((zeroA (F := Ideal)) (ix3 1 i c) : EReal) = 0 from bits_0, zero_add]
    rfl
  · have hb0 : b = 0 := by omega
    subst hb0
    rw [loop_same _ (fun A : C3 Ideal => (A (ix3 0 i c) : EReal)) (fun k s => dev_other s i c (by decide)) _ 288 trips5.ge]
    unfold devs0
    rw [loop_sum _ (fun A : C3 Ideal => (A (ix3 0 i c) : EReal)) (fun q => (xn X c (9216 * 0 + (32 * q + i.val)) - m (ix2 0 c)) * (xn X c (9216 * 0 + (32 * q + i.val)) - m (ix2 0 c))
      + (xn X c (9216 * 0 + (32 * q + 16 + i.val)) - m (ix2 0 c)) * (xn X c (9216 * 0 + (32 * q + 16 + i.val)) - m (ix2 0 c))) (fun k s => by
        rw [show 9216 * 0 + (32 * k.val + i.val) = 32 * k.val + i.val by omega, show 9216 * 0 + (32 * k.val + 16 + i.val) = 32 * k.val + (16 + i.val) by omega]
        exact dev_cell (off := off4 k) (inb := off4_inb k) (off4_eq k) s i c) _ 288 trips4.ge]
    rw [show ((zeroA (F := Ideal)) (ix3 0 i c) : EReal) = 0 from bits_0, zero_add]
    rfl

theorem max_le_all (bt : FVec Ideal S1x1920 .f32) (X : CX Ideal) (m g : FVec Ideal S2x1920 .f32) (b : Fin 2) (c : Fin 1920) (z : EReal) :
    (∀ i : Fin 16, (maxs1 bt X m g 288 (ix3 b i c) : EReal) ≤ z) ↔ 0 ≤ z ∧ ∀ r : Fin 9216, absE ((xr X b r c - m (ix2 b c)) * g (ix2 b c) + bt (ix2 0 c)) ≤ z := by
  rw [← all_rows X (fun x => absE ((x - m (ix2 b c)) * g (ix2 b c) + bt (ix2 0 c)) ≤ z) b c]
  have hh : ∀ (P : Fin 16 → Prop), (0 ≤ z ∧ ∀ i, P i) ↔ ∀ i, 0 ≤ z ∧ P i := fun P => ⟨fun h i => ⟨h.1, h.2 i⟩, fun h => ⟨(h 0).1, fun i => (h i).2⟩⟩
  rw [hh]
  refine forall_congr' fun i => ?_
  unfold maxs1
  by_cases hb : b = 1
  · subst hb
    rw [loop_le _ (fun A : C3 Ideal => (A (ix3 1 i c) : EReal)) z (fun q => absE ((xn X c (9216 * 1 + (32 * q + i.val)) - m (ix2 1 c)) * g (ix2 1 c) + bt (ix2 0 c)) ≤ z
      ∧ absE ((xn X c (9216 * 1 + (32 * q + 16 + i.val)) - m (ix2 1 c)) * g (ix2 1 c) + bt (ix2 0 c)) ≤ z) (fun k s => by
        rw [show 9216 * 1 + (32 * k.val + i.val) = 32 * (288 + k.val) + i.val by omega, show 9216 * 1 + (32 * k.val + 16 + i.val) = 32 * (288 + k.val) + (16 + i.val) by omega]
        exact max_cell (off := off7 k) (inb := off7_inb k) (off7_eq k) s i c z) _ 288 trips7.ge]
    unfold maxs0
    rw [loop_same _ (fun A : C3 Ideal => (A (ix3 1 i c) : EReal)) (fun k s => max_other s i c (by decide)) _ 288 trips6.ge]
    rw [show ((zeroA (F := Ideal)) (ix3 1 i c) : EReal) = 0 from bits_0]
    rfl
  · have hb0 : b = 0 := by omega
    subst hb0
    rw [loop_same _ (fun A : C3 Ideal => (A (ix3 0 i c) : EReal)) (fun k s => max_other s i c (by decide)) _ 288 trips7.ge]
    unfold maxs0
    rw [loop_le _ (fun A : C3 Ideal => (A (ix3 0 i c) : EReal)) z (fun q => absE ((xn X c (9216 * 0 + (32 * q + i.val)) - m (ix2 0 c)) * g (ix2 0 c) + bt (ix2 0 c)) ≤ z
      ∧ absE ((xn X c (9216 * 0 + (32 * q + 16 + i.val)) - m (ix2 0 c)) * g (ix2 0 c) + bt (ix2 0 c)) ≤ z) (fun k s => by
        rw [show 9216 * 0 + (32 * k.val + i.val) = 32 * k.val + i.val by omega, show 9216 * 0 + (32 * k.val + 16 + i.val) = 32 * k.val + (16 + i.val) by omega]
        exact max_cell (off := off6 k) (inb := off6_inb k) (off6_eq k) s i c z) _ 288 trips6.ge]
    rw [show ((zeroA (F := Ideal)) (ix3 0 i c) : EReal) = 0 from bits_0]
    rfl

end Cert.KernelIdeal.Hand
end
end
-- ==== Proof.Codes.lean ====
/-
  The kernel's codes, element by element, over the extended reals.
-/
module
public import proofs.«01_k».proof.Proof.Stats
@[expose] public section
set_option maxRecDepth 8192
noncomputable section
namespace Cert.KernelIdeal.Hand
open Cert.KernelIdeal Cert.Num
open Idealize.ShloMosaic
variable [Facts]
open Facts₀ Facts

/-- The quantiser: scale and clip. -/
def clipE (inv v : EReal) : EReal := min (Ideal.ofBits .f32 0x43E00000#32) (max (Ideal.ofBits .f32 0xC3E00000#32) (silu v * inv))

theorem putX_cell {off : Fin 2 → Nat} (inb : ∀ a, off a + S32x128.size a ≤ S18432x1920.size a) {ro : Nat} {t : Fin 15} (h : off = ![ro, 128 * t.val])
    (W : Vec Ideal S32x128 .fp8e4m3 → FVec Ideal S32x128 .fp8e4m3) (X : CX Ideal) (R : Fin 18432) (c : Fin 1920) (φ : EReal → EReal)
    (hW : ∀ (x : Vec Ideal S32x128 .fp8e4m3) (i : Fin 32) (l : Fin 128), c.val = 128 * t.val + l.val → (W x (ix2 i l) : EReal) = φ (x (ix2 i l))) :
    ((ro ≤ R.val ∧ R.val < ro + 32) ∧ c.val / 128 = t.val → (putX off (W (getX off inb X)) X (ix2 R c) : EReal) = φ (X (ix2 R c)))
    ∧ (¬ ((ro ≤ R.val ∧ R.val < ro + 32) ∧ c.val / 128 = t.val) → putX off (W (getX off inb X)) X (ix2 R c) = X (ix2 R c)) := by
  constructor
  · rintro ⟨hr, hc⟩
    have e : (ix2 R c : S18432x1920.Idx) = (rx off inb).emb (ix2 ⟨R.val - ro, by omega⟩ ⟨c.val - 128 * t.val, by omega⟩) := by
      subst h
      funext a
      match a with
      | ⟨0, _⟩ => exact Fin.ext (show R.val = ro + 1 * (R.val - ro) by omega)
      | ⟨1, _⟩ => exact Fin.ext (show c.val = 128 * t.val + 1 * (c.val - 128 * t.val) by omega)
    rw [e, putX_emb, hW _ _ _ (show c.val = 128 * t.val + (c.val - 128 * t.val) by omega)]
    rfl
  · intro hn
    refine putX_off off inb _ X _ fun hm => hn ?_
    have := mem_rx.mp hm
    subst h
    have h2 : (ro ≤ R.val ∧ R.val < ro + 32) ∧ (128 * t.val ≤ c.val ∧ c.val < 128 * t.val + 128) := this
    omega

theorem fin8_mem (r : Fin 8) : r ∈ fin8 := by revert r; decide
theorem fin8_nodup : fin8.Nodup := by decide

section Fast
variable {inv : EReal} {b : Fin 2} {G H : FVec Ideal S2x1920 .f32} (R : Fin 18432) (c : Fin 1920)

/-- The quantised code in the folded form. -/
def qF (inv : EReal) (b : Fin 2) (G H : FVec Ideal S2x1920 .f32) (c : Fin 1920) (x : EReal) : EReal := clipE inv (x * G (ix2 b c) + H (ix2 b c))

theorem quantv_eq {t : Fin 15} (x : Vec Ideal S32x128 .fp8e4m3) (i : Fin 32) (l : Fin 128) (hc : c.val = 128 * t.val + l.val) :
    (quantv (getL b t G) (getL b t H) inv x (ix2 i l) : EReal) = qF inv b G H c (x (ix2 i l)) := by
  have hb : 128 * t.val + l.val < 1920 := (fun (t : Fin 15) (l : Fin 128) => by omega) t l
  obtain rfl : c = ⟨128 * t.val + l.val, hb⟩ := Fin.ext hc
  unfold qF clipE silu
  rw [← getL_apply b t G, ← getL_apply b t H]
  pointwise [quantv, clipv]

theorem lane_cell {off : Fin 15 → Fin 8 → Fin 2 → Nat} {inb : ∀ t r a, off t r a + S32x128.size a ≤ S18432x1920.size a} {ro : Nat} (h : ∀ t r, off t r = ![ro + 32 * r.val, 128 * t.val]) (X : CX Ideal) (t : Fin 15) :
    ((ro ≤ R.val ∧ R.val < ro + 256) ∧ c.val / 128 = t.val → (quantLane inv b off inb G H X t (ix2 R c) : EReal) = qF inv b G H c (X (ix2 R c)))
    ∧ (¬ ((ro ≤ R.val ∧ R.val < ro + 256) ∧ c.val / 128 = t.val) → quantLane inv b off inb G H X t (ix2 R c) = X (ix2 R c)) := by
  obtain ⟨h1, h2⟩ := fold_once (quantStep (getL b t G) (getL b t H) inv (off t) (inb t)) (fun X => (X (ix2 R c) : EReal)) (qF inv b G H c)
    (fun r => (ro + 32 * r.val ≤ R.val ∧ R.val < ro + 32 * r.val + 32) ∧ c.val / 128 = t.val)
    (fun X r => putX_cell (inb t r) (h t r) (quantv (getL b t G) (getL b t H) inv) X R c _ (fun x i l hc => quantv_eq c x i l hc))
    (fun r r' hr hr' => Fin.ext (by omega)) fin8 fin8_nodup X
  constructor
  · rintro ⟨hr, hc⟩
    exact h1 ⟨⟨(R.val - ro) / 32, by omega⟩, fin8_mem _, ⟨show ro + 32 * ((R.val - ro) / 32) ≤ R.val by omega, show R.val < ro + 32 * ((R.val - ro) / 32) + 32 by omega⟩, hc⟩
  · intro hn
    exact h2 fun r _ hr => hn (by omega)

theorem all_cell {off : Fin 15 → Fin 8 → Fin 2 → Nat} {inb : ∀ t r a, off t r a + S32x128.size a ≤ S18432x1920.size a} {ro : Nat} (h : ∀ t r, off t r = ![ro + 32 * r.val, 128 * t.val]) (X : CX Ideal) :
    ((ro ≤ R.val ∧ R.val < ro + 256) → (quantAll inv b off inb G H X (ix2 R c) : EReal) = qF inv b G H c (X (ix2 R c)))
    ∧ (¬ (ro ≤ R.val ∧ R.val < ro + 256) → quantAll inv b off inb G H X (ix2 R c) = X (ix2 R c)) := by
  obtain ⟨h1, h2⟩ := fold_once (quantLane inv b off inb G H) (fun X => (X (ix2 R c) : EReal)) (qF inv b G H c)
    (fun t => (ro ≤ R.val ∧ R.val < ro + 256) ∧ c.val / 128 = t.val) (fun X t => lane_cell R c h X t)
    (fun t t' ht ht' => Fin.ext (by omega)) fin15 fin15_nodup X
  constructor
  · intro hr
    exact h1 ⟨⟨c.val / 128, by omega⟩, fin15_mem _, hr, rfl⟩
  · intro hn
    exact h2 fun t _ ht => hn ht.1
end Fast

/-- The fast form's codes. -/
theorem fast_cell (inv : EReal) (G H : FVec Ideal S2x1920 .f32) (X : CX Ideal) (b : Fin 2) (r : Fin 9216) (c : Fin 1920) :
    (chunked (fast0 inv G H X) (fast1 inv G H X) (ix2 ⟨9216 * b.val + r.val, by omega⟩ c) : EReal) = qF inv b G H c (X (ix2 ⟨9216 * b.val + r.val, by omega⟩ c)) := by
  generalize hR : (⟨9216 * b.val + r.val, by omega⟩ : Fin 18432) = R
  have hv : R.val = 9216 * b.val + r.val := by rw [← hR]
  have l0 := loop_once (N := k0_t8_loop.trips) (fun j X => quantAll inv 0 (off8 j) (off8_inb j) G H X) (fun X => (X (ix2 R c) : EReal)) (qF inv 0 G H c) (R.val / 256) (fun k s => by
    obtain ⟨h1, h2⟩ := all_cell (inv := inv) (b := 0) (G := G) (H := H) R c (off := off8 k) (inb := off8_inb k) (ro := 256 * k.val) (off8_eq k) s
    exact ⟨fun e => h1 (by omega), fun e => h2 (by omega)⟩) X
  have l1 := fun (hb : b = 1) => loop_once (N := k0_t9_loop.trips) (fun j X => quantAll inv 1 (off9 j) (off9_inb j) G H X) (fun X => (X (ix2 R c) : EReal)) (qF inv 1 G H c) (R.val / 256 - 36) (fun k s => by
    subst hb
    have hv' : R.val = 9216 + r.val := by rw [hv]; rfl
    obtain ⟨h1, h2⟩ := all_cell (inv := inv) (b := 1) (G := G) (H := H) R c (off := off9 k) (inb := off9_inb k) (ro := 256 * (36 + k.val)) (off9_eq k) s
    exact ⟨fun e => h1 (by omega), fun e => h2 (by omega)⟩) (fast0 inv G H X 36)
  unfold chunked
  show ((if R.val / 256 < 36 then fast0 inv G H X (R.val / 256 + 1) (ix2 R c) else fast1 inv G H X (R.val / 256 - 36 + 1) (ix2 R c)) : EReal) = _
  by_cases hb : b = 1
  · have l2 := l1 hb
    subst hb
    have hv' : R.val = 9216 + r.val := by rw [hv]; rfl
    rw [if_neg (by omega)]
    have e0 : (fast0 inv G H X 36 (ix2 R c) : EReal) = X (ix2 R c) := by unfold fast0; exact (l0 36 trips8.ge).2 (by omega)
    rw [← e0]
    have := trips9
    unfold fast1
    exact (l2 (R.val / 256 - 36 + 1) (by omega)).1 (by omega)
  · have hb0 : b = 0 := by omega
    subst hb0
    have hv' : R.val = r.val := by rw [hv]; show 9216 * 0 + r.val = _; omega
    rw [if_pos (by omega)]
    have := trips8
    unfold fast0
    exact (l0 (R.val / 256 + 1) (by omega)).1 (by omega)

section Slow
variable {inv : EReal} {b : Fin 2} {m G : FVec Ideal S2x1920 .f32} {bt : FVec Ideal S1x1920 .f32} (R : Fin 18432) (c : Fin 1920)

/-- The quantised code in the unfolded form. -/
def qS (bt : FVec Ideal S1x1920 .f32) (inv : EReal) (b : Fin 2) (m G : FVec Ideal S2x1920 .f32) (c : Fin 1920) (x : EReal) : EReal := clipE inv ((x - m (ix2 b c)) * G (ix2 b c) + bt (ix2 0 c))

theorem illv_eq {t : Fin 15} (x : Vec Ideal S32x128 .fp8e4m3) (i : Fin 32) (l : Fin 128) (hc : c.val = 128 * t.val + l.val) :
    (clipv inv (normv (getL b t m) (getL b t G) bt t x) (ix2 i l) : EReal) = qS bt inv b m G c (x (ix2 i l)) := by
  have hb : 128 * t.val + l.val < 1920 := (fun (t : Fin 15) (l : Fin 128) => by omega) t l
  obtain rfl : c = ⟨128 * t.val + l.val, hb⟩ := Fin.ext hc
  unfold qS clipE silu
  rw [← getL_apply b t m, ← getL_apply b t G]
  pointwise [clipv, normv]

theorem ill_cell {off : Fin 15 → Fin 2 → Nat} {inb : ∀ t a, off t a + S32x128.size a ≤ S18432x1920.size a} {ro : Nat} (h : ∀ t, off t = ![ro, 128 * t.val]) (X : CX Ideal) :
    ((ro ≤ R.val ∧ R.val < ro + 32) → (illTiles bt inv b off inb m G X (ix2 R c) : EReal) = qS bt inv b m G c (X (ix2 R c)))
    ∧ (¬ (ro ≤ R.val ∧ R.val < ro + 32) → illTiles bt inv b off inb m G X (ix2 R c) = X (ix2 R c)) := by
  obtain ⟨h1, h2⟩ := fold_once (illStep bt inv b off inb m G) (fun X => (X (ix2 R c) : EReal)) (qS bt inv b m G c)
    (fun t => (ro ≤ R.val ∧ R.val < ro + 32) ∧ c.val / 128 = t.val)
    (fun X t => putX_cell (inb t) (h t) (fun x => clipv inv (normv (getL b t m) (getL b t G) bt t x)) X R c _ (fun x i l hc => illv_eq c x i l hc))
    (fun t t' ht ht' => Fin.ext (by omega)) fin15 fin15_nodup X
  constructor
  · intro hr
    exact h1 ⟨⟨c.val / 128, by omega⟩, fin15_mem _, hr, rfl⟩
  · intro hn
    exact h2 fun t _ ht => hn ht.1

/-- A chunk's rows, 32 at a time. -/
theorem rows_cell {N : Nat} (hN : N = 8) {off : Fin N → Fin 15 → Fin 2 → Nat} {inb : ∀ k t a, off k t a + S32x128.size a ≤ S18432x1920.size a} {ro : Nat} (h : ∀ k t, off k t = ![ro + 32 * k.val, 128 * t.val]) (X : CX Ideal) :
    ((ro ≤ R.val ∧ R.val < ro + 256) → (loopTo (fun k X => illTiles bt inv b (off k) (inb k) m G X) X 8 (ix2 R c) : EReal) = qS bt inv b m G c (X (ix2 R c)))
    ∧ (¬ (ro ≤ R.val ∧ R.val < ro + 256) → loopTo (fun k X => illTiles bt inv b (off k) (inb k) m G X) X 8 (ix2 R c) = X (ix2 R c)) := by
  subst hN
  constructor
  · intro hr
    refine (loop_once (fun k X => illTiles bt inv b (off k) (inb k) m G X) (fun X => (X (ix2 R c) : EReal)) (qS bt inv b m G c) ((R.val - ro) / 32) (fun k s => ?_) X 8 le_rfl).1 (by omega)
    obtain ⟨h1, h2⟩ := ill_cell (bt := bt) (inv := inv) (b := b) (m := m) (G := G) R c (off := off k) (inb := inb k) (h k) s
    exact ⟨fun e => h1 (by omega), fun e => h2 (by omega)⟩
  · intro hn
    refine loop_same (fun k X => illTiles bt inv b (off k) (inb k) m G X) (fun X => (X (ix2 R c) : EReal)) (fun k s => ?_) X 8 le_rfl
    exact (ill_cell (bt := bt) (inv := inv) (b := b) (m := m) (G := G) R c (off := off k) (inb := inb k) (h k) s).2 (by omega)
end Slow

/-- The slow form's codes. -/
theorem slow_cell (bt : FVec Ideal S1x1920 .f32) (inv : EReal) (m G : FVec Ideal S2x1920 .f32) (X : CX Ideal) (b : Fin 2) (r : Fin 9216) (c : Fin 1920) :
    (chunked (slow0 bt inv m G X) (slow1 bt inv m G X) (ix2 ⟨9216 * b.val + r.val, by omega⟩ c) : EReal) = qS bt inv b m G c (X (ix2 ⟨9216 * b.val + r.val, by omega⟩ c)) := by
  generalize hR : (⟨9216 * b.val + r.val, by omega⟩ : Fin 18432) = R
  have hv : R.val = 9216 * b.val + r.val := by rw [← hR]
  have l0 := loop_once (N := k0_t10_loop.trips) (fun j X => rowsIll0 bt inv m G j X 8) (fun X => (X (ix2 R c) : EReal)) (qS bt inv 0 m G c) (R.val / 256) (fun k s => by
    obtain ⟨h1, h2⟩ := rows_cell (bt := bt) (inv := inv) (b := 0) (m := m) (G := G) R c trips11 (off := off10 k) (inb := off10_inb k) (ro := 256 * k.val) (off10_eq k) s
    unfold rowsIll0
    exact ⟨fun e => h1 (by omega), fun e => h2 (by omega)⟩) X
  have l1 := fun (hb : b = 1) => loop_once (N := k0_t12_loop.trips) (fun j X => rowsIll1 bt inv m G j X 8) (fun X => (X (ix2 R c) : EReal)) (qS bt inv 1 m G c) (R.val / 256 - 36) (fun k s => by
    subst hb
    have hv' : R.val = 9216 + r.val := by rw [hv]; rfl
    obtain ⟨h1, h2⟩ := rows_cell (bt := bt) (inv := inv) (b := 1) (m := m) (G := G) R c trips13 (off := off12 k) (inb := off12_inb k) (ro := 256 * (36 + k.val)) (off12_eq k) s
    unfold rowsIll1
    exact ⟨fun e => h1 (by omega), fun e => h2 (by omega)⟩) (slow0 bt inv m G X 36)
  unfold chunked
  show ((if R.val / 256 < 36 then slow0 bt inv m G X (R.val / 256 + 1) (ix2 R c) else slow1 bt inv m G X (R.val / 256 - 36 + 1) (ix2 R c)) : EReal) = _
  by_cases hb : b = 1
  · have l2 := l1 hb
    subst hb
    have hv' : R.val = 9216 + r.val := by rw [hv]; rfl
    rw [if_neg (by omega)]
    have e0 : (slow0 bt inv m G X 36 (ix2 R c) : EReal) = X (ix2 R c) := by unfold slow0; exact (l0 36 trips10.ge).2 (by omega)
    rw [← e0]
    have := trips12
    unfold slow1
    exact (l2 (R.val / 256 - 36 + 1) (by omega)).1 (by omega)
  · have hb0 : b = 0 := by omega
    subst hb0
    have hv' : R.val = r.val := by rw [hv]; show 9216 * 0 + r.val = _; omega
    rw [if_pos (by omega)]
    have := trips10
    unfold slow0
    exact (l0 (R.val / 256 + 1) (by omega)).1 (by omega)

end Cert.KernelIdeal.Hand
end
end
-- ==== Proof.Expo.lean ====
/-
  The quantiser's exponent over the extended reals: the search for the exponent field finds the field, and the power of
  two it gives is the one that the logarithm gives.
-/
module
public import proofs.«01_k».proof.Proof.Model
public import Idealize.ShloMosaic.PureOps.Ideal
@[expose] public section
noncomputable section
namespace Cert.KernelIdeal.Hand
open Cert.KernelIdeal
open Idealize.ShloMosaic

/-- The exponent of the greatest power of two below a positive number. -/
def ilog (t : ℝ) : ℤ := ⌊Real.log t * (1 / Real.log 2)⌋

theorem le_ilog {t : ℝ} (h : 0 < t) (k : ℤ) : (2 : ℝ) ^ k ≤ t ↔ k ≤ ilog t := by
  have hl : 0 < Real.log 2 := Real.log_pos (by norm_num)
  unfold ilog
  rw [Int.le_floor, mul_one_div, le_div_iff₀ hl, ← Real.log_zpow]
  exact (Real.log_le_log_iff (by positivity) h).symm

theorem ilog_mono {t u : ℝ} (ht : 0 < t) (h : t ≤ u) : ilog t ≤ ilog u :=
  (le_ilog (lt_of_lt_of_le ht h) _).mp (((le_ilog ht _).mpr le_rfl).trans h)

/-- The power of two that an exponent field stands for. -/
def thr (n : Nat) : EReal := Ideal.ofBits .f32 (BitVec.ofNat 32 n <<< 23)

theorem thr_fields : ∀ n : Fin 256, (BitVec.ofNat 32 n.val <<< 23).extractLsb' 31 1 = 0#1 ∧ ((BitVec.ofNat 32 n.val <<< 23).extractLsb' 23 8).toNat = n.val
    ∧ ((BitVec.ofNat 32 n.val <<< 23).extractLsb' 0 23).toNat = 0 := by decide +kernel

theorem ieee_pow {e m w : Nat} (b : BitVec w) {n : Nat} (h3 : b.extractLsb' (e + m) 1 = 0#1) (h4 : (b.extractLsb' m e).toNat = n)
    (h5 : (b.extractLsb' 0 m).toNat = 0) (h6 : n ≠ 2 ^ e - 1) (h7 : n ≠ 0) :
    Ideal.ieee e m b = (((2 : ℝ) ^ ((n : ℤ) - (2 ^ (e - 1) - 1)) : ℝ) : EReal) := by
  have hn : ((0#1 : BitVec 1) == 1#1) = false := by decide
  unfold Ideal.ieee
  simp only [h3, h4, h5, hn, if_neg h6, if_neg h7, Nat.add_zero, Bool.false_eq_true, if_false, one_mul]
  rw [EReal.coe_eq_coe_iff]
  push_cast
  rw [← zpow_natCast (2 : ℝ) m, ← zpow_add₀ (by norm_num : (2 : ℝ) ≠ 0)]
  congr 1; ring

theorem ieee_top {e m w : Nat} (b : BitVec w) (h3 : b.extractLsb' (e + m) 1 = 0#1) (h4 : (b.extractLsb' m e).toNat = 2 ^ e - 1)
    (h5 : (b.extractLsb' 0 m).toNat = 0) : Ideal.ieee e m b = ⊤ := by
  have hn : ((0#1 : BitVec 1) == 1#1) = false := by decide
  unfold Ideal.ieee
  simp only [h3, h4, h5, hn, if_true, Bool.false_eq_true, if_false]

theorem thr_eq {n : Nat} (h1 : 1 ≤ n) (h : n ≤ 254) : thr n = (((2 : ℝ) ^ ((n : ℤ) - 127) : ℝ) : EReal) := by
  obtain ⟨h3, h4, h5⟩ := thr_fields ⟨n, by omega⟩
  exact ieee_pow (e := 8) (m := 23) _ h3 h4 h5 (by omega) (by omega)

theorem thr_top : thr 255 = ⊤ := by
  obtain ⟨h3, h4, h5⟩ := thr_fields ⟨255, by omega⟩
  exact ieee_top (e := 8) (m := 23) _ h3 h4 h5

/-- `g` is the exponent field of `t`. -/
def IsField (t : EReal) (g : Nat) : Prop := g ≤ 254 ∧ ∀ n, 1 ≤ n → n ≤ 255 → (thr n ≤ t ↔ n ≤ g)

/-- One step of the search, on naturals. -/
def sStep (g n b : Nat) : Nat := if n + b ≤ g then n + b else n

theorem sStep_le {g n b k : Nat} (h : n ≤ k) : sStep g n b ≤ k + b := by unfold sStep; split <;> omega

def search (g : Nat) : Nat := sStep g (sStep g (sStep g (sStep g (sStep g (sStep g (sStep g (sStep g 0 128) 64) 32) 16) 8) 4) 2) 1

theorem search_eq : ∀ g : Fin 256, search g.val = g.val := by decide +kernel

theorem bitStep_eq {t : EReal} {g : Nat} (h : IsField t g) {n b : Nat} (hb : 1 ≤ b) (hnb : n + b ≤ 255) :
    bitStep (F := Ideal) t (BitVec.ofNat 32 n) (BitVec.ofNat 32 b) = BitVec.ofNat 32 (sStep g n b) := by
  have he : Scalar.addi (BitVec.ofNat 32 n) (BitVec.ofNat 32 b) = BitVec.ofNat 32 (n + b) := by
    show BitVec.ofNat 32 n + BitVec.ofNat 32 b = _
    rw [BitVec.ofNat_add]
  have hs : Scalar.shli (BitVec.ofNat 32 (n + b)) 23#32 = BitVec.ofNat 32 (n + b) <<< 23 := rfl
  unfold bitStep sStep
  rw [he, hs]
  show (if BitVec.ofBool (decide (thr (n + b) ≤ t)) = 1#1 then _ else _) = _
  by_cases hg : n + b ≤ g
  · rw [if_pos hg, if_pos]
    rw [decide_eq_true ((h.2 (n + b) (by omega) hnb).mpr hg)]; rfl
  · rw [if_neg hg, if_neg]
    rw [decide_eq_false (fun hh => hg ((h.2 (n + b) (by omega) hnb).mp hh))]; decide

theorem fieldOf_eq {t : EReal} {g : Nat} (h : IsField t g) : fieldOf (F := Ideal) t = BitVec.ofNat 32 g := by
  have b1 : sStep g 0 128 ≤ 128 := sStep_le (k := 0) (by omega)
  have b2 := sStep_le (g := g) (b := 64) b1
  have b3 := sStep_le (g := g) (b := 32) b2
  have b4 := sStep_le (g := g) (b := 16) b3
  have b5 := sStep_le (g := g) (b := 8) b4
  have b6 := sStep_le (g := g) (b := 4) b5
  have b7 := sStep_le (g := g) (b := 2) b6
  have e1 : bitStep (F := Ideal) t 0#32 128#32 = BitVec.ofNat 32 (sStep g 0 128) := bitStep_eq h (n := 0) (by omega) (by omega)
  have e2 := bitStep_eq h (b := 64) (by omega) (Nat.add_le_add_right b1 64 |>.trans (by omega))
  have e3 := bitStep_eq h (b := 32) (by omega) (Nat.add_le_add_right b2 32 |>.trans (by omega))
  have e4 := bitStep_eq h (b := 16) (by omega) (Nat.add_le_add_right b3 16 |>.trans (by omega))
  have e5 := bitStep_eq h (b := 8) (by omega) (Nat.add_le_add_right b4 8 |>.trans (by omega))
  have e6 := bitStep_eq h (b := 4) (by omega) (Nat.add_le_add_right b5 4 |>.trans (by omega))
  have e7 := bitStep_eq h (b := 2) (by omega) (Nat.add_le_add_right b6 2 |>.trans (by omega))
  have e8 := bitStep_eq h (b := 1) (by omega) (Nat.add_le_add_right b7 1 |>.trans (by omega))
  have hs : fieldOf (F := Ideal) t = BitVec.ofNat 32 (search g) := by
    unfold fieldOf search
    rw [e1, e2, e3, e4, e5, e6, e7, e8]
  rw [hs, search_eq ⟨g, by have := h.1; omega⟩]

/-- The field of a number that is not negative. -/
def fieldR (t : ℝ) : Nat := if t < (2 : ℝ) ^ (-126 : ℤ) then 0 else (ilog t + 127).toNat

theorem log_lb {t : ℝ} (h : (2 : ℝ) ^ (-126 : ℤ) ≤ t) : -126 ≤ ilog t := by
  have ht : 0 < t := lt_of_lt_of_le (by positivity) h
  exact (le_ilog ht _).mp h

theorem log_ub {t : ℝ} (h0 : 0 < t) {k : ℤ} (h : t < (2 : ℝ) ^ k) : ilog t < k :=
  lt_of_not_ge fun hh => absurd ((le_ilog h0 k).mpr hh) (not_le.mpr h)

theorem isField {t : ℝ} (h0 : 0 ≤ t) (ht : t < (2 : ℝ) ^ (126 : ℤ)) : IsField (t : EReal) (fieldR t) ∧ fieldR t ≤ 252 := by
  unfold fieldR
  split
  · rename_i hlt
    refine ⟨⟨by omega, fun n h1 h2 => ⟨fun h => ?_, fun h => by omega⟩⟩, by omega⟩
    exfalso
    rcases Nat.lt_or_ge n 255 with h3 | h3
    · rw [thr_eq h1 (by omega)] at h
      have h := EReal.coe_le_coe_iff.mp h
      have : (2 : ℝ) ^ (-126 : ℤ) ≤ (2 : ℝ) ^ ((n : ℤ) - 127) := zpow_le_zpow_right₀ (by norm_num) (by omega)
      linarith
    · obtain rfl : n = 255 := by omega
      rw [thr_top] at h
      exact absurd (EReal.coe_lt_top t) (not_lt.mpr h)
  · rename_i hge
    rw [not_lt] at hge
    have hp : 0 < t := lt_of_lt_of_le (by positivity) hge
    have hl := log_lb hge
    have hu := log_ub hp ht
    refine ⟨⟨by omega, fun n h1 h2 => ?_⟩, by omega⟩
    rcases Nat.lt_or_ge n 255 with h3 | h3
    · rw [thr_eq h1 (by omega), EReal.coe_le_coe_iff]
      rw [le_ilog hp]; omega
    · obtain rfl : n = 255 := by omega
      rw [thr_top]
      exact ⟨fun h => absurd (EReal.coe_lt_top t) (not_lt.mpr h), fun h => by omega⟩

theorem fieldR_mono {t u : ℝ} (h : t ≤ u) : fieldR t ≤ fieldR u := by
  unfold fieldR
  split_ifs with h1 h2 h2
  · omega
  · omega
  · linarith
  · rw [not_lt] at h1
    have hp : 0 < t := lt_of_lt_of_le (by positivity) h1
    have := ilog_mono hp h
    omega

/-- The exponent. -/
def expR (t : ℝ) : ℤ := if t < (2 : ℝ) ^ (-126 : ℤ) then 0 else ilog t + 1

theorem expOf_word : ∀ g : Fin 253, Scalar.select (Scalar.ori (Scalar.cmpi .eq (BitVec.ofNat 32 g.val) 0#32) (Scalar.cmpi .eq (BitVec.ofNat 32 g.val) 255#32)) 0#32 (Scalar.subi (BitVec.ofNat 32 g.val) 126#32)
    = if g.val = 0 then 0#32 else BitVec.ofNat 32 g.val - 126#32 := by decide +kernel

theorem expOf_eq {t : ℝ} (h0 : 0 ≤ t) (ht : t < (2 : ℝ) ^ (126 : ℤ)) :
    expOf (F := Ideal) (t : EReal) = if fieldR t = 0 then 0#32 else BitVec.ofNat 32 (fieldR t) - 126#32 := by
  obtain ⟨h1, h2⟩ := isField h0 ht
  unfold expOf
  rw [fieldOf_eq h1]
  exact expOf_word ⟨fieldR t, by omega⟩

theorem pow2_word : ∀ g : Fin 253, Scalar.shli (Scalar.addi (if g.val = 0 then 0#32 else BitVec.ofNat 32 g.val - 126#32) 127#32) 23#32 = BitVec.ofNat 32 (if g.val = 0 then 127 else g.val + 1) <<< 23
    ∧ Scalar.shli (Scalar.addi (Scalar.subi 0#32 (if g.val = 0 then 0#32 else BitVec.ofNat 32 g.val - 126#32)) 127#32) 23#32 = BitVec.ofNat 32 (if g.val = 0 then 127 else 253 - g.val) <<< 23 := by decide +kernel

theorem expR_field {t : ℝ} : expR t = if fieldR t = 0 then 0 else (fieldR t : ℤ) - 126 := by
  unfold expR fieldR
  by_cases h : t < (2 : ℝ) ^ (-126 : ℤ)
  · rw [if_pos h, if_pos h, if_pos rfl]
  · have := log_lb (not_lt.mp h)
    rw [if_neg h, if_neg h]
    split_ifs <;> omega

theorem pow2_expOf {t : ℝ} (h0 : 0 ≤ t) (ht : t < (2 : ℝ) ^ (126 : ℤ)) :
    pow2 (F := Ideal) (expOf (F := Ideal) (t : EReal)) = (((2 : ℝ) ^ (expR t) : ℝ) : EReal)
    ∧ pow2 (F := Ideal) (Scalar.subi 0#32 (expOf (F := Ideal) (t : EReal))) = (((2 : ℝ) ^ (-expR t) : ℝ) : EReal) := by
  obtain ⟨h1, h2⟩ := isField h0 ht
  rw [expOf_eq h0 ht, expR_field]
  obtain ⟨w1, w2⟩ := pow2_word ⟨fieldR t, by omega⟩
  simp only at w1 w2
  constructor
  · show Ideal.ofBits .f32 (Scalar.shli (Scalar.addi _ 127#32) 23#32) = _
    rw [w1]
    refine (thr_eq (n := if fieldR t = 0 then 127 else fieldR t + 1) (by split <;> omega) (by split <;> omega)).trans ?_
    congr 2
    split <;> push_cast <;> ring
  · show Ideal.ofBits .f32 (Scalar.shli (Scalar.addi (Scalar.subi 0#32 _) 127#32) 23#32) = _
    rw [w2]
    refine (thr_eq (n := if fieldR t = 0 then 127 else 253 - fieldR t) (by split <;> omega) (by split <;> omega)).trans ?_
    congr 2
    split
    · norm_num
    · push_cast [Nat.cast_sub (show fieldR t ≤ 253 by omega)]; ring

/-- The reference's exponent: by the logarithm. -/
theorem log_expR {t : ℝ} (h0 : 0 ≤ t) (h : ¬ t < (2 : ℝ) ^ (-126 : ℤ)) :
    Ideal.liftRound Int.floor (Ideal.div (Ideal.log (t : EReal)) (Ideal.log (((2 : ℝ)) : EReal))) + ((1 : ℝ) : EReal) = ((expR t : ℝ) : EReal) := by
  have hp : 0 < t := lt_of_lt_of_le (by positivity) (not_lt.mp h)
  have l1 : Ideal.log (t : EReal) = (Real.log t : EReal) := by
    show (if t ≤ 0 then (⊥ : EReal) else _) = _
    rw [if_neg (not_le.mpr hp)]
  have l2 : Ideal.log ((2 : ℝ) : EReal) = (Real.log 2 : EReal) := by
    show (if (2 : ℝ) ≤ 0 then (⊥ : EReal) else _) = _
    rw [if_neg (by norm_num)]
  have hl : Real.log 2 ≠ 0 := (Real.log_pos (by norm_num)).ne'
  rw [l1, l2, Ideal.div_coe hl, ← EReal.coe_mul]
  show ((⌊Real.log t * (1 / Real.log 2)⌋ : ℝ) : EReal) + _ = _
  rw [show ⌊Real.log t * (1 / Real.log 2)⌋ = ilog t from rfl, ← EReal.coe_add]
  unfold expR
  rw [if_neg h]; push_cast; rfl

theorem exp2_int (k : ℤ) : Ideal.exp2 (((k : ℝ)) : EReal) = (((2 : ℝ) ^ k : ℝ) : EReal) := by
  show ((Real.rpow 2 (k : ℝ) : ℝ) : EReal) = _
  congr 1
  exact Real.rpow_intCast 2 k

end Cert.KernelIdeal.Hand
end
end
-- ==== Proof.Silu.lean ====
/-
  The activation on the real numbers, and the quantiser's exponent from the channels' extremes.
-/
module
public import proofs.«01_k».proof.Proof.Expo
public import proofs.«01_k».proof.Proof.Spec
@[expose] public section
noncomputable section
namespace Cert.Num
open Idealize.ShloMosaic

/-- The activation of a real number. -/
def S (v : ℝ) : ℝ := v / (1 + Real.exp (-v))

theorem silu_coe (v : ℝ) : silu (v : EReal) = (S v : EReal) := by
  have hp : 0 < 1 + Real.exp (-v) := by positivity
  have h : Ideal.logistic (v : EReal) = ((1 / (1 + Real.exp (-v)) : ℝ) : EReal) := by
    show Ideal.div 1 (1 + ((Real.exp (-v) : ℝ) : EReal)) = _
    rw [← EReal.coe_one, ← EReal.coe_add, Ideal.div_coe hp.ne', ← EReal.coe_mul, one_mul]
  unfold silu S
  rw [h, ← EReal.coe_mul, mul_one_div]

theorem abs_silu (v : ℝ) : max (silu (v : EReal)) (-silu (v : EReal)) = ((|S v| : ℝ) : EReal) := by
  rw [silu_coe, ← EReal.coe_neg]
  exact (EReal.coe_strictMono.monotone.map_max (a := S v) (b := -S v)).symm

theorem S_abs (v : ℝ) : |S v| ≤ |v| := by
  have : (1 : ℝ) ≤ 1 + Real.exp (-v) := by have := Real.exp_pos (-v); linarith
  unfold S
  rw [abs_div, abs_of_pos (show 0 < 1 + Real.exp (-v) by linarith)]
  exact div_le_self (abs_nonneg v) this

theorem S_mono {u v : ℝ} (hu : 0 ≤ u) (h : u ≤ v) : |S u| ≤ |S v| := by
  have e : Real.exp (-v) ≤ Real.exp (-u) := Real.exp_le_exp.mpr (by linarith)
  have pv := Real.exp_pos (-v)
  unfold S
  rw [abs_div, abs_div, abs_of_nonneg hu, abs_of_nonneg (hu.trans h), abs_of_pos (by positivity), abs_of_pos (by positivity)]
  exact div_le_div₀ (hu.trans h) h (by positivity) (by linarith)

/-- The bound on the activation of a negative number. -/
def cR : ℝ := 9344909 / 2 ^ 25

theorem exp_c : 1 ≤ cR * Real.exp (1 + cR) := by
  have h := Real.sum_le_exp_of_nonneg (x := 1 + cR) (by unfold cR; norm_num) 10
  have h2 : 1 ≤ cR * ∑ i ∈ Finset.range 10, (1 + cR) ^ i / (i.factorial : ℝ) := by
    simp only [Finset.sum_range_succ, Finset.sum_range_zero, Nat.factorial]
    unfold cR
    norm_num
  exact h2.trans (mul_le_mul_of_nonneg_left h (by unfold cR; norm_num))

theorem S_neg {v : ℝ} (h : v < 0) : |S v| ≤ cR := by
  have hc : 0 < cR := by unfold cR; norm_num
  have pv := Real.exp_pos (-v)
  unfold S
  rw [abs_div, abs_of_neg h, abs_of_pos (show 0 < 1 + Real.exp (-v) by positivity), div_le_iff₀ (by positivity)]
  have e : Real.exp (-v) = Real.exp (1 + cR) * Real.exp (-v - (1 + cR)) := by rw [← Real.exp_add]; congr 1; ring
  have t := Real.add_one_le_exp (-v - (1 + cR))
  rcases le_or_gt (-v) cR with hv | hv
  · nlinarith
  · have p1 := Real.exp_pos (1 + cR)
    have a : Real.exp (1 + cR) * (-v - cR) ≤ Real.exp (-v) := by
      rw [e]; exact mul_le_mul_of_nonneg_left (by linarith) p1.le
    have b : (-v - cR) ≤ cR * Real.exp (1 + cR) * (-v - cR) := le_mul_of_one_le_left (by linarith) exp_c
    nlinarith

end Cert.Num

namespace Cert.KernelIdeal.Hand
open Cert.KernelIdeal Cert.Num
open Idealize.ShloMosaic

/-- The quantiser's grid. -/
def gridR : ℝ := 9586981 / 2 ^ 32
theorem gridR_pos : 0 < gridR := by unfold gridR; norm_num

theorem toGrid_eq (a : ℝ) : toGrid (F := Ideal) (a : EReal) = ((a * gridR : ℝ) : EReal) := by
  show (a : EReal) * Ideal.ofBits .f32 0x3B124925#32 = _
  rw [bits_grid, ← EReal.coe_mul]; rfl

theorem expR_zero : expR 0 = 0 := by unfold expR; rw [if_pos (by positivity)]

theorem outExp_pow {a : ℝ} (h0 : 0 ≤ a) (h : a * gridR < (2 : ℝ) ^ (126 : ℤ)) :
    pow2 (F := Ideal) (outExp (F := Ideal) (a : EReal)) = (((2 : ℝ) ^ expR (a * gridR) : ℝ) : EReal)
    ∧ pow2 (F := Ideal) (Scalar.subi 0#32 (outExp (F := Ideal) (a : EReal))) = (((2 : ℝ) ^ (-expR (a * gridR)) : ℝ) : EReal) := by
  have hg := gridR_pos
  have e : outExp (F := Ideal) (a : EReal) = expOf (F := Ideal) ((a * gridR : ℝ) : EReal) := by
    unfold outExp
    rw [toGrid_eq]
    show Scalar.select (BitVec.ofBool (decide ((a : EReal) = Ideal.ofBits .f32 0x00000000#32))) _ _ = _
    by_cases ha : a = 0
    · subst ha
      rw [expOf_eq (by positivity) h]
      have f0 : fieldR (0 * gridR) = 0 := by unfold fieldR; rw [if_pos (by rw [zero_mul]; positivity)]
      rw [f0, if_pos rfl]
      unfold Scalar.select; split <;> rfl
    · have : ¬ ((a : EReal) = Ideal.ofBits .f32 0x00000000#32) := by
        simp [Ideal.ofBits, Ideal.ieee, ha]
      rw [decide_eq_false this]; rfl
  rw [e]
  exact pow2_expOf (by positivity) h

theorem field_c : fieldR (cR * gridR) = 116 := by
  have h0 : (0 : ℝ) < cR * gridR := by unfold cR gridR; norm_num
  have h1 : -11 ≤ ilog (cR * gridR) := (le_ilog h0 (-11)).mp (by unfold cR gridR; norm_num)
  have h2 : ¬ -10 ≤ ilog (cR * gridR) := fun h => absurd ((le_ilog h0 (-10)).mpr h) (by unfold cR gridR; norm_num)
  unfold fieldR
  rw [if_neg (by unfold cR gridR; norm_num)]
  omega

/-- Exponents of the extremes' bounds that agree are the exponent of what lies between. -/
theorem expR_between {l m : ℝ} (h0 : 0 ≤ l) (hlm : l ≤ m) (hm : m ≤ max l cR) (hb : m * gridR < (2 : ℝ) ^ (126 : ℤ)) (hlb : max l cR * gridR < (2 : ℝ) ^ (126 : ℤ))
    (he : expOf (F := Ideal) ((l * gridR : ℝ) : EReal) = expOf (F := Ideal) ((max l cR * gridR : ℝ) : EReal)) : expR (l * gridR) = expR (m * gridR) := by
  have hg := gridR_pos
  have hc : 0 < cR := by unfold cR; norm_num
  rcases le_total cR l with h | h
  · rw [max_eq_left h] at hm
    rw [le_antisymm hlm hm]
  · rw [max_eq_right h] at hm he hlb
    have b1 : l * gridR < (2 : ℝ) ^ (126 : ℤ) := lt_of_le_of_lt (mul_le_mul_of_nonneg_right hlm hg.le) hb
    rw [expOf_eq (by positivity) b1, expOf_eq (by positivity) hlb, field_c] at he
    have l2 := (isField (t := l * gridR) (by positivity) b1).2
    have fl : fieldR (l * gridR) = 116 := by
      generalize fieldR (l * gridR) = n at he l2
      interval_cases n <;> first | rfl | (exfalso; revert he; decide)
    have f1 := fieldR_mono (mul_le_mul_of_nonneg_right hlm hg.le)
    have f2 := fieldR_mono (mul_le_mul_of_nonneg_right hm hg.le)
    rw [field_c] at f2
    rw [expR_field, expR_field, fl, show fieldR (m * gridR) = 116 by omega]

/-- The result's exponent from the extremes or, where they do not decide it, from the exact maximum. -/
theorem scale_eq {K R : Type} (v : K → R → ℝ) (i0 : K → R) (hi : ∀ k r, v k r ≤ v k (i0 k)) (hb : ∀ k r, |v k r| ≤ 2 * 10 ^ 40) {A low : EReal}
    (hA : IsTop (fun p : K × R => ((|S (v p.1 p.2)| : ℝ) : EReal)) A) (hl : IsTop (fun k => ((|S (v k (i0 k))| : ℝ) : EReal)) low) :
    ∃ a : ℝ, A = a ∧ 0 ≤ a ∧ a * gridR < (2 : ℝ) ^ (126 : ℤ) ∧ ∀ top : EReal,
      (top = if expOf (F := Ideal) (toGrid low) = expOf (F := Ideal) (toGrid (max low (Ideal.ofBits .f32 0x3E8E978D#32))) then low else A) →
      pow2 (F := Ideal) (outExp (F := Ideal) top) = (((2 : ℝ) ^ expR (a * gridR) : ℝ) : EReal)
      ∧ pow2 (F := Ideal) (Scalar.subi 0#32 (outExp (F := Ideal) top)) = (((2 : ℝ) ^ (-expR (a * gridR)) : ℝ) : EReal) := by
  obtain ⟨⟨k1, r1⟩, e1⟩ := hA.2
  obtain ⟨k2, e2⟩ := hl.2
  simp only at e1 e2
  have big : ∀ k r, |S (v k r)| ≤ 2 * 10 ^ 40 := fun k r => (S_abs _).trans (hb k r)
  have lim : ∀ x : ℝ, x ≤ 2 * 10 ^ 40 → x * gridR < (2 : ℝ) ^ (126 : ℤ) := fun x hx =>
    lt_of_le_of_lt (mul_le_mul_of_nonneg_right hx gridR_pos.le) (by unfold gridR; norm_num)
  have hlm : |S (v k2 (i0 k2))| ≤ |S (v k1 r1)| := by
    have := hA.1 (k2, i0 k2)
    rw [e1] at this
    exact EReal.coe_le_coe_iff.mp this
  have hm : |S (v k1 r1)| ≤ max |S (v k2 (i0 k2))| cR := by
    rcases lt_or_ge (v k1 r1) 0 with h | h
    · exact (S_neg h).trans (le_max_right _ _)
    · refine (S_mono h (hi k1 r1)).trans (le_trans ?_ (le_max_left _ _))
      have := hl.1 k1
      rw [e2] at this
      exact EReal.coe_le_coe_iff.mp this
  refine ⟨|S (v k1 r1)|, e1, abs_nonneg _, lim _ (big _ _), fun top ht => ?_⟩
  have mx : max low (Ideal.ofBits .f32 0x3E8E978D#32) = ((max |S (v k2 (i0 k2))| cR : ℝ) : EReal) := by
    rw [bits_c, e2]
    exact (EReal.coe_strictMono.monotone.map_max (a := |S (v k2 (i0 k2))|) (b := cR)).symm
  rw [mx, toGrid_eq, e2, toGrid_eq] at ht
  split at ht
  · rename_i he
    have := expR_between (abs_nonneg _) hlm hm (lim _ (big _ _)) (lim _ (max_le (big _ _) (by unfold cR; norm_num))) he
    rw [ht, ← this]
    exact outExp_pow (abs_nonneg _) (lim _ (big _ _))
  · rw [ht, e1]
    exact outExp_pow (abs_nonneg _) (lim _ (big _ _))

end Cert.KernelIdeal.Hand
end
end
-- ==== Proof.Infinite.lean ====
/-
  One group under any scale that is not negative, an infinite one included.
-/
module
public import proofs.«01_k».proof.Proof.Norm
@[expose] public section
noncomputable section
namespace Cert.Num
open Idealize.ShloMosaic
variable {ι : Type} [Fintype ι] {N eps : ℝ} {x : ι → EReal}

theorem sq_zero {a : EReal} (h : a * a = 0) : a = 0 := by
  rcases inf_or a with hi | ⟨r, rfl⟩
  · rw [inf_mul_self hi] at h; exact absurd h (by simp)
  · rw [← EReal.coe_mul] at h
    have : r * r = 0 := by exact_mod_cast h
    rw [mul_self_eq_zero.mp this]; rfl

theorem div_zero_of {a : EReal} (hN : 0 < N) (h : Ideal.div a N = 0) : a = 0 := by
  rcases inf_or a with hi | ⟨r, rfl⟩
  · rcases div_inf hN hi with e | e <;> rw [e] at h <;> exact absurd h (by simp)
  · rw [div_real hN] at h
    have : r / N = 0 := by exact_mod_cast h
    rw [(div_eq_zero_iff.mp this).resolve_right hN.ne']; rfl

theorem div_nonneg' {a : EReal} (hN : 0 < N) (h : 0 ≤ a) : 0 ≤ Ideal.div a N := by
  rw [Ideal.div_coe hN.ne']
  exact mul_nonneg h (by exact_mod_cast (one_div_pos.mpr hN).le)

/-- A mean of squares is zero only if each is. -/
theorem sum_sq_zero (hN : 0 < N) {f : ι → EReal} (h : Ideal.div (∑ i, f i * f i) N = 0) (i : ι) : f i = 0 := by
  have := div_zero_of hN h
  exact sq_zero ((Finset.sum_eq_zero_iff_of_nonneg fun j _ => mul_self_nonneg' (f j)).mp this i (Finset.mem_univ i))

theorem mean_zero (hN : 0 < N) {f : ι → EReal} (h : ∀ i, f i = 0) : Ideal.div (∑ i, f i) N = 0 := by
  rw [Finset.sum_eq_zero fun i _ => h i, ← EReal.coe_zero, div_real hN, zero_div]

/-- The scale infinite: every output is the shift. -/
theorem group_top (hN : 0 < N) {γ β : ℝ} (d : EReal)
    (hd : (d = d1 N x ∧ ¬ bad N eps x ⊤) ∨ d = d2 N x) (j : ι) :
    vRef N eps x ⊤ γ β j = β ∧ vSlow N eps x ⊤ γ β d j = β ∧ ((d = d1 N x ∧ ¬ bad N eps x ⊤) → vFast N eps x ⊤ γ β d j = β) := by
  have hr : Ideal.rsqrt (⊤ : EReal) = 0 := rfl
  have htt : (⊤ : EReal) * ⊤ = ⊤ := by simp
  have hgain : 0 < d → gain eps (⊤ : EReal) γ d = 0 := fun h => by
    unfold gain
    rw [htt, EReal.top_mul_of_pos h, EReal.top_add_coe, hr]; simp
  have hall : d = 0 → (d = d1 N x ∧ ¬ bad N eps x ⊤) → ∀ i, x i = 0 := fun h0 h i => by
    by_contra hx
    refine h.2 ?_
    have hq : sq N x ≠ 0 := fun e => hx (sum_sq_zero hN e i)
    have hq' : 0 < sq N x := lt_of_le_of_ne (div_nonneg' hN (Finset.sum_nonneg fun k _ => mul_self_nonneg' (x k))) (Ne.symm hq)
    unfold bad
    rw [← h.1, h0, mul_zero, zero_add, htt, EReal.top_mul_of_pos hq', ← EReal.coe_mul]
    exact EReal.coe_lt_top _
  have hd0 : 0 ≤ d := by
    rcases hd with ⟨h, _⟩ | h
    · rw [h]; exact le_max_right _ _
    · rw [h]; exact div_nonneg' hN (Finset.sum_nonneg fun k _ => mul_self_nonneg' _)
  refine ⟨?_, ?_, ?_⟩
  · by_cases h0 : ∀ i, x i = 0
    · have hm : rMean N x ⊤ = 0 := mean_zero hN fun i => by rw [h0, zero_mul]
      unfold vRef
      rw [h0, hm]; simp
    · obtain ⟨i, hi⟩ := not_forall.mp h0
      have hxi : Inf (x i * ⊤) := by
        rcases lt_or_gt_of_ne hi with h | h
        · exact .inr (EReal.mul_top_of_neg h)
        · exact .inl (EReal.mul_top_of_pos h)
      have hrm : Inf (rMean N x ⊤) := div_inf hN (inf_sum (i := i) hxi)
      have hrv : rVar N x ⊤ = ⊤ := by
        unfold rVar; rw [sum_sq_top (i := i) (inf_sub_right _ hrm), div_top hN]
      unfold vRef; rw [hrv, EReal.top_add_coe, hr]; simp
  · unfold vSlow
    rcases hd0.eq_or_lt with h0 | h0
    · have hz : x j - mean N x = 0 := by
        rcases hd with h | h
        · have hx := hall h0.symm h
          have hm : mean N x = 0 := mean_zero hN hx
          rw [hx, hm]; simp
        · exact sum_sq_zero hN (f := fun i => x i - mean N x) (h.symm.trans h0.symm) j
      rw [hz]; simp
    · rw [hgain h0]; simp
  · intro h
    unfold vFast
    rcases hd0.eq_or_lt with h0 | h0
    · have hx := hall h0.symm h
      have hm : mean N x = 0 := mean_zero hN hx
      rw [hx, hm]; simp
    · rw [hgain h0]; simp

/-- One group, whatever its scale. -/
theorem group_all (hN : 0 < N) (hc : (Fintype.card ι : ℝ) = N) (hN6 : N ≤ 1000 * 1000) (heps : 0 < eps) {s : EReal} (hs : 0 ≤ s) (d : EReal)
    (hd : (d = d1 N x ∧ ¬ bad N eps x s) ∨ d = d2 N x) :
    ∃ h : ι → ℝ, (∀ i, |h i| ≤ 1000) ∧ (∀ i j, x i ≤ x j → h i ≤ h j) ∧
      ∀ (γ β : ℝ) i, vRef N eps x s γ β i = ((h i * γ + β : ℝ) : EReal) ∧ vSlow N eps x s γ β d i = ((h i * γ + β : ℝ) : EReal)
        ∧ ((d = d1 N x ∧ ¬ bad N eps x s) → vFast N eps x s γ β d i = ((h i * γ + β : ℝ) : EReal)) := by
  rcases inf_or s with (rfl | rfl) | ⟨r, rfl⟩
  · refine ⟨fun _ => 0, fun _ => by simp, fun _ _ _ => le_refl _, fun γ β j => ?_⟩
    simpa using group_top hN d hd j
  · exact absurd hs (by simp)
  · obtain ⟨h, h1, h2, h3⟩ := group hN hc hN6 heps (by exact_mod_cast hs) d hd
    exact ⟨h, h1, h2, fun γ β i => ⟨(h3 γ β i).1, (h3 γ β i).2.1, fun _ => (h3 γ β i).2.2⟩⟩

end Cert.Num
end
end
-- ==== Proof.KerVal.lean ====
/-
  What the kernel's two results hold, element by element, over the extended reals.
-/
module
public import proofs.«01_k».proof.Proof.Body
public import proofs.«01_k».proof.Proof.Vecs
public import proofs.«01_k».proof.Proof.Totals
public import proofs.«01_k».proof.Proof.Codes
public import proofs.«01_k».proof.Proof.Silu
public import proofs.«01_k».proof.Proof.Infinite
@[expose] public section
set_option maxRecDepth 8192
noncomputable section
namespace Cert.KernelIdeal.Hand
open Cert.KernelIdeal Cert.Num
open Idealize.ShloMosaic
variable [Facts]
open Facts₀ Facts

theorem grp_ch (g : Fin 32) (q : Fin 60) : grp (ch g q) = g := Fin.ext (show (g.val * 60 + q.val) / 60 = g.val by omega)

/-- A value below exactly the bounds of finitely many is their greatest. -/
theorem top_of_le {ι : Type} [Fintype ι] [Nonempty ι] {f : ι → EReal} {a : EReal} (h : ∀ z, a ≤ z ↔ ∀ i, f i ≤ z) : IsTop f a := by
  have t := fold_top f
  have e : a = (Finset.univ : Finset ι).fold max (⊥ : EReal) f :=
    le_antisymm ((h _).mpr t.1) ((fold_max_le f a).mpr ((h a).mp le_rfl))
  rw [e]; exact t

theorem on_ne {n : Nat} (a b : BitVec n) : on (Scalar.cmpi .ne a b) ↔ a ≠ b := by
  have e : Scalar.cmpi .ne a b = BitVec.ofBool (decide (a ≠ b)) := by
    show BitVec.ofBool (a != b) = _
    congr 1
    by_cases h : a = b <;> simp [h]
  rw [e, on_ofBool]

section
variable (sc : FVec Ideal S2x32 .f32) (gm bt : FVec Ideal S1x1920 .f32) (X : CX Ideal)

theorem mean_grp (b : Fin 2) (g : Fin 32) : (gmean (F := Ideal) (kSt gm X).a1 (ix2 b g) : EReal) = mean 552960 (xg (xr X) b g) := by
  unfold kSt
  rw [gmean_eq _ b g (xr X b) (fun c => a1_sum gm X b c)]
  rfl

theorem sq_grp (b : Fin 2) (g : Fin 32) : (gmean (F := Ideal) (kSt gm X).a2 (ix2 b g) : EReal) = sq 552960 (xg (xr X) b g) := by
  unfold kSt
  rw [gmean_eq _ b g (fun r c => xr X b r c * xr X b r c) (fun c => a2_sum gm X b c)]
  rfl

theorem kD_grp (b : Fin 2) (g : Fin 32) : (kD (kSt gm X) (ix2 b g) : EReal) = d1 552960 (xg (xr X) b g) := by
  unfold kD
  rw [dev1_eq, mean_grp, sq_grp]
  rfl

theorem kMean_at (b : Fin 2) (c : Fin 1920) : (kMean (kSt gm X) (ix2 b c) : EReal) = mean 552960 (xg (xr X) b (grp c)) := by
  unfold kMean
  rw [spread_eq, mean_grp]

theorem dev_grp (b : Fin 2) (g : Fin 32) : (gmean (F := Ideal) (devs1 X (kMean (kSt gm X)) 288) (ix2 b g) : EReal) = d2 552960 (xg (xr X) b g) := by
  rw [gmean_eq _ b g (fun r c => (xr X b r c - mean 552960 (xg (xr X) b (grp c))) * (xr X b r c - mean 552960 (xg (xr X) b (grp c))))
    (fun c => by rw [dev_sum]; simp only [kMean_at])]
  simp only [grp_ch]
  rfl

theorem kDev_fast (h : ¬ on (kIll sc (kSt gm X))) (b : Fin 2) (g : Fin 32) :
    (kDev sc (kSt gm X) X (ix2 b g) : EReal) = d1 552960 (xg (xr X) b g) ∧ ¬ bad 552960 epsR (xg (xr X) b g) (sc (ix2 b g)) := by
  unfold kDev devOf
  rw [if_neg h]
  refine ⟨kD_grp gm X b g, fun hb => h ?_⟩
  unfold kIll
  rw [illv_on]
  refine ⟨b, g, ?_⟩
  rw [kD_grp, sq_grp]
  exact hb

theorem kDev_grp (b : Fin 2) (g : Fin 32) :
    ((kDev sc (kSt gm X) X (ix2 b g) : EReal) = d1 552960 (xg (xr X) b g) ∧ ¬ bad 552960 epsR (xg (xr X) b g) (sc (ix2 b g)))
      ∨ (kDev sc (kSt gm X) X (ix2 b g) : EReal) = d2 552960 (xg (xr X) b g) := by
  by_cases h : on (kIll sc (kSt gm X))
  · refine .inr ?_
    unfold kDev devOf
    rw [if_pos h]; exact dev_grp gm X b g
  · exact .inl (kDev_fast sc gm X h b g)

variable (s : Fin 2 → Fin 32 → EReal) (γ β : Fin 1920 → ℝ)

/-- Every normalized value is real, the same in the reference and in both forms of the kernel, and grows with the signed code. -/
theorem values (hs : ∀ b g, (sc (ix2 b g) : EReal) = s b g) (h0 : ∀ b g, 0 ≤ s b g)
    (hg : ∀ c, (gm (ix2 0 c) : EReal) = γ c) (hgb : ∀ c, |γ c| ≤ 11 * 10 ^ 36) (hb : ∀ c, (bt (ix2 0 c) : EReal) = β c) (hbb : ∀ c, |β c| ≤ 11 * 10 ^ 36) :
    ∃ v : Fin 2 → Fin 9216 → Fin 1920 → ℝ, (∀ b r c, |v b r c| ≤ 2 * 10 ^ 40)
      ∧ (∀ b r r' c, xr X b r c * sgn gm c ≤ xr X b r' c * sgn gm c → v b r c ≤ v b r' c)
      ∧ (∀ b r c, vRef 552960 epsR (xg (xr X) b (grp c)) (s b (grp c)) (γ c) (β c) (r, plc c) = v b r c)
      ∧ (∀ b r c, (xr X b r c - kMean (kSt gm X) (ix2 b c)) * kGain sc gm (kSt gm X) X (ix2 b c) + bt (ix2 0 c) = (v b r c : EReal))
      ∧ (¬ on (kIll sc (kSt gm X)) → ∀ b r c, xr X b r c * kGain sc gm (kSt gm X) X (ix2 b c) + kBias sc gm bt (kSt gm X) X (ix2 b c) = (v b r c : EReal)) := by
  have H := fun b g => group_all (N := 552960) (eps := epsR) (x := xg (xr X) b g) (by norm_num) card_grp (by norm_num) epsR_pos (h0 b g)
    (kDev sc (kSt gm X) X (ix2 b g)) (by have := kDev_grp sc gm X b g; rwa [hs] at this)
  choose h hh hm hv using H
  have hx : ∀ b r c, xg (xr X) b (grp c) (r, plc c) = xr X b r c := fun b r c => by
    show xr X b r (ch (grp c) (plc c)) = _
    rw [ch_grp]
  have hG : ∀ b c, (kGain sc gm (kSt gm X) X (ix2 b c) : EReal) = gain epsR (s b (grp c)) (γ c) (kDev sc (kSt gm X) X (ix2 b (grp c))) := fun b c => by
    unfold kGain
    rw [gainv_eq, hs, hg]
  refine ⟨fun b r c => h b (grp c) (r, plc c) * γ c + β c, ?_, ?_, ?_, ?_, ?_⟩
  · intro b r c
    have e1 : |h b (grp c) (r, plc c) * γ c| ≤ 1000 * (11 * 10 ^ 36) := by
      rw [abs_mul]; exact mul_le_mul (hh b (grp c) (r, plc c)) (hgb c) (abs_nonneg _) (by norm_num)
    have e2 := abs_add_le (h b (grp c) (r, plc c) * γ c) (β c)
    have e3 := hbb c
    norm_num at e1 e2 e3 ⊢
    linarith
  · intro b r r' c hle
    unfold sgn at hle
    rw [hg] at hle
    have hz : ((γ c : ℝ) : EReal) < 0 ↔ γ c < 0 := by exact_mod_cast Iff.rfl
    by_cases hn : γ c < 0
    · rw [if_pos (hz.mpr hn)] at hle
      have hle' : xr X b r' c ≤ xr X b r c := by simpa using hle
      have := hm b (grp c) (r', plc c) (r, plc c) (by rw [hx, hx]; exact hle')
      have := mul_le_mul_of_nonpos_right this hn.le
      linarith
    · rw [if_neg (fun e => hn (hz.mp e)), mul_one, mul_one] at hle
      have := hm b (grp c) (r, plc c) (r', plc c) (by rw [hx, hx]; exact hle)
      have := mul_le_mul_of_nonneg_right this (not_lt.mp hn)
      linarith
  · intro b r c
    exact (hv b (grp c) (γ c) (β c) (r, plc c)).1
  · intro b r c
    have := (hv b (grp c) (γ c) (β c) (r, plc c)).2.1
    unfold vSlow at this
    rw [hx] at this
    rw [kMean_at, hG, hb]
    exact this
  · intro hill b r c
    have := (hv b (grp c) (γ c) (β c) (r, plc c)).2.2 (by have := kDev_fast sc gm X hill b (grp c); rwa [hs] at this)
    unfold vFast at this
    rw [hx] at this
    unfold kBias
    rw [biasv_eq, kMean_at, hG, hb]
    exact this

/-- Both results, from the greatest magnitude. -/
theorem kernel_values (hs : ∀ b g, (sc (ix2 b g) : EReal) = s b g) (h0 : ∀ b g, 0 ≤ s b g)
    (hg : ∀ c, (gm (ix2 0 c) : EReal) = γ c) (hgb : ∀ c, |γ c| ≤ 11 * 10 ^ 36) (hb : ∀ c, (bt (ix2 0 c) : EReal) = β c) (hbb : ∀ c, |β c| ≤ 11 * 10 ^ 36)
    (u : Fin 2 → Fin 9216 → Fin 1920 → EReal)
    (hu : ∀ b r c, u b r c = silu (vRef 552960 epsR (xg (xr X) b (grp c)) (s b (grp c)) (γ c) (β c) (r, plc c))) {A : EReal}
    (hA : IsTop (fun p : Fin 2 × Fin 9216 × Fin 1920 => max (u p.1 p.2.1 p.2.2) (-u p.1 p.2.1 p.2.2)) A) :
    ∃ a : ℝ, A = a ∧ 0 ≤ a ∧ kScale sc gm bt (kSt gm X) X = (((2 : ℝ) ^ expR (a * gridR) : ℝ) : EReal)
      ∧ ∀ (b : Fin 2) (r : Fin 9216) (c : Fin 1920), (kCodes sc gm bt (kSt gm X) X (ix2 ⟨9216 * b.val + r.val, by omega⟩ c) : EReal)
        = min (Ideal.ofBits .f32 0x43E00000#32) (max (Ideal.ofBits .f32 0xC3E00000#32) (u b r c * (((2 : ℝ) ^ (-expR (a * gridR)) : ℝ) : EReal))) := by
  obtain ⟨v, hvb, hvm, hvR, hvS, hvF⟩ := values sc gm bt X s γ β hs h0 hg hgb hb hbb
  have hu' : ∀ b r c, u b r c = silu (v b r c : EReal) := fun b r c => by rw [hu, hvR]
  have hA2 : IsTop (fun p : (Fin 2 × Fin 1920) × Fin 9216 => ((|S (v p.1.1 p.2 p.1.2)| : ℝ) : EReal)) A := by
    constructor
    · intro p
      have := hA.1 (p.1.1, p.2, p.1.2)
      simp only [hu', abs_silu] at this
      exact this
    · obtain ⟨p, hp⟩ := hA.2
      refine ⟨((p.1, p.2.2), p.2.1), ?_⟩
      simp only [hu', abs_silu] at hp
      exact hp
  have htop : ∀ k : Fin 2 × Fin 1920, IsTop (fun r => xr X k.1 r k.2 * sgn gm k.2) (coltop (F := Ideal) (kSt gm X).tp (ix2 k.1 k.2)) := fun k =>
    top_of_le fun z => (coltop_le _ k.1 k.2 z).trans (tp_le gm X k.1 k.2 z)
  choose i0 hi0 using fun k => (htop k).2
  have hi : ∀ (k : Fin 2 × Fin 1920) r, v k.1 r k.2 ≤ v k.1 (i0 k) k.2 := fun k r => by
    refine hvm _ _ _ _ ?_
    have := (htop k).1 r
    rw [hi0 k] at this
    exact this
  have hlow : ∀ k, lowAt (coltop (kSt gm X).tp) (kMean (kSt gm X)) (kGain sc gm (kSt gm X) X) gm bt k = ((v k.1 (i0 k) k.2 : ℝ) : EReal) := fun k => by
    unfold lowAt
    rw [hi0 k]
    have e : (if (gm (ix2 0 k.2) : EReal) < 0 then 0 - (xr X k.1 (i0 k) k.2 * sgn gm k.2) else xr X k.1 (i0 k) k.2 * sgn gm k.2) = xr X k.1 (i0 k) k.2 := by
      unfold sgn
      by_cases hn : (gm (ix2 0 k.2) : EReal) < 0
      · rw [if_pos hn, if_pos hn]; simp
      · rw [if_neg hn, if_neg hn, mul_one]
    rw [e]
    exact hvS _ _ _
  have hl : IsTop (fun k : Fin 2 × Fin 1920 => ((|S (v k.1 (i0 k) k.2)| : ℝ) : EReal)) (kLow sc gm bt (kSt gm X) X) := by
    have := lowv_top (coltop (kSt gm X).tp) (kMean (kSt gm X)) (kGain sc gm (kSt gm X) X) gm bt
    simp only [hlow, abs_silu] at this
    exact this
  obtain ⟨a, ha, ha0, -, key⟩ := scale_eq (fun (k : Fin 2 × Fin 1920) r => v k.1 r k.2) i0 hi (fun k r => hvb _ _ _) hA2 hl
  have hmax : (maxv (F := Ideal) (maxs1 bt X (kMean (kSt gm X)) (kGain sc gm (kSt gm X) X) 288) : EReal) = A := by
    have t := maxv_top (maxs1 bt X (kMean (kSt gm X)) (kGain sc gm (kSt gm X) X) 288)
    have hcell : ∀ b r c, absE ((xr X b r c - kMean (kSt gm X) (ix2 b c)) * kGain sc gm (kSt gm X) X (ix2 b c) + bt (ix2 0 c)) = ((|S (v b r c)| : ℝ) : EReal) := fun b r c => by
      rw [hvS]; exact abs_silu _
    apply le_antisymm
    · obtain ⟨⟨b, i, c⟩, hk⟩ := t.2
      rw [hk]
      refine (max_le_all bt X _ _ b c A).mpr ⟨?_, fun r => ?_⟩ i
      · rw [ha]; exact_mod_cast ha0
      · rw [hcell]; exact hA2.1 ((b, c), r)
    · obtain ⟨⟨⟨b, c⟩, r⟩, hk⟩ := hA2.2
      rw [hk]
      have := ((max_le_all bt X _ _ b c _).mp (fun i => t.1 (b, i, c))).2 r
      rw [hcell] at this
      exact this
  have K := key (kTop sc gm bt (kSt gm X) X) (by
    unfold kTop topOf maxOf
    rw [hmax]
    by_cases e : expOf (F := Ideal) (toGrid (kLow sc gm bt (kSt gm X) X)) = expOf (F := Ideal) (toGrid (max (kLow sc gm bt (kSt gm X) X) (Ideal.ofBits .f32 0x3E8E978D#32)))
    · exact (if_neg (fun w => (on_ne _ _).mp w e)).trans (if_pos e).symm
    · exact (if_pos ((on_ne _ _).mpr e)).trans (if_neg e).symm)
  refine ⟨a, ha, ha0, K.1, fun b r c => ?_⟩
  unfold kCodes codesAt codesOf
  rw [K.2, hu']
  split <;> rename_i hill
  · rw [slow_cell]
    unfold qS clipE
    have := hvS b r c
    unfold xr at this
    rw [this]
  · rw [fast_cell]
    unfold qF clipE
    have := hvF hill b r c
    unfold xr at this
    rw [this]
end
end Cert.KernelIdeal.Hand
end
end
-- ==== Proof.Ends.lean ====
/-
  The kernel's operands as the launch finds them, and its second result as the run leaves it.
-/
module
public import proofs.«01_k».proof.Proof.Frame
public import Idealize.ShloMosaic.Lib.Pointwise
public import Idealize.ShloMosaic.Lib.StableHlo.ReadAt
@[expose] public section
set_option maxRecDepth 16384
noncomputable section
namespace Cert.KernelIdeal.Hand
open Cert.KernelIdeal Cert.KernelIdeal.Gen
open Idealize.ShloMosaic Idealize.ShloMosaic.TcCoe
open Idealize.SL.Sem
open Idealize.ShloMosaic.Pipeline (Dat Cfg Window BodyObligation cellOf)

variable (m : (ℓ : Loc nD τ sig) → Buf (Elt Ideal) ℓ) (c : Dev nD)

/-! ## The arrays the host lines write -/

theorem rows_at (x : Vec Ideal S2x9216x1920 .fp8e4m3) (b : Fin 2) (r : Fin 9216) (k : Fin 1920) :
    shapeCast S18432x1920 x shapeCasts_S2x9216x1920_S18432x1920 (ix2 ⟨9216 * b.val + r.val, by omega⟩ k) = x (ix3 b r k) := by
  pointwise []

theorem v0_eq : (V m c main_v0 : Vec Ideal S18432x1920 .fp8e4m3) = shapeCast S18432x1920 (m ((c : Thread nD τ).loc main_arg0) : Vec Ideal S2x9216x1920 .fp8e4m3) shapeCasts_S2x9216x1920_S18432x1920 := by
  unfold V hostOps0
  after_reads_simp
  rfl

theorem x_at (b : Fin 2) (r : Fin 9216) (k : Fin 1920) :
    (opX m c : Vec Ideal S18432x1920 .fp8e4m3) (ix2 ⟨9216 * b.val + r.val, by omega⟩ k) = (m ((c : Thread nD τ).loc main_arg0) : Vec Ideal S2x9216x1920 .fp8e4m3) (ix3 b r k) := by
  unfold opX
  rw [v0_eq]
  exact rows_at _ b r k

theorem v1_at (k : Fin 1920) : (V m c main_v1 : Vec Ideal S1x1920 .f32) (ix2 0 k) = (m ((c : Thread nD τ).loc main_arg2) : Vec Ideal S1920 .f32) (ix1 k) := by
  have e : (V m c main_v1 : Vec Ideal S1x1920 .f32) = shapeCast S1x1920 (m ((c : Thread nD τ).loc main_arg2) : Vec Ideal S1920 .f32) shapeCasts_S1920_S1x1920 := by
    unfold V hostOps0
    after_reads_simp
    rfl
  rw [e]
  generalize (m ((c : Thread nD τ).loc main_arg2) : Vec Ideal S1920 .f32) = x
  pointwise []

theorem v2_at (k : Fin 1920) : (V m c main_v2 : Vec Ideal S1x1920 .f32) (ix2 0 k) = (m ((c : Thread nD τ).loc main_arg3) : Vec Ideal S1920 .f32) (ix1 k) := by
  have e : (V m c main_v2 : Vec Ideal S1x1920 .f32) = shapeCast S1x1920 (m ((c : Thread nD τ).loc main_arg3) : Vec Ideal S1920 .f32) shapeCasts_S1920_S1x1920 := by
    unfold V hostOps0
    after_reads_simp
    rfl
  rw [e]
  generalize (m ((c : Thread nD τ).loc main_arg3) : Vec Ideal S1920 .f32) = x
  pointwise []

/-! ## The windows: each block is its whole array -/

theorem idx_zero0 : ∀ t : Fin cfg0.N, win0_0.index t (0 : Fin 2) = 0 ∧ win0_0.index t (1 : Fin 2) = 0 := (by decide +kernel : ∀ t : Fin grid0.N, _)
theorem emb0 (t : Fin cfg0.N) (j : S2x32.Idx) : ((cfg0.win 0).blk t).view.emb j = j := by
  obtain ⟨e0, e1⟩ := idx_zero0 t
  funext a; apply Fin.ext
  match a with
  | ⟨0, _⟩ => show win0_0.index t (0 : Fin 2) * 2 + 1 * (j 0).val = (j 0).val; omega
  | ⟨1, _⟩ => show win0_0.index t (1 : Fin 2) * 32 + 1 * (j 1).val = (j 1).val; omega
theorem iblk0_eq (t : Fin cfg0.N) : iblk m c 0 t = V m c main_arg1 := by
  funext j; show V m c main_arg1 (((cfg0.win 0).blk t).view.emb j) = V m c main_arg1 j; rw [emb0]

theorem idx_zero1 : ∀ t : Fin cfg0.N, win0_1.index t (0 : Fin 2) = 0 ∧ win0_1.index t (1 : Fin 2) = 0 := (by decide +kernel : ∀ t : Fin grid0.N, _)
theorem emb1 (t : Fin cfg0.N) (j : S1x1920.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 1920 + 1 * (j 1).val = (j 1).val; omega
theorem iblk1_eq (t : Fin cfg0.N) : iblk m c 1 t = V m c main_v1 := by
  funext j; show V m c main_v1 (((cfg0.win 1).blk t).view.emb j) = V m c main_v1 j; rw [emb1]

theorem idx_zero2 : ∀ t : Fin cfg0.N, win0_2.index t (0 : Fin 2) = 0 ∧ win0_2.index t (1 : Fin 2) = 0 := (by decide +kernel : ∀ t : Fin grid0.N, _)
theorem emb2 (t : Fin cfg0.N) (j : S1x1920.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 1920 + 1 * (j 1).val = (j 1).val; omega
theorem iblk2_eq (t : Fin cfg0.N) : iblk m c 2 t = V m c main_v2 := by
  funext j; show V m c main_v2 (((cfg0.win 2).blk t).view.emb j) = V m c main_v2 j; rw [emb2]

theorem idx_zero3 : ∀ t : Fin cfg0.N, win0_3.index t (0 : Fin 2) = 0 ∧ win0_3.index t (1 : Fin 2) = 0 := (by decide +kernel : ∀ t : Fin grid0.N, _)
theorem emb3 (t : Fin cfg0.N) (j : S1x1.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega

theorem cut3_eq (t : Fin cfg0.N) (X : Vec Ideal S1x1 .f32) : (cfg0.win 3).cut (grid0.coords t) X = ((cfg0.win 3).blk t).view.read (Elt Ideal) X := by
  funext j
  show X j = X (((cfg0.win 3).blk t).view.emb j)
  rw [emb3]
theorem flushed3_eq (t : Fin cfg0.N) : (dats m 0 c).flushed 3 t = ((cfg0.win 3).blk t).view.read (Elt Ideal) (fun _ => outScale m c t0_0 : Vec Ideal S1x1 .f32) := by
  show (cfg0.win 3).cut (grid0.coords t) ((dats m 0 c).after 3 t) = _
  rw [after0_3, fin_N0 t]
  exact cut3_eq _ _
theorem covered3 (i : S1x1.Idx) : ∃ t : Fin cfg0.N, (cfg0.win 3).flush t = true ∧ i ∈ ((cfg0.win 3).blk t).view.set :=
  ⟨t0_0, flush0_3 _, by have h := ((cfg0.win 3).blk t0_0).view.emb_mem_set i; rwa [emb3] at h⟩
/-- The second result. -/
theorem final3 : (dats m 0 c).arrAt 3 (Fin.last cfg0.N) = (fun _ => outScale m c t0_0 : Vec Ideal S1x1 .f32) :=
  (dats m 0 c).arrAt_eq_of_cover 3 (fun _ => outScale m c t0_0 : Vec Ideal S1x1 .f32) (fun t _ => flushed3_eq m c t) covered3

/-! ## The operands at an index -/

theorem opS_at (b : Fin 2) (g : Fin 32) : (opS m c t0_0 (ix2 b g) : EReal) = (m ((c : Thread nD τ).loc main_arg1) : Vec Ideal S2x32 .f32) (ix2 b g) := by
  unfold opS
  rw [iblk0_eq, V_main_arg1]
theorem opG_at (k : Fin 1920) : (row1 (opG m c t0_0) (ix2 0 k) : EReal) = (m ((c : Thread nD τ).loc main_arg2) : Vec Ideal S1920 .f32) (ix1 k) := by
  unfold opG
  rw [iblk1_eq, ← v1_at m c]
  generalize (V m c main_v1 : Vec Ideal S1x1920 .f32) = x
  pointwise []
theorem opB_at (k : Fin 1920) : (row1 (opB m c t0_0) (ix2 0 k) : EReal) = (m ((c : Thread nD τ).loc main_arg3) : Vec Ideal S1920 .f32) (ix1 k) := by
  unfold opB
  rw [iblk2_eq, ← v2_at m c]
  generalize (V m c main_v2 : Vec Ideal S1x1920 .f32) = x
  pointwise []

end Cert.KernelIdeal.Hand
end
end
-- ==== Proof.RefVal.lean ====
/-
  What the reference computes, element by element, over the extended reals.
-/
module
public import proofs.«01_k».proof.Proof.Gen.ReferenceIdeal.Value
public import proofs.«01_k».proof.Proof.Spec
public import proofs.«01_k».proof.Proof.Expo
@[expose] public section
set_option maxRecDepth 16384
noncomputable section
namespace Cert.ReferenceIdeal.Hand
open Cert.ReferenceIdeal Cert.ReferenceIdeal.Gen Idealize.ShloMosaic Cert.Num
open Cert.KernelIdeal.Hand (expR log_expR)

/-- The result before the quantiser. -/
def act (a0 : FVec Ideal S2x9216x1920 .fp8e4m3) (a1 : FVec Ideal S2x32 .f32) (a2 a3 : FVec Ideal S1920 .f32) (b : Fin 2) (r : Fin 9216) (c : Fin 1920) : EReal :=
  silu (vRef 552960 epsR (xg (fun b r c => a0 (ix3 b r c)) b (grp c)) (a1 (ix2 b (grp c))) (a2 (ix1 c)) (a3 (ix1 c)) (r, plc c))

theorem pay4_eq (a0 : FVec Ideal S2x9216x1920 .fp8e4m3) (a1 : FVec Ideal S2x32 .f32) (a2 a3 : FVec Ideal S1920 .f32) (b : Fin 2) (r : Fin 9216) (c : Fin 1920) :
    k0_pay4 (F := Ideal) a0 a1 a2 a3 (ix3 b r c) = act a0 a1 a2 a3 b r c := by
  pointwise [k0_pay4]
  simp only [sum_13]
  pointwise []
  simp only [sum_13]
  pointwise []
  unfold act silu vRef rVar rMean xg
  rw [ch_grp, ← bits_N, ← bits_eps]
  rfl

/-- The magnitudes. -/
def mag (a0 : FVec Ideal S2x9216x1920 .fp8e4m3) (a1 : FVec Ideal S2x32 .f32) (a2 a3 : FVec Ideal S1920 .f32) (p : Fin 2 × Fin 9216 × Fin 1920) : EReal :=
  max (act a0 a1 a2 a3 p.1 p.2.1 p.2.2) (-act a0 a1 a2 a3 p.1 p.2.1 p.2.2)

theorem abs_top (y : FVec Ideal S2x9216x1920 .f32) : ∃ A : EReal,
    IsTop (fun p : Fin 2 × Fin 9216 × Fin 1920 => max (y (ix3 p.1 p.2.1 p.2.2) : EReal) (-y (ix3 p.1 p.2.1 p.2.2))) A ∧
    extractAt ![0, 0, 0, 0] (shapeCast S1x1x1x1 (multiReduction .maximumf [1, 2, 3] S1 (shapeCast S1x2x9216x1920 (absf y) shapeCasts_S2x9216x1920_S1x2x9216x1920)
      0xFF800000#32 reduces_S1x2x9216x1920_S1 (.inl rfl) rfl) shapeCasts_S1_S1x1x1x1) inpos_S1x1x1x1_p0_0_0_0 = A := by
  have e : ∀ (z : Fin 1) b r c, shapeCast S1x2x9216x1920 (absf y) shapeCasts_S2x9216x1920_S1x2x9216x1920 (ix4 z b r c) = max (y (ix3 b r c) : EReal) (-y (ix3 b r c)) := by
    intro z b r c
    pointwise []
    rfl
  generalize shapeCast S1x2x9216x1920 (absf y) shapeCasts_S2x9216x1920_S1x2x9216x1920 = Y at e
  haveI : Nonempty S1x2x9216x1920.Idx := ⟨ix4 0 0 0 0⟩
  have h := max_total Y reduces_S1x2x9216x1920_S1 (fun b => by match b with | ⟨0, _⟩ => rfl) (.inl rfl) rfl (ix1 0)
  generalize multiReduction .maximumf [1, 2, 3] S1 Y 0xFF800000#32 reduces_S1x2x9216x1920_S1 (.inl rfl) rfl = w at h
  refine ⟨w (ix1 0), ?_, ?_⟩
  · exact IsTop.of_ix4 0 e h
  · pointwise []

theorem pay5_eq (a0 : FVec Ideal S2x9216x1920 .fp8e4m3) (a1 : FVec Ideal S2x32 .f32) (a2 a3 : FVec Ideal S1920 .f32) :
    ∃ A : EReal, IsTop (mag a0 a1 a2 a3) A ∧ k0_pay5 (F := Ideal) a0 a1 a2 a3 = A * Ideal.ofBits .f32 0x3B124925#32 := by
  obtain ⟨A, hA, e⟩ := abs_top (k0_pay4 (F := Ideal) a0 a1 a2 a3)
  refine ⟨A, ?_, ?_⟩
  · unfold mag
    simp only [pay4_eq] at hA
    exact hA
  · simp only [k0_pay5]
    rw [e]
    rfl

/-- The exponent by the logarithm. -/
theorem pay1_eq {t : ℝ} (h0 : 0 ≤ t) : k0_pay1 (F := Ideal) (Scalar.cmpf (F := Ideal) (φ := .f32) .olt (t : EReal) (Scalar.ofBits (F := Ideal) .f32 0x00800000#32))
    (Scalar.divf (F := Ideal) (φ := .f32) (Scalar.log (F := Ideal) (φ := .f32) (t : EReal)) (Scalar.log (F := Ideal) (φ := .f32) (Scalar.ofBits (F := Ideal) .f32 0x40000000#32))) = ((expR t : ℝ) : EReal) := by
  show Scalar.select (BitVec.ofBool (decide ((t : EReal) < Ideal.ofBits .f32 0x00800000#32))) (Ideal.ofBits .f32 0x00000000#32)
    (Ideal.liftRound Int.floor (Ideal.div (Ideal.log (t : EReal)) (Ideal.log (Ideal.ofBits .f32 0x40000000#32))) + Ideal.ofBits .f32 0x3F800000#32) = _
  rw [bits_tiny, bits_2, bits_1]
  by_cases h : t < (2 : ℝ) ^ (-126 : ℤ)
  · rw [decide_eq_true (EReal.coe_lt_coe_iff.mpr h)]
    unfold expR
    rw [if_pos h]
    simp [Scalar.select, Ideal.ofBits, Ideal.ieee]
  · rw [decide_eq_false (fun e => h (EReal.coe_lt_coe_iff.mp e))]
    exact log_expR h0 h

theorem pay2_eq (v33 : FVec Ideal S2x9216x1920 .f32) (v40 : BitVec 1) (v43 : EReal) (R : Fin 18432) (c : Fin 1920) :
    k0_pay2 (F := Ideal) v33 v40 v43 (ix2 R c) = min (Ideal.ofBits .f32 0x43E00000#32) (max (Ideal.ofBits .f32 0xC3E00000#32)
      (v33 (ix3 ⟨R.val / 9216, by omega⟩ ⟨R.val % 9216, by omega⟩ c) * Ideal.exp2 (0 - k0_pay1 (F := Ideal) v40 v43))) := by
  pointwise [k0_pay2]
  rfl
end Cert.ReferenceIdeal.Hand
end
end
-- ==== Proof.Agree.lean ====
/-
  The two programs' results are equal, over the extended reals.
-/
module
public import proofs.«01_k».proof.Defs
public import proofs.«01_k».proof.Proof.KerVal
public import proofs.«01_k».proof.Proof.Ends
public import proofs.«01_k».proof.Proof.RefVal
@[expose] public section
set_option maxRecDepth 16384
noncomputable section
namespace Cert.Hand
open Idealize.ShloMosaic Idealize.ShloMosaic.TcCoe Idealize.SL.Sem
open Cert.Num Cert.KernelIdeal.Hand Cert.ReferenceIdeal.Hand
open Cert.ReferenceIdeal.Gen (k0_pay1 k0_pay3 k0_pay4 k0_pay5 k0_pay6)
open Cert.KernelIdeal (main_arg0 main_arg1 main_arg2 main_arg3)

/-! ## What the precondition says -/

theorem preFacts : Cert.Pre_ordinary.Facts := ⟨by decide, by decide⟩

theorem bits_big : Ideal.ofBits .f32 0x7CF0BDC2#32 = ((15777218 * 2 ^ 99 : ℝ) : EReal) := by
  simp [Ideal.ofBits, Ideal.ieee]

theorem of_abs {a : EReal} (h : max a (-a) ≤ Ideal.ofBits .f32 0x7CF0BDC2#32) : ∃ r : ℝ, a = r ∧ |r| ≤ 11 * 10 ^ 36 := by
  rw [bits_big] at h
  rcases inf_or a with (rfl | rfl) | ⟨r, rfl⟩
  · exact absurd ((le_max_left _ _).trans h) (not_le.mpr (EReal.coe_lt_top _))
  · exact absurd ((le_max_right _ _).trans h) (by rw [EReal.neg_bot]; exact not_le.mpr (EReal.coe_lt_top _))
  · refine ⟨r, rfl, ?_⟩
    have h1 : r ≤ 15777218 * 2 ^ 99 := EReal.coe_le_coe_iff.mp ((le_max_left _ _).trans h)
    have h2 : -r ≤ 15777218 * 2 ^ 99 := EReal.coe_le_coe_iff.mp ((le_max_right _ _).trans h)
    rw [abs_le]
    norm_num at h1 h2 ⊢
    constructor <;> linarith

theorem ofBool_one {p : Prop} [Decidable p] (h : BitVec.ofBool (decide p) = 1#1) : p := by
  by_contra hn
  rw [decide_eq_false hn] at h
  exact absurd h (by decide)

section
variable [Cert.Pre_ordinary.Facts] (a0 : FVec Ideal Cert.Pre_ordinary.S2x9216x1920 .fp8e4m3) (a1 : FVec Ideal Cert.Pre_ordinary.S2x32 .f32) (a2 a3 : FVec Ideal Cert.Pre_ordinary.S1920 .f32)

theorem pre_scale (h : (Cert.Pre_ordinary.fn (F := Ideal) a0 a1 a2 a3).1 = (fun _ => 1#1)) (b : Fin 2) (g : Fin 32) : (0 : EReal) ≤ a1 (ix2 b g) := by
  have e := congrFun h (ix2 b g)
  have e' : BitVec.ofBool (decide (Ideal.ofBits .f32 0x00000000#32 ≤ (a1 (ix2 b g) : EReal))) = 1#1 := e
  have := ofBool_one e'
  rwa [bits_0] at this

theorem pre_gamma (h : (Cert.Pre_ordinary.fn (F := Ideal) a0 a1 a2 a3).2.1 = (fun _ => 1#1)) (k : Fin 1920) : ∃ r : ℝ, (a2 (ix1 k) : EReal) = r ∧ |r| ≤ 11 * 10 ^ 36 := by
  have e := congrFun h (ix1 k)
  have e' : BitVec.ofBool (decide (max (a2 (ix1 k) : EReal) (-a2 (ix1 k)) ≤ Ideal.ofBits .f32 0x7CF0BDC2#32)) = 1#1 := e
  exact of_abs (ofBool_one e')

theorem pre_beta (h : (Cert.Pre_ordinary.fn (F := Ideal) a0 a1 a2 a3).2.2 = (fun _ => 1#1)) (k : Fin 1920) : ∃ r : ℝ, (a3 (ix1 k) : EReal) = r ∧ |r| ≤ 11 * 10 ^ 36 := by
  have e := congrFun h (ix1 k)
  have e' : BitVec.ofBool (decide (max (a3 (ix1 k) : EReal) (-a3 (ix1 k)) ≤ Ideal.ofBits .f32 0x7CF0BDC2#32)) = 1#1 := e
  exact of_abs (ofBool_one e')
end

/-! ## The results -/

theorem pay3_eq (v : BitVec 1) (w : Ideal .f32) (j : Cert.ReferenceIdeal.S1x1.Idx) : (k0_pay3 (F := Ideal) v w j : EReal) = Ideal.exp2 (k0_pay1 (F := Ideal) v w) := by
  unfold k0_pay3
  generalize k0_pay1 (F := Ideal) v w = z
  rfl

/-- From equal arguments the reference's two results are the kernel's. -/
theorem agree (m : (ℓ : Loc Cert.KernelIdeal.nD Cert.KernelIdeal.τ Cert.KernelIdeal.sig) → Buf (Elt Ideal) ℓ) (c : Dev Cert.KernelIdeal.nD)
    (a0 : FVec Ideal Cert.ReferenceIdeal.S2x9216x1920 .fp8e4m3) (a1 : FVec Ideal Cert.ReferenceIdeal.S2x32 .f32) (a2 a3 : FVec Ideal Cert.ReferenceIdeal.S1920 .f32)
    (e0 : a0 = m ((c : Thread Cert.KernelIdeal.nD Cert.KernelIdeal.τ).loc main_arg0)) (e1 : a1 = m ((c : Thread Cert.KernelIdeal.nD Cert.KernelIdeal.τ).loc main_arg1))
    (e2 : a2 = m ((c : Thread Cert.KernelIdeal.nD Cert.KernelIdeal.τ).loc main_arg2)) (e3 : a3 = m ((c : Thread Cert.KernelIdeal.nD Cert.KernelIdeal.τ).loc main_arg3))
    (h0 : ∀ b g, (0 : EReal) ≤ a1 (ix2 b g)) (hg : ∀ k, ∃ r : ℝ, (a2 (ix1 k) : EReal) = r ∧ |r| ≤ 11 * 10 ^ 36)
    (hb : ∀ k, ∃ r : ℝ, (a3 (ix1 k) : EReal) = r ∧ |r| ≤ 11 * 10 ^ 36) :
    Cert.ReferenceIdeal.Value.G4 (F := Ideal) a0 a1 a2 a3 = outCodes m c Cert.KernelIdeal.Gen.t0_0
    ∧ Cert.ReferenceIdeal.Value.G5 (F := Ideal) a0 a1 a2 a3 = fun _ => outScale m c Cert.KernelIdeal.Gen.t0_0 := by
  choose γ hg hgb using hg
  choose β hb hbb using hb
  have hx : xr (opX m c) = fun b r k => a0 (ix3 b r k) := by
    funext b r k; rw [e0]; exact x_at m c b r k
  obtain ⟨A, hA, e5⟩ := pay5_eq a0 a1 a2 a3
  obtain ⟨a, ha, ha0, hsc, hcd⟩ := kernel_values (opS m c Cert.KernelIdeal.Gen.t0_0) (row1 (opG m c Cert.KernelIdeal.Gen.t0_0)) (row1 (opB m c Cert.KernelIdeal.Gen.t0_0)) (opX m c) (fun b g => a1 (ix2 b g)) γ β
    (fun b g => by rw [opS_at, e1]) h0 (fun k => by rw [opG_at, ← hg, e2]) hgb (fun k => by rw [opB_at, ← hb, e3]) hbb
    (act a0 a1 a2 a3) (fun b r k => by unfold act; rw [hx, hg, hb]) hA
  have ht : k0_pay5 (F := Ideal) a0 a1 a2 a3 = ((a * gridR : ℝ) : EReal) := by
    rw [e5, ha, bits_grid, EReal.coe_mul]; rfl
  have h1 : k0_pay1 (F := Ideal) (Scalar.cmpf (F := Ideal) (φ := .f32) .olt (k0_pay5 (F := Ideal) a0 a1 a2 a3) (Scalar.ofBits (F := Ideal) .f32 0x00800000#32)) (k0_pay6 (F := Ideal) a0 a1 a2 a3)
      = ((expR (a * gridR) : ℝ) : EReal) := by
    simp only [k0_pay6]
    rw [ht]
    exact pay1_eq (mul_nonneg ha0 gridR_pos.le)
  constructor
  · funext j
    obtain ⟨R, k, rfl⟩ : ∃ (R : Fin 18432) (k : Fin 1920), j = ix2 R k := ⟨j 0, j 1, eq_ix2 j⟩
    have hR : R = (⟨9216 * (⟨R.val / 9216, by omega⟩ : Fin 2).val + (⟨R.val % 9216, by omega⟩ : Fin 9216).val, by show 9216 * (R.val / 9216) + R.val % 9216 < 18432; omega⟩ : Fin 18432) :=
      Fin.ext (by show R.val = 9216 * (R.val / 9216) + R.val % 9216; omega)
    have hl := hcd ⟨R.val / 9216, by omega⟩ ⟨R.val % 9216, by omega⟩ k
    rw [← hR] at hl
    have hr := pay2_eq (k0_pay4 (F := Ideal) a0 a1 a2 a3) (Scalar.cmpf (F := Ideal) (φ := .f32) .olt (k0_pay5 (F := Ideal) a0 a1 a2 a3) (Scalar.ofBits (F := Ideal) .f32 0x00800000#32)) (k0_pay6 (F := Ideal) a0 a1 a2 a3) R k
    rw [h1, pay4_eq, zero_sub, ← EReal.coe_neg, ← Int.cast_neg, exp2_int] at hr
    exact hr.trans hl.symm
  · funext j
    have hr : Cert.ReferenceIdeal.Value.G5 (F := Ideal) a0 a1 a2 a3 j = Ideal.exp2 (k0_pay1 (F := Ideal) (Scalar.cmpf (F := Ideal) (φ := .f32) .olt (k0_pay5 (F := Ideal) a0 a1 a2 a3) (Scalar.ofBits (F := Ideal) .f32 0x00800000#32)) (k0_pay6 (F := Ideal) a0 a1 a2 a3)) := by
      exact pay3_eq _ _ j
    rw [h1, exp2_int] at hr
    exact hr.trans hsc.symm

theorem algebraic : Cert.algebraic_KernelIdeal_ReferenceIdeal_pre_ordinary (hKernelIdeal := Cert.KernelIdeal.Gen.facts) (hReferenceIdeal := Cert.ReferenceIdeal.Gen.facts) (hPre_ordinary := preFacts) := by
  intro m g m' g' hpre hargs
  refine ⟨fun c => outCodes m c Cert.KernelIdeal.Gen.t0_0, fun c => (dats m 0 c).arrAt 3 (Fin.last Cert.KernelIdeal.cfg0.N), ?_, ?_⟩
  · refine (θ_run _ _ _).mono (fun r h c => ?_) (results m g)
    obtain ⟨h0, h1, h2, h3, hc, hs⟩ := h.1 c
    exact ⟨hc, hs, h0, h1, h2, h3⟩
  · refine (θ_run _ _ _).mono (fun r h c => ?_) (Cert.ReferenceIdeal.Value.run m' g')
    obtain ⟨hc, hs, h0, h1, h2, h3⟩ := h c
    letI := preFacts
    have A := agree m c _ _ _ _ (hargs c).1 (hargs c).2.1 (hargs c).2.2.1 (hargs c).2.2.2
      (fun b k => by rw [(hargs c).2.1]; exact pre_scale _ _ _ _ (hpre c).1 b k) (fun k => by rw [(hargs c).2.2.1]; exact pre_gamma _ _ _ _ (hpre c).2.1 k)
      (fun k => by rw [(hargs c).2.2.2]; exact pre_beta _ _ _ _ (hpre c).2.2 k)
    refine ⟨hc.trans A.1, hs.trans (A.2.trans (final3 m c).symm), h0, h1, h2, h3⟩

end Cert.Hand
end
end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Frame
public import proofs.«01_k».proof.Proof.KFrame
public import proofs.«01_k».proof.Proof.Agree
public import Idealize.ShloMosaic.Adequacy
public import Idealize.ShloMosaic.Init

@[expose] public section

theorem Cert.Proof.claim : Cert.Claim :=
  ⟨Cert.Kernel.Gen.facts, Cert.KernelIdeal.Gen.facts, Cert.ReferenceIdeal.Gen.facts, Cert.Hand.preFacts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    Cert.Hand.algebraic⟩

end
